-- ==== Defs.lean ====
def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModIdeal_mod_finite [hPre_mod_finite : Cert.Pre_mod_finite.Facts] (m : (ℓ : Loc Cert.ModIdeal.nD Cert.ModIdeal.τ Cert.ModIdeal.sig) → Buf (Elt Ideal) ℓ) : Prop :=
  ∀ c : Dev Cert.ModIdeal.nD,
    (Cert.Pre_mod_finite.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3)) (m ((c.tc : Thread Cert.ModIdeal.nD Cert.ModIdeal.τ).loc Cert.ModIdeal.main_arg4)) (m ((c.tc : Thread Cert.ModIdeal.nD Cert.ModIdeal.τ).loc Cert.ModIdeal.main_arg5)) (m ((c.tc : Thread Cert.ModIdeal.nD Cert.ModIdeal.τ).loc Cert.ModIdeal.main_arg6))).1 = (fun _ => 1#1)
    ∧ (Cert.Pre_mod_finite.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3)) (m ((c.tc : Thread Cert.ModIdeal.nD Cert.ModIdeal.τ).loc Cert.ModIdeal.main_arg4)) (m ((c.tc : Thread Cert.ModIdeal.nD Cert.ModIdeal.τ).loc Cert.ModIdeal.main_arg5)) (m ((c.tc : Thread Cert.ModIdeal.nD Cert.ModIdeal.τ).loc Cert.ModIdeal.main_arg6))).2.1 = (fun _ => 1#1)
    ∧ (Cert.Pre_mod_finite.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3)) (m ((c.tc : Thread Cert.ModIdeal.nD Cert.ModIdeal.τ).loc Cert.ModIdeal.main_arg4)) (m ((c.tc : Thread Cert.ModIdeal.nD Cert.ModIdeal.τ).loc Cert.ModIdeal.main_arg5)) (m ((c.tc : Thread Cert.ModIdeal.nD Cert.ModIdeal.τ).loc Cert.ModIdeal.main_arg6))).2.2.1 = (fun _ => 1#1)
    ∧ (Cert.Pre_mod_finite.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3)) (m ((c.tc : Thread Cert.ModIdeal.nD Cert.ModIdeal.τ).loc Cert.ModIdeal.main_arg4)) (m ((c.tc : Thread Cert.ModIdeal.nD Cert.ModIdeal.τ).loc Cert.ModIdeal.main_arg5)) (m ((c.tc : Thread Cert.ModIdeal.nD Cert.ModIdeal.τ).loc Cert.ModIdeal.main_arg6))).2.2.2.1 = (fun _ => 1#1)
    ∧ (Cert.Pre_mod_finite.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3)) (m ((c.tc : Thread Cert.ModIdeal.nD Cert.ModIdeal.τ).loc Cert.ModIdeal.main_arg4)) (m ((c.tc : Thread Cert.ModIdeal.nD Cert.ModIdeal.τ).loc Cert.ModIdeal.main_arg5)) (m ((c.tc : Thread Cert.ModIdeal.nD Cert.ModIdeal.τ).loc Cert.ModIdeal.main_arg6))).2.2.2.2 = (fun _ => 1#1)

def Pre_ModRefIdeal (m : (ℓ : Loc Cert.ModRefIdeal.nD Cert.ModRefIdeal.τ Cert.ModRefIdeal.sig) → Buf (Elt Ideal) ℓ) : Prop :=
  True

def Pre_ModRefIdeal_mod_finite [hPre_mod_finite : Cert.Pre_mod_finite.Facts] (m : (ℓ : Loc Cert.ModRefIdeal.nD Cert.ModRefIdeal.τ Cert.ModRefIdeal.sig) → Buf (Elt Ideal) ℓ) : Prop :=
  ∀ c : Dev Cert.ModRefIdeal.nD,
    (Cert.Pre_mod_finite.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2)) (m ((c.tc : Thread Cert.ModRefIdeal.nD Cert.ModRefIdeal.τ).loc Cert.ModRefIdeal.main_arg3)) (m ((c.tc : Thread Cert.ModRefIdeal.nD Cert.ModRefIdeal.τ).loc Cert.ModRefIdeal.main_arg4)) (m ((c.tc : Thread Cert.ModRefIdeal.nD Cert.ModRefIdeal.τ).loc Cert.ModRefIdeal.main_arg5)) (m ((c.tc : Thread Cert.ModRefIdeal.nD Cert.ModRefIdeal.τ).loc Cert.ModRefIdeal.main_arg6))).1 = (fun _ => 1#1)
    ∧ (Cert.Pre_mod_finite.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2)) (m ((c.tc : Thread Cert.ModRefIdeal.nD Cert.ModRefIdeal.τ).loc Cert.ModRefIdeal.main_arg3)) (m ((c.tc : Thread Cert.ModRefIdeal.nD Cert.ModRefIdeal.τ).loc Cert.ModRefIdeal.main_arg4)) (m ((c.tc : Thread Cert.ModRefIdeal.nD Cert.ModRefIdeal.τ).loc Cert.ModRefIdeal.main_arg5)) (m ((c.tc : Thread Cert.ModRefIdeal.nD Cert.ModRefIdeal.τ).loc Cert.ModRefIdeal.main_arg6))).2.1 = (fun _ => 1#1)
    ∧ (Cert.Pre_mod_finite.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2)) (m ((c.tc : Thread Cert.ModRefIdeal.nD Cert.ModRefIdeal.τ).loc Cert.ModRefIdeal.main_arg3)) (m ((c.tc : Thread Cert.ModRefIdeal.nD Cert.ModRefIdeal.τ).loc Cert.ModRefIdeal.main_arg4)) (m ((c.tc : Thread Cert.ModRefIdeal.nD Cert.ModRefIdeal.τ).loc Cert.ModRefIdeal.main_arg5)) (m ((c.tc : Thread Cert.ModRefIdeal.nD Cert.ModRefIdeal.τ).loc Cert.ModRefIdeal.main_arg6))).2.2.1 = (fun _ => 1#1)
    ∧ (Cert.Pre_mod_finite.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2)) (m ((c.tc : Thread Cert.ModRefIdeal.nD Cert.ModRefIdeal.τ).loc Cert.ModRefIdeal.main_arg3)) (m ((c.tc : Thread Cert.ModRefIdeal.nD Cert.ModRefIdeal.τ).loc Cert.ModRefIdeal.main_arg4)) (m ((c.tc : Thread Cert.ModRefIdeal.nD Cert.ModRefIdeal.τ).loc Cert.ModRefIdeal.main_arg5)) (m ((c.tc : Thread Cert.ModRefIdeal.nD Cert.ModRefIdeal.τ).loc Cert.ModRefIdeal.main_arg6))).2.2.2.1 = (fun _ => 1#1)
    ∧ (Cert.Pre_mod_finite.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2)) (m ((c.tc : Thread Cert.ModRefIdeal.nD Cert.ModRefIdeal.τ).loc Cert.ModRefIdeal.main_arg3)) (m ((c.tc : Thread Cert.ModRefIdeal.nD Cert.ModRefIdeal.τ).loc Cert.ModRefIdeal.main_arg4)) (m ((c.tc : Thread Cert.ModRefIdeal.nD Cert.ModRefIdeal.τ).loc Cert.ModRefIdeal.main_arg5)) (m ((c.tc : Thread Cert.ModRefIdeal.nD Cert.ModRefIdeal.τ).loc Cert.ModRefIdeal.main_arg6))).2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.2.2 = (fun _ => 1#1)

def Pre_Inb (m : (ℓ : Loc Cert.Inb.nD Cert.Inb.τ Cert.Inb.sig) → Buf (Elt Bits) ℓ) : Prop :=
  True

def Pre_InbIdeal (m : (ℓ : Loc Cert.InbIdeal.nD Cert.InbIdeal.τ Cert.InbIdeal.sig) → Buf (Elt Ideal) ℓ) : Prop :=
  True

def Pre_InbIdeal_in_finite [hPre_in_finite : Cert.Pre_in_finite.Facts] (m : (ℓ : Loc Cert.InbIdeal.nD Cert.InbIdeal.τ Cert.InbIdeal.sig) → Buf (Elt Ideal) ℓ) : Prop :=
  ∀ c : Dev Cert.InbIdeal.nD,
    (Cert.Pre_in_finite.fn (F := Ideal) (m ((c.tc : Thread Cert.InbIdeal.nD Cert.InbIdeal.τ).loc Cert.InbIdeal.main_arg0)) (m ((c.tc : Thread Cert.InbIdeal.nD Cert.InbIdeal.τ).loc Cert.InbIdeal.main_arg1)) (m ((c.tc : Thread Cert.InbIdeal.nD Cert.InbIdeal.τ).loc Cert.InbIdeal.main_arg2)) (m ((c.tc : Thread Cert.InbIdeal.nD Cert.InbIdeal.τ).loc Cert.InbIdeal.main_arg3)) (m ((c.tc : Thread Cert.InbIdeal.nD Cert.InbIdeal.τ).loc Cert.InbIdeal.main_arg4)) (m ((c.tc : Thread Cert.InbIdeal.nD Cert.InbIdeal.τ).loc Cert.InbIdeal.main_arg5)) (m ((c.tc : Thread Cert.InbIdeal.nD Cert.InbIdeal.τ).loc Cert.InbIdeal.main_arg6)) (m ((c.tc : Thread Cert.InbIdeal.nD Cert.InbIdeal.τ).loc Cert.InbIdeal.main_arg7)) (m ((c.tc : Thread Cert.InbIdeal.nD Cert.InbIdeal.τ).loc Cert.InbIdeal.main_arg8)) (m ((c.tc : Thread Cert.InbIdeal.nD Cert.InbIdeal.τ).loc Cert.InbIdeal.main_arg9)) (m ((c.tc : Thread Cert.InbIdeal.nD Cert.InbIdeal.τ).loc Cert.InbIdeal.main_arg10)) (m ((c.tc : Thread Cert.InbIdeal.nD Cert.InbIdeal.τ).loc Cert.InbIdeal.main_arg11)) (m ((c.tc : Thread Cert.InbIdeal.nD Cert.InbIdeal.τ).loc Cert.InbIdeal.main_arg12)) (m ((c.tc : Thread Cert.InbIdeal.nD Cert.InbIdeal.τ).loc Cert.InbIdeal.main_arg13))).1 = (fun _ => 1#1)
    ∧ (Cert.Pre_in_finite.fn (F := Ideal) (m ((c.tc : Thread Cert.InbIdeal.nD Cert.InbIdeal.τ).loc Cert.InbIdeal.main_arg0)) (m ((c.tc : Thread Cert.InbIdeal.nD Cert.InbIdeal.τ).loc Cert.InbIdeal.main_arg1)) (m ((c.tc : Thread Cert.InbIdeal.nD Cert.InbIdeal.τ).loc Cert.InbIdeal.main_arg2)) (m ((c.tc : Thread Cert.InbIdeal.nD Cert.InbIdeal.τ).loc Cert.InbIdeal.main_arg3)) (m ((c.tc : Thread Cert.InbIdeal.nD Cert.InbIdeal.τ).loc Cert.InbIdeal.main_arg4)) (m ((c.tc : Thread Cert.InbIdeal.nD Cert.InbIdeal.τ).loc Cert.InbIdeal.main_arg5)) (m ((c.tc : Thread Cert.InbIdeal.nD Cert.InbIdeal.τ).loc Cert.InbIdeal.main_arg6)) (m ((c.tc : Thread Cert.InbIdeal.nD Cert.InbIdeal.τ).loc Cert.InbIdeal.main_arg7)) (m ((c.tc : Thread Cert.InbIdeal.nD Cert.InbIdeal.τ).loc Cert.InbIdeal.main_arg8)) (m ((c.tc : Thread Cert.InbIdeal.nD Cert.InbIdeal.τ).loc Cert.InbIdeal.main_arg9)) (m ((c.tc : Thread Cert.InbIdeal.nD Cert.InbIdeal.τ).loc Cert.InbIdeal.main_arg10)) (m ((c.tc : Thread Cert.InbIdeal.nD Cert.InbIdeal.τ).loc Cert.InbIdeal.main_arg11)) (m ((c.tc : Thread Cert.InbIdeal.nD Cert.InbIdeal.τ).loc Cert.InbIdeal.main_arg12)) (m ((c.tc : Thread Cert.InbIdeal.nD Cert.InbIdeal.τ).loc Cert.InbIdeal.main_arg13))).2.1 = (fun _ => 1#1)
    ∧ (Cert.Pre_in_finite.fn (F := Ideal) (m ((c.tc : Thread Cert.InbIdeal.nD Cert.InbIdeal.τ).loc Cert.InbIdeal.main_arg0)) (m ((c.tc : Thread Cert.InbIdeal.nD Cert.InbIdeal.τ).loc Cert.InbIdeal.main_arg1)) (m ((c.tc : Thread Cert.InbIdeal.nD Cert.InbIdeal.τ).loc Cert.InbIdeal.main_arg2)) (m ((c.tc : Thread Cert.InbIdeal.nD Cert.InbIdeal.τ).loc Cert.InbIdeal.main_arg3)) (m ((c.tc : Thread Cert.InbIdeal.nD Cert.InbIdeal.τ).loc Cert.InbIdeal.main_arg4)) (m ((c.tc : Thread Cert.InbIdeal.nD Cert.InbIdeal.τ).loc Cert.InbIdeal.main_arg5)) (m ((c.tc : Thread Cert.InbIdeal.nD Cert.InbIdeal.τ).loc Cert.InbIdeal.main_arg6)) (m ((c.tc : Thread Cert.InbIdeal.nD Cert.InbIdeal.τ).loc Cert.InbIdeal.main_arg7)) (m ((c.tc : Thread Cert.InbIdeal.nD Cert.InbIdeal.τ).loc Cert.InbIdeal.main_arg8)) (m ((c.tc : Thread Cert.InbIdeal.nD Cert.InbIdeal.τ).loc Cert.InbIdeal.main_arg9)) (m ((c.tc : Thread Cert.InbIdeal.nD Cert.InbIdeal.τ).loc Cert.InbIdeal.main_arg10)) (m ((c.tc : Thread Cert.InbIdeal.nD Cert.InbIdeal.τ).loc Cert.InbIdeal.main_arg11)) (m ((c.tc : Thread Cert.InbIdeal.nD Cert.InbIdeal.τ).loc Cert.InbIdeal.main_arg12)) (m ((c.tc : Thread Cert.InbIdeal.nD Cert.InbIdeal.τ).loc Cert.InbIdeal.main_arg13))).2.2.1 = (fun _ => 1#1)
    ∧ (Cert.Pre_in_finite.fn (F := Ideal) (m ((c.tc : Thread Cert.InbIdeal.nD Cert.InbIdeal.τ).loc Cert.InbIdeal.main_arg0)) (m ((c.tc : Thread Cert.InbIdeal.nD Cert.InbIdeal.τ).loc Cert.InbIdeal.main_arg1)) (m ((c.tc : Thread Cert.InbIdeal.nD Cert.InbIdeal.τ).loc Cert.InbIdeal.main_arg2)) (m ((c.tc : Thread Cert.InbIdeal.nD Cert.InbIdeal.τ).loc Cert.InbIdeal.main_arg3)) (m ((c.tc : Thread Cert.InbIdeal.nD Cert.InbIdeal.τ).loc Cert.InbIdeal.main_arg4)) (m ((c.tc : Thread Cert.InbIdeal.nD Cert.InbIdeal.τ).loc Cert.InbIdeal.main_arg5)) (m ((c.tc : Thread Cert.InbIdeal.nD Cert.InbIdeal.τ).loc Cert.InbIdeal.main_arg6)) (m ((c.tc : Thread Cert.InbIdeal.nD Cert.InbIdeal.τ).loc Cert.InbIdeal.main_arg7)) (m ((c.tc : Thread Cert.InbIdeal.nD Cert.InbIdeal.τ).loc Cert.InbIdeal.main_arg8)) (m ((c.tc : Thread Cert.InbIdeal.nD Cert.InbIdeal.τ).loc Cert.InbIdeal.main_arg9)) (m ((c.tc : Thread Cert.InbIdeal.nD Cert.InbIdeal.τ).loc Cert.InbIdeal.main_arg10)) (m ((c.tc : Thread Cert.InbIdeal.nD Cert.InbIdeal.τ).loc Cert.InbIdeal.main_arg11)) (m ((c.tc : Thread Cert.InbIdeal.nD Cert.InbIdeal.τ).loc Cert.InbIdeal.main_arg12)) (m ((c.tc : Thread Cert.InbIdeal.nD Cert.InbIdeal.τ).loc Cert.InbIdeal.main_arg13))).2.2.2.1 = (fun _ => 1#1)
    ∧ (Cert.Pre_in_finite.fn (F := Ideal) (m ((c.tc : Thread Cert.InbIdeal.nD Cert.InbIdeal.τ).loc Cert.InbIdeal.main_arg0)) (m ((c.tc : Thread Cert.InbIdeal.nD Cert.InbIdeal.τ).loc Cert.InbIdeal.main_arg1)) (m ((c.tc : Thread Cert.InbIdeal.nD Cert.InbIdeal.τ).loc Cert.InbIdeal.main_arg2)) (m ((c.tc : Thread Cert.InbIdeal.nD Cert.InbIdeal.τ).loc Cert.InbIdeal.main_arg3)) (m ((c.tc : Thread Cert.InbIdeal.nD Cert.InbIdeal.τ).loc Cert.InbIdeal.main_arg4)) (m ((c.tc : Thread Cert.InbIdeal.nD Cert.InbIdeal.τ).loc Cert.InbIdeal.main_arg5)) (m ((c.tc : Thread Cert.InbIdeal.nD Cert.InbIdeal.τ).loc Cert.InbIdeal.main_arg6)) (m ((c.tc : Thread Cert.InbIdeal.nD Cert.InbIdeal.τ).loc Cert.InbIdeal.main_arg7)) (m ((c.tc : Thread Cert.InbIdeal.nD Cert.InbIdeal.τ).loc Cert.InbIdeal.main_arg8)) (m ((c.tc : Thread Cert.InbIdeal.nD Cert.InbIdeal.τ).loc Cert.InbIdeal.main_arg9)) (m ((c.tc : Thread Cert.InbIdeal.nD Cert.InbIdeal.τ).loc Cert.InbIdeal.main_arg10)) (m ((c.tc : Thread Cert.InbIdeal.nD Cert.InbIdeal.τ).loc Cert.InbIdeal.main_arg11)) (m ((c.tc : Thread Cert.InbIdeal.nD Cert.InbIdeal.τ).loc Cert.InbIdeal.main_arg12)) (m ((c.tc : Thread Cert.InbIdeal.nD Cert.InbIdeal.τ).loc Cert.InbIdeal.main_arg13))).2.2.2.2.1 = (fun _ => 1#1)
    ∧ (Cert.Pre_in_finite.fn (F := Ideal) (m ((c.tc : Thread Cert.InbIdeal.nD Cert.InbIdeal.τ).loc Cert.InbIdeal.main_arg0)) (m ((c.tc : Thread Cert.InbIdeal.nD Cert.InbIdeal.τ).loc Cert.InbIdeal.main_arg1)) (m ((c.tc : Thread Cert.InbIdeal.nD Cert.InbIdeal.τ).loc Cert.InbIdeal.main_arg2)) (m ((c.tc : Thread Cert.InbIdeal.nD Cert.InbIdeal.τ).loc Cert.InbIdeal.main_arg3)) (m ((c.tc : Thread Cert.InbIdeal.nD Cert.InbIdeal.τ).loc Cert.InbIdeal.main_arg4)) (m ((c.tc : Thread Cert.InbIdeal.nD Cert.InbIdeal.τ).loc Cert.InbIdeal.main_arg5)) (m ((c.tc : Thread Cert.InbIdeal.nD Cert.InbIdeal.τ).loc Cert.InbIdeal.main_arg6)) (m ((c.tc : Thread Cert.InbIdeal.nD Cert.InbIdeal.τ).loc Cert.InbIdeal.main_arg7)) (m ((c.tc : Thread Cert.InbIdeal.nD Cert.InbIdeal.τ).loc Cert.InbIdeal.main_arg8)) (m ((c.tc : Thread Cert.InbIdeal.nD Cert.InbIdeal.τ).loc Cert.InbIdeal.main_arg9)) (m ((c.tc : Thread Cert.InbIdeal.nD Cert.InbIdeal.τ).loc Cert.InbIdeal.main_arg10)) (m ((c.tc : Thread Cert.InbIdeal.nD Cert.InbIdeal.τ).loc Cert.InbIdeal.main_arg11)) (m ((c.tc : Thread Cert.InbIdeal.nD Cert.InbIdeal.τ).loc Cert.InbIdeal.main_arg12)) (m ((c.tc : Thread Cert.InbIdeal.nD Cert.InbIdeal.τ).loc Cert.InbIdeal.main_arg13))).2.2.2.2.2.1 = (fun _ => 1#1)
    ∧ (Cert.Pre_in_finite.fn (F := Ideal) (m ((c.tc : Thread Cert.InbIdeal.nD Cert.InbIdeal.τ).loc Cert.InbIdeal.main_arg0)) (m ((c.tc : Thread Cert.InbIdeal.nD Cert.InbIdeal.τ).loc Cert.InbIdeal.main_arg1)) (m ((c.tc : Thread Cert.InbIdeal.nD Cert.InbIdeal.τ).loc Cert.InbIdeal.main_arg2)) (m ((c.tc : Thread Cert.InbIdeal.nD Cert.InbIdeal.τ).loc Cert.InbIdeal.main_arg3)) (m ((c.tc : Thread Cert.InbIdeal.nD Cert.InbIdeal.τ).loc Cert.InbIdeal.main_arg4)) (m ((c.tc : Thread Cert.InbIdeal.nD Cert.InbIdeal.τ).loc Cert.InbIdeal.main_arg5)) (m ((c.tc : Thread Cert.InbIdeal.nD Cert.InbIdeal.τ).loc Cert.InbIdeal.main_arg6)) (m ((c.tc : Thread Cert.InbIdeal.nD Cert.InbIdeal.τ).loc Cert.InbIdeal.main_arg7)) (m ((c.tc : Thread Cert.InbIdeal.nD Cert.InbIdeal.τ).loc Cert.InbIdeal.main_arg8)) (m ((c.tc : Thread Cert.InbIdeal.nD Cert.InbIdeal.τ).loc Cert.InbIdeal.main_arg9)) (m ((c.tc : Thread Cert.InbIdeal.nD Cert.InbIdeal.τ).loc Cert.InbIdeal.main_arg10)) (m ((c.tc : Thread Cert.InbIdeal.nD Cert.InbIdeal.τ).loc Cert.InbIdeal.main_arg11)) (m ((c.tc : Thread Cert.InbIdeal.nD Cert.InbIdeal.τ).loc Cert.InbIdeal.main_arg12)) (m ((c.tc : Thread Cert.InbIdeal.nD Cert.InbIdeal.τ).loc Cert.InbIdeal.main_arg13))).2.2.2.2.2.2.1 = (fun _ => 1#1)
    ∧ (Cert.Pre_in_finite.fn (F := Ideal) (m ((c.tc : Thread Cert.InbIdeal.nD Cert.InbIdeal.τ).loc Cert.InbIdeal.main_arg0)) (m ((c.tc : Thread Cert.InbIdeal.nD Cert.InbIdeal.τ).loc Cert.InbIdeal.main_arg1)) (m ((c.tc : Thread Cert.InbIdeal.nD Cert.InbIdeal.τ).loc Cert.InbIdeal.main_arg2)) (m ((c.tc : Thread Cert.InbIdeal.nD Cert.InbIdeal.τ).loc Cert.InbIdeal.main_arg3)) (m ((c.tc : Thread Cert.InbIdeal.nD Cert.InbIdeal.τ).loc Cert.InbIdeal.main_arg4)) (m ((c.tc : Thread Cert.InbIdeal.nD Cert.InbIdeal.τ).loc Cert.InbIdeal.main_arg5)) (m ((c.tc : Thread Cert.InbIdeal.nD Cert.InbIdeal.τ).loc Cert.InbIdeal.main_arg6)) (m ((c.tc : Thread Cert.InbIdeal.nD Cert.InbIdeal.τ).loc Cert.InbIdeal.main_arg7)) (m ((c.tc : Thread Cert.InbIdeal.nD Cert.InbIdeal.τ).loc Cert.InbIdeal.main_arg8)) (m ((c.tc : Thread Cert.InbIdeal.nD Cert.InbIdeal.τ).loc Cert.InbIdeal.main_arg9)) (m ((c.tc : Thread Cert.InbIdeal.nD Cert.InbIdeal.τ).loc Cert.InbIdeal.main_arg10)) (m ((c.tc : Thread Cert.InbIdeal.nD Cert.InbIdeal.τ).loc Cert.InbIdeal.main_arg11)) (m ((c.tc : Thread Cert.InbIdeal.nD Cert.InbIdeal.τ).loc Cert.InbIdeal.main_arg12)) (m ((c.tc : Thread Cert.InbIdeal.nD Cert.InbIdeal.τ).loc Cert.InbIdeal.main_arg13))).2.2.2.2.2.2.2.1 = (fun _ => 1#1)
    ∧ (Cert.Pre_in_finite.fn (F := Ideal) (m ((c.tc : Thread Cert.InbIdeal.nD Cert.InbIdeal.τ).loc Cert.InbIdeal.main_arg0)) (m ((c.tc : Thread Cert.InbIdeal.nD Cert.InbIdeal.τ).loc Cert.InbIdeal.main_arg1)) (m ((c.tc : Thread Cert.InbIdeal.nD Cert.InbIdeal.τ).loc Cert.InbIdeal.main_arg2)) (m ((c.tc : Thread Cert.InbIdeal.nD Cert.InbIdeal.τ).loc Cert.InbIdeal.main_arg3)) (m ((c.tc : Thread Cert.InbIdeal.nD Cert.InbIdeal.τ).loc Cert.InbIdeal.main_arg4)) (m ((c.tc : Thread Cert.InbIdeal.nD Cert.InbIdeal.τ).loc Cert.InbIdeal.main_arg5)) (m ((c.tc : Thread Cert.InbIdeal.nD Cert.InbIdeal.τ).loc Cert.InbIdeal.main_arg6)) (m ((c.tc : Thread Cert.InbIdeal.nD Cert.InbIdeal.τ).loc Cert.InbIdeal.main_arg7)) (m ((c.tc : Thread Cert.InbIdeal.nD Cert.InbIdeal.τ).loc Cert.InbIdeal.main_arg8)) (m ((c.tc : Thread Cert.InbIdeal.nD Cert.InbIdeal.τ).loc Cert.InbIdeal.main_arg9)) (m ((c.tc : Thread Cert.InbIdeal.nD Cert.InbIdeal.τ).loc Cert.InbIdeal.main_arg10)) (m ((c.tc : Thread Cert.InbIdeal.nD Cert.InbIdeal.τ).loc Cert.InbIdeal.main_arg11)) (m ((c.tc : Thread Cert.InbIdeal.nD Cert.InbIdeal.τ).loc Cert.InbIdeal.main_arg12)) (m ((c.tc : Thread Cert.InbIdeal.nD Cert.InbIdeal.τ).loc Cert.InbIdeal.main_arg13))).2.2.2.2.2.2.2.2.1 = (fun _ => 1#1)
    ∧ (Cert.Pre_in_finite.fn (F := Ideal) (m ((c.tc : Thread Cert.InbIdeal.nD Cert.InbIdeal.τ).loc Cert.InbIdeal.main_arg0)) (m ((c.tc : Thread Cert.InbIdeal.nD Cert.InbIdeal.τ).loc Cert.InbIdeal.main_arg1)) (m ((c.tc : Thread Cert.InbIdeal.nD Cert.InbIdeal.τ).loc Cert.InbIdeal.main_arg2)) (m ((c.tc : Thread Cert.InbIdeal.nD Cert.InbIdeal.τ).loc Cert.InbIdeal.main_arg3)) (m ((c.tc : Thread Cert.InbIdeal.nD Cert.InbIdeal.τ).loc Cert.InbIdeal.main_arg4)) (m ((c.tc : Thread Cert.InbIdeal.nD Cert.InbIdeal.τ).loc Cert.InbIdeal.main_arg5)) (m ((c.tc : Thread Cert.InbIdeal.nD Cert.InbIdeal.τ).loc Cert.InbIdeal.main_arg6)) (m ((c.tc : Thread Cert.InbIdeal.nD Cert.InbIdeal.τ).loc Cert.InbIdeal.main_arg7)) (m ((c.tc : Thread Cert.InbIdeal.nD Cert.InbIdeal.τ).loc Cert.InbIdeal.main_arg8)) (m ((c.tc : Thread Cert.InbIdeal.nD Cert.InbIdeal.τ).loc Cert.InbIdeal.main_arg9)) (m ((c.tc : Thread Cert.InbIdeal.nD Cert.InbIdeal.τ).loc Cert.InbIdeal.main_arg10)) (m ((c.tc : Thread Cert.InbIdeal.nD Cert.InbIdeal.τ).loc Cert.InbIdeal.main_arg11)) (m ((c.tc : Thread Cert.InbIdeal.nD Cert.InbIdeal.τ).loc Cert.InbIdeal.main_arg12)) (m ((c.tc : Thread Cert.InbIdeal.nD Cert.InbIdeal.τ).loc Cert.InbIdeal.main_arg13))).2.2.2.2.2.2.2.2.2.1 = (fun _ => 1#1)
    ∧ (Cert.Pre_in_finite.fn (F := Ideal) (m ((c.tc : Thread Cert.InbIdeal.nD Cert.InbIdeal.τ).loc Cert.InbIdeal.main_arg0)) (m ((c.tc : Thread Cert.InbIdeal.nD Cert.InbIdeal.τ).loc Cert.InbIdeal.main_arg1)) (m ((c.tc : Thread Cert.InbIdeal.nD Cert.InbIdeal.τ).loc Cert.InbIdeal.main_arg2)) (m ((c.tc : Thread Cert.InbIdeal.nD Cert.InbIdeal.τ).loc Cert.InbIdeal.main_arg3)) (m ((c.tc : Thread Cert.InbIdeal.nD Cert.InbIdeal.τ).loc Cert.InbIdeal.main_arg4)) (m ((c.tc : Thread Cert.InbIdeal.nD Cert.InbIdeal.τ).loc Cert.InbIdeal.main_arg5)) (m ((c.tc : Thread Cert.InbIdeal.nD Cert.InbIdeal.τ).loc Cert.InbIdeal.main_arg6)) (m ((c.tc : Thread Cert.InbIdeal.nD Cert.InbIdeal.τ).loc Cert.InbIdeal.main_arg7)) (m ((c.tc : Thread Cert.InbIdeal.nD Cert.InbIdeal.τ).loc Cert.InbIdeal.main_arg8)) (m ((c.tc : Thread Cert.InbIdeal.nD Cert.InbIdeal.τ).loc Cert.InbIdeal.main_arg9)) (m ((c.tc : Thread Cert.InbIdeal.nD Cert.InbIdeal.τ).loc Cert.InbIdeal.main_arg10)) (m ((c.tc : Thread Cert.InbIdeal.nD Cert.InbIdeal.τ).loc Cert.InbIdeal.main_arg11)) (m ((c.tc : Thread Cert.InbIdeal.nD Cert.InbIdeal.τ).loc Cert.InbIdeal.main_arg12)) (m ((c.tc : Thread Cert.InbIdeal.nD Cert.InbIdeal.τ).loc Cert.InbIdeal.main_arg13))).2.2.2.2.2.2.2.2.2.2.1 = (fun _ => 1#1)
    ∧ (Cert.Pre_in_finite.fn (F := Ideal) (m ((c.tc : Thread Cert.InbIdeal.nD Cert.InbIdeal.τ).loc Cert.InbIdeal.main_arg0)) (m ((c.tc : Thread Cert.InbIdeal.nD Cert.InbIdeal.τ).loc Cert.InbIdeal.main_arg1)) (m ((c.tc : Thread Cert.InbIdeal.nD Cert.InbIdeal.τ).loc Cert.InbIdeal.main_arg2)) (m ((c.tc : Thread Cert.InbIdeal.nD Cert.InbIdeal.τ).loc Cert.InbIdeal.main_arg3)) (m ((c.tc : Thread Cert.InbIdeal.nD Cert.InbIdeal.τ).loc Cert.InbIdeal.main_arg4)) (m ((c.tc : Thread Cert.InbIdeal.nD Cert.InbIdeal.τ).loc Cert.InbIdeal.main_arg5)) (m ((c.tc : Thread Cert.InbIdeal.nD Cert.InbIdeal.τ).loc Cert.InbIdeal.main_arg6)) (m ((c.tc : Thread Cert.InbIdeal.nD Cert.InbIdeal.τ).loc Cert.InbIdeal.main_arg7)) (m ((c.tc : Thread Cert.InbIdeal.nD Cert.InbIdeal.τ).loc Cert.InbIdeal.main_arg8)) (m ((c.tc : Thread Cert.InbIdeal.nD Cert.InbIdeal.τ).loc Cert.InbIdeal.main_arg9)) (m ((c.tc : Thread Cert.InbIdeal.nD Cert.InbIdeal.τ).loc Cert.InbIdeal.main_arg10)) (m ((c.tc : Thread Cert.InbIdeal.nD Cert.InbIdeal.τ).loc Cert.InbIdeal.main_arg11)) (m ((c.tc : Thread Cert.InbIdeal.nD Cert.InbIdeal.τ).loc Cert.InbIdeal.main_arg12)) (m ((c.tc : Thread Cert.InbIdeal.nD Cert.InbIdeal.τ).loc Cert.InbIdeal.main_arg13))).2.2.2.2.2.2.2.2.2.2.2.1 = (fun _ => 1#1)
    ∧ (Cert.Pre_in_finite.fn (F := Ideal) (m ((c.tc : Thread Cert.InbIdeal.nD Cert.InbIdeal.τ).loc Cert.InbIdeal.main_arg0)) (m ((c.tc : Thread Cert.InbIdeal.nD Cert.InbIdeal.τ).loc Cert.InbIdeal.main_arg1)) (m ((c.tc : Thread Cert.InbIdeal.nD Cert.InbIdeal.τ).loc Cert.InbIdeal.main_arg2)) (m ((c.tc : Thread Cert.InbIdeal.nD Cert.InbIdeal.τ).loc Cert.InbIdeal.main_arg3)) (m ((c.tc : Thread Cert.InbIdeal.nD Cert.InbIdeal.τ).loc Cert.InbIdeal.main_arg4)) (m ((c.tc : Thread Cert.InbIdeal.nD Cert.InbIdeal.τ).loc Cert.InbIdeal.main_arg5)) (m ((c.tc : Thread Cert.InbIdeal.nD Cert.InbIdeal.τ).loc Cert.InbIdeal.main_arg6)) (m ((c.tc : Thread Cert.InbIdeal.nD Cert.InbIdeal.τ).loc Cert.InbIdeal.main_arg7)) (m ((c.tc : Thread Cert.InbIdeal.nD Cert.InbIdeal.τ).loc Cert.InbIdeal.main_arg8)) (m ((c.tc : Thread Cert.InbIdeal.nD Cert.InbIdeal.τ).loc Cert.InbIdeal.main_arg9)) (m ((c.tc : Thread Cert.InbIdeal.nD Cert.InbIdeal.τ).loc Cert.InbIdeal.main_arg10)) (m ((c.tc : Thread Cert.InbIdeal.nD Cert.InbIdeal.τ).loc Cert.InbIdeal.main_arg11)) (m ((c.tc : Thread Cert.InbIdeal.nD Cert.InbIdeal.τ).loc Cert.InbIdeal.main_arg12)) (m ((c.tc : Thread Cert.InbIdeal.nD Cert.InbIdeal.τ).loc Cert.InbIdeal.main_arg13))).2.2.2.2.2.2.2.2.2.2.2.2 = (fun _ => 1#1)

def Pre_InbRefIdeal (m : (ℓ : Loc Cert.InbRefIdeal.nD Cert.InbRefIdeal.τ Cert.InbRefIdeal.sig) → Buf (Elt Ideal) ℓ) : Prop :=
  True

def Pre_InbRefIdeal_in_finite [hPre_in_finite : Cert.Pre_in_finite.Facts] (m : (ℓ : Loc Cert.InbRefIdeal.nD Cert.InbRefIdeal.τ Cert.InbRefIdeal.sig) → Buf (Elt Ideal) ℓ) : Prop :=
  ∀ c : Dev Cert.InbRefIdeal.nD,
    (Cert.Pre_in_finite.fn (F := Ideal) (m ((c.tc : Thread Cert.InbRefIdeal.nD Cert.InbRefIdeal.τ).loc Cert.InbRefIdeal.main_arg0)) (m ((c.tc : Thread Cert.InbRefIdeal.nD Cert.InbRefIdeal.τ).loc Cert.InbRefIdeal.main_arg1)) (m ((c.tc : Thread Cert.InbRefIdeal.nD Cert.InbRefIdeal.τ).loc Cert.InbRefIdeal.main_arg2)) (m ((c.tc : Thread Cert.InbRefIdeal.nD Cert.InbRefIdeal.τ).loc Cert.InbRefIdeal.main_arg3)) (m ((c.tc : Thread Cert.InbRefIdeal.nD Cert.InbRefIdeal.τ).loc Cert.InbRefIdeal.main_arg4)) (m ((c.tc : Thread Cert.InbRefIdeal.nD Cert.InbRefIdeal.τ).loc Cert.InbRefIdeal.main_arg5)) (m ((c.tc : Thread Cert.InbRefIdeal.nD Cert.InbRefIdeal.τ).loc Cert.InbRefIdeal.main_arg6)) (m ((c.tc : Thread Cert.InbRefIdeal.nD Cert.InbRefIdeal.τ).loc Cert.InbRefIdeal.main_arg7)) (m ((c.tc : Thread Cert.InbRefIdeal.nD Cert.InbRefIdeal.τ).loc Cert.InbRefIdeal.main_arg8)) (m ((c.tc : Thread Cert.InbRefIdeal.nD Cert.InbRefIdeal.τ).loc Cert.InbRefIdeal.main_arg9)) (m ((c.tc : Thread Cert.InbRefIdeal.nD Cert.InbRefIdeal.τ).loc Cert.InbRefIdeal.main_arg10)) (m ((c.tc : Thread Cert.InbRefIdeal.nD Cert.InbRefIdeal.τ).loc Cert.InbRefIdeal.main_arg11)) (m ((c.tc : Thread Cert.InbRefIdeal.nD Cert.InbRefIdeal.τ).loc Cert.InbRefIdeal.main_arg12)) (m ((c.tc : Thread Cert.InbRefIdeal.nD Cert.InbRefIdeal.τ).loc Cert.InbRefIdeal.main_arg13))).1 = (fun _ => 1#1)
    ∧ (Cert.Pre_in_finite.fn (F := Ideal) (m ((c.tc : Thread Cert.InbRefIdeal.nD Cert.InbRefIdeal.τ).loc Cert.InbRefIdeal.main_arg0)) (m ((c.tc : Thread Cert.InbRefIdeal.nD Cert.InbRefIdeal.τ).loc Cert.InbRefIdeal.main_arg1)) (m ((c.tc : Thread Cert.InbRefIdeal.nD Cert.InbRefIdeal.τ).loc Cert.InbRefIdeal.main_arg2)) (m ((c.tc : Thread Cert.InbRefIdeal.nD Cert.InbRefIdeal.τ).loc Cert.InbRefIdeal.main_arg3)) (m ((c.tc : Thread Cert.InbRefIdeal.nD Cert.InbRefIdeal.τ).loc Cert.InbRefIdeal.main_arg4)) (m ((c.tc : Thread Cert.InbRefIdeal.nD Cert.InbRefIdeal.τ).loc Cert.InbRefIdeal.main_arg5)) (m ((c.tc : Thread Cert.InbRefIdeal.nD Cert.InbRefIdeal.τ).loc Cert.InbRefIdeal.main_arg6)) (m ((c.tc : Thread Cert.InbRefIdeal.nD Cert.InbRefIdeal.τ).loc Cert.InbRefIdeal.main_arg7)) (m ((c.tc : Thread Cert.InbRefIdeal.nD Cert.InbRefIdeal.τ).loc Cert.InbRefIdeal.main_arg8)) (m ((c.tc : Thread Cert.InbRefIdeal.nD Cert.InbRefIdeal.τ).loc Cert.InbRefIdeal.main_arg9)) (m ((c.tc : Thread Cert.InbRefIdeal.nD Cert.InbRefIdeal.τ).loc Cert.InbRefIdeal.main_arg10)) (m ((c.tc : Thread Cert.InbRefIdeal.nD Cert.InbRefIdeal.τ).loc Cert.InbRefIdeal.main_arg11)) (m ((c.tc : Thread Cert.InbRefIdeal.nD Cert.InbRefIdeal.τ).loc Cert.InbRefIdeal.main_arg12)) (m ((c.tc : Thread Cert.InbRefIdeal.nD Cert.InbRefIdeal.τ).loc Cert.InbRefIdeal.main_arg13))).2.1 = (fun _ => 1#1)
    ∧ (Cert.Pre_in_finite.fn (F := Ideal) (m ((c.tc : Thread Cert.InbRefIdeal.nD Cert.InbRefIdeal.τ).loc Cert.InbRefIdeal.main_arg0)) (m ((c.tc : Thread Cert.InbRefIdeal.nD Cert.InbRefIdeal.τ).loc Cert.InbRefIdeal.main_arg1)) (m ((c.tc : Thread Cert.InbRefIdeal.nD Cert.InbRefIdeal.τ).loc Cert.InbRefIdeal.main_arg2)) (m ((c.tc : Thread Cert.InbRefIdeal.nD Cert.InbRefIdeal.τ).loc Cert.InbRefIdeal.main_arg3)) (m ((c.tc : Thread Cert.InbRefIdeal.nD Cert.InbRefIdeal.τ).loc Cert.InbRefIdeal.main_arg4)) (m ((c.tc : Thread Cert.InbRefIdeal.nD Cert.InbRefIdeal.τ).loc Cert.InbRefIdeal.main_arg5)) (m ((c.tc : Thread Cert.InbRefIdeal.nD Cert.InbRefIdeal.τ).loc Cert.InbRefIdeal.main_arg6)) (m ((c.tc : Thread Cert.InbRefIdeal.nD Cert.InbRefIdeal.τ).loc Cert.InbRefIdeal.main_arg7)) (m ((c.tc : Thread Cert.InbRefIdeal.nD Cert.InbRefIdeal.τ).loc Cert.InbRefIdeal.main_arg8)) (m ((c.tc : Thread Cert.InbRefIdeal.nD Cert.InbRefIdeal.τ).loc Cert.InbRefIdeal.main_arg9)) (m ((c.tc : Thread Cert.InbRefIdeal.nD Cert.InbRefIdeal.τ).loc Cert.InbRefIdeal.main_arg10)) (m ((c.tc : Thread Cert.InbRefIdeal.nD Cert.InbRefIdeal.τ).loc Cert.InbRefIdeal.main_arg11)) (m ((c.tc : Thread Cert.InbRefIdeal.nD Cert.InbRefIdeal.τ).loc Cert.InbRefIdeal.main_arg12)) (m ((c.tc : Thread Cert.InbRefIdeal.nD Cert.InbRefIdeal.τ).loc Cert.InbRefIdeal.main_arg13))).2.2.1 = (fun _ => 1#1)
    ∧ (Cert.Pre_in_finite.fn (F := Ideal) (m ((c.tc : Thread Cert.InbRefIdeal.nD Cert.InbRefIdeal.τ).loc Cert.InbRefIdeal.main_arg0)) (m ((c.tc : Thread Cert.InbRefIdeal.nD Cert.InbRefIdeal.τ).loc Cert.InbRefIdeal.main_arg1)) (m ((c.tc : Thread Cert.InbRefIdeal.nD Cert.InbRefIdeal.τ).loc Cert.InbRefIdeal.main_arg2)) (m ((c.tc : Thread Cert.InbRefIdeal.nD Cert.InbRefIdeal.τ).loc Cert.InbRefIdeal.main_arg3)) (m ((c.tc : Thread Cert.InbRefIdeal.nD Cert.InbRefIdeal.τ).loc Cert.InbRefIdeal.main_arg4)) (m ((c.tc : Thread Cert.InbRefIdeal.nD Cert.InbRefIdeal.τ).loc Cert.InbRefIdeal.main_arg5)) (m ((c.tc : Thread Cert.InbRefIdeal.nD Cert.InbRefIdeal.τ).loc Cert.InbRefIdeal.main_arg6)) (m ((c.tc : Thread Cert.InbRefIdeal.nD Cert.InbRefIdeal.τ).loc Cert.InbRefIdeal.main_arg7)) (m ((c.tc : Thread Cert.InbRefIdeal.nD Cert.InbRefIdeal.τ).loc Cert.InbRefIdeal.main_arg8)) (m ((c.tc : Thread Cert.InbRefIdeal.nD Cert.InbRefIdeal.τ).loc Cert.InbRefIdeal.main_arg9)) (m ((c.tc : Thread Cert.InbRefIdeal.nD Cert.InbRefIdeal.τ).loc Cert.InbRefIdeal.main_arg10)) (m ((c.tc : Thread Cert.InbRefIdeal.nD Cert.InbRefIdeal.τ).loc Cert.InbRefIdeal.main_arg11)) (m ((c.tc : Thread Cert.InbRefIdeal.nD Cert.InbRefIdeal.τ).loc Cert.InbRefIdeal.main_arg12)) (m ((c.tc : Thread Cert.InbRefIdeal.nD Cert.InbRefIdeal.τ).loc Cert.InbRefIdeal.main_arg13))).2.2.2.1 = (fun _ => 1#1)
    ∧ (Cert.Pre_in_finite.fn (F := Ideal) (m ((c.tc : Thread Cert.InbRefIdeal.nD Cert.InbRefIdeal.τ).loc Cert.InbRefIdeal.main_arg0)) (m ((c.tc : Thread Cert.InbRefIdeal.nD Cert.InbRefIdeal.τ).loc Cert.InbRefIdeal.main_arg1)) (m ((c.tc : Thread Cert.InbRefIdeal.nD Cert.InbRefIdeal.τ).loc Cert.InbRefIdeal.main_arg2)) (m ((c.tc : Thread Cert.InbRefIdeal.nD Cert.InbRefIdeal.τ).loc Cert.InbRefIdeal.main_arg3)) (m ((c.tc : Thread Cert.InbRefIdeal.nD Cert.InbRefIdeal.τ).loc Cert.InbRefIdeal.main_arg4)) (m ((c.tc : Thread Cert.InbRefIdeal.nD Cert.InbRefIdeal.τ).loc Cert.InbRefIdeal.main_arg5)) (m ((c.tc : Thread Cert.InbRefIdeal.nD Cert.InbRefIdeal.τ).loc Cert.InbRefIdeal.main_arg6)) (m ((c.tc : Thread Cert.InbRefIdeal.nD Cert.InbRefIdeal.τ).loc Cert.InbRefIdeal.main_arg7)) (m ((c.tc : Thread Cert.InbRefIdeal.nD Cert.InbRefIdeal.τ).loc Cert.InbRefIdeal.main_arg8)) (m ((c.tc : Thread Cert.InbRefIdeal.nD Cert.InbRefIdeal.τ).loc Cert.InbRefIdeal.main_arg9)) (m ((c.tc : Thread Cert.InbRefIdeal.nD Cert.InbRefIdeal.τ).loc Cert.InbRefIdeal.main_arg10)) (m ((c.tc : Thread Cert.InbRefIdeal.nD Cert.InbRefIdeal.τ).loc Cert.InbRefIdeal.main_arg11)) (m ((c.tc : Thread Cert.InbRefIdeal.nD Cert.InbRefIdeal.τ).loc Cert.InbRefIdeal.main_arg12)) (m ((c.tc : Thread Cert.InbRefIdeal.nD Cert.InbRefIdeal.τ).loc Cert.InbRefIdeal.main_arg13))).2.2.2.2.1 = (fun _ => 1#1)
    ∧ (Cert.Pre_in_finite.fn (F := Ideal) (m ((c.tc : Thread Cert.InbRefIdeal.nD Cert.InbRefIdeal.τ).loc Cert.InbRefIdeal.main_arg0)) (m ((c.tc : Thread Cert.InbRefIdeal.nD Cert.InbRefIdeal.τ).loc Cert.InbRefIdeal.main_arg1)) (m ((c.tc : Thread Cert.InbRefIdeal.nD Cert.InbRefIdeal.τ).loc Cert.InbRefIdeal.main_arg2)) (m ((c.tc : Thread Cert.InbRefIdeal.nD Cert.InbRefIdeal.τ).loc Cert.InbRefIdeal.main_arg3)) (m ((c.tc : Thread Cert.InbRefIdeal.nD Cert.InbRefIdeal.τ).loc Cert.InbRefIdeal.main_arg4)) (m ((c.tc : Thread Cert.InbRefIdeal.nD Cert.InbRefIdeal.τ).loc Cert.InbRefIdeal.main_arg5)) (m ((c.tc : Thread Cert.InbRefIdeal.nD Cert.InbRefIdeal.τ).loc Cert.InbRefIdeal.main_arg6)) (m ((c.tc : Thread Cert.InbRefIdeal.nD Cert.InbRefIdeal.τ).loc Cert.InbRefIdeal.main_arg7)) (m ((c.tc : Thread Cert.InbRefIdeal.nD Cert.InbRefIdeal.τ).loc Cert.InbRefIdeal.main_arg8)) (m ((c.tc : Thread Cert.InbRefIdeal.nD Cert.InbRefIdeal.τ).loc Cert.InbRefIdeal.main_arg9)) (m ((c.tc : Thread Cert.InbRefIdeal.nD Cert.InbRefIdeal.τ).loc Cert.InbRefIdeal.main_arg10)) (m ((c.tc : Thread Cert.InbRefIdeal.nD Cert.InbRefIdeal.τ).loc Cert.InbRefIdeal.main_arg11)) (m ((c.tc : Thread Cert.InbRefIdeal.nD Cert.InbRefIdeal.τ).loc Cert.InbRefIdeal.main_arg12)) (m ((c.tc : Thread Cert.InbRefIdeal.nD Cert.InbRefIdeal.τ).loc Cert.InbRefIdeal.main_arg13))).2.2.2.2.2.1 = (fun _ => 1#1)
    ∧ (Cert.Pre_in_finite.fn (F := Ideal) (m ((c.tc : Thread Cert.InbRefIdeal.nD Cert.InbRefIdeal.τ).loc Cert.InbRefIdeal.main_arg0)) (m ((c.tc : Thread Cert.InbRefIdeal.nD Cert.InbRefIdeal.τ).loc Cert.InbRefIdeal.main_arg1)) (m ((c.tc : Thread Cert.InbRefIdeal.nD Cert.InbRefIdeal.τ).loc Cert.InbRefIdeal.main_arg2)) (m ((c.tc : Thread Cert.InbRefIdeal.nD Cert.InbRefIdeal.τ).loc Cert.InbRefIdeal.main_arg3)) (m ((c.tc : Thread Cert.InbRefIdeal.nD Cert.InbRefIdeal.τ).loc Cert.InbRefIdeal.main_arg4)) (m ((c.tc : Thread Cert.InbRefIdeal.nD Cert.InbRefIdeal.τ).loc Cert.InbRefIdeal.main_arg5)) (m ((c.tc : Thread Cert.InbRefIdeal.nD Cert.InbRefIdeal.τ).loc Cert.InbRefIdeal.main_arg6)) (m ((c.tc : Thread Cert.InbRefIdeal.nD Cert.InbRefIdeal.τ).loc Cert.InbRefIdeal.main_arg7)) (m ((c.tc : Thread Cert.InbRefIdeal.nD Cert.InbRefIdeal.τ).loc Cert.InbRefIdeal.main_arg8)) (m ((c.tc : Thread Cert.InbRefIdeal.nD Cert.InbRefIdeal.τ).loc Cert.InbRefIdeal.main_arg9)) (m ((c.tc : Thread Cert.InbRefIdeal.nD Cert.InbRefIdeal.τ).loc Cert.InbRefIdeal.main_arg10)) (m ((c.tc : Thread Cert.InbRefIdeal.nD Cert.InbRefIdeal.τ).loc Cert.InbRefIdeal.main_arg11)) (m ((c.tc : Thread Cert.InbRefIdeal.nD Cert.InbRefIdeal.τ).loc Cert.InbRefIdeal.main_arg12)) (m ((c.tc : Thread Cert.InbRefIdeal.nD Cert.InbRefIdeal.τ).loc Cert.InbRefIdeal.main_arg13))).2.2.2.2.2.2.1 = (fun _ => 1#1)
    ∧ (Cert.Pre_in_finite.fn (F := Ideal) (m ((c.tc : Thread Cert.InbRefIdeal.nD Cert.InbRefIdeal.τ).loc Cert.InbRefIdeal.main_arg0)) (m ((c.tc : Thread Cert.InbRefIdeal.nD Cert.InbRefIdeal.τ).loc Cert.InbRefIdeal.main_arg1)) (m ((c.tc : Thread Cert.InbRefIdeal.nD Cert.InbRefIdeal.τ).loc Cert.InbRefIdeal.main_arg2)) (m ((c.tc : Thread Cert.InbRefIdeal.nD Cert.InbRefIdeal.τ).loc Cert.InbRefIdeal.main_arg3)) (m ((c.tc : Thread Cert.InbRefIdeal.nD Cert.InbRefIdeal.τ).loc Cert.InbRefIdeal.main_arg4)) (m ((c.tc : Thread Cert.InbRefIdeal.nD Cert.InbRefIdeal.τ).loc Cert.InbRefIdeal.main_arg5)) (m ((c.tc : Thread Cert.InbRefIdeal.nD Cert.InbRefIdeal.τ).loc Cert.InbRefIdeal.main_arg6)) (m ((c.tc : Thread Cert.InbRefIdeal.nD Cert.InbRefIdeal.τ).loc Cert.InbRefIdeal.main_arg7)) (m ((c.tc : Thread Cert.InbRefIdeal.nD Cert.InbRefIdeal.τ).loc Cert.InbRefIdeal.main_arg8)) (m ((c.tc : Thread Cert.InbRefIdeal.nD Cert.InbRefIdeal.τ).loc Cert.InbRefIdeal.main_arg9)) (m ((c.tc : Thread Cert.InbRefIdeal.nD Cert.InbRefIdeal.τ).loc Cert.InbRefIdeal.main_arg10)) (m ((c.tc : Thread Cert.InbRefIdeal.nD Cert.InbRefIdeal.τ).loc Cert.InbRefIdeal.main_arg11)) (m ((c.tc : Thread Cert.InbRefIdeal.nD Cert.InbRefIdeal.τ).loc Cert.InbRefIdeal.main_arg12)) (m ((c.tc : Thread Cert.InbRefIdeal.nD Cert.InbRefIdeal.τ).loc Cert.InbRefIdeal.main_arg13))).2.2.2.2.2.2.2.1 = (fun _ => 1#1)
    ∧ (Cert.Pre_in_finite.fn (F := Ideal) (m ((c.tc : Thread Cert.InbRefIdeal.nD Cert.InbRefIdeal.τ).loc Cert.InbRefIdeal.main_arg0)) (m ((c.tc : Thread Cert.InbRefIdeal.nD Cert.InbRefIdeal.τ).loc Cert.InbRefIdeal.main_arg1)) (m ((c.tc : Thread Cert.InbRefIdeal.nD Cert.InbRefIdeal.τ).loc Cert.InbRefIdeal.main_arg2)) (m ((c.tc : Thread Cert.InbRefIdeal.nD Cert.InbRefIdeal.τ).loc Cert.InbRefIdeal.main_arg3)) (m ((c.tc : Thread Cert.InbRefIdeal.nD Cert.InbRefIdeal.τ).loc Cert.InbRefIdeal.main_arg4)) (m ((c.tc : Thread Cert.InbRefIdeal.nD Cert.InbRefIdeal.τ).loc Cert.InbRefIdeal.main_arg5)) (m ((c.tc : Thread Cert.InbRefIdeal.nD Cert.InbRefIdeal.τ).loc Cert.InbRefIdeal.main_arg6)) (m ((c.tc : Thread Cert.InbRefIdeal.nD Cert.InbRefIdeal.τ).loc Cert.InbRefIdeal.main_arg7)) (m ((c.tc : Thread Cert.InbRefIdeal.nD Cert.InbRefIdeal.τ).loc Cert.InbRefIdeal.main_arg8)) (m ((c.tc : Thread Cert.InbRefIdeal.nD Cert.InbRefIdeal.τ).loc Cert.InbRefIdeal.main_arg9)) (m ((c.tc : Thread Cert.InbRefIdeal.nD Cert.InbRefIdeal.τ).loc Cert.InbRefIdeal.main_arg10)) (m ((c.tc : Thread Cert.InbRefIdeal.nD Cert.InbRefIdeal.τ).loc Cert.InbRefIdeal.main_arg11)) (m ((c.tc : Thread Cert.InbRefIdeal.nD Cert.InbRefIdeal.τ).loc Cert.InbRefIdeal.main_arg12)) (m ((c.tc : Thread Cert.InbRefIdeal.nD Cert.InbRefIdeal.τ).loc Cert.InbRefIdeal.main_arg13))).2.2.2.2.2.2.2.2.1 = (fun _ => 1#1)
    ∧ (Cert.Pre_in_finite.fn (F := Ideal) (m ((c.tc : Thread Cert.InbRefIdeal.nD Cert.InbRefIdeal.τ).loc Cert.InbRefIdeal.main_arg0)) (m ((c.tc : Thread Cert.InbRefIdeal.nD Cert.InbRefIdeal.τ).loc Cert.InbRefIdeal.main_arg1)) (m ((c.tc : Thread Cert.InbRefIdeal.nD Cert.InbRefIdeal.τ).loc Cert.InbRefIdeal.main_arg2)) (m ((c.tc : Thread Cert.InbRefIdeal.nD Cert.InbRefIdeal.τ).loc Cert.InbRefIdeal.main_arg3)) (m ((c.tc : Thread Cert.InbRefIdeal.nD Cert.InbRefIdeal.τ).loc Cert.InbRefIdeal.main_arg4)) (m ((c.tc : Thread Cert.InbRefIdeal.nD Cert.InbRefIdeal.τ).loc Cert.InbRefIdeal.main_arg5)) (m ((c.tc : Thread Cert.InbRefIdeal.nD Cert.InbRefIdeal.τ).loc Cert.InbRefIdeal.main_arg6)) (m ((c.tc : Thread Cert.InbRefIdeal.nD Cert.InbRefIdeal.τ).loc Cert.InbRefIdeal.main_arg7)) (m ((c.tc : Thread Cert.InbRefIdeal.nD Cert.InbRefIdeal.τ).loc Cert.InbRefIdeal.main_arg8)) (m ((c.tc : Thread Cert.InbRefIdeal.nD Cert.InbRefIdeal.τ).loc Cert.InbRefIdeal.main_arg9)) (m ((c.tc : Thread Cert.InbRefIdeal.nD Cert.InbRefIdeal.τ).loc Cert.InbRefIdeal.main_arg10)) (m ((c.tc : Thread Cert.InbRefIdeal.nD Cert.InbRefIdeal.τ).loc Cert.InbRefIdeal.main_arg11)) (m ((c.tc : Thread Cert.InbRefIdeal.nD Cert.InbRefIdeal.τ).loc Cert.InbRefIdeal.main_arg12)) (m ((c.tc : Thread Cert.InbRefIdeal.nD Cert.InbRefIdeal.τ).loc Cert.InbRefIdeal.main_arg13))).2.2.2.2.2.2.2.2.2.1 = (fun _ => 1#1)
    ∧ (Cert.Pre_in_finite.fn (F := Ideal) (m ((c.tc : Thread Cert.InbRefIdeal.nD Cert.InbRefIdeal.τ).loc Cert.InbRefIdeal.main_arg0)) (m ((c.tc : Thread Cert.InbRefIdeal.nD Cert.InbRefIdeal.τ).loc Cert.InbRefIdeal.main_arg1)) (m ((c.tc : Thread Cert.InbRefIdeal.nD Cert.InbRefIdeal.τ).loc Cert.InbRefIdeal.main_arg2)) (m ((c.tc : Thread Cert.InbRefIdeal.nD Cert.InbRefIdeal.τ).loc Cert.InbRefIdeal.main_arg3)) (m ((c.tc : Thread Cert.InbRefIdeal.nD Cert.InbRefIdeal.τ).loc Cert.InbRefIdeal.main_arg4)) (m ((c.tc : Thread Cert.InbRefIdeal.nD Cert.InbRefIdeal.τ).loc Cert.InbRefIdeal.main_arg5)) (m ((c.tc : Thread Cert.InbRefIdeal.nD Cert.InbRefIdeal.τ).loc Cert.InbRefIdeal.main_arg6)) (m ((c.tc : Thread Cert.InbRefIdeal.nD Cert.InbRefIdeal.τ).loc Cert.InbRefIdeal.main_arg7)) (m ((c.tc : Thread Cert.InbRefIdeal.nD Cert.InbRefIdeal.τ).loc Cert.InbRefIdeal.main_arg8)) (m ((c.tc : Thread Cert.InbRefIdeal.nD Cert.InbRefIdeal.τ).loc Cert.InbRefIdeal.main_arg9)) (m ((c.tc : Thread Cert.InbRefIdeal.nD Cert.InbRefIdeal.τ).loc Cert.InbRefIdeal.main_arg10)) (m ((c.tc : Thread Cert.InbRefIdeal.nD Cert.InbRefIdeal.τ).loc Cert.InbRefIdeal.main_arg11)) (m ((c.tc : Thread Cert.InbRefIdeal.nD Cert.InbRefIdeal.τ).loc Cert.InbRefIdeal.main_arg12)) (m ((c.tc : Thread Cert.InbRefIdeal.nD Cert.InbRefIdeal.τ).loc Cert.InbRefIdeal.main_arg13))).2.2.2.2.2.2.2.2.2.2.1 = (fun _ => 1#1)
    ∧ (Cert.Pre_in_finite.fn (F := Ideal) (m ((c.tc : Thread Cert.InbRefIdeal.nD Cert.InbRefIdeal.τ).loc Cert.InbRefIdeal.main_arg0)) (m ((c.tc : Thread Cert.InbRefIdeal.nD Cert.InbRefIdeal.τ).loc Cert.InbRefIdeal.main_arg1)) (m ((c.tc : Thread Cert.InbRefIdeal.nD Cert.InbRefIdeal.τ).loc Cert.InbRefIdeal.main_arg2)) (m ((c.tc : Thread Cert.InbRefIdeal.nD Cert.InbRefIdeal.τ).loc Cert.InbRefIdeal.main_arg3)) (m ((c.tc : Thread Cert.InbRefIdeal.nD Cert.InbRefIdeal.τ).loc Cert.InbRefIdeal.main_arg4)) (m ((c.tc : Thread Cert.InbRefIdeal.nD Cert.InbRefIdeal.τ).loc Cert.InbRefIdeal.main_arg5)) (m ((c.tc : Thread Cert.InbRefIdeal.nD Cert.InbRefIdeal.τ).loc Cert.InbRefIdeal.main_arg6)) (m ((c.tc : Thread Cert.InbRefIdeal.nD Cert.InbRefIdeal.τ).loc Cert.InbRefIdeal.main_arg7)) (m ((c.tc : Thread Cert.InbRefIdeal.nD Cert.InbRefIdeal.τ).loc Cert.InbRefIdeal.main_arg8)) (m ((c.tc : Thread Cert.InbRefIdeal.nD Cert.InbRefIdeal.τ).loc Cert.InbRefIdeal.main_arg9)) (m ((c.tc : Thread Cert.InbRefIdeal.nD Cert.InbRefIdeal.τ).loc Cert.InbRefIdeal.main_arg10)) (m ((c.tc : Thread Cert.InbRefIdeal.nD Cert.InbRefIdeal.τ).loc Cert.InbRefIdeal.main_arg11)) (m ((c.tc : Thread Cert.InbRefIdeal.nD Cert.InbRefIdeal.τ).loc Cert.InbRefIdeal.main_arg12)) (m ((c.tc : Thread Cert.InbRefIdeal.nD Cert.InbRefIdeal.τ).loc Cert.InbRefIdeal.main_arg13))).2.2.2.2.2.2.2.2.2.2.2.1 = (fun _ => 1#1)
    ∧ (Cert.Pre_in_finite.fn (F := Ideal) (m ((c.tc : Thread Cert.InbRefIdeal.nD Cert.InbRefIdeal.τ).loc Cert.InbRefIdeal.main_arg0)) (m ((c.tc : Thread Cert.InbRefIdeal.nD Cert.InbRefIdeal.τ).loc Cert.InbRefIdeal.main_arg1)) (m ((c.tc : Thread Cert.InbRefIdeal.nD Cert.InbRefIdeal.τ).loc Cert.InbRefIdeal.main_arg2)) (m ((c.tc : Thread Cert.InbRefIdeal.nD Cert.InbRefIdeal.τ).loc Cert.InbRefIdeal.main_arg3)) (m ((c.tc : Thread Cert.InbRefIdeal.nD Cert.InbRefIdeal.τ).loc Cert.InbRefIdeal.main_arg4)) (m ((c.tc : Thread Cert.InbRefIdeal.nD Cert.InbRefIdeal.τ).loc Cert.InbRefIdeal.main_arg5)) (m ((c.tc : Thread Cert.InbRefIdeal.nD Cert.InbRefIdeal.τ).loc Cert.InbRefIdeal.main_arg6)) (m ((c.tc : Thread Cert.InbRefIdeal.nD Cert.InbRefIdeal.τ).loc Cert.InbRefIdeal.main_arg7)) (m ((c.tc : Thread Cert.InbRefIdeal.nD Cert.InbRefIdeal.τ).loc Cert.InbRefIdeal.main_arg8)) (m ((c.tc : Thread Cert.InbRefIdeal.nD Cert.InbRefIdeal.τ).loc Cert.InbRefIdeal.main_arg9)) (m ((c.tc : Thread Cert.InbRefIdeal.nD Cert.InbRefIdeal.τ).loc Cert.InbRefIdeal.main_arg10)) (m ((c.tc : Thread Cert.InbRefIdeal.nD Cert.InbRefIdeal.τ).loc Cert.InbRefIdeal.main_arg11)) (m ((c.tc : Thread Cert.InbRefIdeal.nD Cert.InbRefIdeal.τ).loc Cert.InbRefIdeal.main_arg12)) (m ((c.tc : Thread Cert.InbRefIdeal.nD Cert.InbRefIdeal.τ).loc Cert.InbRefIdeal.main_arg13))).2.2.2.2.2.2.2.2.2.2.2.2 = (fun _ => 1#1)

def Pre_Mixb (m : (ℓ : Loc Cert.Mixb.nD Cert.Mixb.τ Cert.Mixb.sig) → Buf (Elt Bits) ℓ) : Prop :=
  True

def Pre_MixbIdeal (m : (ℓ : Loc Cert.MixbIdeal.nD Cert.MixbIdeal.τ Cert.MixbIdeal.sig) → Buf (Elt Ideal) ℓ) : Prop :=
  True

def Pre_MixbIdeal_mix_finite [hPre_mix_finite : Cert.Pre_mix_finite.Facts] (m : (ℓ : Loc Cert.MixbIdeal.nD Cert.MixbIdeal.τ Cert.MixbIdeal.sig) → Buf (Elt Ideal) ℓ) : Prop :=
  ∀ c : Dev Cert.MixbIdeal.nD,
    (Cert.Pre_mix_finite.fn (F := Ideal) (m ((c.tc : Thread Cert.MixbIdeal.nD Cert.MixbIdeal.τ).loc Cert.MixbIdeal.main_arg0)) (m ((c.tc : Thread Cert.MixbIdeal.nD Cert.MixbIdeal.τ).loc Cert.MixbIdeal.main_arg1)) (m ((c.tc : Thread Cert.MixbIdeal.nD Cert.MixbIdeal.τ).loc Cert.MixbIdeal.main_arg2)) (m ((c.tc : Thread Cert.MixbIdeal.nD Cert.MixbIdeal.τ).loc Cert.MixbIdeal.main_arg3)) (m ((c.tc : Thread Cert.MixbIdeal.nD Cert.MixbIdeal.τ).loc Cert.MixbIdeal.main_arg4)) (m ((c.tc : Thread Cert.MixbIdeal.nD Cert.MixbIdeal.τ).loc Cert.MixbIdeal.main_arg5)) (m ((c.tc : Thread Cert.MixbIdeal.nD Cert.MixbIdeal.τ).loc Cert.MixbIdeal.main_arg6)) (m ((c.tc : Thread Cert.MixbIdeal.nD Cert.MixbIdeal.τ).loc Cert.MixbIdeal.main_arg7)) (m ((c.tc : Thread Cert.MixbIdeal.nD Cert.MixbIdeal.τ).loc Cert.MixbIdeal.main_arg8)) (m ((c.tc : Thread Cert.MixbIdeal.nD Cert.MixbIdeal.τ).loc Cert.MixbIdeal.main_arg9)) (m ((c.tc : Thread Cert.MixbIdeal.nD Cert.MixbIdeal.τ).loc Cert.MixbIdeal.main_arg10)) (m ((c.tc : Thread Cert.MixbIdeal.nD Cert.MixbIdeal.τ).loc Cert.MixbIdeal.main_arg11)) (m ((c.tc : Thread Cert.MixbIdeal.nD Cert.MixbIdeal.τ).loc Cert.MixbIdeal.main_arg12))).1 = (fun _ => 1#1)
    ∧ (Cert.Pre_mix_finite.fn (F := Ideal) (m ((c.tc : Thread Cert.MixbIdeal.nD Cert.MixbIdeal.τ).loc Cert.MixbIdeal.main_arg0)) (m ((c.tc : Thread Cert.MixbIdeal.nD Cert.MixbIdeal.τ).loc Cert.MixbIdeal.main_arg1)) (m ((c.tc : Thread Cert.MixbIdeal.nD Cert.MixbIdeal.τ).loc Cert.MixbIdeal.main_arg2)) (m ((c.tc : Thread Cert.MixbIdeal.nD Cert.MixbIdeal.τ).loc Cert.MixbIdeal.main_arg3)) (m ((c.tc : Thread Cert.MixbIdeal.nD Cert.MixbIdeal.τ).loc Cert.MixbIdeal.main_arg4)) (m ((c.tc : Thread Cert.MixbIdeal.nD Cert.MixbIdeal.τ).loc Cert.MixbIdeal.main_arg5)) (m ((c.tc : Thread Cert.MixbIdeal.nD Cert.MixbIdeal.τ).loc Cert.MixbIdeal.main_arg6)) (m ((c.tc : Thread Cert.MixbIdeal.nD Cert.MixbIdeal.τ).loc Cert.MixbIdeal.main_arg7)) (m ((c.tc : Thread Cert.MixbIdeal.nD Cert.MixbIdeal.τ).loc Cert.MixbIdeal.main_arg8)) (m ((c.tc : Thread Cert.MixbIdeal.nD Cert.MixbIdeal.τ).loc Cert.MixbIdeal.main_arg9)) (m ((c.tc : Thread Cert.MixbIdeal.nD Cert.MixbIdeal.τ).loc Cert.MixbIdeal.main_arg10)) (m ((c.tc : Thread Cert.MixbIdeal.nD Cert.MixbIdeal.τ).loc Cert.MixbIdeal.main_arg11)) (m ((c.tc : Thread Cert.MixbIdeal.nD Cert.MixbIdeal.τ).loc Cert.MixbIdeal.main_arg12))).2.1 = (fun _ => 1#1)
    ∧ (Cert.Pre_mix_finite.fn (F := Ideal) (m ((c.tc : Thread Cert.MixbIdeal.nD Cert.MixbIdeal.τ).loc Cert.MixbIdeal.main_arg0)) (m ((c.tc : Thread Cert.MixbIdeal.nD Cert.MixbIdeal.τ).loc Cert.MixbIdeal.main_arg1)) (m ((c.tc : Thread Cert.MixbIdeal.nD Cert.MixbIdeal.τ).loc Cert.MixbIdeal.main_arg2)) (m ((c.tc : Thread Cert.MixbIdeal.nD Cert.MixbIdeal.τ).loc Cert.MixbIdeal.main_arg3)) (m ((c.tc : Thread Cert.MixbIdeal.nD Cert.MixbIdeal.τ).loc Cert.MixbIdeal.main_arg4)) (m ((c.tc : Thread Cert.MixbIdeal.nD Cert.MixbIdeal.τ).loc Cert.MixbIdeal.main_arg5)) (m ((c.tc : Thread Cert.MixbIdeal.nD Cert.MixbIdeal.τ).loc Cert.MixbIdeal.main_arg6)) (m ((c.tc : Thread Cert.MixbIdeal.nD Cert.MixbIdeal.τ).loc Cert.MixbIdeal.main_arg7)) (m ((c.tc : Thread Cert.MixbIdeal.nD Cert.MixbIdeal.τ).loc Cert.MixbIdeal.main_arg8)) (m ((c.tc : Thread Cert.MixbIdeal.nD Cert.MixbIdeal.τ).loc Cert.MixbIdeal.main_arg9)) (m ((c.tc : Thread Cert.MixbIdeal.nD Cert.MixbIdeal.τ).loc Cert.MixbIdeal.main_arg10)) (m ((c.tc : Thread Cert.MixbIdeal.nD Cert.MixbIdeal.τ).loc Cert.MixbIdeal.main_arg11)) (m ((c.tc : Thread Cert.MixbIdeal.nD Cert.MixbIdeal.τ).loc Cert.MixbIdeal.main_arg12))).2.2.1 = (fun _ => 1#1)
    ∧ (Cert.Pre_mix_finite.fn (F := Ideal) (m ((c.tc : Thread Cert.MixbIdeal.nD Cert.MixbIdeal.τ).loc Cert.MixbIdeal.main_arg0)) (m ((c.tc : Thread Cert.MixbIdeal.nD Cert.MixbIdeal.τ).loc Cert.MixbIdeal.main_arg1)) (m ((c.tc : Thread Cert.MixbIdeal.nD Cert.MixbIdeal.τ).loc Cert.MixbIdeal.main_arg2)) (m ((c.tc : Thread Cert.MixbIdeal.nD Cert.MixbIdeal.τ).loc Cert.MixbIdeal.main_arg3)) (m ((c.tc : Thread Cert.MixbIdeal.nD Cert.MixbIdeal.τ).loc Cert.MixbIdeal.main_arg4)) (m ((c.tc : Thread Cert.MixbIdeal.nD Cert.MixbIdeal.τ).loc Cert.MixbIdeal.main_arg5)) (m ((c.tc : Thread Cert.MixbIdeal.nD Cert.MixbIdeal.τ).loc Cert.MixbIdeal.main_arg6)) (m ((c.tc : Thread Cert.MixbIdeal.nD Cert.MixbIdeal.τ).loc Cert.MixbIdeal.main_arg7)) (m ((c.tc : Thread Cert.MixbIdeal.nD Cert.MixbIdeal.τ).loc Cert.MixbIdeal.main_arg8)) (m ((c.tc : Thread Cert.MixbIdeal.nD Cert.MixbIdeal.τ).loc Cert.MixbIdeal.main_arg9)) (m ((c.tc : Thread Cert.MixbIdeal.nD Cert.MixbIdeal.τ).loc Cert.MixbIdeal.main_arg10)) (m ((c.tc : Thread Cert.MixbIdeal.nD Cert.MixbIdeal.τ).loc Cert.MixbIdeal.main_arg11)) (m ((c.tc : Thread Cert.MixbIdeal.nD Cert.MixbIdeal.τ).loc Cert.MixbIdeal.main_arg12))).2.2.2.1 = (fun _ => 1#1)
    ∧ (Cert.Pre_mix_finite.fn (F := Ideal) (m ((c.tc : Thread Cert.MixbIdeal.nD Cert.MixbIdeal.τ).loc Cert.MixbIdeal.main_arg0)) (m ((c.tc : Thread Cert.MixbIdeal.nD Cert.MixbIdeal.τ).loc Cert.MixbIdeal.main_arg1)) (m ((c.tc : Thread Cert.MixbIdeal.nD Cert.MixbIdeal.τ).loc Cert.MixbIdeal.main_arg2)) (m ((c.tc : Thread Cert.MixbIdeal.nD Cert.MixbIdeal.τ).loc Cert.MixbIdeal.main_arg3)) (m ((c.tc : Thread Cert.MixbIdeal.nD Cert.MixbIdeal.τ).loc Cert.MixbIdeal.main_arg4)) (m ((c.tc : Thread Cert.MixbIdeal.nD Cert.MixbIdeal.τ).loc Cert.MixbIdeal.main_arg5)) (m ((c.tc : Thread Cert.MixbIdeal.nD Cert.MixbIdeal.τ).loc Cert.MixbIdeal.main_arg6)) (m ((c.tc : Thread Cert.MixbIdeal.nD Cert.MixbIdeal.τ).loc Cert.MixbIdeal.main_arg7)) (m ((c.tc : Thread Cert.MixbIdeal.nD Cert.MixbIdeal.τ).loc Cert.MixbIdeal.main_arg8)) (m ((c.tc : Thread Cert.MixbIdeal.nD Cert.MixbIdeal.τ).loc Cert.MixbIdeal.main_arg9)) (m ((c.tc : Thread Cert.MixbIdeal.nD Cert.MixbIdeal.τ).loc Cert.MixbIdeal.main_arg10)) (m ((c.tc : Thread Cert.MixbIdeal.nD Cert.MixbIdeal.τ).loc Cert.MixbIdeal.main_arg11)) (m ((c.tc : Thread Cert.MixbIdeal.nD Cert.MixbIdeal.τ).loc Cert.MixbIdeal.main_arg12))).2.2.2.2.1 = (fun _ => 1#1)
    ∧ (Cert.Pre_mix_finite.fn (F := Ideal) (m ((c.tc : Thread Cert.MixbIdeal.nD Cert.MixbIdeal.τ).loc Cert.MixbIdeal.main_arg0)) (m ((c.tc : Thread Cert.MixbIdeal.nD Cert.MixbIdeal.τ).loc Cert.MixbIdeal.main_arg1)) (m ((c.tc : Thread Cert.MixbIdeal.nD Cert.MixbIdeal.τ).loc Cert.MixbIdeal.main_arg2)) (m ((c.tc : Thread Cert.MixbIdeal.nD Cert.MixbIdeal.τ).loc Cert.MixbIdeal.main_arg3)) (m ((c.tc : Thread Cert.MixbIdeal.nD Cert.MixbIdeal.τ).loc Cert.MixbIdeal.main_arg4)) (m ((c.tc : Thread Cert.MixbIdeal.nD Cert.MixbIdeal.τ).loc Cert.MixbIdeal.main_arg5)) (m ((c.tc : Thread Cert.MixbIdeal.nD Cert.MixbIdeal.τ).loc Cert.MixbIdeal.main_arg6)) (m ((c.tc : Thread Cert.MixbIdeal.nD Cert.MixbIdeal.τ).loc Cert.MixbIdeal.main_arg7)) (m ((c.tc : Thread Cert.MixbIdeal.nD Cert.MixbIdeal.τ).loc Cert.MixbIdeal.main_arg8)) (m ((c.tc : Thread Cert.MixbIdeal.nD Cert.MixbIdeal.τ).loc Cert.MixbIdeal.main_arg9)) (m ((c.tc : Thread Cert.MixbIdeal.nD Cert.MixbIdeal.τ).loc Cert.MixbIdeal.main_arg10)) (m ((c.tc : Thread Cert.MixbIdeal.nD Cert.MixbIdeal.τ).loc Cert.MixbIdeal.main_arg11)) (m ((c.tc : Thread Cert.MixbIdeal.nD Cert.MixbIdeal.τ).loc Cert.MixbIdeal.main_arg12))).2.2.2.2.2.1 = (fun _ => 1#1)
    ∧ (Cert.Pre_mix_finite.fn (F := Ideal) (m ((c.tc : Thread Cert.MixbIdeal.nD Cert.MixbIdeal.τ).loc Cert.MixbIdeal.main_arg0)) (m ((c.tc : Thread Cert.MixbIdeal.nD Cert.MixbIdeal.τ).loc Cert.MixbIdeal.main_arg1)) (m ((c.tc : Thread Cert.MixbIdeal.nD Cert.MixbIdeal.τ).loc Cert.MixbIdeal.main_arg2)) (m ((c.tc : Thread Cert.MixbIdeal.nD Cert.MixbIdeal.τ).loc Cert.MixbIdeal.main_arg3)) (m ((c.tc : Thread Cert.MixbIdeal.nD Cert.MixbIdeal.τ).loc Cert.MixbIdeal.main_arg4)) (m ((c.tc : Thread Cert.MixbIdeal.nD Cert.MixbIdeal.τ).loc Cert.MixbIdeal.main_arg5)) (m ((c.tc : Thread Cert.MixbIdeal.nD Cert.MixbIdeal.τ).loc Cert.MixbIdeal.main_arg6)) (m ((c.tc : Thread Cert.MixbIdeal.nD Cert.MixbIdeal.τ).loc Cert.MixbIdeal.main_arg7)) (m ((c.tc : Thread Cert.MixbIdeal.nD Cert.MixbIdeal.τ).loc Cert.MixbIdeal.main_arg8)) (m ((c.tc : Thread Cert.MixbIdeal.nD Cert.MixbIdeal.τ).loc Cert.MixbIdeal.main_arg9)) (m ((c.tc : Thread Cert.MixbIdeal.nD Cert.MixbIdeal.τ).loc Cert.MixbIdeal.main_arg10)) (m ((c.tc : Thread Cert.MixbIdeal.nD Cert.MixbIdeal.τ).loc Cert.MixbIdeal.main_arg11)) (m ((c.tc : Thread Cert.MixbIdeal.nD Cert.MixbIdeal.τ).loc Cert.MixbIdeal.main_arg12))).2.2.2.2.2.2.1 = (fun _ => 1#1)
    ∧ (Cert.Pre_mix_finite.fn (F := Ideal) (m ((c.tc : Thread Cert.MixbIdeal.nD Cert.MixbIdeal.τ).loc Cert.MixbIdeal.main_arg0)) (m ((c.tc : Thread Cert.MixbIdeal.nD Cert.MixbIdeal.τ).loc Cert.MixbIdeal.main_arg1)) (m ((c.tc : Thread Cert.MixbIdeal.nD Cert.MixbIdeal.τ).loc Cert.MixbIdeal.main_arg2)) (m ((c.tc : Thread Cert.MixbIdeal.nD Cert.MixbIdeal.τ).loc Cert.MixbIdeal.main_arg3)) (m ((c.tc : Thread Cert.MixbIdeal.nD Cert.MixbIdeal.τ).loc Cert.MixbIdeal.main_arg4)) (m ((c.tc : Thread Cert.MixbIdeal.nD Cert.MixbIdeal.τ).loc Cert.MixbIdeal.main_arg5)) (m ((c.tc : Thread Cert.MixbIdeal.nD Cert.MixbIdeal.τ).loc Cert.MixbIdeal.main_arg6)) (m ((c.tc : Thread Cert.MixbIdeal.nD Cert.MixbIdeal.τ).loc Cert.MixbIdeal.main_arg7)) (m ((c.tc : Thread Cert.MixbIdeal.nD Cert.MixbIdeal.τ).loc Cert.MixbIdeal.main_arg8)) (m ((c.tc : Thread Cert.MixbIdeal.nD Cert.MixbIdeal.τ).loc Cert.MixbIdeal.main_arg9)) (m ((c.tc : Thread Cert.MixbIdeal.nD Cert.MixbIdeal.τ).loc Cert.MixbIdeal.main_arg10)) (m ((c.tc : Thread Cert.MixbIdeal.nD Cert.MixbIdeal.τ).loc Cert.MixbIdeal.main_arg11)) (m ((c.tc : Thread Cert.MixbIdeal.nD Cert.MixbIdeal.τ).loc Cert.MixbIdeal.main_arg12))).2.2.2.2.2.2.2.1 = (fun _ => 1#1)
    ∧ (Cert.Pre_mix_finite.fn (F := Ideal) (m ((c.tc : Thread Cert.MixbIdeal.nD Cert.MixbIdeal.τ).loc Cert.MixbIdeal.main_arg0)) (m ((c.tc : Thread Cert.MixbIdeal.nD Cert.MixbIdeal.τ).loc Cert.MixbIdeal.main_arg1)) (m ((c.tc : Thread Cert.MixbIdeal.nD Cert.MixbIdeal.τ).loc Cert.MixbIdeal.main_arg2)) (m ((c.tc : Thread Cert.MixbIdeal.nD Cert.MixbIdeal.τ).loc Cert.MixbIdeal.main_arg3)) (m ((c.tc : Thread Cert.MixbIdeal.nD Cert.MixbIdeal.τ).loc Cert.MixbIdeal.main_arg4)) (m ((c.tc : Thread Cert.MixbIdeal.nD Cert.MixbIdeal.τ).loc Cert.MixbIdeal.main_arg5)) (m ((c.tc : Thread Cert.MixbIdeal.nD Cert.MixbIdeal.τ).loc Cert.MixbIdeal.main_arg6)) (m ((c.tc : Thread Cert.MixbIdeal.nD Cert.MixbIdeal.τ).loc Cert.MixbIdeal.main_arg7)) (m ((c.tc : Thread Cert.MixbIdeal.nD Cert.MixbIdeal.τ).loc Cert.MixbIdeal.main_arg8)) (m ((c.tc : Thread Cert.MixbIdeal.nD Cert.MixbIdeal.τ).loc Cert.MixbIdeal.main_arg9)) (m ((c.tc : Thread Cert.MixbIdeal.nD Cert.MixbIdeal.τ).loc Cert.MixbIdeal.main_arg10)) (m ((c.tc : Thread Cert.MixbIdeal.nD Cert.MixbIdeal.τ).loc Cert.MixbIdeal.main_arg11)) (m ((c.tc : Thread Cert.MixbIdeal.nD Cert.MixbIdeal.τ).loc Cert.MixbIdeal.main_arg12))).2.2.2.2.2.2.2.2.1 = (fun _ => 1#1)
    ∧ (Cert.Pre_mix_finite.fn (F := Ideal) (m ((c.tc : Thread Cert.MixbIdeal.nD Cert.MixbIdeal.τ).loc Cert.MixbIdeal.main_arg0)) (m ((c.tc : Thread Cert.MixbIdeal.nD Cert.MixbIdeal.τ).loc Cert.MixbIdeal.main_arg1)) (m ((c.tc : Thread Cert.MixbIdeal.nD Cert.MixbIdeal.τ).loc Cert.MixbIdeal.main_arg2)) (m ((c.tc : Thread Cert.MixbIdeal.nD Cert.MixbIdeal.τ).loc Cert.MixbIdeal.main_arg3)) (m ((c.tc : Thread Cert.MixbIdeal.nD Cert.MixbIdeal.τ).loc Cert.MixbIdeal.main_arg4)) (m ((c.tc : Thread Cert.MixbIdeal.nD Cert.MixbIdeal.τ).loc Cert.MixbIdeal.main_arg5)) (m ((c.tc : Thread Cert.MixbIdeal.nD Cert.MixbIdeal.τ).loc Cert.MixbIdeal.main_arg6)) (m ((c.tc : Thread Cert.MixbIdeal.nD Cert.MixbIdeal.τ).loc Cert.MixbIdeal.main_arg7)) (m ((c.tc : Thread Cert.MixbIdeal.nD Cert.MixbIdeal.τ).loc Cert.MixbIdeal.main_arg8)) (m ((c.tc : Thread Cert.MixbIdeal.nD Cert.MixbIdeal.τ).loc Cert.MixbIdeal.main_arg9)) (m ((c.tc : Thread Cert.MixbIdeal.nD Cert.MixbIdeal.τ).loc Cert.MixbIdeal.main_arg10)) (m ((c.tc : Thread Cert.MixbIdeal.nD Cert.MixbIdeal.τ).loc Cert.MixbIdeal.main_arg11)) (m ((c.tc : Thread Cert.MixbIdeal.nD Cert.MixbIdeal.τ).loc Cert.MixbIdeal.main_arg12))).2.2.2.2.2.2.2.2.2.1 = (fun _ => 1#1)
    ∧ (Cert.Pre_mix_finite.fn (F := Ideal) (m ((c.tc : Thread Cert.MixbIdeal.nD Cert.MixbIdeal.τ).loc Cert.MixbIdeal.main_arg0)) (m ((c.tc : Thread Cert.MixbIdeal.nD Cert.MixbIdeal.τ).loc Cert.MixbIdeal.main_arg1)) (m ((c.tc : Thread Cert.MixbIdeal.nD Cert.MixbIdeal.τ).loc Cert.MixbIdeal.main_arg2)) (m ((c.tc : Thread Cert.MixbIdeal.nD Cert.MixbIdeal.τ).loc Cert.MixbIdeal.main_arg3)) (m ((c.tc : Thread Cert.MixbIdeal.nD Cert.MixbIdeal.τ).loc Cert.MixbIdeal.main_arg4)) (m ((c.tc : Thread Cert.MixbIdeal.nD Cert.MixbIdeal.τ).loc Cert.MixbIdeal.main_arg5)) (m ((c.tc : Thread Cert.MixbIdeal.nD Cert.MixbIdeal.τ).loc Cert.MixbIdeal.main_arg6)) (m ((c.tc : Thread Cert.MixbIdeal.nD Cert.MixbIdeal.τ).loc Cert.MixbIdeal.main_arg7)) (m ((c.tc : Thread Cert.MixbIdeal.nD Cert.MixbIdeal.τ).loc Cert.MixbIdeal.main_arg8)) (m ((c.tc : Thread Cert.MixbIdeal.nD Cert.MixbIdeal.τ).loc Cert.MixbIdeal.main_arg9)) (m ((c.tc : Thread Cert.MixbIdeal.nD Cert.MixbIdeal.τ).loc Cert.MixbIdeal.main_arg10)) (m ((c.tc : Thread Cert.MixbIdeal.nD Cert.MixbIdeal.τ).loc Cert.MixbIdeal.main_arg11)) (m ((c.tc : Thread Cert.MixbIdeal.nD Cert.MixbIdeal.τ).loc Cert.MixbIdeal.main_arg12))).2.2.2.2.2.2.2.2.2.2.1 = (fun _ => 1#1)
    ∧ (Cert.Pre_mix_finite.fn (F := Ideal) (m ((c.tc : Thread Cert.MixbIdeal.nD Cert.MixbIdeal.τ).loc Cert.MixbIdeal.main_arg0)) (m ((c.tc : Thread Cert.MixbIdeal.nD Cert.MixbIdeal.τ).loc Cert.MixbIdeal.main_arg1)) (m ((c.tc : Thread Cert.MixbIdeal.nD Cert.MixbIdeal.τ).loc Cert.MixbIdeal.main_arg2)) (m ((c.tc : Thread Cert.MixbIdeal.nD Cert.MixbIdeal.τ).loc Cert.MixbIdeal.main_arg3)) (m ((c.tc : Thread Cert.MixbIdeal.nD Cert.MixbIdeal.τ).loc Cert.MixbIdeal.main_arg4)) (m ((c.tc : Thread Cert.MixbIdeal.nD Cert.MixbIdeal.τ).loc Cert.MixbIdeal.main_arg5)) (m ((c.tc : Thread Cert.MixbIdeal.nD Cert.MixbIdeal.τ).loc Cert.MixbIdeal.main_arg6)) (m ((c.tc : Thread Cert.MixbIdeal.nD Cert.MixbIdeal.τ).loc Cert.MixbIdeal.main_arg7)) (m ((c.tc : Thread Cert.MixbIdeal.nD Cert.MixbIdeal.τ).loc Cert.MixbIdeal.main_arg8)) (m ((c.tc : Thread Cert.MixbIdeal.nD Cert.MixbIdeal.τ).loc Cert.MixbIdeal.main_arg9)) (m ((c.tc : Thread Cert.MixbIdeal.nD Cert.MixbIdeal.τ).loc Cert.MixbIdeal.main_arg10)) (m ((c.tc : Thread Cert.MixbIdeal.nD Cert.MixbIdeal.τ).loc Cert.MixbIdeal.main_arg11)) (m ((c.tc : Thread Cert.MixbIdeal.nD Cert.MixbIdeal.τ).loc Cert.MixbIdeal.main_arg12))).2.2.2.2.2.2.2.2.2.2.2.1 = (fun _ => 1#1)
    ∧ (Cert.Pre_mix_finite.fn (F := Ideal) (m ((c.tc : Thread Cert.MixbIdeal.nD Cert.MixbIdeal.τ).loc Cert.MixbIdeal.main_arg0)) (m ((c.tc : Thread Cert.MixbIdeal.nD Cert.MixbIdeal.τ).loc Cert.MixbIdeal.main_arg1)) (m ((c.tc : Thread Cert.MixbIdeal.nD Cert.MixbIdeal.τ).loc Cert.MixbIdeal.main_arg2)) (m ((c.tc : Thread Cert.MixbIdeal.nD Cert.MixbIdeal.τ).loc Cert.MixbIdeal.main_arg3)) (m ((c.tc : Thread Cert.MixbIdeal.nD Cert.MixbIdeal.τ).loc Cert.MixbIdeal.main_arg4)) (m ((c.tc : Thread Cert.MixbIdeal.nD Cert.MixbIdeal.τ).loc Cert.MixbIdeal.main_arg5)) (m ((c.tc : Thread Cert.MixbIdeal.nD Cert.MixbIdeal.τ).loc Cert.MixbIdeal.main_arg6)) (m ((c.tc : Thread Cert.MixbIdeal.nD Cert.MixbIdeal.τ).loc Cert.MixbIdeal.main_arg7)) (m ((c.tc : Thread Cert.MixbIdeal.nD Cert.MixbIdeal.τ).loc Cert.MixbIdeal.main_arg8)) (m ((c.tc : Thread Cert.MixbIdeal.nD Cert.MixbIdeal.τ).loc Cert.MixbIdeal.main_arg9)) (m ((c.tc : Thread Cert.MixbIdeal.nD Cert.MixbIdeal.τ).loc Cert.MixbIdeal.main_arg10)) (m ((c.tc : Thread Cert.MixbIdeal.nD Cert.MixbIdeal.τ).loc Cert.MixbIdeal.main_arg11)) (m ((c.tc : Thread Cert.MixbIdeal.nD Cert.MixbIdeal.τ).loc Cert.MixbIdeal.main_arg12))).2.2.2.2.2.2.2.2.2.2.2.2 = (fun _ => 1#1)

def Pre_MixbRefIdeal (m : (ℓ : Loc Cert.MixbRefIdeal.nD Cert.MixbRefIdeal.τ Cert.MixbRefIdeal.sig) → Buf (Elt Ideal) ℓ) : Prop :=
  True

def Pre_MixbRefIdeal_mix_finite [hPre_mix_finite : Cert.Pre_mix_finite.Facts] (m : (ℓ : Loc Cert.MixbRefIdeal.nD Cert.MixbRefIdeal.τ Cert.MixbRefIdeal.sig) → Buf (Elt Ideal) ℓ) : Prop :=
  ∀ c : Dev Cert.MixbRefIdeal.nD,
    (Cert.Pre_mix_finite.fn (F := Ideal) (m ((c.tc : Thread Cert.MixbRefIdeal.nD Cert.MixbRefIdeal.τ).loc Cert.MixbRefIdeal.main_arg0)) (m ((c.tc : Thread Cert.MixbRefIdeal.nD Cert.MixbRefIdeal.τ).loc Cert.MixbRefIdeal.main_arg1)) (m ((c.tc : Thread Cert.MixbRefIdeal.nD Cert.MixbRefIdeal.τ).loc Cert.MixbRefIdeal.main_arg2)) (m ((c.tc : Thread Cert.MixbRefIdeal.nD Cert.MixbRefIdeal.τ).loc Cert.MixbRefIdeal.main_arg3)) (m ((c.tc : Thread Cert.MixbRefIdeal.nD Cert.MixbRefIdeal.τ).loc Cert.MixbRefIdeal.main_arg4)) (m ((c.tc : Thread Cert.MixbRefIdeal.nD Cert.MixbRefIdeal.τ).loc Cert.MixbRefIdeal.main_arg5)) (m ((c.tc : Thread Cert.MixbRefIdeal.nD Cert.MixbRefIdeal.τ).loc Cert.MixbRefIdeal.main_arg6)) (m ((c.tc : Thread Cert.MixbRefIdeal.nD Cert.MixbRefIdeal.τ).loc Cert.MixbRefIdeal.main_arg7)) (m ((c.tc : Thread Cert.MixbRefIdeal.nD Cert.MixbRefIdeal.τ).loc Cert.MixbRefIdeal.main_arg8)) (m ((c.tc : Thread Cert.MixbRefIdeal.nD Cert.MixbRefIdeal.τ).loc Cert.MixbRefIdeal.main_arg9)) (m ((c.tc : Thread Cert.MixbRefIdeal.nD Cert.MixbRefIdeal.τ).loc Cert.MixbRefIdeal.main_arg10)) (m ((c.tc : Thread Cert.MixbRefIdeal.nD Cert.MixbRefIdeal.τ).loc Cert.MixbRefIdeal.main_arg11)) (m ((c.tc : Thread Cert.MixbRefIdeal.nD Cert.MixbRefIdeal.τ).loc Cert.MixbRefIdeal.main_arg12))).1 = (fun _ => 1#1)
    ∧ (Cert.Pre_mix_finite.fn (F := Ideal) (m ((c.tc : Thread Cert.MixbRefIdeal.nD Cert.MixbRefIdeal.τ).loc Cert.MixbRefIdeal.main_arg0)) (m ((c.tc : Thread Cert.MixbRefIdeal.nD Cert.MixbRefIdeal.τ).loc Cert.MixbRefIdeal.main_arg1)) (m ((c.tc : Thread Cert.MixbRefIdeal.nD Cert.MixbRefIdeal.τ).loc Cert.MixbRefIdeal.main_arg2)) (m ((c.tc : Thread Cert.MixbRefIdeal.nD Cert.MixbRefIdeal.τ).loc Cert.MixbRefIdeal.main_arg3)) (m ((c.tc : Thread Cert.MixbRefIdeal.nD Cert.MixbRefIdeal.τ).loc Cert.MixbRefIdeal.main_arg4)) (m ((c.tc : Thread Cert.MixbRefIdeal.nD Cert.MixbRefIdeal.τ).loc Cert.MixbRefIdeal.main_arg5)) (m ((c.tc : Thread Cert.MixbRefIdeal.nD Cert.MixbRefIdeal.τ).loc Cert.MixbRefIdeal.main_arg6)) (m ((c.tc : Thread Cert.MixbRefIdeal.nD Cert.MixbRefIdeal.τ).loc Cert.MixbRefIdeal.main_arg7)) (m ((c.tc : Thread Cert.MixbRefIdeal.nD Cert.MixbRefIdeal.τ).loc Cert.MixbRefIdeal.main_arg8)) (m ((c.tc : Thread Cert.MixbRefIdeal.nD Cert.MixbRefIdeal.τ).loc Cert.MixbRefIdeal.main_arg9)) (m ((c.tc : Thread Cert.MixbRefIdeal.nD Cert.MixbRefIdeal.τ).loc Cert.MixbRefIdeal.main_arg10)) (m ((c.tc : Thread Cert.MixbRefIdeal.nD Cert.MixbRefIdeal.τ).loc Cert.MixbRefIdeal.main_arg11)) (m ((c.tc : Thread Cert.MixbRefIdeal.nD Cert.MixbRefIdeal.τ).loc Cert.MixbRefIdeal.main_arg12))).2.1 = (fun _ => 1#1)
    ∧ (Cert.Pre_mix_finite.fn (F := Ideal) (m ((c.tc : Thread Cert.MixbRefIdeal.nD Cert.MixbRefIdeal.τ).loc Cert.MixbRefIdeal.main_arg0)) (m ((c.tc : Thread Cert.MixbRefIdeal.nD Cert.MixbRefIdeal.τ).loc Cert.MixbRefIdeal.main_arg1)) (m ((c.tc : Thread Cert.MixbRefIdeal.nD Cert.MixbRefIdeal.τ).loc Cert.MixbRefIdeal.main_arg2)) (m ((c.tc : Thread Cert.MixbRefIdeal.nD Cert.MixbRefIdeal.τ).loc Cert.MixbRefIdeal.main_arg3)) (m ((c.tc : Thread Cert.MixbRefIdeal.nD Cert.MixbRefIdeal.τ).loc Cert.MixbRefIdeal.main_arg4)) (m ((c.tc : Thread Cert.MixbRefIdeal.nD Cert.MixbRefIdeal.τ).loc Cert.MixbRefIdeal.main_arg5)) (m ((c.tc : Thread Cert.MixbRefIdeal.nD Cert.MixbRefIdeal.τ).loc Cert.MixbRefIdeal.main_arg6)) (m ((c.tc : Thread Cert.MixbRefIdeal.nD Cert.MixbRefIdeal.τ).loc Cert.MixbRefIdeal.main_arg7)) (m ((c.tc : Thread Cert.MixbRefIdeal.nD Cert.MixbRefIdeal.τ).loc Cert.MixbRefIdeal.main_arg8)) (m ((c.tc : Thread Cert.MixbRefIdeal.nD Cert.MixbRefIdeal.τ).loc Cert.MixbRefIdeal.main_arg9)) (m ((c.tc : Thread Cert.MixbRefIdeal.nD Cert.MixbRefIdeal.τ).loc Cert.MixbRefIdeal.main_arg10)) (m ((c.tc : Thread Cert.MixbRefIdeal.nD Cert.MixbRefIdeal.τ).loc Cert.MixbRefIdeal.main_arg11)) (m ((c.tc : Thread Cert.MixbRefIdeal.nD Cert.MixbRefIdeal.τ).loc Cert.MixbRefIdeal.main_arg12))).2.2.1 = (fun _ => 1#1)
    ∧ (Cert.Pre_mix_finite.fn (F := Ideal) (m ((c.tc : Thread Cert.MixbRefIdeal.nD Cert.MixbRefIdeal.τ).loc Cert.MixbRefIdeal.main_arg0)) (m ((c.tc : Thread Cert.MixbRefIdeal.nD Cert.MixbRefIdeal.τ).loc Cert.MixbRefIdeal.main_arg1)) (m ((c.tc : Thread Cert.MixbRefIdeal.nD Cert.MixbRefIdeal.τ).loc Cert.MixbRefIdeal.main_arg2)) (m ((c.tc : Thread Cert.MixbRefIdeal.nD Cert.MixbRefIdeal.τ).loc Cert.MixbRefIdeal.main_arg3)) (m ((c.tc : Thread Cert.MixbRefIdeal.nD Cert.MixbRefIdeal.τ).loc Cert.MixbRefIdeal.main_arg4)) (m ((c.tc : Thread Cert.MixbRefIdeal.nD Cert.MixbRefIdeal.τ).loc Cert.MixbRefIdeal.main_arg5)) (m ((c.tc : Thread Cert.MixbRefIdeal.nD Cert.MixbRefIdeal.τ).loc Cert.MixbRefIdeal.main_arg6)) (m ((c.tc : Thread Cert.MixbRefIdeal.nD Cert.MixbRefIdeal.τ).loc Cert.MixbRefIdeal.main_arg7)) (m ((c.tc : Thread Cert.MixbRefIdeal.nD Cert.MixbRefIdeal.τ).loc Cert.MixbRefIdeal.main_arg8)) (m ((c.tc : Thread Cert.MixbRefIdeal.nD Cert.MixbRefIdeal.τ).loc Cert.MixbRefIdeal.main_arg9)) (m ((c.tc : Thread Cert.MixbRefIdeal.nD Cert.MixbRefIdeal.τ).loc Cert.MixbRefIdeal.main_arg10)) (m ((c.tc : Thread Cert.MixbRefIdeal.nD Cert.MixbRefIdeal.τ).loc Cert.MixbRefIdeal.main_arg11)) (m ((c.tc : Thread Cert.MixbRefIdeal.nD Cert.MixbRefIdeal.τ).loc Cert.MixbRefIdeal.main_arg12))).2.2.2.1 = (fun _ => 1#1)
    ∧ (Cert.Pre_mix_finite.fn (F := Ideal) (m ((c.tc : Thread Cert.MixbRefIdeal.nD Cert.MixbRefIdeal.τ).loc Cert.MixbRefIdeal.main_arg0)) (m ((c.tc : Thread Cert.MixbRefIdeal.nD Cert.MixbRefIdeal.τ).loc Cert.MixbRefIdeal.main_arg1)) (m ((c.tc : Thread Cert.MixbRefIdeal.nD Cert.MixbRefIdeal.τ).loc Cert.MixbRefIdeal.main_arg2)) (m ((c.tc : Thread Cert.MixbRefIdeal.nD Cert.MixbRefIdeal.τ).loc Cert.MixbRefIdeal.main_arg3)) (m ((c.tc : Thread Cert.MixbRefIdeal.nD Cert.MixbRefIdeal.τ).loc Cert.MixbRefIdeal.main_arg4)) (m ((c.tc : Thread Cert.MixbRefIdeal.nD Cert.MixbRefIdeal.τ).loc Cert.MixbRefIdeal.main_arg5)) (m ((c.tc : Thread Cert.MixbRefIdeal.nD Cert.MixbRefIdeal.τ).loc Cert.MixbRefIdeal.main_arg6)) (m ((c.tc : Thread Cert.MixbRefIdeal.nD Cert.MixbRefIdeal.τ).loc Cert.MixbRefIdeal.main_arg7)) (m ((c.tc : Thread Cert.MixbRefIdeal.nD Cert.MixbRefIdeal.τ).loc Cert.MixbRefIdeal.main_arg8)) (m ((c.tc : Thread Cert.MixbRefIdeal.nD Cert.MixbRefIdeal.τ).loc Cert.MixbRefIdeal.main_arg9)) (m ((c.tc : Thread Cert.MixbRefIdeal.nD Cert.MixbRefIdeal.τ).loc Cert.MixbRefIdeal.main_arg10)) (m ((c.tc : Thread Cert.MixbRefIdeal.nD Cert.MixbRefIdeal.τ).loc Cert.MixbRefIdeal.main_arg11)) (m ((c.tc : Thread Cert.MixbRefIdeal.nD Cert.MixbRefIdeal.τ).loc Cert.MixbRefIdeal.main_arg12))).2.2.2.2.1 = (fun _ => 1#1)
    ∧ (Cert.Pre_mix_finite.fn (F := Ideal) (m ((c.tc : Thread Cert.MixbRefIdeal.nD Cert.MixbRefIdeal.τ).loc Cert.MixbRefIdeal.main_arg0)) (m ((c.tc : Thread Cert.MixbRefIdeal.nD Cert.MixbRefIdeal.τ).loc Cert.MixbRefIdeal.main_arg1)) (m ((c.tc : Thread Cert.MixbRefIdeal.nD Cert.MixbRefIdeal.τ).loc Cert.MixbRefIdeal.main_arg2)) (m ((c.tc : Thread Cert.MixbRefIdeal.nD Cert.MixbRefIdeal.τ).loc Cert.MixbRefIdeal.main_arg3)) (m ((c.tc : Thread Cert.MixbRefIdeal.nD Cert.MixbRefIdeal.τ).loc Cert.MixbRefIdeal.main_arg4)) (m ((c.tc : Thread Cert.MixbRefIdeal.nD Cert.MixbRefIdeal.τ).loc Cert.MixbRefIdeal.main_arg5)) (m ((c.tc : Thread Cert.MixbRefIdeal.nD Cert.MixbRefIdeal.τ).loc Cert.MixbRefIdeal.main_arg6)) (m ((c.tc : Thread Cert.MixbRefIdeal.nD Cert.MixbRefIdeal.τ).loc Cert.MixbRefIdeal.main_arg7)) (m ((c.tc : Thread Cert.MixbRefIdeal.nD Cert.MixbRefIdeal.τ).loc Cert.MixbRefIdeal.main_arg8)) (m ((c.tc : Thread Cert.MixbRefIdeal.nD Cert.MixbRefIdeal.τ).loc Cert.MixbRefIdeal.main_arg9)) (m ((c.tc : Thread Cert.MixbRefIdeal.nD Cert.MixbRefIdeal.τ).loc Cert.MixbRefIdeal.main_arg10)) (m ((c.tc : Thread Cert.MixbRefIdeal.nD Cert.MixbRefIdeal.τ).loc Cert.MixbRefIdeal.main_arg11)) (m ((c.tc : Thread Cert.MixbRefIdeal.nD Cert.MixbRefIdeal.τ).loc Cert.MixbRefIdeal.main_arg12))).2.2.2.2.2.1 = (fun _ => 1#1)
    ∧ (Cert.Pre_mix_finite.fn (F := Ideal) (m ((c.tc : Thread Cert.MixbRefIdeal.nD Cert.MixbRefIdeal.τ).loc Cert.MixbRefIdeal.main_arg0)) (m ((c.tc : Thread Cert.MixbRefIdeal.nD Cert.MixbRefIdeal.τ).loc Cert.MixbRefIdeal.main_arg1)) (m ((c.tc : Thread Cert.MixbRefIdeal.nD Cert.MixbRefIdeal.τ).loc Cert.MixbRefIdeal.main_arg2)) (m ((c.tc : Thread Cert.MixbRefIdeal.nD Cert.MixbRefIdeal.τ).loc Cert.MixbRefIdeal.main_arg3)) (m ((c.tc : Thread Cert.MixbRefIdeal.nD Cert.MixbRefIdeal.τ).loc Cert.MixbRefIdeal.main_arg4)) (m ((c.tc : Thread Cert.MixbRefIdeal.nD Cert.MixbRefIdeal.τ).loc Cert.MixbRefIdeal.main_arg5)) (m ((c.tc : Thread Cert.MixbRefIdeal.nD Cert.MixbRefIdeal.τ).loc Cert.MixbRefIdeal.main_arg6)) (m ((c.tc : Thread Cert.MixbRefIdeal.nD Cert.MixbRefIdeal.τ).loc Cert.MixbRefIdeal.main_arg7)) (m ((c.tc : Thread Cert.MixbRefIdeal.nD Cert.MixbRefIdeal.τ).loc Cert.MixbRefIdeal.main_arg8)) (m ((c.tc : Thread Cert.MixbRefIdeal.nD Cert.MixbRefIdeal.τ).loc Cert.MixbRefIdeal.main_arg9)) (m ((c.tc : Thread Cert.MixbRefIdeal.nD Cert.MixbRefIdeal.τ).loc Cert.MixbRefIdeal.main_arg10)) (m ((c.tc : Thread Cert.MixbRefIdeal.nD Cert.MixbRefIdeal.τ).loc Cert.MixbRefIdeal.main_arg11)) (m ((c.tc : Thread Cert.MixbRefIdeal.nD Cert.MixbRefIdeal.τ).loc Cert.MixbRefIdeal.main_arg12))).2.2.2.2.2.2.1 = (fun _ => 1#1)
    ∧ (Cert.Pre_mix_finite.fn (F := Ideal) (m ((c.tc : Thread Cert.MixbRefIdeal.nD Cert.MixbRefIdeal.τ).loc Cert.MixbRefIdeal.main_arg0)) (m ((c.tc : Thread Cert.MixbRefIdeal.nD Cert.MixbRefIdeal.τ).loc Cert.MixbRefIdeal.main_arg1)) (m ((c.tc : Thread Cert.MixbRefIdeal.nD Cert.MixbRefIdeal.τ).loc Cert.MixbRefIdeal.main_arg2)) (m ((c.tc : Thread Cert.MixbRefIdeal.nD Cert.MixbRefIdeal.τ).loc Cert.MixbRefIdeal.main_arg3)) (m ((c.tc : Thread Cert.MixbRefIdeal.nD Cert.MixbRefIdeal.τ).loc Cert.MixbRefIdeal.main_arg4)) (m ((c.tc : Thread Cert.MixbRefIdeal.nD Cert.MixbRefIdeal.τ).loc Cert.MixbRefIdeal.main_arg5)) (m ((c.tc : Thread Cert.MixbRefIdeal.nD Cert.MixbRefIdeal.τ).loc Cert.MixbRefIdeal.main_arg6)) (m ((c.tc : Thread Cert.MixbRefIdeal.nD Cert.MixbRefIdeal.τ).loc Cert.MixbRefIdeal.main_arg7)) (m ((c.tc : Thread Cert.MixbRefIdeal.nD Cert.MixbRefIdeal.τ).loc Cert.MixbRefIdeal.main_arg8)) (m ((c.tc : Thread Cert.MixbRefIdeal.nD Cert.MixbRefIdeal.τ).loc Cert.MixbRefIdeal.main_arg9)) (m ((c.tc : Thread Cert.MixbRefIdeal.nD Cert.MixbRefIdeal.τ).loc Cert.MixbRefIdeal.main_arg10)) (m ((c.tc : Thread Cert.MixbRefIdeal.nD Cert.MixbRefIdeal.τ).loc Cert.MixbRefIdeal.main_arg11)) (m ((c.tc : Thread Cert.MixbRefIdeal.nD Cert.MixbRefIdeal.τ).loc Cert.MixbRefIdeal.main_arg12))).2.2.2.2.2.2.2.1 = (fun _ => 1#1)
    ∧ (Cert.Pre_mix_finite.fn (F := Ideal) (m ((c.tc : Thread Cert.MixbRefIdeal.nD Cert.MixbRefIdeal.τ).loc Cert.MixbRefIdeal.main_arg0)) (m ((c.tc : Thread Cert.MixbRefIdeal.nD Cert.MixbRefIdeal.τ).loc Cert.MixbRefIdeal.main_arg1)) (m ((c.tc : Thread Cert.MixbRefIdeal.nD Cert.MixbRefIdeal.τ).loc Cert.MixbRefIdeal.main_arg2)) (m ((c.tc : Thread Cert.MixbRefIdeal.nD Cert.MixbRefIdeal.τ).loc Cert.MixbRefIdeal.main_arg3)) (m ((c.tc : Thread Cert.MixbRefIdeal.nD Cert.MixbRefIdeal.τ).loc Cert.MixbRefIdeal.main_arg4)) (m ((c.tc : Thread Cert.MixbRefIdeal.nD Cert.MixbRefIdeal.τ).loc Cert.MixbRefIdeal.main_arg5)) (m ((c.tc : Thread Cert.MixbRefIdeal.nD Cert.MixbRefIdeal.τ).loc Cert.MixbRefIdeal.main_arg6)) (m ((c.tc : Thread Cert.MixbRefIdeal.nD Cert.MixbRefIdeal.τ).loc Cert.MixbRefIdeal.main_arg7)) (m ((c.tc : Thread Cert.MixbRefIdeal.nD Cert.MixbRefIdeal.τ).loc Cert.MixbRefIdeal.main_arg8)) (m ((c.tc : Thread Cert.MixbRefIdeal.nD Cert.MixbRefIdeal.τ).loc Cert.MixbRefIdeal.main_arg9)) (m ((c.tc : Thread Cert.MixbRefIdeal.nD Cert.MixbRefIdeal.τ).loc Cert.MixbRefIdeal.main_arg10)) (m ((c.tc : Thread Cert.MixbRefIdeal.nD Cert.MixbRefIdeal.τ).loc Cert.MixbRefIdeal.main_arg11)) (m ((c.tc : Thread Cert.MixbRefIdeal.nD Cert.MixbRefIdeal.τ).loc Cert.MixbRefIdeal.main_arg12))).2.2.2.2.2.2.2.2.1 = (fun _ => 1#1)
    ∧ (Cert.Pre_mix_finite.fn (F := Ideal) (m ((c.tc : Thread Cert.MixbRefIdeal.nD Cert.MixbRefIdeal.τ).loc Cert.MixbRefIdeal.main_arg0)) (m ((c.tc : Thread Cert.MixbRefIdeal.nD Cert.MixbRefIdeal.τ).loc Cert.MixbRefIdeal.main_arg1)) (m ((c.tc : Thread Cert.MixbRefIdeal.nD Cert.MixbRefIdeal.τ).loc Cert.MixbRefIdeal.main_arg2)) (m ((c.tc : Thread Cert.MixbRefIdeal.nD Cert.MixbRefIdeal.τ).loc Cert.MixbRefIdeal.main_arg3)) (m ((c.tc : Thread Cert.MixbRefIdeal.nD Cert.MixbRefIdeal.τ).loc Cert.MixbRefIdeal.main_arg4)) (m ((c.tc : Thread Cert.MixbRefIdeal.nD Cert.MixbRefIdeal.τ).loc Cert.MixbRefIdeal.main_arg5)) (m ((c.tc : Thread Cert.MixbRefIdeal.nD Cert.MixbRefIdeal.τ).loc Cert.MixbRefIdeal.main_arg6)) (m ((c.tc : Thread Cert.MixbRefIdeal.nD Cert.MixbRefIdeal.τ).loc Cert.MixbRefIdeal.main_arg7)) (m ((c.tc : Thread Cert.MixbRefIdeal.nD Cert.MixbRefIdeal.τ).loc Cert.MixbRefIdeal.main_arg8)) (m ((c.tc : Thread Cert.MixbRefIdeal.nD Cert.MixbRefIdeal.τ).loc Cert.MixbRefIdeal.main_arg9)) (m ((c.tc : Thread Cert.MixbRefIdeal.nD Cert.MixbRefIdeal.τ).loc Cert.MixbRefIdeal.main_arg10)) (m ((c.tc : Thread Cert.MixbRefIdeal.nD Cert.MixbRefIdeal.τ).loc Cert.MixbRefIdeal.main_arg11)) (m ((c.tc : Thread Cert.MixbRefIdeal.nD Cert.MixbRefIdeal.τ).loc Cert.MixbRefIdeal.main_arg12))).2.2.2.2.2.2.2.2.2.1 = (fun _ => 1#1)
    ∧ (Cert.Pre_mix_finite.fn (F := Ideal) (m ((c.tc : Thread Cert.MixbRefIdeal.nD Cert.MixbRefIdeal.τ).loc Cert.MixbRefIdeal.main_arg0)) (m ((c.tc : Thread Cert.MixbRefIdeal.nD Cert.MixbRefIdeal.τ).loc Cert.MixbRefIdeal.main_arg1)) (m ((c.tc : Thread Cert.MixbRefIdeal.nD Cert.MixbRefIdeal.τ).loc Cert.MixbRefIdeal.main_arg2)) (m ((c.tc : Thread Cert.MixbRefIdeal.nD Cert.MixbRefIdeal.τ).loc Cert.MixbRefIdeal.main_arg3)) (m ((c.tc : Thread Cert.MixbRefIdeal.nD Cert.MixbRefIdeal.τ).loc Cert.MixbRefIdeal.main_arg4)) (m ((c.tc : Thread Cert.MixbRefIdeal.nD Cert.MixbRefIdeal.τ).loc Cert.MixbRefIdeal.main_arg5)) (m ((c.tc : Thread Cert.MixbRefIdeal.nD Cert.MixbRefIdeal.τ).loc Cert.MixbRefIdeal.main_arg6)) (m ((c.tc : Thread Cert.MixbRefIdeal.nD Cert.MixbRefIdeal.τ).loc Cert.MixbRefIdeal.main_arg7)) (m ((c.tc : Thread Cert.MixbRefIdeal.nD Cert.MixbRefIdeal.τ).loc Cert.MixbRefIdeal.main_arg8)) (m ((c.tc : Thread Cert.MixbRefIdeal.nD Cert.MixbRefIdeal.τ).loc Cert.MixbRefIdeal.main_arg9)) (m ((c.tc : Thread Cert.MixbRefIdeal.nD Cert.MixbRefIdeal.τ).loc Cert.MixbRefIdeal.main_arg10)) (m ((c.tc : Thread Cert.MixbRefIdeal.nD Cert.MixbRefIdeal.τ).loc Cert.MixbRefIdeal.main_arg11)) (m ((c.tc : Thread Cert.MixbRefIdeal.nD Cert.MixbRefIdeal.τ).loc Cert.MixbRefIdeal.main_arg12))).2.2.2.2.2.2.2.2.2.2.1 = (fun _ => 1#1)
    ∧ (Cert.Pre_mix_finite.fn (F := Ideal) (m ((c.tc : Thread Cert.MixbRefIdeal.nD Cert.MixbRefIdeal.τ).loc Cert.MixbRefIdeal.main_arg0)) (m ((c.tc : Thread Cert.MixbRefIdeal.nD Cert.MixbRefIdeal.τ).loc Cert.MixbRefIdeal.main_arg1)) (m ((c.tc : Thread Cert.MixbRefIdeal.nD Cert.MixbRefIdeal.τ).loc Cert.MixbRefIdeal.main_arg2)) (m ((c.tc : Thread Cert.MixbRefIdeal.nD Cert.MixbRefIdeal.τ).loc Cert.MixbRefIdeal.main_arg3)) (m ((c.tc : Thread Cert.MixbRefIdeal.nD Cert.MixbRefIdeal.τ).loc Cert.MixbRefIdeal.main_arg4)) (m ((c.tc : Thread Cert.MixbRefIdeal.nD Cert.MixbRefIdeal.τ).loc Cert.MixbRefIdeal.main_arg5)) (m ((c.tc : Thread Cert.MixbRefIdeal.nD Cert.MixbRefIdeal.τ).loc Cert.MixbRefIdeal.main_arg6)) (m ((c.tc : Thread Cert.MixbRefIdeal.nD Cert.MixbRefIdeal.τ).loc Cert.MixbRefIdeal.main_arg7)) (m ((c.tc : Thread Cert.MixbRefIdeal.nD Cert.MixbRefIdeal.τ).loc Cert.MixbRefIdeal.main_arg8)) (m ((c.tc : Thread Cert.MixbRefIdeal.nD Cert.MixbRefIdeal.τ).loc Cert.MixbRefIdeal.main_arg9)) (m ((c.tc : Thread Cert.MixbRefIdeal.nD Cert.MixbRefIdeal.τ).loc Cert.MixbRefIdeal.main_arg10)) (m ((c.tc : Thread Cert.MixbRefIdeal.nD Cert.MixbRefIdeal.τ).loc Cert.MixbRefIdeal.main_arg11)) (m ((c.tc : Thread Cert.MixbRefIdeal.nD Cert.MixbRefIdeal.τ).loc Cert.MixbRefIdeal.main_arg12))).2.2.2.2.2.2.2.2.2.2.2.1 = (fun _ => 1#1)
    ∧ (Cert.Pre_mix_finite.fn (F := Ideal) (m ((c.tc : Thread Cert.MixbRefIdeal.nD Cert.MixbRefIdeal.τ).loc Cert.MixbRefIdeal.main_arg0)) (m ((c.tc : Thread Cert.MixbRefIdeal.nD Cert.MixbRefIdeal.τ).loc Cert.MixbRefIdeal.main_arg1)) (m ((c.tc : Thread Cert.MixbRefIdeal.nD Cert.MixbRefIdeal.τ).loc Cert.MixbRefIdeal.main_arg2)) (m ((c.tc : Thread Cert.MixbRefIdeal.nD Cert.MixbRefIdeal.τ).loc Cert.MixbRefIdeal.main_arg3)) (m ((c.tc : Thread Cert.MixbRefIdeal.nD Cert.MixbRefIdeal.τ).loc Cert.MixbRefIdeal.main_arg4)) (m ((c.tc : Thread Cert.MixbRefIdeal.nD Cert.MixbRefIdeal.τ).loc Cert.MixbRefIdeal.main_arg5)) (m ((c.tc : Thread Cert.MixbRefIdeal.nD Cert.MixbRefIdeal.τ).loc Cert.MixbRefIdeal.main_arg6)) (m ((c.tc : Thread Cert.MixbRefIdeal.nD Cert.MixbRefIdeal.τ).loc Cert.MixbRefIdeal.main_arg7)) (m ((c.tc : Thread Cert.MixbRefIdeal.nD Cert.MixbRefIdeal.τ).loc Cert.MixbRefIdeal.main_arg8)) (m ((c.tc : Thread Cert.MixbRefIdeal.nD Cert.MixbRefIdeal.τ).loc Cert.MixbRefIdeal.main_arg9)) (m ((c.tc : Thread Cert.MixbRefIdeal.nD Cert.MixbRefIdeal.τ).loc Cert.MixbRefIdeal.main_arg10)) (m ((c.tc : Thread Cert.MixbRefIdeal.nD Cert.MixbRefIdeal.τ).loc Cert.MixbRefIdeal.main_arg11)) (m ((c.tc : Thread Cert.MixbRefIdeal.nD Cert.MixbRefIdeal.τ).loc Cert.MixbRefIdeal.main_arg12))).2.2.2.2.2.2.2.2.2.2.2.2 = (fun _ => 1#1)

def Pre_Red (m : (ℓ : Loc Cert.Red.nD Cert.Red.τ Cert.Red.sig) → Buf (Elt Bits) ℓ) : Prop :=
  True

def Pre_RedIdeal (m : (ℓ : Loc Cert.RedIdeal.nD Cert.RedIdeal.τ Cert.RedIdeal.sig) → Buf (Elt Ideal) ℓ) : Prop :=
  True

def Pre_RedIdeal_red_finite [hPre_red_finite : Cert.Pre_red_finite.Facts] (m : (ℓ : Loc Cert.RedIdeal.nD Cert.RedIdeal.τ Cert.RedIdeal.sig) → Buf (Elt Ideal) ℓ) : Prop :=
  ∀ c : Dev Cert.RedIdeal.nD,
    (Cert.Pre_red_finite.fn (F := Ideal) (m ((c.tc : Thread Cert.RedIdeal.nD Cert.RedIdeal.τ).loc Cert.RedIdeal.main_arg0)) (m ((c.tc : Thread Cert.RedIdeal.nD Cert.RedIdeal.τ).loc Cert.RedIdeal.main_arg1))).1 = (fun _ => 1#1)
    ∧ (Cert.Pre_red_finite.fn (F := Ideal) (m ((c.tc : Thread Cert.RedIdeal.nD Cert.RedIdeal.τ).loc Cert.RedIdeal.main_arg0)) (m ((c.tc : Thread Cert.RedIdeal.nD Cert.RedIdeal.τ).loc Cert.RedIdeal.main_arg1))).2 = (fun _ => 1#1)

def Pre_RedRefIdeal (m : (ℓ : Loc Cert.RedRefIdeal.nD Cert.RedRefIdeal.τ Cert.RedRefIdeal.sig) → Buf (Elt Ideal) ℓ) : Prop :=
  True

def Pre_RedRefIdeal_red_finite [hPre_red_finite : Cert.Pre_red_finite.Facts] (m : (ℓ : Loc Cert.RedRefIdeal.nD Cert.RedRefIdeal.τ Cert.RedRefIdeal.sig) → Buf (Elt Ideal) ℓ) : Prop :=
  ∀ c : Dev Cert.RedRefIdeal.nD,
    (Cert.Pre_red_finite.fn (F := Ideal) (m ((c.tc : Thread Cert.RedRefIdeal.nD Cert.RedRefIdeal.τ).loc Cert.RedRefIdeal.main_arg0)) (m ((c.tc : Thread Cert.RedRefIdeal.nD Cert.RedRefIdeal.τ).loc Cert.RedRefIdeal.main_arg1))).1 = (fun _ => 1#1)
    ∧ (Cert.Pre_red_finite.fn (F := Ideal) (m ((c.tc : Thread Cert.RedRefIdeal.nD Cert.RedRefIdeal.τ).loc Cert.RedRefIdeal.main_arg0)) (m ((c.tc : Thread Cert.RedRefIdeal.nD Cert.RedRefIdeal.τ).loc Cert.RedRefIdeal.main_arg1))).2 = (fun _ => 1#1)

def Pre_Mixf (m : (ℓ : Loc Cert.Mixf.nD Cert.Mixf.τ Cert.Mixf.sig) → Buf (Elt Bits) ℓ) : Prop :=
  True

def Pre_MixfIdeal (m : (ℓ : Loc Cert.MixfIdeal.nD Cert.MixfIdeal.τ Cert.MixfIdeal.sig) → Buf (Elt Ideal) ℓ) : Prop :=
  True

def Pre_MixfIdeal_mixf_finite [hPre_mixf_finite : Cert.Pre_mixf_finite.Facts] (m : (ℓ : Loc Cert.MixfIdeal.nD Cert.MixfIdeal.τ Cert.MixfIdeal.sig) → Buf (Elt Ideal) ℓ) : Prop :=
  ∀ c : Dev Cert.MixfIdeal.nD,
    (Cert.Pre_mixf_finite.fn (F := Ideal) (m ((c.tc : Thread Cert.MixfIdeal.nD Cert.MixfIdeal.τ).loc Cert.MixfIdeal.main_arg0)) (m ((c.tc : Thread Cert.MixfIdeal.nD Cert.MixfIdeal.τ).loc Cert.MixfIdeal.main_arg1)) (m ((c.tc : Thread Cert.MixfIdeal.nD Cert.MixfIdeal.τ).loc Cert.MixfIdeal.main_arg2)) (m ((c.tc : Thread Cert.MixfIdeal.nD Cert.MixfIdeal.τ).loc Cert.MixfIdeal.main_arg3)) (m ((c.tc : Thread Cert.MixfIdeal.nD Cert.MixfIdeal.τ).loc Cert.MixfIdeal.main_arg4)) (m ((c.tc : Thread Cert.MixfIdeal.nD Cert.MixfIdeal.τ).loc Cert.MixfIdeal.main_arg5)) (m ((c.tc : Thread Cert.MixfIdeal.nD Cert.MixfIdeal.τ).loc Cert.MixfIdeal.main_arg6)) (m ((c.tc : Thread Cert.MixfIdeal.nD Cert.MixfIdeal.τ).loc Cert.MixfIdeal.main_arg7)) (m ((c.tc : Thread Cert.MixfIdeal.nD Cert.MixfIdeal.τ).loc Cert.MixfIdeal.main_arg8)) (m ((c.tc : Thread Cert.MixfIdeal.nD Cert.MixfIdeal.τ).loc Cert.MixfIdeal.main_arg9)) (m ((c.tc : Thread Cert.MixfIdeal.nD Cert.MixfIdeal.τ).loc Cert.MixfIdeal.main_arg10)) (m ((c.tc : Thread Cert.MixfIdeal.nD Cert.MixfIdeal.τ).loc Cert.MixfIdeal.main_arg11)) (m ((c.tc : Thread Cert.MixfIdeal.nD Cert.MixfIdeal.τ).loc Cert.MixfIdeal.main_arg12))).1 = (fun _ => 1#1)
    ∧ (Cert.Pre_mixf_finite.fn (F := Ideal) (m ((c.tc : Thread Cert.MixfIdeal.nD Cert.MixfIdeal.τ).loc Cert.MixfIdeal.main_arg0)) (m ((c.tc : Thread Cert.MixfIdeal.nD Cert.MixfIdeal.τ).loc Cert.MixfIdeal.main_arg1)) (m ((c.tc : Thread Cert.MixfIdeal.nD Cert.MixfIdeal.τ).loc Cert.MixfIdeal.main_arg2)) (m ((c.tc : Thread Cert.MixfIdeal.nD Cert.MixfIdeal.τ).loc Cert.MixfIdeal.main_arg3)) (m ((c.tc : Thread Cert.MixfIdeal.nD Cert.MixfIdeal.τ).loc Cert.MixfIdeal.main_arg4)) (m ((c.tc : Thread Cert.MixfIdeal.nD Cert.MixfIdeal.τ).loc Cert.MixfIdeal.main_arg5)) (m ((c.tc : Thread Cert.MixfIdeal.nD Cert.MixfIdeal.τ).loc Cert.MixfIdeal.main_arg6)) (m ((c.tc : Thread Cert.MixfIdeal.nD Cert.MixfIdeal.τ).loc Cert.MixfIdeal.main_arg7)) (m ((c.tc : Thread Cert.MixfIdeal.nD Cert.MixfIdeal.τ).loc Cert.MixfIdeal.main_arg8)) (m ((c.tc : Thread Cert.MixfIdeal.nD Cert.MixfIdeal.τ).loc Cert.MixfIdeal.main_arg9)) (m ((c.tc : Thread Cert.MixfIdeal.nD Cert.MixfIdeal.τ).loc Cert.MixfIdeal.main_arg10)) (m ((c.tc : Thread Cert.MixfIdeal.nD Cert.MixfIdeal.τ).loc Cert.MixfIdeal.main_arg11)) (m ((c.tc : Thread Cert.MixfIdeal.nD Cert.MixfIdeal.τ).loc Cert.MixfIdeal.main_arg12))).2.1 = (fun _ => 1#1)
    ∧ (Cert.Pre_mixf_finite.fn (F := Ideal) (m ((c.tc : Thread Cert.MixfIdeal.nD Cert.MixfIdeal.τ).loc Cert.MixfIdeal.main_arg0)) (m ((c.tc : Thread Cert.MixfIdeal.nD Cert.MixfIdeal.τ).loc Cert.MixfIdeal.main_arg1)) (m ((c.tc : Thread Cert.MixfIdeal.nD Cert.MixfIdeal.τ).loc Cert.MixfIdeal.main_arg2)) (m ((c.tc : Thread Cert.MixfIdeal.nD Cert.MixfIdeal.τ).loc Cert.MixfIdeal.main_arg3)) (m ((c.tc : Thread Cert.MixfIdeal.nD Cert.MixfIdeal.τ).loc Cert.MixfIdeal.main_arg4)) (m ((c.tc : Thread Cert.MixfIdeal.nD Cert.MixfIdeal.τ).loc Cert.MixfIdeal.main_arg5)) (m ((c.tc : Thread Cert.MixfIdeal.nD Cert.MixfIdeal.τ).loc Cert.MixfIdeal.main_arg6)) (m ((c.tc : Thread Cert.MixfIdeal.nD Cert.MixfIdeal.τ).loc Cert.MixfIdeal.main_arg7)) (m ((c.tc : Thread Cert.MixfIdeal.nD Cert.MixfIdeal.τ).loc Cert.MixfIdeal.main_arg8)) (m ((c.tc : Thread Cert.MixfIdeal.nD Cert.MixfIdeal.τ).loc Cert.MixfIdeal.main_arg9)) (m ((c.tc : Thread Cert.MixfIdeal.nD Cert.MixfIdeal.τ).loc Cert.MixfIdeal.main_arg10)) (m ((c.tc : Thread Cert.MixfIdeal.nD Cert.MixfIdeal.τ).loc Cert.MixfIdeal.main_arg11)) (m ((c.tc : Thread Cert.MixfIdeal.nD Cert.MixfIdeal.τ).loc Cert.MixfIdeal.main_arg12))).2.2.1 = (fun _ => 1#1)
    ∧ (Cert.Pre_mixf_finite.fn (F := Ideal) (m ((c.tc : Thread Cert.MixfIdeal.nD Cert.MixfIdeal.τ).loc Cert.MixfIdeal.main_arg0)) (m ((c.tc : Thread Cert.MixfIdeal.nD Cert.MixfIdeal.τ).loc Cert.MixfIdeal.main_arg1)) (m ((c.tc : Thread Cert.MixfIdeal.nD Cert.MixfIdeal.τ).loc Cert.MixfIdeal.main_arg2)) (m ((c.tc : Thread Cert.MixfIdeal.nD Cert.MixfIdeal.τ).loc Cert.MixfIdeal.main_arg3)) (m ((c.tc : Thread Cert.MixfIdeal.nD Cert.MixfIdeal.τ).loc Cert.MixfIdeal.main_arg4)) (m ((c.tc : Thread Cert.MixfIdeal.nD Cert.MixfIdeal.τ).loc Cert.MixfIdeal.main_arg5)) (m ((c.tc : Thread Cert.MixfIdeal.nD Cert.MixfIdeal.τ).loc Cert.MixfIdeal.main_arg6)) (m ((c.tc : Thread Cert.MixfIdeal.nD Cert.MixfIdeal.τ).loc Cert.MixfIdeal.main_arg7)) (m ((c.tc : Thread Cert.MixfIdeal.nD Cert.MixfIdeal.τ).loc Cert.MixfIdeal.main_arg8)) (m ((c.tc : Thread Cert.MixfIdeal.nD Cert.MixfIdeal.τ).loc Cert.MixfIdeal.main_arg9)) (m ((c.tc : Thread Cert.MixfIdeal.nD Cert.MixfIdeal.τ).loc Cert.MixfIdeal.main_arg10)) (m ((c.tc : Thread Cert.MixfIdeal.nD Cert.MixfIdeal.τ).loc Cert.MixfIdeal.main_arg11)) (m ((c.tc : Thread Cert.MixfIdeal.nD Cert.MixfIdeal.τ).loc Cert.MixfIdeal.main_arg12))).2.2.2.1 = (fun _ => 1#1)
    ∧ (Cert.Pre_mixf_finite.fn (F := Ideal) (m ((c.tc : Thread Cert.MixfIdeal.nD Cert.MixfIdeal.τ).loc Cert.MixfIdeal.main_arg0)) (m ((c.tc : Thread Cert.MixfIdeal.nD Cert.MixfIdeal.τ).loc Cert.MixfIdeal.main_arg1)) (m ((c.tc : Thread Cert.MixfIdeal.nD Cert.MixfIdeal.τ).loc Cert.MixfIdeal.main_arg2)) (m ((c.tc : Thread Cert.MixfIdeal.nD Cert.MixfIdeal.τ).loc Cert.MixfIdeal.main_arg3)) (m ((c.tc : Thread Cert.MixfIdeal.nD Cert.MixfIdeal.τ).loc Cert.MixfIdeal.main_arg4)) (m ((c.tc : Thread Cert.MixfIdeal.nD Cert.MixfIdeal.τ).loc Cert.MixfIdeal.main_arg5)) (m ((c.tc : Thread Cert.MixfIdeal.nD Cert.MixfIdeal.τ).loc Cert.MixfIdeal.main_arg6)) (m ((c.tc : Thread Cert.MixfIdeal.nD Cert.MixfIdeal.τ).loc Cert.MixfIdeal.main_arg7)) (m ((c.tc : Thread Cert.MixfIdeal.nD Cert.MixfIdeal.τ).loc Cert.MixfIdeal.main_arg8)) (m ((c.tc : Thread Cert.MixfIdeal.nD Cert.MixfIdeal.τ).loc Cert.MixfIdeal.main_arg9)) (m ((c.tc : Thread Cert.MixfIdeal.nD Cert.MixfIdeal.τ).loc Cert.MixfIdeal.main_arg10)) (m ((c.tc : Thread Cert.MixfIdeal.nD Cert.MixfIdeal.τ).loc Cert.MixfIdeal.main_arg11)) (m ((c.tc : Thread Cert.MixfIdeal.nD Cert.MixfIdeal.τ).loc Cert.MixfIdeal.main_arg12))).2.2.2.2.1 = (fun _ => 1#1)
    ∧ (Cert.Pre_mixf_finite.fn (F := Ideal) (m ((c.tc : Thread Cert.MixfIdeal.nD Cert.MixfIdeal.τ).loc Cert.MixfIdeal.main_arg0)) (m ((c.tc : Thread Cert.MixfIdeal.nD Cert.MixfIdeal.τ).loc Cert.MixfIdeal.main_arg1)) (m ((c.tc : Thread Cert.MixfIdeal.nD Cert.MixfIdeal.τ).loc Cert.MixfIdeal.main_arg2)) (m ((c.tc : Thread Cert.MixfIdeal.nD Cert.MixfIdeal.τ).loc Cert.MixfIdeal.main_arg3)) (m ((c.tc : Thread Cert.MixfIdeal.nD Cert.MixfIdeal.τ).loc Cert.MixfIdeal.main_arg4)) (m ((c.tc : Thread Cert.MixfIdeal.nD Cert.MixfIdeal.τ).loc Cert.MixfIdeal.main_arg5)) (m ((c.tc : Thread Cert.MixfIdeal.nD Cert.MixfIdeal.τ).loc Cert.MixfIdeal.main_arg6)) (m ((c.tc : Thread Cert.MixfIdeal.nD Cert.MixfIdeal.τ).loc Cert.MixfIdeal.main_arg7)) (m ((c.tc : Thread Cert.MixfIdeal.nD Cert.MixfIdeal.τ).loc Cert.MixfIdeal.main_arg8)) (m ((c.tc : Thread Cert.MixfIdeal.nD Cert.MixfIdeal.τ).loc Cert.MixfIdeal.main_arg9)) (m ((c.tc : Thread Cert.MixfIdeal.nD Cert.MixfIdeal.τ).loc Cert.MixfIdeal.main_arg10)) (m ((c.tc : Thread Cert.MixfIdeal.nD Cert.MixfIdeal.τ).loc Cert.MixfIdeal.main_arg11)) (m ((c.tc : Thread Cert.MixfIdeal.nD Cert.MixfIdeal.τ).loc Cert.MixfIdeal.main_arg12))).2.2.2.2.2.1 = (fun _ => 1#1)
    ∧ (Cert.Pre_mixf_finite.fn (F := Ideal) (m ((c.tc : Thread Cert.MixfIdeal.nD Cert.MixfIdeal.τ).loc Cert.MixfIdeal.main_arg0)) (m ((c.tc : Thread Cert.MixfIdeal.nD Cert.MixfIdeal.τ).loc Cert.MixfIdeal.main_arg1)) (m ((c.tc : Thread Cert.MixfIdeal.nD Cert.MixfIdeal.τ).loc Cert.MixfIdeal.main_arg2)) (m ((c.tc : Thread Cert.MixfIdeal.nD Cert.MixfIdeal.τ).loc Cert.MixfIdeal.main_arg3)) (m ((c.tc : Thread Cert.MixfIdeal.nD Cert.MixfIdeal.τ).loc Cert.MixfIdeal.main_arg4)) (m ((c.tc : Thread Cert.MixfIdeal.nD Cert.MixfIdeal.τ).loc Cert.MixfIdeal.main_arg5)) (m ((c.tc : Thread Cert.MixfIdeal.nD Cert.MixfIdeal.τ).loc Cert.MixfIdeal.main_arg6)) (m ((c.tc : Thread Cert.MixfIdeal.nD Cert.MixfIdeal.τ).loc Cert.MixfIdeal.main_arg7)) (m ((c.tc : Thread Cert.MixfIdeal.nD Cert.MixfIdeal.τ).loc Cert.MixfIdeal.main_arg8)) (m ((c.tc : Thread Cert.MixfIdeal.nD Cert.MixfIdeal.τ).loc Cert.MixfIdeal.main_arg9)) (m ((c.tc : Thread Cert.MixfIdeal.nD Cert.MixfIdeal.τ).loc Cert.MixfIdeal.main_arg10)) (m ((c.tc : Thread Cert.MixfIdeal.nD Cert.MixfIdeal.τ).loc Cert.MixfIdeal.main_arg11)) (m ((c.tc : Thread Cert.MixfIdeal.nD Cert.MixfIdeal.τ).loc Cert.MixfIdeal.main_arg12))).2.2.2.2.2.2.1 = (fun _ => 1#1)
    ∧ (Cert.Pre_mixf_finite.fn (F := Ideal) (m ((c.tc : Thread Cert.MixfIdeal.nD Cert.MixfIdeal.τ).loc Cert.MixfIdeal.main_arg0)) (m ((c.tc : Thread Cert.MixfIdeal.nD Cert.MixfIdeal.τ).loc Cert.MixfIdeal.main_arg1)) (m ((c.tc : Thread Cert.MixfIdeal.nD Cert.MixfIdeal.τ).loc Cert.MixfIdeal.main_arg2)) (m ((c.tc : Thread Cert.MixfIdeal.nD Cert.MixfIdeal.τ).loc Cert.MixfIdeal.main_arg3)) (m ((c.tc : Thread Cert.MixfIdeal.nD Cert.MixfIdeal.τ).loc Cert.MixfIdeal.main_arg4)) (m ((c.tc : Thread Cert.MixfIdeal.nD Cert.MixfIdeal.τ).loc Cert.MixfIdeal.main_arg5)) (m ((c.tc : Thread Cert.MixfIdeal.nD Cert.MixfIdeal.τ).loc Cert.MixfIdeal.main_arg6)) (m ((c.tc : Thread Cert.MixfIdeal.nD Cert.MixfIdeal.τ).loc Cert.MixfIdeal.main_arg7)) (m ((c.tc : Thread Cert.MixfIdeal.nD Cert.MixfIdeal.τ).loc Cert.MixfIdeal.main_arg8)) (m ((c.tc : Thread Cert.MixfIdeal.nD Cert.MixfIdeal.τ).loc Cert.MixfIdeal.main_arg9)) (m ((c.tc : Thread Cert.MixfIdeal.nD Cert.MixfIdeal.τ).loc Cert.MixfIdeal.main_arg10)) (m ((c.tc : Thread Cert.MixfIdeal.nD Cert.MixfIdeal.τ).loc Cert.MixfIdeal.main_arg11)) (m ((c.tc : Thread Cert.MixfIdeal.nD Cert.MixfIdeal.τ).loc Cert.MixfIdeal.main_arg12))).2.2.2.2.2.2.2.1 = (fun _ => 1#1)
    ∧ (Cert.Pre_mixf_finite.fn (F := Ideal) (m ((c.tc : Thread Cert.MixfIdeal.nD Cert.MixfIdeal.τ).loc Cert.MixfIdeal.main_arg0)) (m ((c.tc : Thread Cert.MixfIdeal.nD Cert.MixfIdeal.τ).loc Cert.MixfIdeal.main_arg1)) (m ((c.tc : Thread Cert.MixfIdeal.nD Cert.MixfIdeal.τ).loc Cert.MixfIdeal.main_arg2)) (m ((c.tc : Thread Cert.MixfIdeal.nD Cert.MixfIdeal.τ).loc Cert.MixfIdeal.main_arg3)) (m ((c.tc : Thread Cert.MixfIdeal.nD Cert.MixfIdeal.τ).loc Cert.MixfIdeal.main_arg4)) (m ((c.tc : Thread Cert.MixfIdeal.nD Cert.MixfIdeal.τ).loc Cert.MixfIdeal.main_arg5)) (m ((c.tc : Thread Cert.MixfIdeal.nD Cert.MixfIdeal.τ).loc Cert.MixfIdeal.main_arg6)) (m ((c.tc : Thread Cert.MixfIdeal.nD Cert.MixfIdeal.τ).loc Cert.MixfIdeal.main_arg7)) (m ((c.tc : Thread Cert.MixfIdeal.nD Cert.MixfIdeal.τ).loc Cert.MixfIdeal.main_arg8)) (m ((c.tc : Thread Cert.MixfIdeal.nD Cert.MixfIdeal.τ).loc Cert.MixfIdeal.main_arg9)) (m ((c.tc : Thread Cert.MixfIdeal.nD Cert.MixfIdeal.τ).loc Cert.MixfIdeal.main_arg10)) (m ((c.tc : Thread Cert.MixfIdeal.nD Cert.MixfIdeal.τ).loc Cert.MixfIdeal.main_arg11)) (m ((c.tc : Thread Cert.MixfIdeal.nD Cert.MixfIdeal.τ).loc Cert.MixfIdeal.main_arg12))).2.2.2.2.2.2.2.2.1 = (fun _ => 1#1)
    ∧ (Cert.Pre_mixf_finite.fn (F := Ideal) (m ((c.tc : Thread Cert.MixfIdeal.nD Cert.MixfIdeal.τ).loc Cert.MixfIdeal.main_arg0)) (m ((c.tc : Thread Cert.MixfIdeal.nD Cert.MixfIdeal.τ).loc Cert.MixfIdeal.main_arg1)) (m ((c.tc : Thread Cert.MixfIdeal.nD Cert.MixfIdeal.τ).loc Cert.MixfIdeal.main_arg2)) (m ((c.tc : Thread Cert.MixfIdeal.nD Cert.MixfIdeal.τ).loc Cert.MixfIdeal.main_arg3)) (m ((c.tc : Thread Cert.MixfIdeal.nD Cert.MixfIdeal.τ).loc Cert.MixfIdeal.main_arg4)) (m ((c.tc : Thread Cert.MixfIdeal.nD Cert.MixfIdeal.τ).loc Cert.MixfIdeal.main_arg5)) (m ((c.tc : Thread Cert.MixfIdeal.nD Cert.MixfIdeal.τ).loc Cert.MixfIdeal.main_arg6)) (m ((c.tc : Thread Cert.MixfIdeal.nD Cert.MixfIdeal.τ).loc Cert.MixfIdeal.main_arg7)) (m ((c.tc : Thread Cert.MixfIdeal.nD Cert.MixfIdeal.τ).loc Cert.MixfIdeal.main_arg8)) (m ((c.tc : Thread Cert.MixfIdeal.nD Cert.MixfIdeal.τ).loc Cert.MixfIdeal.main_arg9)) (m ((c.tc : Thread Cert.MixfIdeal.nD Cert.MixfIdeal.τ).loc Cert.MixfIdeal.main_arg10)) (m ((c.tc : Thread Cert.MixfIdeal.nD Cert.MixfIdeal.τ).loc Cert.MixfIdeal.main_arg11)) (m ((c.tc : Thread Cert.MixfIdeal.nD Cert.MixfIdeal.τ).loc Cert.MixfIdeal.main_arg12))).2.2.2.2.2.2.2.2.2.1 = (fun _ => 1#1)
    ∧ (Cert.Pre_mixf_finite.fn (F := Ideal) (m ((c.tc : Thread Cert.MixfIdeal.nD Cert.MixfIdeal.τ).loc Cert.MixfIdeal.main_arg0)) (m ((c.tc : Thread Cert.MixfIdeal.nD Cert.MixfIdeal.τ).loc Cert.MixfIdeal.main_arg1)) (m ((c.tc : Thread Cert.MixfIdeal.nD Cert.MixfIdeal.τ).loc Cert.MixfIdeal.main_arg2)) (m ((c.tc : Thread Cert.MixfIdeal.nD Cert.MixfIdeal.τ).loc Cert.MixfIdeal.main_arg3)) (m ((c.tc : Thread Cert.MixfIdeal.nD Cert.MixfIdeal.τ).loc Cert.MixfIdeal.main_arg4)) (m ((c.tc : Thread Cert.MixfIdeal.nD Cert.MixfIdeal.τ).loc Cert.MixfIdeal.main_arg5)) (m ((c.tc : Thread Cert.MixfIdeal.nD Cert.MixfIdeal.τ).loc Cert.MixfIdeal.main_arg6)) (m ((c.tc : Thread Cert.MixfIdeal.nD Cert.MixfIdeal.τ).loc Cert.MixfIdeal.main_arg7)) (m ((c.tc : Thread Cert.MixfIdeal.nD Cert.MixfIdeal.τ).loc Cert.MixfIdeal.main_arg8)) (m ((c.tc : Thread Cert.MixfIdeal.nD Cert.MixfIdeal.τ).loc Cert.MixfIdeal.main_arg9)) (m ((c.tc : Thread Cert.MixfIdeal.nD Cert.MixfIdeal.τ).loc Cert.MixfIdeal.main_arg10)) (m ((c.tc : Thread Cert.MixfIdeal.nD Cert.MixfIdeal.τ).loc Cert.MixfIdeal.main_arg11)) (m ((c.tc : Thread Cert.MixfIdeal.nD Cert.MixfIdeal.τ).loc Cert.MixfIdeal.main_arg12))).2.2.2.2.2.2.2.2.2.2.1 = (fun _ => 1#1)
    ∧ (Cert.Pre_mixf_finite.fn (F := Ideal) (m ((c.tc : Thread Cert.MixfIdeal.nD Cert.MixfIdeal.τ).loc Cert.MixfIdeal.main_arg0)) (m ((c.tc : Thread Cert.MixfIdeal.nD Cert.MixfIdeal.τ).loc Cert.MixfIdeal.main_arg1)) (m ((c.tc : Thread Cert.MixfIdeal.nD Cert.MixfIdeal.τ).loc Cert.MixfIdeal.main_arg2)) (m ((c.tc : Thread Cert.MixfIdeal.nD Cert.MixfIdeal.τ).loc Cert.MixfIdeal.main_arg3)) (m ((c.tc : Thread Cert.MixfIdeal.nD Cert.MixfIdeal.τ).loc Cert.MixfIdeal.main_arg4)) (m ((c.tc : Thread Cert.MixfIdeal.nD Cert.MixfIdeal.τ).loc Cert.MixfIdeal.main_arg5)) (m ((c.tc : Thread Cert.MixfIdeal.nD Cert.MixfIdeal.τ).loc Cert.MixfIdeal.main_arg6)) (m ((c.tc : Thread Cert.MixfIdeal.nD Cert.MixfIdeal.τ).loc Cert.MixfIdeal.main_arg7)) (m ((c.tc : Thread Cert.MixfIdeal.nD Cert.MixfIdeal.τ).loc Cert.MixfIdeal.main_arg8)) (m ((c.tc : Thread Cert.MixfIdeal.nD Cert.MixfIdeal.τ).loc Cert.MixfIdeal.main_arg9)) (m ((c.tc : Thread Cert.MixfIdeal.nD Cert.MixfIdeal.τ).loc Cert.MixfIdeal.main_arg10)) (m ((c.tc : Thread Cert.MixfIdeal.nD Cert.MixfIdeal.τ).loc Cert.MixfIdeal.main_arg11)) (m ((c.tc : Thread Cert.MixfIdeal.nD Cert.MixfIdeal.τ).loc Cert.MixfIdeal.main_arg12))).2.2.2.2.2.2.2.2.2.2.2.1 = (fun _ => 1#1)
    ∧ (Cert.Pre_mixf_finite.fn (F := Ideal) (m ((c.tc : Thread Cert.MixfIdeal.nD Cert.MixfIdeal.τ).loc Cert.MixfIdeal.main_arg0)) (m ((c.tc : Thread Cert.MixfIdeal.nD Cert.MixfIdeal.τ).loc Cert.MixfIdeal.main_arg1)) (m ((c.tc : Thread Cert.MixfIdeal.nD Cert.MixfIdeal.τ).loc Cert.MixfIdeal.main_arg2)) (m ((c.tc : Thread Cert.MixfIdeal.nD Cert.MixfIdeal.τ).loc Cert.MixfIdeal.main_arg3)) (m ((c.tc : Thread Cert.MixfIdeal.nD Cert.MixfIdeal.τ).loc Cert.MixfIdeal.main_arg4)) (m ((c.tc : Thread Cert.MixfIdeal.nD Cert.MixfIdeal.τ).loc Cert.MixfIdeal.main_arg5)) (m ((c.tc : Thread Cert.MixfIdeal.nD Cert.MixfIdeal.τ).loc Cert.MixfIdeal.main_arg6)) (m ((c.tc : Thread Cert.MixfIdeal.nD Cert.MixfIdeal.τ).loc Cert.MixfIdeal.main_arg7)) (m ((c.tc : Thread Cert.MixfIdeal.nD Cert.MixfIdeal.τ).loc Cert.MixfIdeal.main_arg8)) (m ((c.tc : Thread Cert.MixfIdeal.nD Cert.MixfIdeal.τ).loc Cert.MixfIdeal.main_arg9)) (m ((c.tc : Thread Cert.MixfIdeal.nD Cert.MixfIdeal.τ).loc Cert.MixfIdeal.main_arg10)) (m ((c.tc : Thread Cert.MixfIdeal.nD Cert.MixfIdeal.τ).loc Cert.MixfIdeal.main_arg11)) (m ((c.tc : Thread Cert.MixfIdeal.nD Cert.MixfIdeal.τ).loc Cert.MixfIdeal.main_arg12))).2.2.2.2.2.2.2.2.2.2.2.2 = (fun _ => 1#1)

def Pre_MixfRefIdeal (m : (ℓ : Loc Cert.MixfRefIdeal.nD Cert.MixfRefIdeal.τ Cert.MixfRefIdeal.sig) → Buf (Elt Ideal) ℓ) : Prop :=
  True

def Pre_MixfRefIdeal_mixf_finite [hPre_mixf_finite : Cert.Pre_mixf_finite.Facts] (m : (ℓ : Loc Cert.MixfRefIdeal.nD Cert.MixfRefIdeal.τ Cert.MixfRefIdeal.sig) → Buf (Elt Ideal) ℓ) : Prop :=
  ∀ c : Dev Cert.MixfRefIdeal.nD,
    (Cert.Pre_mixf_finite.fn (F := Ideal) (m ((c.tc : Thread Cert.MixfRefIdeal.nD Cert.MixfRefIdeal.τ).loc Cert.MixfRefIdeal.main_arg0)) (m ((c.tc : Thread Cert.MixfRefIdeal.nD Cert.MixfRefIdeal.τ).loc Cert.MixfRefIdeal.main_arg1)) (m ((c.tc : Thread Cert.MixfRefIdeal.nD Cert.MixfRefIdeal.τ).loc Cert.MixfRefIdeal.main_arg2)) (m ((c.tc : Thread Cert.MixfRefIdeal.nD Cert.MixfRefIdeal.τ).loc Cert.MixfRefIdeal.main_arg3)) (m ((c.tc : Thread Cert.MixfRefIdeal.nD Cert.MixfRefIdeal.τ).loc Cert.MixfRefIdeal.main_arg4)) (m ((c.tc : Thread Cert.MixfRefIdeal.nD Cert.MixfRefIdeal.τ).loc Cert.MixfRefIdeal.main_arg5)) (m ((c.tc : Thread Cert.MixfRefIdeal.nD Cert.MixfRefIdeal.τ).loc Cert.MixfRefIdeal.main_arg6)) (m ((c.tc : Thread Cert.MixfRefIdeal.nD Cert.MixfRefIdeal.τ).loc Cert.MixfRefIdeal.main_arg7)) (m ((c.tc : Thread Cert.MixfRefIdeal.nD Cert.MixfRefIdeal.τ).loc Cert.MixfRefIdeal.main_arg8)) (m ((c.tc : Thread Cert.MixfRefIdeal.nD Cert.MixfRefIdeal.τ).loc Cert.MixfRefIdeal.main_arg9)) (m ((c.tc : Thread Cert.MixfRefIdeal.nD Cert.MixfRefIdeal.τ).loc Cert.MixfRefIdeal.main_arg10)) (m ((c.tc : Thread Cert.MixfRefIdeal.nD Cert.MixfRefIdeal.τ).loc Cert.MixfRefIdeal.main_arg11)) (m ((c.tc : Thread Cert.MixfRefIdeal.nD Cert.MixfRefIdeal.τ).loc Cert.MixfRefIdeal.main_arg12))).1 = (fun _ => 1#1)
    ∧ (Cert.Pre_mixf_finite.fn (F := Ideal) (m ((c.tc : Thread Cert.MixfRefIdeal.nD Cert.MixfRefIdeal.τ).loc Cert.MixfRefIdeal.main_arg0)) (m ((c.tc : Thread Cert.MixfRefIdeal.nD Cert.MixfRefIdeal.τ).loc Cert.MixfRefIdeal.main_arg1)) (m ((c.tc : Thread Cert.MixfRefIdeal.nD Cert.MixfRefIdeal.τ).loc Cert.MixfRefIdeal.main_arg2)) (m ((c.tc : Thread Cert.MixfRefIdeal.nD Cert.MixfRefIdeal.τ).loc Cert.MixfRefIdeal.main_arg3)) (m ((c.tc : Thread Cert.MixfRefIdeal.nD Cert.MixfRefIdeal.τ).loc Cert.MixfRefIdeal.main_arg4)) (m ((c.tc : Thread Cert.MixfRefIdeal.nD Cert.MixfRefIdeal.τ).loc Cert.MixfRefIdeal.main_arg5)) (m ((c.tc : Thread Cert.MixfRefIdeal.nD Cert.MixfRefIdeal.τ).loc Cert.MixfRefIdeal.main_arg6)) (m ((c.tc : Thread Cert.MixfRefIdeal.nD Cert.MixfRefIdeal.τ).loc Cert.MixfRefIdeal.main_arg7)) (m ((c.tc : Thread Cert.MixfRefIdeal.nD Cert.MixfRefIdeal.τ).loc Cert.MixfRefIdeal.main_arg8)) (m ((c.tc : Thread Cert.MixfRefIdeal.nD Cert.MixfRefIdeal.τ).loc Cert.MixfRefIdeal.main_arg9)) (m ((c.tc : Thread Cert.MixfRefIdeal.nD Cert.MixfRefIdeal.τ).loc Cert.MixfRefIdeal.main_arg10)) (m ((c.tc : Thread Cert.MixfRefIdeal.nD Cert.MixfRefIdeal.τ).loc Cert.MixfRefIdeal.main_arg11)) (m ((c.tc : Thread Cert.MixfRefIdeal.nD Cert.MixfRefIdeal.τ).loc Cert.MixfRefIdeal.main_arg12))).2.1 = (fun _ => 1#1)
    ∧ (Cert.Pre_mixf_finite.fn (F := Ideal) (m ((c.tc : Thread Cert.MixfRefIdeal.nD Cert.MixfRefIdeal.τ).loc Cert.MixfRefIdeal.main_arg0)) (m ((c.tc : Thread Cert.MixfRefIdeal.nD Cert.MixfRefIdeal.τ).loc Cert.MixfRefIdeal.main_arg1)) (m ((c.tc : Thread Cert.MixfRefIdeal.nD Cert.MixfRefIdeal.τ).loc Cert.MixfRefIdeal.main_arg2)) (m ((c.tc : Thread Cert.MixfRefIdeal.nD Cert.MixfRefIdeal.τ).loc Cert.MixfRefIdeal.main_arg3)) (m ((c.tc : Thread Cert.MixfRefIdeal.nD Cert.MixfRefIdeal.τ).loc Cert.MixfRefIdeal.main_arg4)) (m ((c.tc : Thread Cert.MixfRefIdeal.nD Cert.MixfRefIdeal.τ).loc Cert.MixfRefIdeal.main_arg5)) (m ((c.tc : Thread Cert.MixfRefIdeal.nD Cert.MixfRefIdeal.τ).loc Cert.MixfRefIdeal.main_arg6)) (m ((c.tc : Thread Cert.MixfRefIdeal.nD Cert.MixfRefIdeal.τ).loc Cert.MixfRefIdeal.main_arg7)) (m ((c.tc : Thread Cert.MixfRefIdeal.nD Cert.MixfRefIdeal.τ).loc Cert.MixfRefIdeal.main_arg8)) (m ((c.tc : Thread Cert.MixfRefIdeal.nD Cert.MixfRefIdeal.τ).loc Cert.MixfRefIdeal.main_arg9)) (m ((c.tc : Thread Cert.MixfRefIdeal.nD Cert.MixfRefIdeal.τ).loc Cert.MixfRefIdeal.main_arg10)) (m ((c.tc : Thread Cert.MixfRefIdeal.nD Cert.MixfRefIdeal.τ).loc Cert.MixfRefIdeal.main_arg11)) (m ((c.tc : Thread Cert.MixfRefIdeal.nD Cert.MixfRefIdeal.τ).loc Cert.MixfRefIdeal.main_arg12))).2.2.1 = (fun _ => 1#1)
    ∧ (Cert.Pre_mixf_finite.fn (F := Ideal) (m ((c.tc : Thread Cert.MixfRefIdeal.nD Cert.MixfRefIdeal.τ).loc Cert.MixfRefIdeal.main_arg0)) (m ((c.tc : Thread Cert.MixfRefIdeal.nD Cert.MixfRefIdeal.τ).loc Cert.MixfRefIdeal.main_arg1)) (m ((c.tc : Thread Cert.MixfRefIdeal.nD Cert.MixfRefIdeal.τ).loc Cert.MixfRefIdeal.main_arg2)) (m ((c.tc : Thread Cert.MixfRefIdeal.nD Cert.MixfRefIdeal.τ).loc Cert.MixfRefIdeal.main_arg3)) (m ((c.tc : Thread Cert.MixfRefIdeal.nD Cert.MixfRefIdeal.τ).loc Cert.MixfRefIdeal.main_arg4)) (m ((c.tc : Thread Cert.MixfRefIdeal.nD Cert.MixfRefIdeal.τ).loc Cert.MixfRefIdeal.main_arg5)) (m ((c.tc : Thread Cert.MixfRefIdeal.nD Cert.MixfRefIdeal.τ).loc Cert.MixfRefIdeal.main_arg6)) (m ((c.tc : Thread Cert.MixfRefIdeal.nD Cert.MixfRefIdeal.τ).loc Cert.MixfRefIdeal.main_arg7)) (m ((c.tc : Thread Cert.MixfRefIdeal.nD Cert.MixfRefIdeal.τ).loc Cert.MixfRefIdeal.main_arg8)) (m ((c.tc : Thread Cert.MixfRefIdeal.nD Cert.MixfRefIdeal.τ).loc Cert.MixfRefIdeal.main_arg9)) (m ((c.tc : Thread Cert.MixfRefIdeal.nD Cert.MixfRefIdeal.τ).loc Cert.MixfRefIdeal.main_arg10)) (m ((c.tc : Thread Cert.MixfRefIdeal.nD Cert.MixfRefIdeal.τ).loc Cert.MixfRefIdeal.main_arg11)) (m ((c.tc : Thread Cert.MixfRefIdeal.nD Cert.MixfRefIdeal.τ).loc Cert.MixfRefIdeal.main_arg12))).2.2.2.1 = (fun _ => 1#1)
    ∧ (Cert.Pre_mixf_finite.fn (F := Ideal) (m ((c.tc : Thread Cert.MixfRefIdeal.nD Cert.MixfRefIdeal.τ).loc Cert.MixfRefIdeal.main_arg0)) (m ((c.tc : Thread Cert.MixfRefIdeal.nD Cert.MixfRefIdeal.τ).loc Cert.MixfRefIdeal.main_arg1)) (m ((c.tc : Thread Cert.MixfRefIdeal.nD Cert.MixfRefIdeal.τ).loc Cert.MixfRefIdeal.main_arg2)) (m ((c.tc : Thread Cert.MixfRefIdeal.nD Cert.MixfRefIdeal.τ).loc Cert.MixfRefIdeal.main_arg3)) (m ((c.tc : Thread Cert.MixfRefIdeal.nD Cert.MixfRefIdeal.τ).loc Cert.MixfRefIdeal.main_arg4)) (m ((c.tc : Thread Cert.MixfRefIdeal.nD Cert.MixfRefIdeal.τ).loc Cert.MixfRefIdeal.main_arg5)) (m ((c.tc : Thread Cert.MixfRefIdeal.nD Cert.MixfRefIdeal.τ).loc Cert.MixfRefIdeal.main_arg6)) (m ((c.tc : Thread Cert.MixfRefIdeal.nD Cert.MixfRefIdeal.τ).loc Cert.MixfRefIdeal.main_arg7)) (m ((c.tc : Thread Cert.MixfRefIdeal.nD Cert.MixfRefIdeal.τ).loc Cert.MixfRefIdeal.main_arg8)) (m ((c.tc : Thread Cert.MixfRefIdeal.nD Cert.MixfRefIdeal.τ).loc Cert.MixfRefIdeal.main_arg9)) (m ((c.tc : Thread Cert.MixfRefIdeal.nD Cert.MixfRefIdeal.τ).loc Cert.MixfRefIdeal.main_arg10)) (m ((c.tc : Thread Cert.MixfRefIdeal.nD Cert.MixfRefIdeal.τ).loc Cert.MixfRefIdeal.main_arg11)) (m ((c.tc : Thread Cert.MixfRefIdeal.nD Cert.MixfRefIdeal.τ).loc Cert.MixfRefIdeal.main_arg12))).2.2.2.2.1 = (fun _ => 1#1)
    ∧ (Cert.Pre_mixf_finite.fn (F := Ideal) (m ((c.tc : Thread Cert.MixfRefIdeal.nD Cert.MixfRefIdeal.τ).loc Cert.MixfRefIdeal.main_arg0)) (m ((c.tc : Thread Cert.MixfRefIdeal.nD Cert.MixfRefIdeal.τ).loc Cert.MixfRefIdeal.main_arg1)) (m ((c.tc : Thread Cert.MixfRefIdeal.nD Cert.MixfRefIdeal.τ).loc Cert.MixfRefIdeal.main_arg2)) (m ((c.tc : Thread Cert.MixfRefIdeal.nD Cert.MixfRefIdeal.τ).loc Cert.MixfRefIdeal.main_arg3)) (m ((c.tc : Thread Cert.MixfRefIdeal.nD Cert.MixfRefIdeal.τ).loc Cert.MixfRefIdeal.main_arg4)) (m ((c.tc : Thread Cert.MixfRefIdeal.nD Cert.MixfRefIdeal.τ).loc Cert.MixfRefIdeal.main_arg5)) (m ((c.tc : Thread Cert.MixfRefIdeal.nD Cert.MixfRefIdeal.τ).loc Cert.MixfRefIdeal.main_arg6)) (m ((c.tc : Thread Cert.MixfRefIdeal.nD Cert.MixfRefIdeal.τ).loc Cert.MixfRefIdeal.main_arg7)) (m ((c.tc : Thread Cert.MixfRefIdeal.nD Cert.MixfRefIdeal.τ).loc Cert.MixfRefIdeal.main_arg8)) (m ((c.tc : Thread Cert.MixfRefIdeal.nD Cert.MixfRefIdeal.τ).loc Cert.MixfRefIdeal.main_arg9)) (m ((c.tc : Thread Cert.MixfRefIdeal.nD Cert.MixfRefIdeal.τ).loc Cert.MixfRefIdeal.main_arg10)) (m ((c.tc : Thread Cert.MixfRefIdeal.nD Cert.MixfRefIdeal.τ).loc Cert.MixfRefIdeal.main_arg11)) (m ((c.tc : Thread Cert.MixfRefIdeal.nD Cert.MixfRefIdeal.τ).loc Cert.MixfRefIdeal.main_arg12))).2.2.2.2.2.1 = (fun _ => 1#1)
    ∧ (Cert.Pre_mixf_finite.fn (F := Ideal) (m ((c.tc : Thread Cert.MixfRefIdeal.nD Cert.MixfRefIdeal.τ).loc Cert.MixfRefIdeal.main_arg0)) (m ((c.tc : Thread Cert.MixfRefIdeal.nD Cert.MixfRefIdeal.τ).loc Cert.MixfRefIdeal.main_arg1)) (m ((c.tc : Thread Cert.MixfRefIdeal.nD Cert.MixfRefIdeal.τ).loc Cert.MixfRefIdeal.main_arg2)) (m ((c.tc : Thread Cert.MixfRefIdeal.nD Cert.MixfRefIdeal.τ).loc Cert.MixfRefIdeal.main_arg3)) (m ((c.tc : Thread Cert.MixfRefIdeal.nD Cert.MixfRefIdeal.τ).loc Cert.MixfRefIdeal.main_arg4)) (m ((c.tc : Thread Cert.MixfRefIdeal.nD Cert.MixfRefIdeal.τ).loc Cert.MixfRefIdeal.main_arg5)) (m ((c.tc : Thread Cert.MixfRefIdeal.nD Cert.MixfRefIdeal.τ).loc Cert.MixfRefIdeal.main_arg6)) (m ((c.tc : Thread Cert.MixfRefIdeal.nD Cert.MixfRefIdeal.τ).loc Cert.MixfRefIdeal.main_arg7)) (m ((c.tc : Thread Cert.MixfRefIdeal.nD Cert.MixfRefIdeal.τ).loc Cert.MixfRefIdeal.main_arg8)) (m ((c.tc : Thread Cert.MixfRefIdeal.nD Cert.MixfRefIdeal.τ).loc Cert.MixfRefIdeal.main_arg9)) (m ((c.tc : Thread Cert.MixfRefIdeal.nD Cert.MixfRefIdeal.τ).loc Cert.MixfRefIdeal.main_arg10)) (m ((c.tc : Thread Cert.MixfRefIdeal.nD Cert.MixfRefIdeal.τ).loc Cert.MixfRefIdeal.main_arg11)) (m ((c.tc : Thread Cert.MixfRefIdeal.nD Cert.MixfRefIdeal.τ).loc Cert.MixfRefIdeal.main_arg12))).2.2.2.2.2.2.1 = (fun _ => 1#1)
    ∧ (Cert.Pre_mixf_finite.fn (F := Ideal) (m ((c.tc : Thread Cert.MixfRefIdeal.nD Cert.MixfRefIdeal.τ).loc Cert.MixfRefIdeal.main_arg0)) (m ((c.tc : Thread Cert.MixfRefIdeal.nD Cert.MixfRefIdeal.τ).loc Cert.MixfRefIdeal.main_arg1)) (m ((c.tc : Thread Cert.MixfRefIdeal.nD Cert.MixfRefIdeal.τ).loc Cert.MixfRefIdeal.main_arg2)) (m ((c.tc : Thread Cert.MixfRefIdeal.nD Cert.MixfRefIdeal.τ).loc Cert.MixfRefIdeal.main_arg3)) (m ((c.tc : Thread Cert.MixfRefIdeal.nD Cert.MixfRefIdeal.τ).loc Cert.MixfRefIdeal.main_arg4)) (m ((c.tc : Thread Cert.MixfRefIdeal.nD Cert.MixfRefIdeal.τ).loc Cert.MixfRefIdeal.main_arg5)) (m ((c.tc : Thread Cert.MixfRefIdeal.nD Cert.MixfRefIdeal.τ).loc Cert.MixfRefIdeal.main_arg6)) (m ((c.tc : Thread Cert.MixfRefIdeal.nD Cert.MixfRefIdeal.τ).loc Cert.MixfRefIdeal.main_arg7)) (m ((c.tc : Thread Cert.MixfRefIdeal.nD Cert.MixfRefIdeal.τ).loc Cert.MixfRefIdeal.main_arg8)) (m ((c.tc : Thread Cert.MixfRefIdeal.nD Cert.MixfRefIdeal.τ).loc Cert.MixfRefIdeal.main_arg9)) (m ((c.tc : Thread Cert.MixfRefIdeal.nD Cert.MixfRefIdeal.τ).loc Cert.MixfRefIdeal.main_arg10)) (m ((c.tc : Thread Cert.MixfRefIdeal.nD Cert.MixfRefIdeal.τ).loc Cert.MixfRefIdeal.main_arg11)) (m ((c.tc : Thread Cert.MixfRefIdeal.nD Cert.MixfRefIdeal.τ).loc Cert.MixfRefIdeal.main_arg12))).2.2.2.2.2.2.2.1 = (fun _ => 1#1)
    ∧ (Cert.Pre_mixf_finite.fn (F := Ideal) (m ((c.tc : Thread Cert.MixfRefIdeal.nD Cert.MixfRefIdeal.τ).loc Cert.MixfRefIdeal.main_arg0)) (m ((c.tc : Thread Cert.MixfRefIdeal.nD Cert.MixfRefIdeal.τ).loc Cert.MixfRefIdeal.main_arg1)) (m ((c.tc : Thread Cert.MixfRefIdeal.nD Cert.MixfRefIdeal.τ).loc Cert.MixfRefIdeal.main_arg2)) (m ((c.tc : Thread Cert.MixfRefIdeal.nD Cert.MixfRefIdeal.τ).loc Cert.MixfRefIdeal.main_arg3)) (m ((c.tc : Thread Cert.MixfRefIdeal.nD Cert.MixfRefIdeal.τ).loc Cert.MixfRefIdeal.main_arg4)) (m ((c.tc : Thread Cert.MixfRefIdeal.nD Cert.MixfRefIdeal.τ).loc Cert.MixfRefIdeal.main_arg5)) (m ((c.tc : Thread Cert.MixfRefIdeal.nD Cert.MixfRefIdeal.τ).loc Cert.MixfRefIdeal.main_arg6)) (m ((c.tc : Thread Cert.MixfRefIdeal.nD Cert.MixfRefIdeal.τ).loc Cert.MixfRefIdeal.main_arg7)) (m ((c.tc : Thread Cert.MixfRefIdeal.nD Cert.MixfRefIdeal.τ).loc Cert.MixfRefIdeal.main_arg8)) (m ((c.tc : Thread Cert.MixfRefIdeal.nD Cert.MixfRefIdeal.τ).loc Cert.MixfRefIdeal.main_arg9)) (m ((c.tc : Thread Cert.MixfRefIdeal.nD Cert.MixfRefIdeal.τ).loc Cert.MixfRefIdeal.main_arg10)) (m ((c.tc : Thread Cert.MixfRefIdeal.nD Cert.MixfRefIdeal.τ).loc Cert.MixfRefIdeal.main_arg11)) (m ((c.tc : Thread Cert.MixfRefIdeal.nD Cert.MixfRefIdeal.τ).loc Cert.MixfRefIdeal.main_arg12))).2.2.2.2.2.2.2.2.1 = (fun _ => 1#1)
    ∧ (Cert.Pre_mixf_finite.fn (F := Ideal) (m ((c.tc : Thread Cert.MixfRefIdeal.nD Cert.MixfRefIdeal.τ).loc Cert.MixfRefIdeal.main_arg0)) (m ((c.tc : Thread Cert.MixfRefIdeal.nD Cert.MixfRefIdeal.τ).loc Cert.MixfRefIdeal.main_arg1)) (m ((c.tc : Thread Cert.MixfRefIdeal.nD Cert.MixfRefIdeal.τ).loc Cert.MixfRefIdeal.main_arg2)) (m ((c.tc : Thread Cert.MixfRefIdeal.nD Cert.MixfRefIdeal.τ).loc Cert.MixfRefIdeal.main_arg3)) (m ((c.tc : Thread Cert.MixfRefIdeal.nD Cert.MixfRefIdeal.τ).loc Cert.MixfRefIdeal.main_arg4)) (m ((c.tc : Thread Cert.MixfRefIdeal.nD Cert.MixfRefIdeal.τ).loc Cert.MixfRefIdeal.main_arg5)) (m ((c.tc : Thread Cert.MixfRefIdeal.nD Cert.MixfRefIdeal.τ).loc Cert.MixfRefIdeal.main_arg6)) (m ((c.tc : Thread Cert.MixfRefIdeal.nD Cert.MixfRefIdeal.τ).loc Cert.MixfRefIdeal.main_arg7)) (m ((c.tc : Thread Cert.MixfRefIdeal.nD Cert.MixfRefIdeal.τ).loc Cert.MixfRefIdeal.main_arg8)) (m ((c.tc : Thread Cert.MixfRefIdeal.nD Cert.MixfRefIdeal.τ).loc Cert.MixfRefIdeal.main_arg9)) (m ((c.tc : Thread Cert.MixfRefIdeal.nD Cert.MixfRefIdeal.τ).loc Cert.MixfRefIdeal.main_arg10)) (m ((c.tc : Thread Cert.MixfRefIdeal.nD Cert.MixfRefIdeal.τ).loc Cert.MixfRefIdeal.main_arg11)) (m ((c.tc : Thread Cert.MixfRefIdeal.nD Cert.MixfRefIdeal.τ).loc Cert.MixfRefIdeal.main_arg12))).2.2.2.2.2.2.2.2.2.1 = (fun _ => 1#1)
    ∧ (Cert.Pre_mixf_finite.fn (F := Ideal) (m ((c.tc : Thread Cert.MixfRefIdeal.nD Cert.MixfRefIdeal.τ).loc Cert.MixfRefIdeal.main_arg0)) (m ((c.tc : Thread Cert.MixfRefIdeal.nD Cert.MixfRefIdeal.τ).loc Cert.MixfRefIdeal.main_arg1)) (m ((c.tc : Thread Cert.MixfRefIdeal.nD Cert.MixfRefIdeal.τ).loc Cert.MixfRefIdeal.main_arg2)) (m ((c.tc : Thread Cert.MixfRefIdeal.nD Cert.MixfRefIdeal.τ).loc Cert.MixfRefIdeal.main_arg3)) (m ((c.tc : Thread Cert.MixfRefIdeal.nD Cert.MixfRefIdeal.τ).loc Cert.MixfRefIdeal.main_arg4)) (m ((c.tc : Thread Cert.MixfRefIdeal.nD Cert.MixfRefIdeal.τ).loc Cert.MixfRefIdeal.main_arg5)) (m ((c.tc : Thread Cert.MixfRefIdeal.nD Cert.MixfRefIdeal.τ).loc Cert.MixfRefIdeal.main_arg6)) (m ((c.tc : Thread Cert.MixfRefIdeal.nD Cert.MixfRefIdeal.τ).loc Cert.MixfRefIdeal.main_arg7)) (m ((c.tc : Thread Cert.MixfRefIdeal.nD Cert.MixfRefIdeal.τ).loc Cert.MixfRefIdeal.main_arg8)) (m ((c.tc : Thread Cert.MixfRefIdeal.nD Cert.MixfRefIdeal.τ).loc Cert.MixfRefIdeal.main_arg9)) (m ((c.tc : Thread Cert.MixfRefIdeal.nD Cert.MixfRefIdeal.τ).loc Cert.MixfRefIdeal.main_arg10)) (m ((c.tc : Thread Cert.MixfRefIdeal.nD Cert.MixfRefIdeal.τ).loc Cert.MixfRefIdeal.main_arg11)) (m ((c.tc : Thread Cert.MixfRefIdeal.nD Cert.MixfRefIdeal.τ).loc Cert.MixfRefIdeal.main_arg12))).2.2.2.2.2.2.2.2.2.2.1 = (fun _ => 1#1)
    ∧ (Cert.Pre_mixf_finite.fn (F := Ideal) (m ((c.tc : Thread Cert.MixfRefIdeal.nD Cert.MixfRefIdeal.τ).loc Cert.MixfRefIdeal.main_arg0)) (m ((c.tc : Thread Cert.MixfRefIdeal.nD Cert.MixfRefIdeal.τ).loc Cert.MixfRefIdeal.main_arg1)) (m ((c.tc : Thread Cert.MixfRefIdeal.nD Cert.MixfRefIdeal.τ).loc Cert.MixfRefIdeal.main_arg2)) (m ((c.tc : Thread Cert.MixfRefIdeal.nD Cert.MixfRefIdeal.τ).loc Cert.MixfRefIdeal.main_arg3)) (m ((c.tc : Thread Cert.MixfRefIdeal.nD Cert.MixfRefIdeal.τ).loc Cert.MixfRefIdeal.main_arg4)) (m ((c.tc : Thread Cert.MixfRefIdeal.nD Cert.MixfRefIdeal.τ).loc Cert.MixfRefIdeal.main_arg5)) (m ((c.tc : Thread Cert.MixfRefIdeal.nD Cert.MixfRefIdeal.τ).loc Cert.MixfRefIdeal.main_arg6)) (m ((c.tc : Thread Cert.MixfRefIdeal.nD Cert.MixfRefIdeal.τ).loc Cert.MixfRefIdeal.main_arg7)) (m ((c.tc : Thread Cert.MixfRefIdeal.nD Cert.MixfRefIdeal.τ).loc Cert.MixfRefIdeal.main_arg8)) (m ((c.tc : Thread Cert.MixfRefIdeal.nD Cert.MixfRefIdeal.τ).loc Cert.MixfRefIdeal.main_arg9)) (m ((c.tc : Thread Cert.MixfRefIdeal.nD Cert.MixfRefIdeal.τ).loc Cert.MixfRefIdeal.main_arg10)) (m ((c.tc : Thread Cert.MixfRefIdeal.nD Cert.MixfRefIdeal.τ).loc Cert.MixfRefIdeal.main_arg11)) (m ((c.tc : Thread Cert.MixfRefIdeal.nD Cert.MixfRefIdeal.τ).loc Cert.MixfRefIdeal.main_arg12))).2.2.2.2.2.2.2.2.2.2.2.1 = (fun _ => 1#1)
    ∧ (Cert.Pre_mixf_finite.fn (F := Ideal) (m ((c.tc : Thread Cert.MixfRefIdeal.nD Cert.MixfRefIdeal.τ).loc Cert.MixfRefIdeal.main_arg0)) (m ((c.tc : Thread Cert.MixfRefIdeal.nD Cert.MixfRefIdeal.τ).loc Cert.MixfRefIdeal.main_arg1)) (m ((c.tc : Thread Cert.MixfRefIdeal.nD Cert.MixfRefIdeal.τ).loc Cert.MixfRefIdeal.main_arg2)) (m ((c.tc : Thread Cert.MixfRefIdeal.nD Cert.MixfRefIdeal.τ).loc Cert.MixfRefIdeal.main_arg3)) (m ((c.tc : Thread Cert.MixfRefIdeal.nD Cert.MixfRefIdeal.τ).loc Cert.MixfRefIdeal.main_arg4)) (m ((c.tc : Thread Cert.MixfRefIdeal.nD Cert.MixfRefIdeal.τ).loc Cert.MixfRefIdeal.main_arg5)) (m ((c.tc : Thread Cert.MixfRefIdeal.nD Cert.MixfRefIdeal.τ).loc Cert.MixfRefIdeal.main_arg6)) (m ((c.tc : Thread Cert.MixfRefIdeal.nD Cert.MixfRefIdeal.τ).loc Cert.MixfRefIdeal.main_arg7)) (m ((c.tc : Thread Cert.MixfRefIdeal.nD Cert.MixfRefIdeal.τ).loc Cert.MixfRefIdeal.main_arg8)) (m ((c.tc : Thread Cert.MixfRefIdeal.nD Cert.MixfRefIdeal.τ).loc Cert.MixfRefIdeal.main_arg9)) (m ((c.tc : Thread Cert.MixfRefIdeal.nD Cert.MixfRefIdeal.τ).loc Cert.MixfRefIdeal.main_arg10)) (m ((c.tc : Thread Cert.MixfRefIdeal.nD Cert.MixfRefIdeal.τ).loc Cert.MixfRefIdeal.main_arg11)) (m ((c.tc : Thread Cert.MixfRefIdeal.nD Cert.MixfRefIdeal.τ).loc Cert.MixfRefIdeal.main_arg12))).2.2.2.2.2.2.2.2.2.2.2.2 = (fun _ => 1#1)

def Pre_Inf (m : (ℓ : Loc Cert.Inf.nD Cert.Inf.τ Cert.Inf.sig) → Buf (Elt Bits) ℓ) : Prop :=
  True

def Pre_InfIdeal (m : (ℓ : Loc Cert.InfIdeal.nD Cert.InfIdeal.τ Cert.InfIdeal.sig) → Buf (Elt Ideal) ℓ) : Prop :=
  True

def Pre_InfIdeal_inf_finite [hPre_inf_finite : Cert.Pre_inf_finite.Facts] (m : (ℓ : Loc Cert.InfIdeal.nD Cert.InfIdeal.τ Cert.InfIdeal.sig) → Buf (Elt Ideal) ℓ) : Prop :=
  ∀ c : Dev Cert.InfIdeal.nD,
    (Cert.Pre_inf_finite.fn (F := Ideal) (m ((c.tc : Thread Cert.InfIdeal.nD Cert.InfIdeal.τ).loc Cert.InfIdeal.main_arg0)) (m ((c.tc : Thread Cert.InfIdeal.nD Cert.InfIdeal.τ).loc Cert.InfIdeal.main_arg1)) (m ((c.tc : Thread Cert.InfIdeal.nD Cert.InfIdeal.τ).loc Cert.InfIdeal.main_arg2)) (m ((c.tc : Thread Cert.InfIdeal.nD Cert.InfIdeal.τ).loc Cert.InfIdeal.main_arg3)) (m ((c.tc : Thread Cert.InfIdeal.nD Cert.InfIdeal.τ).loc Cert.InfIdeal.main_arg4)) (m ((c.tc : Thread Cert.InfIdeal.nD Cert.InfIdeal.τ).loc Cert.InfIdeal.main_arg5))).1 = (fun _ => 1#1)
    ∧ (Cert.Pre_inf_finite.fn (F := Ideal) (m ((c.tc : Thread Cert.InfIdeal.nD Cert.InfIdeal.τ).loc Cert.InfIdeal.main_arg0)) (m ((c.tc : Thread Cert.InfIdeal.nD Cert.InfIdeal.τ).loc Cert.InfIdeal.main_arg1)) (m ((c.tc : Thread Cert.InfIdeal.nD Cert.InfIdeal.τ).loc Cert.InfIdeal.main_arg2)) (m ((c.tc : Thread Cert.InfIdeal.nD Cert.InfIdeal.τ).loc Cert.InfIdeal.main_arg3)) (m ((c.tc : Thread Cert.InfIdeal.nD Cert.InfIdeal.τ).loc Cert.InfIdeal.main_arg4)) (m ((c.tc : Thread Cert.InfIdeal.nD Cert.InfIdeal.τ).loc Cert.InfIdeal.main_arg5))).2.1 = (fun _ => 1#1)
    ∧ (Cert.Pre_inf_finite.fn (F := Ideal) (m ((c.tc : Thread Cert.InfIdeal.nD Cert.InfIdeal.τ).loc Cert.InfIdeal.main_arg0)) (m ((c.tc : Thread Cert.InfIdeal.nD Cert.InfIdeal.τ).loc Cert.InfIdeal.main_arg1)) (m ((c.tc : Thread Cert.InfIdeal.nD Cert.InfIdeal.τ).loc Cert.InfIdeal.main_arg2)) (m ((c.tc : Thread Cert.InfIdeal.nD Cert.InfIdeal.τ).loc Cert.InfIdeal.main_arg3)) (m ((c.tc : Thread Cert.InfIdeal.nD Cert.InfIdeal.τ).loc Cert.InfIdeal.main_arg4)) (m ((c.tc : Thread Cert.InfIdeal.nD Cert.InfIdeal.τ).loc Cert.InfIdeal.main_arg5))).2.2.1 = (fun _ => 1#1)
    ∧ (Cert.Pre_inf_finite.fn (F := Ideal) (m ((c.tc : Thread Cert.InfIdeal.nD Cert.InfIdeal.τ).loc Cert.InfIdeal.main_arg0)) (m ((c.tc : Thread Cert.InfIdeal.nD Cert.InfIdeal.τ).loc Cert.InfIdeal.main_arg1)) (m ((c.tc : Thread Cert.InfIdeal.nD Cert.InfIdeal.τ).loc Cert.InfIdeal.main_arg2)) (m ((c.tc : Thread Cert.InfIdeal.nD Cert.InfIdeal.τ).loc Cert.InfIdeal.main_arg3)) (m ((c.tc : Thread Cert.InfIdeal.nD Cert.InfIdeal.τ).loc Cert.InfIdeal.main_arg4)) (m ((c.tc : Thread Cert.InfIdeal.nD Cert.InfIdeal.τ).loc Cert.InfIdeal.main_arg5))).2.2.2.1 = (fun _ => 1#1)
    ∧ (Cert.Pre_inf_finite.fn (F := Ideal) (m ((c.tc : Thread Cert.InfIdeal.nD Cert.InfIdeal.τ).loc Cert.InfIdeal.main_arg0)) (m ((c.tc : Thread Cert.InfIdeal.nD Cert.InfIdeal.τ).loc Cert.InfIdeal.main_arg1)) (m ((c.tc : Thread Cert.InfIdeal.nD Cert.InfIdeal.τ).loc Cert.InfIdeal.main_arg2)) (m ((c.tc : Thread Cert.InfIdeal.nD Cert.InfIdeal.τ).loc Cert.InfIdeal.main_arg3)) (m ((c.tc : Thread Cert.InfIdeal.nD Cert.InfIdeal.τ).loc Cert.InfIdeal.main_arg4)) (m ((c.tc : Thread Cert.InfIdeal.nD Cert.InfIdeal.τ).loc Cert.InfIdeal.main_arg5))).2.2.2.2.1 = (fun _ => 1#1)
    ∧ (Cert.Pre_inf_finite.fn (F := Ideal) (m ((c.tc : Thread Cert.InfIdeal.nD Cert.InfIdeal.τ).loc Cert.InfIdeal.main_arg0)) (m ((c.tc : Thread Cert.InfIdeal.nD Cert.InfIdeal.τ).loc Cert.InfIdeal.main_arg1)) (m ((c.tc : Thread Cert.InfIdeal.nD Cert.InfIdeal.τ).loc Cert.InfIdeal.main_arg2)) (m ((c.tc : Thread Cert.InfIdeal.nD Cert.InfIdeal.τ).loc Cert.InfIdeal.main_arg3)) (m ((c.tc : Thread Cert.InfIdeal.nD Cert.InfIdeal.τ).loc Cert.InfIdeal.main_arg4)) (m ((c.tc : Thread Cert.InfIdeal.nD Cert.InfIdeal.τ).loc Cert.InfIdeal.main_arg5))).2.2.2.2.2 = (fun _ => 1#1)

def Pre_InfRefIdeal (m : (ℓ : Loc Cert.InfRefIdeal.nD Cert.InfRefIdeal.τ Cert.InfRefIdeal.sig) → Buf (Elt Ideal) ℓ) : Prop :=
  True

def Pre_InfRefIdeal_inf_finite [hPre_inf_finite : Cert.Pre_inf_finite.Facts] (m : (ℓ : Loc Cert.InfRefIdeal.nD Cert.InfRefIdeal.τ Cert.InfRefIdeal.sig) → Buf (Elt Ideal) ℓ) : Prop :=
  ∀ c : Dev Cert.InfRefIdeal.nD,
    (Cert.Pre_inf_finite.fn (F := Ideal) (m ((c.tc : Thread Cert.InfRefIdeal.nD Cert.InfRefIdeal.τ).loc Cert.InfRefIdeal.main_arg0)) (m ((c.tc : Thread Cert.InfRefIdeal.nD Cert.InfRefIdeal.τ).loc Cert.InfRefIdeal.main_arg1)) (m ((c.tc : Thread Cert.InfRefIdeal.nD Cert.InfRefIdeal.τ).loc Cert.InfRefIdeal.main_arg2)) (m ((c.tc : Thread Cert.InfRefIdeal.nD Cert.InfRefIdeal.τ).loc Cert.InfRefIdeal.main_arg3)) (m ((c.tc : Thread Cert.InfRefIdeal.nD Cert.InfRefIdeal.τ).loc Cert.InfRefIdeal.main_arg4)) (m ((c.tc : Thread Cert.InfRefIdeal.nD Cert.InfRefIdeal.τ).loc Cert.InfRefIdeal.main_arg5))).1 = (fun _ => 1#1)
    ∧ (Cert.Pre_inf_finite.fn (F := Ideal) (m ((c.tc : Thread Cert.InfRefIdeal.nD Cert.InfRefIdeal.τ).loc Cert.InfRefIdeal.main_arg0)) (m ((c.tc : Thread Cert.InfRefIdeal.nD Cert.InfRefIdeal.τ).loc Cert.InfRefIdeal.main_arg1)) (m ((c.tc : Thread Cert.InfRefIdeal.nD Cert.InfRefIdeal.τ).loc Cert.InfRefIdeal.main_arg2)) (m ((c.tc : Thread Cert.InfRefIdeal.nD Cert.InfRefIdeal.τ).loc Cert.InfRefIdeal.main_arg3)) (m ((c.tc : Thread Cert.InfRefIdeal.nD Cert.InfRefIdeal.τ).loc Cert.InfRefIdeal.main_arg4)) (m ((c.tc : Thread Cert.InfRefIdeal.nD Cert.InfRefIdeal.τ).loc Cert.InfRefIdeal.main_arg5))).2.1 = (fun _ => 1#1)
    ∧ (Cert.Pre_inf_finite.fn (F := Ideal) (m ((c.tc : Thread Cert.InfRefIdeal.nD Cert.InfRefIdeal.τ).loc Cert.InfRefIdeal.main_arg0)) (m ((c.tc : Thread Cert.InfRefIdeal.nD Cert.InfRefIdeal.τ).loc Cert.InfRefIdeal.main_arg1)) (m ((c.tc : Thread Cert.InfRefIdeal.nD Cert.InfRefIdeal.τ).loc Cert.InfRefIdeal.main_arg2)) (m ((c.tc : Thread Cert.InfRefIdeal.nD Cert.InfRefIdeal.τ).loc Cert.InfRefIdeal.main_arg3)) (m ((c.tc : Thread Cert.InfRefIdeal.nD Cert.InfRefIdeal.τ).loc Cert.InfRefIdeal.main_arg4)) (m ((c.tc : Thread Cert.InfRefIdeal.nD Cert.InfRefIdeal.τ).loc Cert.InfRefIdeal.main_arg5))).2.2.1 = (fun _ => 1#1)
    ∧ (Cert.Pre_inf_finite.fn (F := Ideal) (m ((c.tc : Thread Cert.InfRefIdeal.nD Cert.InfRefIdeal.τ).loc Cert.InfRefIdeal.main_arg0)) (m ((c.tc : Thread Cert.InfRefIdeal.nD Cert.InfRefIdeal.τ).loc Cert.InfRefIdeal.main_arg1)) (m ((c.tc : Thread Cert.InfRefIdeal.nD Cert.InfRefIdeal.τ).loc Cert.InfRefIdeal.main_arg2)) (m ((c.tc : Thread Cert.InfRefIdeal.nD Cert.InfRefIdeal.τ).loc Cert.InfRefIdeal.main_arg3)) (m ((c.tc : Thread Cert.InfRefIdeal.nD Cert.InfRefIdeal.τ).loc Cert.InfRefIdeal.main_arg4)) (m ((c.tc : Thread Cert.InfRefIdeal.nD Cert.InfRefIdeal.τ).loc Cert.InfRefIdeal.main_arg5))).2.2.2.1 = (fun _ => 1#1)
    ∧ (Cert.Pre_inf_finite.fn (F := Ideal) (m ((c.tc : Thread Cert.InfRefIdeal.nD Cert.InfRefIdeal.τ).loc Cert.InfRefIdeal.main_arg0)) (m ((c.tc : Thread Cert.InfRefIdeal.nD Cert.InfRefIdeal.τ).loc Cert.InfRefIdeal.main_arg1)) (m ((c.tc : Thread Cert.InfRefIdeal.nD Cert.InfRefIdeal.τ).loc Cert.InfRefIdeal.main_arg2)) (m ((c.tc : Thread Cert.InfRefIdeal.nD Cert.InfRefIdeal.τ).loc Cert.InfRefIdeal.main_arg3)) (m ((c.tc : Thread Cert.InfRefIdeal.nD Cert.InfRefIdeal.τ).loc Cert.InfRefIdeal.main_arg4)) (m ((c.tc : Thread Cert.InfRefIdeal.nD Cert.InfRefIdeal.τ).loc Cert.InfRefIdeal.main_arg5))).2.2.2.2.1 = (fun _ => 1#1)
    ∧ (Cert.Pre_inf_finite.fn (F := Ideal) (m ((c.tc : Thread Cert.InfRefIdeal.nD Cert.InfRefIdeal.τ).loc Cert.InfRefIdeal.main_arg0)) (m ((c.tc : Thread Cert.InfRefIdeal.nD Cert.InfRefIdeal.τ).loc Cert.InfRefIdeal.main_arg1)) (m ((c.tc : Thread Cert.InfRefIdeal.nD Cert.InfRefIdeal.τ).loc Cert.InfRefIdeal.main_arg2)) (m ((c.tc : Thread Cert.InfRefIdeal.nD Cert.InfRefIdeal.τ).loc Cert.InfRefIdeal.main_arg3)) (m ((c.tc : Thread Cert.InfRefIdeal.nD Cert.InfRefIdeal.τ).loc Cert.InfRefIdeal.main_arg4)) (m ((c.tc : Thread Cert.InfRefIdeal.nD Cert.InfRefIdeal.τ).loc Cert.InfRefIdeal.main_arg5))).2.2.2.2.2 = (fun _ => 1#1)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3)
      ∧ r.2.mem ((c.tc : Thread Cert.Mod.nD Cert.Mod.τ).loc Cert.Mod.main_arg4) = m ((c.tc : Thread Cert.Mod.nD Cert.Mod.τ).loc Cert.Mod.main_arg4)
      ∧ r.2.mem ((c.tc : Thread Cert.Mod.nD Cert.Mod.τ).loc Cert.Mod.main_arg5) = m ((c.tc : Thread Cert.Mod.nD Cert.Mod.τ).loc Cert.Mod.main_arg5)
      ∧ r.2.mem ((c.tc : Thread Cert.Mod.nD Cert.Mod.τ).loc Cert.Mod.main_arg6) = m ((c.tc : Thread Cert.Mod.nD Cert.Mod.τ).loc Cert.Mod.main_arg6))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3)
      ∧ r.2.mem ((c.tc : Thread Cert.ModIdeal.nD Cert.ModIdeal.τ).loc Cert.ModIdeal.main_arg4) = m ((c.tc : Thread Cert.ModIdeal.nD Cert.ModIdeal.τ).loc Cert.ModIdeal.main_arg4)
      ∧ r.2.mem ((c.tc : Thread Cert.ModIdeal.nD Cert.ModIdeal.τ).loc Cert.ModIdeal.main_arg5) = m ((c.tc : Thread Cert.ModIdeal.nD Cert.ModIdeal.τ).loc Cert.ModIdeal.main_arg5)
      ∧ r.2.mem ((c.tc : Thread Cert.ModIdeal.nD Cert.ModIdeal.τ).loc Cert.ModIdeal.main_arg6) = m ((c.tc : Thread Cert.ModIdeal.nD Cert.ModIdeal.τ).loc Cert.ModIdeal.main_arg6))
      ∧ r.2.sem = fun _ => 0)

def quiescent_ModIdeal_pre_mod_finite [hModIdeal : Cert.ModIdeal.Facts] [hPre_mod_finite : Cert.Pre_mod_finite.Facts] : Prop :=
  ∀ (m : (ℓ : Loc Cert.ModIdeal.nD Cert.ModIdeal.τ Cert.ModIdeal.sig) → Buf (Elt Ideal) ℓ) (g : Dev Cert.ModIdeal.nD → PrngReg), Pre_ModIdeal_mod_finite m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3)
      ∧ r.2.mem ((c.tc : Thread Cert.ModIdeal.nD Cert.ModIdeal.τ).loc Cert.ModIdeal.main_arg4) = m ((c.tc : Thread Cert.ModIdeal.nD Cert.ModIdeal.τ).loc Cert.ModIdeal.main_arg4)
      ∧ r.2.mem ((c.tc : Thread Cert.ModIdeal.nD Cert.ModIdeal.τ).loc Cert.ModIdeal.main_arg5) = m ((c.tc : Thread Cert.ModIdeal.nD Cert.ModIdeal.τ).loc Cert.ModIdeal.main_arg5)
      ∧ r.2.mem ((c.tc : Thread Cert.ModIdeal.nD Cert.ModIdeal.τ).loc Cert.ModIdeal.main_arg6) = m ((c.tc : Thread Cert.ModIdeal.nD Cert.ModIdeal.τ).loc Cert.ModIdeal.main_arg6))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3)
      ∧ r.2.mem ((c.tc : Thread Cert.ModRefIdeal.nD Cert.ModRefIdeal.τ).loc Cert.ModRefIdeal.main_arg4) = m ((c.tc : Thread Cert.ModRefIdeal.nD Cert.ModRefIdeal.τ).loc Cert.ModRefIdeal.main_arg4)
      ∧ r.2.mem ((c.tc : Thread Cert.ModRefIdeal.nD Cert.ModRefIdeal.τ).loc Cert.ModRefIdeal.main_arg5) = m ((c.tc : Thread Cert.ModRefIdeal.nD Cert.ModRefIdeal.τ).loc Cert.ModRefIdeal.main_arg5)
      ∧ r.2.mem ((c.tc : Thread Cert.ModRefIdeal.nD Cert.ModRefIdeal.τ).loc Cert.ModRefIdeal.main_arg6) = m ((c.tc : Thread Cert.ModRefIdeal.nD Cert.ModRefIdeal.τ).loc Cert.ModRefIdeal.main_arg6))
      ∧ r.2.sem = fun _ => 0)

def quiescent_ModRefIdeal_pre_mod_finite [hModRefIdeal : Cert.ModRefIdeal.Facts] [hPre_mod_finite : Cert.Pre_mod_finite.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal_mod_finite m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3)
      ∧ r.2.mem ((c.tc : Thread Cert.ModRefIdeal.nD Cert.ModRefIdeal.τ).loc Cert.ModRefIdeal.main_arg4) = m ((c.tc : Thread Cert.ModRefIdeal.nD Cert.ModRefIdeal.τ).loc Cert.ModRefIdeal.main_arg4)
      ∧ r.2.mem ((c.tc : Thread Cert.ModRefIdeal.nD Cert.ModRefIdeal.τ).loc Cert.ModRefIdeal.main_arg5) = m ((c.tc : Thread Cert.ModRefIdeal.nD Cert.ModRefIdeal.τ).loc Cert.ModRefIdeal.main_arg5)
      ∧ r.2.mem ((c.tc : Thread Cert.ModRefIdeal.nD Cert.ModRefIdeal.τ).loc Cert.ModRefIdeal.main_arg6) = m ((c.tc : Thread Cert.ModRefIdeal.nD Cert.ModRefIdeal.τ).loc Cert.ModRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Inb [hInb : Cert.Inb.Facts] : Prop :=
  ∀ (m : (ℓ : Loc Cert.Inb.nD Cert.Inb.τ Cert.Inb.sig) → Buf (Elt Bits) ℓ) (g : Dev Cert.Inb.nD → PrngReg), Pre_Inb m →
    θ_run (Cert.Inb.defs (F := Bits)) (onTc (τ := Cert.Inb.τ) (Cert.Inb.main (F := Bits))) ⟨m, fun _ => 0, g⟩ (fun r => (∀ c : Dev Cert.Inb.nD,
      r.2.mem ((c.tc : Thread Cert.Inb.nD Cert.Inb.τ).loc Cert.Inb.main_arg0) = m ((c.tc : Thread Cert.Inb.nD Cert.Inb.τ).loc Cert.Inb.main_arg0)
      ∧ r.2.mem ((c.tc : Thread Cert.Inb.nD Cert.Inb.τ).loc Cert.Inb.main_arg1) = m ((c.tc : Thread Cert.Inb.nD Cert.Inb.τ).loc Cert.Inb.main_arg1)
      ∧ r.2.mem ((c.tc : Thread Cert.Inb.nD Cert.Inb.τ).loc Cert.Inb.main_arg2) = m ((c.tc : Thread Cert.Inb.nD Cert.Inb.τ).loc Cert.Inb.main_arg2)
      ∧ r.2.mem ((c.tc : Thread Cert.Inb.nD Cert.Inb.τ).loc Cert.Inb.main_arg3) = m ((c.tc : Thread Cert.Inb.nD Cert.Inb.τ).loc Cert.Inb.main_arg3)
      ∧ r.2.mem ((c.tc : Thread Cert.Inb.nD Cert.Inb.τ).loc Cert.Inb.main_arg4) = m ((c.tc : Thread Cert.Inb.nD Cert.Inb.τ).loc Cert.Inb.main_arg4)
      ∧ r.2.mem ((c.tc : Thread Cert.Inb.nD Cert.Inb.τ).loc Cert.Inb.main_arg5) = m ((c.tc : Thread Cert.Inb.nD Cert.Inb.τ).loc Cert.Inb.main_arg5)
      ∧ r.2.mem ((c.tc : Thread Cert.Inb.nD Cert.Inb.τ).loc Cert.Inb.main_arg6) = m ((c.tc : Thread Cert.Inb.nD Cert.Inb.τ).loc Cert.Inb.main_arg6)
      ∧ r.2.mem ((c.tc : Thread Cert.Inb.nD Cert.Inb.τ).loc Cert.Inb.main_arg7) = m ((c.tc : Thread Cert.Inb.nD Cert.Inb.τ).loc Cert.Inb.main_arg7)
      ∧ r.2.mem ((c.tc : Thread Cert.Inb.nD Cert.Inb.τ).loc Cert.Inb.main_arg8) = m ((c.tc : Thread Cert.Inb.nD Cert.Inb.τ).loc Cert.Inb.main_arg8)
      ∧ r.2.mem ((c.tc : Thread Cert.Inb.nD Cert.Inb.τ).loc Cert.Inb.main_arg9) = m ((c.tc : Thread Cert.Inb.nD Cert.Inb.τ).loc Cert.Inb.main_arg9)
      ∧ r.2.mem ((c.tc : Thread Cert.Inb.nD Cert.Inb.τ).loc Cert.Inb.main_arg10) = m ((c.tc : Thread Cert.Inb.nD Cert.Inb.τ).loc Cert.Inb.main_arg10)
      ∧ r.2.mem ((c.tc : Thread Cert.Inb.nD Cert.Inb.τ).loc Cert.Inb.main_arg11) = m ((c.tc : Thread Cert.Inb.nD Cert.Inb.τ).loc Cert.Inb.main_arg11)
      ∧ r.2.mem ((c.tc : Thread Cert.Inb.nD Cert.Inb.τ).loc Cert.Inb.main_arg12) = m ((c.tc : Thread Cert.Inb.nD Cert.Inb.τ).loc Cert.Inb.main_arg12)
      ∧ r.2.mem ((c.tc : Thread Cert.Inb.nD Cert.Inb.τ).loc Cert.Inb.main_arg13) = m ((c.tc : Thread Cert.Inb.nD Cert.Inb.τ).loc Cert.Inb.main_arg13))
      ∧ r.2.sem = fun _ => 0)

def quiescent_InbIdeal [hInbIdeal : Cert.InbIdeal.Facts] : Prop :=
  ∀ (m : (ℓ : Loc Cert.InbIdeal.nD Cert.InbIdeal.τ Cert.InbIdeal.sig) → Buf (Elt Ideal) ℓ) (g : Dev Cert.InbIdeal.nD → PrngReg), Pre_InbIdeal m →
    θ_run (Cert.InbIdeal.defs (F := Ideal)) (onTc (τ := Cert.InbIdeal.τ) (Cert.InbIdeal.main (F := Ideal))) ⟨m, fun _ => 0, g⟩ (fun r => (∀ c : Dev Cert.InbIdeal.nD,
      r.2.mem ((c.tc : Thread Cert.InbIdeal.nD Cert.InbIdeal.τ).loc Cert.InbIdeal.main_arg0) = m ((c.tc : Thread Cert.InbIdeal.nD Cert.InbIdeal.τ).loc Cert.InbIdeal.main_arg0)
      ∧ r.2.mem ((c.tc : Thread Cert.InbIdeal.nD Cert.InbIdeal.τ).loc Cert.InbIdeal.main_arg1) = m ((c.tc : Thread Cert.InbIdeal.nD Cert.InbIdeal.τ).loc Cert.InbIdeal.main_arg1)
      ∧ r.2.mem ((c.tc : Thread Cert.InbIdeal.nD Cert.InbIdeal.τ).loc Cert.InbIdeal.main_arg2) = m ((c.tc : Thread Cert.InbIdeal.nD Cert.InbIdeal.τ).loc Cert.InbIdeal.main_arg2)
      ∧ r.2.mem ((c.tc : Thread Cert.InbIdeal.nD Cert.InbIdeal.τ).loc Cert.InbIdeal.main_arg3) = m ((c.tc : Thread Cert.InbIdeal.nD Cert.InbIdeal.τ).loc Cert.InbIdeal.main_arg3)
      ∧ r.2.mem ((c.tc : Thread Cert.InbIdeal.nD Cert.InbIdeal.τ).loc Cert.InbIdeal.main_arg4) = m ((c.tc : Thread Cert.InbIdeal.nD Cert.InbIdeal.τ).loc Cert.InbIdeal.main_arg4)
      ∧ r.2.mem ((c.tc : Thread Cert.InbIdeal.nD Cert.InbIdeal.τ).loc Cert.InbIdeal.main_arg5) = m ((c.tc : Thread Cert.InbIdeal.nD Cert.InbIdeal.τ).loc Cert.InbIdeal.main_arg5)
      ∧ r.2.mem ((c.tc : Thread Cert.InbIdeal.nD Cert.InbIdeal.τ).loc Cert.InbIdeal.main_arg6) = m ((c.tc : Thread Cert.InbIdeal.nD Cert.InbIdeal.τ).loc Cert.InbIdeal.main_arg6)
      ∧ r.2.mem ((c.tc : Thread Cert.InbIdeal.nD Cert.InbIdeal.τ).loc Cert.InbIdeal.main_arg7) = m ((c.tc : Thread Cert.InbIdeal.nD Cert.InbIdeal.τ).loc Cert.InbIdeal.main_arg7)
      ∧ r.2.mem ((c.tc : Thread Cert.InbIdeal.nD Cert.InbIdeal.τ).loc Cert.InbIdeal.main_arg8) = m ((c.tc : Thread Cert.InbIdeal.nD Cert.InbIdeal.τ).loc Cert.InbIdeal.main_arg8)
      ∧ r.2.mem ((c.tc : Thread Cert.InbIdeal.nD Cert.InbIdeal.τ).loc Cert.InbIdeal.main_arg9) = m ((c.tc : Thread Cert.InbIdeal.nD Cert.InbIdeal.τ).loc Cert.InbIdeal.main_arg9)
      ∧ r.2.mem ((c.tc : Thread Cert.InbIdeal.nD Cert.InbIdeal.τ).loc Cert.InbIdeal.main_arg10) = m ((c.tc : Thread Cert.InbIdeal.nD Cert.InbIdeal.τ).loc Cert.InbIdeal.main_arg10)
      ∧ r.2.mem ((c.tc : Thread Cert.InbIdeal.nD Cert.InbIdeal.τ).loc Cert.InbIdeal.main_arg11) = m ((c.tc : Thread Cert.InbIdeal.nD Cert.InbIdeal.τ).loc Cert.InbIdeal.main_arg11)
      ∧ r.2.mem ((c.tc : Thread Cert.InbIdeal.nD Cert.InbIdeal.τ).loc Cert.InbIdeal.main_arg12) = m ((c.tc : Thread Cert.InbIdeal.nD Cert.InbIdeal.τ).loc Cert.InbIdeal.main_arg12)
      ∧ r.2.mem ((c.tc : Thread Cert.InbIdeal.nD Cert.InbIdeal.τ).loc Cert.InbIdeal.main_arg13) = m ((c.tc : Thread Cert.InbIdeal.nD Cert.InbIdeal.τ).loc Cert.InbIdeal.main_arg13))
      ∧ r.2.sem = fun _ => 0)

def quiescent_InbIdeal_pre_in_finite [hInbIdeal : Cert.InbIdeal.Facts] [hPre_in_finite : Cert.Pre_in_finite.Facts] : Prop :=
  ∀ (m : (ℓ : Loc Cert.InbIdeal.nD Cert.InbIdeal.τ Cert.InbIdeal.sig) → Buf (Elt Ideal) ℓ) (g : Dev Cert.InbIdeal.nD → PrngReg), Pre_InbIdeal_in_finite m →
    θ_run (Cert.InbIdeal.defs (F := Ideal)) (onTc (τ := Cert.InbIdeal.τ) (Cert.InbIdeal.main (F := Ideal))) ⟨m, fun _ => 0, g⟩ (fun r => (∀ c : Dev Cert.InbIdeal.nD,
      r.2.mem ((c.tc : Thread Cert.InbIdeal.nD Cert.InbIdeal.τ).loc Cert.InbIdeal.main_arg0) = m ((c.tc : Thread Cert.InbIdeal.nD Cert.InbIdeal.τ).loc Cert.InbIdeal.main_arg0)
      ∧ r.2.mem ((c.tc : Thread Cert.InbIdeal.nD Cert.InbIdeal.τ).loc Cert.InbIdeal.main_arg1) = m ((c.tc : Thread Cert.InbIdeal.nD Cert.InbIdeal.τ).loc Cert.InbIdeal.main_arg1)
      ∧ r.2.mem ((c.tc : Thread Cert.InbIdeal.nD Cert.InbIdeal.τ).loc Cert.InbIdeal.main_arg2) = m ((c.tc : Thread Cert.InbIdeal.nD Cert.InbIdeal.τ).loc Cert.InbIdeal.main_arg2)
      ∧ r.2.mem ((c.tc : Thread Cert.InbIdeal.nD Cert.InbIdeal.τ).loc Cert.InbIdeal.main_arg3) = m ((c.tc : Thread Cert.InbIdeal.nD Cert.InbIdeal.τ).loc Cert.InbIdeal.main_arg3)
      ∧ r.2.mem ((c.tc : Thread Cert.InbIdeal.nD Cert.InbIdeal.τ).loc Cert.InbIdeal.main_arg4) = m ((c.tc : Thread Cert.InbIdeal.nD Cert.InbIdeal.τ).loc Cert.InbIdeal.main_arg4)
      ∧ r.2.mem ((c.tc : Thread Cert.InbIdeal.nD Cert.InbIdeal.τ).loc Cert.InbIdeal.main_arg5) = m ((c.tc : Thread Cert.InbIdeal.nD Cert.InbIdeal.τ).loc Cert.InbIdeal.main_arg5)
      ∧ r.2.mem ((c.tc : Thread Cert.InbIdeal.nD Cert.InbIdeal.τ).loc Cert.InbIdeal.main_arg6) = m ((c.tc : Thread Cert.InbIdeal.nD Cert.InbIdeal.τ).loc Cert.InbIdeal.main_arg6)
      ∧ r.2.mem ((c.tc : Thread Cert.InbIdeal.nD Cert.InbIdeal.τ).loc Cert.InbIdeal.main_arg7) = m ((c.tc : Thread Cert.InbIdeal.nD Cert.InbIdeal.τ).loc Cert.InbIdeal.main_arg7)
      ∧ r.2.mem ((c.tc : Thread Cert.InbIdeal.nD Cert.InbIdeal.τ).loc Cert.InbIdeal.main_arg8) = m ((c.tc : Thread Cert.InbIdeal.nD Cert.InbIdeal.τ).loc Cert.InbIdeal.main_arg8)
      ∧ r.2.mem ((c.tc : Thread Cert.InbIdeal.nD Cert.InbIdeal.τ).loc Cert.InbIdeal.main_arg9) = m ((c.tc : Thread Cert.InbIdeal.nD Cert.InbIdeal.τ).loc Cert.InbIdeal.main_arg9)
      ∧ r.2.mem ((c.tc : Thread Cert.InbIdeal.nD Cert.InbIdeal.τ).loc Cert.InbIdeal.main_arg10) = m ((c.tc : Thread Cert.InbIdeal.nD Cert.InbIdeal.τ).loc Cert.InbIdeal.main_arg10)
      ∧ r.2.mem ((c.tc : Thread Cert.InbIdeal.nD Cert.InbIdeal.τ).loc Cert.InbIdeal.main_arg11) = m ((c.tc : Thread Cert.InbIdeal.nD Cert.InbIdeal.τ).loc Cert.InbIdeal.main_arg11)
      ∧ r.2.mem ((c.tc : Thread Cert.InbIdeal.nD Cert.InbIdeal.τ).loc Cert.InbIdeal.main_arg12) = m ((c.tc : Thread Cert.InbIdeal.nD Cert.InbIdeal.τ).loc Cert.InbIdeal.main_arg12)
      ∧ r.2.mem ((c.tc : Thread Cert.InbIdeal.nD Cert.InbIdeal.τ).loc Cert.InbIdeal.main_arg13) = m ((c.tc : Thread Cert.InbIdeal.nD Cert.InbIdeal.τ).loc Cert.InbIdeal.main_arg13))
      ∧ r.2.sem = fun _ => 0)

def quiescent_InbRefIdeal [hInbRefIdeal : Cert.InbRefIdeal.Facts] : Prop :=
  ∀ (m : (ℓ : Loc Cert.InbRefIdeal.nD Cert.InbRefIdeal.τ Cert.InbRefIdeal.sig) → Buf (Elt Ideal) ℓ) (g : Dev Cert.InbRefIdeal.nD → PrngReg), Pre_InbRefIdeal m →
    θ_run (Cert.InbRefIdeal.defs (F := Ideal)) (onTc (τ := Cert.InbRefIdeal.τ) (Cert.InbRefIdeal.main (F := Ideal))) ⟨m, fun _ => 0, g⟩ (fun r => (∀ c : Dev Cert.InbRefIdeal.nD,
      r.2.mem ((c.tc : Thread Cert.InbRefIdeal.nD Cert.InbRefIdeal.τ).loc Cert.InbRefIdeal.main_arg0) = m ((c.tc : Thread Cert.InbRefIdeal.nD Cert.InbRefIdeal.τ).loc Cert.InbRefIdeal.main_arg0)
      ∧ r.2.mem ((c.tc : Thread Cert.InbRefIdeal.nD Cert.InbRefIdeal.τ).loc Cert.InbRefIdeal.main_arg1) = m ((c.tc : Thread Cert.InbRefIdeal.nD Cert.InbRefIdeal.τ).loc Cert.InbRefIdeal.main_arg1)
      ∧ r.2.mem ((c.tc : Thread Cert.InbRefIdeal.nD Cert.InbRefIdeal.τ).loc Cert.InbRefIdeal.main_arg2) = m ((c.tc : Thread Cert.InbRefIdeal.nD Cert.InbRefIdeal.τ).loc Cert.InbRefIdeal.main_arg2)
      ∧ r.2.mem ((c.tc : Thread Cert.InbRefIdeal.nD Cert.InbRefIdeal.τ).loc Cert.InbRefIdeal.main_arg3) = m ((c.tc : Thread Cert.InbRefIdeal.nD Cert.InbRefIdeal.τ).loc Cert.InbRefIdeal.main_arg3)
      ∧ r.2.mem ((c.tc : Thread Cert.InbRefIdeal.nD Cert.InbRefIdeal.τ).loc Cert.InbRefIdeal.main_arg4) = m ((c.tc : Thread Cert.InbRefIdeal.nD Cert.InbRefIdeal.τ).loc Cert.InbRefIdeal.main_arg4)
      ∧ r.2.mem ((c.tc : Thread Cert.InbRefIdeal.nD Cert.InbRefIdeal.τ).loc Cert.InbRefIdeal.main_arg5) = m ((c.tc : Thread Cert.InbRefIdeal.nD Cert.InbRefIdeal.τ).loc Cert.InbRefIdeal.main_arg5)
      ∧ r.2.mem ((c.tc : Thread Cert.InbRefIdeal.nD Cert.InbRefIdeal.τ).loc Cert.InbRefIdeal.main_arg6) = m ((c.tc : Thread Cert.InbRefIdeal.nD Cert.InbRefIdeal.τ).loc Cert.InbRefIdeal.main_arg6)
      ∧ r.2.mem ((c.tc : Thread Cert.InbRefIdeal.nD Cert.InbRefIdeal.τ).loc Cert.InbRefIdeal.main_arg7) = m ((c.tc : Thread Cert.InbRefIdeal.nD Cert.InbRefIdeal.τ).loc Cert.InbRefIdeal.main_arg7)
      ∧ r.2.mem ((c.tc : Thread Cert.InbRefIdeal.nD Cert.InbRefIdeal.τ).loc Cert.InbRefIdeal.main_arg8) = m ((c.tc : Thread Cert.InbRefIdeal.nD Cert.InbRefIdeal.τ).loc Cert.InbRefIdeal.main_arg8)
      ∧ r.2.mem ((c.tc : Thread Cert.InbRefIdeal.nD Cert.InbRefIdeal.τ).loc Cert.InbRefIdeal.main_arg9) = m ((c.tc : Thread Cert.InbRefIdeal.nD Cert.InbRefIdeal.τ).loc Cert.InbRefIdeal.main_arg9)
      ∧ r.2.mem ((c.tc : Thread Cert.InbRefIdeal.nD Cert.InbRefIdeal.τ).loc Cert.InbRefIdeal.main_arg10) = m ((c.tc : Thread Cert.InbRefIdeal.nD Cert.InbRefIdeal.τ).loc Cert.InbRefIdeal.main_arg10)
      ∧ r.2.mem ((c.tc : Thread Cert.InbRefIdeal.nD Cert.InbRefIdeal.τ).loc Cert.InbRefIdeal.main_arg11) = m ((c.tc : Thread Cert.InbRefIdeal.nD Cert.InbRefIdeal.τ).loc Cert.InbRefIdeal.main_arg11)
      ∧ r.2.mem ((c.tc : Thread Cert.InbRefIdeal.nD Cert.InbRefIdeal.τ).loc Cert.InbRefIdeal.main_arg12) = m ((c.tc : Thread Cert.InbRefIdeal.nD Cert.InbRefIdeal.τ).loc Cert.InbRefIdeal.main_arg12)
      ∧ r.2.mem ((c.tc : Thread Cert.InbRefIdeal.nD Cert.InbRefIdeal.τ).loc Cert.InbRefIdeal.main_arg13) = m ((c.tc : Thread Cert.InbRefIdeal.nD Cert.InbRefIdeal.τ).loc Cert.InbRefIdeal.main_arg13))
      ∧ r.2.sem = fun _ => 0)

def quiescent_InbRefIdeal_pre_in_finite [hInbRefIdeal : Cert.InbRefIdeal.Facts] [hPre_in_finite : Cert.Pre_in_finite.Facts] : Prop :=
  ∀ (m : (ℓ : Loc Cert.InbRefIdeal.nD Cert.InbRefIdeal.τ Cert.InbRefIdeal.sig) → Buf (Elt Ideal) ℓ) (g : Dev Cert.InbRefIdeal.nD → PrngReg), Pre_InbRefIdeal_in_finite m →
    θ_run (Cert.InbRefIdeal.defs (F := Ideal)) (onTc (τ := Cert.InbRefIdeal.τ) (Cert.InbRefIdeal.main (F := Ideal))) ⟨m, fun _ => 0, g⟩ (fun r => (∀ c : Dev Cert.InbRefIdeal.nD,
      r.2.mem ((c.tc : Thread Cert.InbRefIdeal.nD Cert.InbRefIdeal.τ).loc Cert.InbRefIdeal.main_arg0) = m ((c.tc : Thread Cert.InbRefIdeal.nD Cert.InbRefIdeal.τ).loc Cert.InbRefIdeal.main_arg0)
      ∧ r.2.mem ((c.tc : Thread Cert.InbRefIdeal.nD Cert.InbRefIdeal.τ).loc Cert.InbRefIdeal.main_arg1) = m ((c.tc : Thread Cert.InbRefIdeal.nD Cert.InbRefIdeal.τ).loc Cert.InbRefIdeal.main_arg1)
      ∧ r.2.mem ((c.tc : Thread Cert.InbRefIdeal.nD Cert.InbRefIdeal.τ).loc Cert.InbRefIdeal.main_arg2) = m ((c.tc : Thread Cert.InbRefIdeal.nD Cert.InbRefIdeal.τ).loc Cert.InbRefIdeal.main_arg2)
      ∧ r.2.mem ((c.tc : Thread Cert.InbRefIdeal.nD Cert.InbRefIdeal.τ).loc Cert.InbRefIdeal.main_arg3) = m ((c.tc : Thread Cert.InbRefIdeal.nD Cert.InbRefIdeal.τ).loc Cert.InbRefIdeal.main_arg3)
      ∧ r.2.mem ((c.tc : Thread Cert.InbRefIdeal.nD Cert.InbRefIdeal.τ).loc Cert.InbRefIdeal.main_arg4) = m ((c.tc : Thread Cert.InbRefIdeal.nD Cert.InbRefIdeal.τ).loc Cert.InbRefIdeal.main_arg4)
      ∧ r.2.mem ((c.tc : Thread Cert.InbRefIdeal.nD Cert.InbRefIdeal.τ).loc Cert.InbRefIdeal.main_arg5) = m ((c.tc : Thread Cert.InbRefIdeal.nD Cert.InbRefIdeal.τ).loc Cert.InbRefIdeal.main_arg5)
      ∧ r.2.mem ((c.tc : Thread Cert.InbRefIdeal.nD Cert.InbRefIdeal.τ).loc Cert.InbRefIdeal.main_arg6) = m ((c.tc : Thread Cert.InbRefIdeal.nD Cert.InbRefIdeal.τ).loc Cert.InbRefIdeal.main_arg6)
      ∧ r.2.mem ((c.tc : Thread Cert.InbRefIdeal.nD Cert.InbRefIdeal.τ).loc Cert.InbRefIdeal.main_arg7) = m ((c.tc : Thread Cert.InbRefIdeal.nD Cert.InbRefIdeal.τ).loc Cert.InbRefIdeal.main_arg7)
      ∧ r.2.mem ((c.tc : Thread Cert.InbRefIdeal.nD Cert.InbRefIdeal.τ).loc Cert.InbRefIdeal.main_arg8) = m ((c.tc : Thread Cert.InbRefIdeal.nD Cert.InbRefIdeal.τ).loc Cert.InbRefIdeal.main_arg8)
      ∧ r.2.mem ((c.tc : Thread Cert.InbRefIdeal.nD Cert.InbRefIdeal.τ).loc Cert.InbRefIdeal.main_arg9) = m ((c.tc : Thread Cert.InbRefIdeal.nD Cert.InbRefIdeal.τ).loc Cert.InbRefIdeal.main_arg9)
      ∧ r.2.mem ((c.tc : Thread Cert.InbRefIdeal.nD Cert.InbRefIdeal.τ).loc Cert.InbRefIdeal.main_arg10) = m ((c.tc : Thread Cert.InbRefIdeal.nD Cert.InbRefIdeal.τ).loc Cert.InbRefIdeal.main_arg10)
      ∧ r.2.mem ((c.tc : Thread Cert.InbRefIdeal.nD Cert.InbRefIdeal.τ).loc Cert.InbRefIdeal.main_arg11) = m ((c.tc : Thread Cert.InbRefIdeal.nD Cert.InbRefIdeal.τ).loc Cert.InbRefIdeal.main_arg11)
      ∧ r.2.mem ((c.tc : Thread Cert.InbRefIdeal.nD Cert.InbRefIdeal.τ).loc Cert.InbRefIdeal.main_arg12) = m ((c.tc : Thread Cert.InbRefIdeal.nD Cert.InbRefIdeal.τ).loc Cert.InbRefIdeal.main_arg12)
      ∧ r.2.mem ((c.tc : Thread Cert.InbRefIdeal.nD Cert.InbRefIdeal.τ).loc Cert.InbRefIdeal.main_arg13) = m ((c.tc : Thread Cert.InbRefIdeal.nD Cert.InbRefIdeal.τ).loc Cert.InbRefIdeal.main_arg13))
      ∧ r.2.sem = fun _ => 0)

def quiescent_Mixb [hMixb : Cert.Mixb.Facts] : Prop :=
  ∀ (m : (ℓ : Loc Cert.Mixb.nD Cert.Mixb.τ Cert.Mixb.sig) → Buf (Elt Bits) ℓ) (g : Dev Cert.Mixb.nD → PrngReg), Pre_Mixb m →
    θ_run (Cert.Mixb.defs (F := Bits)) (onTc (τ := Cert.Mixb.τ) (Cert.Mixb.main (F := Bits))) ⟨m, fun _ => 0, g⟩ (fun r => (∀ c : Dev Cert.Mixb.nD,
      r.2.mem ((c.tc : Thread Cert.Mixb.nD Cert.Mixb.τ).loc Cert.Mixb.main_arg0) = m ((c.tc : Thread Cert.Mixb.nD Cert.Mixb.τ).loc Cert.Mixb.main_arg0)
      ∧ r.2.mem ((c.tc : Thread Cert.Mixb.nD Cert.Mixb.τ).loc Cert.Mixb.main_arg1) = m ((c.tc : Thread Cert.Mixb.nD Cert.Mixb.τ).loc Cert.Mixb.main_arg1)
      ∧ r.2.mem ((c.tc : Thread Cert.Mixb.nD Cert.Mixb.τ).loc Cert.Mixb.main_arg2) = m ((c.tc : Thread Cert.Mixb.nD Cert.Mixb.τ).loc Cert.Mixb.main_arg2)
      ∧ r.2.mem ((c.tc : Thread Cert.Mixb.nD Cert.Mixb.τ).loc Cert.Mixb.main_arg3) = m ((c.tc : Thread Cert.Mixb.nD Cert.Mixb.τ).loc Cert.Mixb.main_arg3)
      ∧ r.2.mem ((c.tc : Thread Cert.Mixb.nD Cert.Mixb.τ).loc Cert.Mixb.main_arg4) = m ((c.tc : Thread Cert.Mixb.nD Cert.Mixb.τ).loc Cert.Mixb.main_arg4)
      ∧ r.2.mem ((c.tc : Thread Cert.Mixb.nD Cert.Mixb.τ).loc Cert.Mixb.main_arg5) = m ((c.tc : Thread Cert.Mixb.nD Cert.Mixb.τ).loc Cert.Mixb.main_arg5)
      ∧ r.2.mem ((c.tc : Thread Cert.Mixb.nD Cert.Mixb.τ).loc Cert.Mixb.main_arg6) = m ((c.tc : Thread Cert.Mixb.nD Cert.Mixb.τ).loc Cert.Mixb.main_arg6)
      ∧ r.2.mem ((c.tc : Thread Cert.Mixb.nD Cert.Mixb.τ).loc Cert.Mixb.main_arg7) = m ((c.tc : Thread Cert.Mixb.nD Cert.Mixb.τ).loc Cert.Mixb.main_arg7)
      ∧ r.2.mem ((c.tc : Thread Cert.Mixb.nD Cert.Mixb.τ).loc Cert.Mixb.main_arg8) = m ((c.tc : Thread Cert.Mixb.nD Cert.Mixb.τ).loc Cert.Mixb.main_arg8)
      ∧ r.2.mem ((c.tc : Thread Cert.Mixb.nD Cert.Mixb.τ).loc Cert.Mixb.main_arg9) = m ((c.tc : Thread Cert.Mixb.nD Cert.Mixb.τ).loc Cert.Mixb.main_arg9)
      ∧ r.2.mem ((c.tc : Thread Cert.Mixb.nD Cert.Mixb.τ).loc Cert.Mixb.main_arg10) = m ((c.tc : Thread Cert.Mixb.nD Cert.Mixb.τ).loc Cert.Mixb.main_arg10)
      ∧ r.2.mem ((c.tc : Thread Cert.Mixb.nD Cert.Mixb.τ).loc Cert.Mixb.main_arg11) = m ((c.tc : Thread Cert.Mixb.nD Cert.Mixb.τ).loc Cert.Mixb.main_arg11)
      ∧ r.2.mem ((c.tc : Thread Cert.Mixb.nD Cert.Mixb.τ).loc Cert.Mixb.main_arg12) = m ((c.tc : Thread Cert.Mixb.nD Cert.Mixb.τ).loc Cert.Mixb.main_arg12))
      ∧ r.2.sem = fun _ => 0)

def quiescent_MixbIdeal [hMixbIdeal : Cert.MixbIdeal.Facts] : Prop :=
  ∀ (m : (ℓ : Loc Cert.MixbIdeal.nD Cert.MixbIdeal.τ Cert.MixbIdeal.sig) → Buf (Elt Ideal) ℓ) (g : Dev Cert.MixbIdeal.nD → PrngReg), Pre_MixbIdeal m →
    θ_run (Cert.MixbIdeal.defs (F := Ideal)) (onTc (τ := Cert.MixbIdeal.τ) (Cert.MixbIdeal.main (F := Ideal))) ⟨m, fun _ => 0, g⟩ (fun r => (∀ c : Dev Cert.MixbIdeal.nD,
      r.2.mem ((c.tc : Thread Cert.MixbIdeal.nD Cert.MixbIdeal.τ).loc Cert.MixbIdeal.main_arg0) = m ((c.tc : Thread Cert.MixbIdeal.nD Cert.MixbIdeal.τ).loc Cert.MixbIdeal.main_arg0)
      ∧ r.2.mem ((c.tc : Thread Cert.MixbIdeal.nD Cert.MixbIdeal.τ).loc Cert.MixbIdeal.main_arg1) = m ((c.tc : Thread Cert.MixbIdeal.nD Cert.MixbIdeal.τ).loc Cert.MixbIdeal.main_arg1)
      ∧ r.2.mem ((c.tc : Thread Cert.MixbIdeal.nD Cert.MixbIdeal.τ).loc Cert.MixbIdeal.main_arg2) = m ((c.tc : Thread Cert.MixbIdeal.nD Cert.MixbIdeal.τ).loc Cert.MixbIdeal.main_arg2)
      ∧ r.2.mem ((c.tc : Thread Cert.MixbIdeal.nD Cert.MixbIdeal.τ).loc Cert.MixbIdeal.main_arg3) = m ((c.tc : Thread Cert.MixbIdeal.nD Cert.MixbIdeal.τ).loc Cert.MixbIdeal.main_arg3)
      ∧ r.2.mem ((c.tc : Thread Cert.MixbIdeal.nD Cert.MixbIdeal.τ).loc Cert.MixbIdeal.main_arg4) = m ((c.tc : Thread Cert.MixbIdeal.nD Cert.MixbIdeal.τ).loc Cert.MixbIdeal.main_arg4)
      ∧ r.2.mem ((c.tc : Thread Cert.MixbIdeal.nD Cert.MixbIdeal.τ).loc Cert.MixbIdeal.main_arg5) = m ((c.tc : Thread Cert.MixbIdeal.nD Cert.MixbIdeal.τ).loc Cert.MixbIdeal.main_arg5)
      ∧ r.2.mem ((c.tc : Thread Cert.MixbIdeal.nD Cert.MixbIdeal.τ).loc Cert.MixbIdeal.main_arg6) = m ((c.tc : Thread Cert.MixbIdeal.nD Cert.MixbIdeal.τ).loc Cert.MixbIdeal.main_arg6)
      ∧ r.2.mem ((c.tc : Thread Cert.MixbIdeal.nD Cert.MixbIdeal.τ).loc Cert.MixbIdeal.main_arg7) = m ((c.tc : Thread Cert.MixbIdeal.nD Cert.MixbIdeal.τ).loc Cert.MixbIdeal.main_arg7)
      ∧ r.2.mem ((c.tc : Thread Cert.MixbIdeal.nD Cert.MixbIdeal.τ).loc Cert.MixbIdeal.main_arg8) = m ((c.tc : Thread Cert.MixbIdeal.nD Cert.MixbIdeal.τ).loc Cert.MixbIdeal.main_arg8)
      ∧ r.2.mem ((c.tc : Thread Cert.MixbIdeal.nD Cert.MixbIdeal.τ).loc Cert.MixbIdeal.main_arg9) = m ((c.tc : Thread Cert.MixbIdeal.nD Cert.MixbIdeal.τ).loc Cert.MixbIdeal.main_arg9)
      ∧ r.2.mem ((c.tc : Thread Cert.MixbIdeal.nD Cert.MixbIdeal.τ).loc Cert.MixbIdeal.main_arg10) = m ((c.tc : Thread Cert.MixbIdeal.nD Cert.MixbIdeal.τ).loc Cert.MixbIdeal.main_arg10)
      ∧ r.2.mem ((c.tc : Thread Cert.MixbIdeal.nD Cert.MixbIdeal.τ).loc Cert.MixbIdeal.main_arg11) = m ((c.tc : Thread Cert.MixbIdeal.nD Cert.MixbIdeal.τ).loc Cert.MixbIdeal.main_arg11)
      ∧ r.2.mem ((c.tc : Thread Cert.MixbIdeal.nD Cert.MixbIdeal.τ).loc Cert.MixbIdeal.main_arg12) = m ((c.tc : Thread Cert.MixbIdeal.nD Cert.MixbIdeal.τ).loc Cert.MixbIdeal.main_arg12))
      ∧ r.2.sem = fun _ => 0)

def quiescent_MixbIdeal_pre_mix_finite [hMixbIdeal : Cert.MixbIdeal.Facts] [hPre_mix_finite : Cert.Pre_mix_finite.Facts] : Prop :=
  ∀ (m : (ℓ : Loc Cert.MixbIdeal.nD Cert.MixbIdeal.τ Cert.MixbIdeal.sig) → Buf (Elt Ideal) ℓ) (g : Dev Cert.MixbIdeal.nD → PrngReg), Pre_MixbIdeal_mix_finite m →
    θ_run (Cert.MixbIdeal.defs (F := Ideal)) (onTc (τ := Cert.MixbIdeal.τ) (Cert.MixbIdeal.main (F := Ideal))) ⟨m, fun _ => 0, g⟩ (fun r => (∀ c : Dev Cert.MixbIdeal.nD,
      r.2.mem ((c.tc : Thread Cert.MixbIdeal.nD Cert.MixbIdeal.τ).loc Cert.MixbIdeal.main_arg0) = m ((c.tc : Thread Cert.MixbIdeal.nD Cert.MixbIdeal.τ).loc Cert.MixbIdeal.main_arg0)
      ∧ r.2.mem ((c.tc : Thread Cert.MixbIdeal.nD Cert.MixbIdeal.τ).loc Cert.MixbIdeal.main_arg1) = m ((c.tc : Thread Cert.MixbIdeal.nD Cert.MixbIdeal.τ).loc Cert.MixbIdeal.main_arg1)
      ∧ r.2.mem ((c.tc : Thread Cert.MixbIdeal.nD Cert.MixbIdeal.τ).loc Cert.MixbIdeal.main_arg2) = m ((c.tc : Thread Cert.MixbIdeal.nD Cert.MixbIdeal.τ).loc Cert.MixbIdeal.main_arg2)
      ∧ r.2.mem ((c.tc : Thread Cert.MixbIdeal.nD Cert.MixbIdeal.τ).loc Cert.MixbIdeal.main_arg3) = m ((c.tc : Thread Cert.MixbIdeal.nD Cert.MixbIdeal.τ).loc Cert.MixbIdeal.main_arg3)
      ∧ r.2.mem ((c.tc : Thread Cert.MixbIdeal.nD Cert.MixbIdeal.τ).loc Cert.MixbIdeal.main_arg4) = m ((c.tc : Thread Cert.MixbIdeal.nD Cert.MixbIdeal.τ).loc Cert.MixbIdeal.main_arg4)
      ∧ r.2.mem ((c.tc : Thread Cert.MixbIdeal.nD Cert.MixbIdeal.τ).loc Cert.MixbIdeal.main_arg5) = m ((c.tc : Thread Cert.MixbIdeal.nD Cert.MixbIdeal.τ).loc Cert.MixbIdeal.main_arg5)
      ∧ r.2.mem ((c.tc : Thread Cert.MixbIdeal.nD Cert.MixbIdeal.τ).loc Cert.MixbIdeal.main_arg6) = m ((c.tc : Thread Cert.MixbIdeal.nD Cert.MixbIdeal.τ).loc Cert.MixbIdeal.main_arg6)
      ∧ r.2.mem ((c.tc : Thread Cert.MixbIdeal.nD Cert.MixbIdeal.τ).loc Cert.MixbIdeal.main_arg7) = m ((c.tc : Thread Cert.MixbIdeal.nD Cert.MixbIdeal.τ).loc Cert.MixbIdeal.main_arg7)
      ∧ r.2.mem ((c.tc : Thread Cert.MixbIdeal.nD Cert.MixbIdeal.τ).loc Cert.MixbIdeal.main_arg8) = m ((c.tc : Thread Cert.MixbIdeal.nD Cert.MixbIdeal.τ).loc Cert.MixbIdeal.main_arg8)
      ∧ r.2.mem ((c.tc : Thread Cert.MixbIdeal.nD Cert.MixbIdeal.τ).loc Cert.MixbIdeal.main_arg9) = m ((c.tc : Thread Cert.MixbIdeal.nD Cert.MixbIdeal.τ).loc Cert.MixbIdeal.main_arg9)
      ∧ r.2.mem ((c.tc : Thread Cert.MixbIdeal.nD Cert.MixbIdeal.τ).loc Cert.MixbIdeal.main_arg10) = m ((c.tc : Thread Cert.MixbIdeal.nD Cert.MixbIdeal.τ).loc Cert.MixbIdeal.main_arg10)
      ∧ r.2.mem ((c.tc : Thread Cert.MixbIdeal.nD Cert.MixbIdeal.τ).loc Cert.MixbIdeal.main_arg11) = m ((c.tc : Thread Cert.MixbIdeal.nD Cert.MixbIdeal.τ).loc Cert.MixbIdeal.main_arg11)
      ∧ r.2.mem ((c.tc : Thread Cert.MixbIdeal.nD Cert.MixbIdeal.τ).loc Cert.MixbIdeal.main_arg12) = m ((c.tc : Thread Cert.MixbIdeal.nD Cert.MixbIdeal.τ).loc Cert.MixbIdeal.main_arg12))
      ∧ r.2.sem = fun _ => 0)

def quiescent_MixbRefIdeal [hMixbRefIdeal : Cert.MixbRefIdeal.Facts] : Prop :=
  ∀ (m : (ℓ : Loc Cert.MixbRefIdeal.nD Cert.MixbRefIdeal.τ Cert.MixbRefIdeal.sig) → Buf (Elt Ideal) ℓ) (g : Dev Cert.MixbRefIdeal.nD → PrngReg), Pre_MixbRefIdeal m →
    θ_run (Cert.MixbRefIdeal.defs (F := Ideal)) (onTc (τ := Cert.MixbRefIdeal.τ) (Cert.MixbRefIdeal.main (F := Ideal))) ⟨m, fun _ => 0, g⟩ (fun r => (∀ c : Dev Cert.MixbRefIdeal.nD,
      r.2.mem ((c.tc : Thread Cert.MixbRefIdeal.nD Cert.MixbRefIdeal.τ).loc Cert.MixbRefIdeal.main_arg0) = m ((c.tc : Thread Cert.MixbRefIdeal.nD Cert.MixbRefIdeal.τ).loc Cert.MixbRefIdeal.main_arg0)
      ∧ r.2.mem ((c.tc : Thread Cert.MixbRefIdeal.nD Cert.MixbRefIdeal.τ).loc Cert.MixbRefIdeal.main_arg1) = m ((c.tc : Thread Cert.MixbRefIdeal.nD Cert.MixbRefIdeal.τ).loc Cert.MixbRefIdeal.main_arg1)
      ∧ r.2.mem ((c.tc : Thread Cert.MixbRefIdeal.nD Cert.MixbRefIdeal.τ).loc Cert.MixbRefIdeal.main_arg2) = m ((c.tc : Thread Cert.MixbRefIdeal.nD Cert.MixbRefIdeal.τ).loc Cert.MixbRefIdeal.main_arg2)
      ∧ r.2.mem ((c.tc : Thread Cert.MixbRefIdeal.nD Cert.MixbRefIdeal.τ).loc Cert.MixbRefIdeal.main_arg3) = m ((c.tc : Thread Cert.MixbRefIdeal.nD Cert.MixbRefIdeal.τ).loc Cert.MixbRefIdeal.main_arg3)
      ∧ r.2.mem ((c.tc : Thread Cert.MixbRefIdeal.nD Cert.MixbRefIdeal.τ).loc Cert.MixbRefIdeal.main_arg4) = m ((c.tc : Thread Cert.MixbRefIdeal.nD Cert.MixbRefIdeal.τ).loc Cert.MixbRefIdeal.main_arg4)
      ∧ r.2.mem ((c.tc : Thread Cert.MixbRefIdeal.nD Cert.MixbRefIdeal.τ).loc Cert.MixbRefIdeal.main_arg5) = m ((c.tc : Thread Cert.MixbRefIdeal.nD Cert.MixbRefIdeal.τ).loc Cert.MixbRefIdeal.main_arg5)
      ∧ r.2.mem ((c.tc : Thread Cert.MixbRefIdeal.nD Cert.MixbRefIdeal.τ).loc Cert.MixbRefIdeal.main_arg6) = m ((c.tc : Thread Cert.MixbRefIdeal.nD Cert.MixbRefIdeal.τ).loc Cert.MixbRefIdeal.main_arg6)
      ∧ r.2.mem ((c.tc : Thread Cert.MixbRefIdeal.nD Cert.MixbRefIdeal.τ).loc Cert.MixbRefIdeal.main_arg7) = m ((c.tc : Thread Cert.MixbRefIdeal.nD Cert.MixbRefIdeal.τ).loc Cert.MixbRefIdeal.main_arg7)
      ∧ r.2.mem ((c.tc : Thread Cert.MixbRefIdeal.nD Cert.MixbRefIdeal.τ).loc Cert.MixbRefIdeal.main_arg8) = m ((c.tc : Thread Cert.MixbRefIdeal.nD Cert.MixbRefIdeal.τ).loc Cert.MixbRefIdeal.main_arg8)
      ∧ r.2.mem ((c.tc : Thread Cert.MixbRefIdeal.nD Cert.MixbRefIdeal.τ).loc Cert.MixbRefIdeal.main_arg9) = m ((c.tc : Thread Cert.MixbRefIdeal.nD Cert.MixbRefIdeal.τ).loc Cert.MixbRefIdeal.main_arg9)
      ∧ r.2.mem ((c.tc : Thread Cert.MixbRefIdeal.nD Cert.MixbRefIdeal.τ).loc Cert.MixbRefIdeal.main_arg10) = m ((c.tc : Thread Cert.MixbRefIdeal.nD Cert.MixbRefIdeal.τ).loc Cert.MixbRefIdeal.main_arg10)
      ∧ r.2.mem ((c.tc : Thread Cert.MixbRefIdeal.nD Cert.MixbRefIdeal.τ).loc Cert.MixbRefIdeal.main_arg11) = m ((c.tc : Thread Cert.MixbRefIdeal.nD Cert.MixbRefIdeal.τ).loc Cert.MixbRefIdeal.main_arg11)
      ∧ r.2.mem ((c.tc : Thread Cert.MixbRefIdeal.nD Cert.MixbRefIdeal.τ).loc Cert.MixbRefIdeal.main_arg12) = m ((c.tc : Thread Cert.MixbRefIdeal.nD Cert.MixbRefIdeal.τ).loc Cert.MixbRefIdeal.main_arg12))
      ∧ r.2.sem = fun _ => 0)

def quiescent_MixbRefIdeal_pre_mix_finite [hMixbRefIdeal : Cert.MixbRefIdeal.Facts] [hPre_mix_finite : Cert.Pre_mix_finite.Facts] : Prop :=
  ∀ (m : (ℓ : Loc Cert.MixbRefIdeal.nD Cert.MixbRefIdeal.τ Cert.MixbRefIdeal.sig) → Buf (Elt Ideal) ℓ) (g : Dev Cert.MixbRefIdeal.nD → PrngReg), Pre_MixbRefIdeal_mix_finite m →
    θ_run (Cert.MixbRefIdeal.defs (F := Ideal)) (onTc (τ := Cert.MixbRefIdeal.τ) (Cert.MixbRefIdeal.main (F := Ideal))) ⟨m, fun _ => 0, g⟩ (fun r => (∀ c : Dev Cert.MixbRefIdeal.nD,
      r.2.mem ((c.tc : Thread Cert.MixbRefIdeal.nD Cert.MixbRefIdeal.τ).loc Cert.MixbRefIdeal.main_arg0) = m ((c.tc : Thread Cert.MixbRefIdeal.nD Cert.MixbRefIdeal.τ).loc Cert.MixbRefIdeal.main_arg0)
      ∧ r.2.mem ((c.tc : Thread Cert.MixbRefIdeal.nD Cert.MixbRefIdeal.τ).loc Cert.MixbRefIdeal.main_arg1) = m ((c.tc : Thread Cert.MixbRefIdeal.nD Cert.MixbRefIdeal.τ).loc Cert.MixbRefIdeal.main_arg1)
      ∧ r.2.mem ((c.tc : Thread Cert.MixbRefIdeal.nD Cert.MixbRefIdeal.τ).loc Cert.MixbRefIdeal.main_arg2) = m ((c.tc : Thread Cert.MixbRefIdeal.nD Cert.MixbRefIdeal.τ).loc Cert.MixbRefIdeal.main_arg2)
      ∧ r.2.mem ((c.tc : Thread Cert.MixbRefIdeal.nD Cert.MixbRefIdeal.τ).loc Cert.MixbRefIdeal.main_arg3) = m ((c.tc : Thread Cert.MixbRefIdeal.nD Cert.MixbRefIdeal.τ).loc Cert.MixbRefIdeal.main_arg3)
      ∧ r.2.mem ((c.tc : Thread Cert.MixbRefIdeal.nD Cert.MixbRefIdeal.τ).loc Cert.MixbRefIdeal.main_arg4) = m ((c.tc : Thread Cert.MixbRefIdeal.nD Cert.MixbRefIdeal.τ).loc Cert.MixbRefIdeal.main_arg4)
      ∧ r.2.mem ((c.tc : Thread Cert.MixbRefIdeal.nD Cert.MixbRefIdeal.τ).loc Cert.MixbRefIdeal.main_arg5) = m ((c.tc : Thread Cert.MixbRefIdeal.nD Cert.MixbRefIdeal.τ).loc Cert.MixbRefIdeal.main_arg5)
      ∧ r.2.mem ((c.tc : Thread Cert.MixbRefIdeal.nD Cert.MixbRefIdeal.τ).loc Cert.MixbRefIdeal.main_arg6) = m ((c.tc : Thread Cert.MixbRefIdeal.nD Cert.MixbRefIdeal.τ).loc Cert.MixbRefIdeal.main_arg6)
      ∧ r.2.mem ((c.tc : Thread Cert.MixbRefIdeal.nD Cert.MixbRefIdeal.τ).loc Cert.MixbRefIdeal.main_arg7) = m ((c.tc : Thread Cert.MixbRefIdeal.nD Cert.MixbRefIdeal.τ).loc Cert.MixbRefIdeal.main_arg7)
      ∧ r.2.mem ((c.tc : Thread Cert.MixbRefIdeal.nD Cert.MixbRefIdeal.τ).loc Cert.MixbRefIdeal.main_arg8) = m ((c.tc : Thread Cert.MixbRefIdeal.nD Cert.MixbRefIdeal.τ).loc Cert.MixbRefIdeal.main_arg8)
      ∧ r.2.mem ((c.tc : Thread Cert.MixbRefIdeal.nD Cert.MixbRefIdeal.τ).loc Cert.MixbRefIdeal.main_arg9) = m ((c.tc : Thread Cert.MixbRefIdeal.nD Cert.MixbRefIdeal.τ).loc Cert.MixbRefIdeal.main_arg9)
      ∧ r.2.mem ((c.tc : Thread Cert.MixbRefIdeal.nD Cert.MixbRefIdeal.τ).loc Cert.MixbRefIdeal.main_arg10) = m ((c.tc : Thread Cert.MixbRefIdeal.nD Cert.MixbRefIdeal.τ).loc Cert.MixbRefIdeal.main_arg10)
      ∧ r.2.mem ((c.tc : Thread Cert.MixbRefIdeal.nD Cert.MixbRefIdeal.τ).loc Cert.MixbRefIdeal.main_arg11) = m ((c.tc : Thread Cert.MixbRefIdeal.nD Cert.MixbRefIdeal.τ).loc Cert.MixbRefIdeal.main_arg11)
      ∧ r.2.mem ((c.tc : Thread Cert.MixbRefIdeal.nD Cert.MixbRefIdeal.τ).loc Cert.MixbRefIdeal.main_arg12) = m ((c.tc : Thread Cert.MixbRefIdeal.nD Cert.MixbRefIdeal.τ).loc Cert.MixbRefIdeal.main_arg12))
      ∧ r.2.sem = fun _ => 0)

def quiescent_Red [hRed : Cert.Red.Facts] : Prop :=
  ∀ (m : (ℓ : Loc Cert.Red.nD Cert.Red.τ Cert.Red.sig) → Buf (Elt Bits) ℓ) (g : Dev Cert.Red.nD → PrngReg), Pre_Red m →
    θ_run (Cert.Red.defs (F := Bits)) (onTc (τ := Cert.Red.τ) (Cert.Red.main (F := Bits))) ⟨m, fun _ => 0, g⟩ (fun r => (∀ c : Dev Cert.Red.nD,
      r.2.mem ((c.tc : Thread Cert.Red.nD Cert.Red.τ).loc Cert.Red.main_arg0) = m ((c.tc : Thread Cert.Red.nD Cert.Red.τ).loc Cert.Red.main_arg0)
      ∧ r.2.mem ((c.tc : Thread Cert.Red.nD Cert.Red.τ).loc Cert.Red.main_arg1) = m ((c.tc : Thread Cert.Red.nD Cert.Red.τ).loc Cert.Red.main_arg1))
      ∧ r.2.sem = fun _ => 0)

def quiescent_RedIdeal [hRedIdeal : Cert.RedIdeal.Facts] : Prop :=
  ∀ (m : (ℓ : Loc Cert.RedIdeal.nD Cert.RedIdeal.τ Cert.RedIdeal.sig) → Buf (Elt Ideal) ℓ) (g : Dev Cert.RedIdeal.nD → PrngReg), Pre_RedIdeal m →
    θ_run (Cert.RedIdeal.defs (F := Ideal)) (onTc (τ := Cert.RedIdeal.τ) (Cert.RedIdeal.main (F := Ideal))) ⟨m, fun _ => 0, g⟩ (fun r => (∀ c : Dev Cert.RedIdeal.nD,
      r.2.mem ((c.tc : Thread Cert.RedIdeal.nD Cert.RedIdeal.τ).loc Cert.RedIdeal.main_arg0) = m ((c.tc : Thread Cert.RedIdeal.nD Cert.RedIdeal.τ).loc Cert.RedIdeal.main_arg0)
      ∧ r.2.mem ((c.tc : Thread Cert.RedIdeal.nD Cert.RedIdeal.τ).loc Cert.RedIdeal.main_arg1) = m ((c.tc : Thread Cert.RedIdeal.nD Cert.RedIdeal.τ).loc Cert.RedIdeal.main_arg1))
      ∧ r.2.sem = fun _ => 0)

def quiescent_RedIdeal_pre_red_finite [hRedIdeal : Cert.RedIdeal.Facts] [hPre_red_finite : Cert.Pre_red_finite.Facts] : Prop :=
  ∀ (m : (ℓ : Loc Cert.RedIdeal.nD Cert.RedIdeal.τ Cert.RedIdeal.sig) → Buf (Elt Ideal) ℓ) (g : Dev Cert.RedIdeal.nD → PrngReg), Pre_RedIdeal_red_finite m →
    θ_run (Cert.RedIdeal.defs (F := Ideal)) (onTc (τ := Cert.RedIdeal.τ) (Cert.RedIdeal.main (F := Ideal))) ⟨m, fun _ => 0, g⟩ (fun r => (∀ c : Dev Cert.RedIdeal.nD,
      r.2.mem ((c.tc : Thread Cert.RedIdeal.nD Cert.RedIdeal.τ).loc Cert.RedIdeal.main_arg0) = m ((c.tc : Thread Cert.RedIdeal.nD Cert.RedIdeal.τ).loc Cert.RedIdeal.main_arg0)
      ∧ r.2.mem ((c.tc : Thread Cert.RedIdeal.nD Cert.RedIdeal.τ).loc Cert.RedIdeal.main_arg1) = m ((c.tc : Thread Cert.RedIdeal.nD Cert.RedIdeal.τ).loc Cert.RedIdeal.main_arg1))
      ∧ r.2.sem = fun _ => 0)

def quiescent_RedRefIdeal [hRedRefIdeal : Cert.RedRefIdeal.Facts] : Prop :=
  ∀ (m : (ℓ : Loc Cert.RedRefIdeal.nD Cert.RedRefIdeal.τ Cert.RedRefIdeal.sig) → Buf (Elt Ideal) ℓ) (g : Dev Cert.RedRefIdeal.nD → PrngReg), Pre_RedRefIdeal m →
    θ_run (Cert.RedRefIdeal.defs (F := Ideal)) (onTc (τ := Cert.RedRefIdeal.τ) (Cert.RedRefIdeal.main (F := Ideal))) ⟨m, fun _ => 0, g⟩ (fun r => (∀ c : Dev Cert.RedRefIdeal.nD,
      r.2.mem ((c.tc : Thread Cert.RedRefIdeal.nD Cert.RedRefIdeal.τ).loc Cert.RedRefIdeal.main_arg0) = m ((c.tc : Thread Cert.RedRefIdeal.nD Cert.RedRefIdeal.τ).loc Cert.RedRefIdeal.main_arg0)
      ∧ r.2.mem ((c.tc : Thread Cert.RedRefIdeal.nD Cert.RedRefIdeal.τ).loc Cert.RedRefIdeal.main_arg1) = m ((c.tc : Thread Cert.RedRefIdeal.nD Cert.RedRefIdeal.τ).loc Cert.RedRefIdeal.main_arg1))
      ∧ r.2.sem = fun _ => 0)

def quiescent_RedRefIdeal_pre_red_finite [hRedRefIdeal : Cert.RedRefIdeal.Facts] [hPre_red_finite : Cert.Pre_red_finite.Facts] : Prop :=
  ∀ (m : (ℓ : Loc Cert.RedRefIdeal.nD Cert.RedRefIdeal.τ Cert.RedRefIdeal.sig) → Buf (Elt Ideal) ℓ) (g : Dev Cert.RedRefIdeal.nD → PrngReg), Pre_RedRefIdeal_red_finite m →
    θ_run (Cert.RedRefIdeal.defs (F := Ideal)) (onTc (τ := Cert.RedRefIdeal.τ) (Cert.RedRefIdeal.main (F := Ideal))) ⟨m, fun _ => 0, g⟩ (fun r => (∀ c : Dev Cert.RedRefIdeal.nD,
      r.2.mem ((c.tc : Thread Cert.RedRefIdeal.nD Cert.RedRefIdeal.τ).loc Cert.RedRefIdeal.main_arg0) = m ((c.tc : Thread Cert.RedRefIdeal.nD Cert.RedRefIdeal.τ).loc Cert.RedRefIdeal.main_arg0)
      ∧ r.2.mem ((c.tc : Thread Cert.RedRefIdeal.nD Cert.RedRefIdeal.τ).loc Cert.RedRefIdeal.main_arg1) = m ((c.tc : Thread Cert.RedRefIdeal.nD Cert.RedRefIdeal.τ).loc Cert.RedRefIdeal.main_arg1))
      ∧ r.2.sem = fun _ => 0)

def quiescent_Mixf [hMixf : Cert.Mixf.Facts] : Prop :=
  ∀ (m : (ℓ : Loc Cert.Mixf.nD Cert.Mixf.τ Cert.Mixf.sig) → Buf (Elt Bits) ℓ) (g : Dev Cert.Mixf.nD → PrngReg), Pre_Mixf m →
    θ_run (Cert.Mixf.defs (F := Bits)) (onTc (τ := Cert.Mixf.τ) (Cert.Mixf.main (F := Bits))) ⟨m, fun _ => 0, g⟩ (fun r => (∀ c : Dev Cert.Mixf.nD,
      r.2.mem ((c.tc : Thread Cert.Mixf.nD Cert.Mixf.τ).loc Cert.Mixf.main_arg0) = m ((c.tc : Thread Cert.Mixf.nD Cert.Mixf.τ).loc Cert.Mixf.main_arg0)
      ∧ r.2.mem ((c.tc : Thread Cert.Mixf.nD Cert.Mixf.τ).loc Cert.Mixf.main_arg1) = m ((c.tc : Thread Cert.Mixf.nD Cert.Mixf.τ).loc Cert.Mixf.main_arg1)
      ∧ r.2.mem ((c.tc : Thread Cert.Mixf.nD Cert.Mixf.τ).loc Cert.Mixf.main_arg2) = m ((c.tc : Thread Cert.Mixf.nD Cert.Mixf.τ).loc Cert.Mixf.main_arg2)
      ∧ r.2.mem ((c.tc : Thread Cert.Mixf.nD Cert.Mixf.τ).loc Cert.Mixf.main_arg3) = m ((c.tc : Thread Cert.Mixf.nD Cert.Mixf.τ).loc Cert.Mixf.main_arg3)
      ∧ r.2.mem ((c.tc : Thread Cert.Mixf.nD Cert.Mixf.τ).loc Cert.Mixf.main_arg4) = m ((c.tc : Thread Cert.Mixf.nD Cert.Mixf.τ).loc Cert.Mixf.main_arg4)
      ∧ r.2.mem ((c.tc : Thread Cert.Mixf.nD Cert.Mixf.τ).loc Cert.Mixf.main_arg5) = m ((c.tc : Thread Cert.Mixf.nD Cert.Mixf.τ).loc Cert.Mixf.main_arg5)
      ∧ r.2.mem ((c.tc : Thread Cert.Mixf.nD Cert.Mixf.τ).loc Cert.Mixf.main_arg6) = m ((c.tc : Thread Cert.Mixf.nD Cert.Mixf.τ).loc Cert.Mixf.main_arg6)
      ∧ r.2.mem ((c.tc : Thread Cert.Mixf.nD Cert.Mixf.τ).loc Cert.Mixf.main_arg7) = m ((c.tc : Thread Cert.Mixf.nD Cert.Mixf.τ).loc Cert.Mixf.main_arg7)
      ∧ r.2.mem ((c.tc : Thread Cert.Mixf.nD Cert.Mixf.τ).loc Cert.Mixf.main_arg8) = m ((c.tc : Thread Cert.Mixf.nD Cert.Mixf.τ).loc Cert.Mixf.main_arg8)
      ∧ r.2.mem ((c.tc : Thread Cert.Mixf.nD Cert.Mixf.τ).loc Cert.Mixf.main_arg9) = m ((c.tc : Thread Cert.Mixf.nD Cert.Mixf.τ).loc Cert.Mixf.main_arg9)
      ∧ r.2.mem ((c.tc : Thread Cert.Mixf.nD Cert.Mixf.τ).loc Cert.Mixf.main_arg10) = m ((c.tc : Thread Cert.Mixf.nD Cert.Mixf.τ).loc Cert.Mixf.main_arg10)
      ∧ r.2.mem ((c.tc : Thread Cert.Mixf.nD Cert.Mixf.τ).loc Cert.Mixf.main_arg11) = m ((c.tc : Thread Cert.Mixf.nD Cert.Mixf.τ).loc Cert.Mixf.main_arg11)
      ∧ r.2.mem ((c.tc : Thread Cert.Mixf.nD Cert.Mixf.τ).loc Cert.Mixf.main_arg12) = m ((c.tc : Thread Cert.Mixf.nD Cert.Mixf.τ).loc Cert.Mixf.main_arg12))
      ∧ r.2.sem = fun _ => 0)

def quiescent_MixfIdeal [hMixfIdeal : Cert.MixfIdeal.Facts] : Prop :=
  ∀ (m : (ℓ : Loc Cert.MixfIdeal.nD Cert.MixfIdeal.τ Cert.MixfIdeal.sig) → Buf (Elt Ideal) ℓ) (g : Dev Cert.MixfIdeal.nD → PrngReg), Pre_MixfIdeal m →
    θ_run (Cert.MixfIdeal.defs (F := Ideal)) (onTc (τ := Cert.MixfIdeal.τ) (Cert.MixfIdeal.main (F := Ideal))) ⟨m, fun _ => 0, g⟩ (fun r => (∀ c : Dev Cert.MixfIdeal.nD,
      r.2.mem ((c.tc : Thread Cert.MixfIdeal.nD Cert.MixfIdeal.τ).loc Cert.MixfIdeal.main_arg0) = m ((c.tc : Thread Cert.MixfIdeal.nD Cert.MixfIdeal.τ).loc Cert.MixfIdeal.main_arg0)
      ∧ r.2.mem ((c.tc : Thread Cert.MixfIdeal.nD Cert.MixfIdeal.τ).loc Cert.MixfIdeal.main_arg1) = m ((c.tc : Thread Cert.MixfIdeal.nD Cert.MixfIdeal.τ).loc Cert.MixfIdeal.main_arg1)
      ∧ r.2.mem ((c.tc : Thread Cert.MixfIdeal.nD Cert.MixfIdeal.τ).loc Cert.MixfIdeal.main_arg2) = m ((c.tc : Thread Cert.MixfIdeal.nD Cert.MixfIdeal.τ).loc Cert.MixfIdeal.main_arg2)
      ∧ r.2.mem ((c.tc : Thread Cert.MixfIdeal.nD Cert.MixfIdeal.τ).loc Cert.MixfIdeal.main_arg3) = m ((c.tc : Thread Cert.MixfIdeal.nD Cert.MixfIdeal.τ).loc Cert.MixfIdeal.main_arg3)
      ∧ r.2.mem ((c.tc : Thread Cert.MixfIdeal.nD Cert.MixfIdeal.τ).loc Cert.MixfIdeal.main_arg4) = m ((c.tc : Thread Cert.MixfIdeal.nD Cert.MixfIdeal.τ).loc Cert.MixfIdeal.main_arg4)
      ∧ r.2.mem ((c.tc : Thread Cert.MixfIdeal.nD Cert.MixfIdeal.τ).loc Cert.MixfIdeal.main_arg5) = m ((c.tc : Thread Cert.MixfIdeal.nD Cert.MixfIdeal.τ).loc Cert.MixfIdeal.main_arg5)
      ∧ r.2.mem ((c.tc : Thread Cert.MixfIdeal.nD Cert.MixfIdeal.τ).loc Cert.MixfIdeal.main_arg6) = m ((c.tc : Thread Cert.MixfIdeal.nD Cert.MixfIdeal.τ).loc Cert.MixfIdeal.main_arg6)
      ∧ r.2.mem ((c.tc : Thread Cert.MixfIdeal.nD Cert.MixfIdeal.τ).loc Cert.MixfIdeal.main_arg7) = m ((c.tc : Thread Cert.MixfIdeal.nD Cert.MixfIdeal.τ).loc Cert.MixfIdeal.main_arg7)
      ∧ r.2.mem ((c.tc : Thread Cert.MixfIdeal.nD Cert.MixfIdeal.τ).loc Cert.MixfIdeal.main_arg8) = m ((c.tc : Thread Cert.MixfIdeal.nD Cert.MixfIdeal.τ).loc Cert.MixfIdeal.main_arg8)
      ∧ r.2.mem ((c.tc : Thread Cert.MixfIdeal.nD Cert.MixfIdeal.τ).loc Cert.MixfIdeal.main_arg9) = m ((c.tc : Thread Cert.MixfIdeal.nD Cert.MixfIdeal.τ).loc Cert.MixfIdeal.main_arg9)
      ∧ r.2.mem ((c.tc : Thread Cert.MixfIdeal.nD Cert.MixfIdeal.τ).loc Cert.MixfIdeal.main_arg10) = m ((c.tc : Thread Cert.MixfIdeal.nD Cert.MixfIdeal.τ).loc Cert.MixfIdeal.main_arg10)
      ∧ r.2.mem ((c.tc : Thread Cert.MixfIdeal.nD Cert.MixfIdeal.τ).loc Cert.MixfIdeal.main_arg11) = m ((c.tc : Thread Cert.MixfIdeal.nD Cert.MixfIdeal.τ).loc Cert.MixfIdeal.main_arg11)
      ∧ r.2.mem ((c.tc : Thread Cert.MixfIdeal.nD Cert.MixfIdeal.τ).loc Cert.MixfIdeal.main_arg12) = m ((c.tc : Thread Cert.MixfIdeal.nD Cert.MixfIdeal.τ).loc Cert.MixfIdeal.main_arg12))
      ∧ r.2.sem = fun _ => 0)

def quiescent_MixfIdeal_pre_mixf_finite [hMixfIdeal : Cert.MixfIdeal.Facts] [hPre_mixf_finite : Cert.Pre_mixf_finite.Facts] : Prop :=
  ∀ (m : (ℓ : Loc Cert.MixfIdeal.nD Cert.MixfIdeal.τ Cert.MixfIdeal.sig) → Buf (Elt Ideal) ℓ) (g : Dev Cert.MixfIdeal.nD → PrngReg), Pre_MixfIdeal_mixf_finite m →
    θ_run (Cert.MixfIdeal.defs (F := Ideal)) (onTc (τ := Cert.MixfIdeal.τ) (Cert.MixfIdeal.main (F := Ideal))) ⟨m, fun _ => 0, g⟩ (fun r => (∀ c : Dev Cert.MixfIdeal.nD,
      r.2.mem ((c.tc : Thread Cert.MixfIdeal.nD Cert.MixfIdeal.τ).loc Cert.MixfIdeal.main_arg0) = m ((c.tc : Thread Cert.MixfIdeal.nD Cert.MixfIdeal.τ).loc Cert.MixfIdeal.main_arg0)
      ∧ r.2.mem ((c.tc : Thread Cert.MixfIdeal.nD Cert.MixfIdeal.τ).loc Cert.MixfIdeal.main_arg1) = m ((c.tc : Thread Cert.MixfIdeal.nD Cert.MixfIdeal.τ).loc Cert.MixfIdeal.main_arg1)
      ∧ r.2.mem ((c.tc : Thread Cert.MixfIdeal.nD Cert.MixfIdeal.τ).loc Cert.MixfIdeal.main_arg2) = m ((c.tc : Thread Cert.MixfIdeal.nD Cert.MixfIdeal.τ).loc Cert.MixfIdeal.main_arg2)
      ∧ r.2.mem ((c.tc : Thread Cert.MixfIdeal.nD Cert.MixfIdeal.τ).loc Cert.MixfIdeal.main_arg3) = m ((c.tc : Thread Cert.MixfIdeal.nD Cert.MixfIdeal.τ).loc Cert.MixfIdeal.main_arg3)
      ∧ r.2.mem ((c.tc : Thread Cert.MixfIdeal.nD Cert.MixfIdeal.τ).loc Cert.MixfIdeal.main_arg4) = m ((c.tc : Thread Cert.MixfIdeal.nD Cert.MixfIdeal.τ).loc Cert.MixfIdeal.main_arg4)
      ∧ r.2.mem ((c.tc : Thread Cert.MixfIdeal.nD Cert.MixfIdeal.τ).loc Cert.MixfIdeal.main_arg5) = m ((c.tc : Thread Cert.MixfIdeal.nD Cert.MixfIdeal.τ).loc Cert.MixfIdeal.main_arg5)
      ∧ r.2.mem ((c.tc : Thread Cert.MixfIdeal.nD Cert.MixfIdeal.τ).loc Cert.MixfIdeal.main_arg6) = m ((c.tc : Thread Cert.MixfIdeal.nD Cert.MixfIdeal.τ).loc Cert.MixfIdeal.main_arg6)
      ∧ r.2.mem ((c.tc : Thread Cert.MixfIdeal.nD Cert.MixfIdeal.τ).loc Cert.MixfIdeal.main_arg7) = m ((c.tc : Thread Cert.MixfIdeal.nD Cert.MixfIdeal.τ).loc Cert.MixfIdeal.main_arg7)
      ∧ r.2.mem ((c.tc : Thread Cert.MixfIdeal.nD Cert.MixfIdeal.τ).loc Cert.MixfIdeal.main_arg8) = m ((c.tc : Thread Cert.MixfIdeal.nD Cert.MixfIdeal.τ).loc Cert.MixfIdeal.main_arg8)
      ∧ r.2.mem ((c.tc : Thread Cert.MixfIdeal.nD Cert.MixfIdeal.τ).loc Cert.MixfIdeal.main_arg9) = m ((c.tc : Thread Cert.MixfIdeal.nD Cert.MixfIdeal.τ).loc Cert.MixfIdeal.main_arg9)
      ∧ r.2.mem ((c.tc : Thread Cert.MixfIdeal.nD Cert.MixfIdeal.τ).loc Cert.MixfIdeal.main_arg10) = m ((c.tc : Thread Cert.MixfIdeal.nD Cert.MixfIdeal.τ).loc Cert.MixfIdeal.main_arg10)
      ∧ r.2.mem ((c.tc : Thread Cert.MixfIdeal.nD Cert.MixfIdeal.τ).loc Cert.MixfIdeal.main_arg11) = m ((c.tc : Thread Cert.MixfIdeal.nD Cert.MixfIdeal.τ).loc Cert.MixfIdeal.main_arg11)
      ∧ r.2.mem ((c.tc : Thread Cert.MixfIdeal.nD Cert.MixfIdeal.τ).loc Cert.MixfIdeal.main_arg12) = m ((c.tc : Thread Cert.MixfIdeal.nD Cert.MixfIdeal.τ).loc Cert.MixfIdeal.main_arg12))
      ∧ r.2.sem = fun _ => 0)

def quiescent_MixfRefIdeal [hMixfRefIdeal : Cert.MixfRefIdeal.Facts] : Prop :=
  ∀ (m : (ℓ : Loc Cert.MixfRefIdeal.nD Cert.MixfRefIdeal.τ Cert.MixfRefIdeal.sig) → Buf (Elt Ideal) ℓ) (g : Dev Cert.MixfRefIdeal.nD → PrngReg), Pre_MixfRefIdeal m →
    θ_run (Cert.MixfRefIdeal.defs (F := Ideal)) (onTc (τ := Cert.MixfRefIdeal.τ) (Cert.MixfRefIdeal.main (F := Ideal))) ⟨m, fun _ => 0, g⟩ (fun r => (∀ c : Dev Cert.MixfRefIdeal.nD,
      r.2.mem ((c.tc : Thread Cert.MixfRefIdeal.nD Cert.MixfRefIdeal.τ).loc Cert.MixfRefIdeal.main_arg0) = m ((c.tc : Thread Cert.MixfRefIdeal.nD Cert.MixfRefIdeal.τ).loc Cert.MixfRefIdeal.main_arg0)
      ∧ r.2.mem ((c.tc : Thread Cert.MixfRefIdeal.nD Cert.MixfRefIdeal.τ).loc Cert.MixfRefIdeal.main_arg1) = m ((c.tc : Thread Cert.MixfRefIdeal.nD Cert.MixfRefIdeal.τ).loc Cert.MixfRefIdeal.main_arg1)
      ∧ r.2.mem ((c.tc : Thread Cert.MixfRefIdeal.nD Cert.MixfRefIdeal.τ).loc Cert.MixfRefIdeal.main_arg2) = m ((c.tc : Thread Cert.MixfRefIdeal.nD Cert.MixfRefIdeal.τ).loc Cert.MixfRefIdeal.main_arg2)
      ∧ r.2.mem ((c.tc : Thread Cert.MixfRefIdeal.nD Cert.MixfRefIdeal.τ).loc Cert.MixfRefIdeal.main_arg3) = m ((c.tc : Thread Cert.MixfRefIdeal.nD Cert.MixfRefIdeal.τ).loc Cert.MixfRefIdeal.main_arg3)
      ∧ r.2.mem ((c.tc : Thread Cert.MixfRefIdeal.nD Cert.MixfRefIdeal.τ).loc Cert.MixfRefIdeal.main_arg4) = m ((c.tc : Thread Cert.MixfRefIdeal.nD Cert.MixfRefIdeal.τ).loc Cert.MixfRefIdeal.main_arg4)
      ∧ r.2.mem ((c.tc : Thread Cert.MixfRefIdeal.nD Cert.MixfRefIdeal.τ).loc Cert.MixfRefIdeal.main_arg5) = m ((c.tc : Thread Cert.MixfRefIdeal.nD Cert.MixfRefIdeal.τ).loc Cert.MixfRefIdeal.main_arg5)
      ∧ r.2.mem ((c.tc : Thread Cert.MixfRefIdeal.nD Cert.MixfRefIdeal.τ).loc Cert.MixfRefIdeal.main_arg6) = m ((c.tc : Thread Cert.MixfRefIdeal.nD Cert.MixfRefIdeal.τ).loc Cert.MixfRefIdeal.main_arg6)
      ∧ r.2.mem ((c.tc : Thread Cert.MixfRefIdeal.nD Cert.MixfRefIdeal.τ).loc Cert.MixfRefIdeal.main_arg7) = m ((c.tc : Thread Cert.MixfRefIdeal.nD Cert.MixfRefIdeal.τ).loc Cert.MixfRefIdeal.main_arg7)
      ∧ r.2.mem ((c.tc : Thread Cert.MixfRefIdeal.nD Cert.MixfRefIdeal.τ).loc Cert.MixfRefIdeal.main_arg8) = m ((c.tc : Thread Cert.MixfRefIdeal.nD Cert.MixfRefIdeal.τ).loc Cert.MixfRefIdeal.main_arg8)
      ∧ r.2.mem ((c.tc : Thread Cert.MixfRefIdeal.nD Cert.MixfRefIdeal.τ).loc Cert.MixfRefIdeal.main_arg9) = m ((c.tc : Thread Cert.MixfRefIdeal.nD Cert.MixfRefIdeal.τ).loc Cert.MixfRefIdeal.main_arg9)
      ∧ r.2.mem ((c.tc : Thread Cert.MixfRefIdeal.nD Cert.MixfRefIdeal.τ).loc Cert.MixfRefIdeal.main_arg10) = m ((c.tc : Thread Cert.MixfRefIdeal.nD Cert.MixfRefIdeal.τ).loc Cert.MixfRefIdeal.main_arg10)
      ∧ r.2.mem ((c.tc : Thread Cert.MixfRefIdeal.nD Cert.MixfRefIdeal.τ).loc Cert.MixfRefIdeal.main_arg11) = m ((c.tc : Thread Cert.MixfRefIdeal.nD Cert.MixfRefIdeal.τ).loc Cert.MixfRefIdeal.main_arg11)
      ∧ r.2.mem ((c.tc : Thread Cert.MixfRefIdeal.nD Cert.MixfRefIdeal.τ).loc Cert.MixfRefIdeal.main_arg12) = m ((c.tc : Thread Cert.MixfRefIdeal.nD Cert.MixfRefIdeal.τ).loc Cert.MixfRefIdeal.main_arg12))
      ∧ r.2.sem = fun _ => 0)

def quiescent_MixfRefIdeal_pre_mixf_finite [hMixfRefIdeal : Cert.MixfRefIdeal.Facts] [hPre_mixf_finite : Cert.Pre_mixf_finite.Facts] : Prop :=
  ∀ (m : (ℓ : Loc Cert.MixfRefIdeal.nD Cert.MixfRefIdeal.τ Cert.MixfRefIdeal.sig) → Buf (Elt Ideal) ℓ) (g : Dev Cert.MixfRefIdeal.nD → PrngReg), Pre_MixfRefIdeal_mixf_finite m →
    θ_run (Cert.MixfRefIdeal.defs (F := Ideal)) (onTc (τ := Cert.MixfRefIdeal.τ) (Cert.MixfRefIdeal.main (F := Ideal))) ⟨m, fun _ => 0, g⟩ (fun r => (∀ c : Dev Cert.MixfRefIdeal.nD,
      r.2.mem ((c.tc : Thread Cert.MixfRefIdeal.nD Cert.MixfRefIdeal.τ).loc Cert.MixfRefIdeal.main_arg0) = m ((c.tc : Thread Cert.MixfRefIdeal.nD Cert.MixfRefIdeal.τ).loc Cert.MixfRefIdeal.main_arg0)
      ∧ r.2.mem ((c.tc : Thread Cert.MixfRefIdeal.nD Cert.MixfRefIdeal.τ).loc Cert.MixfRefIdeal.main_arg1) = m ((c.tc : Thread Cert.MixfRefIdeal.nD Cert.MixfRefIdeal.τ).loc Cert.MixfRefIdeal.main_arg1)
      ∧ r.2.mem ((c.tc : Thread Cert.MixfRefIdeal.nD Cert.MixfRefIdeal.τ).loc Cert.MixfRefIdeal.main_arg2) = m ((c.tc : Thread Cert.MixfRefIdeal.nD Cert.MixfRefIdeal.τ).loc Cert.MixfRefIdeal.main_arg2)
      ∧ r.2.mem ((c.tc : Thread Cert.MixfRefIdeal.nD Cert.MixfRefIdeal.τ).loc Cert.MixfRefIdeal.main_arg3) = m ((c.tc : Thread Cert.MixfRefIdeal.nD Cert.MixfRefIdeal.τ).loc Cert.MixfRefIdeal.main_arg3)
      ∧ r.2.mem ((c.tc : Thread Cert.MixfRefIdeal.nD Cert.MixfRefIdeal.τ).loc Cert.MixfRefIdeal.main_arg4) = m ((c.tc : Thread Cert.MixfRefIdeal.nD Cert.MixfRefIdeal.τ).loc Cert.MixfRefIdeal.main_arg4)
      ∧ r.2.mem ((c.tc : Thread Cert.MixfRefIdeal.nD Cert.MixfRefIdeal.τ).loc Cert.MixfRefIdeal.main_arg5) = m ((c.tc : Thread Cert.MixfRefIdeal.nD Cert.MixfRefIdeal.τ).loc Cert.MixfRefIdeal.main_arg5)
      ∧ r.2.mem ((c.tc : Thread Cert.MixfRefIdeal.nD Cert.MixfRefIdeal.τ).loc Cert.MixfRefIdeal.main_arg6) = m ((c.tc : Thread Cert.MixfRefIdeal.nD Cert.MixfRefIdeal.τ).loc Cert.MixfRefIdeal.main_arg6)
      ∧ r.2.mem ((c.tc : Thread Cert.MixfRefIdeal.nD Cert.MixfRefIdeal.τ).loc Cert.MixfRefIdeal.main_arg7) = m ((c.tc : Thread Cert.MixfRefIdeal.nD Cert.MixfRefIdeal.τ).loc Cert.MixfRefIdeal.main_arg7)
      ∧ r.2.mem ((c.tc : Thread Cert.MixfRefIdeal.nD Cert.MixfRefIdeal.τ).loc Cert.MixfRefIdeal.main_arg8) = m ((c.tc : Thread Cert.MixfRefIdeal.nD Cert.MixfRefIdeal.τ).loc Cert.MixfRefIdeal.main_arg8)
      ∧ r.2.mem ((c.tc : Thread Cert.MixfRefIdeal.nD Cert.MixfRefIdeal.τ).loc Cert.MixfRefIdeal.main_arg9) = m ((c.tc : Thread Cert.MixfRefIdeal.nD Cert.MixfRefIdeal.τ).loc Cert.MixfRefIdeal.main_arg9)
      ∧ r.2.mem ((c.tc : Thread Cert.MixfRefIdeal.nD Cert.MixfRefIdeal.τ).loc Cert.MixfRefIdeal.main_arg10) = m ((c.tc : Thread Cert.MixfRefIdeal.nD Cert.MixfRefIdeal.τ).loc Cert.MixfRefIdeal.main_arg10)
      ∧ r.2.mem ((c.tc : Thread Cert.MixfRefIdeal.nD Cert.MixfRefIdeal.τ).loc Cert.MixfRefIdeal.main_arg11) = m ((c.tc : Thread Cert.MixfRefIdeal.nD Cert.MixfRefIdeal.τ).loc Cert.MixfRefIdeal.main_arg11)
      ∧ r.2.mem ((c.tc : Thread Cert.MixfRefIdeal.nD Cert.MixfRefIdeal.τ).loc Cert.MixfRefIdeal.main_arg12) = m ((c.tc : Thread Cert.MixfRefIdeal.nD Cert.MixfRefIdeal.τ).loc Cert.MixfRefIdeal.main_arg12))
      ∧ r.2.sem = fun _ => 0)

def quiescent_Inf [hInf : Cert.Inf.Facts] : Prop :=
  ∀ (m : (ℓ : Loc Cert.Inf.nD Cert.Inf.τ Cert.Inf.sig) → Buf (Elt Bits) ℓ) (g : Dev Cert.Inf.nD → PrngReg), Pre_Inf m →
    θ_run (Cert.Inf.defs (F := Bits)) (onTc (τ := Cert.Inf.τ) (Cert.Inf.main (F := Bits))) ⟨m, fun _ => 0, g⟩ (fun r => (∀ c : Dev Cert.Inf.nD,
      r.2.mem ((c.tc : Thread Cert.Inf.nD Cert.Inf.τ).loc Cert.Inf.main_arg0) = m ((c.tc : Thread Cert.Inf.nD Cert.Inf.τ).loc Cert.Inf.main_arg0)
      ∧ r.2.mem ((c.tc : Thread Cert.Inf.nD Cert.Inf.τ).loc Cert.Inf.main_arg1) = m ((c.tc : Thread Cert.Inf.nD Cert.Inf.τ).loc Cert.Inf.main_arg1)
      ∧ r.2.mem ((c.tc : Thread Cert.Inf.nD Cert.Inf.τ).loc Cert.Inf.main_arg2) = m ((c.tc : Thread Cert.Inf.nD Cert.Inf.τ).loc Cert.Inf.main_arg2)
      ∧ r.2.mem ((c.tc : Thread Cert.Inf.nD Cert.Inf.τ).loc Cert.Inf.main_arg3) = m ((c.tc : Thread Cert.Inf.nD Cert.Inf.τ).loc Cert.Inf.main_arg3)
      ∧ r.2.mem ((c.tc : Thread Cert.Inf.nD Cert.Inf.τ).loc Cert.Inf.main_arg4) = m ((c.tc : Thread Cert.Inf.nD Cert.Inf.τ).loc Cert.Inf.main_arg4)
      ∧ r.2.mem ((c.tc : Thread Cert.Inf.nD Cert.Inf.τ).loc Cert.Inf.main_arg5) = m ((c.tc : Thread Cert.Inf.nD Cert.Inf.τ).loc Cert.Inf.main_arg5))
      ∧ r.2.sem = fun _ => 0)

def quiescent_InfIdeal [hInfIdeal : Cert.InfIdeal.Facts] : Prop :=
  ∀ (m : (ℓ : Loc Cert.InfIdeal.nD Cert.InfIdeal.τ Cert.InfIdeal.sig) → Buf (Elt Ideal) ℓ) (g : Dev Cert.InfIdeal.nD → PrngReg), Pre_InfIdeal m →
    θ_run (Cert.InfIdeal.defs (F := Ideal)) (onTc (τ := Cert.InfIdeal.τ) (Cert.InfIdeal.main (F := Ideal))) ⟨m, fun _ => 0, g⟩ (fun r => (∀ c : Dev Cert.InfIdeal.nD,
      r.2.mem ((c.tc : Thread Cert.InfIdeal.nD Cert.InfIdeal.τ).loc Cert.InfIdeal.main_arg0) = m ((c.tc : Thread Cert.InfIdeal.nD Cert.InfIdeal.τ).loc Cert.InfIdeal.main_arg0)
      ∧ r.2.mem ((c.tc : Thread Cert.InfIdeal.nD Cert.InfIdeal.τ).loc Cert.InfIdeal.main_arg1) = m ((c.tc : Thread Cert.InfIdeal.nD Cert.InfIdeal.τ).loc Cert.InfIdeal.main_arg1)
      ∧ r.2.mem ((c.tc : Thread Cert.InfIdeal.nD Cert.InfIdeal.τ).loc Cert.InfIdeal.main_arg2) = m ((c.tc : Thread Cert.InfIdeal.nD Cert.InfIdeal.τ).loc Cert.InfIdeal.main_arg2)
      ∧ r.2.mem ((c.tc : Thread Cert.InfIdeal.nD Cert.InfIdeal.τ).loc Cert.InfIdeal.main_arg3) = m ((c.tc : Thread Cert.InfIdeal.nD Cert.InfIdeal.τ).loc Cert.InfIdeal.main_arg3)
      ∧ r.2.mem ((c.tc : Thread Cert.InfIdeal.nD Cert.InfIdeal.τ).loc Cert.InfIdeal.main_arg4) = m ((c.tc : Thread Cert.InfIdeal.nD Cert.InfIdeal.τ).loc Cert.InfIdeal.main_arg4)
      ∧ r.2.mem ((c.tc : Thread Cert.InfIdeal.nD Cert.InfIdeal.τ).loc Cert.InfIdeal.main_arg5) = m ((c.tc : Thread Cert.InfIdeal.nD Cert.InfIdeal.τ).loc Cert.InfIdeal.main_arg5))
      ∧ r.2.sem = fun _ => 0)

def quiescent_InfIdeal_pre_inf_finite [hInfIdeal : Cert.InfIdeal.Facts] [hPre_inf_finite : Cert.Pre_inf_finite.Facts] : Prop :=
  ∀ (m : (ℓ : Loc Cert.InfIdeal.nD Cert.InfIdeal.τ Cert.InfIdeal.sig) → Buf (Elt Ideal) ℓ) (g : Dev Cert.InfIdeal.nD → PrngReg), Pre_InfIdeal_inf_finite m →
    θ_run (Cert.InfIdeal.defs (F := Ideal)) (onTc (τ := Cert.InfIdeal.τ) (Cert.InfIdeal.main (F := Ideal))) ⟨m, fun _ => 0, g⟩ (fun r => (∀ c : Dev Cert.InfIdeal.nD,
      r.2.mem ((c.tc : Thread Cert.InfIdeal.nD Cert.InfIdeal.τ).loc Cert.InfIdeal.main_arg0) = m ((c.tc : Thread Cert.InfIdeal.nD Cert.InfIdeal.τ).loc Cert.InfIdeal.main_arg0)
      ∧ r.2.mem ((c.tc : Thread Cert.InfIdeal.nD Cert.InfIdeal.τ).loc Cert.InfIdeal.main_arg1) = m ((c.tc : Thread Cert.InfIdeal.nD Cert.InfIdeal.τ).loc Cert.InfIdeal.main_arg1)
      ∧ r.2.mem ((c.tc : Thread Cert.InfIdeal.nD Cert.InfIdeal.τ).loc Cert.InfIdeal.main_arg2) = m ((c.tc : Thread Cert.InfIdeal.nD Cert.InfIdeal.τ).loc Cert.InfIdeal.main_arg2)
      ∧ r.2.mem ((c.tc : Thread Cert.InfIdeal.nD Cert.InfIdeal.τ).loc Cert.InfIdeal.main_arg3) = m ((c.tc : Thread Cert.InfIdeal.nD Cert.InfIdeal.τ).loc Cert.InfIdeal.main_arg3)
      ∧ r.2.mem ((c.tc : Thread Cert.InfIdeal.nD Cert.InfIdeal.τ).loc Cert.InfIdeal.main_arg4) = m ((c.tc : Thread Cert.InfIdeal.nD Cert.InfIdeal.τ).loc Cert.InfIdeal.main_arg4)
      ∧ r.2.mem ((c.tc : Thread Cert.InfIdeal.nD Cert.InfIdeal.τ).loc Cert.InfIdeal.main_arg5) = m ((c.tc : Thread Cert.InfIdeal.nD Cert.InfIdeal.τ).loc Cert.InfIdeal.main_arg5))
      ∧ r.2.sem = fun _ => 0)

def quiescent_InfRefIdeal [hInfRefIdeal : Cert.InfRefIdeal.Facts] : Prop :=
  ∀ (m : (ℓ : Loc Cert.InfRefIdeal.nD Cert.InfRefIdeal.τ Cert.InfRefIdeal.sig) → Buf (Elt Ideal) ℓ) (g : Dev Cert.InfRefIdeal.nD → PrngReg), Pre_InfRefIdeal m →
    θ_run (Cert.InfRefIdeal.defs (F := Ideal)) (onTc (τ := Cert.InfRefIdeal.τ) (Cert.InfRefIdeal.main (F := Ideal))) ⟨m, fun _ => 0, g⟩ (fun r => (∀ c : Dev Cert.InfRefIdeal.nD,
      r.2.mem ((c.tc : Thread Cert.InfRefIdeal.nD Cert.InfRefIdeal.τ).loc Cert.InfRefIdeal.main_arg0) = m ((c.tc : Thread Cert.InfRefIdeal.nD Cert.InfRefIdeal.τ).loc Cert.InfRefIdeal.main_arg0)
      ∧ r.2.mem ((c.tc : Thread Cert.InfRefIdeal.nD Cert.InfRefIdeal.τ).loc Cert.InfRefIdeal.main_arg1) = m ((c.tc : Thread Cert.InfRefIdeal.nD Cert.InfRefIdeal.τ).loc Cert.InfRefIdeal.main_arg1)
      ∧ r.2.mem ((c.tc : Thread Cert.InfRefIdeal.nD Cert.InfRefIdeal.τ).loc Cert.InfRefIdeal.main_arg2) = m ((c.tc : Thread Cert.InfRefIdeal.nD Cert.InfRefIdeal.τ).loc Cert.InfRefIdeal.main_arg2)
      ∧ r.2.mem ((c.tc : Thread Cert.InfRefIdeal.nD Cert.InfRefIdeal.τ).loc Cert.InfRefIdeal.main_arg3) = m ((c.tc : Thread Cert.InfRefIdeal.nD Cert.InfRefIdeal.τ).loc Cert.InfRefIdeal.main_arg3)
      ∧ r.2.mem ((c.tc : Thread Cert.InfRefIdeal.nD Cert.InfRefIdeal.τ).loc Cert.InfRefIdeal.main_arg4) = m ((c.tc : Thread Cert.InfRefIdeal.nD Cert.InfRefIdeal.τ).loc Cert.InfRefIdeal.main_arg4)
      ∧ r.2.mem ((c.tc : Thread Cert.InfRefIdeal.nD Cert.InfRefIdeal.τ).loc Cert.InfRefIdeal.main_arg5) = m ((c.tc : Thread Cert.InfRefIdeal.nD Cert.InfRefIdeal.τ).loc Cert.InfRefIdeal.main_arg5))
      ∧ r.2.sem = fun _ => 0)

def quiescent_InfRefIdeal_pre_inf_finite [hInfRefIdeal : Cert.InfRefIdeal.Facts] [hPre_inf_finite : Cert.Pre_inf_finite.Facts] : Prop :=
  ∀ (m : (ℓ : Loc Cert.InfRefIdeal.nD Cert.InfRefIdeal.τ Cert.InfRefIdeal.sig) → Buf (Elt Ideal) ℓ) (g : Dev Cert.InfRefIdeal.nD → PrngReg), Pre_InfRefIdeal_inf_finite m →
    θ_run (Cert.InfRefIdeal.defs (F := Ideal)) (onTc (τ := Cert.InfRefIdeal.τ) (Cert.InfRefIdeal.main (F := Ideal))) ⟨m, fun _ => 0, g⟩ (fun r => (∀ c : Dev Cert.InfRefIdeal.nD,
      r.2.mem ((c.tc : Thread Cert.InfRefIdeal.nD Cert.InfRefIdeal.τ).loc Cert.InfRefIdeal.main_arg0) = m ((c.tc : Thread Cert.InfRefIdeal.nD Cert.InfRefIdeal.τ).loc Cert.InfRefIdeal.main_arg0)
      ∧ r.2.mem ((c.tc : Thread Cert.InfRefIdeal.nD Cert.InfRefIdeal.τ).loc Cert.InfRefIdeal.main_arg1) = m ((c.tc : Thread Cert.InfRefIdeal.nD Cert.InfRefIdeal.τ).loc Cert.InfRefIdeal.main_arg1)
      ∧ r.2.mem ((c.tc : Thread Cert.InfRefIdeal.nD Cert.InfRefIdeal.τ).loc Cert.InfRefIdeal.main_arg2) = m ((c.tc : Thread Cert.InfRefIdeal.nD Cert.InfRefIdeal.τ).loc Cert.InfRefIdeal.main_arg2)
      ∧ r.2.mem ((c.tc : Thread Cert.InfRefIdeal.nD Cert.InfRefIdeal.τ).loc Cert.InfRefIdeal.main_arg3) = m ((c.tc : Thread Cert.InfRefIdeal.nD Cert.InfRefIdeal.τ).loc Cert.InfRefIdeal.main_arg3)
      ∧ r.2.mem ((c.tc : Thread Cert.InfRefIdeal.nD Cert.InfRefIdeal.τ).loc Cert.InfRefIdeal.main_arg4) = m ((c.tc : Thread Cert.InfRefIdeal.nD Cert.InfRefIdeal.τ).loc Cert.InfRefIdeal.main_arg4)
      ∧ r.2.mem ((c.tc : Thread Cert.InfRefIdeal.nD Cert.InfRefIdeal.τ).loc Cert.InfRefIdeal.main_arg5) = m ((c.tc : Thread Cert.InfRefIdeal.nD Cert.InfRefIdeal.τ).loc Cert.InfRefIdeal.main_arg5))
      ∧ r.2.sem = fun _ => 0)

def preserves_Mod_ModIdeal : Prop :=
  True

def algebraic_ModIdeal_ModRefIdeal_pre_mod_finite [hModIdeal : Cert.ModIdeal.Facts] [hModRefIdeal : Cert.ModRefIdeal.Facts] [hPre_mod_finite : Cert.Pre_mod_finite.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal_mod_finite m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)
      ∧ m' ((c.tc : Thread Cert.ModRefIdeal.nD Cert.ModRefIdeal.τ).loc Cert.ModRefIdeal.main_arg4) = m ((c.tc : Thread Cert.ModIdeal.nD Cert.ModIdeal.τ).loc Cert.ModIdeal.main_arg4)
      ∧ m' ((c.tc : Thread Cert.ModRefIdeal.nD Cert.ModRefIdeal.τ).loc Cert.ModRefIdeal.main_arg5) = m ((c.tc : Thread Cert.ModIdeal.nD Cert.ModIdeal.τ).loc Cert.ModIdeal.main_arg5)
      ∧ m' ((c.tc : Thread Cert.ModRefIdeal.nD Cert.ModRefIdeal.τ).loc Cert.ModRefIdeal.main_arg6) = m ((c.tc : Thread Cert.ModIdeal.nD Cert.ModIdeal.τ).loc Cert.ModIdeal.main_arg6)) →
    ∃ (v0 : (c : Dev Cert.ModIdeal.nD) → Buf (Elt Ideal) ((c.tc : Thread Cert.ModIdeal.nD Cert.ModIdeal.τ).loc Cert.ModIdeal.main_v21_0)) (v1 : (c : Dev Cert.ModIdeal.nD) → Buf (Elt Ideal) ((c.tc : Thread Cert.ModIdeal.nD Cert.ModIdeal.τ).loc Cert.ModIdeal.main_v21_1)) (v2 : (c : Dev Cert.ModIdeal.nD) → Buf (Elt Ideal) ((c.tc : Thread Cert.ModIdeal.nD Cert.ModIdeal.τ).loc Cert.ModIdeal.main_v21_2)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v21_0) = v0 c
          ∧ r.2.mem ((c.tc : Thread Cert.ModIdeal.nD Cert.ModIdeal.τ).loc Cert.ModIdeal.main_v21_1) = v1 c
          ∧ r.2.mem ((c.tc : Thread Cert.ModIdeal.nD Cert.ModIdeal.τ).loc Cert.ModIdeal.main_v21_2) = v2 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3)
          ∧ r.2.mem ((c.tc : Thread Cert.ModIdeal.nD Cert.ModIdeal.τ).loc Cert.ModIdeal.main_arg4) = m ((c.tc : Thread Cert.ModIdeal.nD Cert.ModIdeal.τ).loc Cert.ModIdeal.main_arg4)
          ∧ r.2.mem ((c.tc : Thread Cert.ModIdeal.nD Cert.ModIdeal.τ).loc Cert.ModIdeal.main_arg5) = m ((c.tc : Thread Cert.ModIdeal.nD Cert.ModIdeal.τ).loc Cert.ModIdeal.main_arg5)
          ∧ r.2.mem ((c.tc : Thread Cert.ModIdeal.nD Cert.ModIdeal.τ).loc Cert.ModIdeal.main_arg6) = m ((c.tc : Thread Cert.ModIdeal.nD Cert.ModIdeal.τ).loc Cert.ModIdeal.main_arg6))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v53) = v0 c
          ∧ r.2.mem ((c.tc : Thread Cert.ModRefIdeal.nD Cert.ModRefIdeal.τ).loc Cert.ModRefIdeal.main_v25) = v1 c
          ∧ r.2.mem ((c.tc : Thread Cert.ModRefIdeal.nD Cert.ModRefIdeal.τ).loc Cert.ModRefIdeal.main_v54) = v2 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3)
          ∧ r.2.mem ((c.tc : Thread Cert.ModRefIdeal.nD Cert.ModRefIdeal.τ).loc Cert.ModRefIdeal.main_arg4) = m' ((c.tc : Thread Cert.ModRefIdeal.nD Cert.ModRefIdeal.τ).loc Cert.ModRefIdeal.main_arg4)
          ∧ r.2.mem ((c.tc : Thread Cert.ModRefIdeal.nD Cert.ModRefIdeal.τ).loc Cert.ModRefIdeal.main_arg5) = m' ((c.tc : Thread Cert.ModRefIdeal.nD Cert.ModRefIdeal.τ).loc Cert.ModRefIdeal.main_arg5)
          ∧ r.2.mem ((c.tc : Thread Cert.ModRefIdeal.nD Cert.ModRefIdeal.τ).loc Cert.ModRefIdeal.main_arg6) = m' ((c.tc : Thread Cert.ModRefIdeal.nD Cert.ModRefIdeal.τ).loc Cert.ModRefIdeal.main_arg6))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v8_0)) (v1 : (c : Dev Cert.FfnIdeal.nD) → Buf (Elt Ideal) ((c.tc : Thread Cert.FfnIdeal.nD Cert.FfnIdeal.τ).loc Cert.FfnIdeal.main_v8_1)) (v2 : (c : Dev Cert.FfnIdeal.nD) → Buf (Elt Ideal) ((c.tc : Thread Cert.FfnIdeal.nD Cert.FfnIdeal.τ).loc Cert.FfnIdeal.main_v8_2)) (v3 : (c : Dev Cert.FfnIdeal.nD) → Buf (Elt Ideal) ((c.tc : Thread Cert.FfnIdeal.nD Cert.FfnIdeal.τ).loc Cert.FfnIdeal.main_v8_3)) (v4 : (c : Dev Cert.FfnIdeal.nD) → Buf (Elt Ideal) ((c.tc : Thread Cert.FfnIdeal.nD Cert.FfnIdeal.τ).loc Cert.FfnIdeal.main_v8_4)) (v5 : (c : Dev Cert.FfnIdeal.nD) → Buf (Elt Ideal) ((c.tc : Thread Cert.FfnIdeal.nD Cert.FfnIdeal.τ).loc Cert.FfnIdeal.main_v8_5)) (v6 : (c : Dev Cert.FfnIdeal.nD) → Buf (Elt Ideal) ((c.tc : Thread Cert.FfnIdeal.nD Cert.FfnIdeal.τ).loc Cert.FfnIdeal.main_v8_6)) (v7 : (c : Dev Cert.FfnIdeal.nD) → Buf (Elt Ideal) ((c.tc : Thread Cert.FfnIdeal.nD Cert.FfnIdeal.τ).loc Cert.FfnIdeal.main_v8_7)) (v8 : (c : Dev Cert.FfnIdeal.nD) → Buf (Elt Ideal) ((c.tc : Thread Cert.FfnIdeal.nD Cert.FfnIdeal.τ).loc Cert.FfnIdeal.main_v8_8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8_0) = v0 c
          ∧ r.2.mem ((c.tc : Thread Cert.FfnIdeal.nD Cert.FfnIdeal.τ).loc Cert.FfnIdeal.main_v8_1) = v1 c
          ∧ r.2.mem ((c.tc : Thread Cert.FfnIdeal.nD Cert.FfnIdeal.τ).loc Cert.FfnIdeal.main_v8_2) = v2 c
          ∧ r.2.mem ((c.tc : Thread Cert.FfnIdeal.nD Cert.FfnIdeal.τ).loc Cert.FfnIdeal.main_v8_3) = v3 c
          ∧ r.2.mem ((c.tc : Thread Cert.FfnIdeal.nD Cert.FfnIdeal.τ).loc Cert.FfnIdeal.main_v8_4) = v4 c
          ∧ r.2.mem ((c.tc : Thread Cert.FfnIdeal.nD Cert.FfnIdeal.τ).loc Cert.FfnIdeal.main_v8_5) = v5 c
          ∧ r.2.mem ((c.tc : Thread Cert.FfnIdeal.nD Cert.FfnIdeal.τ).loc Cert.FfnIdeal.main_v8_6) = v6 c
          ∧ r.2.mem ((c.tc : Thread Cert.FfnIdeal.nD Cert.FfnIdeal.τ).loc Cert.FfnIdeal.main_v8_7) = v7 c
          ∧ r.2.mem ((c.tc : Thread Cert.FfnIdeal.nD Cert.FfnIdeal.τ).loc Cert.FfnIdeal.main_v8_8) = v8 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v143) = v0 c
          ∧ r.2.mem ((c.tc : Thread Cert.FfnRefIdeal.nD Cert.FfnRefIdeal.τ).loc Cert.FfnRefIdeal.main_v303) = v1 c
          ∧ r.2.mem ((c.tc : Thread Cert.FfnRefIdeal.nD Cert.FfnRefIdeal.τ).loc Cert.FfnRefIdeal.main_v304) = v2 c
          ∧ r.2.mem ((c.tc : Thread Cert.FfnRefIdeal.nD Cert.FfnRefIdeal.τ).loc Cert.FfnRefIdeal.main_v305) = v3 c
          ∧ r.2.mem ((c.tc : Thread Cert.FfnRefIdeal.nD Cert.FfnRefIdeal.τ).loc Cert.FfnRefIdeal.main_v306) = v4 c
          ∧ r.2.mem ((c.tc : Thread Cert.FfnRefIdeal.nD Cert.FfnRefIdeal.τ).loc Cert.FfnRefIdeal.main_v307) = v5 c
          ∧ r.2.mem ((c.tc : Thread Cert.FfnRefIdeal.nD Cert.FfnRefIdeal.τ).loc Cert.FfnRefIdeal.main_v308) = v6 c
          ∧ r.2.mem ((c.tc : Thread Cert.FfnRefIdeal.nD Cert.FfnRefIdeal.τ).loc Cert.FfnRefIdeal.main_v144) = v7 c
          ∧ r.2.mem ((c.tc : Thread Cert.FfnRefIdeal.nD Cert.FfnRefIdeal.τ).loc Cert.FfnRefIdeal.main_v302) = v8 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Inb_InbIdeal : Prop :=
  True

def algebraic_InbIdeal_InbRefIdeal_pre_in_finite [hInbIdeal : Cert.InbIdeal.Facts] [hInbRefIdeal : Cert.InbRefIdeal.Facts] [hPre_in_finite : Cert.Pre_in_finite.Facts] : Prop :=
  ∀ (m : (ℓ : Loc Cert.InbIdeal.nD Cert.InbIdeal.τ Cert.InbIdeal.sig) → Buf (Elt Ideal) ℓ) (g : Dev Cert.InbIdeal.nD → PrngReg)
    (m' : (ℓ : Loc Cert.InbRefIdeal.nD Cert.InbRefIdeal.τ Cert.InbRefIdeal.sig) → Buf (Elt Ideal) ℓ) (g' : Dev Cert.InbRefIdeal.nD → PrngReg), Pre_InbIdeal_in_finite m →
    (∀ c : Dev Cert.InbIdeal.nD,
      m' ((c.tc : Thread Cert.InbRefIdeal.nD Cert.InbRefIdeal.τ).loc Cert.InbRefIdeal.main_arg0) = m ((c.tc : Thread Cert.InbIdeal.nD Cert.InbIdeal.τ).loc Cert.InbIdeal.main_arg0)
      ∧ m' ((c.tc : Thread Cert.InbRefIdeal.nD Cert.InbRefIdeal.τ).loc Cert.InbRefIdeal.main_arg1) = m ((c.tc : Thread Cert.InbIdeal.nD Cert.InbIdeal.τ).loc Cert.InbIdeal.main_arg1)
      ∧ m' ((c.tc : Thread Cert.InbRefIdeal.nD Cert.InbRefIdeal.τ).loc Cert.InbRefIdeal.main_arg2) = m ((c.tc : Thread Cert.InbIdeal.nD Cert.InbIdeal.τ).loc Cert.InbIdeal.main_arg2)
      ∧ m' ((c.tc : Thread Cert.InbRefIdeal.nD Cert.InbRefIdeal.τ).loc Cert.InbRefIdeal.main_arg3) = m ((c.tc : Thread Cert.InbIdeal.nD Cert.InbIdeal.τ).loc Cert.InbIdeal.main_arg3)
      ∧ m' ((c.tc : Thread Cert.InbRefIdeal.nD Cert.InbRefIdeal.τ).loc Cert.InbRefIdeal.main_arg4) = m ((c.tc : Thread Cert.InbIdeal.nD Cert.InbIdeal.τ).loc Cert.InbIdeal.main_arg4)
      ∧ m' ((c.tc : Thread Cert.InbRefIdeal.nD Cert.InbRefIdeal.τ).loc Cert.InbRefIdeal.main_arg5) = m ((c.tc : Thread Cert.InbIdeal.nD Cert.InbIdeal.τ).loc Cert.InbIdeal.main_arg5)
      ∧ m' ((c.tc : Thread Cert.InbRefIdeal.nD Cert.InbRefIdeal.τ).loc Cert.InbRefIdeal.main_arg6) = m ((c.tc : Thread Cert.InbIdeal.nD Cert.InbIdeal.τ).loc Cert.InbIdeal.main_arg6)
      ∧ m' ((c.tc : Thread Cert.InbRefIdeal.nD Cert.InbRefIdeal.τ).loc Cert.InbRefIdeal.main_arg7) = m ((c.tc : Thread Cert.InbIdeal.nD Cert.InbIdeal.τ).loc Cert.InbIdeal.main_arg7)
      ∧ m' ((c.tc : Thread Cert.InbRefIdeal.nD Cert.InbRefIdeal.τ).loc Cert.InbRefIdeal.main_arg8) = m ((c.tc : Thread Cert.InbIdeal.nD Cert.InbIdeal.τ).loc Cert.InbIdeal.main_arg8)
      ∧ m' ((c.tc : Thread Cert.InbRefIdeal.nD Cert.InbRefIdeal.τ).loc Cert.InbRefIdeal.main_arg9) = m ((c.tc : Thread Cert.InbIdeal.nD Cert.InbIdeal.τ).loc Cert.InbIdeal.main_arg9)
      ∧ m' ((c.tc : Thread Cert.InbRefIdeal.nD Cert.InbRefIdeal.τ).loc Cert.InbRefIdeal.main_arg10) = m ((c.tc : Thread Cert.InbIdeal.nD Cert.InbIdeal.τ).loc Cert.InbIdeal.main_arg10)
      ∧ m' ((c.tc : Thread Cert.InbRefIdeal.nD Cert.InbRefIdeal.τ).loc Cert.InbRefIdeal.main_arg11) = m ((c.tc : Thread Cert.InbIdeal.nD Cert.InbIdeal.τ).loc Cert.InbIdeal.main_arg11)
      ∧ m' ((c.tc : Thread Cert.InbRefIdeal.nD Cert.InbRefIdeal.τ).loc Cert.InbRefIdeal.main_arg12) = m ((c.tc : Thread Cert.InbIdeal.nD Cert.InbIdeal.τ).loc Cert.InbIdeal.main_arg12)
      ∧ m' ((c.tc : Thread Cert.InbRefIdeal.nD Cert.InbRefIdeal.τ).loc Cert.InbRefIdeal.main_arg13) = m ((c.tc : Thread Cert.InbIdeal.nD Cert.InbIdeal.τ).loc Cert.InbIdeal.main_arg13)) →
    ∃ (v0 : (c : Dev Cert.InbIdeal.nD) → Buf (Elt Ideal) ((c.tc : Thread Cert.InbIdeal.nD Cert.InbIdeal.τ).loc Cert.InbIdeal.main_v8_0)) (v1 : (c : Dev Cert.InbIdeal.nD) → Buf (Elt Ideal) ((c.tc : Thread Cert.InbIdeal.nD Cert.InbIdeal.τ).loc Cert.InbIdeal.main_v8_1)) (v2 : (c : Dev Cert.InbIdeal.nD) → Buf (Elt Ideal) ((c.tc : Thread Cert.InbIdeal.nD Cert.InbIdeal.τ).loc Cert.InbIdeal.main_v8_2)) (v3 : (c : Dev Cert.InbIdeal.nD) → Buf (Elt Ideal) ((c.tc : Thread Cert.InbIdeal.nD Cert.InbIdeal.τ).loc Cert.InbIdeal.main_v8_3)),
      θ_run (Cert.InbIdeal.defs (F := Ideal)) (onTc (τ := Cert.InbIdeal.τ) (Cert.InbIdeal.main (F := Ideal))) ⟨m, fun _ => 0, g⟩ (fun r => ∀ c : Dev Cert.InbIdeal.nD,
          r.2.mem ((c.tc : Thread Cert.InbIdeal.nD Cert.InbIdeal.τ).loc Cert.InbIdeal.main_v8_0) = v0 c
          ∧ r.2.mem ((c.tc : Thread Cert.InbIdeal.nD Cert.InbIdeal.τ).loc Cert.InbIdeal.main_v8_1) = v1 c
          ∧ r.2.mem ((c.tc : Thread Cert.InbIdeal.nD Cert.InbIdeal.τ).loc Cert.InbIdeal.main_v8_2) = v2 c
          ∧ r.2.mem ((c.tc : Thread Cert.InbIdeal.nD Cert.InbIdeal.τ).loc Cert.InbIdeal.main_v8_3) = v3 c
          ∧ r.2.mem ((c.tc : Thread Cert.InbIdeal.nD Cert.InbIdeal.τ).loc Cert.InbIdeal.main_arg0) = m ((c.tc : Thread Cert.InbIdeal.nD Cert.InbIdeal.τ).loc Cert.InbIdeal.main_arg0)
          ∧ r.2.mem ((c.tc : Thread Cert.InbIdeal.nD Cert.InbIdeal.τ).loc Cert.InbIdeal.main_arg1) = m ((c.tc : Thread Cert.InbIdeal.nD Cert.InbIdeal.τ).loc Cert.InbIdeal.main_arg1)
          ∧ r.2.mem ((c.tc : Thread Cert.InbIdeal.nD Cert.InbIdeal.τ).loc Cert.InbIdeal.main_arg2) = m ((c.tc : Thread Cert.InbIdeal.nD Cert.InbIdeal.τ).loc Cert.InbIdeal.main_arg2)
          ∧ r.2.mem ((c.tc : Thread Cert.InbIdeal.nD Cert.InbIdeal.τ).loc Cert.InbIdeal.main_arg3) = m ((c.tc : Thread Cert.InbIdeal.nD Cert.InbIdeal.τ).loc Cert.InbIdeal.main_arg3)
          ∧ r.2.mem ((c.tc : Thread Cert.InbIdeal.nD Cert.InbIdeal.τ).loc Cert.InbIdeal.main_arg4) = m ((c.tc : Thread Cert.InbIdeal.nD Cert.InbIdeal.τ).loc Cert.InbIdeal.main_arg4)
          ∧ r.2.mem ((c.tc : Thread Cert.InbIdeal.nD Cert.InbIdeal.τ).loc Cert.InbIdeal.main_arg5) = m ((c.tc : Thread Cert.InbIdeal.nD Cert.InbIdeal.τ).loc Cert.InbIdeal.main_arg5)
          ∧ r.2.mem ((c.tc : Thread Cert.InbIdeal.nD Cert.InbIdeal.τ).loc Cert.InbIdeal.main_arg6) = m ((c.tc : Thread Cert.InbIdeal.nD Cert.InbIdeal.τ).loc Cert.InbIdeal.main_arg6)
          ∧ r.2.mem ((c.tc : Thread Cert.InbIdeal.nD Cert.InbIdeal.τ).loc Cert.InbIdeal.main_arg7) = m ((c.tc : Thread Cert.InbIdeal.nD Cert.InbIdeal.τ).loc Cert.InbIdeal.main_arg7)
          ∧ r.2.mem ((c.tc : Thread Cert.InbIdeal.nD Cert.InbIdeal.τ).loc Cert.InbIdeal.main_arg8) = m ((c.tc : Thread Cert.InbIdeal.nD Cert.InbIdeal.τ).loc Cert.InbIdeal.main_arg8)
          ∧ r.2.mem ((c.tc : Thread Cert.InbIdeal.nD Cert.InbIdeal.τ).loc Cert.InbIdeal.main_arg9) = m ((c.tc : Thread Cert.InbIdeal.nD Cert.InbIdeal.τ).loc Cert.InbIdeal.main_arg9)
          ∧ r.2.mem ((c.tc : Thread Cert.InbIdeal.nD Cert.InbIdeal.τ).loc Cert.InbIdeal.main_arg10) = m ((c.tc : Thread Cert.InbIdeal.nD Cert.InbIdeal.τ).loc Cert.InbIdeal.main_arg10)
          ∧ r.2.mem ((c.tc : Thread Cert.InbIdeal.nD Cert.InbIdeal.τ).loc Cert.InbIdeal.main_arg11) = m ((c.tc : Thread Cert.InbIdeal.nD Cert.InbIdeal.τ).loc Cert.InbIdeal.main_arg11)
          ∧ r.2.mem ((c.tc : Thread Cert.InbIdeal.nD Cert.InbIdeal.τ).loc Cert.InbIdeal.main_arg12) = m ((c.tc : Thread Cert.InbIdeal.nD Cert.InbIdeal.τ).loc Cert.InbIdeal.main_arg12)
          ∧ r.2.mem ((c.tc : Thread Cert.InbIdeal.nD Cert.InbIdeal.τ).loc Cert.InbIdeal.main_arg13) = m ((c.tc : Thread Cert.InbIdeal.nD Cert.InbIdeal.τ).loc Cert.InbIdeal.main_arg13))
      ∧ θ_run (Cert.InbRefIdeal.defs (F := Ideal)) (onTc (τ := Cert.InbRefIdeal.τ) (Cert.InbRefIdeal.main (F := Ideal))) ⟨m', fun _ => 0, g'⟩ (fun r => ∀ c : Dev Cert.InbRefIdeal.nD,
          r.2.mem ((c.tc : Thread Cert.InbRefIdeal.nD Cert.InbRefIdeal.τ).loc Cert.InbRefIdeal.main_v112) = v0 c
          ∧ r.2.mem ((c.tc : Thread Cert.InbRefIdeal.nD Cert.InbRefIdeal.τ).loc Cert.InbRefIdeal.main_v154) = v1 c
          ∧ r.2.mem ((c.tc : Thread Cert.InbRefIdeal.nD Cert.InbRefIdeal.τ).loc Cert.InbRefIdeal.main_v149) = v2 c
          ∧ r.2.mem ((c.tc : Thread Cert.InbRefIdeal.nD Cert.InbRefIdeal.τ).loc Cert.InbRefIdeal.main_v153) = v3 c
          ∧ r.2.mem ((c.tc : Thread Cert.InbRefIdeal.nD Cert.InbRefIdeal.τ).loc Cert.InbRefIdeal.main_arg0) = m' ((c.tc : Thread Cert.InbRefIdeal.nD Cert.InbRefIdeal.τ).loc Cert.InbRefIdeal.main_arg0)
          ∧ r.2.mem ((c.tc : Thread Cert.InbRefIdeal.nD Cert.InbRefIdeal.τ).loc Cert.InbRefIdeal.main_arg1) = m' ((c.tc : Thread Cert.InbRefIdeal.nD Cert.InbRefIdeal.τ).loc Cert.InbRefIdeal.main_arg1)
          ∧ r.2.mem ((c.tc : Thread Cert.InbRefIdeal.nD Cert.InbRefIdeal.τ).loc Cert.InbRefIdeal.main_arg2) = m' ((c.tc : Thread Cert.InbRefIdeal.nD Cert.InbRefIdeal.τ).loc Cert.InbRefIdeal.main_arg2)
          ∧ r.2.mem ((c.tc : Thread Cert.InbRefIdeal.nD Cert.InbRefIdeal.τ).loc Cert.InbRefIdeal.main_arg3) = m' ((c.tc : Thread Cert.InbRefIdeal.nD Cert.InbRefIdeal.τ).loc Cert.InbRefIdeal.main_arg3)
          ∧ r.2.mem ((c.tc : Thread Cert.InbRefIdeal.nD Cert.InbRefIdeal.τ).loc Cert.InbRefIdeal.main_arg4) = m' ((c.tc : Thread Cert.InbRefIdeal.nD Cert.InbRefIdeal.τ).loc Cert.InbRefIdeal.main_arg4)
          ∧ r.2.mem ((c.tc : Thread Cert.InbRefIdeal.nD Cert.InbRefIdeal.τ).loc Cert.InbRefIdeal.main_arg5) = m' ((c.tc : Thread Cert.InbRefIdeal.nD Cert.InbRefIdeal.τ).loc Cert.InbRefIdeal.main_arg5)
          ∧ r.2.mem ((c.tc : Thread Cert.InbRefIdeal.nD Cert.InbRefIdeal.τ).loc Cert.InbRefIdeal.main_arg6) = m' ((c.tc : Thread Cert.InbRefIdeal.nD Cert.InbRefIdeal.τ).loc Cert.InbRefIdeal.main_arg6)
          ∧ r.2.mem ((c.tc : Thread Cert.InbRefIdeal.nD Cert.InbRefIdeal.τ).loc Cert.InbRefIdeal.main_arg7) = m' ((c.tc : Thread Cert.InbRefIdeal.nD Cert.InbRefIdeal.τ).loc Cert.InbRefIdeal.main_arg7)
          ∧ r.2.mem ((c.tc : Thread Cert.InbRefIdeal.nD Cert.InbRefIdeal.τ).loc Cert.InbRefIdeal.main_arg8) = m' ((c.tc : Thread Cert.InbRefIdeal.nD Cert.InbRefIdeal.τ).loc Cert.InbRefIdeal.main_arg8)
          ∧ r.2.mem ((c.tc : Thread Cert.InbRefIdeal.nD Cert.InbRefIdeal.τ).loc Cert.InbRefIdeal.main_arg9) = m' ((c.tc : Thread Cert.InbRefIdeal.nD Cert.InbRefIdeal.τ).loc Cert.InbRefIdeal.main_arg9)
          ∧ r.2.mem ((c.tc : Thread Cert.InbRefIdeal.nD Cert.InbRefIdeal.τ).loc Cert.InbRefIdeal.main_arg10) = m' ((c.tc : Thread Cert.InbRefIdeal.nD Cert.InbRefIdeal.τ).loc Cert.InbRefIdeal.main_arg10)
          ∧ r.2.mem ((c.tc : Thread Cert.InbRefIdeal.nD Cert.InbRefIdeal.τ).loc Cert.InbRefIdeal.main_arg11) = m' ((c.tc : Thread Cert.InbRefIdeal.nD Cert.InbRefIdeal.τ).loc Cert.InbRefIdeal.main_arg11)
          ∧ r.2.mem ((c.tc : Thread Cert.InbRefIdeal.nD Cert.InbRefIdeal.τ).loc Cert.InbRefIdeal.main_arg12) = m' ((c.tc : Thread Cert.InbRefIdeal.nD Cert.InbRefIdeal.τ).loc Cert.InbRefIdeal.main_arg12)
          ∧ r.2.mem ((c.tc : Thread Cert.InbRefIdeal.nD Cert.InbRefIdeal.τ).loc Cert.InbRefIdeal.main_arg13) = m' ((c.tc : Thread Cert.InbRefIdeal.nD Cert.InbRefIdeal.τ).loc Cert.InbRefIdeal.main_arg13))

def preserves_Mixb_MixbIdeal : Prop :=
  IdealRules.named_const.Statement Cert.MixbIdeal.κ "gelu" .f32 0x3D372713#32 ((8943 / 200000 : ℝ) : EReal)
  ∧ IdealRules.named_const.Statement Cert.MixbIdeal.κ "three_gelu" .f32 0x3E095D4F#32 ((26829 / 200000 : ℝ) : EReal)

def algebraic_MixbIdeal_MixbRefIdeal_pre_mix_finite [hMixbIdeal : Cert.MixbIdeal.Facts] [hMixbRefIdeal : Cert.MixbRefIdeal.Facts] [hPre_mix_finite : Cert.Pre_mix_finite.Facts] : Prop :=
  ∀ (m : (ℓ : Loc Cert.MixbIdeal.nD Cert.MixbIdeal.τ Cert.MixbIdeal.sig) → Buf (Elt Ideal) ℓ) (g : Dev Cert.MixbIdeal.nD → PrngReg)
    (m' : (ℓ : Loc Cert.MixbRefIdeal.nD Cert.MixbRefIdeal.τ Cert.MixbRefIdeal.sig) → Buf (Elt Ideal) ℓ) (g' : Dev Cert.MixbRefIdeal.nD → PrngReg), Pre_MixbIdeal_mix_finite m →
    (∀ c : Dev Cert.MixbIdeal.nD,
      m' ((c.tc : Thread Cert.MixbRefIdeal.nD Cert.MixbRefIdeal.τ).loc Cert.MixbRefIdeal.main_arg0) = m ((c.tc : Thread Cert.MixbIdeal.nD Cert.MixbIdeal.τ).loc Cert.MixbIdeal.main_arg0)
      ∧ m' ((c.tc : Thread Cert.MixbRefIdeal.nD Cert.MixbRefIdeal.τ).loc Cert.MixbRefIdeal.main_arg1) = m ((c.tc : Thread Cert.MixbIdeal.nD Cert.MixbIdeal.τ).loc Cert.MixbIdeal.main_arg1)
      ∧ m' ((c.tc : Thread Cert.MixbRefIdeal.nD Cert.MixbRefIdeal.τ).loc Cert.MixbRefIdeal.main_arg2) = m ((c.tc : Thread Cert.MixbIdeal.nD Cert.MixbIdeal.τ).loc Cert.MixbIdeal.main_arg2)
      ∧ m' ((c.tc : Thread Cert.MixbRefIdeal.nD Cert.MixbRefIdeal.τ).loc Cert.MixbRefIdeal.main_arg3) = m ((c.tc : Thread Cert.MixbIdeal.nD Cert.MixbIdeal.τ).loc Cert.MixbIdeal.main_arg3)
      ∧ m' ((c.tc : Thread Cert.MixbRefIdeal.nD Cert.MixbRefIdeal.τ).loc Cert.MixbRefIdeal.main_arg4) = m ((c.tc : Thread Cert.MixbIdeal.nD Cert.MixbIdeal.τ).loc Cert.MixbIdeal.main_arg4)
      ∧ m' ((c.tc : Thread Cert.MixbRefIdeal.nD Cert.MixbRefIdeal.τ).loc Cert.MixbRefIdeal.main_arg5) = m ((c.tc : Thread Cert.MixbIdeal.nD Cert.MixbIdeal.τ).loc Cert.MixbIdeal.main_arg5)
      ∧ m' ((c.tc : Thread Cert.MixbRefIdeal.nD Cert.MixbRefIdeal.τ).loc Cert.MixbRefIdeal.main_arg6) = m ((c.tc : Thread Cert.MixbIdeal.nD Cert.MixbIdeal.τ).loc Cert.MixbIdeal.main_arg6)
      ∧ m' ((c.tc : Thread Cert.MixbRefIdeal.nD Cert.MixbRefIdeal.τ).loc Cert.MixbRefIdeal.main_arg7) = m ((c.tc : Thread Cert.MixbIdeal.nD Cert.MixbIdeal.τ).loc Cert.MixbIdeal.main_arg7)
      ∧ m' ((c.tc : Thread Cert.MixbRefIdeal.nD Cert.MixbRefIdeal.τ).loc Cert.MixbRefIdeal.main_arg8) = m ((c.tc : Thread Cert.MixbIdeal.nD Cert.MixbIdeal.τ).loc Cert.MixbIdeal.main_arg8)
      ∧ m' ((c.tc : Thread Cert.MixbRefIdeal.nD Cert.MixbRefIdeal.τ).loc Cert.MixbRefIdeal.main_arg9) = m ((c.tc : Thread Cert.MixbIdeal.nD Cert.MixbIdeal.τ).loc Cert.MixbIdeal.main_arg9)
      ∧ m' ((c.tc : Thread Cert.MixbRefIdeal.nD Cert.MixbRefIdeal.τ).loc Cert.MixbRefIdeal.main_arg10) = m ((c.tc : Thread Cert.MixbIdeal.nD Cert.MixbIdeal.τ).loc Cert.MixbIdeal.main_arg10)
      ∧ m' ((c.tc : Thread Cert.MixbRefIdeal.nD Cert.MixbRefIdeal.τ).loc Cert.MixbRefIdeal.main_arg11) = m ((c.tc : Thread Cert.MixbIdeal.nD Cert.MixbIdeal.τ).loc Cert.MixbIdeal.main_arg11)
      ∧ m' ((c.tc : Thread Cert.MixbRefIdeal.nD Cert.MixbRefIdeal.τ).loc Cert.MixbRefIdeal.main_arg12) = m ((c.tc : Thread Cert.MixbIdeal.nD Cert.MixbIdeal.τ).loc Cert.MixbIdeal.main_arg12)) →
    ∃ (v0 : (c : Dev Cert.MixbIdeal.nD) → Buf (Elt Ideal) ((c.tc : Thread Cert.MixbIdeal.nD Cert.MixbIdeal.τ).loc Cert.MixbIdeal.main_v18_0)) (v1 : (c : Dev Cert.MixbIdeal.nD) → Buf (Elt Ideal) ((c.tc : Thread Cert.MixbIdeal.nD Cert.MixbIdeal.τ).loc Cert.MixbIdeal.main_v18_1)) (v2 : (c : Dev Cert.MixbIdeal.nD) → Buf (Elt Ideal) ((c.tc : Thread Cert.MixbIdeal.nD Cert.MixbIdeal.τ).loc Cert.MixbIdeal.main_v18_2)) (v3 : (c : Dev Cert.MixbIdeal.nD) → Buf (Elt Ideal) ((c.tc : Thread Cert.MixbIdeal.nD Cert.MixbIdeal.τ).loc Cert.MixbIdeal.main_v18_3)) (v4 : (c : Dev Cert.MixbIdeal.nD) → Buf (Elt Ideal) ((c.tc : Thread Cert.MixbIdeal.nD Cert.MixbIdeal.τ).loc Cert.MixbIdeal.main_v18_4)) (v5 : (c : Dev Cert.MixbIdeal.nD) → Buf (Elt Ideal) ((c.tc : Thread Cert.MixbIdeal.nD Cert.MixbIdeal.τ).loc Cert.MixbIdeal.main_v18_5)) (v6 : (c : Dev Cert.MixbIdeal.nD) → Buf (Elt Ideal) ((c.tc : Thread Cert.MixbIdeal.nD Cert.MixbIdeal.τ).loc Cert.MixbIdeal.main_v18_6)) (v7 : (c : Dev Cert.MixbIdeal.nD) → Buf (Elt Ideal) ((c.tc : Thread Cert.MixbIdeal.nD Cert.MixbIdeal.τ).loc Cert.MixbIdeal.main_v18_7)) (v8 : (c : Dev Cert.MixbIdeal.nD) → Buf (Elt Ideal) ((c.tc : Thread Cert.MixbIdeal.nD Cert.MixbIdeal.τ).loc Cert.MixbIdeal.main_v18_8)) (v9 : (c : Dev Cert.MixbIdeal.nD) → Buf (Elt Ideal) ((c.tc : Thread Cert.MixbIdeal.nD Cert.MixbIdeal.τ).loc Cert.MixbIdeal.main_v18_9)) (v10 : (c : Dev Cert.MixbIdeal.nD) → Buf (Elt Ideal) ((c.tc : Thread Cert.MixbIdeal.nD Cert.MixbIdeal.τ).loc Cert.MixbIdeal.main_v18_10)),
      θ_run (Cert.MixbIdeal.defs (F := Ideal)) (onTc (τ := Cert.MixbIdeal.τ) (Cert.MixbIdeal.main (F := Ideal))) ⟨m, fun _ => 0, g⟩ (fun r => ∀ c : Dev Cert.MixbIdeal.nD,
          r.2.mem ((c.tc : Thread Cert.MixbIdeal.nD Cert.MixbIdeal.τ).loc Cert.MixbIdeal.main_v18_0) = v0 c
          ∧ r.2.mem ((c.tc : Thread Cert.MixbIdeal.nD Cert.MixbIdeal.τ).loc Cert.MixbIdeal.main_v18_1) = v1 c
          ∧ r.2.mem ((c.tc : Thread Cert.MixbIdeal.nD Cert.MixbIdeal.τ).loc Cert.MixbIdeal.main_v18_2) = v2 c
          ∧ r.2.mem ((c.tc : Thread Cert.MixbIdeal.nD Cert.MixbIdeal.τ).loc Cert.MixbIdeal.main_v18_3) = v3 c
          ∧ r.2.mem ((c.tc : Thread Cert.MixbIdeal.nD Cert.MixbIdeal.τ).loc Cert.MixbIdeal.main_v18_4) = v4 c
          ∧ r.2.mem ((c.tc : Thread Cert.MixbIdeal.nD Cert.MixbIdeal.τ).loc Cert.MixbIdeal.main_v18_5) = v5 c
          ∧ r.2.mem ((c.tc : Thread Cert.MixbIdeal.nD Cert.MixbIdeal.τ).loc Cert.MixbIdeal.main_v18_6) = v6 c
          ∧ r.2.mem ((c.tc : Thread Cert.MixbIdeal.nD Cert.MixbIdeal.τ).loc Cert.MixbIdeal.main_v18_7) = v7 c
          ∧ r.2.mem ((c.tc : Thread Cert.MixbIdeal.nD Cert.MixbIdeal.τ).loc Cert.MixbIdeal.main_v18_8) = v8 c
          ∧ r.2.mem ((c.tc : Thread Cert.MixbIdeal.nD Cert.MixbIdeal.τ).loc Cert.MixbIdeal.main_v18_9) = v9 c
          ∧ r.2.mem ((c.tc : Thread Cert.MixbIdeal.nD Cert.MixbIdeal.τ).loc Cert.MixbIdeal.main_v18_10) = v10 c
          ∧ r.2.mem ((c.tc : Thread Cert.MixbIdeal.nD Cert.MixbIdeal.τ).loc Cert.MixbIdeal.main_arg0) = m ((c.tc : Thread Cert.MixbIdeal.nD Cert.MixbIdeal.τ).loc Cert.MixbIdeal.main_arg0)
          ∧ r.2.mem ((c.tc : Thread Cert.MixbIdeal.nD Cert.MixbIdeal.τ).loc Cert.MixbIdeal.main_arg1) = m ((c.tc : Thread Cert.MixbIdeal.nD Cert.MixbIdeal.τ).loc Cert.MixbIdeal.main_arg1)
          ∧ r.2.mem ((c.tc : Thread Cert.MixbIdeal.nD Cert.MixbIdeal.τ).loc Cert.MixbIdeal.main_arg2) = m ((c.tc : Thread Cert.MixbIdeal.nD Cert.MixbIdeal.τ).loc Cert.MixbIdeal.main_arg2)
          ∧ r.2.mem ((c.tc : Thread Cert.MixbIdeal.nD Cert.MixbIdeal.τ).loc Cert.MixbIdeal.main_arg3) = m ((c.tc : Thread Cert.MixbIdeal.nD Cert.MixbIdeal.τ).loc Cert.MixbIdeal.main_arg3)
          ∧ r.2.mem ((c.tc : Thread Cert.MixbIdeal.nD Cert.MixbIdeal.τ).loc Cert.MixbIdeal.main_arg4) = m ((c.tc : Thread Cert.MixbIdeal.nD Cert.MixbIdeal.τ).loc Cert.MixbIdeal.main_arg4)
          ∧ r.2.mem ((c.tc : Thread Cert.MixbIdeal.nD Cert.MixbIdeal.τ).loc Cert.MixbIdeal.main_arg5) = m ((c.tc : Thread Cert.MixbIdeal.nD Cert.MixbIdeal.τ).loc Cert.MixbIdeal.main_arg5)
          ∧ r.2.mem ((c.tc : Thread Cert.MixbIdeal.nD Cert.MixbIdeal.τ).loc Cert.MixbIdeal.main_arg6) = m ((c.tc : Thread Cert.MixbIdeal.nD Cert.MixbIdeal.τ).loc Cert.MixbIdeal.main_arg6)
          ∧ r.2.mem ((c.tc : Thread Cert.MixbIdeal.nD Cert.MixbIdeal.τ).loc Cert.MixbIdeal.main_arg7) = m ((c.tc : Thread Cert.MixbIdeal.nD Cert.MixbIdeal.τ).loc Cert.MixbIdeal.main_arg7)
          ∧ r.2.mem ((c.tc : Thread Cert.MixbIdeal.nD Cert.MixbIdeal.τ).loc Cert.MixbIdeal.main_arg8) = m ((c.tc : Thread Cert.MixbIdeal.nD Cert.MixbIdeal.τ).loc Cert.MixbIdeal.main_arg8)
          ∧ r.2.mem ((c.tc : Thread Cert.MixbIdeal.nD Cert.MixbIdeal.τ).loc Cert.MixbIdeal.main_arg9) = m ((c.tc : Thread Cert.MixbIdeal.nD Cert.MixbIdeal.τ).loc Cert.MixbIdeal.main_arg9)
          ∧ r.2.mem ((c.tc : Thread Cert.MixbIdeal.nD Cert.MixbIdeal.τ).loc Cert.MixbIdeal.main_arg10) = m ((c.tc : Thread Cert.MixbIdeal.nD Cert.MixbIdeal.τ).loc Cert.MixbIdeal.main_arg10)
          ∧ r.2.mem ((c.tc : Thread Cert.MixbIdeal.nD Cert.MixbIdeal.τ).loc Cert.MixbIdeal.main_arg11) = m ((c.tc : Thread Cert.MixbIdeal.nD Cert.MixbIdeal.τ).loc Cert.MixbIdeal.main_arg11)
          ∧ r.2.mem ((c.tc : Thread Cert.MixbIdeal.nD Cert.MixbIdeal.τ).loc Cert.MixbIdeal.main_arg12) = m ((c.tc : Thread Cert.MixbIdeal.nD Cert.MixbIdeal.τ).loc Cert.MixbIdeal.main_arg12))
      ∧ θ_run (Cert.MixbRefIdeal.defs (F := Ideal)) (onTc (τ := Cert.MixbRefIdeal.τ) (Cert.MixbRefIdeal.main (F := Ideal))) ⟨m', fun _ => 0, g'⟩ (fun r => ∀ c : Dev Cert.MixbRefIdeal.nD,
          r.2.mem ((c.tc : Thread Cert.MixbRefIdeal.nD Cert.MixbRefIdeal.τ).loc Cert.MixbRefIdeal.main_v283) = v0 c
          ∧ r.2.mem ((c.tc : Thread Cert.MixbRefIdeal.nD Cert.MixbRefIdeal.τ).loc Cert.MixbRefIdeal.main_v285) = v1 c
          ∧ r.2.mem ((c.tc : Thread Cert.MixbRefIdeal.nD Cert.MixbRefIdeal.τ).loc Cert.MixbRefIdeal.main_v288) = v2 c
          ∧ r.2.mem ((c.tc : Thread Cert.MixbRefIdeal.nD Cert.MixbRefIdeal.τ).loc Cert.MixbRefIdeal.main_v291) = v3 c
          ∧ r.2.mem ((c.tc : Thread Cert.MixbRefIdeal.nD Cert.MixbRefIdeal.τ).loc Cert.MixbRefIdeal.main_v292) = v4 c
          ∧ r.2.mem ((c.tc : Thread Cert.MixbRefIdeal.nD Cert.MixbRefIdeal.τ).loc Cert.MixbRefIdeal.main_v278) = v5 c
          ∧ r.2.mem ((c.tc : Thread Cert.MixbRefIdeal.nD Cert.MixbRefIdeal.τ).loc Cert.MixbRefIdeal.main_v225) = v6 c
          ∧ r.2.mem ((c.tc : Thread Cert.MixbRefIdeal.nD Cert.MixbRefIdeal.τ).loc Cert.MixbRefIdeal.main_v224) = v7 c
          ∧ r.2.mem ((c.tc : Thread Cert.MixbRefIdeal.nD Cert.MixbRefIdeal.τ).loc Cert.MixbRefIdeal.main_v293) = v8 c
          ∧ r.2.mem ((c.tc : Thread Cert.MixbRefIdeal.nD Cert.MixbRefIdeal.τ).loc Cert.MixbRefIdeal.main_v295) = v9 c
          ∧ r.2.mem ((c.tc : Thread Cert.MixbRefIdeal.nD Cert.MixbRefIdeal.τ).loc Cert.MixbRefIdeal.main_v282) = v10 c
          ∧ r.2.mem ((c.tc : Thread Cert.MixbRefIdeal.nD Cert.MixbRefIdeal.τ).loc Cert.MixbRefIdeal.main_arg0) = m' ((c.tc : Thread Cert.MixbRefIdeal.nD Cert.MixbRefIdeal.τ).loc Cert.MixbRefIdeal.main_arg0)
          ∧ r.2.mem ((c.tc : Thread Cert.MixbRefIdeal.nD Cert.MixbRefIdeal.τ).loc Cert.MixbRefIdeal.main_arg1) = m' ((c.tc : Thread Cert.MixbRefIdeal.nD Cert.MixbRefIdeal.τ).loc Cert.MixbRefIdeal.main_arg1)
          ∧ r.2.mem ((c.tc : Thread Cert.MixbRefIdeal.nD Cert.MixbRefIdeal.τ).loc Cert.MixbRefIdeal.main_arg2) = m' ((c.tc : Thread Cert.MixbRefIdeal.nD Cert.MixbRefIdeal.τ).loc Cert.MixbRefIdeal.main_arg2)
          ∧ r.2.mem ((c.tc : Thread Cert.MixbRefIdeal.nD Cert.MixbRefIdeal.τ).loc Cert.MixbRefIdeal.main_arg3) = m' ((c.tc : Thread Cert.MixbRefIdeal.nD Cert.MixbRefIdeal.τ).loc Cert.MixbRefIdeal.main_arg3)
          ∧ r.2.mem ((c.tc : Thread Cert.MixbRefIdeal.nD Cert.MixbRefIdeal.τ).loc Cert.MixbRefIdeal.main_arg4) = m' ((c.tc : Thread Cert.MixbRefIdeal.nD Cert.MixbRefIdeal.τ).loc Cert.MixbRefIdeal.main_arg4)
          ∧ r.2.mem ((c.tc : Thread Cert.MixbRefIdeal.nD Cert.MixbRefIdeal.τ).loc Cert.MixbRefIdeal.main_arg5) = m' ((c.tc : Thread Cert.MixbRefIdeal.nD Cert.MixbRefIdeal.τ).loc Cert.MixbRefIdeal.main_arg5)
          ∧ r.2.mem ((c.tc : Thread Cert.MixbRefIdeal.nD Cert.MixbRefIdeal.τ).loc Cert.MixbRefIdeal.main_arg6) = m' ((c.tc : Thread Cert.MixbRefIdeal.nD Cert.MixbRefIdeal.τ).loc Cert.MixbRefIdeal.main_arg6)
          ∧ r.2.mem ((c.tc : Thread Cert.MixbRefIdeal.nD Cert.MixbRefIdeal.τ).loc Cert.MixbRefIdeal.main_arg7) = m' ((c.tc : Thread Cert.MixbRefIdeal.nD Cert.MixbRefIdeal.τ).loc Cert.MixbRefIdeal.main_arg7)
          ∧ r.2.mem ((c.tc : Thread Cert.MixbRefIdeal.nD Cert.MixbRefIdeal.τ).loc Cert.MixbRefIdeal.main_arg8) = m' ((c.tc : Thread Cert.MixbRefIdeal.nD Cert.MixbRefIdeal.τ).loc Cert.MixbRefIdeal.main_arg8)
          ∧ r.2.mem ((c.tc : Thread Cert.MixbRefIdeal.nD Cert.MixbRefIdeal.τ).loc Cert.MixbRefIdeal.main_arg9) = m' ((c.tc : Thread Cert.MixbRefIdeal.nD Cert.MixbRefIdeal.τ).loc Cert.MixbRefIdeal.main_arg9)
          ∧ r.2.mem ((c.tc : Thread Cert.MixbRefIdeal.nD Cert.MixbRefIdeal.τ).loc Cert.MixbRefIdeal.main_arg10) = m' ((c.tc : Thread Cert.MixbRefIdeal.nD Cert.MixbRefIdeal.τ).loc Cert.MixbRefIdeal.main_arg10)
          ∧ r.2.mem ((c.tc : Thread Cert.MixbRefIdeal.nD Cert.MixbRefIdeal.τ).loc Cert.MixbRefIdeal.main_arg11) = m' ((c.tc : Thread Cert.MixbRefIdeal.nD Cert.MixbRefIdeal.τ).loc Cert.MixbRefIdeal.main_arg11)
          ∧ r.2.mem ((c.tc : Thread Cert.MixbRefIdeal.nD Cert.MixbRefIdeal.τ).loc Cert.MixbRefIdeal.main_arg12) = m' ((c.tc : Thread Cert.MixbRefIdeal.nD Cert.MixbRefIdeal.τ).loc Cert.MixbRefIdeal.main_arg12))

def preserves_Red_RedIdeal : Prop :=
  True

def algebraic_RedIdeal_RedRefIdeal_pre_red_finite [hRedIdeal : Cert.RedIdeal.Facts] [hRedRefIdeal : Cert.RedRefIdeal.Facts] [hPre_red_finite : Cert.Pre_red_finite.Facts] : Prop :=
  ∀ (m : (ℓ : Loc Cert.RedIdeal.nD Cert.RedIdeal.τ Cert.RedIdeal.sig) → Buf (Elt Ideal) ℓ) (g : Dev Cert.RedIdeal.nD → PrngReg)
    (m' : (ℓ : Loc Cert.RedRefIdeal.nD Cert.RedRefIdeal.τ Cert.RedRefIdeal.sig) → Buf (Elt Ideal) ℓ) (g' : Dev Cert.RedRefIdeal.nD → PrngReg), Pre_RedIdeal_red_finite m →
    (∀ c : Dev Cert.RedIdeal.nD,
      m' ((c.tc : Thread Cert.RedRefIdeal.nD Cert.RedRefIdeal.τ).loc Cert.RedRefIdeal.main_arg0) = m ((c.tc : Thread Cert.RedIdeal.nD Cert.RedIdeal.τ).loc Cert.RedIdeal.main_arg0)
      ∧ m' ((c.tc : Thread Cert.RedRefIdeal.nD Cert.RedRefIdeal.τ).loc Cert.RedRefIdeal.main_arg1) = m ((c.tc : Thread Cert.RedIdeal.nD Cert.RedIdeal.τ).loc Cert.RedIdeal.main_arg1)) →
    ∃ (v0 : (c : Dev Cert.RedIdeal.nD) → Buf (Elt Ideal) ((c.tc : Thread Cert.RedIdeal.nD Cert.RedIdeal.τ).loc Cert.RedIdeal.main_v0_0)) (v1 : (c : Dev Cert.RedIdeal.nD) → Buf (Elt Ideal) ((c.tc : Thread Cert.RedIdeal.nD Cert.RedIdeal.τ).loc Cert.RedIdeal.main_v0_1)),
      θ_run (Cert.RedIdeal.defs (F := Ideal)) (onTc (τ := Cert.RedIdeal.τ) (Cert.RedIdeal.main (F := Ideal))) ⟨m, fun _ => 0, g⟩ (fun r => ∀ c : Dev Cert.RedIdeal.nD,
          r.2.mem ((c.tc : Thread Cert.RedIdeal.nD Cert.RedIdeal.τ).loc Cert.RedIdeal.main_v0_0) = v0 c
          ∧ r.2.mem ((c.tc : Thread Cert.RedIdeal.nD Cert.RedIdeal.τ).loc Cert.RedIdeal.main_v0_1) = v1 c
          ∧ r.2.mem ((c.tc : Thread Cert.RedIdeal.nD Cert.RedIdeal.τ).loc Cert.RedIdeal.main_arg0) = m ((c.tc : Thread Cert.RedIdeal.nD Cert.RedIdeal.τ).loc Cert.RedIdeal.main_arg0)
          ∧ r.2.mem ((c.tc : Thread Cert.RedIdeal.nD Cert.RedIdeal.τ).loc Cert.RedIdeal.main_arg1) = m ((c.tc : Thread Cert.RedIdeal.nD Cert.RedIdeal.τ).loc Cert.RedIdeal.main_arg1))
      ∧ θ_run (Cert.RedRefIdeal.defs (F := Ideal)) (onTc (τ := Cert.RedRefIdeal.τ) (Cert.RedRefIdeal.main (F := Ideal))) ⟨m', fun _ => 0, g'⟩ (fun r => ∀ c : Dev Cert.RedRefIdeal.nD,
          r.2.mem ((c.tc : Thread Cert.RedRefIdeal.nD Cert.RedRefIdeal.τ).loc Cert.RedRefIdeal.main_v6) = v0 c
          ∧ r.2.mem ((c.tc : Thread Cert.RedRefIdeal.nD Cert.RedRefIdeal.τ).loc Cert.RedRefIdeal.main_v57) = v1 c
          ∧ r.2.mem ((c.tc : Thread Cert.RedRefIdeal.nD Cert.RedRefIdeal.τ).loc Cert.RedRefIdeal.main_arg0) = m' ((c.tc : Thread Cert.RedRefIdeal.nD Cert.RedRefIdeal.τ).loc Cert.RedRefIdeal.main_arg0)
          ∧ r.2.mem ((c.tc : Thread Cert.RedRefIdeal.nD Cert.RedRefIdeal.τ).loc Cert.RedRefIdeal.main_arg1) = m' ((c.tc : Thread Cert.RedRefIdeal.nD Cert.RedRefIdeal.τ).loc Cert.RedRefIdeal.main_arg1))

def preserves_Mixf_MixfIdeal : Prop :=
  IdealRules.named_const.Statement Cert.MixfIdeal.κ "gelu" .f32 0x3D372713#32 ((8943 / 200000 : ℝ) : EReal)

def algebraic_MixfIdeal_MixfRefIdeal_pre_mixf_finite [hMixfIdeal : Cert.MixfIdeal.Facts] [hMixfRefIdeal : Cert.MixfRefIdeal.Facts] [hPre_mixf_finite : Cert.Pre_mixf_finite.Facts] : Prop :=
  ∀ (m : (ℓ : Loc Cert.MixfIdeal.nD Cert.MixfIdeal.τ Cert.MixfIdeal.sig) → Buf (Elt Ideal) ℓ) (g : Dev Cert.MixfIdeal.nD → PrngReg)
    (m' : (ℓ : Loc Cert.MixfRefIdeal.nD Cert.MixfRefIdeal.τ Cert.MixfRefIdeal.sig) → Buf (Elt Ideal) ℓ) (g' : Dev Cert.MixfRefIdeal.nD → PrngReg), Pre_MixfIdeal_mixf_finite m →
    (∀ c : Dev Cert.MixfIdeal.nD,
      m' ((c.tc : Thread Cert.MixfRefIdeal.nD Cert.MixfRefIdeal.τ).loc Cert.MixfRefIdeal.main_arg0) = m ((c.tc : Thread Cert.MixfIdeal.nD Cert.MixfIdeal.τ).loc Cert.MixfIdeal.main_arg0)
      ∧ m' ((c.tc : Thread Cert.MixfRefIdeal.nD Cert.MixfRefIdeal.τ).loc Cert.MixfRefIdeal.main_arg1) = m ((c.tc : Thread Cert.MixfIdeal.nD Cert.MixfIdeal.τ).loc Cert.MixfIdeal.main_arg1)
      ∧ m' ((c.tc : Thread Cert.MixfRefIdeal.nD Cert.MixfRefIdeal.τ).loc Cert.MixfRefIdeal.main_arg2) = m ((c.tc : Thread Cert.MixfIdeal.nD Cert.MixfIdeal.τ).loc Cert.MixfIdeal.main_arg2)
      ∧ m' ((c.tc : Thread Cert.MixfRefIdeal.nD Cert.MixfRefIdeal.τ).loc Cert.MixfRefIdeal.main_arg3) = m ((c.tc : Thread Cert.MixfIdeal.nD Cert.MixfIdeal.τ).loc Cert.MixfIdeal.main_arg3)
      ∧ m' ((c.tc : Thread Cert.MixfRefIdeal.nD Cert.MixfRefIdeal.τ).loc Cert.MixfRefIdeal.main_arg4) = m ((c.tc : Thread Cert.MixfIdeal.nD Cert.MixfIdeal.τ).loc Cert.MixfIdeal.main_arg4)
      ∧ m' ((c.tc : Thread Cert.MixfRefIdeal.nD Cert.MixfRefIdeal.τ).loc Cert.MixfRefIdeal.main_arg5) = m ((c.tc : Thread Cert.MixfIdeal.nD Cert.MixfIdeal.τ).loc Cert.MixfIdeal.main_arg5)
      ∧ m' ((c.tc : Thread Cert.MixfRefIdeal.nD Cert.MixfRefIdeal.τ).loc Cert.MixfRefIdeal.main_arg6) = m ((c.tc : Thread Cert.MixfIdeal.nD Cert.MixfIdeal.τ).loc Cert.MixfIdeal.main_arg6)
      ∧ m' ((c.tc : Thread Cert.MixfRefIdeal.nD Cert.MixfRefIdeal.τ).loc Cert.MixfRefIdeal.main_arg7) = m ((c.tc : Thread Cert.MixfIdeal.nD Cert.MixfIdeal.τ).loc Cert.MixfIdeal.main_arg7)
      ∧ m' ((c.tc : Thread Cert.MixfRefIdeal.nD Cert.MixfRefIdeal.τ).loc Cert.MixfRefIdeal.main_arg8) = m ((c.tc : Thread Cert.MixfIdeal.nD Cert.MixfIdeal.τ).loc Cert.MixfIdeal.main_arg8)
      ∧ m' ((c.tc : Thread Cert.MixfRefIdeal.nD Cert.MixfRefIdeal.τ).loc Cert.MixfRefIdeal.main_arg9) = m ((c.tc : Thread Cert.MixfIdeal.nD Cert.MixfIdeal.τ).loc Cert.MixfIdeal.main_arg9)
      ∧ m' ((c.tc : Thread Cert.MixfRefIdeal.nD Cert.MixfRefIdeal.τ).loc Cert.MixfRefIdeal.main_arg10) = m ((c.tc : Thread Cert.MixfIdeal.nD Cert.MixfIdeal.τ).loc Cert.MixfIdeal.main_arg10)
      ∧ m' ((c.tc : Thread Cert.MixfRefIdeal.nD Cert.MixfRefIdeal.τ).loc Cert.MixfRefIdeal.main_arg11) = m ((c.tc : Thread Cert.MixfIdeal.nD Cert.MixfIdeal.τ).loc Cert.MixfIdeal.main_arg11)
      ∧ m' ((c.tc : Thread Cert.MixfRefIdeal.nD Cert.MixfRefIdeal.τ).loc Cert.MixfRefIdeal.main_arg12) = m ((c.tc : Thread Cert.MixfIdeal.nD Cert.MixfIdeal.τ).loc Cert.MixfIdeal.main_arg12)) →
    ∃ (v0 : (c : Dev Cert.MixfIdeal.nD) → Buf (Elt Ideal) ((c.tc : Thread Cert.MixfIdeal.nD Cert.MixfIdeal.τ).loc Cert.MixfIdeal.main_v16)),
      θ_run (Cert.MixfIdeal.defs (F := Ideal)) (onTc (τ := Cert.MixfIdeal.τ) (Cert.MixfIdeal.main (F := Ideal))) ⟨m, fun _ => 0, g⟩ (fun r => ∀ c : Dev Cert.MixfIdeal.nD,
          r.2.mem ((c.tc : Thread Cert.MixfIdeal.nD Cert.MixfIdeal.τ).loc Cert.MixfIdeal.main_v16) = v0 c
          ∧ r.2.mem ((c.tc : Thread Cert.MixfIdeal.nD Cert.MixfIdeal.τ).loc Cert.MixfIdeal.main_arg0) = m ((c.tc : Thread Cert.MixfIdeal.nD Cert.MixfIdeal.τ).loc Cert.MixfIdeal.main_arg0)
          ∧ r.2.mem ((c.tc : Thread Cert.MixfIdeal.nD Cert.MixfIdeal.τ).loc Cert.MixfIdeal.main_arg1) = m ((c.tc : Thread Cert.MixfIdeal.nD Cert.MixfIdeal.τ).loc Cert.MixfIdeal.main_arg1)
          ∧ r.2.mem ((c.tc : Thread Cert.MixfIdeal.nD Cert.MixfIdeal.τ).loc Cert.MixfIdeal.main_arg2) = m ((c.tc : Thread Cert.MixfIdeal.nD Cert.MixfIdeal.τ).loc Cert.MixfIdeal.main_arg2)
          ∧ r.2.mem ((c.tc : Thread Cert.MixfIdeal.nD Cert.MixfIdeal.τ).loc Cert.MixfIdeal.main_arg3) = m ((c.tc : Thread Cert.MixfIdeal.nD Cert.MixfIdeal.τ).loc Cert.MixfIdeal.main_arg3)
          ∧ r.2.mem ((c.tc : Thread Cert.MixfIdeal.nD Cert.MixfIdeal.τ).loc Cert.MixfIdeal.main_arg4) = m ((c.tc : Thread Cert.MixfIdeal.nD Cert.MixfIdeal.τ).loc Cert.MixfIdeal.main_arg4)
          ∧ r.2.mem ((c.tc : Thread Cert.MixfIdeal.nD Cert.MixfIdeal.τ).loc Cert.MixfIdeal.main_arg5) = m ((c.tc : Thread Cert.MixfIdeal.nD Cert.MixfIdeal.τ).loc Cert.MixfIdeal.main_arg5)
          ∧ r.2.mem ((c.tc : Thread Cert.MixfIdeal.nD Cert.MixfIdeal.τ).loc Cert.MixfIdeal.main_arg6) = m ((c.tc : Thread Cert.MixfIdeal.nD Cert.MixfIdeal.τ).loc Cert.MixfIdeal.main_arg6)
          ∧ r.2.mem ((c.tc : Thread Cert.MixfIdeal.nD Cert.MixfIdeal.τ).loc Cert.MixfIdeal.main_arg7) = m ((c.tc : Thread Cert.MixfIdeal.nD Cert.MixfIdeal.τ).loc Cert.MixfIdeal.main_arg7)
          ∧ r.2.mem ((c.tc : Thread Cert.MixfIdeal.nD Cert.MixfIdeal.τ).loc Cert.MixfIdeal.main_arg8) = m ((c.tc : Thread Cert.MixfIdeal.nD Cert.MixfIdeal.τ).loc Cert.MixfIdeal.main_arg8)
          ∧ r.2.mem ((c.tc : Thread Cert.MixfIdeal.nD Cert.MixfIdeal.τ).loc Cert.MixfIdeal.main_arg9) = m ((c.tc : Thread Cert.MixfIdeal.nD Cert.MixfIdeal.τ).loc Cert.MixfIdeal.main_arg9)
          ∧ r.2.mem ((c.tc : Thread Cert.MixfIdeal.nD Cert.MixfIdeal.τ).loc Cert.MixfIdeal.main_arg10) = m ((c.tc : Thread Cert.MixfIdeal.nD Cert.MixfIdeal.τ).loc Cert.MixfIdeal.main_arg10)
          ∧ r.2.mem ((c.tc : Thread Cert.MixfIdeal.nD Cert.MixfIdeal.τ).loc Cert.MixfIdeal.main_arg11) = m ((c.tc : Thread Cert.MixfIdeal.nD Cert.MixfIdeal.τ).loc Cert.MixfIdeal.main_arg11)
          ∧ r.2.mem ((c.tc : Thread Cert.MixfIdeal.nD Cert.MixfIdeal.τ).loc Cert.MixfIdeal.main_arg12) = m ((c.tc : Thread Cert.MixfIdeal.nD Cert.MixfIdeal.τ).loc Cert.MixfIdeal.main_arg12))
      ∧ θ_run (Cert.MixfRefIdeal.defs (F := Ideal)) (onTc (τ := Cert.MixfRefIdeal.τ) (Cert.MixfRefIdeal.main (F := Ideal))) ⟨m', fun _ => 0, g'⟩ (fun r => ∀ c : Dev Cert.MixfRefIdeal.nD,
          r.2.mem ((c.tc : Thread Cert.MixfRefIdeal.nD Cert.MixfRefIdeal.τ).loc Cert.MixfRefIdeal.main_v121) = v0 c
          ∧ r.2.mem ((c.tc : Thread Cert.MixfRefIdeal.nD Cert.MixfRefIdeal.τ).loc Cert.MixfRefIdeal.main_arg0) = m' ((c.tc : Thread Cert.MixfRefIdeal.nD Cert.MixfRefIdeal.τ).loc Cert.MixfRefIdeal.main_arg0)
          ∧ r.2.mem ((c.tc : Thread Cert.MixfRefIdeal.nD Cert.MixfRefIdeal.τ).loc Cert.MixfRefIdeal.main_arg1) = m' ((c.tc : Thread Cert.MixfRefIdeal.nD Cert.MixfRefIdeal.τ).loc Cert.MixfRefIdeal.main_arg1)
          ∧ r.2.mem ((c.tc : Thread Cert.MixfRefIdeal.nD Cert.MixfRefIdeal.τ).loc Cert.MixfRefIdeal.main_arg2) = m' ((c.tc : Thread Cert.MixfRefIdeal.nD Cert.MixfRefIdeal.τ).loc Cert.MixfRefIdeal.main_arg2)
          ∧ r.2.mem ((c.tc : Thread Cert.MixfRefIdeal.nD Cert.MixfRefIdeal.τ).loc Cert.MixfRefIdeal.main_arg3) = m' ((c.tc : Thread Cert.MixfRefIdeal.nD Cert.MixfRefIdeal.τ).loc Cert.MixfRefIdeal.main_arg3)
          ∧ r.2.mem ((c.tc : Thread Cert.MixfRefIdeal.nD Cert.MixfRefIdeal.τ).loc Cert.MixfRefIdeal.main_arg4) = m' ((c.tc : Thread Cert.MixfRefIdeal.nD Cert.MixfRefIdeal.τ).loc Cert.MixfRefIdeal.main_arg4)
          ∧ r.2.mem ((c.tc : Thread Cert.MixfRefIdeal.nD Cert.MixfRefIdeal.τ).loc Cert.MixfRefIdeal.main_arg5) = m' ((c.tc : Thread Cert.MixfRefIdeal.nD Cert.MixfRefIdeal.τ).loc Cert.MixfRefIdeal.main_arg5)
          ∧ r.2.mem ((c.tc : Thread Cert.MixfRefIdeal.nD Cert.MixfRefIdeal.τ).loc Cert.MixfRefIdeal.main_arg6) = m' ((c.tc : Thread Cert.MixfRefIdeal.nD Cert.MixfRefIdeal.τ).loc Cert.MixfRefIdeal.main_arg6)
          ∧ r.2.mem ((c.tc : Thread Cert.MixfRefIdeal.nD Cert.MixfRefIdeal.τ).loc Cert.MixfRefIdeal.main_arg7) = m' ((c.tc : Thread Cert.MixfRefIdeal.nD Cert.MixfRefIdeal.τ).loc Cert.MixfRefIdeal.main_arg7)
          ∧ r.2.mem ((c.tc : Thread Cert.MixfRefIdeal.nD Cert.MixfRefIdeal.τ).loc Cert.MixfRefIdeal.main_arg8) = m' ((c.tc : Thread Cert.MixfRefIdeal.nD Cert.MixfRefIdeal.τ).loc Cert.MixfRefIdeal.main_arg8)
          ∧ r.2.mem ((c.tc : Thread Cert.MixfRefIdeal.nD Cert.MixfRefIdeal.τ).loc Cert.MixfRefIdeal.main_arg9) = m' ((c.tc : Thread Cert.MixfRefIdeal.nD Cert.MixfRefIdeal.τ).loc Cert.MixfRefIdeal.main_arg9)
          ∧ r.2.mem ((c.tc : Thread Cert.MixfRefIdeal.nD Cert.MixfRefIdeal.τ).loc Cert.MixfRefIdeal.main_arg10) = m' ((c.tc : Thread Cert.MixfRefIdeal.nD Cert.MixfRefIdeal.τ).loc Cert.MixfRefIdeal.main_arg10)
          ∧ r.2.mem ((c.tc : Thread Cert.MixfRefIdeal.nD Cert.MixfRefIdeal.τ).loc Cert.MixfRefIdeal.main_arg11) = m' ((c.tc : Thread Cert.MixfRefIdeal.nD Cert.MixfRefIdeal.τ).loc Cert.MixfRefIdeal.main_arg11)
          ∧ r.2.mem ((c.tc : Thread Cert.MixfRefIdeal.nD Cert.MixfRefIdeal.τ).loc Cert.MixfRefIdeal.main_arg12) = m' ((c.tc : Thread Cert.MixfRefIdeal.nD Cert.MixfRefIdeal.τ).loc Cert.MixfRefIdeal.main_arg12))

def preserves_Inf_InfIdeal : Prop :=
  True

def algebraic_InfIdeal_InfRefIdeal_pre_inf_finite [hInfIdeal : Cert.InfIdeal.Facts] [hInfRefIdeal : Cert.InfRefIdeal.Facts] [hPre_inf_finite : Cert.Pre_inf_finite.Facts] : Prop :=
  ∀ (m : (ℓ : Loc Cert.InfIdeal.nD Cert.InfIdeal.τ Cert.InfIdeal.sig) → Buf (Elt Ideal) ℓ) (g : Dev Cert.InfIdeal.nD → PrngReg)
    (m' : (ℓ : Loc Cert.InfRefIdeal.nD Cert.InfRefIdeal.τ Cert.InfRefIdeal.sig) → Buf (Elt Ideal) ℓ) (g' : Dev Cert.InfRefIdeal.nD → PrngReg), Pre_InfIdeal_inf_finite m →
    (∀ c : Dev Cert.InfIdeal.nD,
      m' ((c.tc : Thread Cert.InfRefIdeal.nD Cert.InfRefIdeal.τ).loc Cert.InfRefIdeal.main_arg0) = m ((c.tc : Thread Cert.InfIdeal.nD Cert.InfIdeal.τ).loc Cert.InfIdeal.main_arg0)
      ∧ m' ((c.tc : Thread Cert.InfRefIdeal.nD Cert.InfRefIdeal.τ).loc Cert.InfRefIdeal.main_arg1) = m ((c.tc : Thread Cert.InfIdeal.nD Cert.InfIdeal.τ).loc Cert.InfIdeal.main_arg1)
      ∧ m' ((c.tc : Thread Cert.InfRefIdeal.nD Cert.InfRefIdeal.τ).loc Cert.InfRefIdeal.main_arg2) = m ((c.tc : Thread Cert.InfIdeal.nD Cert.InfIdeal.τ).loc Cert.InfIdeal.main_arg2)
      ∧ m' ((c.tc : Thread Cert.InfRefIdeal.nD Cert.InfRefIdeal.τ).loc Cert.InfRefIdeal.main_arg3) = m ((c.tc : Thread Cert.InfIdeal.nD Cert.InfIdeal.τ).loc Cert.InfIdeal.main_arg3)
      ∧ m' ((c.tc : Thread Cert.InfRefIdeal.nD Cert.InfRefIdeal.τ).loc Cert.InfRefIdeal.main_arg4) = m ((c.tc : Thread Cert.InfIdeal.nD Cert.InfIdeal.τ).loc Cert.InfIdeal.main_arg4)
      ∧ m' ((c.tc : Thread Cert.InfRefIdeal.nD Cert.InfRefIdeal.τ).loc Cert.InfRefIdeal.main_arg5) = m ((c.tc : Thread Cert.InfIdeal.nD Cert.InfIdeal.τ).loc Cert.InfIdeal.main_arg5)) →
    ∃ (v0 : (c : Dev Cert.InfIdeal.nD) → Buf (Elt Ideal) ((c.tc : Thread Cert.InfIdeal.nD Cert.InfIdeal.τ).loc Cert.InfIdeal.main_v9)) (v1 : (c : Dev Cert.InfIdeal.nD) → Buf (Elt Ideal) ((c.tc : Thread Cert.InfIdeal.nD Cert.InfIdeal.τ).loc Cert.InfIdeal.main_v8_1)),
      θ_run (Cert.InfIdeal.defs (F := Ideal)) (onTc (τ := Cert.InfIdeal.τ) (Cert.InfIdeal.main (F := Ideal))) ⟨m, fun _ => 0, g⟩ (fun r => ∀ c : Dev Cert.InfIdeal.nD,
          r.2.mem ((c.tc : Thread Cert.InfIdeal.nD Cert.InfIdeal.τ).loc Cert.InfIdeal.main_v9) = v0 c
          ∧ r.2.mem ((c.tc : Thread Cert.InfIdeal.nD Cert.InfIdeal.τ).loc Cert.InfIdeal.main_v8_1) = v1 c
          ∧ r.2.mem ((c.tc : Thread Cert.InfIdeal.nD Cert.InfIdeal.τ).loc Cert.InfIdeal.main_arg0) = m ((c.tc : Thread Cert.InfIdeal.nD Cert.InfIdeal.τ).loc Cert.InfIdeal.main_arg0)
          ∧ r.2.mem ((c.tc : Thread Cert.InfIdeal.nD Cert.InfIdeal.τ).loc Cert.InfIdeal.main_arg1) = m ((c.tc : Thread Cert.InfIdeal.nD Cert.InfIdeal.τ).loc Cert.InfIdeal.main_arg1)
          ∧ r.2.mem ((c.tc : Thread Cert.InfIdeal.nD Cert.InfIdeal.τ).loc Cert.InfIdeal.main_arg2) = m ((c.tc : Thread Cert.InfIdeal.nD Cert.InfIdeal.τ).loc Cert.InfIdeal.main_arg2)
          ∧ r.2.mem ((c.tc : Thread Cert.InfIdeal.nD Cert.InfIdeal.τ).loc Cert.InfIdeal.main_arg3) = m ((c.tc : Thread Cert.InfIdeal.nD Cert.InfIdeal.τ).loc Cert.InfIdeal.main_arg3)
          ∧ r.2.mem ((c.tc : Thread Cert.InfIdeal.nD Cert.InfIdeal.τ).loc Cert.InfIdeal.main_arg4) = m ((c.tc : Thread Cert.InfIdeal.nD Cert.InfIdeal.τ).loc Cert.InfIdeal.main_arg4)
          ∧ r.2.mem ((c.tc : Thread Cert.InfIdeal.nD Cert.InfIdeal.τ).loc Cert.InfIdeal.main_arg5) = m ((c.tc : Thread Cert.InfIdeal.nD Cert.InfIdeal.τ).loc Cert.InfIdeal.main_arg5))
      ∧ θ_run (Cert.InfRefIdeal.defs (F := Ideal)) (onTc (τ := Cert.InfRefIdeal.τ) (Cert.InfRefIdeal.main (F := Ideal))) ⟨m', fun _ => 0, g'⟩ (fun r => ∀ c : Dev Cert.InfRefIdeal.nD,
          r.2.mem ((c.tc : Thread Cert.InfRefIdeal.nD Cert.InfRefIdeal.τ).loc Cert.InfRefIdeal.main_v54) = v0 c
          ∧ r.2.mem ((c.tc : Thread Cert.InfRefIdeal.nD Cert.InfRefIdeal.τ).loc Cert.InfRefIdeal.main_v55) = v1 c
          ∧ r.2.mem ((c.tc : Thread Cert.InfRefIdeal.nD Cert.InfRefIdeal.τ).loc Cert.InfRefIdeal.main_arg0) = m' ((c.tc : Thread Cert.InfRefIdeal.nD Cert.InfRefIdeal.τ).loc Cert.InfRefIdeal.main_arg0)
          ∧ r.2.mem ((c.tc : Thread Cert.InfRefIdeal.nD Cert.InfRefIdeal.τ).loc Cert.InfRefIdeal.main_arg1) = m' ((c.tc : Thread Cert.InfRefIdeal.nD Cert.InfRefIdeal.τ).loc Cert.InfRefIdeal.main_arg1)
          ∧ r.2.mem ((c.tc : Thread Cert.InfRefIdeal.nD Cert.InfRefIdeal.τ).loc Cert.InfRefIdeal.main_arg2) = m' ((c.tc : Thread Cert.InfRefIdeal.nD Cert.InfRefIdeal.τ).loc Cert.InfRefIdeal.main_arg2)
          ∧ r.2.mem ((c.tc : Thread Cert.InfRefIdeal.nD Cert.InfRefIdeal.τ).loc Cert.InfRefIdeal.main_arg3) = m' ((c.tc : Thread Cert.InfRefIdeal.nD Cert.InfRefIdeal.τ).loc Cert.InfRefIdeal.main_arg3)
          ∧ r.2.mem ((c.tc : Thread Cert.InfRefIdeal.nD Cert.InfRefIdeal.τ).loc Cert.InfRefIdeal.main_arg4) = m' ((c.tc : Thread Cert.InfRefIdeal.nD Cert.InfRefIdeal.τ).loc Cert.InfRefIdeal.main_arg4)
          ∧ r.2.mem ((c.tc : Thread Cert.InfRefIdeal.nD Cert.InfRefIdeal.τ).loc Cert.InfRefIdeal.main_arg5) = m' ((c.tc : Thread Cert.InfRefIdeal.nD Cert.InfRefIdeal.τ).loc Cert.InfRefIdeal.main_arg5))

def Claim : Prop :=
  ∃ (hMod : Cert.Mod.Facts) (hModIdeal : Cert.ModIdeal.Facts) (hModRefIdeal : Cert.ModRefIdeal.Facts) (hFfn : Cert.Ffn.Facts) (hFfnIdeal : Cert.FfnIdeal.Facts) (hFfnRefIdeal : Cert.FfnRefIdeal.Facts) (hInb : Cert.Inb.Facts) (hInbIdeal : Cert.InbIdeal.Facts) (hInbRefIdeal : Cert.InbRefIdeal.Facts) (hMixb : Cert.Mixb.Facts) (hMixbIdeal : Cert.MixbIdeal.Facts) (hMixbRefIdeal : Cert.MixbRefIdeal.Facts) (hRed : Cert.Red.Facts) (hRedIdeal : Cert.RedIdeal.Facts) (hRedRefIdeal : Cert.RedRefIdeal.Facts) (hMixf : Cert.Mixf.Facts) (hMixfIdeal : Cert.MixfIdeal.Facts) (hMixfRefIdeal : Cert.MixfRefIdeal.Facts) (hInf : Cert.Inf.Facts) (hInfIdeal : Cert.InfIdeal.Facts) (hInfRefIdeal : Cert.InfRefIdeal.Facts) (hPre_mod_finite : Cert.Pre_mod_finite.Facts) (hPre_ffn_finite : Cert.Pre_ffn_finite.Facts) (hPre_in_finite : Cert.Pre_in_finite.Facts) (hPre_mix_finite : Cert.Pre_mix_finite.Facts) (hPre_red_finite : Cert.Pre_red_finite.Facts) (hPre_mixf_finite : Cert.Pre_mixf_finite.Facts) (hPre_inf_finite : Cert.Pre_inf_finite.Facts),
    quiescent_Mod (hMod := hMod)
    ∧ quiescent_ModIdeal (hModIdeal := hModIdeal)
    ∧ quiescent_ModIdeal_pre_mod_finite (hModIdeal := hModIdeal) (hPre_mod_finite := hPre_mod_finite)
    ∧ quiescent_ModRefIdeal (hModRefIdeal := hModRefIdeal)
    ∧ quiescent_ModRefIdeal_pre_mod_finite (hModRefIdeal := hModRefIdeal) (hPre_mod_finite := hPre_mod_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Inb (hInb := hInb)
    ∧ quiescent_InbIdeal (hInbIdeal := hInbIdeal)
    ∧ quiescent_InbIdeal_pre_in_finite (hInbIdeal := hInbIdeal) (hPre_in_finite := hPre_in_finite)
    ∧ quiescent_InbRefIdeal (hInbRefIdeal := hInbRefIdeal)
    ∧ quiescent_InbRefIdeal_pre_in_finite (hInbRefIdeal := hInbRefIdeal) (hPre_in_finite := hPre_in_finite)
    ∧ quiescent_Mixb (hMixb := hMixb)
    ∧ quiescent_MixbIdeal (hMixbIdeal := hMixbIdeal)
    ∧ quiescent_MixbIdeal_pre_mix_finite (hMixbIdeal := hMixbIdeal) (hPre_mix_finite := hPre_mix_finite)
    ∧ quiescent_MixbRefIdeal (hMixbRefIdeal := hMixbRefIdeal)
    ∧ quiescent_MixbRefIdeal_pre_mix_finite (hMixbRefIdeal := hMixbRefIdeal) (hPre_mix_finite := hPre_mix_finite)
    ∧ quiescent_Red (hRed := hRed)
    ∧ quiescent_RedIdeal (hRedIdeal := hRedIdeal)
    ∧ quiescent_RedIdeal_pre_red_finite (hRedIdeal := hRedIdeal) (hPre_red_finite := hPre_red_finite)
    ∧ quiescent_RedRefIdeal (hRedRefIdeal := hRedRefIdeal)
    ∧ quiescent_RedRefIdeal_pre_red_finite (hRedRefIdeal := hRedRefIdeal) (hPre_red_finite := hPre_red_finite)
    ∧ quiescent_Mixf (hMixf := hMixf)
    ∧ quiescent_MixfIdeal (hMixfIdeal := hMixfIdeal)
    ∧ quiescent_MixfIdeal_pre_mixf_finite (hMixfIdeal := hMixfIdeal) (hPre_mixf_finite := hPre_mixf_finite)
    ∧ quiescent_MixfRefIdeal (hMixfRefIdeal := hMixfRefIdeal)
    ∧ quiescent_MixfRefIdeal_pre_mixf_finite (hMixfRefIdeal := hMixfRefIdeal) (hPre_mixf_finite := hPre_mixf_finite)
    ∧ quiescent_Inf (hInf := hInf)
    ∧ quiescent_InfIdeal (hInfIdeal := hInfIdeal)
    ∧ quiescent_InfIdeal_pre_inf_finite (hInfIdeal := hInfIdeal) (hPre_inf_finite := hPre_inf_finite)
    ∧ quiescent_InfRefIdeal (hInfRefIdeal := hInfRefIdeal)
    ∧ quiescent_InfRefIdeal_pre_inf_finite (hInfRefIdeal := hInfRefIdeal) (hPre_inf_finite := hPre_inf_finite)
    ∧ preserves_Mod_ModIdeal
    ∧ algebraic_ModIdeal_ModRefIdeal_pre_mod_finite (hModIdeal := hModIdeal) (hModRefIdeal := hModRefIdeal) (hPre_mod_finite := hPre_mod_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Inb_InbIdeal
    ∧ algebraic_InbIdeal_InbRefIdeal_pre_in_finite (hInbIdeal := hInbIdeal) (hInbRefIdeal := hInbRefIdeal) (hPre_in_finite := hPre_in_finite)
    ∧ preserves_Mixb_MixbIdeal
    ∧ algebraic_MixbIdeal_MixbRefIdeal_pre_mix_finite (hMixbIdeal := hMixbIdeal) (hMixbRefIdeal := hMixbRefIdeal) (hPre_mix_finite := hPre_mix_finite)
    ∧ preserves_Red_RedIdeal
    ∧ algebraic_RedIdeal_RedRefIdeal_pre_red_finite (hRedIdeal := hRedIdeal) (hRedRefIdeal := hRedRefIdeal) (hPre_red_finite := hPre_red_finite)
    ∧ preserves_Mixf_MixfIdeal
    ∧ algebraic_MixfIdeal_MixfRefIdeal_pre_mixf_finite (hMixfIdeal := hMixfIdeal) (hMixfRefIdeal := hMixfRefIdeal) (hPre_mixf_finite := hPre_mixf_finite)
    ∧ preserves_Inf_InfIdeal
    ∧ algebraic_InfIdeal_InfRefIdeal_pre_inf_finite (hInfIdeal := hInfIdeal) (hInfRefIdeal := hInfRefIdeal) (hPre_inf_finite := hPre_inf_finite)
-- ==== Pre_ffn_finite.lean ====
abbrev S4x2048x1024 : Shape := ⟨3, ![4, 2048, 1024]⟩
abbrev S4x6x1024 : Shape := ⟨3, ![4, 6, 1024]⟩
abbrev S1x1024 : Shape := ⟨2, ![1, 1024]⟩
abbrev S1024 : Shape := ⟨1, ![1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S4x2048x1024 : S_.BroadcastsInDim S4x2048x1024 (![] : Fin 0 → Fin S4x2048x1024.rank)
  bcast_S_S4x6x1024 : S_.BroadcastsInDim S4x6x1024 (![] : Fin 0 → Fin S4x6x1024.rank)
  bcast_S_S1x1024 : S_.BroadcastsInDim S1x1024 (![] : Fin 0 → Fin S1x1024.rank)
  bcast_S_S1024 : S_.BroadcastsInDim S1024 (![] : Fin 0 → Fin S1024.rank)
  bcast_S_S1x1024x5632 : S_.BroadcastsInDim S1x1024x5632 (![] : Fin 0 → Fin S1x1024x5632.rank)
  bcast_S_S1x2816x1024 : S_.BroadcastsInDim S1x2816x1024 (![] : Fin 0 → Fin S1x2816x1024.rank)

variable [Facts]

def fn_part1 {F : FTy → Type} [FloatOps F] (main_arg6 : FVec F S4x2048x1024 .f32) (main_v2 : IVec S4x2048x1024 1) (main_v5 : IVec S4x6x1024 1) (main_v8 : IVec S1x1024 1) (main_v11 : IVec S1024 1) (main_v14 : IVec S1x1024x5632 1) (main_v17 : IVec S1x2816x1024 1) : IVec S4x2048x1024 1 × IVec S4x6x1024 1 × IVec S1x1024 1 × IVec S1024 1 × IVec S1x1024x5632 1 × IVec S1x2816x1024 1 × IVec S4x2048x1024 1 :=
  let main_v18 : FVec F S4x2048x1024 .f32 := Host.absf main_arg6
  let main_cst_5 : FVec F S_ .f32 := constant S_ .f32 0x7F800000#32
  let main_v19 : FVec F S4x2048x1024 .f32 := broadcastInDim S4x2048x1024 ![] bcast_S_S4x2048x1024 main_cst_5
  let main_v20 : IVec S4x2048x1024 1 := cmpf .olt main_v18 main_v19
  (main_v2, main_v5, main_v8, main_v11, main_v14, main_v17, main_v20)

def fn {F : FTy → Type} [FloatOps F] (main_arg0 : FVec F S4x2048x1024 .f32) (main_arg1 : FVec F S4x6x1024 .f32) (main_arg2 : FVec F S1x1024 .f32) (main_arg3 : FVec F S1024 .f32) (main_arg4 : FVec F S1x1024x5632 .f32) (main_arg5 : FVec F S1x2816x1024 .f32) (main_arg6 : FVec F S4x2048x1024 .f32) : IVec S4x2048x1024 1 × IVec S4x6x1024 1 × IVec S1x1024 1 × IVec S1024 1 × IVec S1x1024x5632 1 × IVec S1x2816x1024 1 × IVec S4x2048x1024 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S4x6x1024 .f32 := Host.absf main_arg1
  let main_cst_0 : FVec F S_ .f32 := constant S_ .f32 0x7F800000#32
  let main_v4 : FVec F S4x6x1024 .f32 := broadcastInDim S4x6x1024 ![] bcast_S_S4x6x1024 main_cst_0
  let main_v5 : IVec S4x6x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1x1024x5632 .f32 := Host.absf main_arg4
  let main_cst_3 : FVec F S_ .f32 := constant S_ .f32 0x7F800000#32
  let main_v13 : FVec F S1x1024x5632 .f32 := broadcastInDim S1x1024x5632 ![] bcast_S_S1x1024x5632 main_cst_3
  let main_v14 : IVec S1x1024x5632 1 := cmpf .olt main_v12 main_v13
  let main_v15 : FVec F S1x2816x1024 .f32 := Host.absf main_arg5
  let main_cst_4 : FVec F S_ .f32 := constant S_ .f32 0x7F800000#32
  let main_v16 : FVec F S1x2816x1024 .f32 := broadcastInDim S1x2816x1024 ![] bcast_S_S1x2816x1024 main_cst_4
  let main_v17 : IVec S1x2816x1024 1 := cmpf .olt main_v15 main_v16
  fn_part1 (F := F) main_arg6 main_v2 main_v5 main_v8 main_v11 main_v14 main_v17
-- ==== Pre_in_finite.lean ====
abbrev S4x2048x1024 : Shape := ⟨3, ![4, 2048, 1024]⟩
abbrev S4x256x1024 : Shape := ⟨3, ![4, 256, 1024]⟩
abbrev S1x1024 : Shape := ⟨2, ![1, 1024]⟩
abbrev S4x6x1024 : Shape := ⟨3, ![4, 6, 1024]⟩
abbrev S6x1024 : Shape := ⟨2, ![6, 1024]⟩
abbrev S1x1024x5632 : Shape := ⟨3, ![1, 1024, 5632]⟩
abbrev S4x2304x512 : Shape := ⟨3, ![4, 2304, 512]⟩
abbrev S4x2304x3584 : Shape := ⟨3, ![4, 2304, 3584]⟩
abbrev S4x1x1024 : Shape := ⟨3, ![4, 1, 1024]⟩
abbrev S4x1024 : Shape := ⟨2, ![4, 1024]⟩
abbrev S1024 : Shape := ⟨1, ![1024]⟩
abbrev S_ : Shape := ⟨0, ![]⟩

class Facts : Prop where
  slices_S4x6x1024_S4x1x1024_0_1_0 : S4x6x1024.Slices ![0, 1, 0] S4x1x1024
  shapeCasts_S4x1x1024_S4x1024 : S4x1x1024.ShapeCasts S4x1024
  slices_S6x1024_S1x1024_1_0 : S6x1024.Slices ![1, 0] S1x1024
  shapeCasts_S1x1024_S1024 : S1x1024.ShapeCasts S1024
  bitsLt_bf16_f32 : FTy.bits .bf16 < FTy.bits .f32
  bcast_S_S4x2048x1024 : S_.BroadcastsInDim S4x2048x1024 (![] : Fin 0 → Fin S4x2048x1024.rank)
  bcast_S_S4x256x1024 : S_.BroadcastsInDim S4x256x1024 (![] : Fin 0 → Fin S4x256x1024.rank)
  bcast_S_S1x1024 : S_.BroadcastsInDim S1x1024 (![] : Fin 0 → Fin S1x1024.rank)
  bcast_S_S4x1024 : S_.BroadcastsInDim S4x1024 (![] : Fin 0 → Fin S4x1024.rank)
  bcast_S_S1024 : S_.BroadcastsInDim S1024 (![] : Fin 0 → Fin S1024.rank)
  bcast_S_S1x1024x5632 : S_.BroadcastsInDim S1x1024x5632 (![] : Fin 0 → Fin S1x1024x5632.rank)
  bcast_S_S4x2304x512 : S_.BroadcastsInDim S4x2304x512 (![] : Fin 0 → Fin S4x2304x512.rank)
  bcast_S_S4x2304x3584 : S_.BroadcastsInDim S4x2304x3584 (![] : Fin 0 → Fin S4x2304x3584.rank)

variable [Facts]

def fn_part2 {F : FTy → Type} [FloatOps F] (main_arg12 : FVec F S4x2304x512 .f32) (main_v6 : FVec F S4x2304x3584 .f32) (main_v9 : IVec S4x2048x1024 1) (main_v12 : IVec S4x256x1024 1) (main_v15 : IVec S1x1024 1) (main_v18 : IVec S4x1024 1) (main_v21 : IVec S1024 1) (main_v24 : IVec S1x1024x5632 1) (main_v27 : IVec S4x2304x512 1) (main_v30 : IVec S4x2304x512 1) (main_v33 : IVec S4x2304x512 1) (main_v36 : IVec S4x2304x512 1) (main_v37 : FVec F S4x2304x512 .f32) : IVec S4x2048x1024 1 × IVec S4x256x1024 1 × IVec S1x1024 1 × IVec S4x1024 1 × IVec S1024 1 × IVec S1x1024x5632 1 × IVec S4x2304x512 1 × IVec S4x2304x512 1 × IVec S4x2304x512 1 × IVec S4x2304x512 1 × IVec S4x2304x512 1 × IVec S4x2304x512 1 × IVec S4x2304x3584 1 :=
  let main_cst_9 : FVec F S_ .f32 := constant S_ .f32 0x7F800000#32
  let main_v38 : FVec F S4x2304x512 .f32 := broadcastInDim S4x2304x512 ![] bcast_S_S4x2304x512 main_cst_9
  let main_v39 : IVec S4x2304x512 1 := cmpf .olt main_v37 main_v38
  let main_v40 : FVec F S4x2304x512 .f32 := Host.absf main_arg12
  let main_cst_10 : FVec F S_ .f32 := constant S_ .f32 0x7F800000#32
  let main_v41 : FVec F S4x2304x512 .f32 := broadcastInDim S4x2304x512 ![] bcast_S_S4x2304x512 main_cst_10
  let main_v42 : IVec S4x2304x512 1 := cmpf .olt main_v40 main_v41
  let main_v43 : FVec F S4x2304x3584 .f32 := Host.absf main_v6
  let main_cst_11 : FVec F S_ .f32 := constant S_ .f32 0x7F800000#32
  let main_v44 : FVec F S4x2304x3584 .f32 := broadcastInDim S4x2304x3584 ![] bcast_S_S4x2304x3584 main_cst_11
  let main_v45 : IVec S4x2304x3584 1 := cmpf .olt main_v43 main_v44
  (main_v9, main_v12, main_v15, main_v18, main_v21, main_v24, main_v27, main_v30, main_v33, main_v36, main_v39, main_v42, main_v45)

def fn_part1 {F : FTy → Type} [FloatOps F] (main_arg6 : FVec F S1x1024x5632 .f32) (main_arg9 : FVec F S4x2304x512 .f32) (main_arg10 : FVec F S4x2304x512 .f32) (main_arg11 : FVec F S4x2304x512 .f32) (main_arg12 : FVec F S4x2304x512 .f32) (main_v4 : FVec F S4x2304x512 .f32) (main_v5 : FVec F S4x2304x512 .f32) (main_v6 : FVec F S4x2304x3584 .f32) (main_v9 : IVec S4x2048x1024 1) (main_v12 : IVec S4x256x1024 1) (main_v15 : IVec S1x1024 1) (main_v18 : IVec S4x1024 1) (main_v19 : FVec F S1024 .f32) : IVec S4x2048x1024 1 × IVec S4x256x1024 1 × IVec S1x1024 1 × IVec S4x1024 1 × IVec S1024 1 × IVec S1x1024x5632 1 × IVec S4x2304x512 1 × IVec S4x2304x512 1 × IVec S4x2304x512 1 × IVec S4x2304x512 1 × IVec S4x2304x512 1 × IVec S4x2304x512 1 × IVec S4x2304x3584 1 :=
  let main_cst_3 : FVec F S_ .f32 := constant S_ .f32 0x7F800000#32
  let main_v20 : FVec F S1024 .f32 := broadcastInDim S1024 ![] bcast_S_S1024 main_cst_3
  let main_v21 : IVec S1024 1 := cmpf .olt main_v19 main_v20
  let main_v22 : FVec F S1x1024x5632 .f32 := Host.absf main_arg6
  let main_cst_4 : FVec F S_ .f32 := constant S_ .f32 0x7F800000#32
  let main_v23 : FVec F S1x1024x5632 .f32 := broadcastInDim S1x1024x5632 ![] bcast_S_S1x1024x5632 main_cst_4
  let main_v24 : IVec S1x1024x5632 1 := cmpf .olt main_v22 main_v23
  let main_v25 : FVec F S4x2304x512 .f32 := Host.absf main_v4
  let main_cst_5 : FVec F S_ .f32 := constant S_ .f32 0x7F800000#32
  let main_v26 : FVec F S4x2304x512 .f32 := broadcastInDim S4x2304x512 ![] bcast_S_S4x2304x512 main_cst_5
  let main_v27 : IVec S4x2304x512 1 := cmpf .olt main_v25 main_v26
  let main_v28 : FVec F S4x2304x512 .f32 := Host.absf main_v5
  let main_cst_6 : FVec F S_ .f32 := constant S_ .f32 0x7F800000#32
  let main_v29 : FVec F S4x2304x512 .f32 := broadcastInDim S4x2304x512 ![] bcast_S_S4x2304x512 main_cst_6
  let main_v30 : IVec S4x2304x512 1 := cmpf .olt main_v28 main_v29
  let main_v31 : FVec F S4x2304x512 .f32 := Host.absf main_arg9
  let main_cst_7 : FVec F S_ .f32 := constant S_ .f32 0x7F800000#32
  let main_v32 : FVec F S4x2304x512 .f32 := broadcastInDim S4x2304x512 ![] bcast_S_S4x2304x512 main_cst_7
  let main_v33 : IVec S4x2304x512 1 := cmpf .olt main_v31 main_v32
  let main_v34 : FVec F S4x2304x512 .f32 := Host.absf main_arg10
  let main_cst_8 : FVec F S_ .f32 := constant S_ .f32 0x7F800000#32
  let main_v35 : FVec F S4x2304x512 .f32 := broadcastInDim S4x2304x512 ![] bcast_S_S4x2304x512 main_cst_8
  let main_v36 : IVec S4x2304x512 1 := cmpf .olt main_v34 main_v35
  let main_v37 : FVec F S4x2304x512 .f32 := Host.absf main_arg11
  fn_part2 (F := F) main_arg12 main_v6 main_v9 main_v12 main_v15 main_v18 main_v21 main_v24 main_v27 main_v30 main_v33 main_v36 main_v37

def fn {F : FTy → Type} [FloatOps F] (main_arg0 : FVec F S4x2048x1024 .f32) (main_arg1 : FVec F S4x256x1024 .f32) (main_arg2 : FVec F S4x2048x1024 .f32) (main_arg3 : FVec F S1x1024 .f32) (main_arg4 : FVec F S4x6x1024 .f32) (main_arg5 : FVec F S6x1024 .f32) (main_arg6 : FVec F S1x1024x5632 .f32) (main_arg7 : FVec F S4x2304x512 .bf16) (main_arg8 : FVec F S4x2304x512 .bf16) (main_arg9 : FVec F S4x2304x512 .f32) (main_arg10 : FVec F S4x2304x512 .f32) (main_arg11 : FVec F S4x2304x512 .f32) (main_arg12 : FVec F S4x2304x512 .f32) (main_arg13 : FVec F S4x2304x3584 .bf16) : IVec S4x2048x1024 1 × IVec S4x256x1024 1 × IVec S1x1024 1 × IVec S4x1024 1 × IVec S1024 1 × IVec S1x1024x5632 1 × IVec S4x2304x512 1 × IVec S4x2304x512 1 × IVec S4x2304x512 1 × IVec S4x2304x512 1 × IVec S4x2304x512 1 × IVec S4x2304x512 1 × IVec S4x2304x3584 1 :=
  let main_v0 : FVec F S4x1x1024 .f32 := (extractStridedSlice S4x1x1024 ![0, 1, 0] · slices_S4x6x1024_S4x1x1024_0_1_0) main_arg4
  let main_v1 : FVec F S4x1024 .f32 := shapeCast S4x1024 main_v0 shapeCasts_S4x1x1024_S4x1024
  let main_v2 : FVec F S1x1024 .f32 := (extractStridedSlice S1x1024 ![1, 0] · slices_S6x1024_S1x1024_1_0) main_arg5
  let main_v3 : FVec F S1024 .f32 := shapeCast S1024 main_v2 shapeCasts_S1x1024_S1024
  let main_v4 : FVec F S4x2304x512 .f32 := (extf .f32 · bitsLt_bf16_f32) main_arg7
  let main_v5 : FVec F S4x2304x512 .f32 := (extf .f32 · bitsLt_bf16_f32) main_arg8
  let main_v6 : FVec F S4x2304x3584 .f32 := (extf .f32 · bitsLt_bf16_f32) main_arg13
  let main_v7 : FVec F S4x2048x1024 .f32 := Host.absf main_arg0
  let main_cst : FVec F S_ .f32 := constant S_ .f32 0x7F800000#32
  let main_v8 : FVec F S4x2048x1024 .f32 := broadcastInDim S4x2048x1024 ![] bcast_S_S4x2048x1024 main_cst
  let main_v9 : IVec S4x2048x1024 1 := cmpf .olt main_v7 main_v8
  let main_v10 : FVec F S4x256x1024 .f32 := Host.absf main_arg1
  let main_cst_0 : FVec F S_ .f32 := constant S_ .f32 0x7F800000#32
  let main_v11 : FVec F S4x256x1024 .f32 := broadcastInDim S4x256x1024 ![] bcast_S_S4x256x1024 main_cst_0
  let main_v12 : IVec S4x256x1024 1 := cmpf .olt main_v10 main_v11
  let main_v13 : FVec F S1x1024 .f32 := Host.absf main_arg3
  let main_cst_1 : FVec F S_ .f32 := constant S_ .f32 0x7F800000#32
  let main_v14 : FVec F S1x1024 .f32 := broadcastInDim S1x1024 ![] bcast_S_S1x1024 main_cst_1
  let main_v15 : IVec S1x1024 1 := cmpf .olt main_v13 main_v14
  let main_v16 : FVec F S4x1024 .f32 := Host.absf main_v1
  let main_cst_2 : FVec F S_ .f32 := constant S_ .f32 0x7F800000#32
  let main_v17 : FVec F S4x1024 .f32 := broadcastInDim S4x1024 ![] bcast_S_S4x1024 main_cst_2
  let main_v18 : IVec S4x1024 1 := cmpf .olt main_v16 main_v17
  let main_v19 : FVec F S1024 .f32 := Host.absf main_v3
  fn_part1 (F := F) main_arg6 main_arg9 main_arg10 main_arg11 main_arg12 main_v4 main_v5 main_v6 main_v9 main_v12 main_v15 main_v18 main_v19
-- ==== Pre_inf_finite.lean ====
abbrev S4x2048x1024 : Shape := ⟨3, ![4, 2048, 1024]⟩
abbrev S4x256x1024 : Shape := ⟨3, ![4, 256, 1024]⟩
abbrev S1x1024 : Shape := ⟨2, ![1, 1024]⟩
abbrev S4x6x1024 : Shape := ⟨3, ![4, 6, 1024]⟩
abbrev S6x1024 : Shape := ⟨2, ![6, 1024]⟩
abbrev S1x1024x1408 : Shape := ⟨3, ![1, 1024, 1408]⟩
abbrev S4x2x1024 : Shape := ⟨3, ![4, 2, 1024]⟩
abbrev S2x1024 : Shape := ⟨2, ![2, 1024]⟩
abbrev S_ : Shape := ⟨0, ![]⟩

class Facts : Prop where
  slices_S4x6x1024_S4x2x1024_0_0_0 : S4x6x1024.Slices ![0, 0, 0] S4x2x1024
  slices_S6x1024_S2x1024_0_0 : S6x1024.Slices ![0, 0] S2x1024
  bcast_S_S4x2048x1024 : S_.BroadcastsInDim S4x2048x1024 (![] : Fin 0 → Fin S4x2048x1024.rank)
  bcast_S_S4x256x1024 : S_.BroadcastsInDim S4x256x1024 (![] : Fin 0 → Fin S4x256x1024.rank)
  bcast_S_S1x1024 : S_.BroadcastsInDim S1x1024 (![] : Fin 0 → Fin S1x1024.rank)
  bcast_S_S4x2x1024 : S_.BroadcastsInDim S4x2x1024 (![] : Fin 0 → Fin S4x2x1024.rank)
  bcast_S_S2x1024 : S_.BroadcastsInDim S2x1024 (![] : Fin 0 → Fin S2x1024.rank)
  bcast_S_S1x1024x1408 : S_.BroadcastsInDim S1x1024x1408 (![] : Fin 0 → Fin S1x1024x1408.rank)

variable [Facts]

def fn_part1 {F : FTy → Type} [FloatOps F] (main_v4 : IVec S4x2048x1024 1) (main_v7 : IVec S4x256x1024 1) (main_v10 : IVec S1x1024 1) (main_v13 : IVec S4x2x1024 1) (main_v16 : IVec S2x1024 1) (main_v17 : FVec F S1x1024x1408 .f32) (main_cst_4 : FVec F S_ .f32) : IVec S4x2048x1024 1 × IVec S4x256x1024 1 × IVec S1x1024 1 × IVec S4x2x1024 1 × IVec S2x1024 1 × IVec S1x1024x1408 1 :=
  let main_v18 : FVec F S1x1024x1408 .f32 := broadcastInDim S1x1024x1408 ![] bcast_S_S1x1024x1408 main_cst_4
  let main_v19 : IVec S1x1024x1408 1 := cmpf .olt main_v17 main_v18
  (main_v4, main_v7, main_v10, main_v13, main_v16, main_v19)

def fn {F : FTy → Type} [FloatOps F] (main_arg0 : FVec F S4x2048x1024 .f32) (main_arg1 : FVec F S4x256x1024 .f32) (main_arg2 : FVec F S1x1024 .f32) (main_arg3 : FVec F S4x6x1024 .f32) (main_arg4 : FVec F S6x1024 .f32) (main_arg5 : FVec F S1x1024x1408 .f32) : IVec S4x2048x1024 1 × IVec S4x256x1024 1 × IVec S1x1024 1 × IVec S4x2x1024 1 × IVec S2x1024 1 × IVec S1x1024x1408 1 :=
  let main_v0 : FVec F S4x2x1024 .f32 := (extractStridedSlice S4x2x1024 ![0, 0, 0] · slices_S4x6x1024_S4x2x1024_0_0_0) main_arg3
  let main_v1 : FVec F S2x1024 .f32 := (extractStridedSlice S2x1024 ![0, 0] · slices_S6x1024_S2x1024_0_0) main_arg4
  let main_v2 : FVec F S4x2048x1024 .f32 := Host.absf main_arg0
  let main_cst : FVec F S_ .f32 := constant S_ .f32 0x7F800000#32
  let main_v3 : FVec F S4x2048x1024 .f32 := broadcastInDim S4x2048x1024 ![] bcast_S_S4x2048x1024 main_cst
  let main_v4 : IVec S4x2048x1024 1 := cmpf .olt main_v2 main_v3
  let main_v5 : FVec F S4x256x1024 .f32 := Host.absf main_arg1
  let main_cst_0 : FVec F S_ .f32 := constant S_ .f32 0x7F800000#32
  let main_v6 : FVec F S4x256x1024 .f32 := broadcastInDim S4x256x1024 ![] bcast_S_S4x256x1024 main_cst_0
  let main_v7 : IVec S4x256x1024 1 := cmpf .olt main_v5 main_v6
  let main_v8 : FVec F S1x1024 .f32 := Host.absf main_arg2
  let main_cst_1 : FVec F S_ .f32 := constant S_ .f32 0x7F800000#32
  let main_v9 : FVec F S1x1024 .f32 := broadcastInDim S1x1024 ![] bcast_S_S1x1024 main_cst_1
  let main_v10 : IVec S1x1024 1 := cmpf .olt main_v8 main_v9
  let main_v11 : FVec F S4x2x1024 .f32 := Host.absf main_v0
  let main_cst_2 : FVec F S_ .f32 := constant S_ .f32 0x7F800000#32
  let main_v12 : FVec F S4x2x1024 .f32 := broadcastInDim S4x2x1024 ![] bcast_S_S4x2x1024 main_cst_2
  let main_v13 : IVec S4x2x1024 1 := cmpf .olt main_v11 main_v12
  let main_v14 : FVec F S2x1024 .f32 := Host.absf main_v1
  let main_cst_3 : FVec F S_ .f32 := constant S_ .f32 0x7F800000#32
  let main_v15 : FVec F S2x1024 .f32 := broadcastInDim S2x1024 ![] bcast_S_S2x1024 main_cst_3
  let main_v16 : IVec S2x1024 1 := cmpf .olt main_v14 main_v15
  let main_v17 : FVec F S1x1024x1408 .f32 := Host.absf main_arg5
  let main_cst_4 : FVec F S_ .f32 := constant S_ .f32 0x7F800000#32
  fn_part1 (F := F) main_v4 main_v7 main_v10 main_v13 main_v16 main_v17 main_cst_4
-- ==== Pre_mix_finite.lean ====
abbrev S4x2304x5632 : Shape := ⟨3, ![4, 2304, 5632]⟩
abbrev S4x2304x512 : Shape := ⟨3, ![4, 2304, 512]⟩
abbrev S4x2048x1024 : Shape := ⟨3, ![4, 2048, 1024]⟩
abbrev S4x6x1024 : Shape := ⟨3, ![4, 6, 1024]⟩
abbrev S1x128 : Shape := ⟨2, ![1, 128]⟩
abbrev S1x512 : Shape := ⟨2, ![1, 512]⟩
abbrev S1x4x128x128 : Shape := ⟨4, ![1, 4, 128, 128]⟩
abbrev S1x4x128 : Shape := ⟨3, ![1, 4, 128]⟩
abbrev S1x512x1024 : Shape := ⟨3, ![1, 512, 1024]⟩
abbrev S1x1024x1024 : Shape := ⟨3, ![1, 1024, 1024]⟩
abbrev S4x2048x3584 : Shape := ⟨3, ![4, 2048, 3584]⟩
abbrev S4x2048x512 : Shape := ⟨3, ![4, 2048, 512]⟩
abbrev S4x1x1024 : Shape := ⟨3, ![4, 1, 1024]⟩
abbrev S4x1024 : Shape := ⟨2, ![4, 1024]⟩
abbrev S_ : Shape := ⟨0, ![]⟩

class Facts : Prop where
  slices_S4x2304x5632_S4x2048x3584_0_256_2048 : S4x2304x5632.Slices ![0, 256, 2048] S4x2048x3584
  slices_S4x2304x512_S4x2048x512_0_256_0 : S4x2304x512.Slices ![0, 256, 0] S4x2048x512
  slices_S4x6x1024_S4x1x1024_0_2_0 : S4x6x1024.Slices ![0, 2, 0] S4x1x1024
  shapeCasts_S4x1x1024_S4x1024 : S4x1x1024.ShapeCasts S4x1024
  bcast_S_S4x2048x3584 : S_.BroadcastsInDim S4x2048x3584 (![] : Fin 0 → Fin S4x2048x3584.rank)
  bcast_S_S4x2048x512 : S_.BroadcastsInDim S4x2048x512 (![] : Fin 0 → Fin S4x2048x512.rank)
  bcast_S_S4x2048x1024 : S_.BroadcastsInDim S4x2048x1024 (![] : Fin 0 → Fin S4x2048x1024.rank)
  bcast_S_S4x1024 : S_.BroadcastsInDim S4x1024 (![] : Fin 0 → Fin S4x1024.rank)
  bcast_S_S1x128 : S_.BroadcastsInDim S1x128 (![] : Fin 0 → Fin S1x128.rank)
  bcast_S_S1x512 : S_.BroadcastsInDim S1x512 (![] : Fin 0 → Fin S1x512.rank)
  bcast_S_S1x4x128x128 : S_.BroadcastsInDim S1x4x128x128 (![] : Fin 0 → Fin S1x4x128x128.rank)
  bcast_S_S1x4x128 : S_.BroadcastsInDim S1x4x128 (![] : Fin 0 → Fin S1x4x128.rank)
  bcast_S_S1x512x1024 : S_.BroadcastsInDim S1x512x1024 (![] : Fin 0 → Fin S1x512x1024.rank)
  bcast_S_S1x1024x1024 : S_.BroadcastsInDim S1x1024x1024 (![] : Fin 0 → Fin S1x1024x1024.rank)

variable [Facts]

def fn_part2 {F : FTy → Type} [FloatOps F] (main_arg11 : FVec F S1x512x1024 .f32) (main_arg12 : FVec F S1x1024x1024 .f32) (main_v7 : IVec S4x2048x3584 1) (main_v10 : IVec S4x2048x512 1) (main_v13 : IVec S4x2048x512 1) (main_v16 : IVec S4x2048x1024 1) (main_v19 : IVec S4x1024 1) (main_v22 : IVec S1x128 1) (main_v25 : IVec S1x512 1) (main_v28 : IVec S1x512 1) (main_v31 : IVec S1x4x128x128 1) (main_v34 : IVec S1x4x128 1) (main_v35 : FVec F S1x512x1024 .f32) (main_v36 : FVec F S1x512x1024 .f32) : IVec S4x2048x3584 1 × IVec S4x2048x512 1 × IVec S4x2048x512 1 × IVec S4x2048x1024 1 × IVec S4x1024 1 × IVec S1x128 1 × IVec S1x512 1 × IVec S1x512 1 × IVec S1x4x128x128 1 × IVec S1x4x128 1 × IVec S1x512x1024 1 × IVec S1x512x1024 1 × IVec S1x1024x1024 1 :=
  let main_v37 : IVec S1x512x1024 1 := cmpf .olt main_v35 main_v36
  let main_v38 : FVec F S1x512x1024 .f32 := Host.absf main_arg11
  let main_cst_10 : FVec F S_ .f32 := constant S_ .f32 0x7F800000#32
  let main_v39 : FVec F S1x512x1024 .f32 := broadcastInDim S1x512x1024 ![] bcast_S_S1x512x1024 main_cst_10
  let main_v40 : IVec S1x512x1024 1 := cmpf .olt main_v38 main_v39
  let main_v41 : FVec F S1x1024x1024 .f32 := Host.absf main_arg12
  let main_cst_11 : FVec F S_ .f32 := constant S_ .f32 0x7F800000#32
  let main_v42 : FVec F S1x1024x1024 .f32 := broadcastInDim S1x1024x1024 ![] bcast_S_S1x1024x1024 main_cst_11
  let main_v43 : IVec S1x1024x1024 1 := cmpf .olt main_v41 main_v42
  (main_v7, main_v10, main_v13, main_v16, main_v19, main_v22, main_v25, main_v28, main_v31, main_v34, main_v37, main_v40, main_v43)

def fn_part1 {F : FTy → Type} [FloatOps F] (main_arg5 : FVec F S1x128 .f32) (main_arg6 : FVec F S1x512 .f32) (main_arg7 : FVec F S1x512 .f32) (main_arg8 : FVec F S1x4x128x128 .f32) (main_arg9 : FVec F S1x4x128 .f32) (main_arg10 : FVec F S1x512x1024 .f32) (main_arg11 : FVec F S1x512x1024 .f32) (main_arg12 : FVec F S1x1024x1024 .f32) (main_v7 : IVec S4x2048x3584 1) (main_v10 : IVec S4x2048x512 1) (main_v13 : IVec S4x2048x512 1) (main_v16 : IVec S4x2048x1024 1) (main_v17 : FVec F S4x1024 .f32) (main_v18 : FVec F S4x1024 .f32) : IVec S4x2048x3584 1 × IVec S4x2048x512 1 × IVec S4x2048x512 1 × IVec S4x2048x1024 1 × IVec S4x1024 1 × IVec S1x128 1 × IVec S1x512 1 × IVec S1x512 1 × IVec S1x4x128x128 1 × IVec S1x4x128 1 × IVec S1x512x1024 1 × IVec S1x512x1024 1 × IVec S1x1024x1024 1 :=
  let main_v19 : IVec S4x1024 1 := cmpf .olt main_v17 main_v18
  let main_v20 : FVec F S1x128 .f32 := Host.absf main_arg5
  let main_cst_4 : FVec F S_ .f32 := constant S_ .f32 0x7F800000#32
  let main_v21 : FVec F S1x128 .f32 := broadcastInDim S1x128 ![] bcast_S_S1x128 main_cst_4
  let main_v22 : IVec S1x128 1 := cmpf .olt main_v20 main_v21
  let main_v23 : FVec F S1x512 .f32 := Host.absf main_arg6
  let main_cst_5 : FVec F S_ .f32 := constant S_ .f32 0x7F800000#32
  let main_v24 : FVec F S1x512 .f32 := broadcastInDim S1x512 ![] bcast_S_S1x512 main_cst_5
  let main_v25 : IVec S1x512 1 := cmpf .olt main_v23 main_v24
  let main_v26 : FVec F S1x512 .f32 := Host.absf main_arg7
  let main_cst_6 : FVec F S_ .f32 := constant S_ .f32 0x7F800000#32
  let main_v27 : FVec F S1x512 .f32 := broadcastInDim S1x512 ![] bcast_S_S1x512 main_cst_6
  let main_v28 : IVec S1x512 1 := cmpf .olt main_v26 main_v27
  let main_v29 : FVec F S1x4x128x128 .f32 := Host.absf main_arg8
  let main_cst_7 : FVec F S_ .f32 := constant S_ .f32 0x7F800000#32
  let main_v30 : FVec F S1x4x128x128 .f32 := broadcastInDim S1x4x128x128 ![] bcast_S_S1x4x128x128 main_cst_7
  let main_v31 : IVec S1x4x128x128 1 := cmpf .olt main_v29 main_v30
  let main_v32 : FVec F S1x4x128 .f32 := Host.absf main_arg9
  let main_cst_8 : FVec F S_ .f32 := constant S_ .f32 0x7F800000#32
  let main_v33 : FVec F S1x4x128 .f32 := broadcastInDim S1x4x128 ![] bcast_S_S1x4x128 main_cst_8
  let main_v34 : IVec S1x4x128 1 := cmpf .olt main_v32 main_v33
  let main_v35 : FVec F S1x512x1024 .f32 := Host.absf main_arg10
  let main_cst_9 : FVec F S_ .f32 := constant S_ .f32 0x7F800000#32
  let main_v36 : FVec F S1x512x1024 .f32 := broadcastInDim S1x512x1024 ![] bcast_S_S1x512x1024 main_cst_9
  fn_part2 (F := F) main_arg11 main_arg12 main_v7 main_v10 main_v13 main_v16 main_v19 main_v22 main_v25 main_v28 main_v31 main_v34 main_v35 main_v36

def fn {F : FTy → Type} [FloatOps F] (main_arg0 : FVec F S4x2304x5632 .f32) (main_arg1 : FVec F S4x2304x512 .f32) (main_arg2 : FVec F S4x2304x512 .f32) (main_arg3 : FVec F S4x2048x1024 .f32) (main_arg4 : FVec F S4x6x1024 .f32) (main_arg5 : FVec F S1x128 .f32) (main_arg6 : FVec F S1x512 .f32) (main_arg7 : FVec F S1x512 .f32) (main_arg8 : FVec F S1x4x128x128 .f32) (main_arg9 : FVec F S1x4x128 .f32) (main_arg10 : FVec F S1x512x1024 .f32) (main_arg11 : FVec F S1x512x1024 .f32) (main_arg12 : FVec F S1x1024x1024 .f32) : IVec S4x2048x3584 1 × IVec S4x2048x512 1 × IVec S4x2048x512 1 × IVec S4x2048x1024 1 × IVec S4x1024 1 × IVec S1x128 1 × IVec S1x512 1 × IVec S1x512 1 × IVec S1x4x128x128 1 × IVec S1x4x128 1 × IVec S1x512x1024 1 × IVec S1x512x1024 1 × IVec S1x1024x1024 1 :=
  let main_v0 : FVec F S4x2048x3584 .f32 := (extractStridedSlice S4x2048x3584 ![0, 256, 2048] · slices_S4x2304x5632_S4x2048x3584_0_256_2048) main_arg0
  let main_v1 : FVec F S4x2048x512 .f32 := (extractStridedSlice S4x2048x512 ![0, 256, 0] · slices_S4x2304x512_S4x2048x512_0_256_0) main_arg1
  let main_v2 : FVec F S4x2048x512 .f32 := (extractStridedSlice S4x2048x512 ![0, 256, 0] · slices_S4x2304x512_S4x2048x512_0_256_0) main_arg2
  let main_v3 : FVec F S4x1x1024 .f32 := (extractStridedSlice S4x1x1024 ![0, 2, 0] · slices_S4x6x1024_S4x1x1024_0_2_0) main_arg4
  let main_v4 : FVec F S4x1024 .f32 := shapeCast S4x1024 main_v3 shapeCasts_S4x1x1024_S4x1024
  let main_v5 : FVec F S4x2048x3584 .f32 := Host.absf main_v0
  let main_cst : FVec F S_ .f32 := constant S_ .f32 0x7F800000#32
  let main_v6 : FVec F S4x2048x3584 .f32 := broadcastInDim S4x2048x3584 ![] bcast_S_S4x2048x3584 main_cst
  let main_v7 : IVec S4x2048x3584 1 := cmpf .olt main_v5 main_v6
  let main_v8 : FVec F S4x2048x512 .f32 := Host.absf main_v1
  let main_cst_0 : FVec F S_ .f32 := constant S_ .f32 0x7F800000#32
  let main_v9 : FVec F S4x2048x512 .f32 := broadcastInDim S4x2048x512 ![] bcast_S_S4x2048x512 main_cst_0
  let main_v10 : IVec S4x2048x512 1 := cmpf .olt main_v8 main_v9
  let main_v11 : FVec F S4x2048x512 .f32 := Host.absf main_v2
  let main_cst_1 : FVec F S_ .f32 := constant S_ .f32 0x7F800000#32
  let main_v12 : FVec F S4x2048x512 .f32 := broadcastInDim S4x2048x512 ![] bcast_S_S4x2048x512 main_cst_1
  let main_v13 : IVec S4x2048x512 1 := cmpf .olt main_v11 main_v12
  let main_v14 : FVec F S4x2048x1024 .f32 := Host.absf main_arg3
  let main_cst_2 : FVec F S_ .f32 := constant S_ .f32 0x7F800000#32
  let main_v15 : FVec F S4x2048x1024 .f32 := broadcastInDim S4x2048x1024 ![] bcast_S_S4x2048x1024 main_cst_2
  let main_v16 : IVec S4x2048x1024 1 := cmpf .olt main_v14 main_v15
  let main_v17 : FVec F S4x1024 .f32 := Host.absf main_v4
  let main_cst_3 : FVec F S_ .f32 := constant S_ .f32 0x7F800000#32
  let main_v18 : FVec F S4x1024 .f32 := broadcastInDim S4x1024 ![] bcast_S_S4x1024 main_cst_3
  fn_part1 (F := F) main_arg5 main_arg6 main_arg7 main_arg8 main_arg9 main_arg10 main_arg11 main_arg12 main_v7 main_v10 main_v13 main_v16 main_v17 main_v18
-- ==== Pre_mixf_finite.lean ====
abbrev S4x2304x5632 : Shape := ⟨3, ![4, 2304, 5632]⟩
abbrev S4x2304x512 : Shape := ⟨3, ![4, 2304, 512]⟩
abbrev S4x2048x1024 : Shape := ⟨3, ![4, 2048, 1024]⟩
abbrev S4x6x1024 : Shape := ⟨3, ![4, 6, 1024]⟩
abbrev S1x128 : Shape := ⟨2, ![1, 128]⟩
abbrev S1x512 : Shape := ⟨2, ![1, 512]⟩
abbrev S1x4x128x128 : Shape := ⟨4, ![1, 4, 128, 128]⟩
abbrev S1x4x128 : Shape := ⟨3, ![1, 4, 128]⟩
abbrev S1x512x1024 : Shape := ⟨3, ![1, 512, 1024]⟩
abbrev S1x1024x1024 : Shape := ⟨3, ![1, 1024, 1024]⟩
abbrev S4x2048x3584 : Shape := ⟨3, ![4, 2048, 3584]⟩
abbrev S4x2048x512 : Shape := ⟨3, ![4, 2048, 512]⟩
abbrev S4x1x1024 : Shape := ⟨3, ![4, 1, 1024]⟩
abbrev S4x1024 : Shape := ⟨2, ![4, 1024]⟩
abbrev S_ : Shape := ⟨0, ![]⟩

class Facts : Prop where
  slices_S4x2304x5632_S4x2048x3584_0_256_2048 : S4x2304x5632.Slices ![0, 256, 2048] S4x2048x3584
  slices_S4x2304x512_S4x2048x512_0_256_0 : S4x2304x512.Slices ![0, 256, 0] S4x2048x512
  slices_S4x6x1024_S4x1x1024_0_2_0 : S4x6x1024.Slices ![0, 2, 0] S4x1x1024
  shapeCasts_S4x1x1024_S4x1024 : S4x1x1024.ShapeCasts S4x1024
  bcast_S_S4x2048x3584 : S_.BroadcastsInDim S4x2048x3584 (![] : Fin 0 → Fin S4x2048x3584.rank)
  bcast_S_S4x2048x512 : S_.BroadcastsInDim S4x2048x512 (![] : Fin 0 → Fin S4x2048x512.rank)
  bcast_S_S4x2048x1024 : S_.BroadcastsInDim S4x2048x1024 (![] : Fin 0 → Fin S4x2048x1024.rank)
  bcast_S_S4x1024 : S_.BroadcastsInDim S4x1024 (![] : Fin 0 → Fin S4x1024.rank)
  bcast_S_S1x128 : S_.BroadcastsInDim S1x128 (![] : Fin 0 → Fin S1x128.rank)
  bcast_S_S1x512 : S_.BroadcastsInDim S1x512 (![] : Fin 0 → Fin S1x512.rank)
  bcast_S_S1x4x128x128 : S_.BroadcastsInDim S1x4x128x128 (![] : Fin 0 → Fin S1x4x128x128.rank)
  bcast_S_S1x4x128 : S_.BroadcastsInDim S1x4x128 (![] : Fin 0 → Fin S1x4x128.rank)
  bcast_S_S1x512x1024 : S_.BroadcastsInDim S1x512x1024 (![] : Fin 0 → Fin S1x512x1024.rank)
  bcast_S_S1x1024x1024 : S_.BroadcastsInDim S1x1024x1024 (![] : Fin 0 → Fin S1x1024x1024.rank)

variable [Facts]

def fn_part2 {F : FTy → Type} [FloatOps F] (main_arg11 : FVec F S1x512x1024 .f32) (main_arg12 : FVec F S1x1024x1024 .f32) (main_v7 : IVec S4x2048x3584 1) (main_v10 : IVec S4x2048x512 1) (main_v13 : IVec S4x2048x512 1) (main_v16 : IVec S4x2048x1024 1) (main_v19 : IVec S4x1024 1) (main_v22 : IVec S1x128 1) (main_v25 : IVec S1x512 1) (main_v28 : IVec S1x512 1) (main_v31 : IVec S1x4x128x128 1) (main_v34 : IVec S1x4x128 1) (main_v35 : FVec F S1x512x1024 .f32) (main_v36 : FVec F S1x512x1024 .f32) : IVec S4x2048x3584 1 × IVec S4x2048x512 1 × IVec S4x2048x512 1 × IVec S4x2048x1024 1 × IVec S4x1024 1 × IVec S1x128 1 × IVec S1x512 1 × IVec S1x512 1 × IVec S1x4x128x128 1 × IVec S1x4x128 1 × IVec S1x512x1024 1 × IVec S1x512x1024 1 × IVec S1x1024x1024 1 :=
  let main_v37 : IVec S1x512x1024 1 := cmpf .olt main_v35 main_v36
  let main_v38 : FVec F S1x512x1024 .f32 := Host.absf main_arg11
  let main_cst_10 : FVec F S_ .f32 := constant S_ .f32 0x7F800000#32
  let main_v39 : FVec F S1x512x1024 .f32 := broadcastInDim S1x512x1024 ![] bcast_S_S1x512x1024 main_cst_10
  let main_v40 : IVec S1x512x1024 1 := cmpf .olt main_v38 main_v39
  let main_v41 : FVec F S1x1024x1024 .f32 := Host.absf main_arg12
  let main_cst_11 : FVec F S_ .f32 := constant S_ .f32 0x7F800000#32
  let main_v42 : FVec F S1x1024x1024 .f32 := broadcastInDim S1x1024x1024 ![] bcast_S_S1x1024x1024 main_cst_11
  let main_v43 : IVec S1x1024x1024 1 := cmpf .olt main_v41 main_v42
  (main_v7, main_v10, main_v13, main_v16, main_v19, main_v22, main_v25, main_v28, main_v31, main_v34, main_v37, main_v40, main_v43)

def fn_part1 {F : FTy → Type} [FloatOps F] (main_arg5 : FVec F S1x128 .f32) (main_arg6 : FVec F S1x512 .f32) (main_arg7 : FVec F S1x512 .f32) (main_arg8 : FVec F S1x4x128x128 .f32) (main_arg9 : FVec F S1x4x128 .f32) (main_arg10 : FVec F S1x512x1024 .f32) (main_arg11 : FVec F S1x512x1024 .f32) (main_arg12 : FVec F S1x1024x1024 .f32) (main_v7 : IVec S4x2048x3584 1) (main_v10 : IVec S4x2048x512 1) (main_v13 : IVec S4x2048x512 1) (main_v16 : IVec S4x2048x1024 1) (main_v17 : FVec F S4x1024 .f32) (main_v18 : FVec F S4x1024 .f32) : IVec S4x2048x3584 1 × IVec S4x2048x512 1 × IVec S4x2048x512 1 × IVec S4x2048x1024 1 × IVec S4x1024 1 × IVec S1x128 1 × IVec S1x512 1 × IVec S1x512 1 × IVec S1x4x128x128 1 × IVec S1x4x128 1 × IVec S1x512x1024 1 × IVec S1x512x1024 1 × IVec S1x1024x1024 1 :=
  let main_v19 : IVec S4x1024 1 := cmpf .olt main_v17 main_v18
  let main_v20 : FVec F S1x128 .f32 := Host.absf main_arg5
  let main_cst_4 : FVec F S_ .f32 := constant S_ .f32 0x7F800000#32
  let main_v21 : FVec F S1x128 .f32 := broadcastInDim S1x128 ![] bcast_S_S1x128 main_cst_4
  let main_v22 : IVec S1x128 1 := cmpf .olt main_v20 main_v21
  let main_v23 : FVec F S1x512 .f32 := Host.absf main_arg6
  let main_cst_5 : FVec F S_ .f32 := constant S_ .f32 0x7F800000#32
  let main_v24 : FVec F S1x512 .f32 := broadcastInDim S1x512 ![] bcast_S_S1x512 main_cst_5
  let main_v25 : IVec S1x512 1 := cmpf .olt main_v23 main_v24
  let main_v26 : FVec F S1x512 .f32 := Host.absf main_arg7
  let main_cst_6 : FVec F S_ .f32 := constant S_ .f32 0x7F800000#32
  let main_v27 : FVec F S1x512 .f32 := broadcastInDim S1x512 ![] bcast_S_S1x512 main_cst_6
  let main_v28 : IVec S1x512 1 := cmpf .olt main_v26 main_v27
  let main_v29 : FVec F S1x4x128x128 .f32 := Host.absf main_arg8
  let main_cst_7 : FVec F S_ .f32 := constant S_ .f32 0x7F800000#32
  let main_v30 : FVec F S1x4x128x128 .f32 := broadcastInDim S1x4x128x128 ![] bcast_S_S1x4x128x128 main_cst_7
  let main_v31 : IVec S1x4x128x128 1 := cmpf .olt main_v29 main_v30
  let main_v32 : FVec F S1x4x128 .f32 := Host.absf main_arg9
  let main_cst_8 : FVec F S_ .f32 := constant S_ .f32 0x7F800000#32
  let main_v33 : FVec F S1x4x128 .f32 := broadcastInDim S1x4x128 ![] bcast_S_S1x4x128 main_cst_8
  let main_v34 : IVec S1x4x128 1 := cmpf .olt main_v32 main_v33
  let main_v35 : FVec F S1x512x1024 .f32 := Host.absf main_arg10
  let main_cst_9 : FVec F S_ .f32 := constant S_ .f32 0x7F800000#32
  let main_v36 : FVec F S1x512x1024 .f32 := broadcastInDim S1x512x1024 ![] bcast_S_S1x512x1024 main_cst_9
  fn_part2 (F := F) main_arg11 main_arg12 main_v7 main_v10 main_v13 main_v16 main_v19 main_v22 main_v25 main_v28 main_v31 main_v34 main_v35 main_v36

def fn {F : FTy → Type} [FloatOps F] (main_arg0 : FVec F S4x2304x5632 .f32) (main_arg1 : FVec F S4x2304x512 .f32) (main_arg2 : FVec F S4x2304x512 .f32) (main_arg3 : FVec F S4x2048x1024 .f32) (main_arg4 : FVec F S4x6x1024 .f32) (main_arg5 : FVec F S1x128 .f32) (main_arg6 : FVec F S1x512 .f32) (main_arg7 : FVec F S1x512 .f32) (main_arg8 : FVec F S1x4x128x128 .f32) (main_arg9 : FVec F S1x4x128 .f32) (main_arg10 : FVec F S1x512x1024 .f32) (main_arg11 : FVec F S1x512x1024 .f32) (main_arg12 : FVec F S1x1024x1024 .f32) : IVec S4x2048x3584 1 × IVec S4x2048x512 1 × IVec S4x2048x512 1 × IVec S4x2048x1024 1 × IVec S4x1024 1 × IVec S1x128 1 × IVec S1x512 1 × IVec S1x512 1 × IVec S1x4x128x128 1 × IVec S1x4x128 1 × IVec S1x512x1024 1 × IVec S1x512x1024 1 × IVec S1x1024x1024 1 :=
  let main_v0 : FVec F S4x2048x3584 .f32 := (extractStridedSlice S4x2048x3584 ![0, 256, 2048] · slices_S4x2304x5632_S4x2048x3584_0_256_2048) main_arg0
  let main_v1 : FVec F S4x2048x512 .f32 := (extractStridedSlice S4x2048x512 ![0, 256, 0] · slices_S4x2304x512_S4x2048x512_0_256_0) main_arg1
  let main_v2 : FVec F S4x2048x512 .f32 := (extractStridedSlice S4x2048x512 ![0, 256, 0] · slices_S4x2304x512_S4x2048x512_0_256_0) main_arg2
  let main_v3 : FVec F S4x1x1024 .f32 := (extractStridedSlice S4x1x1024 ![0, 2, 0] · slices_S4x6x1024_S4x1x1024_0_2_0) main_arg4
  let main_v4 : FVec F S4x1024 .f32 := shapeCast S4x1024 main_v3 shapeCasts_S4x1x1024_S4x1024
  let main_v5 : FVec F S4x2048x3584 .f32 := Host.absf main_v0
  let main_cst : FVec F S_ .f32 := constant S_ .f32 0x7F800000#32
  let main_v6 : FVec F S4x2048x3584 .f32 := broadcastInDim S4x2048x3584 ![] bcast_S_S4x2048x3584 main_cst
  let main_v7 : IVec S4x2048x3584 1 := cmpf .olt main_v5 main_v6
  let main_v8 : FVec F S4x2048x512 .f32 := Host.absf main_v1
  let main_cst_0 : FVec F S_ .f32 := constant S_ .f32 0x7F800000#32
  let main_v9 : FVec F S4x2048x512 .f32 := broadcastInDim S4x2048x512 ![] bcast_S_S4x2048x512 main_cst_0
  let main_v10 : IVec S4x2048x512 1 := cmpf .olt main_v8 main_v9
  let main_v11 : FVec F S4x2048x512 .f32 := Host.absf main_v2
  let main_cst_1 : FVec F S_ .f32 := constant S_ .f32 0x7F800000#32
  let main_v12 : FVec F S4x2048x512 .f32 := broadcastInDim S4x2048x512 ![] bcast_S_S4x2048x512 main_cst_1
  let main_v13 : IVec S4x2048x512 1 := cmpf .olt main_v11 main_v12
  let main_v14 : FVec F S4x2048x1024 .f32 := Host.absf main_arg3
  let main_cst_2 : FVec F S_ .f32 := constant S_ .f32 0x7F800000#32
  let main_v15 : FVec F S4x2048x1024 .f32 := broadcastInDim S4x2048x1024 ![] bcast_S_S4x2048x1024 main_cst_2
  let main_v16 : IVec S4x2048x1024 1 := cmpf .olt main_v14 main_v15
  let main_v17 : FVec F S4x1024 .f32 := Host.absf main_v4
  let main_cst_3 : FVec F S_ .f32 := constant S_ .f32 0x7F800000#32
  let main_v18 : FVec F S4x1024 .f32 := broadcastInDim S4x1024 ![] bcast_S_S4x1024 main_cst_3
  fn_part1 (F := F) main_arg5 main_arg6 main_arg7 main_arg8 main_arg9 main_arg10 main_arg11 main_arg12 main_v7 main_v10 main_v13 main_v16 main_v17 main_v18
-- ==== Pre_mod_finite.lean ====
abbrev S32x1024 : Shape := ⟨2, ![32, 1024]⟩
abbrev S1024 : Shape := ⟨1, ![1024]⟩
abbrev S2x2x512 : Shape := ⟨3, ![2, 2, 512]⟩
abbrev S1x1024x6144 : Shape := ⟨3, ![1, 1024, 6144]⟩
abbrev S1x6144 : Shape := ⟨2, ![1, 6144]⟩
abbrev S32x6144 : Shape := ⟨2, ![32, 6144]⟩
abbrev S8x6144 : Shape := ⟨2, ![8, 6144]⟩
abbrev S_ : Shape := ⟨0, ![]⟩

class Facts : Prop where
  bcast_S_S32x1024 : S_.BroadcastsInDim S32x1024 (![] : Fin 0 → Fin S32x1024.rank)
  bcast_S_S1024 : S_.BroadcastsInDim S1024 (![] : Fin 0 → Fin S1024.rank)
  bcast_S_S1x1024x6144 : S_.BroadcastsInDim S1x1024x6144 (![] : Fin 0 → Fin S1x1024x6144.rank)
  bcast_S_S32x6144 : S_.BroadcastsInDim S32x6144 (![] : Fin 0 → Fin S32x6144.rank)
  bcast_S_S8x6144 : S_.BroadcastsInDim S8x6144 (![] : Fin 0 → Fin S8x6144.rank)

variable [Facts]

def fn {F : FTy → Type} [FloatOps F] (main_arg0 : FVec F S32x1024 .f32) (main_arg1 : FVec F S1024 .f32) (main_arg2 : FVec F S2x2x512 .f32) (main_arg3 : FVec F S1x1024x6144 .f32) (main_arg4 : FVec F S1x6144 .f32) (main_arg5 : FVec F S32x6144 .f32) (main_arg6 : FVec F S8x6144 .f32) : IVec S32x1024 1 × IVec S1024 1 × IVec S1x1024x6144 1 × IVec S32x6144 1 × IVec S8x6144 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1x1024x6144 .f32 := Host.absf main_arg3
  let main_cst_1 : FVec F S_ .f32 := constant S_ .f32 0x7F800000#32
  let main_v7 : FVec F S1x1024x6144 .f32 := broadcastInDim S1x1024x6144 ![] bcast_S_S1x1024x6144 main_cst_1
  let main_v8 : IVec S1x1024x6144 1 := cmpf .olt main_v6 main_v7
  let main_v9 : FVec F S32x6144 .f32 := Host.absf main_arg5
  let main_cst_2 : FVec F S_ .f32 := constant S_ .f32 0x7F800000#32
  let main_v10 : FVec F S32x6144 .f32 := broadcastInDim S32x6144 ![] bcast_S_S32x6144 main_cst_2
  let main_v11 : IVec S32x6144 1 := cmpf .olt main_v9 main_v10
  let main_v12 : FVec F S8x6144 .f32 := Host.absf main_arg6
  let main_cst_3 : FVec F S_ .f32 := constant S_ .f32 0x7F800000#32
  let main_v13 : FVec F S8x6144 .f32 := broadcastInDim S8x6144 ![] bcast_S_S8x6144 main_cst_3
  let main_v14 : IVec S8x6144 1 := cmpf .olt main_v12 main_v13
  (main_v2, main_v5, main_v8, main_v11, main_v14)
-- ==== Pre_red_finite.lean ====
abbrev S640x1024 : Shape := ⟨2, ![640, 1024]⟩
abbrev S2x2x512 : Shape := ⟨3, ![2, 2, 512]⟩
abbrev S8x80x1024 : Shape := ⟨3, ![8, 80, 1024]⟩
abbrev S8x1x1024 : Shape := ⟨3, ![8, 1, 1024]⟩
abbrev S8x1024 : Shape := ⟨2, ![8, 1024]⟩
abbrev S_ : Shape := ⟨0, ![]⟩

class Facts : Prop where
  shapeCasts_S640x1024_S8x80x1024 : S640x1024.ShapeCasts S8x80x1024
  slices_S8x80x1024_S8x1x1024_0_7_0 : S8x80x1024.Slices ![0, 7, 0] S8x1x1024
  shapeCasts_S8x1x1024_S8x1024 : S8x1x1024.ShapeCasts S8x1024
  bcast_S_S8x1024 : S_.BroadcastsInDim S8x1024 (![] : Fin 0 → Fin S8x1024.rank)
  bcast_S_S2x2x512 : S_.BroadcastsInDim S2x2x512 (![] : Fin 0 → Fin S2x2x512.rank)

variable [Facts]

def fn {F : FTy → Type} [FloatOps F] (main_arg0 : FVec F S640x1024 .f32) (main_arg1 : FVec F S2x2x512 .f32) : IVec S8x1024 1 × IVec S2x2x512 1 :=
  let main_v0 : FVec F S8x80x1024 .f32 := shapeCast S8x80x1024 main_arg0 shapeCasts_S640x1024_S8x80x1024
  let main_v1 : FVec F S8x1x1024 .f32 := (extractStridedSlice S8x1x1024 ![0, 7, 0] · slices_S8x80x1024_S8x1x1024_0_7_0) main_v0
  let main_v2 : FVec F S8x1024 .f32 := shapeCast S8x1024 main_v1 shapeCasts_S8x1x1024_S8x1024
  let main_v3 : FVec F S8x1024 .f32 := Host.absf main_v2
  let main_cst : FVec F S_ .f32 := constant S_ .f32 0x7F800000#32
  let main_v4 : FVec F S8x1024 .f32 := broadcastInDim S8x1024 ![] bcast_S_S8x1024 main_cst
  let main_v5 : IVec S8x1024 1 := cmpf .olt main_v3 main_v4
  let main_v6 : FVec F S2x2x512 .f32 := Host.absf main_arg1
  let main_cst_0 : FVec F S_ .f32 := constant S_ .f32 0x7F800000#32
  let main_v7 : FVec F S2x2x512 .f32 := broadcastInDim S2x2x512 ![] bcast_S_S2x2x512 main_cst_0
  let main_v8 : IVec S2x2x512 1 := cmpf .olt main_v6 main_v7
  (main_v5, main_v8)
-- ==== Mod.lean ====
abbrev S32x1024 : Shape := ⟨2, ![32, 1024]⟩
abbrev S1024 : Shape := ⟨1, ![1024]⟩
abbrev S2x2x512 : Shape := ⟨3, ![2, 2, 512]⟩
abbrev S1x1024x6144 : Shape := ⟨3, ![1, 1024, 6144]⟩
abbrev S1x6144 : Shape := ⟨2, ![1, 6144]⟩
abbrev S32x6144 : Shape := ⟨2, ![32, 6144]⟩
abbrev S8x6144 : Shape := ⟨2, ![8, 6144]⟩
abbrev S4x4x128 : Shape := ⟨3, ![4, 4, 128]⟩
abbrev S4x1x512 : Shape := ⟨3, ![4, 1, 512]⟩
abbrev S_ : Shape := ⟨0, ![]⟩
abbrev S4x1x1024 : Shape := ⟨3, ![4, 1, 1024]⟩
abbrev S4x2x1024 : Shape := ⟨3, ![4, 2, 1024]⟩
abbrev S8x1x1024 : Shape := ⟨3, ![8, 1, 1024]⟩
abbrev S8x4x1024 : Shape := ⟨3, ![8, 4, 1024]⟩
abbrev S8x2x1024 : Shape := ⟨3, ![8, 2, 1024]⟩
abbrev S8x8x1024 : Shape := ⟨3, ![8, 8, 1024]⟩
abbrev S64x1024 : Shape := ⟨2, ![64, 1024]⟩
abbrev S8x4x6144 : Shape := ⟨3, ![8, 4, 6144]⟩
abbrev S8x1x6144 : Shape := ⟨3, ![8, 1, 6144]⟩
abbrev S8x3x6144 : Shape := ⟨3, ![8, 3, 6144]⟩
abbrev S8x8x6144 : Shape := ⟨3, ![8, 8, 6144]⟩
abbrev S64x6144 : Shape := ⟨2, ![64, 6144]⟩
abbrev S64x1536 : Shape := ⟨2, ![64, 1536]⟩
abbrev S1024x6144 : Shape := ⟨2, ![1024, 6144]⟩
abbrev S1024x1536 : Shape := ⟨2, ![1024, 1536]⟩
abbrev S1x1024 : Shape := ⟨2, ![1, 1024]⟩
abbrev S6144 : Shape := ⟨1, ![6144]⟩

abbrev nBuf : Space → Nat
  | .hbm => 34
  | .vmem => 8
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S2x2x512, .f32⟩
  | .hbm, ⟨3, _⟩ => ⟨S1x1024x6144, .f32⟩
  | .hbm, ⟨4, _⟩ => ⟨S1x6144, .f32⟩
  | .hbm, ⟨5, _⟩ => ⟨S32x6144, .f32⟩
  | .hbm, ⟨6, _⟩ => ⟨S8x6144, .f32⟩
  | .hbm, ⟨7, _⟩ => ⟨S4x4x128, .f32⟩
  | .hbm, ⟨8, _⟩ => ⟨S4x4x128, .f32⟩
  | .hbm, ⟨9, _⟩ => ⟨S4x1x512, .f32⟩
  | .hbm, ⟨10, _⟩ => ⟨S_, .f32⟩
  | .hbm, ⟨11, _⟩ => ⟨S4x1x512, .f32⟩
  | .hbm, ⟨12, _⟩ => ⟨S4x1x1024, .f32⟩
  | .hbm, ⟨13, _⟩ => ⟨S4x2x1024, .f32⟩
  | .hbm, ⟨14, _⟩ => ⟨S8x1x1024, .f32⟩
  | .hbm, ⟨15, _⟩ => ⟨S8x4x1024, .f32⟩
  | .hbm, ⟨16, _⟩ => ⟨S8x1x1024, .f32⟩
  | .hbm, ⟨17, _⟩ => ⟨S_, .f32⟩
  | .hbm, ⟨18, _⟩ => ⟨S8x2x1024, .f32⟩
  | .hbm, ⟨19, _⟩ => ⟨S8x8x1024, .f32⟩
  | .hbm, ⟨20, _⟩ => ⟨S64x1024, .f32⟩
  | .hbm, ⟨21, _⟩ => ⟨S8x4x6144, .f32⟩
  | .hbm, ⟨22, _⟩ => ⟨S8x1x6144, .f32⟩
  | .hbm, ⟨23, _⟩ => ⟨S_, .f32⟩
  | .hbm, ⟨24, _⟩ => ⟨S8x3x6144, .f32⟩
  | .hbm, ⟨25, _⟩ => ⟨S8x8x6144, .f32⟩
  | .hbm, ⟨26, _⟩ => ⟨S64x6144, .f32⟩
  | .hbm, ⟨27, _⟩ => ⟨S64x1536, .f32⟩
  | .hbm, ⟨28, _⟩ => ⟨S1024x6144, .f32⟩
  | .hbm, ⟨29, _⟩ => ⟨S1024x1536, .f32⟩
  | .hbm, ⟨30, _⟩ => ⟨S1x1024, .f32⟩
  | .hbm, ⟨31, _⟩ => ⟨S1024x1536, .f32⟩
  | .hbm, ⟨32, _⟩ => ⟨S1x6144, .f32⟩
  | .hbm, ⟨33, _⟩ => ⟨S1x1024, .f32⟩
  | .local _ .vmem, ⟨0, _⟩ => ⟨S64x1024, .f32⟩
  | .local _ .vmem, ⟨1, _⟩ => ⟨S64x6144, .f32⟩
  | .local _ .vmem, ⟨2, _⟩ => ⟨S64x1536, .f32⟩
  | .local _ .vmem, ⟨3, _⟩ => ⟨S1024x1536, .f32⟩
  | .local _ .vmem, ⟨4, _⟩ => ⟨S1x1024, .f32⟩
  | .local _ .vmem, ⟨5, _⟩ => ⟨S1024x1536, .f32⟩
  | .local _ .vmem, ⟨6, _⟩ => ⟨S1x6144, .f32⟩
  | .local _ .vmem, ⟨7, _⟩ => ⟨S1x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ModRefIdeal.lean ====
abbrev S32x1024 : Shape := ⟨2, ![32, 1024]⟩
abbrev S1024 : Shape := ⟨1, ![1024]⟩
abbrev S2x2x512 : Shape := ⟨3, ![2, 2, 512]⟩
abbrev S1x1024x6144 : Shape := ⟨3, ![1, 1024, 6144]⟩
abbrev S1x6144 : Shape := ⟨2, ![1, 6144]⟩
abbrev S32x6144 : Shape := ⟨2, ![32, 6144]⟩
abbrev S8x6144 : Shape := ⟨2, ![8, 6144]⟩
abbrev S_ : Shape := ⟨0, ![]⟩
abbrev S6144 : Shape := ⟨1, ![6144]⟩
abbrev S1024x6144 : Shape := ⟨2, ![1024, 6144]⟩
abbrev S1x1024 : Shape := ⟨2, ![1, 1024]⟩
abbrev S6144x1024 : Shape := ⟨2, ![6144, 1024]⟩
abbrev S1x1024x1536 : Shape := ⟨3, ![1, 1024, 1536]⟩
abbrev S1x1536 : Shape := ⟨2, ![1, 1536]⟩
abbrev S1024x1536 : Shape := ⟨2, ![1024, 1536]⟩
abbrev S32x1536 : Shape := ⟨2, ![32, 1536]⟩
abbrev S1536 : Shape := ⟨1, ![1536]⟩

abbrev nBuf : Space → Nat
  | .hbm => 105
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S2x2x512, .f32⟩
  | .hbm, ⟨3, _⟩ => ⟨S1x1024x6144, .f32⟩
  | .hbm, ⟨4, _⟩ => ⟨S1x6144, .f32⟩
  | .hbm, ⟨5, _⟩ => ⟨S32x6144, .f32⟩
  | .hbm, ⟨6, _⟩ => ⟨S8x6144, .f32⟩
  | .hbm, ⟨7, _⟩ => ⟨S_, .f32⟩
  | .hbm, ⟨8, _⟩ => ⟨S6144, .f32⟩
  | .hbm, ⟨9, _⟩ => ⟨S32x1024, .f32⟩
  | .hbm, ⟨10, _⟩ => ⟨S32x1024, .f32⟩
  | .hbm, ⟨11, _⟩ => ⟨S_, .f32⟩
  | .hbm, ⟨12, _⟩ => ⟨S32x1024, .f32⟩
  | .hbm, ⟨13, _⟩ => ⟨S32x1024, .f32⟩
  | .hbm, ⟨14, _⟩ => ⟨S_, .f32⟩
  | .hbm, ⟨15, _⟩ => ⟨S32x1024, .f32⟩
  | .hbm, ⟨16, _⟩ => ⟨S32x1024, .f32⟩
  | .hbm, ⟨17, _⟩ => ⟨S32x1024, .f32⟩
  | .hbm, ⟨18, _⟩ => ⟨S1024x6144, .f32⟩
  | .hbm, ⟨19, _⟩ => ⟨S32x6144, .f32⟩
  | .hbm, ⟨20, _⟩ => ⟨S6144, .f32⟩
  | .hbm, ⟨21, _⟩ => ⟨S1x6144, .f32⟩
  | .hbm, ⟨22, _⟩ => ⟨S32x6144, .f32⟩
  | .hbm, ⟨23, _⟩ => ⟨S32x6144, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1024, .f32⟩
  | .hbm, ⟨33, _⟩ => ⟨S1x1024, .f32⟩
  | .hbm, ⟨34, _⟩ => ⟨S1024x6144, .f32⟩
  | .hbm, ⟨35, _⟩ => ⟨S1x6144, .f32⟩
  | .hbm, ⟨36, _⟩ => ⟨S6144, .f32⟩
  | .hbm, ⟨37, _⟩ => ⟨S6144, .f32⟩
  | .hbm, ⟨38, _⟩ => ⟨S6144, .f32⟩
  | .hbm, ⟨39, _⟩ => ⟨S1x6144, .f32⟩
  | .hbm, ⟨40, _⟩ => ⟨S1x6144, .f32⟩
  | .hbm, ⟨41, _⟩ => ⟨S6144x1024, .f32⟩
  | .hbm, ⟨42, _⟩ => ⟨S1024x6144, .f32⟩
  | .hbm, ⟨43, _⟩ => ⟨S1x1024x6144, .f32⟩
  | .hbm, ⟨44, _⟩ => ⟨S32x6144, .f32⟩
  | .hbm, ⟨45, _⟩ => ⟨S_, .f32⟩
  | .hbm, ⟨46, _⟩ => ⟨S6144, .f32⟩
  | .hbm, ⟨47, _⟩ => ⟨S1x6144, .f32⟩
  | .hbm, ⟨48, _⟩ => ⟨S_, .f32⟩
  | .hbm, ⟨49, _⟩ => ⟨S6144, .f32⟩
  | .hbm, ⟨50, _⟩ => ⟨S1x6144, .f32⟩
  | .hbm, ⟨51, _⟩ => ⟨S1x6144, .f32⟩
  | .hbm, ⟨52, _⟩ => ⟨S6144x1024, .f32⟩
  | .hbm, ⟨53, _⟩ => ⟨S1024x6144, .f32⟩
  | .hbm, ⟨54, _⟩ => ⟨S1x1024x6144, .f32⟩
  | .hbm, ⟨55, _⟩ => ⟨S1x1024x6144, .f32⟩
  | .hbm, ⟨56, _⟩ => ⟨S1x1024x1536, .f32⟩
  | .hbm, ⟨57, _⟩ => ⟨S1x1536, .f32⟩
  | .hbm, ⟨58, _⟩ => ⟨S32x1024, .f32⟩
  | .hbm, ⟨59, _⟩ => ⟨S32x1024, .f32⟩
  | .hbm, ⟨60, _⟩ => ⟨S_, .f32⟩
  | .hbm, ⟨61, _⟩ => ⟨S32x1024, .f32⟩
  | .hbm, ⟨62, _⟩ => ⟨S32x1024, .f32⟩
  | .hbm, ⟨63, _⟩ => ⟨S_, .f32⟩
  | .hbm, ⟨64, _⟩ => ⟨S32x1024, .f32⟩
  | .hbm, ⟨65, _⟩ => ⟨S32x1024, .f32⟩
  | .hbm, ⟨66, _⟩ => ⟨S32x1024, .f32⟩
  | .hbm, ⟨67, _⟩ => ⟨S1024x1536, .f32⟩
  | .hbm, ⟨68, _⟩ => ⟨S32x1536, .f32⟩
  | .hbm, ⟨69, _⟩ => ⟨S1536, .f32⟩
  | .hbm, ⟨70, _⟩ => ⟨S1x1536, .f32⟩
  | .hbm, ⟨71, _⟩ => ⟨S32x1536, .f32⟩
  | .hbm, ⟨72, _⟩ => ⟨S32x1536, .f32⟩
  | .hbm, ⟨73, _⟩ => ⟨S1024, .f32⟩
  | .hbm, ⟨74, _⟩ => ⟨S1024, .f32⟩
  | .hbm, ⟨75, _⟩ => ⟨S_, .f32⟩
  | .hbm, ⟨76, _⟩ => ⟨S1024, .f32⟩
  | .hbm, ⟨77, _⟩ => ⟨S1024, .f32⟩
  | .hbm, ⟨78, _⟩ => ⟨S_, .f32⟩
  | .hbm, ⟨79, _⟩ => ⟨S1024, .f32⟩
  | .hbm, ⟨80, _⟩ => ⟨S1024, .f32⟩
  | .hbm, ⟨81, _⟩ => ⟨S_, .f32⟩
  | .hbm, ⟨82, _⟩ => ⟨S1024, .f32⟩
  | .hbm, ⟨83, _⟩ => ⟨S1024, .f32⟩
  | .hbm, ⟨84, _⟩ => ⟨S1024, .f32⟩
  | .hbm, ⟨85, _⟩ => ⟨S1024, .f32⟩
  | .hbm, ⟨86, _⟩ => ⟨S1x1024, .f32⟩
  | .hbm, ⟨87, _⟩ => ⟨S1024x1536, .f32⟩
  | .hbm, ⟨88, _⟩ => ⟨S1x1536, .f32⟩
  | .hbm, ⟨89, _⟩ => ⟨S1536, .f32⟩
  | .hbm, ⟨90, _⟩ => ⟨S1536, .f32⟩
  | .hbm, ⟨91, _⟩ => ⟨S1536, .f32⟩
  | .hbm, ⟨92, _⟩ => ⟨S32x1536, .f32⟩
  | .hbm, ⟨93, _⟩ => ⟨S1536, .f32⟩
  | .hbm, ⟨94, _⟩ => ⟨S1x1536, .f32⟩
  | .hbm, ⟨95, _⟩ => ⟨S1x1024, .f32⟩
  | .hbm, ⟨96, _⟩ => ⟨S_, .f32⟩
  | .hbm, ⟨97, _⟩ => ⟨S1024, .f32⟩
  | .hbm, ⟨98, _⟩ => ⟨S1024, .f32⟩
  | .hbm, ⟨99, _⟩ => ⟨S1024, .f32⟩
  | .hbm, ⟨100, _⟩ => ⟨S1024, .f32⟩
  | .hbm, ⟨101, _⟩ => ⟨S1024, .f32⟩
  | .hbm, ⟨102, _⟩ => ⟨S1024x6144, .f32⟩
  | .hbm, ⟨103, _⟩ => ⟨S1024x1536, .f32⟩
  | .hbm, ⟨104, _⟩ => ⟨S1x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_0 : Ref sig .tc := ⟨.hbm, 45, rfl⟩
abbrev main_v21 : Ref sig .tc := ⟨.hbm, 46, rfl⟩
abbrev main_v22 : Ref sig .tc := ⟨.hbm, 47, rfl⟩
abbrev main_cst_1 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_call2_v0 : Ref sig .tc := ⟨.hbm, 58, rfl⟩
abbrev main_call2_v1 : Ref sig .tc := ⟨.hbm, 59, rfl⟩
abbrev main_call2_cst : Ref sig .tc := ⟨.hbm, 60, rfl⟩
abbrev main_call2_v2 : Ref sig .tc := ⟨.hbm, 61, rfl⟩
abbrev main_call2_v3 : Ref sig .tc := ⟨.hbm, 62, rfl⟩
abbrev main_call2_cst_0 : Ref sig .tc := ⟨.hbm, 63, rfl⟩
abbrev main_call2_v4 : Ref sig .tc := ⟨.hbm, 64, rfl⟩
abbrev main_call2_v5 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_call3_v0 : Ref sig .tc := ⟨.hbm, 73, rfl⟩
abbrev main_call3_v1 : Ref sig .tc := ⟨.hbm, 74, rfl⟩
abbrev main_call3_cst : Ref sig .tc := ⟨.hbm, 75, rfl⟩
abbrev main_call3_v2 : Ref sig .tc := ⟨.hbm, 76, rfl⟩
abbrev main_call3_v3 : Ref sig .tc := ⟨.hbm, 77, rfl⟩
abbrev main_call3_cst_0 : Ref sig .tc := ⟨.hbm, 78, rfl⟩
abbrev main_call3_v4 : Ref sig .tc := ⟨.hbm, 79, rfl⟩
abbrev main_v39_2 : Ref sig .tc := ⟨.hbm, 80, rfl⟩
abbrev main_call3_cst_1 : Ref sig .tc := ⟨.hbm, 81, rfl⟩
abbrev main_call3_v6 : Ref sig .tc := ⟨.hbm, 82, rfl⟩
abbrev main_call3_v7 : Ref sig .tc := ⟨.hbm, 83, rfl⟩
abbrev main_v39_1 : Ref sig .tc := ⟨.hbm, 84, rfl⟩
abbrev main_v39_0 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_cst_2 : Ref sig .tc := ⟨.hbm, 96, rfl⟩
abbrev main_v50 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩

abbrev nD : Nat := 1
abbrev τ : Topo := Topo.v7x

variable {F : FTy → Type} [FloatOps F]
-- ==== Ffn.lean ====
abbrev S4x2048x1024 : Shape := ⟨3, ![4, 2048, 1024]⟩
abbrev S4x6x1024 : Shape := ⟨3, ![4, 6, 1024]⟩
abbrev S1x1024 : Shape := ⟨2, ![1, 1024]⟩
abbrev S1024 : Shape := ⟨1, ![1024]⟩
abbrev S1x1024x5632 : Shape := ⟨3, ![1, 1024, 5632]⟩
abbrev S1x2816x1024 : Shape := ⟨3, ![1, 2816, 1024]⟩
abbrev S4x4x1024 : Shape := ⟨3, ![4, 4, 1024]⟩
abbrev S_ : Shape := ⟨0, ![]⟩
abbrev S4x8x1024 : Shape := ⟨3, ![4, 8, 1024]⟩
abbrev S1024x5632 : Shape := ⟨2, ![1024, 5632]⟩
abbrev S2816x1024 : Shape := ⟨2, ![2816, 1024]⟩
abbrev S4x2048x5632 : Shape := ⟨3, ![4, 2048, 5632]⟩
abbrev S4x2048x2816 : Shape := ⟨3, ![4, 2048, 2816]⟩
abbrev S1x1 : Shape := ⟨2, ![1, 1]⟩
abbrev S1x256x1024 : Shape := ⟨3, ![1, 256, 1024]⟩
abbrev S1x8x1024 : Shape := ⟨3, ![1, 8, 1024]⟩
abbrev S1x256x5632 : Shape := ⟨3, ![1, 256, 5632]⟩
abbrev S1x256x2816 : Shape := ⟨3, ![1, 256, 2816]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩
abbrev S1 : Shape := ⟨1, ![1]⟩

abbrev nBuf : Space → Nat
  | .hbm => 25
  | .vmem => 25
  | .smem => 0
  | _ => 0

abbrev bufTy : (tb : Table) → Fin (tcTables nBuf tb) → BufTy
  | .hbm, ⟨0, _⟩ => ⟨S4x2048x1024, .f32⟩
  | .hbm, ⟨1, _⟩ => ⟨S4x6x1024, .f32⟩
  | .hbm, ⟨2, _⟩ => ⟨S1x1024, .f32⟩
  | .hbm, ⟨3, _⟩ => ⟨S1024, .f32⟩
  | .hbm, ⟨4, _⟩ => ⟨S1x1024x5632, .f32⟩
  | .hbm, ⟨5, _⟩ => ⟨S1x2816x1024, .f32⟩
  | .hbm, ⟨6, _⟩ => ⟨S4x2048x1024, .f32⟩
  | .hbm, ⟨7, _⟩ => ⟨S4x4x1024, .f32⟩
  | .hbm, ⟨8, _⟩ => ⟨S_, .f32⟩
  | .hbm, ⟨9, _⟩ => ⟨S4x4x1024, .f32⟩
  | .hbm, ⟨10, _⟩ => ⟨S4x8x1024, .f32⟩
  | .hbm, ⟨11, _⟩ => ⟨S1x1024, .f32⟩
  | .hbm, ⟨12, _⟩ => ⟨S1024x5632, .f32⟩
  | .hbm, ⟨13, _⟩ => ⟨S1024x5632, .bf16⟩
  | .hbm, ⟨14, _⟩ => ⟨S2816x1024, .f32⟩
  | .hbm, ⟨15, _⟩ => ⟨S2816x1024, .bf16⟩
  | .hbm, ⟨16, _⟩ => ⟨S4x2048x1024, .f32⟩
  | .hbm, ⟨17, _⟩ => ⟨S4x2048x1024, .bf16⟩
  | .hbm, ⟨18, _⟩ => ⟨S4x2048x5632, .bf16⟩
  | .hbm, ⟨19, _⟩ => ⟨S4x2048x2816, .bf16⟩
  | .hbm, ⟨20, _⟩ => ⟨S4x2048x1024, .bf16⟩
  | .hbm, ⟨21, _⟩ => ⟨S1x1, .f32⟩
  | .hbm, ⟨22, _⟩ => ⟨S1x1024, .f32⟩
  | .hbm, ⟨23, _⟩ => ⟨S1x1024, .f32⟩
  | .hbm, ⟨24, _⟩ => ⟨S4x8x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1x1024, .f32⟩
  | .local _ .vmem, ⟨8, _⟩ => ⟨S1024x5632, .bf16⟩
  | .local _ .vmem, ⟨9, _⟩ => ⟨S2816x1024, .bf16⟩
  | .local _ .vmem, ⟨10, _⟩ => ⟨S1x256x1024, .f32⟩
  | .local _ .vmem, ⟨11, _⟩ => ⟨S1x256x1024, .f32⟩
  | .local _ .vmem, ⟨12, _⟩ => ⟨S1x256x1024, .bf16⟩
  | .local _ .vmem, ⟨13, _⟩ => ⟨S1x256x1024, .bf16⟩
  | .local _ .vmem, ⟨14, _⟩ => ⟨S1x256x5632, .bf16⟩
  | .local _ .vmem, ⟨15, _⟩ => ⟨S1x256x5632, .bf16⟩
  | .local _ .vmem, ⟨16, _⟩ => ⟨S1x256x2816, .bf16⟩
  | .local _ .vmem, ⟨17, _⟩ => ⟨S1x256x2816, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x1, .f32⟩
  | .local _ .vmem, ⟨21, _⟩ => ⟨S1x1024, .f32⟩
  | .local _ .vmem, ⟨22, _⟩ => ⟨S1x1024, .f32⟩
  | .local _ .vmem, ⟨23, _⟩ => ⟨S1x8x1024, .f32⟩
  | .local _ .vmem, ⟨24, _⟩ => ⟨S1x8x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev main_v8_6 : Ref sig .tc := ⟨.hbm, 22, rfl⟩
abbrev main_v8_7 : Ref sig .tc := ⟨.hbm, 23, rfl⟩
abbrev main_v8_8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x8x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== FfnRefIdeal.lean ====
abbrev S4x2048x1024 : Shape := ⟨3, ![4, 2048, 1024]⟩
abbrev S4x6x1024 : Shape := ⟨3, ![4, 6, 1024]⟩
abbrev S1x1024 : Shape := ⟨2, ![1, 1024]⟩
abbrev S1024 : Shape := ⟨1, ![1024]⟩
abbrev S1x1024x5632 : Shape := ⟨3, ![1, 1024, 5632]⟩
abbrev S1x2816x1024 : Shape := ⟨3, ![1, 2816, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S4x1024 : Shape := ⟨2, ![4, 1024]⟩
abbrev S1024x5632 : Shape := ⟨2, ![1024, 5632]⟩
abbrev S4x2048x5632 : Shape := ⟨3, ![4, 2048, 5632]⟩
abbrev S4x2048x2816 : Shape := ⟨3, ![4, 2048, 2816]⟩
abbrev S2816x1024 : Shape := ⟨2, ![2816, 1024]⟩
abbrev S4x4x1024 : Shape := ⟨3, ![4, 4, 1024]⟩
abbrev S4x8x1024 : Shape := ⟨3, ![4, 8, 1024]⟩
abbrev S1x1 : Shape := ⟨2, ![1, 1]⟩

abbrev nBuf : Space → Nat
  | .hbm => 425
  | .vmem => 0
  | .smem => 0
  | _ => 0

abbrev hbmTy0_0 (i : Nat) : BufTy := match i % 128 with
  | 0 => ⟨S4x2048x1024, .f32⟩
  | 1 => ⟨S4x6x1024, .f32⟩
  | 2 => ⟨S1x1024, .f32⟩
  | 3 => ⟨S1024, .f32⟩
  | 4 => ⟨S1x1024x5632, .f32⟩
  | 5 => ⟨S1x2816x1024, .f32⟩
  | 6 => ⟨S4x2048x1024, .f32⟩
  | 7 => ⟨S1024, .f32⟩
  | 8 => ⟨S4x2048x1024, .f32⟩
  | 9 => ⟨S_, .f32⟩
  | 10 => ⟨S4x2048, .f32⟩
  | 11 => ⟨S4x2048x1, .f32⟩
  | 12 => ⟨S_, .f32⟩
  | 13 => ⟨S4x2048x1, .f32⟩
  | 14 => ⟨S4x2048x1, .f32⟩
  | 15 => ⟨S_, .f32⟩
  | 16 => ⟨S4x2048x1, .f32⟩
  | 17 => ⟨S4x2048x1, .f32⟩
  | 18 => ⟨S4x2048x1, .f32⟩
  | 19 => ⟨S4x2048x1, .f32⟩
  | 20 => ⟨S_, .f32⟩
  | 21 => ⟨S4x2048x1, .f32⟩
  | 22 => ⟨S4x2048x1, .f32⟩
  | 23 => ⟨S4x2048x1024, .f32⟩
  | 24 => ⟨S4x2048x1024, .f32⟩
  | 25 => ⟨S1x1x1024, .f32⟩
  | 26 => ⟨S4x2048x1024, .f32⟩
  | 27 => ⟨S4x2048x1024, .f32⟩
  | 28 => ⟨S4x1x1024, .f32⟩
  | 29 => ⟨S4x1024, .f32⟩
  | 30 => ⟨S4x1x1024, .f32⟩
  | 31 => ⟨S_, .f32⟩
  | 32 => ⟨S4x1x1024, .f32⟩
  | 33 => ⟨S4x1x1024, .f32⟩
  | 34 => ⟨S4x2048x1024, .f32⟩
  | 35 => ⟨S4x2048x1024, .f32⟩
  | 36 => ⟨S4x1x1024, .f32⟩
  | 37 => ⟨S4x1024, .f32⟩
  | 38 => ⟨S4x1x1024, .f32⟩
  | 39 => ⟨S4x2048x1024, .f32⟩
  | 40 => ⟨S4x2048x1024, .f32⟩
  | 41 => ⟨S1024x5632, .f32⟩
  | 42 => ⟨S4x2048x5632, .f32⟩
  | 43 => ⟨S4x2048x2816, .f32⟩
  | 44 => ⟨S4x2048x2816, .f32⟩
  | 45 => ⟨S4x2048x2816, .f32⟩
  | 46 => ⟨S4x2048x2816, .f32⟩
  | 47 => ⟨S_, .f32⟩
  | 48 => ⟨S4x2048x2816, .f32⟩
  | 49 => ⟨S4x2048x2816, .f32⟩
  | 50 => ⟨S_, .f32⟩
  | 51 => ⟨S4x2048x2816, .f32⟩
  | 52 => ⟨S4x2048x2816, .f32⟩
  | 53 => ⟨S_, .f32⟩
  | 54 => ⟨S4x2048x2816, .f32⟩
  | 55 => ⟨S4x2048x2816, .f32⟩
  | 56 => ⟨S4x2048x2816, .f32⟩
  | 57 => ⟨S4x2048x2816, .f32⟩
  | 58 => ⟨S4x2048x2816, .f32⟩
  | 59 => ⟨S2816x1024, .f32⟩
  | 60 => ⟨S4x2048x1024, .f32⟩
  | 61 => ⟨S4x1x1024, .f32⟩
  | 62 => ⟨S4x1024, .f32⟩
  | 63 => ⟨S4x1x1024, .f32⟩
  | 64 => ⟨S4x2048x1024, .f32⟩
  | 65 => ⟨S4x2048x1024, .f32⟩
  | 66 => ⟨S4x2048x1024, .f32⟩
  | 67 => ⟨S4x2048x1024, .f32⟩
  | 68 => ⟨S_, .f32⟩
  | 69 => ⟨S4x2048, .f32⟩
  | 70 => ⟨S4x2048x1, .f32⟩
  | 71 => ⟨S_, .f32⟩
  | 72 => ⟨S4x2048x1, .f32⟩
  | 73 => ⟨S4x2048x1, .f32⟩
  | 74 => ⟨S_, .f32⟩
  | 75 => ⟨S4x2048x1, .f32⟩
  | 76 => ⟨S4x2048x1, .f32⟩
  | 77 => ⟨S4x2048x1, .f32⟩
  | 78 => ⟨S4x2048x1, .f32⟩
  | 79 => ⟨S_, .f32⟩
  | 80 => ⟨S4x2048x1, .f32⟩
  | 81 => ⟨S4x2048x1, .f32⟩
  | 82 => ⟨S4x2048x1024, .f32⟩
  | 83 => ⟨S4x2048x1024, .f32⟩
  | 84 => ⟨S1x1x1024, .f32⟩
  | 85 => ⟨S4x2048x1024, .f32⟩
  | 86 => ⟨S4x2048x1024, .f32⟩
  | 87 => ⟨S4x2048x1024, .f32⟩
  | 88 => ⟨S4x2048x1024, .f32⟩
  | 89 => ⟨S_, .f32⟩
  | 90 => ⟨S4x2048x1024, .f32⟩
  | 91 => ⟨S4x2048x1024, .f32⟩
  | 92 => ⟨S_, .f32⟩
  | 93 => ⟨S4x2048, .f32⟩
  | 94 => ⟨S_, .f32⟩
  | 95 => ⟨S4x2048, .f32⟩
  | 96 => ⟨S4x2048, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S4x2048, .f32⟩
  | 105 => ⟨S_, .f32⟩
  | 106 => ⟨S4x2048, .f32⟩
  | 107 => ⟨S4x2048, .f32⟩
  | 108 => ⟨S4x2048x1024, .f32⟩
  | 109 => ⟨S4x2048x1024, .f32⟩
  | 110 => ⟨S4x2048x1024, .f32⟩
  | 111 => ⟨S_, .f32⟩
  | 112 => ⟨S1024, .f32⟩
  | 113 => ⟨S1x1x1024, .f32⟩
  | 114 => ⟨S4x2048x1024, .f32⟩
  | 115 => ⟨S4x2048x1024, .f32⟩
  | 116 => ⟨S_, .f32⟩
  | 117 => ⟨S1024, .f32⟩
  | 118 => ⟨S4x2048x1024, .f32⟩
  | 119 => ⟨S_, .f32⟩
  | 120 => ⟨S4x2048, .f32⟩
  | 121 => ⟨S4x2048x1, .f32⟩
  | 122 => ⟨S4x2048x1024, .f32⟩
  | 123 => ⟨S4x2048x1024, .f32⟩
  | 124 => ⟨S4x2048x1, .f32⟩
  | 125 => ⟨S_, .f32⟩
  | 126 => ⟨S4x2048x1, .f32⟩
  | 127 => ⟨S4x2048x1, .f32⟩
  | _ => ⟨S4x2048x1024, .f32⟩

abbrev hbmTy0_1 (i : Nat) : BufTy := match i % 128 with
  | 0 => ⟨S_, .f32⟩
  | 1 => ⟨S4x2048, .f32⟩
  | 2 => ⟨S4x2048x1024, .f32⟩
  | 3 => ⟨S4x2048x1024, .f32⟩
  | 4 => ⟨S4x2048x1024, .f32⟩
  | 5 => ⟨S4x2048x1024, .f32⟩
  | 6 => ⟨S4x2048x1024, .f32⟩
  | 7 => ⟨S4x2048x1024, .f32⟩
  | 8 => ⟨S4x2048x1024, .f32⟩
  | 9 => ⟨S4x2048x1024, .f32⟩
  | 10 => ⟨S_, .f32⟩
  | 11 => ⟨S4x1024, .f32⟩
  | 12 => ⟨S4x1x1024, .f32⟩
  | 13 => ⟨S_, .f32⟩
  | 14 => ⟨S4x1024, .f32⟩
  | 15 => ⟨S4x1x1024, .f32⟩
  | 16 => ⟨S_, .f32⟩
  | 17 => ⟨S4x6x1024, .f32⟩
  | 18 => ⟨S4x2048x2816, .f32⟩
  | 19 => ⟨S4x2048x2816, .f32⟩
  | 20 => ⟨S4x2048x2816, .f32⟩
  | 21 => ⟨S4x2048x2816, .f32⟩
  | 22 => ⟨S4x2048x2816, .f32⟩
  | 23 => ⟨S4x2048x2816, .f32⟩
  | 24 => ⟨S4x2048x2816, .f32⟩
  | 25 => ⟨S4x2048x5632, .f32⟩
  | 26 => ⟨S4x2048x1024, .f32⟩
  | 27 => ⟨S_, .f32⟩
  | 28 => ⟨S4x1024, .f32⟩
  | 29 => ⟨S4x1x1024, .f32⟩
  | 30 => ⟨S_, .f32⟩
  | 31 => ⟨S4x1024, .f32⟩
  | 32 => ⟨S4x1x1024, .f32⟩
  | 33 => ⟨S_, .f32⟩
  | 34 => ⟨S4x6x1024, .f32⟩
  | 35 => ⟨S4x6x1024, .f32⟩
  | 36 => ⟨S4x2048x1024, .f32⟩
  | 37 => ⟨S_, .f32⟩
  | 38 => ⟨S4x1024, .f32⟩
  | 39 => ⟨S4x1x1024, .f32⟩
  | 40 => ⟨S4x2048x1024, .f32⟩
  | 41 => ⟨S4x2048x1024, .f32⟩
  | 42 => ⟨S_, .f32⟩
  | 43 => ⟨S4x1024, .f32⟩
  | 44 => ⟨S4x1x1024, .f32⟩
  | 45 => ⟨S_, .f32⟩
  | 46 => ⟨S4x6x1024, .f32⟩
  | 47 => ⟨S4x6x1024, .f32⟩
  | 48 => ⟨S4x2048x1024, .f32⟩
  | 49 => ⟨S_, .f32⟩
  | 50 => ⟨S1024, .f32⟩
  | 51 => ⟨S1x1x1024, .f32⟩
  | 52 => ⟨S4x2048x1024, .f32⟩
  | 53 => ⟨S4x2048x1024, .f32⟩
  | 54 => ⟨S_, .f32⟩
  | 55 => ⟨S1024, .f32⟩
  | 56 => ⟨S4x2048x1024, .f32⟩
  | 57 => ⟨S_, .f32⟩
  | 58 => ⟨S4x2048, .f32⟩
  | 59 => ⟨S4x2048x1, .f32⟩
  | 60 => ⟨S4x2048x1024, .f32⟩
  | 61 => ⟨S4x2048x1024, .f32⟩
  | 62 => ⟨S4x2048x1024, .f32⟩
  | 63 => ⟨S4x2048x1, .f32⟩
  | 64 => ⟨S_, .f32⟩
  | 65 => ⟨S4x2048x1, .f32⟩
  | 66 => ⟨S4x2048x1, .f32⟩
  | 67 => ⟨S_, .f32⟩
  | 68 => ⟨S4x2048, .f32⟩
  | 69 => ⟨S4x2048x1024, .f32⟩
  | 70 => ⟨S4x2048x1024, .f32⟩
  | 71 => ⟨S4x2048x1024, .f32⟩
  | 72 => ⟨S4x2048x1024, .f32⟩
  | 73 => ⟨S4x2048x1024, .f32⟩
  | 74 => ⟨S1x1024, .f32⟩
  | 75 => ⟨S1024, .f32⟩
  | 76 => ⟨S4x2048x1024, .f32⟩
  | 77 => ⟨S_, .f32⟩
  | 78 => ⟨S4x2048, .f32⟩
  | 79 => ⟨S4x2048x1, .f32⟩
  | 80 => ⟨S_, .f32⟩
  | 81 => ⟨S4x2048x1, .f32⟩
  | 82 => ⟨S4x2048x1, .f32⟩
  | 83 => ⟨S_, .f32⟩
  | 84 => ⟨S4x2048x1, .f32⟩
  | 85 => ⟨S4x2048x1, .f32⟩
  | 86 => ⟨S4x2048x1, .f32⟩
  | 87 => ⟨S4x2048x1024, .f32⟩
  | 88 => ⟨S4x2048x1024, .f32⟩
  | 89 => ⟨S1x1x1024, .f32⟩
  | 90 => ⟨S4x2048x1024, .f32⟩
  | 91 => ⟨S4x2048x1024, .f32⟩
  | 92 => ⟨S4x1x1024, .f32⟩
  | 93 => ⟨S4x1024, .f32⟩
  | 94 => ⟨S4x1x1024, .f32⟩
  | 95 => ⟨S_, .f32⟩
  | 96 => ⟨S4x1x1024, .f32⟩
  | 97 => ⟨S4x1x1024, .f32⟩
  | 98 => ⟨S4x2048x1024, .f32⟩
  | 99 => ⟨S4x2048x1024, .f32⟩
  | 100 => ⟨S4x1x1024, .f32⟩
  | 101 => ⟨S4x1024, .f32⟩
  | 102 => ⟨S4x1x1024, .f32⟩
  | 103 => ⟨S4x2048x1024, .f32⟩
  | 104 => ⟨S4x2048x1024, .f32⟩
  | 105 => ⟨S1024x5632, .f32⟩
  | 106 => ⟨S4x2048x5632, .f32⟩
  | 107 => ⟨S4x2048x2816, .f32⟩
  | 108 => ⟨S4x2048x2816, .f32⟩
  | 109 => ⟨S4x2048x2816, .f32⟩
  | 110 => ⟨S4x2048x2816, .f32⟩
  | 111 => ⟨S_, .f32⟩
  | 112 => ⟨S4x2048x2816, .f32⟩
  | 113 => ⟨S4x2048x2816, .f32⟩
  | 114 => ⟨S_, .f32⟩
  | 115 => ⟨S4x2048x2816, .f32⟩
  | 116 => ⟨S4x2048x2816, .f32⟩
  | 117 => ⟨S4x2048x2816, .f32⟩
  | 118 => ⟨S4x2048x2816, .f32⟩
  | 119 => ⟨S4x2048x2816, .f32⟩
  | 120 => ⟨S4x2048x2816, .f32⟩
  | 121 => ⟨S4x2048x2816, .f32⟩
  | 122 => ⟨S4x2048x2816, .f32⟩
  | 123 => ⟨S_, .f32⟩
  | 124 => ⟨S4x2048x2816, .f32⟩
  | 125 => ⟨S4x2048x2816, .f32⟩
  | 126 => ⟨S_, .f32⟩
  | 127 => ⟨S4x2048x2816, .f32⟩
  | _ => ⟨S4x2048x1024, .f32⟩

abbrev hbmTy0_2 (i : Nat) : BufTy := match i % 128 with
  | 0 => ⟨S4x2048x2816, .f32⟩
  | 1 => ⟨S_, .f32⟩
  | 2 => ⟨S4x2048x2816, .f32⟩
  | 3 => ⟨S4x2048x2816, .f32⟩
  | 4 => ⟨S4x2048x2816, .f32⟩
  | 5 => ⟨S4x2048x2816, .f32⟩
  | 6 => ⟨S4x2048x2816, .f32⟩
  | 7 => ⟨S2816x1024, .f32⟩
  | 8 => ⟨S4x2048x1024, .f32⟩
  | 9 => ⟨S4x1x1024, .f32⟩
  | 10 => ⟨S4x1024, .f32⟩
  | 11 => ⟨S4x1x1024, .f32⟩
  | 12 => ⟨S4x2048x1024, .f32⟩
  | 13 => ⟨S4x2048x1024, .f32⟩
  | 14 => ⟨S4x2048x1024, .f32⟩
  | 15 => ⟨S4x2048x1024, .f32⟩
  | 16 => ⟨S_, .f32⟩
  | 17 => ⟨S4x2048, .f32⟩
  | 18 => ⟨S4x2048x1, .f32⟩
  | 19 => ⟨S_, .f32⟩
  | 20 => ⟨S4x2048x1, .f32⟩
  | 21 => ⟨S4x2048x1, .f32⟩
  | 22 => ⟨S_, .f32⟩
  | 23 => ⟨S4x2048x1, .f32⟩
  | 24 => ⟨S4x2048x1, .f32⟩
  | 25 => ⟨S4x2048x1, .f32⟩
  | 26 => ⟨S4x2048x1, .f32⟩
  | 27 => ⟨S_, .f32⟩
  | 28 => ⟨S4x2048x1, .f32⟩
  | 29 => ⟨S4x2048x1, .f32⟩
  | 30 => ⟨S4x2048x1024, .f32⟩
  | 31 => ⟨S4x2048x1024, .f32⟩
  | 32 => ⟨S1x1x1024, .f32⟩
  | 33 => ⟨S4x2048x1024, .f32⟩
  | 34 => ⟨S4x2048x1024, .f32⟩
  | 35 => ⟨S4x2048x1024, .f32⟩
  | 36 => ⟨S4x2048x1024, .f32⟩
  | 37 => ⟨S_, .f32⟩
  | 38 => ⟨S4x2048x1024, .f32⟩
  | 39 => ⟨S4x2048x1024, .f32⟩
  | 40 => ⟨S_, .f32⟩
  | 41 => ⟨S4x2048, .f32⟩
  | 42 => ⟨S_, .f32⟩
  | 43 => ⟨S4x2048, .f32⟩
  | 44 => ⟨S4x2048, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S4x2048, .f32⟩
  | 53 => ⟨S_, .f32⟩
  | 54 => ⟨S4x2048, .f32⟩
  | 55 => ⟨S4x2048, .f32⟩
  | 56 => ⟨S4x2048x1024, .f32⟩
  | 57 => ⟨S4x2048x1024, .f32⟩
  | 58 => ⟨S4x2048x1024, .f32⟩
  | 59 => ⟨S4x2048x1024, .f32⟩
  | 60 => ⟨S4x2048x1024, .f32⟩
  | 61 => ⟨S_, .f32⟩
  | 62 => ⟨S4x2048, .f32⟩
  | 63 => ⟨S4x2048x1, .f32⟩
  | 64 => ⟨S4x2048x1024, .f32⟩
  | 65 => ⟨S4x2048x1024, .f32⟩
  | 66 => ⟨S4x2048x1, .f32⟩
  | 67 => ⟨S_, .f32⟩
  | 68 => ⟨S4x2048x1, .f32⟩
  | 69 => ⟨S4x2048x1, .f32⟩
  | 70 => ⟨S_, .f32⟩
  | 71 => ⟨S4x2048, .f32⟩
  | 72 => ⟨S4x2048x1024, .f32⟩
  | 73 => ⟨S4x2048x1024, .f32⟩
  | 74 => ⟨S4x2048x1024, .f32⟩
  | 75 => ⟨S4x2048x1024, .f32⟩
  | 76 => ⟨S4x2048x1024, .f32⟩
  | 77 => ⟨S4x2048x1024, .f32⟩
  | 78 => ⟨S4x2048x1024, .f32⟩
  | 79 => ⟨S4x2048x2816, .f32⟩
  | 80 => ⟨S4x2048x2816, .f32⟩
  | 81 => ⟨S4x2048x2816, .f32⟩
  | 82 => ⟨S4x2048x2816, .f32⟩
  | 83 => ⟨S4x2048x2816, .f32⟩
  | 84 => ⟨S4x2048x2816, .f32⟩
  | 85 => ⟨S4x2048x2816, .f32⟩
  | 86 => ⟨S4x2048x5632, .f32⟩
  | 87 => ⟨S2816x1024, .f32⟩
  | 88 => ⟨S4x2048x1024, .f32⟩
  | 89 => ⟨S4x1x1024, .f32⟩
  | 90 => ⟨S4x1024, .f32⟩
  | 91 => ⟨S4x1x1024, .f32⟩
  | 92 => ⟨S4x2048x1024, .f32⟩
  | 93 => ⟨S4x2048x1024, .f32⟩
  | 94 => ⟨S4x2048x1024, .f32⟩
  | 95 => ⟨S4x2048x1024, .f32⟩
  | 96 => ⟨S_, .f32⟩
  | 97 => ⟨S4x2048, .f32⟩
  | 98 => ⟨S4x2048x1, .f32⟩
  | 99 => ⟨S_, .f32⟩
  | 100 => ⟨S4x2048x1, .f32⟩
  | 101 => ⟨S4x2048x1, .f32⟩
  | 102 => ⟨S_, .f32⟩
  | 103 => ⟨S4x2048x1, .f32⟩
  | 104 => ⟨S4x2048x1, .f32⟩
  | 105 => ⟨S4x2048x1, .f32⟩
  | 106 => ⟨S4x2048x1, .f32⟩
  | 107 => ⟨S_, .f32⟩
  | 108 => ⟨S4x2048x1, .f32⟩
  | 109 => ⟨S4x2048x1, .f32⟩
  | 110 => ⟨S4x2048x1024, .f32⟩
  | 111 => ⟨S4x2048x1024, .f32⟩
  | 112 => ⟨S1x1x1024, .f32⟩
  | 113 => ⟨S4x2048x1024, .f32⟩
  | 114 => ⟨S4x2048x1024, .f32⟩
  | 115 => ⟨S4x2048x1024, .f32⟩
  | 116 => ⟨S4x2048x1024, .f32⟩
  | 117 => ⟨S_, .f32⟩
  | 118 => ⟨S4x2048x1024, .f32⟩
  | 119 => ⟨S4x2048x1024, .f32⟩
  | 120 => ⟨S_, .f32⟩
  | 121 => ⟨S4x2048, .f32⟩
  | 122 => ⟨S_, .f32⟩
  | 123 => ⟨S4x2048, .f32⟩
  | 124 => ⟨S4x2048, .f32⟩
  | 125 => ⟨S_, .f32⟩
  | 126 => ⟨S_, .f32⟩
  | 127 => ⟨S_, .f32⟩
  | _ => ⟨S4x2048x1024, .f32⟩

abbrev hbmTy0_3 (i : Nat) : BufTy := match i % 128 with
  | 0 => ⟨S_, .f32⟩
  | 1 => ⟨S_, .f32⟩
  | 2 => ⟨S_, .f32⟩
  | 3 => ⟨S_, .f32⟩
  | 4 => ⟨S4x2048, .f32⟩
  | 5 => ⟨S_, .f32⟩
  | 6 => ⟨S4x2048, .f32⟩
  | 7 => ⟨S4x2048, .f32⟩
  | 8 => ⟨S4x2048x1024, .f32⟩
  | 9 => ⟨S4x2048x1024, .f32⟩
  | 10 => ⟨S4x2048x1024, .f32⟩
  | 11 => ⟨S4x2048x1024, .f32⟩
  | 12 => ⟨S4x2048x1024, .f32⟩
  | 13 => ⟨S_, .f32⟩
  | 14 => ⟨S4x2048, .f32⟩
  | 15 => ⟨S4x2048x1, .f32⟩
  | 16 => ⟨S4x2048x1024, .f32⟩
  | 17 => ⟨S4x2048x1024, .f32⟩
  | 18 => ⟨S4x2048x1, .f32⟩
  | 19 => ⟨S_, .f32⟩
  | 20 => ⟨S4x2048x1, .f32⟩
  | 21 => ⟨S4x2048x1, .f32⟩
  | 22 => ⟨S_, .f32⟩
  | 23 => ⟨S4x2048, .f32⟩
  | 24 => ⟨S4x2048x1024, .f32⟩
  | 25 => ⟨S4x2048x1024, .f32⟩
  | 26 => ⟨S4x2048x1024, .f32⟩
  | 27 => ⟨S4x2048x1024, .f32⟩
  | 28 => ⟨S4x2048x1024, .f32⟩
  | 29 => ⟨S4x2048x1024, .f32⟩
  | 30 => ⟨S4x2048x1024, .f32⟩
  | 31 => ⟨S4x4x1024, .f32⟩
  | 32 => ⟨S_, .f32⟩
  | 33 => ⟨S4x4x1024, .f32⟩
  | 34 => ⟨S4x8x1024, .f32⟩
  | 35 => ⟨S4x2048x1024, .bf16⟩
  | 36 => ⟨S4x2048x5632, .bf16⟩
  | 37 => ⟨S4x2048x2816, .bf16⟩
  | 38 => ⟨S4x2048x1024, .bf16⟩
  | 39 => ⟨S1x1, .f32⟩
  | 40 => ⟨S1x1024, .f32⟩
  | _ => ⟨S4x2048x1024, .f32⟩

abbrev hbmTy (i : Nat) : BufTy := match i / 128 with
  | 0 => hbmTy0_0 i
  | 1 => hbmTy0_1 i
  | 2 => hbmTy0_2 i
  | 3 => hbmTy0_3 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v33_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v33_1 : Ref sig .tc := ⟨.hbm, 56, rfl⟩
abbrev main_v33_0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_4 : Ref sig .tc := ⟨.hbm, 68, rfl⟩
abbrev main_v44 : Ref sig .tc := ⟨.hbm, 69, rfl⟩
abbrev main_v45 : Ref sig .tc := ⟨.hbm, 70, rfl⟩
abbrev main_cst_5 : Ref sig .tc := ⟨.hbm, 71, rfl⟩
abbrev main_v46 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_7 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_8 : Ref sig .tc := ⟨.hbm, 89, rfl⟩
abbrev main_v61 : Ref sig .tc := ⟨.hbm, 90, rfl⟩
abbrev main_v62 : Ref sig .tc := ⟨.hbm, 91, rfl⟩
abbrev main_cst_9 : Ref sig .tc := ⟨.hbm, 92, rfl⟩
abbrev main_v63 : Ref sig .tc := ⟨.hbm, 93, rfl⟩
abbrev main_cst_10 : Ref sig .tc := ⟨.hbm, 94, rfl⟩
abbrev main_v64 : Ref sig .tc := ⟨.hbm, 95, rfl⟩
abbrev main_v65 : Ref sig .tc := ⟨.hbm, 96, rfl⟩
abbrev main_cst_11 : Ref sig .tc := ⟨.hbm, 97, rfl⟩
abbrev main_v66 : Ref sig .tc := ⟨.hbm, 98, rfl⟩
abbrev main_cst_12 : Ref sig .tc := ⟨.hbm, 99, rfl⟩
abbrev main_v67 : Ref sig .tc := ⟨.hbm, 100, rfl⟩
abbrev main_cst_13 : Ref sig .tc := ⟨.hbm, 101, rfl⟩
abbrev main_cst_14 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_16 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_17 : Ref sig .tc := ⟨.hbm, 116, rfl⟩
abbrev main_v79 : Ref sig .tc := ⟨.hbm, 117, rfl⟩
abbrev main_v80 : Ref sig .tc := ⟨.hbm, 118, rfl⟩
abbrev main_cst_18 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_19 : Ref sig .tc := ⟨.hbm, 125, rfl⟩
abbrev main_v86 : Ref sig .tc := ⟨.hbm, 126, rfl⟩
abbrev main_v87 : Ref sig .tc := ⟨.hbm, 127, rfl⟩
abbrev main_cst_20 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_21 : Ref sig .tc := ⟨.hbm, 138, rfl⟩
abbrev main_v97 : Ref sig .tc := ⟨.hbm, 139, rfl⟩
abbrev main_v98 : Ref sig .tc := ⟨.hbm, 140, rfl⟩
abbrev main_cst_22 : Ref sig .tc := ⟨.hbm, 141, rfl⟩
abbrev main_v99 : Ref sig .tc := ⟨.hbm, 142, rfl⟩
abbrev main_v100 : Ref sig .tc := ⟨.hbm, 143, rfl⟩
abbrev main_cst_23 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_call1_v0 : Ref sig .tc := ⟨.hbm, 149, rfl⟩
abbrev main_call1_v1 : Ref sig .tc := ⟨.hbm, 150, rfl⟩
abbrev main_call1_v2 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_cst_24 : Ref sig .tc := ⟨.hbm, 155, rfl⟩
abbrev main_v108 : Ref sig .tc := ⟨.hbm, 156, rfl⟩
abbrev main_v109 : Ref sig .tc := ⟨.hbm, 157, rfl⟩
abbrev main_cst_25 : Ref sig .tc := ⟨.hbm, 158, rfl⟩
abbrev main_v110 : Ref sig .tc := ⟨.hbm, 159, rfl⟩
abbrev main_v111 : Ref sig .tc := ⟨.hbm, 160, rfl⟩
abbrev main_cst_26 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_cst_27 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_cst_28 : Ref sig .tc := ⟨.hbm, 170, rfl⟩
abbrev main_v119 : Ref sig .tc := ⟨.hbm, 171, rfl⟩
abbrev main_v120 : Ref sig .tc := ⟨.hbm, 172, rfl⟩
abbrev main_cst_29 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_cst_30 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_cst_31 : Ref sig .tc := ⟨.hbm, 182, rfl⟩
abbrev main_v128 : Ref sig .tc := ⟨.hbm, 183, rfl⟩
abbrev main_v129 : Ref sig .tc := ⟨.hbm, 184, rfl⟩
abbrev main_cst_32 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_cst_33 : Ref sig .tc := ⟨.hbm, 192, rfl⟩
abbrev main_v136 : Ref sig .tc := ⟨.hbm, 193, rfl⟩
abbrev main_v137 : Ref sig .tc := ⟨.hbm, 194, rfl⟩
abbrev main_cst_34 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_cst_35 : Ref sig .tc := ⟨.hbm, 205, rfl⟩
abbrev main_v147 : Ref sig .tc := ⟨.hbm, 206, rfl⟩
abbrev main_v148 : Ref sig .tc := ⟨.hbm, 207, rfl⟩
abbrev main_cst_36 : Ref sig .tc := ⟨.hbm, 208, rfl⟩
abbrev main_v149 : Ref sig .tc := ⟨.hbm, 209, rfl⟩
abbrev main_v150 : Ref sig .tc := ⟨.hbm, 210, rfl⟩
abbrev main_cst_37 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_cst_38 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_call2_v0 : Ref sig .tc := ⟨.hbm, 237, rfl⟩
abbrev main_call2_v1 : Ref sig .tc := ⟨.hbm, 238, rfl⟩
abbrev main_call2_cst : Ref sig .tc := ⟨.hbm, 239, rfl⟩
abbrev main_call2_v2 : Ref sig .tc := ⟨.hbm, 240, rfl⟩
abbrev main_call2_v3 : Ref sig .tc := ⟨.hbm, 241, rfl⟩
abbrev main_call2_cst_0 : Ref sig .tc := ⟨.hbm, 242, rfl⟩
abbrev main_call2_v4 : Ref sig .tc := ⟨.hbm, 243, rfl⟩
abbrev main_call2_v5 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_call3_v0 : Ref sig .tc := ⟨.hbm, 249, rfl⟩
abbrev main_call3_v1 : Ref sig .tc := ⟨.hbm, 250, rfl⟩
abbrev main_call3_cst : Ref sig .tc := ⟨.hbm, 251, rfl⟩
abbrev main_call3_v2 : Ref sig .tc := ⟨.hbm, 252, rfl⟩
abbrev main_call3_v3 : Ref sig .tc := ⟨.hbm, 253, rfl⟩
abbrev main_call3_cst_0 : Ref sig .tc := ⟨.hbm, 254, rfl⟩
abbrev main_call3_v4 : Ref sig .tc := ⟨.hbm, 255, rfl⟩
abbrev main_v179_2 : Ref sig .tc := ⟨.hbm, 256, rfl⟩
abbrev main_call3_cst_1 : Ref sig .tc := ⟨.hbm, 257, rfl⟩
abbrev main_call3_v6 : Ref sig .tc := ⟨.hbm, 258, rfl⟩
abbrev main_call3_v7 : Ref sig .tc := ⟨.hbm, 259, rfl⟩
abbrev main_v179_1 : Ref sig .tc := ⟨.hbm, 260, rfl⟩
abbrev main_v179_0 : Ref sig .tc := ⟨.hbm, 261, rfl⟩
abbrev main_v180 : Ref sig .tc := ⟨.hbm, 262, rfl⟩
abbrev main_v181 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_cst_39 : Ref sig .tc := ⟨.hbm, 272, rfl⟩
abbrev main_v190 : Ref sig .tc := ⟨.hbm, 273, rfl⟩
abbrev main_v191 : Ref sig .tc := ⟨.hbm, 274, rfl⟩
abbrev main_cst_40 : Ref sig .tc := ⟨.hbm, 275, rfl⟩
abbrev main_v192 : Ref sig .tc := ⟨.hbm, 276, rfl⟩
abbrev main_v193 : Ref sig .tc := ⟨.hbm, 277, rfl⟩
abbrev main_cst_41 : Ref sig .tc := ⟨.hbm, 278, rfl⟩
abbrev main_v194 : Ref sig .tc := ⟨.hbm, 279, rfl⟩
abbrev main_v195 : Ref sig .tc := ⟨.hbm, 280, rfl⟩
abbrev main_v196 : Ref sig .tc := ⟨.hbm, 281, rfl⟩
abbrev main_v197 : Ref sig .tc := ⟨.hbm, 282, rfl⟩
abbrev main_cst_42 : Ref sig .tc := ⟨.hbm, 283, rfl⟩
abbrev main_v198 : Ref sig .tc := ⟨.hbm, 284, rfl⟩
abbrev main_v199 : Ref sig .tc := ⟨.hbm, 285, rfl⟩
abbrev main_v200 : Ref sig .tc := ⟨.hbm, 286, rfl⟩
abbrev main_v201 : Ref sig .tc := ⟨.hbm, 287, rfl⟩
abbrev main_v202 : Ref sig .tc := ⟨.hbm, 288, rfl⟩
abbrev main_v203 : Ref sig .tc := ⟨.hbm, 289, rfl⟩
abbrev main_v204 : Ref sig .tc := ⟨.hbm, 290, rfl⟩
abbrev main_v205 : Ref sig .tc := ⟨.hbm, 291, rfl⟩
abbrev main_v206 : Ref sig .tc := ⟨.hbm, 292, rfl⟩
abbrev main_cst_43 : Ref sig .tc := ⟨.hbm, 293, rfl⟩
abbrev main_v207 : Ref sig .tc := ⟨.hbm, 294, rfl⟩
abbrev main_v208 : Ref sig .tc := ⟨.hbm, 295, rfl⟩
abbrev main_cst_44 : Ref sig .tc := ⟨.hbm, 296, rfl⟩
abbrev main_v209 : Ref sig .tc := ⟨.hbm, 297, rfl⟩
abbrev main_cst_45 : Ref sig .tc := ⟨.hbm, 298, rfl⟩
abbrev main_v210 : Ref sig .tc := ⟨.hbm, 299, rfl⟩
abbrev main_v211 : Ref sig .tc := ⟨.hbm, 300, rfl⟩
abbrev main_cst_46 : Ref sig .tc := ⟨.hbm, 301, rfl⟩
abbrev main_v212 : Ref sig .tc := ⟨.hbm, 302, rfl⟩
abbrev main_cst_47 : Ref sig .tc := ⟨.hbm, 303, rfl⟩
abbrev main_v213 : Ref sig .tc := ⟨.hbm, 304, rfl⟩
abbrev main_cst_48 : Ref sig .tc := ⟨.hbm, 305, rfl⟩
abbrev main_cst_49 : Ref sig .tc := ⟨.hbm, 306, rfl⟩
abbrev main_v214 : Ref sig .tc := ⟨.hbm, 307, rfl⟩
abbrev main_v215 : Ref sig .tc := ⟨.hbm, 308, rfl⟩
abbrev main_cst_50 : Ref sig .tc := ⟨.hbm, 309, rfl⟩
abbrev main_v216 : Ref sig .tc := ⟨.hbm, 310, rfl⟩
abbrev main_v217 : Ref sig .tc := ⟨.hbm, 311, rfl⟩
abbrev main_v218 : Ref sig .tc := ⟨.hbm, 312, rfl⟩
abbrev main_v219 : Ref sig .tc := ⟨.hbm, 313, rfl⟩
abbrev main_v220 : Ref sig .tc := ⟨.hbm, 314, rfl⟩
abbrev main_v221 : Ref sig .tc := ⟨.hbm, 315, rfl⟩
abbrev main_v222 : Ref sig .tc := ⟨.hbm, 316, rfl⟩
abbrev main_cst_51 : Ref sig .tc := ⟨.hbm, 317, rfl⟩
abbrev main_v223 : Ref sig .tc := ⟨.hbm, 318, rfl⟩
abbrev main_v224 : Ref sig .tc := ⟨.hbm, 319, rfl⟩
abbrev main_v225 : Ref sig .tc := ⟨.hbm, 320, rfl⟩
abbrev main_v226 : Ref sig .tc := ⟨.hbm, 321, rfl⟩
abbrev main_v227 : Ref sig .tc := ⟨.hbm, 322, rfl⟩
abbrev main_cst_52 : Ref sig .tc := ⟨.hbm, 323, rfl⟩
abbrev main_v228 : Ref sig .tc := ⟨.hbm, 324, rfl⟩
abbrev main_v229 : Ref sig .tc := ⟨.hbm, 325, rfl⟩
abbrev main_cst_53 : Ref sig .tc := ⟨.hbm, 326, rfl⟩
abbrev main_v230 : Ref sig .tc := ⟨.hbm, 327, rfl⟩
abbrev main_v231 : Ref sig .tc := ⟨.hbm, 328, rfl⟩
abbrev main_v232 : Ref sig .tc := ⟨.hbm, 329, rfl⟩
abbrev main_v233 : Ref sig .tc := ⟨.hbm, 330, rfl⟩
abbrev main_v234 : Ref sig .tc := ⟨.hbm, 331, rfl⟩
abbrev main_v235 : Ref sig .tc := ⟨.hbm, 332, rfl⟩
abbrev main_v236 : Ref sig .tc := ⟨.hbm, 333, rfl⟩
abbrev main_v237 : Ref sig .tc := ⟨.hbm, 334, rfl⟩
abbrev main_v238 : Ref sig .tc := ⟨.hbm, 335, rfl⟩
abbrev main_v239 : Ref sig .tc := ⟨.hbm, 336, rfl⟩
abbrev main_v240 : Ref sig .tc := ⟨.hbm, 337, rfl⟩
abbrev main_call4_v0 : Ref sig .tc := ⟨.hbm, 338, rfl⟩
abbrev main_call4_v1 : Ref sig .tc := ⟨.hbm, 339, rfl⟩
abbrev main_call4_v2 : Ref sig .tc := ⟨.hbm, 340, rfl⟩
abbrev main_v241 : Ref sig .tc := ⟨.hbm, 341, rfl⟩
abbrev main_v242 : Ref sig .tc := ⟨.hbm, 342, rfl⟩
abbrev main_v243 : Ref sig .tc := ⟨.hbm, 343, rfl⟩
abbrev main_v244 : Ref sig .tc := ⟨.hbm, 344, rfl⟩
abbrev main_v245 : Ref sig .tc := ⟨.hbm, 345, rfl⟩
abbrev main_v246 : Ref sig .tc := ⟨.hbm, 346, rfl⟩
abbrev main_v247 : Ref sig .tc := ⟨.hbm, 347, rfl⟩
abbrev main_v248 : Ref sig .tc := ⟨.hbm, 348, rfl⟩
abbrev main_v249 : Ref sig .tc := ⟨.hbm, 349, rfl⟩
abbrev main_v250 : Ref sig .tc := ⟨.hbm, 350, rfl⟩
abbrev main_v251 : Ref sig .tc := ⟨.hbm, 351, rfl⟩
abbrev main_cst_54 : Ref sig .tc := ⟨.hbm, 352, rfl⟩
abbrev main_v252 : Ref sig .tc := ⟨.hbm, 353, rfl⟩
abbrev main_v253 : Ref sig .tc := ⟨.hbm, 354, rfl⟩
abbrev main_cst_55 : Ref sig .tc := ⟨.hbm, 355, rfl⟩
abbrev main_v254 : Ref sig .tc := ⟨.hbm, 356, rfl⟩
abbrev main_v255 : Ref sig .tc := ⟨.hbm, 357, rfl⟩
abbrev main_cst_56 : Ref sig .tc := ⟨.hbm, 358, rfl⟩
abbrev main_v256 : Ref sig .tc := ⟨.hbm, 359, rfl⟩
abbrev main_v257 : Ref sig .tc := ⟨.hbm, 360, rfl⟩
abbrev main_v258 : Ref sig .tc := ⟨.hbm, 361, rfl⟩
abbrev main_v259 : Ref sig .tc := ⟨.hbm, 362, rfl⟩
abbrev main_cst_57 : Ref sig .tc := ⟨.hbm, 363, rfl⟩
abbrev main_v260 : Ref sig .tc := ⟨.hbm, 364, rfl⟩
abbrev main_v261 : Ref sig .tc := ⟨.hbm, 365, rfl⟩
abbrev main_v262 : Ref sig .tc := ⟨.hbm, 366, rfl⟩
abbrev main_v263 : Ref sig .tc := ⟨.hbm, 367, rfl⟩
abbrev main_v264 : Ref sig .tc := ⟨.hbm, 368, rfl⟩
abbrev main_v265 : Ref sig .tc := ⟨.hbm, 369, rfl⟩
abbrev main_v266 : Ref sig .tc := ⟨.hbm, 370, rfl⟩
abbrev main_v267 : Ref sig .tc := ⟨.hbm, 371, rfl⟩
abbrev main_v268 : Ref sig .tc := ⟨.hbm, 372, rfl⟩
abbrev main_cst_58 : Ref sig .tc := ⟨.hbm, 373, rfl⟩
abbrev main_v269 : Ref sig .tc := ⟨.hbm, 374, rfl⟩
abbrev main_v270 : Ref sig .tc := ⟨.hbm, 375, rfl⟩
abbrev main_cst_59 : Ref sig .tc := ⟨.hbm, 376, rfl⟩
abbrev main_v271 : Ref sig .tc := ⟨.hbm, 377, rfl⟩
abbrev main_cst_60 : Ref sig .tc := ⟨.hbm, 378, rfl⟩
abbrev main_v272 : Ref sig .tc := ⟨.hbm, 379, rfl⟩
abbrev main_v273 : Ref sig .tc := ⟨.hbm, 380, rfl⟩
abbrev main_cst_61 : Ref sig .tc := ⟨.hbm, 381, rfl⟩
abbrev main_v274 : Ref sig .tc := ⟨.hbm, 382, rfl⟩
abbrev main_cst_62 : Ref sig .tc := ⟨.hbm, 383, rfl⟩
abbrev main_v275 : Ref sig .tc := ⟨.hbm, 384, rfl⟩
abbrev main_cst_63 : Ref sig .tc := ⟨.hbm, 385, rfl⟩
abbrev main_cst_64 : Ref sig .tc := ⟨.hbm, 386, rfl⟩
abbrev main_v276 : Ref sig .tc := ⟨.hbm, 387, rfl⟩
abbrev main_v277 : Ref sig .tc := ⟨.hbm, 388, rfl⟩
abbrev main_cst_65 : Ref sig .tc := ⟨.hbm, 389, rfl⟩
abbrev main_v278 : Ref sig .tc := ⟨.hbm, 390, rfl⟩
abbrev main_v279 : Ref sig .tc := ⟨.hbm, 391, rfl⟩
abbrev main_v280 : Ref sig .tc := ⟨.hbm, 392, rfl⟩
abbrev main_v281 : Ref sig .tc := ⟨.hbm, 393, rfl⟩
abbrev main_v282 : Ref sig .tc := ⟨.hbm, 394, rfl⟩
abbrev main_v283 : Ref sig .tc := ⟨.hbm, 395, rfl⟩
abbrev main_v284 : Ref sig .tc := ⟨.hbm, 396, rfl⟩
abbrev main_cst_66 : Ref sig .tc := ⟨.hbm, 397, rfl⟩
abbrev main_v285 : Ref sig .tc := ⟨.hbm, 398, rfl⟩
abbrev main_v286 : Ref sig .tc := ⟨.hbm, 399, rfl⟩
abbrev main_v287 : Ref sig .tc := ⟨.hbm, 400, rfl⟩
abbrev main_v288 : Ref sig .tc := ⟨.hbm, 401, rfl⟩
abbrev main_v289 : Ref sig .tc := ⟨.hbm, 402, rfl⟩
abbrev main_cst_67 : Ref sig .tc := ⟨.hbm, 403, rfl⟩
abbrev main_v290 : Ref sig .tc := ⟨.hbm, 404, rfl⟩
abbrev main_v291 : Ref sig .tc := ⟨.hbm, 405, rfl⟩
abbrev main_cst_68 : Ref sig .tc := ⟨.hbm, 406, rfl⟩
abbrev main_v292 : Ref sig .tc := ⟨.hbm, 407, rfl⟩
abbrev main_v293 : Ref sig .tc := ⟨.hbm, 408, rfl⟩
abbrev main_v294 : Ref sig .tc := ⟨.hbm, 409, rfl⟩
abbrev main_v295 : Ref sig .tc := ⟨.hbm, 410, rfl⟩
abbrev main_v296 : Ref sig .tc := ⟨.hbm, 411, rfl⟩
abbrev main_v297 : Ref sig .tc := ⟨.hbm, 412, rfl⟩
abbrev main_v298 : Ref sig .tc := ⟨.hbm, 413, rfl⟩
abbrev main_v299 : Ref sig .tc := ⟨.hbm, 414, rfl⟩
abbrev main_v300 : Ref sig .tc := ⟨.hbm, 415, rfl⟩
abbrev main_cst_69 : Ref sig .tc := ⟨.hbm, 416, rfl⟩
abbrev main_v301 : Ref sig .tc := ⟨.hbm, 417, rfl⟩
abbrev main_v302 : Ref sig .tc := ⟨.hbm, 418, rfl⟩
abbrev main_v303 : Ref sig .tc := ⟨.hbm, 419, rfl⟩
abbrev main_v304 : Ref sig .tc := ⟨.hbm, 420, rfl⟩
abbrev main_v305 : Ref sig .tc := ⟨.hbm, 421, rfl⟩
abbrev main_v306 : Ref sig .tc := ⟨.hbm, 422, rfl⟩
abbrev main_v307 : Ref sig .tc := ⟨.hbm, 423, rfl⟩
abbrev main_v308 : Ref sig .tc := ⟨.hbm, 424, rfl⟩

abbrev nD : Nat := 1
abbrev τ : Topo := Topo.v7x

variable {F : FTy → Type} [FloatOps F]
-- ==== Inb.lean ====
abbrev S4x2048x1024 : Shape := ⟨3, ![4, 2048, 1024]⟩
abbrev S4x256x1024 : Shape := ⟨3, ![4, 256, 1024]⟩
abbrev S1x1024 : Shape := ⟨2, ![1, 1024]⟩
abbrev S4x6x1024 : Shape := ⟨3, ![4, 6, 1024]⟩
abbrev S6x1024 : Shape := ⟨2, ![6, 1024]⟩
abbrev S1x1024x5632 : Shape := ⟨3, ![1, 1024, 5632]⟩
abbrev S4x2304x512 : Shape := ⟨3, ![4, 2304, 512]⟩
abbrev S4x2304x3584 : Shape := ⟨3, ![4, 2304, 3584]⟩
abbrev S4x2x1024 : Shape := ⟨3, ![4, 2, 1024]⟩
abbrev S2x1024 : Shape := ⟨2, ![2, 1024]⟩
abbrev S1x2x1024 : Shape := ⟨3, ![1, 2, 1024]⟩
abbrev S_ : Shape := ⟨0, ![]⟩
abbrev S4x4x1024 : Shape := ⟨3, ![4, 4, 1024]⟩
abbrev S4x8x1024 : Shape := ⟨3, ![4, 8, 1024]⟩
abbrev S1024x5632 : Shape := ⟨2, ![1024, 5632]⟩
abbrev S4x2304x5632 : Shape := ⟨3, ![4, 2304, 5632]⟩
abbrev S1x256x1024 : Shape := ⟨3, ![1, 256, 1024]⟩
abbrev S1x8x1024 : Shape := ⟨3, ![1, 8, 1024]⟩
abbrev S1x256x512 : Shape := ⟨3, ![1, 256, 512]⟩
abbrev S1x256x3584 : Shape := ⟨3, ![1, 256, 3584]⟩
abbrev S1x256x5632 : Shape := ⟨3, ![1, 256, 5632]⟩
abbrev S256x512 : Shape := ⟨2, ![256, 512]⟩
abbrev S256x3584 : Shape := ⟨2, ![256, 3584]⟩
abbrev S256x5632 : Shape := ⟨2, ![256, 5632]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1024 : Shape := ⟨1, ![1024]⟩

abbrev nBuf : Space → Nat
  | .hbm => 27
  | .vmem => 31
  | .smem => 0
  | _ => 0

abbrev bufTy : (tb : Table) → Fin (tcTables nBuf tb) → BufTy
  | .hbm, ⟨0, _⟩ => ⟨S4x2048x1024, .f32⟩
  | .hbm, ⟨1, _⟩ => ⟨S4x256x1024, .f32⟩
  | .hbm, ⟨2, _⟩ => ⟨S4x2048x1024, .f32⟩
  | .hbm, ⟨3, _⟩ => ⟨S1x1024, .f32⟩
  | .hbm, ⟨4, _⟩ => ⟨S4x6x1024, .f32⟩
  | .hbm, ⟨5, _⟩ => ⟨S6x1024, .f32⟩
  | .hbm, ⟨6, _⟩ => ⟨S1x1024x5632, .f32⟩
  | .hbm, ⟨7, _⟩ => ⟨S4x2304x512, .bf16⟩
  | .hbm, ⟨8, _⟩ => ⟨S4x2304x512, .bf16⟩
  | .hbm, ⟨9, _⟩ => ⟨S4x2304x512, .f32⟩
  | .hbm, ⟨10, _⟩ => ⟨S4x2304x512, .f32⟩
  | .hbm, ⟨11, _⟩ => ⟨S4x2304x512, .f32⟩
  | .hbm, ⟨12, _⟩ => ⟨S4x2304x512, .f32⟩
  | .hbm, ⟨13, _⟩ => ⟨S4x2304x3584, .bf16⟩
  | .hbm, ⟨14, _⟩ => ⟨S4x2x1024, .f32⟩
  | .hbm, ⟨15, _⟩ => ⟨S2x1024, .f32⟩
  | .hbm, ⟨16, _⟩ => ⟨S1x2x1024, .f32⟩
  | .hbm, ⟨17, _⟩ => ⟨S4x2x1024, .f32⟩
  | .hbm, ⟨18, _⟩ => ⟨S_, .f32⟩
  | .hbm, ⟨19, _⟩ => ⟨S4x4x1024, .f32⟩
  | .hbm, ⟨20, _⟩ => ⟨S4x8x1024, .f32⟩
  | .hbm, ⟨21, _⟩ => ⟨S1024x5632, .f32⟩
  | .hbm, ⟨22, _⟩ => ⟨S1024x5632, .bf16⟩
  | .hbm, ⟨23, _⟩ => ⟨S4x2048x1024, .f32⟩
  | .hbm, ⟨24, _⟩ => ⟨S4x2304x5632, .bf16⟩
  | .hbm, ⟨25, _⟩ => ⟨S1x1024, .f32⟩
  | .hbm, ⟨26, _⟩ => ⟨S4x8x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1024, .f32⟩
  | .local _ .vmem, ⟨7, _⟩ => ⟨S1x8x1024, .f32⟩
  | .local _ .vmem, ⟨8, _⟩ => ⟨S1x8x1024, .f32⟩
  | .local _ .vmem, ⟨9, _⟩ => ⟨S1024x5632, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | .local _ .vmem, ⟨22, _⟩ => ⟨S1x256x3584, .bf16⟩
  | .local _ .vmem, ⟨23, _⟩ => ⟨S1x256x3584, .bf16⟩
  | .local _ .vmem, ⟨24, _⟩ => ⟨S1x256x1024, .f32⟩
  | .local _ .vmem, ⟨25, _⟩ => ⟨S1x256x1024, .f32⟩
  | .local _ .vmem, ⟨26, _⟩ => ⟨S1x256x5632, .bf16⟩
  | .local _ .vmem, ⟨27, _⟩ => ⟨S1x256x5632, .bf16⟩
  | .local _ .vmem, ⟨28, _⟩ => ⟨S1x1024, .f32⟩
  | .local _ .vmem, ⟨29, _⟩ => ⟨S1x8x1024, .f32⟩
  | .local _ .vmem, ⟨30, _⟩ => ⟨S1x8x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev main_v8_2 : Ref sig .tc := ⟨.hbm, 25, rfl⟩
abbrev main_v8_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨2, ![4, 9], ![false, false]⟩

def k0_cond4 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v87 : BitVec 1 := Scalar.xori v0 v_true
  let v88 : BitVec 32 := Scalar.extui v87
  let c0_i32_56 : BitVec 32 := 0#32
  let v89 : BitVec 1 := Scalar.cmpi .ne v88 c0_i32_56
  v89

def k0_cond2 (i : grid0.Coords) : BitVec 1 :=
  let arg1 : BitVec 32 := BitVec.ofNat 32 (i 1).val
  let c0_i32_3 : BitVec 32 := 0#32
  let v6 : BitVec 1 := Scalar.cmpi .eq arg1 c0_i32_3
  let v7 : BitVec 32 := Scalar.extui v6
  let c0_i32_4 : BitVec 32 := 0#32
  let v8 : BitVec 1 := Scalar.cmpi .ne v7 c0_i32_4
  v8

def k0_cond3 (i : grid0.Coords) : BitVec 1 :=
  let arg1 : BitVec 32 := BitVec.ofNat 32 (i 1).val
  let c0_i32 : BitVec 32 := 0#32
  let v0 : BitVec 1 := Scalar.cmpi .eq arg1 c0_i32
  let v85 : BitVec 32 := Scalar.extui v0
  let c0_i32_55 : BitVec 32 := 0#32
  let v86 : BitVec 1 := Scalar.cmpi .ne v85 c0_i32_55
  v86

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x3584 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x5632 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x8x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== InbRefIdeal.lean ====
abbrev S4x2048x1024 : Shape := ⟨3, ![4, 2048, 1024]⟩
abbrev S4x256x1024 : Shape := ⟨3, ![4, 256, 1024]⟩
abbrev S1x1024 : Shape := ⟨2, ![1, 1024]⟩
abbrev S4x6x1024 : Shape := ⟨3, ![4, 6, 1024]⟩
abbrev S6x1024 : Shape := ⟨2, ![6, 1024]⟩
abbrev S1x1024x5632 : Shape := ⟨3, ![1, 1024, 5632]⟩
abbrev S4x2304x512 : Shape := ⟨3, ![4, 2304, 512]⟩
abbrev S4x2304x3584 : Shape := ⟨3, ![4, 2304, 3584]⟩
abbrev S1x6x1024 : Shape := ⟨3, ![1, 6, 1024]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x1x1024 : Shape := ⟨3, ![4, 1, 1024]⟩
abbrev S4x1024 : Shape := ⟨2, ![4, 1024]⟩
abbrev S4x2048 : Shape := ⟨2, ![4, 2048]⟩
abbrev S4x2048x1 : Shape := ⟨3, ![4, 2048, 1]⟩
abbrev S4x2304x1024 : Shape := ⟨3, ![4, 2304, 1024]⟩
abbrev S1024x5632 : Shape := ⟨2, ![1024, 5632]⟩
abbrev S4x2304x5632 : Shape := ⟨3, ![4, 2304, 5632]⟩
abbrev S4x2x1024 : Shape := ⟨3, ![4, 2, 1024]⟩
abbrev S4x4x1024 : Shape := ⟨3, ![4, 4, 1024]⟩
abbrev S4x8x1024 : Shape := ⟨3, ![4, 8, 1024]⟩

abbrev nBuf : Space → Nat
  | .hbm => 203
  | .vmem => 0
  | .smem => 0
  | _ => 0

abbrev hbmTy0_0 (i : Nat) : BufTy := match i % 128 with
  | 0 => ⟨S4x2048x1024, .f32⟩
  | 1 => ⟨S4x256x1024, .f32⟩
  | 2 => ⟨S4x2048x1024, .f32⟩
  | 3 => ⟨S1x1024, .f32⟩
  | 4 => ⟨S4x6x1024, .f32⟩
  | 5 => ⟨S6x1024, .f32⟩
  | 6 => ⟨S1x1024x5632, .f32⟩
  | 7 => ⟨S4x2304x512, .bf16⟩
  | 8 => ⟨S4x2304x512, .bf16⟩
  | 9 => ⟨S4x2304x512, .f32⟩
  | 10 => ⟨S4x2304x512, .f32⟩
  | 11 => ⟨S4x2304x512, .f32⟩
  | 12 => ⟨S4x2304x512, .f32⟩
  | 13 => ⟨S4x2304x3584, .bf16⟩
  | 14 => ⟨S1x6x1024, .f32⟩
  | 15 => ⟨S4x6x1024, .f32⟩
  | 16 => ⟨S1024, .f32⟩
  | 17 => ⟨S4x256x1024, .f32⟩
  | 18 => ⟨S_, .f32⟩
  | 19 => ⟨S4x256, .f32⟩
  | 20 => ⟨S4x256x1, .f32⟩
  | 21 => ⟨S_, .f32⟩
  | 22 => ⟨S4x256x1, .f32⟩
  | 23 => ⟨S4x256x1, .f32⟩
  | 24 => ⟨S_, .f32⟩
  | 25 => ⟨S4x256x1, .f32⟩
  | 26 => ⟨S4x256x1, .f32⟩
  | 27 => ⟨S4x256x1, .f32⟩
  | 28 => ⟨S4x256x1, .f32⟩
  | 29 => ⟨S_, .f32⟩
  | 30 => ⟨S4x256x1, .f32⟩
  | 31 => ⟨S4x256x1, .f32⟩
  | 32 => ⟨S4x256x1024, .f32⟩
  | 33 => ⟨S4x256x1024, .f32⟩
  | 34 => ⟨S1x1x1024, .f32⟩
  | 35 => ⟨S4x256x1024, .f32⟩
  | 36 => ⟨S4x256x1024, .f32⟩
  | 37 => ⟨S4x1x1024, .f32⟩
  | 38 => ⟨S4x1024, .f32⟩
  | 39 => ⟨S4x1x1024, .f32⟩
  | 40 => ⟨S4x1x1024, .f32⟩
  | 41 => ⟨S4x1024, .f32⟩
  | 42 => ⟨S4x1x1024, .f32⟩
  | 43 => ⟨S_, .f32⟩
  | 44 => ⟨S4x1x1024, .f32⟩
  | 45 => ⟨S4x1x1024, .f32⟩
  | 46 => ⟨S4x256x1024, .f32⟩
  | 47 => ⟨S4x256x1024, .f32⟩
  | 48 => ⟨S4x256x1024, .f32⟩
  | 49 => ⟨S4x256x1024, .f32⟩
  | 50 => ⟨S1024, .f32⟩
  | 51 => ⟨S4x2048x1024, .f32⟩
  | 52 => ⟨S_, .f32⟩
  | 53 => ⟨S4x2048, .f32⟩
  | 54 => ⟨S4x2048x1, .f32⟩
  | 55 => ⟨S_, .f32⟩
  | 56 => ⟨S4x2048x1, .f32⟩
  | 57 => ⟨S4x2048x1, .f32⟩
  | 58 => ⟨S_, .f32⟩
  | 59 => ⟨S4x2048x1, .f32⟩
  | 60 => ⟨S4x2048x1, .f32⟩
  | 61 => ⟨S4x2048x1, .f32⟩
  | 62 => ⟨S4x2048x1, .f32⟩
  | 63 => ⟨S_, .f32⟩
  | 64 => ⟨S4x2048x1, .f32⟩
  | 65 => ⟨S4x2048x1, .f32⟩
  | 66 => ⟨S4x2048x1024, .f32⟩
  | 67 => ⟨S4x2048x1024, .f32⟩
  | 68 => ⟨S1x1x1024, .f32⟩
  | 69 => ⟨S4x2048x1024, .f32⟩
  | 70 => ⟨S4x2048x1024, .f32⟩
  | 71 => ⟨S4x1x1024, .f32⟩
  | 72 => ⟨S4x1024, .f32⟩
  | 73 => ⟨S4x1x1024, .f32⟩
  | 74 => ⟨S4x1x1024, .f32⟩
  | 75 => ⟨S4x1024, .f32⟩
  | 76 => ⟨S4x1x1024, .f32⟩
  | 77 => ⟨S_, .f32⟩
  | 78 => ⟨S4x1x1024, .f32⟩
  | 79 => ⟨S4x1x1024, .f32⟩
  | 80 => ⟨S4x2048x1024, .f32⟩
  | 81 => ⟨S4x2048x1024, .f32⟩
  | 82 => ⟨S4x2048x1024, .f32⟩
  | 83 => ⟨S4x2048x1024, .f32⟩
  | 84 => ⟨S4x2304x1024, .f32⟩
  | 85 => ⟨S1024x5632, .f32⟩
  | 86 => ⟨S4x2304x5632, .f32⟩
  | 87 => ⟨S_, .f32⟩
  | 88 => ⟨S4x2304x5632, .f32⟩
  | 89 => ⟨S4x2304x512, .f32⟩
  | 90 => ⟨S4x2304x512, .f32⟩
  | 91 => ⟨S4x2304x512, .f32⟩
  | 92 => ⟨S4x2304x512, .f32⟩
  | 93 => ⟨S4x2304x3584, .f32⟩
  | 94 => ⟨S4x2304x512, .f32⟩
  | 95 => ⟨S4x2304x512, .f32⟩
  | 96 => ⟨S4x2304x3584, .f32⟩
  | 97 => ⟨S4x2304x512, .f32⟩
  | 98 => ⟨S4x2304x512, .f32⟩
  | 99 => ⟨S4x2304x5632, .f32⟩
  | 100 => ⟨S4x2304x1024, .f32⟩
  | 101 => ⟨S4x256x1024, .f32⟩
  | 102 => ⟨S4x2048x1024, .f32⟩
  | 103 => ⟨S_, .f32⟩
  | 104 => ⟨S4x1024, .f32⟩
  | 105 => ⟨S4x1x1024, .f32⟩
  | 106 => ⟨S4x2048x1024, .f32⟩
  | 107 => ⟨S_, .f32⟩
  | 108 => ⟨S4x1024, .f32⟩
  | 109 => ⟨S4x1x1024, .f32⟩
  | 110 => ⟨S4x2048x1024, .f32⟩
  | 111 => ⟨S4x2048x1024, .f32⟩
  | 112 => ⟨S_, .f32⟩
  | 113 => ⟨S4x1024, .f32⟩
  | 114 => ⟨S4x1x1024, .f32⟩
  | 115 => ⟨S_, .f32⟩
  | 116 => ⟨S4x6x1024, .f32⟩
  | 117 => ⟨S_, .f32⟩
  | 118 => ⟨S4x1024, .f32⟩
  | 119 => ⟨S4x1x1024, .f32⟩
  | 120 => ⟨S_, .f32⟩
  | 121 => ⟨S4x6x1024, .f32⟩
  | 122 => ⟨S4x6x1024, .f32⟩
  | 123 => ⟨S4x2048x1024, .f32⟩
  | 124 => ⟨S_, .f32⟩
  | 125 => ⟨S1024, .f32⟩
  | 126 => ⟨S1x1x1024, .f32⟩
  | 127 => ⟨S4x2048x1024, .f32⟩
  | _ => ⟨S4x2048x1024, .f32⟩

abbrev hbmTy0_1 (i : Nat) : BufTy := match i % 128 with
  | 0 => ⟨S4x2048x1024, .f32⟩
  | 1 => ⟨S_, .f32⟩
  | 2 => ⟨S1024, .f32⟩
  | 3 => ⟨S4x2048x1024, .f32⟩
  | 4 => ⟨S_, .f32⟩
  | 5 => ⟨S4x2048, .f32⟩
  | 6 => ⟨S4x2048x1, .f32⟩
  | 7 => ⟨S4x2048x1024, .f32⟩
  | 8 => ⟨S4x2048x1024, .f32⟩
  | 9 => ⟨S4x2048x1024, .f32⟩
  | 10 => ⟨S4x2048x1, .f32⟩
  | 11 => ⟨S_, .f32⟩
  | 12 => ⟨S4x2048x1, .f32⟩
  | 13 => ⟨S4x2048x1, .f32⟩
  | 14 => ⟨S_, .f32⟩
  | 15 => ⟨S4x2048, .f32⟩
  | 16 => ⟨S4x2048x1024, .f32⟩
  | 17 => ⟨S4x2048x1024, .f32⟩
  | 18 => ⟨S4x2048x1024, .f32⟩
  | 19 => ⟨S4x2048x1024, .f32⟩
  | 20 => ⟨S4x2048x1024, .f32⟩
  | 21 => ⟨S1x1024, .f32⟩
  | 22 => ⟨S_, .f32⟩
  | 23 => ⟨S4x1024, .f32⟩
  | 24 => ⟨S4x1x1024, .f32⟩
  | 25 => ⟨S4x256x1024, .f32⟩
  | 26 => ⟨S_, .f32⟩
  | 27 => ⟨S4x1024, .f32⟩
  | 28 => ⟨S4x1x1024, .f32⟩
  | 29 => ⟨S4x256x1024, .f32⟩
  | 30 => ⟨S4x256x1024, .f32⟩
  | 31 => ⟨S_, .f32⟩
  | 32 => ⟨S4x1024, .f32⟩
  | 33 => ⟨S4x1x1024, .f32⟩
  | 34 => ⟨S_, .f32⟩
  | 35 => ⟨S4x6x1024, .f32⟩
  | 36 => ⟨S_, .f32⟩
  | 37 => ⟨S4x1024, .f32⟩
  | 38 => ⟨S4x1x1024, .f32⟩
  | 39 => ⟨S_, .f32⟩
  | 40 => ⟨S4x6x1024, .f32⟩
  | 41 => ⟨S4x6x1024, .f32⟩
  | 42 => ⟨S4x256x1024, .f32⟩
  | 43 => ⟨S_, .f32⟩
  | 44 => ⟨S1024, .f32⟩
  | 45 => ⟨S1x1x1024, .f32⟩
  | 46 => ⟨S4x256x1024, .f32⟩
  | 47 => ⟨S4x256x1024, .f32⟩
  | 48 => ⟨S_, .f32⟩
  | 49 => ⟨S1024, .f32⟩
  | 50 => ⟨S4x256x1024, .f32⟩
  | 51 => ⟨S_, .f32⟩
  | 52 => ⟨S4x256, .f32⟩
  | 53 => ⟨S4x256x1, .f32⟩
  | 54 => ⟨S4x256x1024, .f32⟩
  | 55 => ⟨S4x256x1024, .f32⟩
  | 56 => ⟨S4x256x1, .f32⟩
  | 57 => ⟨S_, .f32⟩
  | 58 => ⟨S4x256x1, .f32⟩
  | 59 => ⟨S4x256x1, .f32⟩
  | 60 => ⟨S_, .f32⟩
  | 61 => ⟨S4x256, .f32⟩
  | 62 => ⟨S4x256x1024, .f32⟩
  | 63 => ⟨S4x256x1024, .f32⟩
  | 64 => ⟨S4x256x1024, .f32⟩
  | 65 => ⟨S4x256x1024, .f32⟩
  | 66 => ⟨S4x256x1024, .f32⟩
  | 67 => ⟨S1x1024, .f32⟩
  | 68 => ⟨S1x1024, .f32⟩
  | 69 => ⟨S4x2x1024, .f32⟩
  | 70 => ⟨S4x2x1024, .f32⟩
  | 71 => ⟨S_, .f32⟩
  | 72 => ⟨S4x4x1024, .f32⟩
  | 73 => ⟨S4x8x1024, .f32⟩
  | 74 => ⟨S4x2304x5632, .bf16⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_9 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_10 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_11 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_12 : Ref sig .tc := ⟨.hbm, 112, rfl⟩
abbrev main_v85 : Ref sig .tc := ⟨.hbm, 113, rfl⟩
abbrev main_v86 : Ref sig .tc := ⟨.hbm, 114, rfl⟩
abbrev main_cst_13 : Ref sig .tc := ⟨.hbm, 115, rfl⟩
abbrev main_v87 : Ref sig .tc := ⟨.hbm, 116, rfl⟩
abbrev main_cst_14 : Ref sig .tc := ⟨.hbm, 117, rfl⟩
abbrev main_v88 : Ref sig .tc := ⟨.hbm, 118, rfl⟩
abbrev main_v89 : Ref sig .tc := ⟨.hbm, 119, rfl⟩
abbrev main_cst_15 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_16 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_17 : Ref sig .tc := ⟨.hbm, 129, rfl⟩
abbrev main_v97 : Ref sig .tc := ⟨.hbm, 130, rfl⟩
abbrev main_v98 : Ref sig .tc := ⟨.hbm, 131, rfl⟩
abbrev main_cst_18 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_19 : Ref sig .tc := ⟨.hbm, 139, rfl⟩
abbrev main_v105 : Ref sig .tc := ⟨.hbm, 140, rfl⟩
abbrev main_v106 : Ref sig .tc := ⟨.hbm, 141, rfl⟩
abbrev main_cst_20 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_21 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_22 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_cst_23 : Ref sig .tc := ⟨.hbm, 159, rfl⟩
abbrev main_v121 : Ref sig .tc := ⟨.hbm, 160, rfl⟩
abbrev main_v122 : Ref sig .tc := ⟨.hbm, 161, rfl⟩
abbrev main_cst_24 : Ref sig .tc := ⟨.hbm, 162, rfl⟩
abbrev main_v123 : Ref sig .tc := ⟨.hbm, 163, rfl⟩
abbrev main_cst_25 : Ref sig .tc := ⟨.hbm, 164, rfl⟩
abbrev main_v124 : Ref sig .tc := ⟨.hbm, 165, rfl⟩
abbrev main_v125 : Ref sig .tc := ⟨.hbm, 166, rfl⟩
abbrev main_cst_26 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_cst_27 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_cst_28 : Ref sig .tc := ⟨.hbm, 176, rfl⟩
abbrev main_v133 : Ref sig .tc := ⟨.hbm, 177, rfl⟩
abbrev main_v134 : Ref sig .tc := ⟨.hbm, 178, rfl⟩
abbrev main_cst_29 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_cst_30 : Ref sig .tc := ⟨.hbm, 185, rfl⟩
abbrev main_v140 : Ref sig .tc := ⟨.hbm, 186, rfl⟩
abbrev main_v141 : Ref sig .tc := ⟨.hbm, 187, rfl⟩
abbrev main_cst_31 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_cst_32 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩

abbrev nD : Nat := 1
abbrev τ : Topo := Topo.v7x

variable {F : FTy → Type} [FloatOps F]
-- ==== Mixb.lean ====
abbrev S4x2304x5632 : Shape := ⟨3, ![4, 2304, 5632]⟩
abbrev S4x2304x512 : Shape := ⟨3, ![4, 2304, 512]⟩
abbrev S4x2048x1024 : Shape := ⟨3, ![4, 2048, 1024]⟩
abbrev S4x6x1024 : Shape := ⟨3, ![4, 6, 1024]⟩
abbrev S1x128 : Shape := ⟨2, ![1, 128]⟩
abbrev S1x512 : Shape := ⟨2, ![1, 512]⟩
abbrev S1x4x128x128 : Shape := ⟨4, ![1, 4, 128, 128]⟩
abbrev S1x4x128 : Shape := ⟨3, ![1, 4, 128]⟩
abbrev S1x512x1024 : Shape := ⟨3, ![1, 512, 1024]⟩
abbrev S1x1024x1024 : Shape := ⟨3, ![1, 1024, 1024]⟩
abbrev S4x4x1024 : Shape := ⟨3, ![4, 4, 1024]⟩
abbrev S_ : Shape := ⟨0, ![]⟩
abbrev S4x8x1024 : Shape := ⟨3, ![4, 8, 1024]⟩
abbrev S4x128x128 : Shape := ⟨3, ![4, 128, 128]⟩
abbrev S4x128 : Shape := ⟨2, ![4, 128]⟩
abbrev S128x4 : Shape := ⟨2, ![128, 4]⟩
abbrev S512x1024 : Shape := ⟨2, ![512, 1024]⟩
abbrev S512x4x256 : Shape := ⟨3, ![512, 4, 256]⟩
abbrev S4x512x256 : Shape := ⟨3, ![4, 512, 256]⟩
abbrev S1024x1024 : Shape := ⟨2, ![1024, 1024]⟩
abbrev S4x2304x3584 : Shape := ⟨3, ![4, 2304, 3584]⟩
abbrev S1x256x512 : Shape := ⟨3, ![1, 256, 512]⟩
abbrev S1x256x1024 : Shape := ⟨3, ![1, 256, 1024]⟩
abbrev S1x8x1024 : Shape := ⟨3, ![1, 8, 1024]⟩
abbrev S1x256x3584 : Shape := ⟨3, ![1, 256, 3584]⟩
abbrev S256x512 : Shape := ⟨2, ![256, 512]⟩
abbrev S256x1024 : Shape := ⟨2, ![256, 1024]⟩
abbrev S1x1x1024 : Shape := ⟨3, ![1, 1, 1024]⟩
abbrev S1x1024 : Shape := ⟨2, ![1, 1024]⟩
abbrev S256x128 : Shape := ⟨2, ![256, 128]⟩
abbrev S256 : Shape := ⟨1, ![256]⟩
abbrev S256x1 : Shape := ⟨2, ![256, 1]⟩
abbrev S1x512x256 : Shape := ⟨3, ![1, 512, 256]⟩
abbrev S512x256 : Shape := ⟨2, ![512, 256]⟩
abbrev S256x256 : Shape := ⟨2, ![256, 256]⟩
abbrev S1x128x128 : Shape := ⟨3, ![1, 128, 128]⟩
abbrev S128x128 : Shape := ⟨2, ![128, 128]⟩
abbrev S128x1 : Shape := ⟨2, ![128, 1]⟩
abbrev S128x512 : Shape := ⟨2, ![128, 512]⟩
abbrev S1024 : Shape := ⟨1, ![1024]⟩
abbrev S128 : Shape := ⟨1, ![128]⟩
abbrev S512 : Shape := ⟨1, ![512]⟩
abbrev S256x3584 : Shape := ⟨2, ![256, 3584]⟩

abbrev nBuf : Space → Nat
  | .hbm => 43
  | .vmem => 45
  | .smem => 0
  | _ => 0

abbrev bufTy : (tb : Table) → Fin (tcTables nBuf tb) → BufTy
  | .hbm, ⟨0, _⟩ => ⟨S4x2304x5632, .f32⟩
  | .hbm, ⟨1, _⟩ => ⟨S4x2304x512, .f32⟩
  | .hbm, ⟨2, _⟩ => ⟨S4x2304x512, .f32⟩
  | .hbm, ⟨3, _⟩ => ⟨S4x2048x1024, .f32⟩
  | .hbm, ⟨4, _⟩ => ⟨S4x6x1024, .f32⟩
  | .hbm, ⟨5, _⟩ => ⟨S1x128, .f32⟩
  | .hbm, ⟨6, _⟩ => ⟨S1x512, .f32⟩
  | .hbm, ⟨7, _⟩ => ⟨S1x512, .f32⟩
  | .hbm, ⟨8, _⟩ => ⟨S1x4x128x128, .f32⟩
  | .hbm, ⟨9, _⟩ => ⟨S1x4x128, .f32⟩
  | .hbm, ⟨10, _⟩ => ⟨S1x512x1024, .f32⟩
  | .hbm, ⟨11, _⟩ => ⟨S1x512x1024, .f32⟩
  | .hbm, ⟨12, _⟩ => ⟨S1x1024x1024, .f32⟩
  | .hbm, ⟨13, _⟩ => ⟨S4x4x1024, .f32⟩
  | .hbm, ⟨14, _⟩ => ⟨S_, .f32⟩
  | .hbm, ⟨15, _⟩ => ⟨S4x4x1024, .f32⟩
  | .hbm, ⟨16, _⟩ => ⟨S4x8x1024, .f32⟩
  | .hbm, ⟨17, _⟩ => ⟨S4x128x128, .f32⟩
  | .hbm, ⟨18, _⟩ => ⟨S4x128x128, .f32⟩
  | .hbm, ⟨19, _⟩ => ⟨S4x128x128, .f32⟩
  | .hbm, ⟨20, _⟩ => ⟨S4x128, .f32⟩
  | .hbm, ⟨21, _⟩ => ⟨S128x4, .f32⟩
  | .hbm, ⟨22, _⟩ => ⟨S512x1024, .f32⟩
  | .hbm, ⟨23, _⟩ => ⟨S512x4x256, .f32⟩
  | .hbm, ⟨24, _⟩ => ⟨S4x512x256, .f32⟩
  | .hbm, ⟨25, _⟩ => ⟨S4x512x256, .bf16⟩
  | .hbm, ⟨26, _⟩ => ⟨S512x1024, .f32⟩
  | .hbm, ⟨27, _⟩ => ⟨S512x4x256, .f32⟩
  | .hbm, ⟨28, _⟩ => ⟨S4x512x256, .f32⟩
  | .hbm, ⟨29, _⟩ => ⟨S4x512x256, .bf16⟩
  | .hbm, ⟨30, _⟩ => ⟨S1024x1024, .f32⟩
  | .hbm, ⟨31, _⟩ => ⟨S1024x1024, .bf16⟩
  | .hbm, ⟨32, _⟩ => ⟨S4x2304x512, .f32⟩
  | .hbm, ⟨33, _⟩ => ⟨S4x2304x3584, .bf16⟩
  | .hbm, ⟨34, _⟩ => ⟨S4x512x256, .f32⟩
  | .hbm, ⟨35, _⟩ => ⟨S4x512x256, .f32⟩
  | .hbm, ⟨36, _⟩ => ⟨S1024x1024, .f32⟩
  | .hbm, ⟨37, _⟩ => ⟨S1x128, .f32⟩
  | .hbm, ⟨38, _⟩ => ⟨S1x512, .f32⟩
  | .hbm, ⟨39, _⟩ => ⟨S1x512, .f32⟩
  | .hbm, ⟨40, _⟩ => ⟨S4x128x128, .f32⟩
  | .hbm, ⟨41, _⟩ => ⟨S128x4, .f32⟩
  | .hbm, ⟨42, _⟩ => ⟨S4x8x1024, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x1024, .f32⟩
  | .local _ .vmem, ⟨19, _⟩ => ⟨S1x256x1024, .f32⟩
  | .local _ .vmem, ⟨20, _⟩ => ⟨S1x8x1024, .f32⟩
  | .local _ .vmem, ⟨21, _⟩ => ⟨S1x8x1024, .f32⟩
  | .local _ .vmem, ⟨22, _⟩ => ⟨S1x128, .f32⟩
  | .local _ .vmem, ⟨23, _⟩ => ⟨S1x512, .f32⟩
  | .local _ .vmem, ⟨24, _⟩ => ⟨S1x512, .f32⟩
  | .local _ .vmem, ⟨25, _⟩ => ⟨S4x128x128, .f32⟩
  | .local _ .vmem, ⟨26, _⟩ => ⟨S128x4, .f32⟩
  | .local _ .vmem, ⟨27, _⟩ => ⟨S4x512x256, .bf16⟩
  | .local _ .vmem, ⟨28, _⟩ => ⟨S4x512x256, .bf16⟩
  | .local _ .vmem, ⟨29, _⟩ => ⟨S1024x1024, .bf16⟩
  | .local _ .vmem, ⟨30, _⟩ => ⟨S4x128x128, .f32⟩
  | .local _ .vmem, ⟨31, _⟩ => ⟨S1x256x512, .f32⟩
  | .local _ .vmem, ⟨32, _⟩ => ⟨S1x256x512, .f32⟩
  | .local _ .vmem, ⟨33, _⟩ => ⟨S1x256x3584, .bf16⟩
  | .local _ .vmem, ⟨34, _⟩ => ⟨S1x256x3584, .bf16⟩
  | .local _ .vmem, ⟨35, _⟩ => ⟨S4x512x256, .f32⟩
  | .local _ .vmem, ⟨36, _⟩ => ⟨S4x512x256, .f32⟩
  | .local _ .vmem, ⟨37, _⟩ => ⟨S1024x1024, .f32⟩
  | .local _ .vmem, ⟨38, _⟩ => ⟨S1x128, .f32⟩
  | .local _ .vmem, ⟨39, _⟩ => ⟨S1x512, .f32⟩
  | .local _ .vmem, ⟨40, _⟩ => ⟨S1x512, .f32⟩
  | .local _ .vmem, ⟨41, _⟩ => ⟨S4x128x128, .f32⟩
  | .local _ .vmem, ⟨42, _⟩ => ⟨S128x4, .f32⟩
  | .local _ .vmem, ⟨43, _⟩ => ⟨S1x8x1024, .f32⟩
  | .local _ .vmem, ⟨44, _⟩ => ⟨S1x8x1024, .f32⟩
  | _, _ => ⟨S4x2304x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v18_2 : Ref sig .tc := ⟨.hbm, 34, rfl⟩
abbrev main_v18_3 : Ref sig .tc := ⟨.hbm, 35, rfl⟩
abbrev main_v18_4 : Ref sig .tc := ⟨.hbm, 36, rfl⟩
abbrev main_v18_5 : Ref sig .tc := ⟨.hbm, 37, rfl⟩
abbrev main_v18_6 : Ref sig .tc := ⟨.hbm, 38, rfl⟩
abbrev main_v18_7 : Ref sig .tc := ⟨.hbm, 39, rfl⟩
abbrev main_v18_8 : Ref sig .tc := ⟨.hbm, 40, rfl⟩
abbrev main_v18_9 : Ref sig .tc := ⟨.hbm, 41, rfl⟩
abbrev main_v18_10 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg23_0 : Ref sig .tc := ⟨.vmem, 36, rfl⟩
abbrev cc0_stg24_0 : Ref sig .tc := ⟨.vmem, 37, rfl⟩
abbrev cc0_stg25_0 : Ref sig .tc := ⟨.vmem, 38, rfl⟩
abbrev cc0_stg26_0 : Ref sig .tc := ⟨.vmem, 39, rfl⟩
abbrev cc0_stg27_0 : Ref sig .tc := ⟨.vmem, 40, rfl⟩
abbrev cc0_stg28_0 : Ref sig .tc := ⟨.vmem, 41, rfl⟩
abbrev cc0_stg29_0 : Ref sig .tc := ⟨.vmem, 42, rfl⟩
abbrev cc0_stg30_0 : Ref sig .tc := ⟨.vmem, 43, rfl⟩
abbrev cc0_stg30_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem23_0 : DmaSem sig := 36
abbrev cc0_sem24_0 : DmaSem sig := 37
abbrev cc0_sem25_0 : DmaSem sig := 38
abbrev cc0_sem26_0 : DmaSem sig := 39
abbrev cc0_sem27_0 : DmaSem sig := 40
abbrev cc0_sem28_0 : DmaSem sig := 41
abbrev cc0_sem29_0 : DmaSem sig := 42
abbrev cc0_sem30_0 : DmaSem sig := 43
abbrev cc0_sem30_1 : DmaSem sig := 44

abbrev nD : Nat := 1
abbrev τ : Topo := Topo.v7x

variable {F : FTy → Type} [FloatOps F]

abbrev grid0 : Pipeline.Grid := ⟨2, ![4, 9], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_5 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_6 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_29 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S4x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x4 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S4x512x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S4x512x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S4x128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x3584 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 1 → Memref sig .tc .vmem S4x512x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S4x512x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S1024x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S1x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]

abbrev stage0_27 : Fin 1 → Memref sig .tc .vmem S1x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false, false]

abbrev stage0_28 : Fin 1 → Memref sig .tc .vmem S4x128x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false, false]

abbrev stage0_29 : Fin 1 → Memref sig .tc .vmem S128x4 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false, false]

abbrev stage0_30 : Fin 2 → Memref sig .tc .vmem S1x8x1024 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, false]
-- ==== MixbIdeal.lean ====
variable {F : FTy → Type} [FloatOps F] [Named F]
def κ : String → Option EReal := fun
  | "gelu" => some ((8943 / 200000 : ℝ) : EReal)
  | "three_gelu" => some ((26829 / 200000 : ℝ) : EReal)
  | _ => none
-- ==== MixbRefIdeal.lean ====
abbrev S4x2304x5632 : Shape := ⟨3, ![4, 2304, 5632]⟩
abbrev S4x2304x512 : Shape := ⟨3, ![4, 2304, 512]⟩
abbrev S4x2048x1024 : Shape := ⟨3, ![4, 2048, 1024]⟩
abbrev S4x6x1024 : Shape := ⟨3, ![4, 6, 1024]⟩
abbrev S1x128 : Shape := ⟨2, ![1, 128]⟩
abbrev S1x512 : Shape := ⟨2, ![1, 512]⟩
abbrev S1x4x128x128 : Shape := ⟨4, ![1, 4, 128, 128]⟩
abbrev S1x4x128 : Shape := ⟨3, ![1, 4, 128]⟩
abbrev S1x512x1024 : Shape := ⟨3, ![1, 512, 1024]⟩
abbrev S1x1024x1024 : Shape := ⟨3, ![1, 1024, 1024]⟩
abbrev S4x2048x512 : Shape := ⟨3, ![4, 2048, 512]⟩
abbrev S4x2048x3584 : Shape := ⟨3, ![4, 2048, 3584]⟩
abbrev S4x1x1024 : Shape := ⟨3, ![4, 1, 1024]⟩
abbrev S4x1024 : Shape := ⟨2, ![4, 1024]⟩
abbrev S4x2048x4x128 : Shape := ⟨4, ![4, 2048, 4, 128]⟩
abbrev S128 : Shape := ⟨1, ![128]⟩
abbrev S_ : Shape := ⟨0, ![]⟩
abbrev S4x2048x4 : Shape := ⟨3, ![4, 2048, 4]⟩
abbrev S4x2048x4x1 : Shape := ⟨4, ![4, 2048, 4, 1]⟩
abbrev S1x1x1x128 : Shape := ⟨4, ![1, 1, 1, 128]⟩
abbrev S512 : Shape := ⟨1, ![512]⟩
abbrev S4x128x128 : Shape := ⟨3, ![4, 128, 128]⟩
abbrev S4x128 : Shape := ⟨2, ![4, 128]⟩
abbrev S4x2048 : Shape := ⟨2, ![4, 2048]⟩
abbrev S4x2048x1 : Shape := ⟨3, ![4, 2048, 1]⟩
abbrev S1x1x512 : Shape := ⟨3, ![1, 1, 512]⟩
abbrev S4x16x128x4x128 : Shape := ⟨5, ![4, 16, 128, 4, 128]⟩
abbrev S4x4x16x128x128 : Shape := ⟨5, ![4, 4, 16, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S512x1024 : Shape := ⟨2, ![512, 1024]⟩
abbrev S1024x1024 : Shape := ⟨2, ![1024, 1024]⟩
abbrev S1024x512 : Shape := ⟨2, ![1024, 512]⟩
abbrev S4x8x1024 : Shape := ⟨3, ![4, 8, 1024]⟩
abbrev S4x2304x3584 : Shape := ⟨3, ![4, 2304, 3584]⟩
abbrev S512x4x256 : Shape := ⟨3, ![512, 4, 256]⟩
abbrev S4x512x256 : Shape := ⟨3, ![4, 512, 256]⟩

abbrev nBuf : Space → Nat
  | .hbm => 392
  | .vmem => 0
  | .smem => 0
  | _ => 0

abbrev hbmTy0_0 (i : Nat) : BufTy := match i % 128 with
  | 0 => ⟨S4x2304x5632, .f32⟩
  | 1 => ⟨S4x2304x512, .f32⟩
  | 2 => ⟨S4x2304x512, .f32⟩
  | 3 => ⟨S4x2048x1024, .f32⟩
  | 4 => ⟨S4x6x1024, .f32⟩
  | 5 => ⟨S1x128, .f32⟩
  | 6 => ⟨S1x512, .f32⟩
  | 7 => ⟨S1x512, .f32⟩
  | 8 => ⟨S1x4x128x128, .f32⟩
  | 9 => ⟨S1x4x128, .f32⟩
  | 10 => ⟨S1x512x1024, .f32⟩
  | 11 => ⟨S1x512x1024, .f32⟩
  | 12 => ⟨S1x1024x1024, .f32⟩
  | 13 => ⟨S4x2048x512, .f32⟩
  | 14 => ⟨S4x2048x512, .f32⟩
  | 15 => ⟨S4x2048x3584, .f32⟩
  | 16 => ⟨S4x1x1024, .f32⟩
  | 17 => ⟨S4x1024, .f32⟩
  | 18 => ⟨S4x2048x512, .f32⟩
  | 19 => ⟨S4x2048x512, .f32⟩
  | 20 => ⟨S4x2048x512, .f32⟩
  | 21 => ⟨S4x2048x1024, .f32⟩
  | 22 => ⟨S4x2048x1024, .f32⟩
  | 23 => ⟨S4x2048x512, .f32⟩
  | 24 => ⟨S4x2048x4x128, .f32⟩
  | 25 => ⟨S128, .f32⟩
  | 26 => ⟨S4x2048x4x128, .f32⟩
  | 27 => ⟨S_, .f32⟩
  | 28 => ⟨S4x2048x4, .f32⟩
  | 29 => ⟨S4x2048x4x1, .f32⟩
  | 30 => ⟨S_, .f32⟩
  | 31 => ⟨S4x2048x4x1, .f32⟩
  | 32 => ⟨S4x2048x4x1, .f32⟩
  | 33 => ⟨S_, .f32⟩
  | 34 => ⟨S4x2048x4x1, .f32⟩
  | 35 => ⟨S4x2048x4x1, .f32⟩
  | 36 => ⟨S4x2048x4x1, .f32⟩
  | 37 => ⟨S4x2048x4x1, .f32⟩
  | 38 => ⟨S_, .f32⟩
  | 39 => ⟨S4x2048x4x1, .f32⟩
  | 40 => ⟨S4x2048x4x1, .f32⟩
  | 41 => ⟨S4x2048x4x128, .f32⟩
  | 42 => ⟨S4x2048x4x128, .f32⟩
  | 43 => ⟨S1x1x1x128, .f32⟩
  | 44 => ⟨S4x2048x4x128, .f32⟩
  | 45 => ⟨S4x2048x4x128, .f32⟩
  | 46 => ⟨S4x2048x512, .f32⟩
  | 47 => ⟨S4x2048x512, .f32⟩
  | 48 => ⟨S4x2048x512, .f32⟩
  | 49 => ⟨S_, .f32⟩
  | 50 => ⟨S4x2048x512, .f32⟩
  | 51 => ⟨S4x2048x512, .f32⟩
  | 52 => ⟨S_, .f32⟩
  | 53 => ⟨S4x2048x512, .f32⟩
  | 54 => ⟨S4x2048x512, .f32⟩
  | 55 => ⟨S_, .f32⟩
  | 56 => ⟨S4x2048x512, .f32⟩
  | 57 => ⟨S4x2048x512, .f32⟩
  | 58 => ⟨S4x2048x512, .f32⟩
  | 59 => ⟨S4x2048x512, .f32⟩
  | 60 => ⟨S4x2048x512, .f32⟩
  | 61 => ⟨S4x2048x512, .f32⟩
  | 62 => ⟨S4x2048x512, .f32⟩
  | 63 => ⟨S4x2048x512, .f32⟩
  | 64 => ⟨S_, .f32⟩
  | 65 => ⟨S4x2048x512, .f32⟩
  | 66 => ⟨S4x2048x512, .f32⟩
  | 67 => ⟨S_, .f32⟩
  | 68 => ⟨S4x2048x512, .f32⟩
  | 69 => ⟨S4x2048x512, .f32⟩
  | 70 => ⟨S_, .f32⟩
  | 71 => ⟨S4x2048x512, .f32⟩
  | 72 => ⟨S4x2048x512, .f32⟩
  | 73 => ⟨S4x2048x512, .f32⟩
  | 74 => ⟨S_, .f32⟩
  | 75 => ⟨S4x2048x512, .f32⟩
  | 76 => ⟨S4x2048x512, .f32⟩
  | 77 => ⟨S4x2048x512, .f32⟩
  | 78 => ⟨S_, .f32⟩
  | 79 => ⟨S4x2048x512, .f32⟩
  | 80 => ⟨S4x2048x512, .f32⟩
  | 81 => ⟨S_, .f32⟩
  | 82 => ⟨S4x2048x512, .f32⟩
  | 83 => ⟨S4x2048x512, .f32⟩
  | 84 => ⟨S4x2048x512, .f32⟩
  | 85 => ⟨S_, .f32⟩
  | 86 => ⟨S4x2048x512, .f32⟩
  | 87 => ⟨S4x2048x512, .f32⟩
  | 88 => ⟨S_, .f32⟩
  | 89 => ⟨S4x2048x512, .f32⟩
  | 90 => ⟨S4x2048x512, .f32⟩
  | 91 => ⟨S4x2048x512, .f32⟩
  | 92 => ⟨S4x2048x512, .f32⟩
  | 93 => ⟨S4x2048x512, .f32⟩
  | 94 => ⟨S4x2048x512, .f32⟩
  | 95 => ⟨S_, .f32⟩
  | 96 => ⟨S4x2048x512, .f32⟩
  | 97 => ⟨S4x2048x512, .f32⟩
  | 98 => ⟨S_, .f32⟩
  | 99 => ⟨S4x2048x512, .f32⟩
  | 100 => ⟨S4x2048x512, .f32⟩
  | 101 => ⟨S_, .f32⟩
  | 102 => ⟨S4x2048x512, .f32⟩
  | 103 => ⟨S4x2048x512, .f32⟩
  | 104 => ⟨S4x2048x512, .f32⟩
  | 105 => ⟨S_, .f32⟩
  | 106 => ⟨S4x2048x512, .f32⟩
  | 107 => ⟨S4x2048x512, .f32⟩
  | 108 => ⟨S4x2048x512, .f32⟩
  | 109 => ⟨S_, .f32⟩
  | 110 => ⟨S4x2048x512, .f32⟩
  | 111 => ⟨S4x2048x512, .f32⟩
  | 112 => ⟨S_, .f32⟩
  | 113 => ⟨S4x2048x512, .f32⟩
  | 114 => ⟨S4x2048x512, .f32⟩
  | 115 => ⟨S4x2048x512, .f32⟩
  | 116 => ⟨S_, .f32⟩
  | 117 => ⟨S4x2048x512, .f32⟩
  | 118 => ⟨S4x2048x512, .f32⟩
  | 119 => ⟨S_, .f32⟩
  | 120 => ⟨S4x2048x512, .f32⟩
  | 121 => ⟨S4x2048x512, .f32⟩
  | 122 => ⟨S4x2048x512, .f32⟩
  | 123 => ⟨S512, .f32⟩
  | 124 => ⟨S512, .f32⟩
  | 125 => ⟨S4x128x128, .f32⟩
  | 126 => ⟨S4x128, .f32⟩
  | 127 => ⟨S_, .f32⟩
  | _ => ⟨S4x2304x5632, .f32⟩

abbrev hbmTy0_1 (i : Nat) : BufTy := match i % 128 with
  | 0 => ⟨S4x2048, .f32⟩
  | 1 => ⟨S4x2048x1, .f32⟩
  | 2 => ⟨S_, .f32⟩
  | 3 => ⟨S4x2048x1, .f32⟩
  | 4 => ⟨S4x2048x1, .f32⟩
  | 5 => ⟨S4x2048x512, .f32⟩
  | 6 => ⟨S4x2048x512, .f32⟩
  | 7 => ⟨S4x2048x512, .f32⟩
  | 8 => ⟨S_, .f32⟩
  | 9 => ⟨S4x2048x512, .f32⟩
  | 10 => ⟨S4x2048x512, .f32⟩
  | 11 => ⟨S_, .f32⟩
  | 12 => ⟨S4x2048, .f32⟩
  | 13 => ⟨S4x2048x1, .f32⟩
  | 14 => ⟨S_, .f32⟩
  | 15 => ⟨S4x2048x1, .f32⟩
  | 16 => ⟨S4x2048x1, .f32⟩
  | 17 => ⟨S4x2048x512, .f32⟩
  | 18 => ⟨S4x2048x512, .f32⟩
  | 19 => ⟨S_, .f32⟩
  | 20 => ⟨S4x2048x1, .f32⟩
  | 21 => ⟨S4x2048x1, .f32⟩
  | 22 => ⟨S4x2048x1, .f32⟩
  | 23 => ⟨S4x2048x1, .f32⟩
  | 24 => ⟨S_, .f32⟩
  | 25 => ⟨S4x2048x1, .f32⟩
  | 26 => ⟨S4x2048x1, .f32⟩
  | 27 => ⟨S4x2048x512, .f32⟩
  | 28 => ⟨S4x2048x512, .f32⟩
  | 29 => ⟨S1x1x512, .f32⟩
  | 30 => ⟨S4x2048x512, .f32⟩
  | 31 => ⟨S4x2048x512, .f32⟩
  | 32 => ⟨S1x1x512, .f32⟩
  | 33 => ⟨S4x2048x512, .f32⟩
  | 34 => ⟨S4x2048x512, .f32⟩
  | 35 => ⟨S4x16x128x4x128, .f32⟩
  | 36 => ⟨S4x4x16x128x128, .f32⟩
  | 37 => ⟨S4x16x128x4x128, .f32⟩
  | 38 => ⟨S128x4, .f32⟩
  | 39 => ⟨S128x4x1, .f32⟩
  | 40 => ⟨S1x1x128x4x1, .f32⟩
  | 41 => ⟨S4x16x128x4x128, .f32⟩
  | 42 => ⟨S4x16x128x4x128, .f32⟩
  | 43 => ⟨S4x2048x512, .f32⟩
  | 44 => ⟨S4x2048x512, .f32⟩
  | 45 => ⟨S4x2048x1024, .f32⟩
  | 46 => ⟨S4x2048x1024, .f32⟩
  | 47 => ⟨S_, .f32⟩
  | 48 => ⟨S4x2048x1024, .f32⟩
  | 49 => ⟨S4x2048x1024, .f32⟩
  | 50 => ⟨S_, .f32⟩
  | 51 => ⟨S4x2048x1024, .f32⟩
  | 52 => ⟨S4x2048x1024, .f32⟩
  | 53 => ⟨S_, .f32⟩
  | 54 => ⟨S4x2048x1024, .f32⟩
  | 55 => ⟨S4x2048x1024, .f32⟩
  | 56 => ⟨S4x2048x1024, .f32⟩
  | 57 => ⟨S512x1024, .f32⟩
  | 58 => ⟨S4x2048x1024, .f32⟩
  | 59 => ⟨S4x2048x1024, .f32⟩
  | 60 => ⟨S4x2048x1024, .f32⟩
  | 61 => ⟨S4x2048x1024, .f32⟩
  | 62 => ⟨S_, .f32⟩
  | 63 => ⟨S4x2048x1024, .f32⟩
  | 64 => ⟨S4x2048x1024, .f32⟩
  | 65 => ⟨S_, .f32⟩
  | 66 => ⟨S4x2048x1024, .f32⟩
  | 67 => ⟨S4x2048x1024, .f32⟩
  | 68 => ⟨S_, .f32⟩
  | 69 => ⟨S4x2048x1024, .f32⟩
  | 70 => ⟨S4x2048x1024, .f32⟩
  | 71 => ⟨S4x2048x1024, .f32⟩
  | 72 => ⟨S512x1024, .f32⟩
  | 73 => ⟨S4x2048x1024, .f32⟩
  | 74 => ⟨S4x2048x1024, .f32⟩
  | 75 => ⟨S4x2048x1024, .f32⟩
  | 76 => ⟨S4x1x1024, .f32⟩
  | 77 => ⟨S1024x1024, .f32⟩
  | 78 => ⟨S4x2048x1024, .f32⟩
  | 79 => ⟨S4x2048x1024, .f32⟩
  | 80 => ⟨S4x2048x1024, .f32⟩
  | 81 => ⟨S4x2048x1024, .f32⟩
  | 82 => ⟨S4x2048x1024, .f32⟩
  | 83 => ⟨S4x2048x1024, .f32⟩
  | 84 => ⟨S_, .f32⟩
  | 85 => ⟨S4x1024, .f32⟩
  | 86 => ⟨S4x1x1024, .f32⟩
  | 87 => ⟨S1024x1024, .f32⟩
  | 88 => ⟨S1024x1024, .f32⟩
  | 89 => ⟨S4x2048x1024, .f32⟩
  | 90 => ⟨S1x1024x1024, .f32⟩
  | 91 => ⟨S_, .f32⟩
  | 92 => ⟨S4x1024, .f32⟩
  | 93 => ⟨S4x2048x1024, .f32⟩
  | 94 => ⟨S4x2048x1024, .f32⟩
  | 95 => ⟨S1024x512, .f32⟩
  | 96 => ⟨S512x1024, .f32⟩
  | 97 => ⟨S4x2048x512, .f32⟩
  | 98 => ⟨S1x512x1024, .f32⟩
  | 99 => ⟨S4x2048x1024, .f32⟩
  | 100 => ⟨S4x2048x1024, .f32⟩
  | 101 => ⟨S4x2048x1024, .f32⟩
  | 102 => ⟨S1024x512, .f32⟩
  | 103 => ⟨S512x1024, .f32⟩
  | 104 => ⟨S4x2048x512, .f32⟩
  | 105 => ⟨S1x512x1024, .f32⟩
  | 106 => ⟨S4x2048x1024, .f32⟩
  | 107 => ⟨S4x2048x512, .f32⟩
  | 108 => ⟨S4x2048x512, .f32⟩
  | 109 => ⟨S4x16x128x4x128, .f32⟩
  | 110 => ⟨S_, .f32⟩
  | 111 => ⟨S128x4, .f32⟩
  | 112 => ⟨S1x1x128x4x1, .f32⟩
  | 113 => ⟨S_, .f32⟩
  | 114 => ⟨S128x4, .f32⟩
  | 115 => ⟨S128x4x1, .f32⟩
  | 116 => ⟨S_, .f32⟩
  | 117 => ⟨S128x4, .f32⟩
  | 118 => ⟨S4x128, .f32⟩
  | 119 => ⟨S4x4x16x128x128, .f32⟩
  | 120 => ⟨S4x128x128, .f32⟩
  | 121 => ⟨S4x4x16x128x128, .f32⟩
  | 122 => ⟨S4x16x128x4x128, .f32⟩
  | 123 => ⟨S4x2048x512, .f32⟩
  | 124 => ⟨S_, .f32⟩
  | 125 => ⟨S512, .f32⟩
  | 126 => ⟨S1x1x512, .f32⟩
  | 127 => ⟨S_, .f32⟩
  | _ => ⟨S4x2304x5632, .f32⟩

abbrev hbmTy0_2 (i : Nat) : BufTy := match i % 128 with
  | 0 => ⟨S512, .f32⟩
  | 1 => ⟨S4x2048x512, .f32⟩
  | 2 => ⟨S_, .f32⟩
  | 3 => ⟨S512, .f32⟩
  | 4 => ⟨S1x1x512, .f32⟩
  | 5 => ⟨S4x2048x512, .f32⟩
  | 6 => ⟨S4x2048x512, .f32⟩
  | 7 => ⟨S_, .f32⟩
  | 8 => ⟨S512, .f32⟩
  | 9 => ⟨S4x2048x512, .f32⟩
  | 10 => ⟨S_, .f32⟩
  | 11 => ⟨S4x2048, .f32⟩
  | 12 => ⟨S4x2048x1, .f32⟩
  | 13 => ⟨S4x2048x512, .f32⟩
  | 14 => ⟨S4x2048x512, .f32⟩
  | 15 => ⟨S4x2048x1, .f32⟩
  | 16 => ⟨S4x2048x512, .f32⟩
  | 17 => ⟨S_, .f32⟩
  | 18 => ⟨S4x2048, .f32⟩
  | 19 => ⟨S4x2048x1, .f32⟩
  | 20 => ⟨S_, .f32⟩
  | 21 => ⟨S4x2048x1, .f32⟩
  | 22 => ⟨S4x2048x1, .f32⟩
  | 23 => ⟨S_, .f32⟩
  | 24 => ⟨S4x2048, .f32⟩
  | 25 => ⟨S4x2048x512, .f32⟩
  | 26 => ⟨S4x2048x512, .f32⟩
  | 27 => ⟨S4x2048x512, .f32⟩
  | 28 => ⟨S_, .f32⟩
  | 29 => ⟨S4x2048, .f32⟩
  | 30 => ⟨S4x2048x1, .f32⟩
  | 31 => ⟨S4x2048x512, .f32⟩
  | 32 => ⟨S4x2048x1, .f32⟩
  | 33 => ⟨S_, .f32⟩
  | 34 => ⟨S4x2048x1, .f32⟩
  | 35 => ⟨S4x2048x1, .f32⟩
  | 36 => ⟨S_, .f32⟩
  | 37 => ⟨S4x2048, .f32⟩
  | 38 => ⟨S4x2048x512, .f32⟩
  | 39 => ⟨S4x2048x512, .f32⟩
  | 40 => ⟨S1x4x128, .f32⟩
  | 41 => ⟨S1x4x128x128, .f32⟩
  | 42 => ⟨S1x512, .f32⟩
  | 43 => ⟨S1x512, .f32⟩
  | 44 => ⟨S4x2048x512, .f32⟩
  | 45 => ⟨S4x2048x512, .f32⟩
  | 46 => ⟨S_, .f32⟩
  | 47 => ⟨S4x2048x512, .f32⟩
  | 48 => ⟨S4x2048x512, .f32⟩
  | 49 => ⟨S4x2048x512, .f32⟩
  | 50 => ⟨S_, .f32⟩
  | 51 => ⟨S4x2048x512, .f32⟩
  | 52 => ⟨S4x2048x512, .f32⟩
  | 53 => ⟨S4x2048x512, .f32⟩
  | 54 => ⟨S_, .f32⟩
  | 55 => ⟨S4x2048x512, .f32⟩
  | 56 => ⟨S4x2048x512, .f32⟩
  | 57 => ⟨S_, .f32⟩
  | 58 => ⟨S4x2048x512, .f32⟩
  | 59 => ⟨S4x2048x512, .f32⟩
  | 60 => ⟨S4x2048x512, .f32⟩
  | 61 => ⟨S4x2048x512, .f32⟩
  | 62 => ⟨S4x2048x512, .f32⟩
  | 63 => ⟨S4x2048x512, .f32⟩
  | 64 => ⟨S_, .f32⟩
  | 65 => ⟨S4x2048x512, .f32⟩
  | 66 => ⟨S4x2048x512, .f32⟩
  | 67 => ⟨S4x2048x512, .f32⟩
  | 68 => ⟨S_, .f32⟩
  | 69 => ⟨S4x2048x512, .f32⟩
  | 70 => ⟨S4x2048x512, .f32⟩
  | 71 => ⟨S4x2048x512, .f32⟩
  | 72 => ⟨S_, .f32⟩
  | 73 => ⟨S4x2048x512, .f32⟩
  | 74 => ⟨S4x2048x512, .f32⟩
  | 75 => ⟨S_, .f32⟩
  | 76 => ⟨S4x2048x512, .f32⟩
  | 77 => ⟨S4x2048x512, .f32⟩
  | 78 => ⟨S4x2048x512, .f32⟩
  | 79 => ⟨S4x2048x512, .f32⟩
  | 80 => ⟨S4x2048x512, .f32⟩
  | 81 => ⟨S4x2048x512, .f32⟩
  | 82 => ⟨S4x2048x512, .f32⟩
  | 83 => ⟨S4x2048x512, .f32⟩
  | 84 => ⟨S4x2048x512, .f32⟩
  | 85 => ⟨S4x2048x512, .f32⟩
  | 86 => ⟨S4x2048x4x128, .f32⟩
  | 87 => ⟨S4x2048x4x128, .f32⟩
  | 88 => ⟨S_, .f32⟩
  | 89 => ⟨S128, .f32⟩
  | 90 => ⟨S1x1x1x128, .f32⟩
  | 91 => ⟨S4x2048x4x128, .f32⟩
  | 92 => ⟨S4x2048x4x128, .f32⟩
  | 93 => ⟨S_, .f32⟩
  | 94 => ⟨S128, .f32⟩
  | 95 => ⟨S4x2048x4x128, .f32⟩
  | 96 => ⟨S_, .f32⟩
  | 97 => ⟨S4x2048x4, .f32⟩
  | 98 => ⟨S4x2048x4x1, .f32⟩
  | 99 => ⟨S4x2048x4x128, .f32⟩
  | 100 => ⟨S4x2048x4x128, .f32⟩
  | 101 => ⟨S4x2048x4x1, .f32⟩
  | 102 => ⟨S_, .f32⟩
  | 103 => ⟨S4x2048x4x1, .f32⟩
  | 104 => ⟨S4x2048x4x1, .f32⟩
  | 105 => ⟨S_, .f32⟩
  | 106 => ⟨S4x2048x4, .f32⟩
  | 107 => ⟨S4x2048x4x128, .f32⟩
  | 108 => ⟨S4x2048x4x128, .f32⟩
  | 109 => ⟨S4x2048x4x128, .f32⟩
  | 110 => ⟨S4x2048x4x128, .f32⟩
  | 111 => ⟨S4x2048x4x128, .f32⟩
  | 112 => ⟨S1x128, .f32⟩
  | 113 => ⟨S4x2048x512, .f32⟩
  | 114 => ⟨S4x2048x3584, .f32⟩
  | 115 => ⟨S4x1x1024, .f32⟩
  | 116 => ⟨S_, .i32⟩
  | 117 => ⟨S_, .f32⟩
  | 118 => ⟨S4x8x1024, .f32⟩
  | 119 => ⟨S_, .i32⟩
  | 120 => ⟨S_, .f32⟩
  | 121 => ⟨S4x2304x512, .f32⟩
  | 122 => ⟨S_, .i32⟩
  | 123 => ⟨S_, .f32⟩
  | 124 => ⟨S4x2304x3584, .f32⟩
  | 125 => ⟨S4x2304x3584, .bf16⟩
  | 126 => ⟨S512x1024, .f32⟩
  | 127 => ⟨S512x4x256, .f32⟩
  | _ => ⟨S4x2304x5632, .f32⟩

abbrev hbmTy0_3 (i : Nat) : BufTy := match i % 128 with
  | 0 => ⟨S4x512x256, .f32⟩
  | 1 => ⟨S512x1024, .f32⟩
  | 2 => ⟨S512x4x256, .f32⟩
  | 3 => ⟨S4x512x256, .f32⟩
  | 4 => ⟨S1024x1024, .f32⟩
  | 5 => ⟨S4x128x128, .f32⟩
  | 6 => ⟨S4x128, .f32⟩
  | 7 => ⟨S128x4, .f32⟩
  | _ => ⟨S4x2304x5632, .f32⟩

abbrev hbmTy (i : Nat) : BufTy := match i / 128 with
  | 0 => hbmTy0_0 i
  | 1 => hbmTy0_1 i
  | 2 => hbmTy0_2 i
  | 3 => hbmTy0_3 i
  | _ => ⟨S4x2304x5632, .f32⟩

abbrev bufTy : (tb : Table) → Fin (tcTables nBuf tb) → BufTy
  | .hbm, ⟨i, _⟩ => hbmTy i
  | _, _ => ⟨S4x2304x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_v30_2 : Ref sig .tc := ⟨.hbm, 54, rfl⟩
abbrev main_call0_cst_1 : Ref sig .tc := ⟨.hbm, 55, rfl⟩
abbrev main_call0_v6 : Ref sig .tc := ⟨.hbm, 56, rfl⟩
abbrev main_call0_v7 : Ref sig .tc := ⟨.hbm, 57, rfl⟩
abbrev main_v30_1 : Ref sig .tc := ⟨.hbm, 58, rfl⟩
abbrev main_v30_0 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_3 : Ref sig .tc := ⟨.hbm, 64, rfl⟩
abbrev main_v35 : Ref sig .tc := ⟨.hbm, 65, rfl⟩
abbrev main_v36 : Ref sig .tc := ⟨.hbm, 66, rfl⟩
abbrev main_cst_4 : Ref sig .tc := ⟨.hbm, 67, rfl⟩
abbrev main_v37 : Ref sig .tc := ⟨.hbm, 68, rfl⟩
abbrev main_v38 : Ref sig .tc := ⟨.hbm, 69, rfl⟩
abbrev main_cst_5 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_6 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_7 : Ref sig .tc := ⟨.hbm, 78, rfl⟩
abbrev main_v45 : Ref sig .tc := ⟨.hbm, 79, rfl⟩
abbrev main_v46 : Ref sig .tc := ⟨.hbm, 80, rfl⟩
abbrev main_cst_8 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_9 : Ref sig .tc := ⟨.hbm, 85, rfl⟩
abbrev main_v50 : Ref sig .tc := ⟨.hbm, 86, rfl⟩
abbrev main_v51 : Ref sig .tc := ⟨.hbm, 87, rfl⟩
abbrev main_cst_10 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_11 : Ref sig .tc := ⟨.hbm, 95, rfl⟩
abbrev main_v58 : Ref sig .tc := ⟨.hbm, 96, rfl⟩
abbrev main_v59 : Ref sig .tc := ⟨.hbm, 97, rfl⟩
abbrev main_cst_12 : Ref sig .tc := ⟨.hbm, 98, rfl⟩
abbrev main_v60 : Ref sig .tc := ⟨.hbm, 99, rfl⟩
abbrev main_v61 : Ref sig .tc := ⟨.hbm, 100, rfl⟩
abbrev main_cst_13 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_14 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_15 : Ref sig .tc := ⟨.hbm, 109, rfl⟩
abbrev main_v68 : Ref sig .tc := ⟨.hbm, 110, rfl⟩
abbrev main_v69 : Ref sig .tc := ⟨.hbm, 111, rfl⟩
abbrev main_cst_16 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_17 : Ref sig .tc := ⟨.hbm, 116, rfl⟩
abbrev main_v73 : Ref sig .tc := ⟨.hbm, 117, rfl⟩
abbrev main_v74 : Ref sig .tc := ⟨.hbm, 118, rfl⟩
abbrev main_cst_18 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_19 : Ref sig .tc := ⟨.hbm, 127, rfl⟩
abbrev main_v82 : Ref sig .tc := ⟨.hbm, 128, rfl⟩
abbrev main_v83 : Ref sig .tc := ⟨.hbm, 129, rfl⟩
abbrev main_cst_20 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_cst_21 : Ref sig .tc := ⟨.hbm, 136, rfl⟩
abbrev main_v89 : Ref sig .tc := ⟨.hbm, 137, rfl⟩
abbrev main_v90 : Ref sig .tc := ⟨.hbm, 138, rfl⟩
abbrev main_cst_22 : Ref sig .tc := ⟨.hbm, 139, rfl⟩
abbrev main_v91 : Ref sig .tc := ⟨.hbm, 140, rfl⟩
abbrev main_v92 : Ref sig .tc := ⟨.hbm, 141, rfl⟩
abbrev main_cst_23 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_cst_24 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_cst_25 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_cst_26 : Ref sig .tc := ⟨.hbm, 175, rfl⟩
abbrev main_v123 : Ref sig .tc := ⟨.hbm, 176, rfl⟩
abbrev main_v124 : Ref sig .tc := ⟨.hbm, 177, rfl⟩
abbrev main_cst_27 : Ref sig .tc := ⟨.hbm, 178, rfl⟩
abbrev main_v125 : Ref sig .tc := ⟨.hbm, 179, rfl⟩
abbrev main_v126 : Ref sig .tc := ⟨.hbm, 180, rfl⟩
abbrev main_cst_28 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_cst_29 : Ref sig .tc := ⟨.hbm, 190, rfl⟩
abbrev main_v135 : Ref sig .tc := ⟨.hbm, 191, rfl⟩
abbrev main_v136 : Ref sig .tc := ⟨.hbm, 192, rfl⟩
abbrev main_cst_30 : Ref sig .tc := ⟨.hbm, 193, rfl⟩
abbrev main_v137 : Ref sig .tc := ⟨.hbm, 194, rfl⟩
abbrev main_v138 : Ref sig .tc := ⟨.hbm, 195, rfl⟩
abbrev main_cst_31 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_cst_32 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_cst_33 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_cst_34 : Ref sig .tc := ⟨.hbm, 238, rfl⟩
abbrev main_v178 : Ref sig .tc := ⟨.hbm, 239, rfl⟩
abbrev main_v179 : Ref sig .tc := ⟨.hbm, 240, rfl⟩
abbrev main_cst_35 : Ref sig .tc := ⟨.hbm, 241, rfl⟩
abbrev main_v180 : Ref sig .tc := ⟨.hbm, 242, rfl⟩
abbrev main_v181 : Ref sig .tc := ⟨.hbm, 243, rfl⟩
abbrev main_cst_36 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_cst_37 : Ref sig .tc := ⟨.hbm, 252, rfl⟩
abbrev main_v189 : Ref sig .tc := ⟨.hbm, 253, rfl⟩
abbrev main_v190 : Ref sig .tc := ⟨.hbm, 254, rfl⟩
abbrev main_cst_38 : Ref sig .tc := ⟨.hbm, 255, rfl⟩
abbrev main_v191 : Ref sig .tc := ⟨.hbm, 256, rfl⟩
abbrev main_v192 : Ref sig .tc := ⟨.hbm, 257, rfl⟩
abbrev main_cst_39 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_cst_40 : Ref sig .tc := ⟨.hbm, 263, rfl⟩
abbrev main_v197 : Ref sig .tc := ⟨.hbm, 264, rfl⟩
abbrev main_v198 : Ref sig .tc := ⟨.hbm, 265, rfl⟩
abbrev main_cst_41 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_cst_42 : Ref sig .tc := ⟨.hbm, 273, rfl⟩
abbrev main_v205 : Ref sig .tc := ⟨.hbm, 274, rfl⟩
abbrev main_v206 : Ref sig .tc := ⟨.hbm, 275, rfl⟩
abbrev main_cst_43 : Ref sig .tc := ⟨.hbm, 276, rfl⟩
abbrev main_v207 : Ref sig .tc := ⟨.hbm, 277, rfl⟩
abbrev main_v208 : Ref sig .tc := ⟨.hbm, 278, rfl⟩
abbrev main_cst_44 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_cst_45 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_cst_46 : Ref sig .tc := ⟨.hbm, 289, rfl⟩
abbrev main_v217 : Ref sig .tc := ⟨.hbm, 290, rfl⟩
abbrev main_v218 : Ref sig .tc := ⟨.hbm, 291, rfl⟩
abbrev main_cst_47 : Ref sig .tc := ⟨.hbm, 292, rfl⟩
abbrev main_v219 : Ref sig .tc := ⟨.hbm, 293, rfl⟩
abbrev main_v220 : Ref sig .tc := ⟨.hbm, 294, rfl⟩
abbrev main_v221 : Ref sig .tc := ⟨.hbm, 295, rfl⟩
abbrev main_v222 : Ref sig .tc := ⟨.hbm, 296, rfl⟩
abbrev main_v223 : Ref sig .tc := ⟨.hbm, 297, rfl⟩
abbrev main_v224 : Ref sig .tc := ⟨.hbm, 298, rfl⟩
abbrev main_v225 : Ref sig .tc := ⟨.hbm, 299, rfl⟩
abbrev main_v226 : Ref sig .tc := ⟨.hbm, 300, rfl⟩
abbrev main_v227 : Ref sig .tc := ⟨.hbm, 301, rfl⟩
abbrev main_cst_48 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_cst_49 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_cst_50 : Ref sig .tc := ⟨.hbm, 310, rfl⟩
abbrev main_v234 : Ref sig .tc := ⟨.hbm, 311, rfl⟩
abbrev main_v235 : Ref sig .tc := ⟨.hbm, 312, rfl⟩
abbrev main_cst_51 : Ref sig .tc := ⟨.hbm, 313, rfl⟩
abbrev main_v236 : Ref sig .tc := ⟨.hbm, 314, rfl⟩
abbrev main_v237 : Ref sig .tc := ⟨.hbm, 315, rfl⟩
abbrev main_v238 : Ref sig .tc := ⟨.hbm, 316, rfl⟩
abbrev main_v239 : Ref sig .tc := ⟨.hbm, 317, rfl⟩
abbrev main_v240 : Ref sig .tc := ⟨.hbm, 318, rfl⟩
abbrev main_v241 : Ref sig .tc := ⟨.hbm, 319, rfl⟩
abbrev main_cst_52 : Ref sig .tc := ⟨.hbm, 320, rfl⟩
abbrev main_v242 : Ref sig .tc := ⟨.hbm, 321, rfl⟩
abbrev main_v243 : Ref sig .tc := ⟨.hbm, 322, rfl⟩
abbrev main_v244 : Ref sig .tc := ⟨.hbm, 323, rfl⟩
abbrev main_cst_53 : Ref sig .tc := ⟨.hbm, 324, rfl⟩
abbrev main_v245 : Ref sig .tc := ⟨.hbm, 325, rfl⟩
abbrev main_v246 : Ref sig .tc := ⟨.hbm, 326, rfl⟩
abbrev main_v247 : Ref sig .tc := ⟨.hbm, 327, rfl⟩
abbrev main_cst_54 : Ref sig .tc := ⟨.hbm, 328, rfl⟩
abbrev main_v248 : Ref sig .tc := ⟨.hbm, 329, rfl⟩
abbrev main_v249 : Ref sig .tc := ⟨.hbm, 330, rfl⟩
abbrev main_cst_55 : Ref sig .tc := ⟨.hbm, 331, rfl⟩
abbrev main_v250 : Ref sig .tc := ⟨.hbm, 332, rfl⟩
abbrev main_v251 : Ref sig .tc := ⟨.hbm, 333, rfl⟩
abbrev main_v252 : Ref sig .tc := ⟨.hbm, 334, rfl⟩
abbrev main_v253 : Ref sig .tc := ⟨.hbm, 335, rfl⟩
abbrev main_v254 : Ref sig .tc := ⟨.hbm, 336, rfl⟩
abbrev main_v255 : Ref sig .tc := ⟨.hbm, 337, rfl⟩
abbrev main_call1_v0 : Ref sig .tc := ⟨.hbm, 338, rfl⟩
abbrev main_call1_v1 : Ref sig .tc := ⟨.hbm, 339, rfl⟩
abbrev main_call1_v2 : Ref sig .tc := ⟨.hbm, 340, rfl⟩
abbrev main_v256 : Ref sig .tc := ⟨.hbm, 341, rfl⟩
abbrev main_v257 : Ref sig .tc := ⟨.hbm, 342, rfl⟩
abbrev main_v258 : Ref sig .tc := ⟨.hbm, 343, rfl⟩
abbrev main_cst_56 : Ref sig .tc := ⟨.hbm, 344, rfl⟩
abbrev main_v259 : Ref sig .tc := ⟨.hbm, 345, rfl⟩
abbrev main_v260 : Ref sig .tc := ⟨.hbm, 346, rfl⟩
abbrev main_v261 : Ref sig .tc := ⟨.hbm, 347, rfl⟩
abbrev main_v262 : Ref sig .tc := ⟨.hbm, 348, rfl⟩
abbrev main_cst_57 : Ref sig .tc := ⟨.hbm, 349, rfl⟩
abbrev main_v263 : Ref sig .tc := ⟨.hbm, 350, rfl⟩
abbrev main_v264 : Ref sig .tc := ⟨.hbm, 351, rfl⟩
abbrev main_cst_58 : Ref sig .tc := ⟨.hbm, 352, rfl⟩
abbrev main_v265 : Ref sig .tc := ⟨.hbm, 353, rfl⟩
abbrev main_v266 : Ref sig .tc := ⟨.hbm, 354, rfl⟩
abbrev main_v267 : Ref sig .tc := ⟨.hbm, 355, rfl⟩
abbrev main_v268 : Ref sig .tc := ⟨.hbm, 356, rfl⟩
abbrev main_v269 : Ref sig .tc := ⟨.hbm, 357, rfl⟩
abbrev main_cst_59 : Ref sig .tc := ⟨.hbm, 358, rfl⟩
abbrev main_v270 : Ref sig .tc := ⟨.hbm, 359, rfl⟩
abbrev main_v271 : Ref sig .tc := ⟨.hbm, 360, rfl⟩
abbrev main_cst_60 : Ref sig .tc := ⟨.hbm, 361, rfl⟩
abbrev main_v272 : Ref sig .tc := ⟨.hbm, 362, rfl⟩
abbrev main_v273 : Ref sig .tc := ⟨.hbm, 363, rfl⟩
abbrev main_v274 : Ref sig .tc := ⟨.hbm, 364, rfl⟩
abbrev main_v275 : Ref sig .tc := ⟨.hbm, 365, rfl⟩
abbrev main_v276 : Ref sig .tc := ⟨.hbm, 366, rfl⟩
abbrev main_v277 : Ref sig .tc := ⟨.hbm, 367, rfl⟩
abbrev main_v278 : Ref sig .tc := ⟨.hbm, 368, rfl⟩
abbrev main_v279 : Ref sig .tc := ⟨.hbm, 369, rfl⟩
abbrev main_v280 : Ref sig .tc := ⟨.hbm, 370, rfl⟩
abbrev main_v281 : Ref sig .tc := ⟨.hbm, 371, rfl⟩
abbrev main_c : Ref sig .tc := ⟨.hbm, 372, rfl⟩
abbrev main_call2_v0 : Ref sig .tc := ⟨.hbm, 373, rfl⟩
abbrev main_v282 : Ref sig .tc := ⟨.hbm, 374, rfl⟩
abbrev main_c_61 : Ref sig .tc := ⟨.hbm, 375, rfl⟩
abbrev main_call3_v0 : Ref sig .tc := ⟨.hbm, 376, rfl⟩
abbrev main_v283 : Ref sig .tc := ⟨.hbm, 377, rfl⟩
abbrev main_c_62 : Ref sig .tc := ⟨.hbm, 378, rfl⟩
abbrev main_call4_v0 : Ref sig .tc := ⟨.hbm, 379, rfl⟩
abbrev main_v284 : Ref sig .tc := ⟨.hbm, 380, rfl⟩
abbrev main_v285 : Ref sig .tc := ⟨.hbm, 381, rfl⟩
abbrev main_v286 : Ref sig .tc := ⟨.hbm, 382, rfl⟩
abbrev main_v287 : Ref sig .tc := ⟨.hbm, 383, rfl⟩
abbrev main_v288 : Ref sig .tc := ⟨.hbm, 384, rfl⟩
abbrev main_v289 : Ref sig .tc := ⟨.hbm, 385, rfl⟩
abbrev main_v290 : Ref sig .tc := ⟨.hbm, 386, rfl⟩
abbrev main_v291 : Ref sig .tc := ⟨.hbm, 387, rfl⟩
abbrev main_v292 : Ref sig .tc := ⟨.hbm, 388, rfl⟩
abbrev main_v293 : Ref sig .tc := ⟨.hbm, 389, rfl⟩
abbrev main_v294 : Ref sig .tc := ⟨.hbm, 390, rfl⟩
abbrev main_v295 : Ref sig .tc := ⟨.hbm, 391, rfl⟩

abbrev nD : Nat := 1
abbrev τ : Topo := Topo.v7x

variable {F : FTy → Type} [FloatOps F]
-- ==== Red.lean ====
abbrev S640x1024 : Shape := ⟨2, ![640, 1024]⟩
abbrev S2x2x512 : Shape := ⟨3, ![2, 2, 512]⟩
abbrev S80x1024 : Shape := ⟨2, ![80, 1024]⟩
abbrev S2x512 : Shape := ⟨2, ![2, 512]⟩
abbrev S1x1024 : Shape := ⟨2, ![1, 1024]⟩
abbrev S1x1x512 : Shape := ⟨3, ![1, 1, 512]⟩
abbrev S1x512 : Shape := ⟨2, ![1, 512]⟩

abbrev nBuf : Space → Nat
  | .hbm => 4
  | .vmem => 4
  | .smem => 0
  | _ => 0

abbrev bufTy : (tb : Table) → Fin (tcTables nBuf tb) → BufTy
  | .hbm, ⟨0, _⟩ => ⟨S640x1024, .f32⟩
  | .hbm, ⟨1, _⟩ => ⟨S2x2x512, .f32⟩
  | .hbm, ⟨2, _⟩ => ⟨S80x1024, .f32⟩
  | .hbm, ⟨3, _⟩ => ⟨S2x512, .f32⟩
  | .local _ .vmem, ⟨0, _⟩ => ⟨S640x1024, .f32⟩
  | .local _ .vmem, ⟨1, _⟩ => ⟨S2x2x512, .f32⟩
  | .local _ .vmem, ⟨2, _⟩ => ⟨S80x1024, .f32⟩
  | .local _ .vmem, ⟨3, _⟩ => ⟨S2x512, .f32⟩
  | _, _ => ⟨S640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S640x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S80x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== RedRefIdeal.lean ====
abbrev S640x1024 : Shape := ⟨2, ![640, 1024]⟩
abbrev S2x2x512 : Shape := ⟨3, ![2, 2, 512]⟩
abbrev S8x80x1024 : Shape := ⟨3, ![8, 80, 1024]⟩
abbrev S_ : Shape := ⟨0, ![]⟩
abbrev S80x1024 : Shape := ⟨2, ![80, 1024]⟩
abbrev S3x1024 : Shape := ⟨2, ![3, 1024]⟩
abbrev S4x1x1024 : Shape := ⟨3, ![4, 1, 1024]⟩
abbrev S1x1024 : Shape := ⟨2, ![1, 1024]⟩
abbrev S76x1024 : Shape := ⟨2, ![76, 1024]⟩
abbrev S2x512 : Shape := ⟨2, ![2, 512]⟩
abbrev S1x2x512 : Shape := ⟨3, ![1, 2, 512]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S640x1024, .f32⟩
  | .hbm, ⟨1, _⟩ => ⟨S2x2x512, .f32⟩
  | .hbm, ⟨2, _⟩ => ⟨S8x80x1024, .f32⟩
  | .hbm, ⟨3, _⟩ => ⟨S_, .f32⟩
  | .hbm, ⟨4, _⟩ => ⟨S80x1024, .f32⟩
  | .hbm, ⟨5, _⟩ => ⟨S3x1024, .f32⟩
  | .hbm, ⟨6, _⟩ => ⟨S4x1x1024, .f32⟩
  | .hbm, ⟨7, _⟩ => ⟨S_, .f32⟩
  | .hbm, ⟨8, _⟩ => ⟨S1x1024, .f32⟩
  | .hbm, ⟨9, _⟩ => ⟨S76x1024, .f32⟩
  | .hbm, ⟨10, _⟩ => ⟨S80x1024, .f32⟩
  | .hbm, ⟨11, _⟩ => ⟨S_, .f32⟩
  | .hbm, ⟨12, _⟩ => ⟨S2x512, .f32⟩
  | .hbm, ⟨13, _⟩ => ⟨S1x2x512, .f32⟩
  | .hbm, ⟨14, _⟩ => ⟨S2x2x512, .f32⟩
  | .hbm, ⟨15, _⟩ => ⟨S2x2x512, .i1⟩
  | .hbm, ⟨16, _⟩ => ⟨S2x2x512, .f32⟩
  | .hbm, ⟨17, _⟩ => ⟨S_, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .i1⟩
  | .hbm, ⟨25, _⟩ => ⟨S_, .f32⟩
  | .hbm, ⟨26, _⟩ => ⟨S2x512, .f32⟩
  | .hbm, ⟨27, _⟩ => ⟨S2x512, .i1⟩
  | .hbm, ⟨28, _⟩ => ⟨S_, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S_, .f32⟩
  | .hbm, ⟨33, _⟩ => ⟨S2x512, .f32⟩
  | .hbm, ⟨34, _⟩ => ⟨S2x512, .f32⟩
  | .hbm, ⟨35, _⟩ => ⟨S2x512, .f32⟩
  | .hbm, ⟨36, _⟩ => ⟨S1x2x512, .f32⟩
  | .hbm, ⟨37, _⟩ => ⟨S2x2x512, .f32⟩
  | .hbm, ⟨38, _⟩ => ⟨S2x2x512, .f32⟩
  | .hbm, ⟨39, _⟩ => ⟨S2x2x512, .f32⟩
  | .hbm, ⟨40, _⟩ => ⟨S_, .f32⟩
  | .hbm, ⟨41, _⟩ => ⟨S2x512, .f32⟩
  | .hbm, ⟨42, _⟩ => ⟨S1x2x512, .f32⟩
  | .hbm, ⟨43, _⟩ => ⟨S2x2x512, .f32⟩
  | .hbm, ⟨44, _⟩ => ⟨S2x2x512, .f32⟩
  | .hbm, ⟨45, _⟩ => ⟨S1x2x512, .f32⟩
  | .hbm, ⟨46, _⟩ => ⟨S_, .f32⟩
  | .hbm, ⟨47, _⟩ => ⟨S1x2x512, .f32⟩
  | .hbm, ⟨48, _⟩ => ⟨S1x2x512, .f32⟩
  | .hbm, ⟨49, _⟩ => ⟨S_, .f32⟩
  | .hbm, ⟨50, _⟩ => ⟨S_, .f32⟩
  | .hbm, ⟨51, _⟩ => ⟨S2x2x512, .f32⟩
  | .hbm, ⟨52, _⟩ => ⟨S1x2x512, .f32⟩
  | .hbm, ⟨53, _⟩ => ⟨S2x512, .f32⟩
  | .hbm, ⟨54, _⟩ => ⟨S1x1024, .f32⟩
  | .hbm, ⟨55, _⟩ => ⟨S1024, .f32⟩
  | .hbm, ⟨56, _⟩ => ⟨S2x512, .f32⟩
  | .hbm, ⟨57, _⟩ => ⟨S1x2x512, .f32⟩
  | .hbm, ⟨58, _⟩ => ⟨S_, .f32⟩
  | .hbm, ⟨59, _⟩ => ⟨S2x2x512, .f32⟩
  | .hbm, ⟨60, _⟩ => ⟨S_, .f32⟩
  | .hbm, ⟨61, _⟩ => ⟨S_, .f32⟩
  | .hbm, ⟨62, _⟩ => ⟨S2x2x512, .f32⟩
  | .hbm, ⟨63, _⟩ => ⟨S2x2x512, .f32⟩
  | .hbm, ⟨64, _⟩ => ⟨S2x2x512, .f32⟩
  | .hbm, ⟨65, _⟩ => ⟨S2x2x512, .f32⟩
  | .hbm, ⟨66, _⟩ => ⟨S_, .f32⟩
  | .hbm, ⟨67, _⟩ => ⟨S2x512, .f32⟩
  | .hbm, ⟨68, _⟩ => ⟨S1x2x512, .f32⟩
  | .hbm, ⟨69, _⟩ => ⟨S1x2x512, .f32⟩
  | .hbm, ⟨70, _⟩ => ⟨S2x2x512, .f32⟩
  | .hbm, ⟨71, _⟩ => ⟨S2x2x512, .f32⟩
  | .hbm, ⟨72, _⟩ => ⟨S_, .f32⟩
  | .hbm, ⟨73, _⟩ => ⟨S2x512, .f32⟩
  | .hbm, ⟨74, _⟩ => ⟨S2x2x512, .f32⟩
  | .hbm, ⟨75, _⟩ => ⟨S2x2x512, .f32⟩
  | .hbm, ⟨76, _⟩ => ⟨S2x2x512, .f32⟩
  | .hbm, ⟨77, _⟩ => ⟨S1x2x512, .f32⟩
  | .hbm, ⟨78, _⟩ => ⟨S2x512, .f32⟩
  | _, _ => ⟨S640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_9 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩
abbrev main_v34 : Ref sig .tc := ⟨.hbm, 48, rfl⟩
abbrev main_call0_call0_cst : Ref sig .tc := ⟨.hbm, 49, rfl⟩
abbrev main_call0_call0_v0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_11 : Ref sig .tc := ⟨.hbm, 58, rfl⟩
abbrev main_v42 : Ref sig .tc := ⟨.hbm, 59, rfl⟩
abbrev main_call1_call0_cst : Ref sig .tc := ⟨.hbm, 60, rfl⟩
abbrev main_call1_call0_v0 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== Mixf.lean ====
abbrev S4x2304x5632 : Shape := ⟨3, ![4, 2304, 5632]⟩
abbrev S4x2304x512 : Shape := ⟨3, ![4, 2304, 512]⟩
abbrev S4x2048x1024 : Shape := ⟨3, ![4, 2048, 1024]⟩
abbrev S4x6x1024 : Shape := ⟨3, ![4, 6, 1024]⟩
abbrev S1x128 : Shape := ⟨2, ![1, 128]⟩
abbrev S1x512 : Shape := ⟨2, ![1, 512]⟩
abbrev S1x4x128x128 : Shape := ⟨4, ![1, 4, 128, 128]⟩
abbrev S1x4x128 : Shape := ⟨3, ![1, 4, 128]⟩
abbrev S1x512x1024 : Shape := ⟨3, ![1, 512, 1024]⟩
abbrev S1x1024x1024 : Shape := ⟨3, ![1, 1024, 1024]⟩
abbrev S4x4x1024 : Shape := ⟨3, ![4, 4, 1024]⟩
abbrev S_ : Shape := ⟨0, ![]⟩
abbrev S4x8x1024 : Shape := ⟨3, ![4, 8, 1024]⟩
abbrev S4x128x128 : Shape := ⟨3, ![4, 128, 128]⟩
abbrev S4x128 : Shape := ⟨2, ![4, 128]⟩
abbrev S128x4 : Shape := ⟨2, ![128, 4]⟩
abbrev S512x1024 : Shape := ⟨2, ![512, 1024]⟩
abbrev S512x4x256 : Shape := ⟨3, ![512, 4, 256]⟩
abbrev S4x512x256 : Shape := ⟨3, ![4, 512, 256]⟩
abbrev S1024x1024 : Shape := ⟨2, ![1024, 1024]⟩
abbrev S1x256x512 : Shape := ⟨3, ![1, 256, 512]⟩
abbrev S1x256x1024 : Shape := ⟨3, ![1, 256, 1024]⟩
abbrev S1x8x1024 : Shape := ⟨3, ![1, 8, 1024]⟩
abbrev S256x512 : Shape := ⟨2, ![256, 512]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1x512x256 : Shape := ⟨3, ![1, 512, 256]⟩
abbrev S512x256 : Shape := ⟨2, ![512, 256]⟩
abbrev S256x256 : Shape := ⟨2, ![256, 256]⟩
abbrev S1x128x128 : Shape := ⟨3, ![1, 128, 128]⟩
abbrev S128x128 : Shape := ⟨2, ![128, 128]⟩
abbrev S128x1 : Shape := ⟨2, ![128, 1]⟩
abbrev S128x512 : Shape := ⟨2, ![128, 512]⟩
abbrev S1x1x1024 : Shape := ⟨3, ![1, 1, 1024]⟩
abbrev S1x1024 : Shape := ⟨2, ![1, 1024]⟩

abbrev nBuf : Space → Nat
  | .hbm => 31
  | .vmem => 32
  | .smem => 0
  | _ => 0

abbrev bufTy : (tb : Table) → Fin (tcTables nBuf tb) → BufTy
  | .hbm, ⟨0, _⟩ => ⟨S4x2304x5632, .f32⟩
  | .hbm, ⟨1, _⟩ => ⟨S4x2304x512, .f32⟩
  | .hbm, ⟨2, _⟩ => ⟨S4x2304x512, .f32⟩
  | .hbm, ⟨3, _⟩ => ⟨S4x2048x1024, .f32⟩
  | .hbm, ⟨4, _⟩ => ⟨S4x6x1024, .f32⟩
  | .hbm, ⟨5, _⟩ => ⟨S1x128, .f32⟩
  | .hbm, ⟨6, _⟩ => ⟨S1x512, .f32⟩
  | .hbm, ⟨7, _⟩ => ⟨S1x512, .f32⟩
  | .hbm, ⟨8, _⟩ => ⟨S1x4x128x128, .f32⟩
  | .hbm, ⟨9, _⟩ => ⟨S1x4x128, .f32⟩
  | .hbm, ⟨10, _⟩ => ⟨S1x512x1024, .f32⟩
  | .hbm, ⟨11, _⟩ => ⟨S1x512x1024, .f32⟩
  | .hbm, ⟨12, _⟩ => ⟨S1x1024x1024, .f32⟩
  | .hbm, ⟨13, _⟩ => ⟨S4x4x1024, .f32⟩
  | .hbm, ⟨14, _⟩ => ⟨S_, .f32⟩
  | .hbm, ⟨15, _⟩ => ⟨S4x4x1024, .f32⟩
  | .hbm, ⟨16, _⟩ => ⟨S4x8x1024, .f32⟩
  | .hbm, ⟨17, _⟩ => ⟨S4x128x128, .f32⟩
  | .hbm, ⟨18, _⟩ => ⟨S4x128, .f32⟩
  | .hbm, ⟨19, _⟩ => ⟨S128x4, .f32⟩
  | .hbm, ⟨20, _⟩ => ⟨S512x1024, .f32⟩
  | .hbm, ⟨21, _⟩ => ⟨S512x4x256, .f32⟩
  | .hbm, ⟨22, _⟩ => ⟨S4x512x256, .f32⟩
  | .hbm, ⟨23, _⟩ => ⟨S4x512x256, .bf16⟩
  | .hbm, ⟨24, _⟩ => ⟨S512x1024, .f32⟩
  | .hbm, ⟨25, _⟩ => ⟨S512x4x256, .f32⟩
  | .hbm, ⟨26, _⟩ => ⟨S4x512x256, .f32⟩
  | .hbm, ⟨27, _⟩ => ⟨S4x512x256, .bf16⟩
  | .hbm, ⟨28, _⟩ => ⟨S1024x1024, .f32⟩
  | .hbm, ⟨29, _⟩ => ⟨S1024x1024, .bf16⟩
  | .hbm, ⟨30, _⟩ => ⟨S4x2048x1024, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x1024, .f32⟩
  | .local _ .vmem, ⟨19, _⟩ => ⟨S1x256x1024, .f32⟩
  | .local _ .vmem, ⟨20, _⟩ => ⟨S1x8x1024, .f32⟩
  | .local _ .vmem, ⟨21, _⟩ => ⟨S1x8x1024, .f32⟩
  | .local _ .vmem, ⟨22, _⟩ => ⟨S1x128, .f32⟩
  | .local _ .vmem, ⟨23, _⟩ => ⟨S1x512, .f32⟩
  | .local _ .vmem, ⟨24, _⟩ => ⟨S1x512, .f32⟩
  | .local _ .vmem, ⟨25, _⟩ => ⟨S4x128x128, .f32⟩
  | .local _ .vmem, ⟨26, _⟩ => ⟨S128x4, .f32⟩
  | .local _ .vmem, ⟨27, _⟩ => ⟨S4x512x256, .bf16⟩
  | .local _ .vmem, ⟨28, _⟩ => ⟨S4x512x256, .bf16⟩
  | .local _ .vmem, ⟨29, _⟩ => ⟨S1024x1024, .bf16⟩
  | .local _ .vmem, ⟨30, _⟩ => ⟨S1x256x1024, .f32⟩
  | .local _ .vmem, ⟨31, _⟩ => ⟨S1x256x1024, .f32⟩
  | _, _ => ⟨S4x2304x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg19_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let c0_i32 : BitVec 32 := 0#32
  ![arg0.toNat, v0.toNat, c4_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c5_i32 : BitVec 32 := 5#32
  let c0_i32 : BitVec 32 := 0#32
  ![arg0.toNat, v0.toNat, c5_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c6_i32 : BitVec 32 := 6#32
  let c0_i32 : BitVec 32 := 0#32
  ![arg0.toNat, v0.toNat, c6_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let c0_i32 : BitVec 32 := 0#32
  ![arg0.toNat, v0.toNat, c7_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let c0_i32 : BitVec 32 := 0#32
  ![arg0.toNat, v0.toNat, c8_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c9_i32 : BitVec 32 := 9#32
  let c0_i32 : BitVec 32 := 0#32
  ![arg0.toNat, v0.toNat, c9_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c10_i32 : BitVec 32 := 10#32
  let c0_i32 : BitVec 32 := 0#32
  ![arg0.toNat, v0.toNat, c10_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S4x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x4 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S4x512x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S4x512x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== MixfIdeal.lean ====
variable {F : FTy → Type} [FloatOps F] [Named F]
def κ : String → Option EReal := fun
  | "gelu" => some ((8943 / 200000 : ℝ) : EReal)
  | _ => none
-- ==== MixfRefIdeal.lean ====
abbrev S4x2304x5632 : Shape := ⟨3, ![4, 2304, 5632]⟩
abbrev S4x2304x512 : Shape := ⟨3, ![4, 2304, 512]⟩
abbrev S4x2048x1024 : Shape := ⟨3, ![4, 2048, 1024]⟩
abbrev S4x6x1024 : Shape := ⟨3, ![4, 6, 1024]⟩
abbrev S1x128 : Shape := ⟨2, ![1, 128]⟩
abbrev S1x512 : Shape := ⟨2, ![1, 512]⟩
abbrev S1x4x128x128 : Shape := ⟨4, ![1, 4, 128, 128]⟩
abbrev S1x4x128 : Shape := ⟨3, ![1, 4, 128]⟩
abbrev S1x512x1024 : Shape := ⟨3, ![1, 512, 1024]⟩
abbrev S1x1024x1024 : Shape := ⟨3, ![1, 1024, 1024]⟩
abbrev S4x2048x512 : Shape := ⟨3, ![4, 2048, 512]⟩
abbrev S4x2048x3584 : Shape := ⟨3, ![4, 2048, 3584]⟩
abbrev S4x1x1024 : Shape := ⟨3, ![4, 1, 1024]⟩
abbrev S4x1024 : Shape := ⟨2, ![4, 1024]⟩
abbrev S4x2048x4x128 : Shape := ⟨4, ![4, 2048, 4, 128]⟩
abbrev S128 : Shape := ⟨1, ![128]⟩
abbrev S_ : Shape := ⟨0, ![]⟩
abbrev S4x2048x4 : Shape := ⟨3, ![4, 2048, 4]⟩
abbrev S4x2048x4x1 : Shape := ⟨4, ![4, 2048, 4, 1]⟩
abbrev S1x1x1x128 : Shape := ⟨4, ![1, 1, 1, 128]⟩
abbrev S512 : Shape := ⟨1, ![512]⟩
abbrev S4x128x128 : Shape := ⟨3, ![4, 128, 128]⟩
abbrev S4x128 : Shape := ⟨2, ![4, 128]⟩
abbrev S4x2048 : Shape := ⟨2, ![4, 2048]⟩
abbrev S4x2048x1 : Shape := ⟨3, ![4, 2048, 1]⟩
abbrev S1x1x512 : Shape := ⟨3, ![1, 1, 512]⟩
abbrev S4x16x128x4x128 : Shape := ⟨5, ![4, 16, 128, 4, 128]⟩
abbrev S4x4x16x128x128 : Shape := ⟨5, ![4, 4, 16, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S512x1024 : Shape := ⟨2, ![512, 1024]⟩
abbrev S1024x1024 : Shape := ⟨2, ![1024, 1024]⟩

abbrev nBuf : Space → Nat
  | .hbm => 165
  | .vmem => 0
  | .smem => 0
  | _ => 0

abbrev hbmTy0_0 (i : Nat) : BufTy := match i % 128 with
  | 0 => ⟨S4x2304x5632, .f32⟩
  | 1 => ⟨S4x2304x512, .f32⟩
  | 2 => ⟨S4x2304x512, .f32⟩
  | 3 => ⟨S4x2048x1024, .f32⟩
  | 4 => ⟨S4x6x1024, .f32⟩
  | 5 => ⟨S1x128, .f32⟩
  | 6 => ⟨S1x512, .f32⟩
  | 7 => ⟨S1x512, .f32⟩
  | 8 => ⟨S1x4x128x128, .f32⟩
  | 9 => ⟨S1x4x128, .f32⟩
  | 10 => ⟨S1x512x1024, .f32⟩
  | 11 => ⟨S1x512x1024, .f32⟩
  | 12 => ⟨S1x1024x1024, .f32⟩
  | 13 => ⟨S4x2048x512, .f32⟩
  | 14 => ⟨S4x2048x512, .f32⟩
  | 15 => ⟨S4x2048x3584, .f32⟩
  | 16 => ⟨S4x1x1024, .f32⟩
  | 17 => ⟨S4x1024, .f32⟩
  | 18 => ⟨S4x2048x512, .f32⟩
  | 19 => ⟨S4x2048x512, .f32⟩
  | 20 => ⟨S4x2048x512, .f32⟩
  | 21 => ⟨S4x2048x1024, .f32⟩
  | 22 => ⟨S4x2048x1024, .f32⟩
  | 23 => ⟨S4x2048x512, .f32⟩
  | 24 => ⟨S4x2048x4x128, .f32⟩
  | 25 => ⟨S128, .f32⟩
  | 26 => ⟨S4x2048x4x128, .f32⟩
  | 27 => ⟨S_, .f32⟩
  | 28 => ⟨S4x2048x4, .f32⟩
  | 29 => ⟨S4x2048x4x1, .f32⟩
  | 30 => ⟨S_, .f32⟩
  | 31 => ⟨S4x2048x4x1, .f32⟩
  | 32 => ⟨S4x2048x4x1, .f32⟩
  | 33 => ⟨S_, .f32⟩
  | 34 => ⟨S4x2048x4x1, .f32⟩
  | 35 => ⟨S4x2048x4x1, .f32⟩
  | 36 => ⟨S4x2048x4x1, .f32⟩
  | 37 => ⟨S4x2048x4x128, .f32⟩
  | 38 => ⟨S4x2048x4x128, .f32⟩
  | 39 => ⟨S1x1x1x128, .f32⟩
  | 40 => ⟨S4x2048x4x128, .f32⟩
  | 41 => ⟨S4x2048x4x128, .f32⟩
  | 42 => ⟨S4x2048x512, .f32⟩
  | 43 => ⟨S4x2048x512, .f32⟩
  | 44 => ⟨S4x2048x512, .f32⟩
  | 45 => ⟨S_, .f32⟩
  | 46 => ⟨S4x2048x512, .f32⟩
  | 47 => ⟨S4x2048x512, .f32⟩
  | 48 => ⟨S_, .f32⟩
  | 49 => ⟨S4x2048x512, .f32⟩
  | 50 => ⟨S4x2048x512, .f32⟩
  | 51 => ⟨S4x2048x512, .f32⟩
  | 52 => ⟨S4x2048x512, .f32⟩
  | 53 => ⟨S4x2048x512, .f32⟩
  | 54 => ⟨S4x2048x512, .f32⟩
  | 55 => ⟨S_, .f32⟩
  | 56 => ⟨S4x2048x512, .f32⟩
  | 57 => ⟨S4x2048x512, .f32⟩
  | 58 => ⟨S_, .f32⟩
  | 59 => ⟨S4x2048x512, .f32⟩
  | 60 => ⟨S4x2048x512, .f32⟩
  | 61 => ⟨S4x2048x512, .f32⟩
  | 62 => ⟨S_, .f32⟩
  | 63 => ⟨S4x2048x512, .f32⟩
  | 64 => ⟨S4x2048x512, .f32⟩
  | 65 => ⟨S4x2048x512, .f32⟩
  | 66 => ⟨S_, .f32⟩
  | 67 => ⟨S4x2048x512, .f32⟩
  | 68 => ⟨S4x2048x512, .f32⟩
  | 69 => ⟨S_, .f32⟩
  | 70 => ⟨S4x2048x512, .f32⟩
  | 71 => ⟨S4x2048x512, .f32⟩
  | 72 => ⟨S4x2048x512, .f32⟩
  | 73 => ⟨S4x2048x512, .f32⟩
  | 74 => ⟨S4x2048x512, .f32⟩
  | 75 => ⟨S_, .f32⟩
  | 76 => ⟨S4x2048x512, .f32⟩
  | 77 => ⟨S4x2048x512, .f32⟩
  | 78 => ⟨S_, .f32⟩
  | 79 => ⟨S4x2048x512, .f32⟩
  | 80 => ⟨S4x2048x512, .f32⟩
  | 81 => ⟨S4x2048x512, .f32⟩
  | 82 => ⟨S_, .f32⟩
  | 83 => ⟨S4x2048x512, .f32⟩
  | 84 => ⟨S4x2048x512, .f32⟩
  | 85 => ⟨S4x2048x512, .f32⟩
  | 86 => ⟨S_, .f32⟩
  | 87 => ⟨S4x2048x512, .f32⟩
  | 88 => ⟨S4x2048x512, .f32⟩
  | 89 => ⟨S_, .f32⟩
  | 90 => ⟨S4x2048x512, .f32⟩
  | 91 => ⟨S4x2048x512, .f32⟩
  | 92 => ⟨S4x2048x512, .f32⟩
  | 93 => ⟨S512, .f32⟩
  | 94 => ⟨S512, .f32⟩
  | 95 => ⟨S4x128x128, .f32⟩
  | 96 => ⟨S4x128, .f32⟩
  | 97 => ⟨S_, .f32⟩
  | 98 => ⟨S4x2048, .f32⟩
  | 99 => ⟨S4x2048x1, .f32⟩
  | 100 => ⟨S_, .f32⟩
  | 101 => ⟨S4x2048x1, .f32⟩
  | 102 => ⟨S4x2048x1, .f32⟩
  | 103 => ⟨S4x2048x512, .f32⟩
  | 104 => ⟨S4x2048x512, .f32⟩
  | 105 => ⟨S4x2048x512, .f32⟩
  | 106 => ⟨S_, .f32⟩
  | 107 => ⟨S4x2048, .f32⟩
  | 108 => ⟨S4x2048x1, .f32⟩
  | 109 => ⟨S_, .f32⟩
  | 110 => ⟨S4x2048x1, .f32⟩
  | 111 => ⟨S4x2048x1, .f32⟩
  | 112 => ⟨S4x2048x512, .f32⟩
  | 113 => ⟨S4x2048x512, .f32⟩
  | 114 => ⟨S_, .f32⟩
  | 115 => ⟨S4x2048x1, .f32⟩
  | 116 => ⟨S4x2048x1, .f32⟩
  | 117 => ⟨S4x2048x1, .f32⟩
  | 118 => ⟨S4x2048x512, .f32⟩
  | 119 => ⟨S4x2048x512, .f32⟩
  | 120 => ⟨S1x1x512, .f32⟩
  | 121 => ⟨S4x2048x512, .f32⟩
  | 122 => ⟨S4x2048x512, .f32⟩
  | 123 => ⟨S1x1x512, .f32⟩
  | 124 => ⟨S4x2048x512, .f32⟩
  | 125 => ⟨S4x2048x512, .f32⟩
  | 126 => ⟨S4x16x128x4x128, .f32⟩
  | 127 => ⟨S4x4x16x128x128, .f32⟩
  | _ => ⟨S4x2304x5632, .f32⟩

abbrev hbmTy0_1 (i : Nat) : BufTy := match i % 128 with
  | 0 => ⟨S4x16x128x4x128, .f32⟩
  | 1 => ⟨S128x4, .f32⟩
  | 2 => ⟨S128x4x1, .f32⟩
  | 3 => ⟨S1x1x128x4x1, .f32⟩
  | 4 => ⟨S4x16x128x4x128, .f32⟩
  | 5 => ⟨S4x16x128x4x128, .f32⟩
  | 6 => ⟨S4x2048x512, .f32⟩
  | 7 => ⟨S4x2048x512, .f32⟩
  | 8 => ⟨S4x2048x1024, .f32⟩
  | 9 => ⟨S4x2048x1024, .f32⟩
  | 10 => ⟨S_, .f32⟩
  | 11 => ⟨S4x2048x1024, .f32⟩
  | 12 => ⟨S4x2048x1024, .f32⟩
  | 13 => ⟨S_, .f32⟩
  | 14 => ⟨S4x2048x1024, .f32⟩
  | 15 => ⟨S4x2048x1024, .f32⟩
  | 16 => ⟨S512x1024, .f32⟩
  | 17 => ⟨S4x2048x1024, .f32⟩
  | 18 => ⟨S4x2048x1024, .f32⟩
  | 19 => ⟨S4x2048x1024, .f32⟩
  | 20 => ⟨S4x2048x1024, .f32⟩
  | 21 => ⟨S_, .f32⟩
  | 22 => ⟨S4x2048x1024, .f32⟩
  | 23 => ⟨S4x2048x1024, .f32⟩
  | 24 => ⟨S_, .f32⟩
  | 25 => ⟨S4x2048x1024, .f32⟩
  | 26 => ⟨S4x2048x1024, .f32⟩
  | 27 => ⟨S512x1024, .f32⟩
  | 28 => ⟨S4x2048x1024, .f32⟩
  | 29 => ⟨S4x2048x1024, .f32⟩
  | 30 => ⟨S4x2048x1024, .f32⟩
  | 31 => ⟨S4x1x1024, .f32⟩
  | 32 => ⟨S1024x1024, .f32⟩
  | 33 => ⟨S4x2048x1024, .f32⟩
  | 34 => ⟨S4x2048x1024, .f32⟩
  | 35 => ⟨S4x2048x1024, .f32⟩
  | 36 => ⟨S4x2048x1024, .f32⟩
  | _ => ⟨S4x2304x5632, .f32⟩

abbrev hbmTy (i : Nat) : BufTy := match i / 128 with
  | 0 => hbmTy0_0 i
  | 1 => hbmTy0_1 i
  | _ => ⟨S4x2304x5632, .f32⟩

abbrev bufTy : (tb : Table) → Fin (tcTables nBuf tb) → BufTy
  | .hbm, ⟨i, _⟩ => hbmTy i
  | _, _ => ⟨S4x2304x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_2 : Ref sig .tc := ⟨.hbm, 55, rfl⟩
abbrev main_v31 : Ref sig .tc := ⟨.hbm, 56, rfl⟩
abbrev main_v32 : Ref sig .tc := ⟨.hbm, 57, rfl⟩
abbrev main_cst_3 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_4 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_5 : Ref sig .tc := ⟨.hbm, 66, rfl⟩
abbrev main_v39 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_7 : Ref sig .tc := ⟨.hbm, 75, rfl⟩
abbrev main_v46 : Ref sig .tc := ⟨.hbm, 76, rfl⟩
abbrev main_v47 : Ref sig .tc := ⟨.hbm, 77, rfl⟩
abbrev main_cst_8 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_9 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_10 : Ref sig .tc := ⟨.hbm, 86, rfl⟩
abbrev main_v54 : Ref sig .tc := ⟨.hbm, 87, rfl⟩
abbrev main_v55 : Ref sig .tc := ⟨.hbm, 88, rfl⟩
abbrev main_cst_11 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_12 : Ref sig .tc := ⟨.hbm, 97, rfl⟩
abbrev main_v63 : Ref sig .tc := ⟨.hbm, 98, rfl⟩
abbrev main_v64 : Ref sig .tc := ⟨.hbm, 99, rfl⟩
abbrev main_cst_13 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_14 : Ref sig .tc := ⟨.hbm, 106, rfl⟩
abbrev main_v70 : Ref sig .tc := ⟨.hbm, 107, rfl⟩
abbrev main_v71 : Ref sig .tc := ⟨.hbm, 108, rfl⟩
abbrev main_cst_15 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_16 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_17 : Ref sig .tc := ⟨.hbm, 138, rfl⟩
abbrev main_v99 : Ref sig .tc := ⟨.hbm, 139, rfl⟩
abbrev main_v100 : Ref sig .tc := ⟨.hbm, 140, rfl⟩
abbrev main_cst_18 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_cst_19 : Ref sig .tc := ⟨.hbm, 149, rfl⟩
abbrev main_v108 : Ref sig .tc := ⟨.hbm, 150, rfl⟩
abbrev main_v109 : Ref sig .tc := ⟨.hbm, 151, rfl⟩
abbrev main_cst_20 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩

abbrev nD : Nat := 1
abbrev τ : Topo := Topo.v7x

variable {F : FTy → Type} [FloatOps F]
-- ==== Inf.lean ====
abbrev S4x2048x1024 : Shape := ⟨3, ![4, 2048, 1024]⟩
abbrev S4x256x1024 : Shape := ⟨3, ![4, 256, 1024]⟩
abbrev S1x1024 : Shape := ⟨2, ![1, 1024]⟩
abbrev S4x6x1024 : Shape := ⟨3, ![4, 6, 1024]⟩
abbrev S6x1024 : Shape := ⟨2, ![6, 1024]⟩
abbrev S1x1024x1408 : Shape := ⟨3, ![1, 1024, 1408]⟩
abbrev S4x2x1024 : Shape := ⟨3, ![4, 2, 1024]⟩
abbrev S2x1024 : Shape := ⟨2, ![2, 1024]⟩
abbrev S1x2x1024 : Shape := ⟨3, ![1, 2, 1024]⟩
abbrev S_ : Shape := ⟨0, ![]⟩
abbrev S4x4x1024 : Shape := ⟨3, ![4, 4, 1024]⟩
abbrev S4x8x1024 : Shape := ⟨3, ![4, 8, 1024]⟩
abbrev S1 : Shape := ⟨1, ![1]⟩
abbrev S1024x1408 : Shape := ⟨2, ![1024, 1408]⟩
abbrev S4x2304x5632 : Shape := ⟨3, ![4, 2304, 5632]⟩
abbrev S4x2304x1024 : Shape := ⟨3, ![4, 2304, 1024]⟩
abbrev S1x256x1024 : Shape := ⟨3, ![1, 256, 1024]⟩
abbrev S1x8x1024 : Shape := ⟨3, ![1, 8, 1024]⟩
abbrev S1x256x1408 : Shape := ⟨3, ![1, 256, 1408]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S256x1408 : Shape := ⟨2, ![256, 1408]⟩
abbrev S4x2304x1408 : Shape := ⟨3, ![4, 2304, 1408]⟩

abbrev nBuf : Space → Nat
  | .hbm => 18
  | .vmem => 13
  | .smem => 1
  | _ => 0

abbrev bufTy : (tb : Table) → Fin (tcTables nBuf tb) → BufTy
  | .hbm, ⟨0, _⟩ => ⟨S4x2048x1024, .f32⟩
  | .hbm, ⟨1, _⟩ => ⟨S4x256x1024, .f32⟩
  | .hbm, ⟨2, _⟩ => ⟨S1x1024, .f32⟩
  | .hbm, ⟨3, _⟩ => ⟨S4x6x1024, .f32⟩
  | .hbm, ⟨4, _⟩ => ⟨S6x1024, .f32⟩
  | .hbm, ⟨5, _⟩ => ⟨S1x1024x1408, .f32⟩
  | .hbm, ⟨6, _⟩ => ⟨S4x2x1024, .f32⟩
  | .hbm, ⟨7, _⟩ => ⟨S2x1024, .f32⟩
  | .hbm, ⟨8, _⟩ => ⟨S1x2x1024, .f32⟩
  | .hbm, ⟨9, _⟩ => ⟨S4x2x1024, .f32⟩
  | .hbm, ⟨10, _⟩ => ⟨S_, .f32⟩
  | .hbm, ⟨11, _⟩ => ⟨S4x4x1024, .f32⟩
  | .hbm, ⟨12, _⟩ => ⟨S4x8x1024, .f32⟩
  | .hbm, ⟨13, _⟩ => ⟨S_, .i32⟩
  | .hbm, ⟨14, _⟩ => ⟨S1024x1408, .f32⟩
  | .hbm, ⟨15, _⟩ => ⟨S4x2304x5632, .f32⟩
  | .hbm, ⟨16, _⟩ => ⟨S4x2304x1024, .bf16⟩
  | .hbm, ⟨17, _⟩ => ⟨S4x2304x1408, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1024, .f32⟩
  | .local _ .vmem, ⟨5, _⟩ => ⟨S1x8x1024, .f32⟩
  | .local _ .vmem, ⟨6, _⟩ => ⟨S1x8x1024, .f32⟩
  | .local _ .vmem, ⟨7, _⟩ => ⟨S1024x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1024, .bf16⟩
  | .local _ .vmem, ⟨11, _⟩ => ⟨S1x256x1024, .bf16⟩
  | .local _ .vmem, ⟨12, _⟩ => ⟨S1024x1408, .bf16⟩
  | .local _ .smem, ⟨0, _⟩ => ⟨S1, .i32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev main_v6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 9], ![false, false]⟩

abbrev pre0 : Pipeline.Prefetch sig := ⟨1, ![main_v6.idx], fun | 0 => main_v6.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![arg0.toNat, arg1.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InfRefIdeal.lean ====
abbrev S4x2048x1024 : Shape := ⟨3, ![4, 2048, 1024]⟩
abbrev S4x256x1024 : Shape := ⟨3, ![4, 256, 1024]⟩
abbrev S1x1024 : Shape := ⟨2, ![1, 1024]⟩
abbrev S4x6x1024 : Shape := ⟨3, ![4, 6, 1024]⟩
abbrev S6x1024 : Shape := ⟨2, ![6, 1024]⟩
abbrev S1x1024x1408 : Shape := ⟨3, ![1, 1024, 1408]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x2048 : Shape := ⟨2, ![4, 2048]⟩
abbrev S4x2048x1 : Shape := ⟨3, ![4, 2048, 1]⟩
abbrev S4x1x1024 : Shape := ⟨3, ![4, 1, 1024]⟩
abbrev S4x1024 : Shape := ⟨2, ![4, 1024]⟩
abbrev S4x2304x1024 : Shape := ⟨3, ![4, 2304, 1024]⟩
abbrev S1024x1408 : Shape := ⟨2, ![1024, 1408]⟩
abbrev S4x2304x1408 : Shape := ⟨3, ![4, 2304, 1408]⟩

abbrev nBuf : Space → Nat
  | .hbm => 70
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x256x1024, .f32⟩
  | .hbm, ⟨2, _⟩ => ⟨S1x1024, .f32⟩
  | .hbm, ⟨3, _⟩ => ⟨S4x6x1024, .f32⟩
  | .hbm, ⟨4, _⟩ => ⟨S6x1024, .f32⟩
  | .hbm, ⟨5, _⟩ => ⟨S1x1024x1408, .f32⟩
  | .hbm, ⟨6, _⟩ => ⟨S1024, .f32⟩
  | .hbm, ⟨7, _⟩ => ⟨S4x256x1024, .f32⟩
  | .hbm, ⟨8, _⟩ => ⟨S_, .f32⟩
  | .hbm, ⟨9, _⟩ => ⟨S4x256, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S_, .f32⟩
  | .hbm, ⟨15, _⟩ => ⟨S4x256x1, .f32⟩
  | .hbm, ⟨16, _⟩ => ⟨S4x256x1, .f32⟩
  | .hbm, ⟨17, _⟩ => ⟨S4x256x1, .f32⟩
  | .hbm, ⟨18, _⟩ => ⟨S4x256x1024, .f32⟩
  | .hbm, ⟨19, _⟩ => ⟨S4x256x1024, .f32⟩
  | .hbm, ⟨20, _⟩ => ⟨S1x1x1024, .f32⟩
  | .hbm, ⟨21, _⟩ => ⟨S4x256x1024, .f32⟩
  | .hbm, ⟨22, _⟩ => ⟨S4x256x1024, .f32⟩
  | .hbm, ⟨23, _⟩ => ⟨S1x1024, .f32⟩
  | .hbm, ⟨24, _⟩ => ⟨S1024, .f32⟩
  | .hbm, ⟨25, _⟩ => ⟨S1x1x1024, .f32⟩
  | .hbm, ⟨26, _⟩ => ⟨S1x1024, .f32⟩
  | .hbm, ⟨27, _⟩ => ⟨S1024, .f32⟩
  | .hbm, ⟨28, _⟩ => ⟨S1x1x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S4x256x1024, .f32⟩
  | .hbm, ⟨33, _⟩ => ⟨S4x256x1024, .f32⟩
  | .hbm, ⟨34, _⟩ => ⟨S4x256x1024, .f32⟩
  | .hbm, ⟨35, _⟩ => ⟨S4x256x1024, .f32⟩
  | .hbm, ⟨36, _⟩ => ⟨S1024, .f32⟩
  | .hbm, ⟨37, _⟩ => ⟨S4x2048x1024, .f32⟩
  | .hbm, ⟨38, _⟩ => ⟨S_, .f32⟩
  | .hbm, ⟨39, _⟩ => ⟨S4x2048, .f32⟩
  | .hbm, ⟨40, _⟩ => ⟨S4x2048x1, .f32⟩
  | .hbm, ⟨41, _⟩ => ⟨S_, .f32⟩
  | .hbm, ⟨42, _⟩ => ⟨S4x2048x1, .f32⟩
  | .hbm, ⟨43, _⟩ => ⟨S4x2048x1, .f32⟩
  | .hbm, ⟨44, _⟩ => ⟨S_, .f32⟩
  | .hbm, ⟨45, _⟩ => ⟨S4x2048x1, .f32⟩
  | .hbm, ⟨46, _⟩ => ⟨S4x2048x1, .f32⟩
  | .hbm, ⟨47, _⟩ => ⟨S4x2048x1, .f32⟩
  | .hbm, ⟨48, _⟩ => ⟨S4x2048x1024, .f32⟩
  | .hbm, ⟨49, _⟩ => ⟨S4x2048x1024, .f32⟩
  | .hbm, ⟨50, _⟩ => ⟨S1x1x1024, .f32⟩
  | .hbm, ⟨51, _⟩ => ⟨S4x2048x1024, .f32⟩
  | .hbm, ⟨52, _⟩ => ⟨S4x2048x1024, .f32⟩
  | .hbm, ⟨53, _⟩ => ⟨S4x1x1024, .f32⟩
  | .hbm, ⟨54, _⟩ => ⟨S4x1024, .f32⟩
  | .hbm, ⟨55, _⟩ => ⟨S4x1x1024, .f32⟩
  | .hbm, ⟨56, _⟩ => ⟨S4x1x1024, .f32⟩
  | .hbm, ⟨57, _⟩ => ⟨S4x1024, .f32⟩
  | .hbm, ⟨58, _⟩ => ⟨S4x1x1024, .f32⟩
  | .hbm, ⟨59, _⟩ => ⟨S_, .f32⟩
  | .hbm, ⟨60, _⟩ => ⟨S4x1x1024, .f32⟩
  | .hbm, ⟨61, _⟩ => ⟨S4x1x1024, .f32⟩
  | .hbm, ⟨62, _⟩ => ⟨S4x2048x1024, .f32⟩
  | .hbm, ⟨63, _⟩ => ⟨S4x2048x1024, .f32⟩
  | .hbm, ⟨64, _⟩ => ⟨S4x2048x1024, .f32⟩
  | .hbm, ⟨65, _⟩ => ⟨S4x2048x1024, .f32⟩
  | .hbm, ⟨66, _⟩ => ⟨S4x2304x1024, .f32⟩
  | .hbm, ⟨67, _⟩ => ⟨S1024x1408, .f32⟩
  | .hbm, ⟨68, _⟩ => ⟨S4x2304x1408, .f32⟩
  | .hbm, ⟨69, _⟩ => ⟨S4x2304x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== Proof.ModFinal.lean ====
/- The three arrays `_mod_bwd` leaves, as functions of the arrays the pallas_call is entered with: the call has one grid
   point, every window is a whole array, so each result array is the payload of its one store. -/
module

public import proofs.«01_k».proof.Proof.Gen.ModIdeal.Value
public import Idealize.ShloMosaic.Lib.Affine
public import Idealize.ShloMosaic.Lib.Pointwise

@[expose] public section

noncomputable section

namespace Cert.ModIdeal.Final

open Idealize.ShloMosaic Idealize.SL.Sem Cert.ModIdeal Cert.ModIdeal.Gen Idealize.ShloMosaic.TcCoe
open Idealize.ShloMosaic.Pipeline (Dat)

variable {F : FTy → Type} [FloatOps F]
variable (m : (ℓ : Loc nD τ sig) → Buf (Elt F) ℓ)

/-- The blocks the body reads at the one point are the arrays the pallas_call is entered with: the conditioning rows, all
    columns of the cotangents, the chip's columns of them, the chip's columns of the weights, the context condition. -/
theorem blocks (c : Dev nD) : iblk m c 0 t0_0 = V m c main_v11 ∧ iblk m c 1 t0_0 = V m c main_v16 ∧ iblk m c 2 t0_0 = V m c main_v17
    ∧ iblk m c 3 t0_0 = V m c main_v19 ∧ iblk m c 4 t0_0 = V m c main_v20 := by
  refine ⟨?_, ?_, ?_, ?_, ?_⟩
  · exact Memref.read_access_unit_zero (Elt F) main_v11 (funext fun a => by fin_cases a <;> decide) (fun a => by fin_cases a <;> decide) _
  · exact Memref.read_access_unit_zero (Elt F) main_v16 (funext fun a => by fin_cases a <;> decide) (fun a => by fin_cases a <;> decide) _
  · exact Memref.read_access_unit_zero (Elt F) main_v17 (funext fun a => by fin_cases a <;> decide) (fun a => by fin_cases a <;> decide) _
  · exact Memref.read_access_unit_zero (Elt F) main_v19 (funext fun a => by fin_cases a <;> decide) (fun a => by fin_cases a <;> decide) _
  · exact Memref.read_access_unit_zero (Elt F) main_v20 (funext fun a => by fin_cases a <;> decide) (fun a => by fin_cases a <;> decide) _

/-- A load or store at offset zero, of rank two. -/
theorem off_zero : (![0, 0] : Fin 2 → Nat) = fun _ => 0 := funext fun a => by fin_cases a <;> rfl

/-- Each result array is the payload of its window's one store, over the arrays the pallas_call is entered with. -/
theorem finals (c : Dev nD) :
    (dats m 0 c).arrAt 5 cfg0.N = k0_pay3 (V m c main_v11) (V m c main_v17)
    ∧ (dats m 0 c).arrAt 6 cfg0.N = k0_pay4 (V m c main_v16)
    ∧ (dats m 0 c).arrAt 7 cfg0.N = k0_pay1 (k0_pay5 (V m c main_v17) (V m c main_v19)) (V m c main_v20) := by
  have h5 := Value.blocks5 m c t0_0 (flush0_5 t0_0)
  have h6 := Value.blocks6 m c t0_0 (flush0_6 t0_0)
  have h7 := Value.blocks7 m c t0_0 (flush0_7 t0_0)
  obtain ⟨e0, e1, e2, e3, e4⟩ := blocks m c
  rw [Value.flushed5, e0, e1, e2, e3, e4] at h5
  rw [Value.flushed6, e0, e1, e2, e3, e4] at h6
  rw [Value.flushed7, e0, e1, e2, e3, e4] at h7
  unfold out0_5 at h5
  unfold out0_6 at h6
  unfold out0_7 at h7
  rw [View.canon_unit_zero off_zero] at h5 h6 h7
  repeat rw [View.ld_unit_zero off_zero] at h5
  repeat rw [View.ld_unit_zero off_zero] at h6
  repeat rw [View.ld_unit_zero off_zero] at h7
  refine ⟨.trans (.symm ?_) h5, .trans (.symm ?_) h6, .trans (.symm ?_) h7⟩
  · exact Memref.read_access_unit_zero (Elt F) main_v21_0 (funext fun a => by fin_cases a <;> decide) (fun a => by fin_cases a <;> decide) _
  · exact Memref.read_access_unit_zero (Elt F) main_v21_1 (funext fun a => by fin_cases a <;> decide) (fun a => by fin_cases a <;> decide) _
  · exact Memref.read_access_unit_zero (Elt F) main_v21_2 (funext fun a => by fin_cases a <;> decide) (fun a => by fin_cases a <;> decide) _

end Cert.ModIdeal.Final

end
-- ==== Proof.Reals.lean ====
/- Extended reals that are real: what a proof of a gradient identity needs to leave `EReal`, where addition and
   multiplication do not distribute, for `ℝ`, where they do. -/
module

public import Idealize.ShloMosaic.Lib.Pointwise
public import Idealize.ShloMosaic.Lib.IdealHost
public import Mathlib.Tactic.Ring
public import Mathlib.Tactic.FieldSimp
public import Mathlib.Tactic.Positivity
public import Mathlib.Tactic.LinearCombination

@[expose] public section

noncomputable section

namespace Cert.Reals

open Idealize.ShloMosaic

/-- A sum of reals, taken in the extended reals, is the real sum. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A quotient of reals whose divisor is not zero. -/
theorem coe_div (a : ℝ) {b : ℝ} (h : b ≠ 0) : Ideal.div (a : EReal) (b : EReal) = ((a / b : ℝ) : EReal) := by
  rw [Ideal.div_coe h, ← EReal.coe_mul, mul_one_div]

/-- The reciprocal square root of a positive real. -/
theorem coe_rsqrt {a : ℝ} (h : 0 < a) : Ideal.rsqrt (a : EReal) = (((Real.sqrt a)⁻¹ : ℝ) : EReal) := by
  rw [Ideal.rsqrt_coe, if_neg (not_lt.mpr h.le), if_neg h.ne']

theorem one_add_exp_ne (x : ℝ) : 1 + Real.exp x ≠ 0 := (by positivity : (0 : ℝ) < 1 + Real.exp x).ne'

/-- An absolute value compared with the infinite constant: the element is a real. -/
theorem real_of_lt_inf {x : EReal} (h : Ideal.cmp .olt (max x (-x)) ⊤ = 1#1) : ∃ r : ℝ, x = (r : EReal) := by
  induction x with
  | bot => simp [Ideal.cmp] at h
  | top => simp [Ideal.cmp] at h
  | coe r => exact ⟨r, rfl⟩

/-- The word of the infinite binary32. -/
theorem ofBits_inf : Ideal.ofBits .f32 0x7F800000#32 = ⊤ := by
  simp [Ideal.ofBits, Ideal.ieee]

/-- What the precondition says of an array: its elements are reals. -/
theorem reals_of_finite {S : Shape} (x b : FVec Ideal S .f32) (hb : ∀ i, b i = Ideal.ofBits .f32 0x7F800000#32)
    (h : cmpf .olt (Host.absf x) b = fun _ => 1#1) : ∃ r : S.Idx → ℝ, ∀ i, x i = ((r i : ℝ) : EReal) := by
  refine Classical.skolem.mp fun i => real_of_lt_inf ?_
  have hi := congrFun h i
  rw [← ofBits_inf, ← hb i]
  exact hi

/-- The word of one half. -/
theorem ofBits_half : Ideal.ofBits .f32 0x3F000000#32 = ((1 / 2 : ℝ) : EReal) := by
  simp [Ideal.ofBits, Ideal.ieee, -EReal.coe_mul]
  norm_num

/-- Half of one plus the hyperbolic tangent of the half is the logistic function. -/
theorem half_tanh (x : ℝ) : 1 / 2 * Real.tanh (1 / 2 * x) + 1 / 2 = 1 / (1 + Real.exp (-x)) := by
  have h := (Real.exp_pos (1 / 2 * x)).ne'
  have e : Real.exp (-x) = Real.exp (-(1 / 2 * x)) * Real.exp (-(1 / 2 * x)) := by rw [← Real.exp_add]; ring_nf
  have hp : Real.exp (-(1 / 2 * x)) = (Real.exp (1 / 2 * x))⁻¹ := Real.exp_neg _
  rw [Real.tanh_eq_sinh_div_cosh, Real.sinh_eq, Real.cosh_eq, e, hp]
  field_simp
  ring

/-- A sum over `Fin (n * m)` as a sum over blocks of `m`. -/
theorem sum_blocks {M : Type*} [AddCommMonoid M] (n m : ℕ) (f : Fin (n * m) → M) :
    ∑ k, f k = ∑ d : Fin n, ∑ s : Fin m, f ⟨d.1 * m + s.1, by
      have := d.2; have := s.2; calc d.1 * m + s.1 < d.1 * m + m := by omega
        _ = (d.1 + 1) * m := by ring
        _ ≤ n * m := Nat.mul_le_mul_right m (by omega)⟩ := by
  rw [← Equiv.sum_comp finProdFinEquiv, Fintype.sum_prod_type]
  refine Finset.sum_congr rfl fun d _ => Finset.sum_congr rfl fun s _ => congrArg f (Fin.ext ?_)
  show s.1 + m * d.1 = d.1 * m + s.1
  ring

end Cert.Reals

end
-- ==== Proof.ModValue.lean ====
/- The gradients of the modulation weights, of their bias and of the context condition: what `_mod_bwd` leaves equals what
   differentiating the two products gives. The kernel sums 64 rows, eight of every device: four rows of the batch, the context's
   row, and three whose cotangent is zero; the reference sums the batch's 32 rows and the context's eight apart. -/
module

public import proofs.«01_k».proof.Proof.ModFinal
public import proofs.«01_k».proof.Proof.Gen.ModRefIdeal.Run
public import proofs.«01_k».proof.Proof.Gen.ModRefIdeal.Read
public import proofs.«01_k».proof.Proof.Reals
public import Idealize.ShloMosaic.Lib.StableHlo.ReadAt

@[expose] public section

noncomputable section

namespace Cert.ModIdeal.Final

open Idealize.ShloMosaic Idealize.SL.Sem Cert.ModIdeal Cert.ModIdeal.Gen Idealize.ShloMosaic.TcCoe Cert.Reals
open Cert.ModRefIdeal.Read

variable (m : (ℓ : Loc nD τ sig) → Buf (Elt Ideal) ℓ) (c : Dev nD)

/-- The kernel's logistic function: half of one plus the hyperbolic tangent of the half. -/
abbrev logi (x : EReal) : EReal :=
  Ideal.ofBits .f32 1056964608#32 * Ideal.tanh (Ideal.ofBits .f32 1056964608#32 * x) + Ideal.ofBits .f32 1056964608#32

/-! ## The packed arrays, row by row -/

/-- The conditions of the batch, the context's condition, the modulation's weights and the two cotangents, as launched. -/
abbrev cond (i : Fin 32) (j : Fin 1024) : EReal := m ((c : Thread nD τ).loc main_arg0) (ix2 i j)
abbrev condCtx (j : Fin 1024) : EReal := m ((c : Thread nD τ).loc main_arg1) (ix1 j)
abbrev weight (i : Fin 1024) (j : Fin 6144) : EReal := m ((c : Thread nD τ).loc main_arg3) (ix3 0 i j)
abbrev cot (i : Fin 32) (j : Fin 6144) : EReal := m ((c : Thread nD τ).loc main_arg5) (ix2 i j)
abbrev cotCtx (i : Fin 8) (j : Fin 6144) : EReal := m ((c : Thread nD τ).loc main_arg6) (ix2 i j)

/-- The arrays the pallas_call is entered with: packed conditions, packed cotangents, the chip's columns of them and of the
    weights, the context's condition as a row. -/
def packedCond : Vec Ideal S64x1024 .f32 := V m c main_v11
def packedCot : Vec Ideal S64x6144 .f32 := V m c main_v16
def chipCot : Vec Ideal S64x1536 .f32 := V m c main_v17
def chipWeight : Vec Ideal S1024x1536 .f32 := V m c main_v19
def ctxRow : Vec Ideal S1x1024 .f32 := V m c main_v20

/-- Row `s` of device `d` of the packed cotangents. -/
theorem cot_row (d s : Fin 8) (j : Fin 6144) (h : d.1 * 8 + s.1 < 64) : packedCot m c (ix2 ⟨d.1 * 8 + s.1, h⟩ j)
    = if hs : s.1 < 4 then cot m c ⟨d.1 * 4 + s.1, by omega⟩ j else if s.1 = 4 then cotCtx m c d j else (0 : EReal) := by
  unfold packedCot V
  after_reads_at
  after_reads_at
  split_ifs <;> first | rfl | omega

/-- Row `s` of device `d` of the packed conditions, where its cotangent is not zero. -/
theorem cond_row (d s : Fin 8) (j : Fin 1024) (h : d.1 * 8 + s.1 < 64) (hs4 : s.1 ≤ 4) : packedCond m c (ix2 ⟨d.1 * 8 + s.1, h⟩ j)
    = if hs : s.1 < 4 then cond m c ⟨d.1 * 4 + s.1, by omega⟩ j else condCtx m c j := by
  unfold packedCond V
  after_reads_at
  after_reads_at
  split_ifs <;> first | rfl | omega

/-- The chip's columns of the cotangents are the first of all columns. -/
theorem cot_cols (i : Fin 64) (j : Fin 1536) : chipCot m c (ix2 i j) = packedCot m c (ix2 i ⟨j.1, by omega⟩) := by
  unfold chipCot packedCot V
  after_reads_at

/-- The chip's columns of the weights. -/
theorem weight_cols (i : Fin 1024) (j : Fin 1536) : chipWeight m c (ix2 i j) = weight m c i ⟨j.1, by omega⟩ := by
  unfold chipWeight V
  after_reads_at

/-- The context's condition as a row. -/
theorem condCtx_row (j : Fin 1024) : ctxRow m c (ix2 0 j) = condCtx m c j := by
  unfold ctxRow V
  after_reads_at

/-! ## The programs' operations, read at an index -/

theorem pay_weight (x0 : Vec Ideal S64x1024 .f32) (x2 : Vec Ideal S64x1536 .f32) (i : Fin 1024) (j : Fin 1536) :
    k0_pay3 x0 x2 (ix2 i j) = ∑ k : Fin 64, (x0 (ix2 k i) : EReal) * logi (x0 (ix2 k i)) * x2 (ix2 k j) := by
  unfold_payloads
  pointwise

theorem pay_bias (x1 : Vec Ideal S64x6144 .f32) (j : Fin 6144) : k0_pay4 x1 (ix2 0 j) = ∑ k : Fin 64, (x1 (ix2 k j) : EReal) := by
  unfold_payloads
  pointwise

theorem pay_cond (x2 : Vec Ideal S64x1536 .f32) (x3 : Vec Ideal S1024x1536 .f32) (x4 : Vec Ideal S1x1024 .f32) (j : Fin 1024) :
    k0_pay1 (k0_pay5 x2 x3) x4 (ix2 0 j) = (∑ d : Fin 8, ∑ k : Fin 1536, (x2 (ix2 ⟨d.1 * 8 + (4 : Fin 8).1, by omega⟩ k) : EReal) * x3 (ix2 j k))
      * (logi (x4 (ix2 0 j)) * (1 + x4 (ix2 0 j) * (1 - logi (x4 (ix2 0 j))))) := by
  rw [Fin.sum_univ_eight]
  unfold_payloads
  pointwise

theorem ref_weight (x0 : Vec Ideal Cert.ModRefIdeal.S32x1024 .f32) (x1 : Vec Ideal Cert.ModRefIdeal.S1024 .f32)
    (x5 : Vec Ideal Cert.ModRefIdeal.S32x6144 .f32) (x6 : Vec Ideal Cert.ModRefIdeal.S8x6144 .f32) (i : Fin 1024) (j : Fin 1536) :
    val_main_v53 x0 x1 x5 x6 (ix2 i j) = (∑ d : Fin 8, (x6 (ix2 d ⟨j.1, by omega⟩) : EReal)) * (x1 (ix1 i) * Ideal.div 1 (1 + Ideal.exp (-x1 (ix1 i))))
      + ∑ k : Fin 32, (x5 (ix2 k ⟨j.1, by omega⟩) : EReal) * (x0 (ix2 k i) * Ideal.div 1 (1 + Ideal.exp (-x0 (ix2 k i)))) := by
  pointwise [val_main_v53, val_main_v52, val_main_v29, val_main_v28, val_main_v27, val_main_v26, val_main_v20, val_main_v19, val_main_v18, val_main_v17, val_main_v16, val_main_v9, val_main_v8, val_main_call1_v5, val_main_call1_v4, val_main_call1_cst_0, val_main_call1_v3, val_main_call1_v2, val_main_call1_cst, val_main_call1_v1, val_main_call1_v0, val_main_v1, val_main_call0_v5, val_main_call0_v4, val_main_call0_cst_0, val_main_call0_v3, val_main_call0_v2, val_main_call0_cst, val_main_call0_v1, val_main_call0_v0, val_main_v0, val_main_cst]
  simp only [Fin.sum_univ_one]

theorem ref_bias (x5 : Vec Ideal Cert.ModRefIdeal.S32x6144 .f32) (x6 : Vec Ideal Cert.ModRefIdeal.S8x6144 .f32) (j : Fin 6144) :
    val_main_v25 x5 x6 (ix2 0 j) = (∑ d : Fin 8, (x6 (ix2 d j) : EReal)) + ∑ k : Fin 32, (x5 (ix2 k j) : EReal) := by
  pointwise [val_main_v25, val_main_v24, val_main_v23, val_main_cst_1, val_main_v22, val_main_v21, val_main_cst_0, val_main_v15, val_main_v0, val_main_cst]
  simp only [Fin.sum_univ_one]

theorem ref_cond (x1 : Vec Ideal Cert.ModRefIdeal.S1024 .f32) (x3 : Vec Ideal Cert.ModRefIdeal.S1x1024x6144 .f32)
    (x6 : Vec Ideal Cert.ModRefIdeal.S8x6144 .f32) (j : Fin 1024) :
    val_main_v54 x1 x3 x6 (ix2 0 j) = (∑ k : Fin 1536, (∑ d : Fin 8, (x6 (ix2 d ⟨k.1, by omega⟩) : EReal)) * x3 (ix3 0 j ⟨k.1, by omega⟩)) * Ideal.div 1 (1 + Ideal.exp (-x1 (ix1 j)))
      + (x1 (ix1 j) * ∑ k : Fin 1536, (∑ d : Fin 8, (x6 (ix2 d ⟨k.1, by omega⟩) : EReal)) * x3 (ix3 0 j ⟨k.1, by omega⟩))
        * (Ideal.div 1 (1 + Ideal.exp (-x1 (ix1 j))) * (1 - Ideal.div 1 (1 + Ideal.exp (-x1 (ix1 j))))) := by
  pointwise [val_main_v54, val_main_v51, val_main_call4_v2, val_main_call4_v1, val_main_call4_v0, val_main_v50, val_main_cst_2, val_main_v49, val_main_v48, val_main_v47, val_main_v41, val_main_v39_1, val_main_call3_v7, val_main_call3_v6, val_main_call3_cst_1, val_main_v39_2, val_main_call3_v4, val_main_call3_cst_0, val_main_call3_v3, val_main_call3_v2, val_main_call3_cst, val_main_call3_v1, val_main_call3_v0, val_main_v30, val_main_v0, val_main_cst]
  simp only [Fin.sum_univ_one]

/-! ## Over the reals -/

/-- The kernel's logistic function of a real. -/
theorem logi_coe (x : ℝ) : logi (x : EReal) = ((1 / (1 + Real.exp (-x)) : ℝ) : EReal) := by
  rw [logi, ofBits_half, ← EReal.coe_mul, Ideal.tanh_coe, ← EReal.coe_mul, ← EReal.coe_add, half_tanh]

/-- The reference's logistic function of a real. -/
theorem div_coe_logi (x : ℝ) : Ideal.div 1 (1 + Ideal.exp (-(x : EReal))) = ((1 / (1 + Real.exp (-x)) : ℝ) : EReal) := by
  rw [← EReal.coe_neg, Ideal.exp_coe, ← EReal.coe_one, ← EReal.coe_add, coe_div 1 (one_add_exp_ne _)]

variable (rc : Fin 32 → Fin 1024 → ℝ) (rcc : Fin 1024 → ℝ) (rw' : Fin 1024 → Fin 6144 → ℝ) (rd : Fin 32 → Fin 6144 → ℝ) (rdc : Fin 8 → Fin 6144 → ℝ)

/-- The sum over the packed rows: the context's rows and the batch's, the rest being zero. -/
theorem sum_rows (f : Fin 64 → EReal) (g : Fin 32 → EReal) (h : Fin 8 → EReal)
    (hf : ∀ (d s : Fin 8) (hlt : d.1 * 8 + s.1 < 64), f ⟨d.1 * 8 + s.1, hlt⟩
      = if hs : s.1 < 4 then g ⟨d.1 * 4 + s.1, by omega⟩ else if s.1 = 4 then h d else 0) : ∑ k, f k = ∑ d, h d + ∑ k, g k := by
  rw [sum_blocks 8 8, sum_blocks 8 4, ← Finset.sum_add_distrib]
  refine Finset.sum_congr rfl fun d _ => ?_
  have hb : ∀ (s : Fin 8) (hlt : d.1 * 8 + s.1 < 64) (hs : s.1 < 4), f ⟨d.1 * 8 + s.1, hlt⟩ = g ⟨d.1 * 4 + s.1, by omega⟩ :=
    fun s hlt hs => (hf d s hlt).trans (dif_pos hs)
  have hc : ∀ (s : Fin 8) (hlt : d.1 * 8 + s.1 < 64) (hs : ¬ s.1 < 4), f ⟨d.1 * 8 + s.1, hlt⟩ = if s.1 = 4 then h d else 0 :=
    fun s hlt hs => (hf d s hlt).trans (dif_neg hs)
  rw [Fin.sum_univ_eight, Fin.sum_univ_four, hb 0 _ (by decide), hb 1 _ (by decide), hb 2 _ (by decide), hb 3 _ (by decide), hc 4 _ (by decide),
    hc 5 _ (by decide), hc 6 _ (by decide), hc 7 _ (by decide), if_pos (show (4 : Fin 8).1 = 4 from rfl), if_neg (by decide), if_neg (by decide), if_neg (by decide), add_zero,
    add_zero, add_zero, add_comm]
  rfl

/-- The gradient of the modulation's weights. -/
theorem grad_weight (h0 : ∀ i j, cond m c i j = rc i j) (h1 : ∀ j, condCtx m c j = rcc j) (h5 : ∀ i j, cot m c i j = rd i j)
    (h6 : ∀ i j, cotCtx m c i j = rdc i j) (i : Fin 1024) (j : Fin 1536) :
    k0_pay3 (packedCond m c) (chipCot m c) (ix2 i j) = val_main_v53 (m ((c : Thread nD τ).loc main_arg0)) (m ((c : Thread nD τ).loc main_arg1))
      (m ((c : Thread nD τ).loc main_arg5)) (m ((c : Thread nD τ).loc main_arg6)) (ix2 i j) := by
  have hf : ∀ (d s : Fin 8) (hlt : d.1 * 8 + s.1 < 64), (packedCond m c (ix2 ⟨d.1 * 8 + s.1, hlt⟩ i) : EReal) * logi (packedCond m c (ix2 ⟨d.1 * 8 + s.1, hlt⟩ i)) * chipCot m c (ix2 ⟨d.1 * 8 + s.1, hlt⟩ j)
      = if hs : s.1 < 4 then cond m c ⟨d.1 * 4 + s.1, by omega⟩ i * logi (cond m c ⟨d.1 * 4 + s.1, by omega⟩ i) * cot m c ⟨d.1 * 4 + s.1, by omega⟩ ⟨j.1, by omega⟩
        else if s.1 = 4 then condCtx m c i * logi (condCtx m c i) * cotCtx m c d ⟨j.1, by omega⟩ else 0 := by
    intro d s hlt
    rw [cot_cols, cot_row]
    split_ifs with h4 h5
    · rw [cond_row m c d s i hlt (by omega), dif_pos h4]
    · rw [cond_row m c d s i hlt (by omega), dif_neg h4]
    · exact mul_zero _
  rw [ref_weight, pay_weight, sum_rows _ (fun k => cond m c k i * logi (cond m c k i) * cot m c k ⟨j.1, by omega⟩)
    (fun d => condCtx m c i * logi (condCtx m c i) * cotCtx m c d ⟨j.1, by omega⟩) hf]
  change _ = (∑ d, cotCtx m c d _) * (condCtx m c i * Ideal.div 1 (1 + Ideal.exp (-condCtx m c i)))
    + ∑ k, cot m c k _ * (cond m c k i * Ideal.div 1 (1 + Ideal.exp (-cond m c k i)))
  simp only [h0, h1, h5, h6, logi_coe, div_coe_logi, ← EReal.coe_mul, coe_sum]
  rw [Finset.sum_mul]
  simp only [mul_comm]

/-- The gradient of the modulation's bias: the same sums. -/
theorem grad_bias (j : Fin 6144) : k0_pay4 (packedCot m c) (ix2 0 j)
    = val_main_v25 (m ((c : Thread nD τ).loc main_arg5)) (m ((c : Thread nD τ).loc main_arg6)) (ix2 0 j) := by
  rw [ref_bias, pay_bias, sum_rows _ (fun k => cot m c k j) (fun d => cotCtx m c d j) fun d s hlt => cot_row m c d s j hlt]

/-- The gradient of the context's condition through one chip's columns. -/
theorem grad_cond (h1 : ∀ j, condCtx m c j = rcc j) (h3 : ∀ i j, weight m c i j = rw' i j)
    (h6 : ∀ i j, cotCtx m c i j = rdc i j) (j : Fin 1024) :
    k0_pay1 (k0_pay5 (chipCot m c) (chipWeight m c)) (ctxRow m c) (ix2 0 j)
      = val_main_v54 (m ((c : Thread nD τ).loc main_arg1)) (m ((c : Thread nD τ).loc main_arg3)) (m ((c : Thread nD τ).loc main_arg6)) (ix2 0 j) := by
  rw [ref_cond, pay_cond]
  change _ = (∑ k : Fin 1536, (∑ d, cotCtx m c d _) * weight m c j _) * Ideal.div 1 (1 + Ideal.exp (-condCtx m c j))
    + (condCtx m c j * ∑ k : Fin 1536, (∑ d, cotCtx m c d _) * weight m c j _)
      * (Ideal.div 1 (1 + Ideal.exp (-condCtx m c j)) * (1 - Ideal.div 1 (1 + Ideal.exp (-condCtx m c j))))
  have hr : ∀ (d : Fin 8) (hlt : d.1 * 8 + (4 : Fin 8).1 < 64) (k : Fin 6144), packedCot m c (ix2 ⟨d.1 * 8 + (4 : Fin 8).1, hlt⟩ k) = cotCtx m c d k :=
    fun d hlt k => (cot_row m c d 4 k hlt).trans ((dif_neg (by decide)).trans (if_pos rfl))
  simp only [cot_cols, hr, weight_cols, condCtx_row, h1, h3, h6, logi_coe, div_coe_logi]
  simp only [← EReal.coe_one, ← EReal.coe_mul, coe_sum, ← EReal.coe_add, ← EReal.coe_sub]
  refine congrArg Real.toEReal ?_
  rw [Finset.sum_comm]
  simp only [← Finset.sum_mul]
  ring

end Cert.ModIdeal.Final

end
-- ==== Proof.ModClaims.lean ====
/- The claims about the modulation's backward call: it runs to its end and keeps its arguments, so does the reference, and the
   two leave equal arrays wherever the arguments that the gradients are computed from are finite. -/
module

public import proofs.«01_k».proof.Defs
public import proofs.«01_k».proof.Proof.ModValue
public import proofs.«01_k».proof.Proof.Gen.Mod.Frame
public import proofs.«01_k».proof.Proof.Gen.Pre_mod_finite
public import Idealize.ShloMosaic.Lib.Quiescent

@[expose] public section

noncomputable section

namespace Cert.ModIdeal.Final

open Idealize.ShloMosaic Idealize.SL.Sem Cert.ModIdeal Cert.ModIdeal.Gen Idealize.ShloMosaic.TcCoe Cert.Reals

/-- The reference runs to its end, keeps its arguments and leaves every semaphore at zero. -/
theorem frame_ref : Cert.quiescent_ModRefIdeal := fun m ρ _ =>
  (θ_run Cert.ModRefIdeal.defs _ _).mono (fun r h => ⟨fun c => (h c).2.2.2, sem_eq_zero_of_no_sems (by decide) r.2⟩)
    (Cert.ModRefIdeal.Value.run (F := Ideal) m ρ)

/-- The call and the reference leave equal arrays. -/
theorem value : Cert.algebraic_ModIdeal_ModRefIdeal_pre_mod_finite := by
  intro m ρ m' ρ' hpre hagree
  refine ⟨_, _, _, (θ_run defs _ _).mono (fun r h c => ⟨(h c).1.trans (finals m c).1, (h c).2.1.trans (finals m c).2.1,
    (h c).2.2.1.trans (finals m c).2.2, (h c).2.2.2⟩) (Value.run_blocks m ρ), ?_⟩
  refine (θ_run Cert.ModRefIdeal.defs _ _).mono (fun r h c => ?_) (Cert.ModRefIdeal.Value.run (F := Ideal) m' ρ')
  obtain ⟨rc, h0⟩ := reals_of_finite _ _ (fun _ => rfl) (hpre c).1
  obtain ⟨rcc, h1⟩ := reals_of_finite _ _ (fun _ => rfl) (hpre c).2.1
  obtain ⟨rw', h3⟩ := reals_of_finite _ _ (fun _ => rfl) (hpre c).2.2.1
  obtain ⟨rd, h5⟩ := reals_of_finite _ _ (fun _ => rfl) (hpre c).2.2.2.1
  obtain ⟨rdc, h6⟩ := reals_of_finite _ _ (fun _ => rfl) (hpre c).2.2.2.2
  obtain ⟨a0, a1, a2, a3, a4, a5, a6⟩ := hagree c
  refine ⟨(h c).1.trans ((Cert.ModRefIdeal.Read.val_main_v53_eq _ _ _ _).symm.trans ?_), (h c).2.1.trans ((Cert.ModRefIdeal.Read.val_main_v25_eq _ _).symm.trans ?_),
    (h c).2.2.1.trans ((Cert.ModRefIdeal.Read.val_main_v54_eq _ _ _).symm.trans ?_), (h c).2.2.2⟩
  · rw [a0, a1, a5, a6]
    funext y
    rw [eq_ix2 y]
    exact (grad_weight m c _ _ _ _ (fun i j => h0 (ix2 i j)) (fun j => h1 (ix1 j)) (fun i j => h5 (ix2 i j)) (fun i j => h6 (ix2 i j)) _ _).symm
  · rw [a5, a6]
    funext y
    rw [eq_ix2 y, show y 0 = (0 : Fin 1) from Subsingleton.elim (α := Fin 1) _ _]
    exact (grad_bias m c _).symm
  · rw [a1, a3, a6]
    funext y
    rw [eq_ix2 y, show y 0 = (0 : Fin 1) from Subsingleton.elim (α := Fin 1) _ _]
    exact (grad_cond m c _ _ _ (fun j => h1 (ix1 j)) (fun i j => h3 (ix3 0 i j)) (fun i j => h6 (ix2 i j)) _).symm

end Cert.ModIdeal.Final

end
-- ==== Proof.Norms.lean ====
/- A norm by the reciprocal root of the mean square over 1024 entries, and the logistic function, over the reals: the words of
   their constants, and the cotangent of a norm's input in the form a gradient by hand gives it. -/
module

public import proofs.«01_k».proof.Proof.Reals

@[expose] public section

noncomputable section

namespace Cert.Norms

open Idealize.ShloMosaic Cert.Reals

/-- The constant added to a mean square. -/
def eps : ℝ := 8796093 / 2 ^ 43

def ms (x : Fin 1024 → ℝ) : ℝ := (∑ k, x k * x k) / 1024
/-- The reciprocal root of a row's mean square. -/
def rms (x : Fin 1024 → ℝ) : ℝ := (Real.sqrt (ms x + eps))⁻¹
/-- The logistic function. -/
def sg (a : ℝ) : ℝ := 1 / (1 + Real.exp (-a))
/-- The cotangent of a norm's input, of the cotangent `g` of the normed row `n` and the reciprocal root `r`. -/
def back (g n : Fin 1024 → ℝ) (r : ℝ) (k : Fin 1024) : ℝ := r * (g k - n k * ((∑ j, g j * n j) / 1024))

theorem eps_pos : 0 < eps := by unfold eps; positivity

theorem ms_eps_pos (x : Fin 1024 → ℝ) : 0 < ms x + eps :=
  add_pos_of_nonneg_of_pos (div_nonneg (Finset.sum_nonneg fun k _ => mul_self_nonneg _) (by norm_num)) eps_pos

theorem coe_rms (x : Fin 1024 → ℝ) : Ideal.rsqrt ((ms x + eps : ℝ) : EReal) = ((rms x : ℝ) : EReal) := coe_rsqrt (ms_eps_pos x)

theorem coe_rms_sum (x : Fin 1024 → ℝ) : Ideal.rsqrt (((∑ k, x k * x k) / 1024 + eps : ℝ) : EReal) = ((rms x : ℝ) : EReal) := coe_rms x

/-- The words of the constants. -/
theorem word_eps : Ideal.ofBits .f32 897988541#32 = ((eps : ℝ) : EReal) := by
  simp [Ideal.ofBits, Ideal.ieee, eps, -EReal.coe_mul]
  norm_num

theorem word_1024 : Ideal.ofBits .f32 1149239296#32 = ((1024 : ℝ) : EReal) := by
  simp [Ideal.ofBits, Ideal.ieee, -EReal.coe_mul]
  norm_num

theorem word_inv1024 : Ideal.ofBits .f32 981467136#32 = ((1 / 1024 : ℝ) : EReal) := by
  simp [Ideal.ofBits, Ideal.ieee, -EReal.coe_mul]
  norm_num

theorem word_half : Ideal.ofBits .f32 1056964608#32 = ((1 / 2 : ℝ) : EReal) := ofBits_half

theorem word_neghalf : Ideal.ofBits .f32 3204448256#32 = ((-(1 / 2) : ℝ) : EReal) := by
  simp [Ideal.ofBits, Ideal.ieee, -EReal.coe_mul]
  norm_num

theorem word_two : Ideal.ofBits .f32 1073741824#32 = ((2 : ℝ) : EReal) := by
  simp [Ideal.ofBits, Ideal.ieee, -EReal.coe_mul]
  norm_num

theorem div_1024 (a : ℝ) : Ideal.div (a : EReal) ((1024 : ℝ) : EReal) = ((a / 1024 : ℝ) : EReal) := coe_div a (by norm_num)

/-- The logistic function by way of the hyperbolic tangent. -/
theorem logi_coe (x : ℝ) : ((1 / 2 : ℝ) : EReal) * Ideal.tanh (((1 / 2 : ℝ) : EReal) * (x : EReal)) + ((1 / 2 : ℝ) : EReal) = ((sg x : ℝ) : EReal) := by
  rw [← EReal.coe_mul, Ideal.tanh_coe, ← EReal.coe_mul, ← EReal.coe_add, half_tanh]; rfl

theorem logi_coe_mul (x : ℝ) : ((1 / 2 : ℝ) : EReal) * Ideal.tanh ((1 / 2 * x : ℝ) : EReal) + ((1 / 2 : ℝ) : EReal) = ((sg x : ℝ) : EReal) := by
  rw [EReal.coe_mul, logi_coe]

/-- The logistic function by way of the exponential. -/
theorem exp_coe_sg (x : ℝ) : Ideal.div ((1 : ℝ) : EReal) (((1 : ℝ) : EReal) + Ideal.exp (-(x : EReal))) = ((sg x : ℝ) : EReal) := by
  rw [← EReal.coe_neg, Ideal.exp_coe, ← EReal.coe_add, coe_div _ (one_add_exp_ne _)]; rfl

/-- The cotangent of a norm's input, as the gradient of the mean square and its reciprocal root gives it. -/
theorem back_eq (x g : Fin 1024 → ℝ) (k : Fin 1024) :
    let s := ((∑ j, x j * g j) * (-(1 / 2) * (rms x / (ms x + eps)))) / 1024
    g k * rms x + (x k * s + s * x k) = back g (fun j => x j * rms x) (rms x) k := by
  intro s
  have h : rms x * rms x = 1 / (ms x + eps) := by
    unfold rms; rw [← mul_inv, Real.mul_self_sqrt (ms_eps_pos x).le, one_div]
  have e : ∑ j, g j * (x j * rms x) = (∑ j, x j * g j) * rms x := by
    rw [Finset.sum_mul]; exact Finset.sum_congr rfl fun j _ => by ring
  have hs : s = -(1 / 2) * ((∑ j, x j * g j) * (rms x * (rms x * rms x))) / 1024 := by
    rw [h]; show ((∑ j, x j * g j) * (-(1 / 2) * (rms x / (ms x + eps)))) / 1024 = _; ring
  unfold back
  rw [e, hs]; ring

end Cert.Norms

end
-- ==== Proof.FfnReal.lean ====
/- The feed-forward half of a layer with the last norm and the loss, of one row over the reals: its stages forward, and the
   cotangents of its stages in the forms a gradient by hand gives them. -/
module

public import proofs.«01_k».proof.Proof.Norms

@[expose] public section

noncomputable section

namespace Cert.Ffn

open Cert.Norms

/-- What all rows of a batch element share: the modulation's shift, scale and gate, the gains of the two norms, the weights. -/
structure Env where
  sh : Fin 1024 → ℝ
  sc : Fin 1024 → ℝ
  gt : Fin 1024 → ℝ
  gf : Fin 1024 → ℝ
  gl : Fin 1024 → ℝ
  wu : Fin 1024 → Fin 5632 → ℝ
  wd : Fin 2816 → Fin 1024 → ℝ

namespace Env

variable (E : Env) (x t : Fin 1024 → ℝ)

def xn2 (k : Fin 1024) : ℝ := x k * rms x
def hn2 (k : Fin 1024) : ℝ := xn2 x k * E.gf k
def h2 (k : Fin 1024) : ℝ := E.hn2 x k * (1 + E.sc k) + E.sh k
def ab (n : Fin 5632) : ℝ := ∑ k, E.h2 x k * E.wu k n
def a (n : Fin 2816) : ℝ := E.ab x ⟨n.val, by omega⟩
def b (n : Fin 2816) : ℝ := E.ab x ⟨2816 + n.val, by omega⟩
def hid (n : Fin 2816) : ℝ := E.a x n * sg (E.a x n) * E.b x n
def ffn (k : Fin 1024) : ℝ := ∑ n, E.hid x n * E.wd n k
def x2 (k : Fin 1024) : ℝ := x k + E.gt k * E.ffn x k
def xn3 (k : Fin 1024) : ℝ := E.x2 x k * rms (E.x2 x)
def err (k : Fin 1024) : ℝ := E.xn3 x k * E.gl k - t k
def loss : ℝ := (∑ k, E.err x t k * E.err x t k) / 1024

def dy (k : Fin 1024) : ℝ := E.err x t k * (1 / 1024)
def g3 (k : Fin 1024) : ℝ := E.dy x t k * E.gl k
def dx2 : Fin 1024 → ℝ := back (E.g3 x t) (E.xn3 x) (rms (E.x2 x))
def dffn (k : Fin 1024) : ℝ := E.gt k * E.dx2 x t k
def dhid (n : Fin 2816) : ℝ := ∑ k, E.dffn x t k * E.wd n k
def da (n : Fin 2816) : ℝ := E.dhid x t n * E.b x n * (sg (E.a x n) * (1 + E.a x n * (1 - sg (E.a x n))))
def db (n : Fin 2816) : ℝ := E.dhid x t n * (E.a x n * sg (E.a x n))
def dab (n : Fin 5632) : ℝ := if h : n.val < 2816 then E.da x t ⟨n.val, h⟩ else E.db x t ⟨n.val - 2816, by omega⟩
def dh2 (k : Fin 1024) : ℝ := ∑ n, E.dab x t n * E.wu k n
def dhn2 (k : Fin 1024) : ℝ := E.dh2 x t k * (1 + E.sc k)
def g2 (k : Fin 1024) : ℝ := E.dhn2 x t k * E.gf k
def dx1 (k : Fin 1024) : ℝ := E.dx2 x t k + back (E.g2 x t) (xn2 x) (rms x) k

/-- What a row adds to the modulation's cotangent: to the shift, the scale and the gate. -/
def dmod (j : ℕ) (k : Fin 1024) : ℝ :=
  if j = 1 then E.dh2 x t k else if j = 2 then E.dh2 x t k * E.hn2 x k else if j = 3 then E.dx2 x t k * E.ffn x k else 0

end Env

/-- The layer's arguments. -/
structure Arrays where
  x : Fin 4 → Fin 2048 → Fin 1024 → ℝ
  md : Fin 4 → Fin 6 → Fin 1024 → ℝ
  gf : Fin 1024 → ℝ
  gl : Fin 1024 → ℝ
  wu : Fin 1024 → Fin 5632 → ℝ
  wd : Fin 2816 → Fin 1024 → ℝ
  tg : Fin 4 → Fin 2048 → Fin 1024 → ℝ

/-- What the rows of batch element `b` share. -/
def Arrays.env (A : Arrays) (b : Fin 4) : Env := ⟨A.md b 3, A.md b 4, A.md b 5, A.gf, A.gl, A.wu, A.wd⟩

end Cert.Ffn

end
-- ==== Proof.Sums.lean ====
/- Running sums: a sum kept from step to step, started anew every so many steps, is the sum of what the steps add. -/
module

public import proofs.«01_k».proof.Proof.Reals

@[expose] public section

noncomputable section

namespace Cert.Sums

open Idealize.ShloMosaic Idealize.SL.Sem Cert.Reals

/-- A value that starts from zero at every multiple of `p` and to which step `n` adds `f n`. -/
theorem sum_of_step {N p : ℕ} (a : (n : ℕ) → n < N → EReal) (f : (n : ℕ) → n < N → ℝ)
    (h : ∀ n (hn : n < N), a n hn = (if n % p = 0 then 0 else a (n - 1) (by omega)) + ((f n hn : ℝ) : EReal)) (q i : ℕ) (hi : i < p)
    (hn : q * p + i < N) : a (q * p + i) hn = ((∑ j : Fin (i + 1), f (q * p + j.val) (by omega) : ℝ) : EReal) := by
  have same : ∀ {n k : ℕ} (hn : n < N) (hk : k < N), n = k → a n hn = a k hk := fun _ _ e => by subst e; rfl
  induction i with
  | zero => rw [h, if_pos (by simp), zero_add, Fin.sum_univ_one]; rfl
  | succ i ih =>
    have e : (q * p + (i + 1)) % p = i + 1 := by rw [Nat.add_comm, Nat.add_mul_mod_self_right, Nat.mod_eq_of_lt hi]
    rw [h, if_neg (by omega), same (by omega) (by omega) (show q * p + (i + 1) - 1 = q * p + i by omega), ih (by omega) (by omega),
      Fin.sum_univ_castSucc (n := i + 1), EReal.coe_add]
    rfl

/-- A sum over the two leading axes of a rank-3 array, at one element: over both coordinates. -/
@[pointwise] theorem sum_leading {n0 n1 n2 : Nat} (h : (⟨3, ![n0, n1, n2]⟩ : Shape).ReducesTo [0, 1] ⟨1, ![n2]⟩)
    (v : (⟨3, ![n0, n1, n2]⟩ : Shape).Idx → EReal) (init : EReal) (k : Fin n2) :
    Ideal.hostReduceAdd h v init (ix1 k) = init + ∑ a, ∑ b, v (ix3 a b k) := by
  refine congrArg (init + ·) ((Finset.sum_filter_eq_sum_of_fiber _ (fun p : Fin n0 × Fin n1 => ix3 p.1 p.2 k)
    (fun _ _ e => Prod.ext (congrFun e 0) (congrFun e 1)) (fun i => ⟨fun e => ⟨(i 0, i 1), ?_⟩, ?_⟩) v).trans
      (Fintype.sum_prod_type _))
  · refine (congrArg (ix3 (i 0) (i 1)) ?_).trans (eq_ix3 i).symm
    exact (congrFun e 0).symm
  · rintro ⟨p, rfl⟩
    exact (eq_ix1 _).trans (congrArg ix1 rfl)

end Cert.Sums

end
-- ==== Proof.FfnRef.lean ====
/- The reference of the feed-forward half, node by node over the reals: the stages forward, and the gradient's nodes as the stages'
   cotangents. -/
module

public import proofs.«01_k».proof.Proof.Gen.FfnRefIdeal.Read
public import proofs.«01_k».proof.Proof.FfnReal
public import proofs.«01_k».proof.Proof.Sums

@[expose] public section

set_option maxRecDepth 8000

noncomputable section

namespace Cert.FfnRefIdeal.Read

open Idealize.ShloMosaic Idealize.SL.Sem Cert.Reals Cert.Norms Cert.Ffn

variable {x0 : (⟨S4x2048x1024, .f32⟩ : BufTy).Contents (Elt Ideal)} {x1 : (⟨S4x6x1024, .f32⟩ : BufTy).Contents (Elt Ideal)}
  {x2 : (⟨S1x1024, .f32⟩ : BufTy).Contents (Elt Ideal)} {x3 : (⟨S1024, .f32⟩ : BufTy).Contents (Elt Ideal)}
  {x4 : (⟨S1x1024x5632, .f32⟩ : BufTy).Contents (Elt Ideal)} {x5 : (⟨S1x2816x1024, .f32⟩ : BufTy).Contents (Elt Ideal)}
  {x6 : (⟨S4x2048x1024, .f32⟩ : BufTy).Contents (Elt Ideal)} {A : Arrays}

variable (x0 x1 x2 x3 x4 x5 x6 A) in
/-- The arguments are the reals `A`. -/
structure Args : Prop where
  x : ∀ b s k, x0 (ix3 b s k) = ((A.x b s k : ℝ) : EReal)
  md : ∀ b i k, x1 (ix3 b i k) = ((A.md b i k : ℝ) : EReal)
  gf : ∀ k, x2 (ix2 0 k) = ((A.gf k : ℝ) : EReal)
  gl : ∀ k, x3 (ix1 k) = ((A.gl k : ℝ) : EReal)
  wu : ∀ k n, x4 (ix3 0 k n) = ((A.wu k n : ℝ) : EReal)
  wd : ∀ n k, x5 (ix3 0 n k) = ((A.wd n k : ℝ) : EReal)
  tg : ∀ b s k, x6 (ix3 b s k) = ((A.tg b s k : ℝ) : EReal)

variable (H : Args x0 x1 x2 x3 x4 x5 x6 A)

include H

theorem ref_ms (b : Fin 4) (s : Fin 2048) : val_main_v7 x0 (ix3 b s 0) = ((ms (A.x b s) + eps : ℝ) : EReal) := by
  pointwise [val_main_v7, val_main_v6, val_main_cst_1, val_main_v5, val_main_v4, val_main_cst_0, val_main_v3, val_main_v2, val_main_cst, val_main_v1]
  simp only [H.x, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]
  rfl

theorem ref_r2 (b : Fin 4) (s : Fin 2048) : val_main_v8 x0 (ix3 b s 0) = ((rms (A.x b s) : ℝ) : EReal) := by
  pointwise [val_main_v8]
  simp only [ref_ms H, H.x, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]

theorem ref_xn2 (b : Fin 4) (s : Fin 2048) (k : Fin 1024) : val_main_v13 x0 (ix3 b s k) = ((Env.xn2 (A.x b s) k : ℝ) : EReal) := by
  pointwise [val_main_v13, val_main_v12]
  simp only [ref_r2 H, H.x, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]
  rfl

theorem ref_hn2 (b : Fin 4) (s : Fin 2048) (k : Fin 1024) : val_main_v16 x0 x2 (ix3 b s k) = (((A.env b).hn2 (A.x b s) k : ℝ) : EReal) := by
  pointwise [val_main_v16, val_main_v15, val_main_v14, val_main_v0]
  simp only [ref_xn2 H, H.x, H.gf, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]
  rfl

theorem ref_h2 (b : Fin 4) (s : Fin 2048) (k : Fin 1024) : val_main_v28 x0 x1 x2 (ix3 b s k) = (((A.env b).h2 (A.x b s) k : ℝ) : EReal) := by
  pointwise [val_main_v28, val_main_v27, val_main_v26, val_main_v25, val_main_v24, val_main_v23, val_main_v22, val_main_v21, val_main_v20, val_main_cst_3, val_main_v19, val_main_v18, val_main_v17]
  simp only [ref_hn2 H, H.x, H.md, H.gf, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]
  rfl

theorem ref_a (b : Fin 4) (s : Fin 2048) (n : Fin 2816) : val_main_v31 x0 x1 x2 x4 (ix3 b s n) = (((A.env b).a (A.x b s) n : ℝ) : EReal) := by
  pointwise [val_main_v31, val_main_v30, val_main_v29]
  simp only [ref_h2 H, H.x, H.md, H.gf, H.wu, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]
  rfl

theorem ref_b (b : Fin 4) (s : Fin 2048) (n : Fin 2816) : val_main_v32 x0 x1 x2 x4 (ix3 b s n) = (((A.env b).b (A.x b s) n : ℝ) : EReal) := by
  pointwise [val_main_v32, val_main_v30, val_main_v29]
  simp only [ref_h2 H, H.x, H.md, H.gf, H.wu, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]
  rfl

theorem ref_sg (b : Fin 4) (s : Fin 2048) (n : Fin 2816) : val_main_v33_2 x0 x1 x2 x4 (ix3 b s n) = ((sg ((A.env b).a (A.x b s) n) : ℝ) : EReal) := by
  pointwise [val_main_v33_2, val_main_call0_v4, val_main_call0_cst_0, val_main_call0_v3, val_main_call0_v2, val_main_call0_cst, val_main_call0_v1, val_main_call0_v0]
  simp only [ref_a H, H.x, H.md, H.gf, H.wu, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]

theorem ref_hid (b : Fin 4) (s : Fin 2048) (n : Fin 2816) : val_main_v34 x0 x1 x2 x4 (ix3 b s n) = (((A.env b).hid (A.x b s) n : ℝ) : EReal) := by
  pointwise [val_main_v34, val_main_v33_0]
  simp only [ref_sg H, ref_a H, ref_b H, H.x, H.md, H.gf, H.wu, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]
  rfl

theorem ref_ffn (b : Fin 4) (s : Fin 2048) (k : Fin 1024) : val_main_v36 x0 x1 x2 x4 x5 (ix3 b s k) = (((A.env b).ffn (A.x b s) k : ℝ) : EReal) := by
  pointwise [val_main_v36, val_main_v35]
  simp only [ref_hid H, H.x, H.md, H.gf, H.wu, H.wd, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]
  rfl

theorem ref_x2 (b : Fin 4) (s : Fin 2048) (k : Fin 1024) : val_main_v42 x0 x1 x2 x4 x5 (ix3 b s k) = (((A.env b).x2 (A.x b s) k : ℝ) : EReal) := by
  pointwise [val_main_v42, val_main_v41, val_main_v40, val_main_v39, val_main_v38, val_main_v37]
  simp only [ref_ffn H, H.x, H.md, H.gf, H.wu, H.wd, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]
  rfl

theorem ref_ms2 (b : Fin 4) (s : Fin 2048) : val_main_v49 x0 x1 x2 x4 x5 (ix3 b s 0) = ((ms ((A.env b).x2 (A.x b s)) + eps : ℝ) : EReal) := by
  pointwise [val_main_v49, val_main_v48, val_main_cst_6, val_main_v47, val_main_v46, val_main_cst_5, val_main_v45, val_main_v44, val_main_cst_4, val_main_v43]
  simp only [ref_x2 H, H.x, H.md, H.gf, H.wu, H.wd, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]
  rfl

theorem ref_r3 (b : Fin 4) (s : Fin 2048) : val_main_v50 x0 x1 x2 x4 x5 (ix3 b s 0) = ((rms ((A.env b).x2 (A.x b s)) : ℝ) : EReal) := by
  pointwise [val_main_v50]
  simp only [ref_ms2 H, H.x, H.md, H.gf, H.wu, H.wd, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]

theorem ref_xn3 (b : Fin 4) (s : Fin 2048) (k : Fin 1024) : val_main_v55 x0 x1 x2 x4 x5 (ix3 b s k) = (((A.env b).xn3 (A.x b s) k : ℝ) : EReal) := by
  pointwise [val_main_v55, val_main_v54]
  simp only [ref_r3 H, ref_x2 H, H.x, H.md, H.gf, H.wu, H.wd, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]
  rfl

theorem ref_err (b : Fin 4) (s : Fin 2048) (k : Fin 1024) : val_main_v59 x0 x1 x2 x3 x4 x5 x6 (ix3 b s k) = (((A.env b).err (A.x b s) (A.tg b s) k : ℝ) : EReal) := by
  pointwise [val_main_v59, val_main_v58, val_main_v57, val_main_v56]
  simp only [ref_xn3 H, H.x, H.md, H.gf, H.gl, H.wu, H.wd, H.tg, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]
  rfl

theorem ref_loss (i : S_.Idx) : val_main_v67 x0 x1 x2 x3 x4 x5 x6 i = ((1 / 2 * ∑ b, ∑ s, (A.env b).loss (A.x b s) (A.tg b s) : ℝ) : EReal) := by
  pointwise [val_main_v67, val_main_cst_12, val_main_v66, val_main_cst_11, val_main_v65, val_main_v64, val_main_cst_10, val_main_v63, val_main_cst_9, val_main_v60]
  simp only [ref_err H, H.x, H.md, H.gf, H.gl, H.wu, H.wd, H.tg, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]
  rfl

theorem ref_dy (b : Fin 4) (s : Fin 2048) (k : Fin 1024) : val_main_v73 x0 x1 x2 x3 x4 x5 x6 (ix3 b s k) = (((A.env b).dy (A.x b s) (A.tg b s) k : ℝ) : EReal) := by
  pointwise [val_main_v73, val_main_v72, val_main_v71, val_main_v70, val_main_cst_15, val_main_v69, val_main_v68, val_main_cst_14, val_main_cst_13, val_main_v62, val_main_v61, val_main_cst_8]
  simp only [ref_err H, H.x, H.md, H.gf, H.gl, H.wu, H.wd, H.tg, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]
  refine congrArg Real.toEReal ?_
  unfold Env.dy; ring

theorem ref_g3 (b : Fin 4) (s : Fin 2048) (k : Fin 1024) : val_main_v78 x0 x1 x2 x3 x4 x5 x6 (ix3 b s k) = (((A.env b).g3 (A.x b s) (A.tg b s) k : ℝ) : EReal) := by
  pointwise [val_main_v78, val_main_v77, val_main_v56]
  simp only [ref_dy H, H.x, H.md, H.gf, H.gl, H.wu, H.wd, H.tg, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]
  rfl

theorem ref_dx2 (b : Fin 4) (s : Fin 2048) (k : Fin 1024) : val_main_v93 x0 x1 x2 x3 x4 x5 x6 (ix3 b s k) = (((A.env b).dx2 (A.x b s) (A.tg b s) k : ℝ) : EReal) := by
  pointwise [val_main_v93, val_main_v92, val_main_v91, val_main_v90, val_main_v89, val_main_v88, val_main_cst_20, val_main_v87, val_main_v86, val_main_cst_19, val_main_v85, val_main_v84, val_main_v83, val_main_v82, val_main_v81, val_main_cst_18, val_main_v80, val_main_v53, val_main_v52, val_main_cst_7, val_main_v51]
  simp only [ref_g3 H, ref_x2 H, ref_r3 H, ref_ms2 H, H.x, H.md, H.gf, H.gl, H.wu, H.wd, H.tg, coe_div _ (ms_eps_pos _).ne', word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]
  refine congrArg Real.toEReal ?_
  have e := back_eq ((A.env b).x2 (A.x b s)) ((A.env b).g3 (A.x b s) (A.tg b s)) k
  simp only at e
  show _ = back _ (fun j => (A.env b).x2 (A.x b s) j * rms ((A.env b).x2 (A.x b s))) _ k
  linear_combination e

theorem ref_dffn (b : Fin 4) (s : Fin 2048) (k : Fin 1024) : val_main_v95 x0 x1 x2 x3 x4 x5 x6 (ix3 b s k) = (((A.env b).dffn (A.x b s) (A.tg b s) k : ℝ) : EReal) := by
  pointwise [val_main_v95, val_main_v94, val_main_v39, val_main_v38, val_main_v37]
  simp only [ref_dx2 H, H.x, H.md, H.gf, H.gl, H.wu, H.wd, H.tg, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]
  rfl

theorem ref_dhid (b : Fin 4) (s : Fin 2048) (n : Fin 2816) : val_main_v102 x0 x1 x2 x3 x4 x5 x6 (ix3 b s n) = (((A.env b).dhid (A.x b s) (A.tg b s) n : ℝ) : EReal) := by
  pointwise [val_main_v102, val_main_v35]
  simp only [ref_dffn H, H.x, H.md, H.gf, H.gl, H.wu, H.wd, H.tg, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]
  rfl

theorem ref_dab (b : Fin 4) (s : Fin 2048) (n : Fin 5632) : val_main_v106 x0 x1 x2 x3 x4 x5 x6 (ix3 b s n) = (((A.env b).dab (A.x b s) (A.tg b s) n : ℝ) : EReal) := by
  pointwise [val_main_v106, val_main_v105, val_main_call1_v2, val_main_call1_v1, val_main_call1_v0, val_main_v104, val_main_v103, val_main_v33_0, val_main_v33_1, val_main_call0_v7, val_main_call0_v6, val_main_call0_cst_1]
  simp only [ref_sg H, ref_a H, ref_b H, ref_dhid H, H.x, H.md, H.gf, H.gl, H.wu, H.wd, H.tg, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]
  unfold Env.dab
  split_ifs
  · refine congrArg Real.toEReal ?_; unfold Env.da; ring
  · refine congrArg Real.toEReal ?_; unfold Env.db; ring
  · rename_i h; exact absurd rfl h

theorem ref_dh2 (b : Fin 4) (s : Fin 2048) (k : Fin 1024) : val_main_v107 x0 x1 x2 x3 x4 x5 x6 (ix3 b s k) = (((A.env b).dh2 (A.x b s) (A.tg b s) k : ℝ) : EReal) := by
  pointwise [val_main_v107, val_main_v29]
  simp only [ref_dab H, H.x, H.md, H.gf, H.gl, H.wu, H.wd, H.tg, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]
  rfl

theorem ref_dhn2 (b : Fin 4) (s : Fin 2048) (k : Fin 1024) : val_main_v118 x0 x1 x2 x3 x4 x5 x6 (ix3 b s k) = (((A.env b).dhn2 (A.x b s) (A.tg b s) k : ℝ) : EReal) := by
  pointwise [val_main_v118, val_main_v117, val_main_v21, val_main_v20, val_main_cst_3, val_main_v19, val_main_v18, val_main_v17]
  simp only [ref_dh2 H, H.x, H.md, H.gf, H.gl, H.wu, H.wd, H.tg, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]
  rfl

theorem ref_g2 (b : Fin 4) (s : Fin 2048) (k : Fin 1024) : val_main_v127 x0 x1 x2 x3 x4 x5 x6 (ix3 b s k) = (((A.env b).g2 (A.x b s) (A.tg b s) k : ℝ) : EReal) := by
  pointwise [val_main_v127, val_main_v126, val_main_v14, val_main_v0]
  simp only [ref_dhn2 H, H.x, H.md, H.gf, H.gl, H.wu, H.wd, H.tg, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]
  rfl

theorem ref_dx1 (b : Fin 4) (s : Fin 2048) (k : Fin 1024) : val_main_v143 x0 x1 x2 x3 x4 x5 x6 (ix3 b s k) = (((A.env b).dx1 (A.x b s) (A.tg b s) k : ℝ) : EReal) := by
  pointwise [val_main_v143, val_main_v142, val_main_v141, val_main_v140, val_main_v139, val_main_v138, val_main_cst_34, val_main_v137, val_main_v136, val_main_cst_33, val_main_v135, val_main_v134, val_main_v133, val_main_v132, val_main_v131, val_main_v130, val_main_cst_32, val_main_v129, val_main_v11, val_main_v10, val_main_cst_2, val_main_v9]
  simp only [ref_g2 H, ref_r2 H, ref_ms H, ref_dx2 H, H.x, H.md, H.gf, H.gl, H.wu, H.wd, H.tg, coe_div _ (ms_eps_pos _).ne', word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]
  refine congrArg Real.toEReal ?_
  have e := back_eq (A.x b s) ((A.env b).g2 (A.x b s) (A.tg b s)) k
  simp only at e
  show _ = _ + back _ (fun j => A.x b s j * rms (A.x b s)) _ k
  linear_combination e

theorem ref_dgf (k : Fin 1024) : val_main_v128 x0 x1 x2 x3 x4 x5 x6 (ix1 k) = ((∑ b, ∑ s, (A.env b).dhn2 (A.x b s) (A.tg b s) k * Env.xn2 (A.x b s) k : ℝ) : EReal) := by
  pointwise [val_main_v128, val_main_cst_31, val_main_v125, val_main_v124, val_main_cst_30, val_main_v123]
  simp only [ref_xn2 H, ref_dhn2 H, H.x, H.md, H.gf, H.gl, H.wu, H.wd, H.tg, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]
  exact congrArg _ (Finset.sum_congr rfl fun _ _ => Finset.sum_congr rfl fun _ _ => mul_comm _ _)

theorem ref_dgl (k : Fin 1024) : val_main_v79 x0 x1 x2 x3 x4 x5 x6 (ix1 k) = ((∑ b, ∑ s, (A.env b).dy (A.x b s) (A.tg b s) k * (A.env b).xn3 (A.x b s) k : ℝ) : EReal) := by
  pointwise [val_main_v79, val_main_cst_17, val_main_v76, val_main_v75, val_main_cst_16, val_main_v74]
  simp only [ref_dy H, ref_xn3 H, H.x, H.md, H.gf, H.gl, H.wu, H.wd, H.tg, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]
  exact congrArg _ (Finset.sum_congr rfl fun _ _ => Finset.sum_congr rfl fun _ _ => mul_comm _ _)

theorem ref_dgate (b : Fin 4) (k : Fin 1024) : val_main_v99 x0 x1 x2 x3 x4 x5 x6 (ix2 b k) = ((∑ s, (A.env b).dx2 (A.x b s) (A.tg b s) k * (A.env b).ffn (A.x b s) k : ℝ) : EReal) := by
  pointwise [val_main_v99, val_main_cst_22, val_main_v98, val_main_v97, val_main_cst_21, val_main_v96]
  simp only [ref_dx2 H, ref_ffn H, H.x, H.md, H.gf, H.gl, H.wu, H.wd, H.tg, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]

theorem ref_dshift (b : Fin 4) (k : Fin 1024) : val_main_v110 x0 x1 x2 x3 x4 x5 x6 (ix2 b k) = ((∑ s, (A.env b).dh2 (A.x b s) (A.tg b s) k : ℝ) : EReal) := by
  pointwise [val_main_v110, val_main_cst_25, val_main_v109, val_main_v108, val_main_cst_24]
  simp only [ref_dh2 H, H.x, H.md, H.gf, H.gl, H.wu, H.wd, H.tg, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]

theorem ref_dscale (b : Fin 4) (k : Fin 1024) : val_main_v119 x0 x1 x2 x3 x4 x5 x6 (ix2 b k) = ((∑ s, (A.env b).dh2 (A.x b s) (A.tg b s) k * (A.env b).hn2 (A.x b s) k : ℝ) : EReal) := by
  pointwise [val_main_v119, val_main_cst_28, val_main_v116, val_main_v115, val_main_cst_27, val_main_v114]
  simp only [ref_hn2 H, ref_dh2 H, H.x, H.md, H.gf, H.gl, H.wu, H.wd, H.tg, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]
  exact congrArg _ (Finset.sum_congr rfl fun _ _ => mul_comm _ _)

theorem ref_dmod (b : Fin 4) (j : Fin 8) (k : Fin 1024) : val_main_v302 x0 x1 x2 x3 x4 x5 x6 (ix3 b j k) = ((∑ s, (A.env b).dmod (A.x b s) (A.tg b s) j.val k : ℝ) : EReal) := by
  pointwise [val_main_v302, val_main_v301, val_main_cst_69, val_main_v300, val_main_v122, val_main_v121, val_main_cst_29, val_main_v120, val_main_v113, val_main_v112, val_main_cst_26, val_main_v111, val_main_v101, val_main_cst_23, val_main_v100]
  simp only [ref_dscale H, ref_dshift H, ref_dgate H, H.x, H.md, H.gf, H.gl, H.wu, H.wd, H.tg, word_eps, word_1024, word_half, word_neghalf, word_two, Ideal.ofBits_one_f32, ← EReal.coe_one, ← EReal.coe_mul, coe_sum, div_1024, ← EReal.coe_add, ← EReal.coe_sub, coe_rms_sum, coe_rms, exp_coe_sg, zero_add, Fin.sum_univ_one]
  fin_cases j <;> simp [Env.dmod]

theorem res_h2 (b : Fin 4) (s : Fin 2048) (k : Fin 1024) :
    val_main_v303 x0 x1 x2 (ix3 b s k) = (((A.env b).h2 (A.x b s) k : ℝ) : EReal) := ref_h2 H b s k

theorem res_dab (b : Fin 4) (s : Fin 2048) (n : Fin 5632) :
    val_main_v304 x0 x1 x2 x3 x4 x5 x6 (ix3 b s n) = (((A.env b).dab (A.x b s) (A.tg b s) n : ℝ) : EReal) := ref_dab H b s n

theorem res_hid (b : Fin 4) (s : Fin 2048) (n : Fin 2816) :
    val_main_v305 x0 x1 x2 x4 (ix3 b s n) = (((A.env b).hid (A.x b s) n : ℝ) : EReal) := ref_hid H b s n

theorem res_dffn (b : Fin 4) (s : Fin 2048) (k : Fin 1024) :
    val_main_v306 x0 x1 x2 x3 x4 x5 x6 (ix3 b s k) = (((A.env b).dffn (A.x b s) (A.tg b s) k : ℝ) : EReal) := ref_dffn H b s k

theorem res_loss : val_main_v307 x0 x1 x2 x3 x4 x5 x6 (ix2 0 0)
    = ((1 / 2 * ∑ b, ∑ s, (A.env b).loss (A.x b s) (A.tg b s) : ℝ) : EReal) := by
  pointwise [val_main_v307]
  exact ref_loss H _

theorem res_dgl (k : Fin 1024) : val_main_v308 x0 x1 x2 x3 x4 x5 x6 (ix2 0 k)
    = ((∑ b, ∑ s, (A.env b).dy (A.x b s) (A.tg b s) k * (A.env b).xn3 (A.x b s) k : ℝ) : EReal) := by
  pointwise [val_main_v308]
  exact ref_dgl H k

theorem res_dgf (k : Fin 1024) : val_main_v144 x0 x1 x2 x3 x4 x5 x6 (ix2 0 k)
    = ((∑ b, ∑ s, (A.env b).dhn2 (A.x b s) (A.tg b s) k * Env.xn2 (A.x b s) k : ℝ) : EReal) := by
  pointwise [val_main_v144]
  exact ref_dgf H k

end Cert.FfnRefIdeal.Read

end
-- ==== Proof.Stores.lean ====
/- What the stores of a kernel's body leave in a block, read as a function of what the block held before: a store over the whole
   block leaves its payload, and a store over one row of a block of eight rows replaces that row. -/
module

public import Idealize.ShloMosaic.Lib.Pointwise
public import Idealize.ShloMosaic.Lib.WritesUnit
public import Idealize.ShloMosaic.Lib.Pipeline.FrameBody

@[expose] public section

noncomputable section

namespace Cert.Stores

open Idealize.ShloMosaic

variable {sig : RefSig} {κ : Kind} {sp : Space} {s : Shape} {e : EltTy} {Val : EltTy → Type}

/-- The newest store lies over what the older ones left. -/
theorem read_cons (v : View sig κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy]

/-- A store over the whole block. -/
theorem overlay_whole {off : Fin s.rank → ℕ} (h : off = fun _ => 0) (inb : ∀ a, off a + s.size a ≤ s.size a)
    (x : s.Idx → Val e) (w : (Rect.unit off s.size inb).shape.Idx → Val e) : (Rect.unit off s.size inb).overlay x w = w := by
  subst h
  funext y
  have hy : (Rect.unit (fun _ => 0) s.size inb).emb y = y := funext fun a => Fin.ext (by
    show 0 + 1 * (y a).val = (y a).val
    omega)
  conv_lhs => rw [← hy]
  exact Rect.overlay_emb _ _ w _

/-- A load at a rectangle, with the covering stores' contents. -/
theorem readCov_ld [∀ e, Nonempty (Val e)] (v : View sig κ sp s e) (L : List (View.Piece Val s e)) (r : Rect s) :
    v.readCov L r.toLoadRect = View.ld (View.canon L) r := View.readCov_eq_canon' v L r

/-! ## Rows of a block of eight -/

/-- A block of eight rows of 1024, and one row. -/
abbrev Eight : Shape := ⟨3, ![1, 8, 1024]⟩
abbrev One : Shape := ⟨3, ![1, 1, 1024]⟩

/-- Row `k` of a block. -/
def row (k : Fin 8) (x : Eight.Idx → Val e) : One.Idx → Val e := fun y => x (ix3 0 k (y 2))

/-- The block with row `k` replaced. -/
def setRow (k : Fin 8) (w : One.Idx → Val e) (x : Eight.Idx → Val e) : Eight.Idx → Val e :=
  fun y => if (y 1).val = k.val then w (ix3 0 0 (y 2)) else x y

theorem row_apply (k : Fin 8) (x : Eight.Idx → Val e) (j : Fin 1024) : row k x (ix3 0 0 j) = x (ix3 0 k j) := rfl

theorem setRow_apply (k i : Fin 8) (w : One.Idx → Val e) (x : Eight.Idx → Val e) (j : Fin 1024) :
    setRow k w x (ix3 0 i j) = if i.val = k.val then w (ix3 0 0 j) else x (ix3 0 i j) := rfl

theorem row_setRow {k i : Fin 8} (h : i ≠ k) (w : One.Idx → Val e) (x : Eight.Idx → Val e) : row i (setRow k w x) = row i x :=
  funext fun _ => if_neg fun hv => h (Fin.ext hv)

theorem emb_row (k : Fin 8) {off : Fin 3 → ℕ} (h : off = ![0, k.val, 0]) (inb : ∀ a, off a + One.size a ≤ Eight.size a) (y : One.Idx) :
    (Rect.unit (s := Eight) off One.size inb).emb y = ix3 0 k (y 2) := by
  subst h
  have h0 : (y 0).val = 0 := by have := (y 0).isLt; simp at this; omega
  have h1 : (y 1).val = 0 := by have := (y 1).isLt; simp at this; omega
  funext a
  apply Fin.ext
  show (![0, k.val, 0] : Fin 3 → ℕ) a + 1 * (y a).val = _
  match a with
  | ⟨0, _⟩ => show 0 + 1 * (y 0).val = 0; omega
  | ⟨1, _⟩ => show k.val + 1 * (y 1).val = k.val; omega
  | ⟨2, _⟩ => show 0 + 1 * (y 2).val = (y 2).val; omega

/-- A load of one row. -/
theorem ld_row (k : Fin 8) {off : Fin 3 → ℕ} (h : off = ![0, k.val, 0]) (inb : ∀ a, off a + One.size a ≤ Eight.size a) (x : Eight.Idx → Val e) :
    View.ld x (Rect.unit (s := Eight) off One.size inb) = row k x :=
  funext fun y => congrArg x (emb_row k h inb y)

/-- A store of one row. -/
theorem overlay_row (k : Fin 8) {off : Fin 3 → ℕ} (h : off = ![0, k.val, 0]) (inb : ∀ a, off a + One.size a ≤ Eight.size a)
    (x : Eight.Idx → Val e) (w : One.Idx → Val e) : (Rect.unit (s := Eight) off One.size inb).overlay x w = setRow k w x := by
  funext y
  unfold setRow
  split_ifs with hk
  · have hy : (Rect.unit (s := Eight) off One.size inb).emb (ix3 0 0 (y 2)) = y := by
      rw [emb_row k h inb]
      funext a
      match a with
      | ⟨0, _⟩ => exact Subsingleton.elim (α := Fin 1) _ _
      | ⟨1, _⟩ => exact Fin.ext hk.symm
      | ⟨2, _⟩ => rfl
    conv_lhs => rw [← hy]
    exact Rect.overlay_emb _ _ _ _
  · refine Rect.overlay_of_not_mem _ _ _ fun hm => hk ?_
    obtain ⟨x', hx⟩ := (Rect.unit (s := Eight) off One.size inb).exists_idx_of_mem hm
    rw [← hx]
    exact congrArg Fin.val (congrFun (emb_row k h inb x') 1)

end Cert.Stores

end
-- ==== Proof.FfnFinal.lean ====
/- What one grid point of the feed-forward kernel leaves in its result blocks: each block as the payload of the store that fills it,
   over the point's input blocks, and for a result summed over the grid over what the point before left. -/
module

public import proofs.«01_k».proof.Proof.Gen.FfnIdeal.Value
public import proofs.«01_k».proof.Proof.Stores

@[expose] public section

noncomputable section

namespace Cert.FfnIdeal.Final

open Idealize.ShloMosaic Idealize.SL.Sem Cert.FfnIdeal Cert.FfnIdeal.Gen Idealize.ShloMosaic.TcCoe Cert.Stores

variable {F : FTy → Type} [FloatOps F]

/-- The input blocks of a point: the stream, the target, the modulation's rows, the two norms' gains, and the two weights. -/
structure Blocks (F : FTy → Type) where
  x : Vec F S1x256x1024 .f32
  tg : Vec F S1x256x1024 .f32
  md : Vec F S1x8x1024 .f32
  gf : Vec F S1x1024 .f32
  gl : Vec F S1x1024 .f32
  wu : Vec F S1024x5632 .bf16
  wd : Vec F S2816x1024 .bf16

namespace Blocks

variable (p : Blocks F)

abbrev one : F .f32 := FloatOps.ofBits (F := F) FTy.f32 0x3F800000#32
abbrev sh := k0_pay7 (row 1 p.md)
abbrev sc := k0_pay8 (row 2 p.md)
abbrev gt := k0_pay9 (row 3 p.md)
abbrev hn := k0_pay13 p.x p.gf
/-- The stream after the feed-forward half, its mean square, and the last norm. -/
abbrev x2 := k0_pay24 (k0_pay6 p.x) p.sh p.sc p.gt p.hn one p.wu p.wd
abbrev ms := k0_pay25 (k0_pay6 p.x) p.sh p.sc p.gt p.hn one p.wu p.wd
abbrev r3 := k0_pay27 p.ms k0_pay26
abbrev xn3 := k0_pay28 p.x2 p.ms k0_pay26
/-- The last norm's cotangent, and its mean product with the normed row. -/
abbrev g3 := k0_pay33 (k0_pay10 p.gl) p.x2 p.ms k0_pay26 p.tg
abbrev c3 := k0_pay34 (k0_pay10 p.gl) p.x2 p.ms k0_pay26 p.tg
/-- The cotangent of the first product. -/
abbrev dab := k0_pay39 p.gt (k0_pay17 p.sh p.sc p.hn one p.wu) (k0_pay18 p.sh p.sc p.hn one p.wu) (k0_pay19 p.sh p.sc p.hn one p.wu)
  (k0_pay20 p.sh p.sc p.hn one p.wu) p.r3 p.xn3 p.g3 p.c3 p.wd

/-- The results' blocks, those summed over the grid over what they held. -/
def out7 : Vec F S1x256x1024 .f32 := k0_pay1 (k0_pay11 p.x) (k0_pay12 p.x) (k0_pay35 p.r3 p.xn3 p.g3 p.c3) (k0_pay46 p.sc p.gf p.dab p.wu)
  (k0_pay47 p.sc p.gf (k0_pay12 p.x) p.dab p.wu)
def out8 : Vec F S1x256x1024 .bf16 := k0_pay15 p.sh p.sc p.hn one
def out9 : Vec F S1x256x5632 .bf16 := k0_pay40 p.gt (k0_pay17 p.sh p.sc p.hn one p.wu) (k0_pay18 p.sh p.sc p.hn one p.wu)
  (k0_pay19 p.sh p.sc p.hn one p.wu) (k0_pay20 p.sh p.sc p.hn one p.wu) p.r3 p.xn3 p.g3 p.c3 p.wd
def out10 : Vec F S1x256x2816 .bf16 := k0_pay22 p.sh p.sc p.hn one p.wu
def out11 : Vec F S1x256x1024 .bf16 := k0_pay38 p.gt p.r3 p.xn3 p.g3 p.c3
def out12 (z : Vec F S1x1 .f32) : Vec F S1x1 .f32 := k0_pay30 (k0_pay10 p.gl) p.x2 p.ms k0_pay26 p.tg z
def out13 (z : Vec F S1x1024 .f32) : Vec F S1x1024 .f32 := k0_pay32 (k0_pay10 p.gl) p.x2 p.ms k0_pay26 p.tg z
def out14 (z : Vec F S1x1024 .f32) : Vec F S1x1024 .f32 := k0_pay45 p.sc (k0_pay12 p.x) p.dab p.wu z
def out15 (z : Vec F S1x8x1024 .f32) : Vec F S1x8x1024 .f32 :=
  setRow 2 (k0_pay43 p.hn p.dab p.wu (row 2 z)) (setRow 1 (k0_pay42 p.dab p.wu (row 1 z))
    (setRow 3 (k0_pay36 (k0_pay23 p.sh p.sc p.hn one p.wu p.wd) p.r3 p.xn3 p.g3 p.c3 (row 3 z)) z))

end Blocks

/-- All result blocks of a point, over what the four summed ones held. -/
def outs (p : Blocks F) (z12 : Vec F S1x1 .f32) (z13 z14 : Vec F S1x1024 .f32) (z15 : Vec F S1x8x1024 .f32) :=
  (p.out7, p.out8, p.out9, p.out10, p.out11, p.out12 z12, p.out13 z13, p.out14 z14, p.out15 z15)

variable (m : (ℓ : Loc nD τ sig) → Buf (Elt F) ℓ)

/-- The input blocks of point `t`. -/
def blocks (c : Dev nD) (t : Fin cfg0.N) : Blocks F :=
  ⟨iblk m c 0 t, iblk m c 1 t, iblk m c 2 t, iblk m c 3 t, iblk m c 4 t, iblk m c 5 t, iblk m c 6 t⟩

theorem off2 : (![0, 0] : Fin 2 → ℕ) = fun _ => 0 := funext fun a => by fin_cases a <;> rfl
theorem off3 : (![0, 0, 0] : Fin 3 → ℕ) = fun _ => 0 := funext fun a => by fin_cases a <;> rfl

theorem ld1 (x : Vec F S1x8x1024 .f32) : View.ld x (Rect.unit ![0, 1, 0] ![1, 1, 1024] inb_S1x8x1024_S1x1x1024_0_1_0) = row 1 x := ld_row 1 rfl _ x
theorem ld2 (x : Vec F S1x8x1024 .f32) : View.ld x (Rect.unit ![0, 2, 0] ![1, 1, 1024] inb_S1x8x1024_S1x1x1024_0_2_0) = row 2 x := ld_row 2 rfl _ x
theorem ld3 (x : Vec F S1x8x1024 .f32) : View.ld x (Rect.unit ![0, 3, 0] ![1, 1, 1024] inb_S1x8x1024_S1x1x1024_0_3_0) = row 3 x := ld_row 3 rfl _ x
theorem set1 (x : S1x8x1024.Idx → Elt F .f32) (w : S1x1x1024.Idx → Elt F .f32) : (Rect.unit (s := S1x8x1024) ![0, 1, 0] ![1, 1, 1024] inb_S1x8x1024_S1x1x1024_0_1_0).overlay x w = setRow 1 w x := overlay_row 1 rfl _ x w
theorem set2 (x : S1x8x1024.Idx → Elt F .f32) (w : S1x1x1024.Idx → Elt F .f32) : (Rect.unit (s := S1x8x1024) ![0, 2, 0] ![1, 1, 1024] inb_S1x8x1024_S1x1x1024_0_2_0).overlay x w = setRow 2 w x := overlay_row 2 rfl _ x w
theorem set3 (x : S1x8x1024.Idx → Elt F .f32) (w : S1x1x1024.Idx → Elt F .f32) : (Rect.unit (s := S1x8x1024) ![0, 3, 0] ![1, 1, 1024] inb_S1x8x1024_S1x1x1024_0_3_0).overlay x w = setRow 3 w x := overlay_row 3 rfl _ x w

/-- Three rows stored one after the other, the last two read back before they are stored. -/
theorem three_rows (z : S1x8x1024.Idx → Elt F .f32) (w : S1x1x1024.Idx → Elt F .f32) (f g : (S1x1x1024.Idx → Elt F .f32) → S1x1x1024.Idx → Elt F .f32) :
    (Rect.unit (s := S1x8x1024) ![0, 2, 0] ![1, 1, 1024] inb_S1x8x1024_S1x1x1024_0_2_0).overlay
      ((Rect.unit (s := S1x8x1024) ![0, 1, 0] ![1, 1, 1024] inb_S1x8x1024_S1x1x1024_0_1_0).overlay
        ((Rect.unit (s := S1x8x1024) ![0, 3, 0] ![1, 1, 1024] inb_S1x8x1024_S1x1x1024_0_3_0).overlay z w)
        (f (row 1 ((Rect.unit (s := S1x8x1024) ![0, 3, 0] ![1, 1, 1024] inb_S1x8x1024_S1x1x1024_0_3_0).overlay z w))))
      (g (row 2 ((Rect.unit (s := S1x8x1024) ![0, 1, 0] ![1, 1, 1024] inb_S1x8x1024_S1x1x1024_0_1_0).overlay
        ((Rect.unit (s := S1x8x1024) ![0, 3, 0] ![1, 1, 1024] inb_S1x8x1024_S1x1x1024_0_3_0).overlay z w)
        (f (row 1 ((Rect.unit (s := S1x8x1024) ![0, 3, 0] ![1, 1, 1024] inb_S1x8x1024_S1x1x1024_0_3_0).overlay z w))))))
      = setRow 2 (g (row 2 z)) (setRow 1 (f (row 1 z)) (setRow 3 w z)) := by
  rw [set3, row_setRow (by decide), set1, row_setRow (by decide), row_setRow (by decide), set2]

/-- What the results' blocks held before point `t`, apart from the first points of the grid and of a batch element. -/
def held (c : Dev nD) (t : Fin cfg0.N) := outsAt0 m c (t.val - 1) (Nat.lt_of_le_of_lt (Nat.sub_le _ _) t.isLt)

set_option maxHeartbeats 4000000 in
/-- One point of the grid: three sums start from zero at the first point, and the fourth at the first point of a batch element. -/
theorem outs_step (c : Dev nD) (t : Fin cfg0.N) :
    outsAt0 m c t.val t.isLt = outs (blocks m c t) (if t.val % 32 = 0 then k0_pay2 else (held m c t).2.2.2.2.2.1)
      (if t.val % 32 = 0 then k0_pay3 else (held m c t).2.2.2.2.2.2.1) (if t.val % 32 = 0 then k0_pay4 else (held m c t).2.2.2.2.2.2.2.1)
      (if t.val % 8 = 0 then k0_pay5 else (held m c t).2.2.2.2.2.2.2.2) := by
  have cases : (t.val % 32 = 0 ∧ t.val % 8 = 0) ∨ (¬t.val % 32 = 0 ∧ t.val % 8 = 0) ∨ (¬t.val % 32 = 0 ∧ ¬t.val % 8 = 0) := by omega
  rcases cases with ⟨h0, h1⟩ | ⟨h0, h1⟩ | ⟨h0, h1⟩
  all_goals
    first
    | rw [outsAt0_A m c t h0 h1, if_pos h0, if_pos h0, if_pos h0, if_pos h1]
    | rw [outsAt0_C m c t h0 h1, if_neg h0, if_neg h0, if_neg h0, if_pos h1]
    | rw [outsAt0_B m c t h0 h1, if_neg h0, if_neg h0, if_neg h0, if_neg h1]
    try unfold held
    unfold blocks
    generalize iblk m c 0 t = x0
    generalize iblk m c 1 t = x1
    generalize iblk m c 2 t = x2
    generalize iblk m c 3 t = x3
    generalize iblk m c 4 t = x4
    generalize iblk m c 5 t = x5
    generalize iblk m c 6 t = x6
    refine congr (congrArg Prod.mk ?_) (congr (congrArg Prod.mk ?_) (congr (congrArg Prod.mk ?_) (congr (congrArg Prod.mk ?_)
      (congr (congrArg Prod.mk ?_) (congr (congrArg Prod.mk ?_) (congr (congrArg Prod.mk ?_) (congr (congrArg Prod.mk ?_) ?_)))))))
  all_goals
    first
    | (first | unfold out0_A_7 | unfold out0_A_8 | unfold out0_A_9 | unfold out0_A_10 | unfold out0_A_11 | unfold out0_A_12 | unfold out0_A_13
             | unfold out0_A_14 | unfold out0_A_15
       unfold kernelRun0_A)
    | (first | unfold out0_C_7 | unfold out0_C_8 | unfold out0_C_9 | unfold out0_C_10 | unfold out0_C_11 | unfold out0_C_12 | unfold out0_C_13
             | unfold out0_C_14 | unfold out0_C_15
       unfold kernelRun0_C)
    | (first | unfold out0_B_7 | unfold out0_B_8 | unfold out0_B_9 | unfold out0_B_10 | unfold out0_B_11 | unfold out0_B_12 | unfold out0_B_13
             | unfold out0_B_14 | unfold out0_B_15
       unfold kernelRun0_B)
  all_goals
    dsimp only
    sl_unfold_words
    simp only [read_cons, readCov_ld, View.canon_cons, View.writes_nil, overlay_whole (s := S1x1024) off2, overlay_whole (s := S1x1) off2,
      overlay_whole (s := S1x256x1024) off3, overlay_whole (s := S1x256x2816) off3, overlay_whole (s := S1x256x5632) off3, overlay_whole (s := S1x8x1024) off3,
      View.readAt_eq_ld, Memref.IsWhole.read_unread,
      View.ld_unit_zero (S := S1x1024) off2, View.ld_unit_zero (S := S1024x5632) off2, View.ld_unit_zero (S := S2816x1024) off2, View.ld_unit_zero (S := S1x1) off2,
      View.ld_unit_zero (S := S1x256x1024) off3, shapeCast_self, ld1, ld2, ld3]
    first
    | (first | unfold Blocks.out7 | unfold Blocks.out8 | unfold Blocks.out9 | unfold Blocks.out10 | unfold Blocks.out11 | unfold Blocks.out12 | unfold Blocks.out13 | unfold Blocks.out14
       with_reducible rfl)
    | (unfold Blocks.out12; exact overlay_whole (s := S1x1) off2 _ _ _)
    | (first | unfold Blocks.out13 | unfold Blocks.out14
       exact overlay_whole (s := S1x1024) off2 _ _ _)
    | exact three_rows _ _ (fun r => k0_pay42 _ _ r) (fun r => k0_pay43 _ _ _ r)
    | exact (set2 _ _).trans (congrArg (setRow 2 _) ((set1 _ _).trans (congrArg (setRow 1 _) (set3 _ _))))

end Cert.FfnIdeal.Final

end
-- ==== Proof.FfnArr.lean ====
/- The blocks of the feed-forward kernel as parts of its arrays: an input block's element is an element of the array the kernel is
   entered with, and a result's element is an element of the block left by the point that writes it back. -/
module

public import proofs.«01_k».proof.Proof.FfnFinal
public import Idealize.ShloMosaic.Lib.StableHlo.ReadAt
public import Idealize.ShloMosaic.Lib.Pipeline.ValueKit.Geometry

@[expose] public section

set_option maxRecDepth 8000

noncomputable section

namespace Cert.FfnIdeal.Final

open Idealize.ShloMosaic Idealize.SL.Sem Cert.FfnIdeal Cert.FfnIdeal.Gen Idealize.ShloMosaic.TcCoe Cert.Stores

variable (m : (ℓ : Loc nD τ sig) → Buf (Elt Ideal) ℓ) (c : Dev nD)

/-- The batch element of a point, and the row of its block's row `r`. -/
def bat (t : Fin cfg0.N) : Fin 4 := ⟨t.val / 8, Nat.div_lt_of_lt_mul (t.isLt.trans_eq N_0)⟩
def pos (t : Fin cfg0.N) (r : Fin 256) : Fin 2048 := ⟨t.val % 8 * 256 + r.val, by have := r.isLt; omega⟩

/-- Where the blocks that follow the grid lie. -/
theorem index_rows : ∀ t : Fin grid0.N, (win0_0.index t 0 = t.val / 8 ∧ win0_0.index t 1 = t.val % 8 ∧ win0_0.index t 2 = 0)
    ∧ (win0_1.index t 0 = t.val / 8 ∧ win0_1.index t 1 = t.val % 8 ∧ win0_1.index t 2 = 0)
    ∧ (win0_2.index t 0 = t.val / 8 ∧ win0_2.index t 1 = 0 ∧ win0_2.index t 2 = 0)
    ∧ (win0_7.index t 0 = t.val / 8 ∧ win0_7.index t 1 = t.val % 8 ∧ win0_7.index t 2 = 0)
    ∧ (win0_8.index t 0 = t.val / 8 ∧ win0_8.index t 1 = t.val % 8 ∧ win0_8.index t 2 = 0)
    ∧ (win0_9.index t 0 = t.val / 8 ∧ win0_9.index t 1 = t.val % 8 ∧ win0_9.index t 2 = 0)
    ∧ (win0_10.index t 0 = t.val / 8 ∧ win0_10.index t 1 = t.val % 8 ∧ win0_10.index t 2 = 0)
    ∧ (win0_11.index t 0 = t.val / 8 ∧ win0_11.index t 1 = t.val % 8 ∧ win0_11.index t 2 = 0)
    ∧ (win0_15.index t 0 = t.val / 8 ∧ win0_15.index t 1 = 0 ∧ win0_15.index t 2 = 0) := by decide +kernel

/-- Where the blocks that are their whole array lie. -/
theorem index_whole : ∀ t : Fin grid0.N, (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_12.index t 0 = 0 ∧ win0_12.index t 1 = 0) ∧ (win0_13.index t 0 = 0 ∧ win0_13.index t 1 = 0)
    ∧ (win0_14.index t 0 = 0 ∧ win0_14.index t 1 = 0) := by decide +kernel

/-- A position in an array of three axes, from its coordinates; and one in an array of two. -/
theorem at3 {a b c : ℕ} {e : (⟨3, ![a, b, c]⟩ : Shape).Idx} {i : Fin a} {j : Fin b} {k : Fin c} (h0 : (e 0).val = i.val) (h1 : (e 1).val = j.val)
    (h2 : (e 2).val = k.val) : e = ix3 i j k :=
  funext fun x => Fin.ext (match x with | ⟨0, _⟩ => h0 | ⟨1, _⟩ => h1 | ⟨2, _⟩ => h2)

theorem at2 {a b : ℕ} {e : (⟨2, ![a, b]⟩ : Shape).Idx} {i : Fin a} {j : Fin b} (h0 : (e 0).val = i.val) (h1 : (e 1).val = j.val) : e = ix2 i j :=
  funext fun x => Fin.ext (match x with | ⟨0, _⟩ => h0 | ⟨1, _⟩ => h1)

/-- A coordinate of a block's position: along the batch, along the rows, and along an axis the block has whole. -/
theorem lead {i q : ℕ} (h : i = q) : i * 1 + 1 * 0 = q := by omega
theorem inner {i q r : ℕ} (h : i = q) : i * 256 + 1 * r = q * 256 + r := by omega
theorem whole {i n r : ℕ} (h : i = 0) : i * n + 1 * r = r := by rw [h]; omega

section Inputs

variable (t : Fin cfg0.N)

theorem blk_x (r : Fin 256) (k : Fin 1024) : (blocks m c t).x (ix3 0 r k) = V m c main_arg0 (ix3 (bat t) (pos t r) k) :=
  have h := (index_rows t).1
  congrArg (V m c main_arg0) (at3 (lead h.1) (inner h.2.1) (whole h.2.2))

theorem blk_tg (r : Fin 256) (k : Fin 1024) : (blocks m c t).tg (ix3 0 r k) = V m c main_arg6 (ix3 (bat t) (pos t r) k) :=
  have h := (index_rows t).2.1
  congrArg (V m c main_arg6) (at3 (lead h.1) (inner h.2.1) (whole h.2.2))

theorem blk_md (i : Fin 8) (k : Fin 1024) : (blocks m c t).md (ix3 0 i k) = V m c main_v2 (ix3 (bat t) i k) :=
  have h := (index_rows t).2.2.1
  congrArg (V m c main_v2) (at3 (lead h.1) (whole h.2.1) (whole h.2.2))

theorem blk_gf (k : Fin 1024) : (blocks m c t).gf (ix2 0 k) = V m c main_arg2 (ix2 0 k) :=
  have h := (index_whole t).1
  congrArg (V m c main_arg2) (at2 (whole h.1) (whole h.2))

theorem blk_gl (k : Fin 1024) : (blocks m c t).gl (ix2 0 k) = V m c main_v3 (ix2 0 k) :=
  have h := (index_whole t).2.1
  congrArg (V m c main_v3) (at2 (whole h.1) (whole h.2))

theorem blk_wu (k : Fin 1024) (n : Fin 5632) : (blocks m c t).wu (ix2 k n) = V m c main_v5 (ix2 k n) :=
  have h := (index_whole t).2.2.1
  congrArg (V m c main_v5) (at2 (whole h.1) (whole h.2))

theorem blk_wd (n : Fin 2816) (k : Fin 1024) : (blocks m c t).wd (ix2 n k) = V m c main_v7 (ix2 n k) :=
  have h := (index_whole t).2.2.2.1
  congrArg (V m c main_v7) (at2 (whole h.1) (whole h.2))

end Inputs

section Results

variable (t : Fin cfg0.N) (r : Fin 256)

theorem arr7 (k : Fin 1024) : (dats m 0 c).arrAt 7 cfg0.N (ix3 (bat t) (pos t r) k) = (blocks m c t).out7 (ix3 0 r k) := by
  have h := (index_rows t).2.2.2.1
  have e := congrFun (Value.blocks7 m c t (flush0_7 t)) (ix3 0 r k)
  rw [Value.flushed7, outs_step] at e
  exact (congrArg ((dats m 0 c).arrAt 7 cfg0.N) (at3 (lead h.1) (inner h.2.1) (whole h.2.2))).symm.trans e

theorem arr8 (k : Fin 1024) : (dats m 0 c).arrAt 8 cfg0.N (ix3 (bat t) (pos t r) k) = (blocks m c t).out8 (ix3 0 r k) := by
  have h := (index_rows t).2.2.2.2.1
  have e := congrFun (Value.blocks8 m c t (flush0_8 t)) (ix3 0 r k)
  rw [Value.flushed8, outs_step] at e
  exact (congrArg ((dats m 0 c).arrAt 8 cfg0.N) (at3 (lead h.1) (inner h.2.1) (whole h.2.2))).symm.trans e

theorem arr9 (k : Fin 5632) : (dats m 0 c).arrAt 9 cfg0.N (ix3 (bat t) (pos t r) k) = (blocks m c t).out9 (ix3 0 r k) := by
  have h := (index_rows t).2.2.2.2.2.1
  have e := congrFun (Value.blocks9 m c t (flush0_9 t)) (ix3 0 r k)
  rw [Value.flushed9, outs_step] at e
  exact (congrArg ((dats m 0 c).arrAt 9 cfg0.N) (at3 (lead h.1) (inner h.2.1) (whole h.2.2))).symm.trans e

theorem arr10 (k : Fin 2816) : (dats m 0 c).arrAt 10 cfg0.N (ix3 (bat t) (pos t r) k) = (blocks m c t).out10 (ix3 0 r k) := by
  have h := (index_rows t).2.2.2.2.2.2.1
  have e := congrFun (Value.blocks10 m c t (flush0_10 t)) (ix3 0 r k)
  rw [Value.flushed10, outs_step] at e
  exact (congrArg ((dats m 0 c).arrAt 10 cfg0.N) (at3 (lead h.1) (inner h.2.1) (whole h.2.2))).symm.trans e

theorem arr11 (k : Fin 1024) : (dats m 0 c).arrAt 11 cfg0.N (ix3 (bat t) (pos t r) k) = (blocks m c t).out11 (ix3 0 r k) := by
  have h := (index_rows t).2.2.2.2.2.2.2.1
  have e := congrFun (Value.blocks11 m c t (flush0_11 t)) (ix3 0 r k)
  rw [Value.flushed11, outs_step] at e
  exact (congrArg ((dats m 0 c).arrAt 11 cfg0.N) (at3 (lead h.1) (inner h.2.1) (whole h.2.2))).symm.trans e

/-- The block a sum over the whole grid is written back from is its last point's. -/
theorem last_unique (w : Fin cfg0.W) (hw : ∀ t : Fin cfg0.N, (cfg0.win w).flush t = true ↔ t.val % 32 = 31) :
    ∀ a b : Fin cfg0.N, (cfg0.win w).flush a = true → (cfg0.win w).flush b = true → a ≠ b →
      Disjoint ((cfg0.win w).blk a).view.set ((cfg0.win w).blk b).view.set :=
  fun a b ha hb n => absurd (Fin.ext (by
    have := a.isLt.trans_eq N_0; have := b.isLt.trans_eq N_0; have := (hw a).mp ha; have := (hw b).mp hb; omega)) n

theorem arr12 (h : t.val % 32 = 31) : (dats m 0 c).arrAt 12 cfg0.N (ix2 0 0) = (outsAt0 m c t.val t.isLt).2.2.2.2.2.1 (ix2 0 0) := by
  have i := (index_whole t).2.2.2.2.1
  have e := congrFun ((dats m 0 c).read_blk_arrAt_eq_flushed 12 (last_unique 12 flush0_12) cfg0.N t t.isLt ((flush0_12 t).mpr h)) (ix2 0 0)
  rw [Value.flushed12] at e
  refine (congrArg ((dats m 0 c).arrAt 12 cfg0.N) (?_ : ((cfg0.win 12).blk t).view.emb (ix2 0 0) = ix2 0 0)).symm.trans e
  exact at2 (i := 0) (j := 0) (whole (n := 1) (r := 0) i.1) (whole (n := 1) (r := 0) i.2)

theorem arr13 (h : t.val % 32 = 31) (k : Fin 1024) :
    (dats m 0 c).arrAt 13 cfg0.N (ix2 0 k) = (outsAt0 m c t.val t.isLt).2.2.2.2.2.2.1 (ix2 0 k) := by
  have i := (index_whole t).2.2.2.2.2.1
  have e := congrFun ((dats m 0 c).read_blk_arrAt_eq_flushed 13 (last_unique 13 flush0_13) cfg0.N t t.isLt ((flush0_13 t).mpr h)) (ix2 0 k)
  rw [Value.flushed13] at e
  exact (congrArg ((dats m 0 c).arrAt 13 cfg0.N) (at2 (whole i.1) (whole i.2))).symm.trans e

theorem arr14 (h : t.val % 32 = 31) (k : Fin 1024) :
    (dats m 0 c).arrAt 14 cfg0.N (ix2 0 k) = (outsAt0 m c t.val t.isLt).2.2.2.2.2.2.2.1 (ix2 0 k) := by
  have i := (index_whole t).2.2.2.2.2.2
  have e := congrFun ((dats m 0 c).read_blk_arrAt_eq_flushed 14 (last_unique 14 flush0_14) cfg0.N t t.isLt ((flush0_14 t).mpr h)) (ix2 0 k)
  rw [Value.flushed14] at e
  exact (congrArg ((dats m 0 c).arrAt 14 cfg0.N) (at2 (whole i.1) (whole i.2))).symm.trans e

theorem arr15 (h : t.val % 8 = 7) (j : Fin 8) (k : Fin 1024) :
    (dats m 0 c).arrAt 15 cfg0.N (ix3 (bat t) j k) = (outsAt0 m c t.val t.isLt).2.2.2.2.2.2.2.2 (ix3 0 j k) := by
  have i := (index_rows t).2.2.2.2.2.2.2.2
  have hd := Pipeline.Window.hdisj_of_index_inj win0_15 (fun a b ha hb e => Fin.ext (by
    have := (index_rows a).2.2.2.2.2.2.2.2.1; have := (index_rows b).2.2.2.2.2.2.2.2.1; have := congrFun e 0
    have := (flush0_15 a).mp ha; have := (flush0_15 b).mp hb; omega))
  have e := congrFun ((dats m 0 c).read_blk_arrAt_eq_flushed 15 hd cfg0.N t t.isLt ((flush0_15 t).mpr h)) (ix3 0 j k)
  rw [Value.flushed15] at e
  exact (congrArg ((dats m 0 c).arrAt 15 cfg0.N) (at3 (lead i.1) (whole i.2.1) (whole i.2.2))).symm.trans e

end Results

/-! The arrays the kernel is entered with, of the arguments. -/

theorem ent_x : V m c main_arg0 = m ((c : Thread nD τ).loc main_arg0) := by
  unfold V; after_reads_at

theorem ent_tg : V m c main_arg6 = m ((c : Thread nD τ).loc main_arg6) := by
  unfold V; after_reads_at

theorem ent_gf : V m c main_arg2 = m ((c : Thread nD τ).loc main_arg2) := by
  unfold V; after_reads_at

theorem ent_md (b : Fin 4) (i : Fin 8) (k : Fin 1024) : V m c main_v2 (ix3 b i k)
    = (if h : i.val < 4 then (m ((c : Thread nD τ).loc main_arg1) (ix3 b ⟨2 + i.val, by omega⟩ k) : EReal) else 0 : EReal) := by
  unfold V; after_reads_at

theorem ent_gl (k : Fin 1024) : V m c main_v3 (ix2 0 k) = m ((c : Thread nD τ).loc main_arg3) (ix1 k) := by
  unfold V; after_reads_at

theorem ent_wu (k : Fin 1024) (n : Fin 5632) : V m c main_v5 (ix2 k n) = m ((c : Thread nD τ).loc main_arg4) (ix3 0 k n) := by
  unfold V; after_reads_at

theorem ent_wd (n : Fin 2816) (k : Fin 1024) : V m c main_v7 (ix2 n k) = m ((c : Thread nD τ).loc main_arg5) (ix3 0 n k) := by
  unfold V; after_reads_at

end Cert.FfnIdeal.Final

end
-- ==== Proof.FfnKernel.lean ====
/- One block of rows through the feed-forward kernel: each word the kernel forms is the stage of the layer over the reals. -/
module

public import proofs.«01_k».proof.Proof.FfnFinal
public import proofs.«01_k».proof.Proof.FfnReal

@[expose] public section

set_option maxRecDepth 8000

noncomputable section

namespace Cert.FfnIdeal.Final

open Idealize.ShloMosaic Idealize.SL.Sem Cert.FfnIdeal Cert.FfnIdeal.Gen Idealize.ShloMosaic.TcCoe Cert.Stores Cert.Reals Cert.Norms Cert.Ffn

/-- The elements of a block of 256 rows, of a column beside it, and of a line across it, as reals. -/
abbrev Grid {n : ℕ} (v : (⟨2, ![256, n]⟩ : Shape).Idx → EReal) (f : Fin 256 → Fin n → ℝ) : Prop := ∀ r k, v (ix2 r k) = ((f r k : ℝ) : EReal)
abbrev Block {n : ℕ} (v : (⟨3, ![1, 256, n]⟩ : Shape).Idx → EReal) (f : Fin 256 → Fin n → ℝ) : Prop := ∀ r k, v (ix3 0 r k) = ((f r k : ℝ) : EReal)
abbrev Column (v : (⟨2, ![256, 1]⟩ : Shape).Idx → EReal) (f : Fin 256 → ℝ) : Prop := ∀ r, v (ix2 r 0) = ((f r : ℝ) : EReal)
abbrev Line {n : ℕ} (v : (⟨2, ![1, n]⟩ : Shape).Idx → EReal) (f : Fin n → ℝ) : Prop := ∀ k, v (ix2 0 k) = ((f k : ℝ) : EReal)
abbrev Line3 {n : ℕ} (v : (⟨3, ![1, 1, n]⟩ : Shape).Idx → EReal) (f : Fin n → ℝ) : Prop := ∀ k, v (ix3 0 0 k) = ((f k : ℝ) : EReal)
abbrev Matrix {m n : ℕ} (v : (⟨2, ![m, n]⟩ : Shape).Idx → EReal) (f : Fin m → Fin n → ℝ) : Prop := ∀ k n, v (ix2 k n) = ((f k n : ℝ) : EReal)

section

variable {E : Env} {x t : Fin 256 → Fin 1024 → ℝ}

theorem word_x {X : Vec Ideal S1x256x1024 .f32} (hX : Block X x) : Grid (k0_pay6 X) x := by
  intro r k
  unfold_payloads
  pointwise
  simp only [hX r, word_eps, word_1024, word_inv1024, word_half, ← EReal.coe_mul, coe_sum, div_1024, ← EReal.coe_add, ← EReal.coe_sub, coe_rms_sum, coe_rms, logi_coe_mul]

theorem word_sh {w : Vec Ideal S1x1x1024 .f32} {f : Fin 1024 → ℝ} (hw : Line3 w f) : Line (k0_pay7 w) f := by
  intro k
  unfold_payloads
  pointwise
  simp only [hw, word_eps, word_1024, word_inv1024, word_half, ← EReal.coe_mul, coe_sum, div_1024, ← EReal.coe_add, ← EReal.coe_sub, coe_rms_sum, coe_rms, logi_coe_mul]

theorem word_sc {w : Vec Ideal S1x1x1024 .f32} {f : Fin 1024 → ℝ} (hw : Line3 w f) : Line (k0_pay8 w) f := by
  intro k
  unfold_payloads
  pointwise
  simp only [hw, word_eps, word_1024, word_inv1024, word_half, ← EReal.coe_mul, coe_sum, div_1024, ← EReal.coe_add, ← EReal.coe_sub, coe_rms_sum, coe_rms, logi_coe_mul]

theorem word_gt {w : Vec Ideal S1x1x1024 .f32} {f : Fin 1024 → ℝ} (hw : Line3 w f) : Line (k0_pay9 w) f := by
  intro k
  unfold_payloads
  pointwise
  simp only [hw, word_eps, word_1024, word_inv1024, word_half, ← EReal.coe_mul, coe_sum, div_1024, ← EReal.coe_add, ← EReal.coe_sub, coe_rms_sum, coe_rms, logi_coe_mul]

theorem word_gl {w : Vec Ideal S1x1024 .f32} {f : Fin 1024 → ℝ} (hw : Line w f) : Line (k0_pay10 w) f := by
  intro k
  unfold_payloads
  pointwise
  simp only [hw, word_eps, word_1024, word_inv1024, word_half, ← EReal.coe_mul, coe_sum, div_1024, ← EReal.coe_add, ← EReal.coe_sub, coe_rms_sum, coe_rms, logi_coe_mul]

theorem word_r2 {X : Vec Ideal S1x256x1024 .f32} (hX : Block X x) : Column (k0_pay11 X) (fun r => rms (x r)) := by
  intro r
  unfold_payloads
  pointwise
  simp only [hX r, word_eps, word_1024, word_inv1024, word_half, ← EReal.coe_mul, coe_sum, div_1024, ← EReal.coe_add, ← EReal.coe_sub, coe_rms_sum, coe_rms, logi_coe_mul]

theorem word_xn2 {X : Vec Ideal S1x256x1024 .f32} (hX : Block X x) : Grid (k0_pay12 X) (fun r => Env.xn2 (x r)) := by
  intro r k
  unfold_payloads
  pointwise
  simp only [hX r, word_eps, word_1024, word_inv1024, word_half, ← EReal.coe_mul, coe_sum, div_1024, ← EReal.coe_add, ← EReal.coe_sub, coe_rms_sum, coe_rms, logi_coe_mul]
  rfl

theorem word_hn2 {X : Vec Ideal S1x256x1024 .f32} {g : Vec Ideal S1x1024 .f32} (hX : Block X x) (hg : Line g E.gf) : Grid (k0_pay13 X g) (fun r => E.hn2 (x r)) := by
  intro r k
  unfold_payloads
  pointwise
  simp only [hX r, hg, word_eps, word_1024, word_inv1024, word_half, ← EReal.coe_mul, coe_sum, div_1024, ← EReal.coe_add, ← EReal.coe_sub, coe_rms_sum, coe_rms, logi_coe_mul]
  rfl

theorem word_h2 {v11 v13 : FVec Ideal S1x1024 .f32} {v30 : FVec Ideal S256x1024 .f32} (h11 : Line v11 E.sh) (h13 : Line v13 E.sc) (h30 : Grid v30 (fun r => E.hn2 (x r))) : Block (k0_pay15 v11 v13 v30 (Blocks.one : Ideal .f32)) (fun r => E.h2 (x r)) := by
  intro r k
  unfold_payloads
  pointwise
  simp only [h11, h13, h30 r, FloatOps.ofBits, Ideal.ofBits_one_f32, ← EReal.coe_one, word_eps, word_1024, word_inv1024, word_half, ← EReal.coe_mul, coe_sum, div_1024, ← EReal.coe_add, ← EReal.coe_sub, coe_rms_sum, coe_rms, logi_coe_mul]
  refine congrArg Real.toEReal ?_; unfold Env.h2; ring

theorem word_a {v11 v13 : FVec Ideal S1x1024 .f32} {v30 : FVec Ideal S256x1024 .f32} {wu : Vec Ideal S1024x5632 .bf16} (h11 : Line v11 E.sh) (h13 : Line v13 E.sc) (h30 : Grid v30 (fun r => E.hn2 (x r))) (hwu : Matrix wu E.wu) : Grid (k0_pay17 v11 v13 v30 (Blocks.one : Ideal .f32) wu) (fun r => E.a (x r)) := by
  intro r n
  unfold_payloads
  pointwise
  simp only [h11, h13, h30 r, hwu, FloatOps.ofBits, Ideal.ofBits_one_f32, ← EReal.coe_one, word_eps, word_1024, word_inv1024, word_half, ← EReal.coe_mul, coe_sum, div_1024, ← EReal.coe_add, ← EReal.coe_sub, coe_rms_sum, coe_rms, logi_coe_mul]
  rfl

theorem word_b {v11 v13 : FVec Ideal S1x1024 .f32} {v30 : FVec Ideal S256x1024 .f32} {wu : Vec Ideal S1024x5632 .bf16} (h11 : Line v11 E.sh) (h13 : Line v13 E.sc) (h30 : Grid v30 (fun r => E.hn2 (x r))) (hwu : Matrix wu E.wu) : Grid (k0_pay18 v11 v13 v30 (Blocks.one : Ideal .f32) wu) (fun r => E.b (x r)) := by
  intro r n
  unfold_payloads
  pointwise
  simp only [h11, h13, h30 r, hwu, FloatOps.ofBits, Ideal.ofBits_one_f32, ← EReal.coe_one, word_eps, word_1024, word_inv1024, word_half, ← EReal.coe_mul, coe_sum, div_1024, ← EReal.coe_add, ← EReal.coe_sub, coe_rms_sum, coe_rms, logi_coe_mul]
  rfl

theorem word_sg {v11 v13 : FVec Ideal S1x1024 .f32} {v30 : FVec Ideal S256x1024 .f32} {wu : Vec Ideal S1024x5632 .bf16} (h11 : Line v11 E.sh) (h13 : Line v13 E.sc) (h30 : Grid v30 (fun r => E.hn2 (x r))) (hwu : Matrix wu E.wu) : Grid (k0_pay19 v11 v13 v30 (Blocks.one : Ideal .f32) wu) (fun r => fun n => sg (E.a (x r) n)) := by
  intro r n
  unfold_payloads
  pointwise
  simp only [h11, h13, h30 r, hwu, FloatOps.ofBits, Ideal.ofBits_one_f32, ← EReal.coe_one, word_eps, word_1024, word_inv1024, word_half, ← EReal.coe_mul, coe_sum, div_1024, ← EReal.coe_add, ← EReal.coe_sub, coe_rms_sum, coe_rms, logi_coe_mul]
  rfl

theorem word_silu {v11 v13 : FVec Ideal S1x1024 .f32} {v30 : FVec Ideal S256x1024 .f32} {wu : Vec Ideal S1024x5632 .bf16} (h11 : Line v11 E.sh) (h13 : Line v13 E.sc) (h30 : Grid v30 (fun r => E.hn2 (x r))) (hwu : Matrix wu E.wu) : Grid (k0_pay20 v11 v13 v30 (Blocks.one : Ideal .f32) wu) (fun r => fun n => E.a (x r) n * sg (E.a (x r) n)) := by
  intro r n
  unfold_payloads
  pointwise
  simp only [h11, h13, h30 r, hwu, FloatOps.ofBits, Ideal.ofBits_one_f32, ← EReal.coe_one, word_eps, word_1024, word_inv1024, word_half, ← EReal.coe_mul, coe_sum, div_1024, ← EReal.coe_add, ← EReal.coe_sub, coe_rms_sum, coe_rms, logi_coe_mul]
  rfl

theorem word_hid {v11 v13 : FVec Ideal S1x1024 .f32} {v30 : FVec Ideal S256x1024 .f32} {wu : Vec Ideal S1024x5632 .bf16} (h11 : Line v11 E.sh) (h13 : Line v13 E.sc) (h30 : Grid v30 (fun r => E.hn2 (x r))) (hwu : Matrix wu E.wu) : Block (k0_pay22 v11 v13 v30 (Blocks.one : Ideal .f32) wu) (fun r => E.hid (x r)) := by
  intro r n
  unfold_payloads
  pointwise
  simp only [h11, h13, h30 r, hwu, FloatOps.ofBits, Ideal.ofBits_one_f32, ← EReal.coe_one, word_eps, word_1024, word_inv1024, word_half, ← EReal.coe_mul, coe_sum, div_1024, ← EReal.coe_add, ← EReal.coe_sub, coe_rms_sum, coe_rms, logi_coe_mul]
  rfl

theorem word_ffn {v11 v13 : FVec Ideal S1x1024 .f32} {v30 : FVec Ideal S256x1024 .f32} {wu : Vec Ideal S1024x5632 .bf16} {wd : Vec Ideal S2816x1024 .bf16} (h11 : Line v11 E.sh) (h13 : Line v13 E.sc) (h30 : Grid v30 (fun r => E.hn2 (x r))) (hwu : Matrix wu E.wu) (hwd : Matrix wd E.wd) : Grid (k0_pay23 v11 v13 v30 (Blocks.one : Ideal .f32) wu wd) (fun r => E.ffn (x r)) := by
  intro r n
  unfold_payloads
  pointwise
  simp only [h11, h13, h30 r, hwu, hwd, FloatOps.ofBits, Ideal.ofBits_one_f32, ← EReal.coe_one, word_eps, word_1024, word_inv1024, word_half, ← EReal.coe_mul, coe_sum, div_1024, ← EReal.coe_add, ← EReal.coe_sub, coe_rms_sum, coe_rms, logi_coe_mul]
  rfl

theorem word_x2 {v9 : FVec Ideal S256x1024 .f32} {v11 : FVec Ideal S1x1024 .f32} {v13 : FVec Ideal S1x1024 .f32} {v15 : FVec Ideal S1x1024 .f32} {v30 : FVec Ideal S256x1024 .f32} {wu : Vec Ideal S1024x5632 .bf16} {wd : Vec Ideal S2816x1024 .bf16} (h9 : Grid v9 x) (h11 : Line v11 E.sh) (h13 : Line v13 E.sc) (h15 : Line v15 E.gt) (h30 : Grid v30 (fun r => E.hn2 (x r))) (hwu : Matrix wu E.wu) (hwd : Matrix wd E.wd) : Grid (k0_pay24 v9 v11 v13 v15 v30 (Blocks.one : Ideal .f32) wu wd) (fun r => E.x2 (x r)) := by
  intro r k
  unfold_payloads
  pointwise
  simp only [h9, h11, h13, h15, h30, hwu, hwd, FloatOps.ofBits, Ideal.ofBits_one_f32, ← EReal.coe_one, word_eps, word_1024, word_inv1024, word_half, ← EReal.coe_mul, coe_sum, div_1024, ← EReal.coe_add, ← EReal.coe_sub, coe_rms_sum, coe_rms, logi_coe_mul]
  rfl

theorem word_ms {v9 : FVec Ideal S256x1024 .f32} {v11 : FVec Ideal S1x1024 .f32} {v13 : FVec Ideal S1x1024 .f32} {v15 : FVec Ideal S1x1024 .f32} {v30 : FVec Ideal S256x1024 .f32} {wu : Vec Ideal S1024x5632 .bf16} {wd : Vec Ideal S2816x1024 .bf16} (h9 : Grid v9 x) (h11 : Line v11 E.sh) (h13 : Line v13 E.sc) (h15 : Line v15 E.gt) (h30 : Grid v30 (fun r => E.hn2 (x r))) (hwu : Matrix wu E.wu) (hwd : Matrix wd E.wd) : Column (k0_pay25 v9 v11 v13 v15 v30 (Blocks.one : Ideal .f32) wu wd) (fun r => ms (E.x2 (x r))) := by
  intro r
  unfold_payloads
  pointwise
  simp only [h9, h11, h13, h15, h30, hwu, hwd, FloatOps.ofBits, Ideal.ofBits_one_f32, ← EReal.coe_one, word_eps, word_1024, word_inv1024, word_half, ← EReal.coe_mul, coe_sum, div_1024, ← EReal.coe_add, ← EReal.coe_sub, coe_rms_sum, coe_rms, logi_coe_mul]
  rfl

theorem word_r3 {v69 : FVec Ideal S256x1 .f32} (h69 : Column v69 (fun r => ms (E.x2 (x r)))) : Column (k0_pay27 v69 k0_pay26) (fun r => rms (E.x2 (x r))) := by
  intro r
  unfold_payloads
  pointwise
  simp only [h69, word_eps, word_1024, word_inv1024, word_half, ← EReal.coe_mul, coe_sum, div_1024, ← EReal.coe_add, ← EReal.coe_sub, coe_rms_sum, coe_rms, logi_coe_mul]

theorem word_xn3 {v64 : FVec Ideal S256x1024 .f32} {v69 : FVec Ideal S256x1 .f32} (h64 : Grid v64 (fun r => E.x2 (x r))) (h69 : Column v69 (fun r => ms (E.x2 (x r)))) : Grid (k0_pay28 v64 v69 k0_pay26) (fun r => E.xn3 (x r)) := by
  intro r k
  unfold_payloads
  pointwise
  simp only [h64, h69, word_eps, word_1024, word_inv1024, word_half, ← EReal.coe_mul, coe_sum, div_1024, ← EReal.coe_add, ← EReal.coe_sub, coe_rms_sum, coe_rms, logi_coe_mul]
  rfl

theorem word_loss {v18 : FVec Ideal S1x1024 .f32} {v64 : FVec Ideal S256x1024 .f32} {v69 : FVec Ideal S256x1 .f32} {TG : Vec Ideal S1x256x1024 .f32} (z : Vec Ideal S1x1 .f32) (h18 : Line v18 E.gl) (h64 : Grid v64 (fun r => E.x2 (x r))) (h69 : Column v69 (fun r => ms (E.x2 (x r)))) (hT : Block TG t) : k0_pay30 v18 v64 v69 k0_pay26 TG z (ix2 0 0) = z (ix2 0 0) + ((1 / 2 * ∑ r, E.loss (x r) (t r) : ℝ) : EReal) := by
  unfold_payloads
  pointwise
  simp only [h18, h64, h69, hT, word_eps, word_1024, word_inv1024, word_half, ← EReal.coe_mul, coe_sum, div_1024, ← EReal.coe_add, ← EReal.coe_sub, coe_rms_sum, coe_rms, logi_coe_mul]
  rfl

theorem word_dgl {v18 : FVec Ideal S1x1024 .f32} {v64 : FVec Ideal S256x1024 .f32} {v69 : FVec Ideal S256x1 .f32} {TG : Vec Ideal S1x256x1024 .f32} (z : Vec Ideal S1x1024 .f32) (k : Fin 1024) (h18 : Line v18 E.gl) (h64 : Grid v64 (fun r => E.x2 (x r))) (h69 : Column v69 (fun r => ms (E.x2 (x r)))) (hT : Block TG t) : k0_pay32 v18 v64 v69 k0_pay26 TG z (ix2 0 k) = z (ix2 0 k) + ((∑ r, E.dy (x r) (t r) k * E.xn3 (x r) k : ℝ) : EReal) := by
  unfold_payloads
  pointwise
  simp only [h18, h64, h69, hT, word_eps, word_1024, word_inv1024, word_half, ← EReal.coe_mul, coe_sum, div_1024, ← EReal.coe_add, ← EReal.coe_sub, coe_rms_sum, coe_rms, logi_coe_mul]
  rfl

theorem word_g3 {v18 : FVec Ideal S1x1024 .f32} {v64 : FVec Ideal S256x1024 .f32} {v69 : FVec Ideal S256x1 .f32} {TG : Vec Ideal S1x256x1024 .f32} (h18 : Line v18 E.gl) (h64 : Grid v64 (fun r => E.x2 (x r))) (h69 : Column v69 (fun r => ms (E.x2 (x r)))) (hT : Block TG t) : Grid (k0_pay33 v18 v64 v69 k0_pay26 TG) (fun r => E.g3 (x r) (t r)) := by
  intro r k
  unfold_payloads
  pointwise
  simp only [h18, h64, h69, hT, word_eps, word_1024, word_inv1024, word_half, ← EReal.coe_mul, coe_sum, div_1024, ← EReal.coe_add, ← EReal.coe_sub, coe_rms_sum, coe_rms, logi_coe_mul]
  rfl

theorem word_c3 {v18 : FVec Ideal S1x1024 .f32} {v64 : FVec Ideal S256x1024 .f32} {v69 : FVec Ideal S256x1 .f32} {TG : Vec Ideal S1x256x1024 .f32} (h18 : Line v18 E.gl) (h64 : Grid v64 (fun r => E.x2 (x r))) (h69 : Column v69 (fun r => ms (E.x2 (x r)))) (hT : Block TG t) : Grid (k0_pay34 v18 v64 v69 k0_pay26 TG) (fun r _ => (∑ k, E.g3 (x r) (t r) k * E.xn3 (x r) k) / 1024) := by
  intro r k
  unfold_payloads
  pointwise
  simp only [h18, h64, h69, hT, word_eps, word_1024, word_inv1024, word_half, ← EReal.coe_mul, coe_sum, div_1024, ← EReal.coe_add, ← EReal.coe_sub, coe_rms_sum, coe_rms, logi_coe_mul]
  rfl

theorem word_dx2 {v72 : FVec Ideal S256x1 .f32} {v74 : FVec Ideal S256x1024 .f32} {v103 : FVec Ideal S256x1024 .f32} {v109 : FVec Ideal S256x1024 .f32} (h72 : Column v72 (fun r => rms (E.x2 (x r)))) (h74 : Grid v74 (fun r => E.xn3 (x r))) (h103 : Grid v103 (fun r => E.g3 (x r) (t r))) (h109 : Grid v109 (fun r _ => (∑ k, E.g3 (x r) (t r) k * E.xn3 (x r) k) / 1024)) : Grid (k0_pay35 v72 v74 v103 v109) (fun r => E.dx2 (x r) (t r)) := by
  intro r k
  unfold_payloads
  pointwise
  simp only [h72, h74, h103, h109, word_eps, word_1024, word_inv1024, word_half, ← EReal.coe_mul, coe_sum, div_1024, ← EReal.coe_add, ← EReal.coe_sub, coe_rms_sum, coe_rms, logi_coe_mul]
  rfl

theorem word_dgate {v61 : FVec Ideal S256x1024 .f32} {v72 : FVec Ideal S256x1 .f32} {v74 : FVec Ideal S256x1024 .f32} {v103 : FVec Ideal S256x1024 .f32} {v109 : FVec Ideal S256x1024 .f32} (z : Vec Ideal S1x1x1024 .f32) (k : Fin 1024) (h61 : Grid v61 (fun r => E.ffn (x r))) (h72 : Column v72 (fun r => rms (E.x2 (x r)))) (h74 : Grid v74 (fun r => E.xn3 (x r))) (h103 : Grid v103 (fun r => E.g3 (x r) (t r))) (h109 : Grid v109 (fun r _ => (∑ k, E.g3 (x r) (t r) k * E.xn3 (x r) k) / 1024)) : k0_pay36 v61 v72 v74 v103 v109 z (ix3 0 0 k) = z (ix3 0 0 k) + ((∑ r, E.dx2 (x r) (t r) k * E.ffn (x r) k : ℝ) : EReal) := by
  unfold_payloads
  pointwise
  simp only [h61, h72, h74, h103, h109, word_eps, word_1024, word_inv1024, word_half, ← EReal.coe_mul, coe_sum, div_1024, ← EReal.coe_add, ← EReal.coe_sub, coe_rms_sum, coe_rms, logi_coe_mul]
  rfl

theorem word_dffn {v15 : FVec Ideal S1x1024 .f32} {v72 : FVec Ideal S256x1 .f32} {v74 : FVec Ideal S256x1024 .f32} {v103 : FVec Ideal S256x1024 .f32} {v109 : FVec Ideal S256x1024 .f32} (h15 : Line v15 E.gt) (h72 : Column v72 (fun r => rms (E.x2 (x r)))) (h74 : Grid v74 (fun r => E.xn3 (x r))) (h103 : Grid v103 (fun r => E.g3 (x r) (t r))) (h109 : Grid v109 (fun r _ => (∑ k, E.g3 (x r) (t r) k * E.xn3 (x r) k) / 1024)) : Block (k0_pay38 v15 v72 v74 v103 v109) (fun r => E.dffn (x r) (t r)) := by
  intro r k
  unfold_payloads
  pointwise
  simp only [h15, h72, h74, h103, h109, word_eps, word_1024, word_inv1024, word_half, ← EReal.coe_mul, coe_sum, div_1024, ← EReal.coe_add, ← EReal.coe_sub, coe_rms_sum, coe_rms, logi_coe_mul]
  rfl

theorem word_dab {v15 : FVec Ideal S1x1024 .f32} {v44 : FVec Ideal S256x2816 .f32} {v45 : FVec Ideal S256x2816 .f32} {v52 : FVec Ideal S256x2816 .f32} {v53 : FVec Ideal S256x2816 .f32} {v72 : FVec Ideal S256x1 .f32} {v74 : FVec Ideal S256x1024 .f32} {v103 : FVec Ideal S256x1024 .f32} {v109 : FVec Ideal S256x1024 .f32} {wd : Vec Ideal S2816x1024 .bf16} (h15 : Line v15 E.gt) (h44 : Grid v44 (fun r => E.a (x r))) (h45 : Grid v45 (fun r => E.b (x r))) (h52 : Grid v52 (fun r n => sg (E.a (x r) n))) (h53 : Grid v53 (fun r n => E.a (x r) n * sg (E.a (x r) n))) (h72 : Column v72 (fun r => rms (E.x2 (x r)))) (h74 : Grid v74 (fun r => E.xn3 (x r))) (h103 : Grid v103 (fun r => E.g3 (x r) (t r))) (h109 : Grid v109 (fun r _ => (∑ k, E.g3 (x r) (t r) k * E.xn3 (x r) k) / 1024)) (hwd : Matrix wd E.wd) : Grid (k0_pay39 v15 v44 v45 v52 v53 v72 v74 v103 v109 wd) (fun r => E.dab (x r) (t r)) := by
  intro r n
  unfold_payloads
  pointwise
  simp only [h15, h44, h45, h52, h53, h72, h74, h103, h109, hwd, FloatOps.ofBits, Ideal.ofBits_one_f32, ← EReal.coe_one, word_eps, word_1024, word_inv1024, word_half, ← EReal.coe_mul, coe_sum, div_1024, ← EReal.coe_add, ← EReal.coe_sub, coe_rms_sum, coe_rms, logi_coe_mul]
  unfold Env.dab; split_ifs <;> rfl

theorem word_dab3 {v15 : FVec Ideal S1x1024 .f32} {v44 : FVec Ideal S256x2816 .f32} {v45 : FVec Ideal S256x2816 .f32} {v52 : FVec Ideal S256x2816 .f32} {v53 : FVec Ideal S256x2816 .f32} {v72 : FVec Ideal S256x1 .f32} {v74 : FVec Ideal S256x1024 .f32} {v103 : FVec Ideal S256x1024 .f32} {v109 : FVec Ideal S256x1024 .f32} {wd : Vec Ideal S2816x1024 .bf16} (h15 : Line v15 E.gt) (h44 : Grid v44 (fun r => E.a (x r))) (h45 : Grid v45 (fun r => E.b (x r))) (h52 : Grid v52 (fun r n => sg (E.a (x r) n))) (h53 : Grid v53 (fun r n => E.a (x r) n * sg (E.a (x r) n))) (h72 : Column v72 (fun r => rms (E.x2 (x r)))) (h74 : Grid v74 (fun r => E.xn3 (x r))) (h103 : Grid v103 (fun r => E.g3 (x r) (t r))) (h109 : Grid v109 (fun r _ => (∑ k, E.g3 (x r) (t r) k * E.xn3 (x r) k) / 1024)) (hwd : Matrix wd E.wd) : Block (k0_pay40 v15 v44 v45 v52 v53 v72 v74 v103 v109 wd) (fun r => E.dab (x r) (t r)) := by
  intro r n
  unfold_payloads
  pointwise
  simp only [h15, h44, h45, h52, h53, h72, h74, h103, h109, hwd, FloatOps.ofBits, Ideal.ofBits_one_f32, ← EReal.coe_one, word_eps, word_1024, word_inv1024, word_half, ← EReal.coe_mul, coe_sum, div_1024, ← EReal.coe_add, ← EReal.coe_sub, coe_rms_sum, coe_rms, logi_coe_mul]
  unfold Env.dab; split_ifs <;> rfl

theorem word_dshift {v142 : FVec Ideal S256x5632 .bf16} {wu : Vec Ideal S1024x5632 .bf16} (z : Vec Ideal S1x1x1024 .f32) (k : Fin 1024) (h142 : Grid v142 (fun r => E.dab (x r) (t r))) (hwu : Matrix wu E.wu) : k0_pay42 v142 wu z (ix3 0 0 k) = z (ix3 0 0 k) + ((∑ r, E.dh2 (x r) (t r) k : ℝ) : EReal) := by
  unfold_payloads
  pointwise
  simp only [h142, hwu, word_eps, word_1024, word_inv1024, word_half, ← EReal.coe_mul, coe_sum, div_1024, ← EReal.coe_add, ← EReal.coe_sub, coe_rms_sum, coe_rms, logi_coe_mul]
  rfl

theorem word_dscale {v30 : FVec Ideal S256x1024 .f32} {v142 : FVec Ideal S256x5632 .bf16} {wu : Vec Ideal S1024x5632 .bf16} (z : Vec Ideal S1x1x1024 .f32) (k : Fin 1024) (h30 : Grid v30 (fun r => E.hn2 (x r))) (h142 : Grid v142 (fun r => E.dab (x r) (t r))) (hwu : Matrix wu E.wu) : k0_pay43 v30 v142 wu z (ix3 0 0 k) = z (ix3 0 0 k) + ((∑ r, E.dh2 (x r) (t r) k * E.hn2 (x r) k : ℝ) : EReal) := by
  unfold_payloads
  pointwise
  simp only [h30, h142, hwu, word_eps, word_1024, word_inv1024, word_half, ← EReal.coe_mul, coe_sum, div_1024, ← EReal.coe_add, ← EReal.coe_sub, coe_rms_sum, coe_rms, logi_coe_mul]
  rfl

theorem word_dgf {v13 : FVec Ideal S1x1024 .f32} {v28 : FVec Ideal S256x1024 .f32} {v142 : FVec Ideal S256x5632 .bf16} {wu : Vec Ideal S1024x5632 .bf16} (z : Vec Ideal S1x1024 .f32) (k : Fin 1024) (h13 : Line v13 E.sc) (h28 : Grid v28 (fun r => Env.xn2 (x r))) (h142 : Grid v142 (fun r => E.dab (x r) (t r))) (hwu : Matrix wu E.wu) : k0_pay45 v13 v28 v142 wu z (ix2 0 k) = z (ix2 0 k) + ((∑ r, E.dhn2 (x r) (t r) k * Env.xn2 (x r) k : ℝ) : EReal) := by
  unfold_payloads
  pointwise
  simp only [h13, h28, h142, hwu, FloatOps.ofBits, Ideal.ofBits_one_f32, ← EReal.coe_one, word_eps, word_1024, word_inv1024, word_half, ← EReal.coe_mul, coe_sum, div_1024, ← EReal.coe_add, ← EReal.coe_sub, coe_rms_sum, coe_rms, logi_coe_mul]
  rfl

theorem word_g2 {v13 : FVec Ideal S1x1024 .f32} {g : Vec Ideal S1x1024 .f32} {v142 : FVec Ideal S256x5632 .bf16} {wu : Vec Ideal S1024x5632 .bf16} (h13 : Line v13 E.sc) (hg : Line g E.gf) (h142 : Grid v142 (fun r => E.dab (x r) (t r))) (hwu : Matrix wu E.wu) : Grid (k0_pay46 v13 g v142 wu) (fun r => E.g2 (x r) (t r)) := by
  intro r k
  unfold_payloads
  pointwise
  simp only [h13, hg, h142, hwu, FloatOps.ofBits, Ideal.ofBits_one_f32, ← EReal.coe_one, word_eps, word_1024, word_inv1024, word_half, ← EReal.coe_mul, coe_sum, div_1024, ← EReal.coe_add, ← EReal.coe_sub, coe_rms_sum, coe_rms, logi_coe_mul]
  rfl

theorem word_c2 {v13 : FVec Ideal S1x1024 .f32} {g : Vec Ideal S1x1024 .f32} {v28 : FVec Ideal S256x1024 .f32} {v142 : FVec Ideal S256x5632 .bf16} {wu : Vec Ideal S1024x5632 .bf16} (h13 : Line v13 E.sc) (hg : Line g E.gf) (h28 : Grid v28 (fun r => Env.xn2 (x r))) (h142 : Grid v142 (fun r => E.dab (x r) (t r))) (hwu : Matrix wu E.wu) : Column (k0_pay47 v13 g v28 v142 wu) (fun r => ∑ k, E.g2 (x r) (t r) k * Env.xn2 (x r) k) := by
  intro r
  unfold_payloads
  pointwise
  simp only [h13, hg, h28, h142, hwu, FloatOps.ofBits, Ideal.ofBits_one_f32, ← EReal.coe_one, word_eps, word_1024, word_inv1024, word_half, ← EReal.coe_mul, coe_sum, div_1024, ← EReal.coe_add, ← EReal.coe_sub, coe_rms_sum, coe_rms, logi_coe_mul]
  rfl

theorem word_dx1 {v26 : FVec Ideal S256x1 .f32} {v28 : FVec Ideal S256x1024 .f32} {v113 : FVec Ideal S256x1024 .f32} {v178 : FVec Ideal S256x1024 .f32} {v181 : FVec Ideal S256x1 .f32} (h26 : Column v26 (fun r => rms (x r))) (h28 : Grid v28 (fun r => Env.xn2 (x r))) (h113 : Grid v113 (fun r => E.dx2 (x r) (t r))) (h178 : Grid v178 (fun r => E.g2 (x r) (t r))) (h181 : Column v181 (fun r => ∑ k, E.g2 (x r) (t r) k * Env.xn2 (x r) k)) : Block (k0_pay1 v26 v28 v113 v178 v181) (fun r => E.dx1 (x r) (t r)) := by
  intro r k
  unfold_payloads
  pointwise
  simp only [h26, h28, h113, h178, h181, word_eps, word_1024, word_inv1024, word_half, ← EReal.coe_mul, coe_sum, div_1024, ← EReal.coe_add, ← EReal.coe_sub, coe_rms_sum, coe_rms, logi_coe_mul]
  rfl

end

end Cert.FfnIdeal.Final

end
-- ==== Proof.FfnBlock.lean ====
/- What one point of the feed-forward kernel leaves in its results' blocks, over the reals. -/
module

public import proofs.«01_k».proof.Proof.FfnKernel

@[expose] public section

set_option maxRecDepth 8000

noncomputable section

namespace Cert.FfnIdeal.Final

open Idealize.ShloMosaic Idealize.SL.Sem Cert.FfnIdeal Cert.FfnIdeal.Gen Idealize.ShloMosaic.TcCoe Cert.Stores Cert.Reals Cert.Norms Cert.Ffn

/-- The input blocks hold the rows `x` with the targets `t`, in the environment `E`. -/
structure Holds (p : Blocks Ideal) (E : Env) (x t : Fin 256 → Fin 1024 → ℝ) : Prop where
  x : Block p.x x
  tg : Block p.tg t
  sh : ∀ k, p.md (ix3 0 1 k) = ((E.sh k : ℝ) : EReal)
  sc : ∀ k, p.md (ix3 0 2 k) = ((E.sc k : ℝ) : EReal)
  gt : ∀ k, p.md (ix3 0 3 k) = ((E.gt k : ℝ) : EReal)
  gf : Line p.gf E.gf
  gl : Line p.gl E.gl
  wu : Matrix p.wu E.wu
  wd : Matrix p.wd E.wd

namespace Holds

variable {p : Blocks Ideal} {E : Env} {x t : Fin 256 → Fin 1024 → ℝ} (h : Holds p E x t)

include h

theorem hsh : Line p.sh E.sh := word_sh fun k => (row_apply 1 p.md k).trans (h.sh k)
theorem hsc : Line p.sc E.sc := word_sc fun k => (row_apply 2 p.md k).trans (h.sc k)
theorem hgt : Line p.gt E.gt := word_gt fun k => (row_apply 3 p.md k).trans (h.gt k)
theorem hn : Grid p.hn (fun r => E.hn2 (x r)) := word_hn2 h.x h.gf
theorem x2 : Grid p.x2 (fun r => E.x2 (x r)) := word_x2 (word_x h.x) h.hsh h.hsc h.hgt h.hn h.wu h.wd
theorem ms : Column p.ms (fun r => ms (E.x2 (x r))) := word_ms (word_x h.x) h.hsh h.hsc h.hgt h.hn h.wu h.wd
theorem r3 : Column p.r3 (fun r => rms (E.x2 (x r))) := word_r3 h.ms
theorem xn3 : Grid p.xn3 (fun r => E.xn3 (x r)) := word_xn3 h.x2 h.ms
theorem g3 : Grid p.g3 (fun r => E.g3 (x r) (t r)) := word_g3 (word_gl h.gl) h.x2 h.ms h.tg
theorem c3 : Grid p.c3 (fun r _ => (∑ k, E.g3 (x r) (t r) k * E.xn3 (x r) k) / 1024) := word_c3 (word_gl h.gl) h.x2 h.ms h.tg
theorem dab : Grid p.dab (fun r => E.dab (x r) (t r)) :=
  word_dab h.hgt (word_a h.hsh h.hsc h.hn h.wu) (word_b h.hsh h.hsc h.hn h.wu) (word_sg h.hsh h.hsc h.hn h.wu) (word_silu h.hsh h.hsc h.hn h.wu)
    h.r3 h.xn3 h.g3 h.c3 h.wd

theorem out7 : Block p.out7 (fun r => E.dx1 (x r) (t r)) :=
  word_dx1 (word_r2 h.x) (word_xn2 h.x) (word_dx2 h.r3 h.xn3 h.g3 h.c3) (word_g2 h.hsc h.gf h.dab h.wu)
    (word_c2 h.hsc h.gf (word_xn2 h.x) h.dab h.wu)

theorem out8 : Block p.out8 (fun r => E.h2 (x r)) := word_h2 h.hsh h.hsc h.hn

theorem out9 : Block p.out9 (fun r => E.dab (x r) (t r)) :=
  word_dab3 h.hgt (word_a h.hsh h.hsc h.hn h.wu) (word_b h.hsh h.hsc h.hn h.wu) (word_sg h.hsh h.hsc h.hn h.wu) (word_silu h.hsh h.hsc h.hn h.wu)
    h.r3 h.xn3 h.g3 h.c3 h.wd

theorem out10 : Block p.out10 (fun r => E.hid (x r)) := word_hid h.hsh h.hsc h.hn h.wu

theorem out11 : Block p.out11 (fun r => E.dffn (x r) (t r)) := word_dffn h.hgt h.r3 h.xn3 h.g3 h.c3

theorem out12 (z : Vec Ideal S1x1 .f32) : p.out12 z (ix2 0 0) = z (ix2 0 0) + ((1 / 2 * ∑ r, E.loss (x r) (t r) : ℝ) : EReal) :=
  word_loss z (word_gl h.gl) h.x2 h.ms h.tg

theorem out13 (z : Vec Ideal S1x1024 .f32) (k : Fin 1024) :
    p.out13 z (ix2 0 k) = z (ix2 0 k) + ((∑ r, E.dy (x r) (t r) k * E.xn3 (x r) k : ℝ) : EReal) :=
  word_dgl z k (word_gl h.gl) h.x2 h.ms h.tg

theorem out14 (z : Vec Ideal S1x1024 .f32) (k : Fin 1024) :
    p.out14 z (ix2 0 k) = z (ix2 0 k) + ((∑ r, E.dhn2 (x r) (t r) k * Env.xn2 (x r) k : ℝ) : EReal) :=
  word_dgf z k h.hsc (word_xn2 h.x) h.dab h.wu

theorem out15 (z : Vec Ideal S1x8x1024 .f32) (j : Fin 8) (k : Fin 1024) :
    p.out15 z (ix3 0 j k) = z (ix3 0 j k) + ((∑ r, E.dmod (x r) (t r) j.val k : ℝ) : EReal) := by
  have e1 := word_dshift (row 1 z) k h.dab h.wu
  have e2 := word_dscale (row 2 z) k h.hn h.dab h.wu
  have e3 := word_dgate (row 3 z) k (word_ffn h.hsh h.hsc h.hn h.wu h.wd) h.r3 h.xn3 h.g3 h.c3
  rw [row_apply] at e1 e2 e3
  unfold Blocks.out15 Env.dmod
  rw [setRow_apply, setRow_apply, setRow_apply]
  fin_cases j <;> first | (simp [e1, e2]; done) | simpa using e3

end Holds

end Cert.FfnIdeal.Final

end
-- ==== Proof.FfnSum.lean ====
/- The results of the feed-forward kernel, whole arrays, over the reals: its rows' cotangents, and the sums over all rows. -/
module

public import proofs.«01_k».proof.Proof.FfnArr
public import proofs.«01_k».proof.Proof.FfnBlock
public import proofs.«01_k».proof.Proof.Sums

@[expose] public section

set_option maxRecDepth 8000

noncomputable section

namespace Cert.FfnIdeal.Final

open Idealize.ShloMosaic Idealize.SL.Sem Cert.FfnIdeal Cert.FfnIdeal.Gen Idealize.ShloMosaic.TcCoe Cert.Stores Cert.Reals Cert.Norms Cert.Ffn

variable (m : (ℓ : Loc nD τ sig) → Buf (Elt Ideal) ℓ) (c : Dev nD) (A : Arrays)

/-- The kernel's arguments are the reals `A`. -/
structure Args : Prop where
  x : ∀ b s k, m ((c : Thread nD τ).loc main_arg0) (ix3 b s k) = ((A.x b s k : ℝ) : EReal)
  md : ∀ b i k, m ((c : Thread nD τ).loc main_arg1) (ix3 b i k) = ((A.md b i k : ℝ) : EReal)
  gf : ∀ k, m ((c : Thread nD τ).loc main_arg2) (ix2 0 k) = ((A.gf k : ℝ) : EReal)
  gl : ∀ k, m ((c : Thread nD τ).loc main_arg3) (ix1 k) = ((A.gl k : ℝ) : EReal)
  wu : ∀ k n, m ((c : Thread nD τ).loc main_arg4) (ix3 0 k n) = ((A.wu k n : ℝ) : EReal)
  wd : ∀ n k, m ((c : Thread nD τ).loc main_arg5) (ix3 0 n k) = ((A.wd n k : ℝ) : EReal)
  tg : ∀ b s k, m ((c : Thread nD τ).loc main_arg6) (ix3 b s k) = ((A.tg b s k : ℝ) : EReal)

variable {m c A} (H : Args m c A)

include H

theorem holds (t : Fin cfg0.N) :
    Holds (blocks m c t) (A.env (bat t)) (fun r => A.x (bat t) (pos t r)) (fun r => A.tg (bat t) (pos t r)) where
  x r k := by rw [blk_x, ent_x, H.x]
  tg r k := by rw [blk_tg, ent_tg, H.tg]
  sh k := by rw [blk_md, ent_md]; exact H.md (bat t) 3 k
  sc k := by rw [blk_md, ent_md]; exact H.md (bat t) 4 k
  gt k := by rw [blk_md, ent_md]; exact H.md (bat t) 5 k
  gf k := by rw [blk_gf, ent_gf, H.gf]; rfl
  gl k := by rw [blk_gl, ent_gl, H.gl]; rfl
  wu k n := by rw [blk_wu, ent_wu, H.wu]; rfl
  wd n k := by rw [blk_wd, ent_wd, H.wd]; rfl

omit H in
/-- Every row lies in a block. -/
theorem exists_point (b : Fin 4) (s : Fin 2048) : ∃ (t : Fin cfg0.N) (r : Fin 256), bat t = b ∧ pos t r = s :=
  ⟨⟨b.val * 8 + s.val / 256, by rw [show cfg0.N = 32 from N_0]; omega⟩, ⟨s.val % 256, by omega⟩, Fin.ext (by show (b.val * 8 + s.val / 256) / 8 = b.val; omega),
    Fin.ext (by show (b.val * 8 + s.val / 256) % 8 * 256 + s.val % 256 = s.val; omega)⟩

theorem final7 (b : Fin 4) (s : Fin 2048) (k : Fin 1024) :
    (dats m 0 c).arrAt 7 cfg0.N (ix3 b s k) = (((A.env b).dx1 (A.x b s) (A.tg b s) k : ℝ) : EReal) := by
  obtain ⟨t, r, rfl, rfl⟩ := exists_point b s
  exact (arr7 m c t r k).trans ((holds H t).out7 r k)

theorem final8 (b : Fin 4) (s : Fin 2048) (k : Fin 1024) :
    (dats m 0 c).arrAt 8 cfg0.N (ix3 b s k) = (((A.env b).h2 (A.x b s) k : ℝ) : EReal) := by
  obtain ⟨t, r, rfl, rfl⟩ := exists_point b s
  exact (arr8 m c t r k).trans ((holds H t).out8 r k)

theorem final9 (b : Fin 4) (s : Fin 2048) (k : Fin 5632) :
    (dats m 0 c).arrAt 9 cfg0.N (ix3 b s k) = (((A.env b).dab (A.x b s) (A.tg b s) k : ℝ) : EReal) := by
  obtain ⟨t, r, rfl, rfl⟩ := exists_point b s
  exact (arr9 m c t r k).trans ((holds H t).out9 r k)

theorem final10 (b : Fin 4) (s : Fin 2048) (k : Fin 2816) :
    (dats m 0 c).arrAt 10 cfg0.N (ix3 b s k) = (((A.env b).hid (A.x b s) k : ℝ) : EReal) := by
  obtain ⟨t, r, rfl, rfl⟩ := exists_point b s
  exact (arr10 m c t r k).trans ((holds H t).out10 r k)

theorem final11 (b : Fin 4) (s : Fin 2048) (k : Fin 1024) :
    (dats m 0 c).arrAt 11 cfg0.N (ix3 b s k) = (((A.env b).dffn (A.x b s) (A.tg b s) k : ℝ) : EReal) := by
  obtain ⟨t, r, rfl, rfl⟩ := exists_point b s
  exact (arr11 m c t r k).trans ((holds H t).out11 r k)

omit H in
/-- A sum over the points of the grid and their blocks' rows is one over all rows. -/
theorem sum_points (g : Fin 4 → Fin 2048 → ℝ) :
    ∑ j : Fin 32, ∑ r : Fin 256, g ⟨j.val / 8, by omega⟩ ⟨j.val % 8 * 256 + r.val, by omega⟩ = ∑ b, ∑ s, g b s := by
  rw [sum_blocks 4 8 (fun j => ∑ r : Fin 256, g ⟨j.val / 8, by omega⟩ ⟨j.val % 8 * 256 + r.val, by omega⟩)]
  refine Finset.sum_congr rfl fun b _ => ?_
  rw [sum_blocks 8 256 (g b)]
  refine Finset.sum_congr rfl fun j _ => Finset.sum_congr rfl fun r _ => ?_
  exact congrArg₂ g (Fin.ext (by show (b.val * 8 + j.val) / 8 = b.val; omega))
    (Fin.ext (by show (b.val * 8 + j.val) % 8 * 256 + r.val = j.val * 256 + r.val; omega))

omit H in
theorem lt_N {n : ℕ} (h : n < 32) : n < cfg0.N := h.trans_eq N_0.symm

theorem final12 : (dats m 0 c).arrAt 12 cfg0.N (ix2 0 0) = ((1 / 2 * ∑ b, ∑ s, (A.env b).loss (A.x b s) (A.tg b s) : ℝ) : EReal) := by
  have e := Sums.sum_of_step (N := cfg0.N) (p := 32) (fun n hn => (outsAt0 m c n hn).2.2.2.2.2.1 (ix2 0 0))
    (fun n hn => 1 / 2 * ∑ r, (A.env (bat ⟨n, hn⟩)).loss (A.x (bat ⟨n, hn⟩) (pos ⟨n, hn⟩ r)) (A.tg (bat ⟨n, hn⟩) (pos ⟨n, hn⟩ r))) (fun n hn => by
      rw [outs_step m c ⟨n, hn⟩]
      refine ((holds H ⟨n, hn⟩).out12 _).trans (congrArg (· + _) ?_)
      split_ifs
      · unfold_payloads; pointwise
      · rfl) 0 31 (by omega) (lt_N (by omega))
  refine (arr12 m c ⟨0 * 32 + 31, lt_N (by omega)⟩ rfl).trans (e.trans (congrArg Real.toEReal ?_))
  rw [← Finset.mul_sum, ← sum_points]
  refine congrArg _ (Finset.sum_congr rfl fun j _ => ?_)
  simp only [Nat.zero_mul, Nat.zero_add]; rfl

theorem final13 (k : Fin 1024) : (dats m 0 c).arrAt 13 cfg0.N (ix2 0 k)
    = ((∑ b, ∑ s, (A.env b).dy (A.x b s) (A.tg b s) k * (A.env b).xn3 (A.x b s) k : ℝ) : EReal) := by
  have e := Sums.sum_of_step (N := cfg0.N) (p := 32) (fun n hn => (outsAt0 m c n hn).2.2.2.2.2.2.1 (ix2 0 k))
    (fun n hn => ∑ r, (A.env (bat ⟨n, hn⟩)).dy (A.x (bat ⟨n, hn⟩) (pos ⟨n, hn⟩ r)) (A.tg (bat ⟨n, hn⟩) (pos ⟨n, hn⟩ r)) k
      * (A.env (bat ⟨n, hn⟩)).xn3 (A.x (bat ⟨n, hn⟩) (pos ⟨n, hn⟩ r)) k) (fun n hn => by
      rw [outs_step m c ⟨n, hn⟩]
      refine ((holds H ⟨n, hn⟩).out13 _ k).trans (congrArg (· + _) ?_)
      split_ifs
      · unfold_payloads; pointwise
      · rfl) 0 31 (by omega) (lt_N (by omega))
  refine (arr13 m c ⟨0 * 32 + 31, lt_N (by omega)⟩ rfl k).trans (e.trans (congrArg Real.toEReal ?_))
  rw [← sum_points]
  refine Finset.sum_congr rfl fun j _ => ?_
  simp only [Nat.zero_mul, Nat.zero_add]; rfl

theorem final14 (k : Fin 1024) : (dats m 0 c).arrAt 14 cfg0.N (ix2 0 k)
    = ((∑ b, ∑ s, (A.env b).dhn2 (A.x b s) (A.tg b s) k * Env.xn2 (A.x b s) k : ℝ) : EReal) := by
  have e := Sums.sum_of_step (N := cfg0.N) (p := 32) (fun n hn => (outsAt0 m c n hn).2.2.2.2.2.2.2.1 (ix2 0 k))
    (fun n hn => ∑ r, (A.env (bat ⟨n, hn⟩)).dhn2 (A.x (bat ⟨n, hn⟩) (pos ⟨n, hn⟩ r)) (A.tg (bat ⟨n, hn⟩) (pos ⟨n, hn⟩ r)) k
      * Env.xn2 (A.x (bat ⟨n, hn⟩) (pos ⟨n, hn⟩ r)) k) (fun n hn => by
      rw [outs_step m c ⟨n, hn⟩]
      refine ((holds H ⟨n, hn⟩).out14 _ k).trans (congrArg (· + _) ?_)
      split_ifs
      · unfold_payloads; pointwise
      · rfl) 0 31 (by omega) (lt_N (by omega))
  refine (arr14 m c ⟨0 * 32 + 31, lt_N (by omega)⟩ rfl k).trans (e.trans (congrArg Real.toEReal ?_))
  rw [← sum_points]
  refine Finset.sum_congr rfl fun j _ => ?_
  simp only [Nat.zero_mul, Nat.zero_add]; rfl

theorem final15 (b : Fin 4) (j : Fin 8) (k : Fin 1024) : (dats m 0 c).arrAt 15 cfg0.N (ix3 b j k)
    = ((∑ s, (A.env b).dmod (A.x b s) (A.tg b s) j.val k : ℝ) : EReal) := by
  have e := Sums.sum_of_step (N := cfg0.N) (p := 8) (fun n hn => (outsAt0 m c n hn).2.2.2.2.2.2.2.2 (ix3 0 j k))
    (fun n hn => ∑ r, (A.env (bat ⟨n, hn⟩)).dmod (A.x (bat ⟨n, hn⟩) (pos ⟨n, hn⟩ r)) (A.tg (bat ⟨n, hn⟩) (pos ⟨n, hn⟩ r)) j.val k) (fun n hn => by
      rw [outs_step m c ⟨n, hn⟩]
      refine ((holds H ⟨n, hn⟩).out15 _ j k).trans (congrArg (· + _) ?_)
      split_ifs
      · unfold_payloads; pointwise
      · rfl) b.val 7 (by omega) (lt_N (by omega))
  have hb : bat ⟨b.val * 8 + 7, lt_N (by omega)⟩ = b := Fin.ext (by show (b.val * 8 + 7) / 8 = b.val; omega)
  have o := arr15 m c ⟨b.val * 8 + 7, lt_N (by omega)⟩ (by show (b.val * 8 + 7) % 8 = 7; omega) j k
  rw [hb] at o
  refine o.trans (e.trans (congrArg Real.toEReal ?_))
  rw [sum_blocks 8 256 (fun s => (A.env b).dmod (A.x b s) (A.tg b s) j.val k)]
  refine Finset.sum_congr rfl fun i _ => Finset.sum_congr rfl fun r _ => ?_
  have hi : bat ⟨b.val * 8 + i.val, lt_N (by omega)⟩ = b := Fin.ext (by show (b.val * 8 + i.val) / 8 = b.val; omega)
  have hp : pos ⟨b.val * 8 + i.val, lt_N (by omega)⟩ r = ⟨i.val * 256 + r.val, by omega⟩ :=
    Fin.ext (by show (b.val * 8 + i.val) % 8 * 256 + r.val = i.val * 256 + r.val; omega)
  rw [hi, hp]

end Cert.FfnIdeal.Final

end
-- ==== Proof.FfnClaims.lean ====
/- The claims about the feed-forward half: it runs to its end and keeps its arguments, so does the reference, and the two leave
   equal arrays wherever the arguments are finite. -/
module

public import proofs.«01_k».proof.Defs
public import proofs.«01_k».proof.Proof.FfnRef
public import proofs.«01_k».proof.Proof.FfnSum
public import proofs.«01_k».proof.Proof.Gen.Ffn.Frame
public import proofs.«01_k».proof.Proof.Gen.FfnRefIdeal.Run
public import proofs.«01_k».proof.Proof.Gen.Pre_ffn_finite
public import Idealize.ShloMosaic.Lib.Quiescent

@[expose] public section

noncomputable section

namespace Cert.FfnIdeal.Final

open Idealize.ShloMosaic Idealize.SL.Sem Cert.FfnIdeal Cert.FfnIdeal.Gen Idealize.ShloMosaic.TcCoe Cert.Reals Cert.Ffn

/-- The reference runs to its end, keeps its arguments and leaves every semaphore at zero. -/
theorem frame_ref : Cert.quiescent_FfnRefIdeal := fun m ρ _ =>
  (θ_run Cert.FfnRefIdeal.defs _ _).mono (fun r h => ⟨fun c => (h c).2.2.2.2.2.2.2.2.2, sem_eq_zero_of_no_sems (by decide) r.2⟩)
    (Cert.FfnRefIdeal.Value.run (F := Ideal) m ρ)

/-- Equal at every element of a rank-3 array. -/
theorem ext3 {n0 n1 n2 : Nat} {u v : (⟨3, ![n0, n1, n2]⟩ : Shape).Idx → EReal}
    (h : ∀ a b k, u (ix3 a b k) = v (ix3 a b k)) : u = v := funext fun y => by
  rw [eq_ix3 y]
  exact h _ _ _

/-- Equal at every element of a one-row array. -/
theorem ext_row {n : Nat} {u v : (⟨2, ![1, n]⟩ : Shape).Idx → EReal} (h : ∀ k, u (ix2 0 k) = v (ix2 0 k)) : u = v := funext fun y => by
  rw [eq_ix2 y, show y 0 = (0 : Fin 1) from Subsingleton.elim (α := Fin 1) _ _]
  exact h _

/-- The call and the reference leave equal arrays. -/
theorem value : Cert.algebraic_FfnIdeal_FfnRefIdeal_pre_ffn_finite := by
  intro m ρ m' ρ' hpre hagree
  refine ⟨_, _, _, _, _, _, _, _, _, Value.run_blocks m ρ, ?_⟩
  refine (θ_run Cert.FfnRefIdeal.defs _ _).mono (fun r h c => ?_) (Cert.FfnRefIdeal.Value.run (F := Ideal) m' ρ')
  obtain ⟨p0, p1, p2, p3, p4, p5, p6⟩ := hpre c
  obtain ⟨r0, h0⟩ := reals_of_finite _ _ (fun _ => rfl) p0
  obtain ⟨r1, h1⟩ := reals_of_finite _ _ (fun _ => rfl) p1
  obtain ⟨r2, h2⟩ := reals_of_finite _ _ (fun _ => rfl) p2
  obtain ⟨r3, h3⟩ := reals_of_finite _ _ (fun _ => rfl) p3
  obtain ⟨r4, h4⟩ := reals_of_finite _ _ (fun _ => rfl) p4
  obtain ⟨r5, h5⟩ := reals_of_finite _ _ (fun _ => rfl) p5
  obtain ⟨r6, h6⟩ := reals_of_finite _ _ (fun _ => rfl) p6
  let A : Arrays := ⟨fun b s k => r0 (ix3 b s k), fun b i k => r1 (ix3 b i k), fun k => r2 (ix2 0 k), fun k => r3 (ix1 k),
    fun k n => r4 (ix3 0 k n), fun n k => r5 (ix3 0 n k), fun b s k => r6 (ix3 b s k)⟩
  have K : Args m c A := ⟨fun _ _ _ => h0 _, fun _ _ _ => h1 _, fun _ => h2 _, fun _ => h3 _, fun _ _ => h4 _, fun _ _ => h5 _, fun _ _ _ => h6 _⟩
  obtain ⟨a0, a1, a2, a3, a4, a5, a6⟩ := hagree c
  have R := Cert.FfnRefIdeal.Read.Args.mk (A := A) (fun b s k => (congrFun a0 _).trans (K.x b s k)) (fun b i k => (congrFun a1 _).trans (K.md b i k))
    (fun k => (congrFun a2 _).trans (K.gf k)) (fun k => (congrFun a3 _).trans (K.gl k)) (fun k n => (congrFun a4 _).trans (K.wu k n))
    (fun n k => (congrFun a5 _).trans (K.wd n k)) (fun b s k => (congrFun a6 _).trans (K.tg b s k))
  obtain ⟨e0, e1, e2, e3, e4, e5, e6, e7, e8, kept⟩ := h c
  refine ⟨e0.trans ((Cert.FfnRefIdeal.Read.val_main_v143_eq _).trans ?_), e1.trans ((Cert.FfnRefIdeal.Read.val_main_v303_eq _).trans ?_),
    e2.trans ((Cert.FfnRefIdeal.Read.val_main_v304_eq _).trans ?_), e3.trans ((Cert.FfnRefIdeal.Read.val_main_v305_eq _).trans ?_),
    e4.trans ((Cert.FfnRefIdeal.Read.val_main_v306_eq _).trans ?_), e5.trans ((Cert.FfnRefIdeal.Read.val_main_v307_eq _).trans ?_),
    e6.trans ((Cert.FfnRefIdeal.Read.val_main_v308_eq _).trans ?_), e7.trans ((Cert.FfnRefIdeal.Read.val_main_v144_eq _).trans ?_),
    e8.trans ((Cert.FfnRefIdeal.Read.val_main_v302_eq _).trans ?_), kept⟩
  · exact ext3 fun b s k => (Cert.FfnRefIdeal.Read.ref_dx1 R b s k).trans (final7 K b s k).symm
  · exact ext3 fun b s k => (Cert.FfnRefIdeal.Read.res_h2 R b s k).trans (final8 K b s k).symm
  · exact ext3 fun b s k => (Cert.FfnRefIdeal.Read.res_dab R b s k).trans (final9 K b s k).symm
  · exact ext3 fun b s k => (Cert.FfnRefIdeal.Read.res_hid R b s k).trans (final10 K b s k).symm
  · exact ext3 fun b s k => (Cert.FfnRefIdeal.Read.res_dffn R b s k).trans (final11 K b s k).symm
  · exact ext_row fun k => by
      rw [show k = 0 from Subsingleton.elim (α := Fin 1) _ _]
      exact (Cert.FfnRefIdeal.Read.res_loss R).trans (final12 K).symm
  · exact ext_row fun k => (Cert.FfnRefIdeal.Read.res_dgl R k).trans (final13 K k).symm
  · exact ext_row fun k => (Cert.FfnRefIdeal.Read.res_dgf R k).trans (final14 K k).symm
  · exact ext3 fun b j k => (Cert.FfnRefIdeal.Read.ref_dmod R b j k).trans (final15 K b j k).symm

end Cert.FfnIdeal.Final

end
-- ==== Proof.InbReal.lean ====
/- The backward of the input projection over the reals: of one row, its normed entries and the cotangents of the product, of the
   modulation and of the norm, in the forms a gradient by hand gives them; and the call's arguments. -/
module

public import proofs.«01_k».proof.Proof.Norms

@[expose] public section

noncomputable section

namespace Cert.Inb

open Cert.Norms

/-- What the rows of one stream share: the modulation's scale, the norm's gain, the weight. -/
structure Env where
  sc : Fin 1024 → ℝ
  g : Fin 1024 → ℝ
  w : Fin 1024 → Fin 5632 → ℝ

namespace Env

variable (E : Env) (x : Fin 1024 → ℝ) (d : Fin 5632 → ℝ)

def xn (k : Fin 1024) : ℝ := x k * rms x
def hn (k : Fin 1024) : ℝ := xn x k * E.g k
def dh (k : Fin 1024) : ℝ := ∑ n, d n * E.w k n
def dhn (k : Fin 1024) : ℝ := E.dh d k * (1 + E.sc k)
def gg (k : Fin 1024) : ℝ := E.dhn d k * E.g k
def dx : Fin 1024 → ℝ := back (E.gg d) (xn x) (rms x)
/-- What a row adds to the gain's cotangent, and to its modulation's shift and scale. -/
def dg (k : Fin 1024) : ℝ := E.dhn d k * xn x k
def dsc (k : Fin 1024) : ℝ := E.dh d k * E.hn x k
/-- What it adds to row `j` of the modulation's cotangent: a latent row to its own modulation's, a context row to the context's. -/
def rowl (j : ℕ) (k : Fin 1024) : ℝ := match j with | 0 => E.dh d k | 1 => E.dsc x d k | _ => 0
def rowc (j : ℕ) (k : Fin 1024) : ℝ := match j with | 2 => E.dh d k | 3 => E.dsc x d k | _ => 0

end Env

/-- The projection's columns: two gates, the input, the query, and the rest. -/
def parts (a b v q : Fin 512 → ℝ) (r : Fin 3584 → ℝ) (n : Fin 5632) : ℝ :=
  if h : n.val < 512 then a ⟨n.val, h⟩ else if h : n.val - 512 < 512 then b ⟨n.val - 512, h⟩
  else if h : n.val - 512 - 512 < 512 then v ⟨n.val - 512 - 512, h⟩ else if h : n.val - 512 - 512 - 512 < 512 then q ⟨n.val - 512 - 512 - 512, h⟩
  else r ⟨n.val - 512 - 512 - 512 - 512, by omega⟩

/-- The call's arguments: the streams, the gain, the scales of the two modulations, the weight, and the cotangents of the parts. -/
structure Arrays where
  x : Fin 4 → Fin 2048 → Fin 1024 → ℝ
  ctx : Fin 4 → Fin 256 → Fin 1024 → ℝ
  g : Fin 1024 → ℝ
  sx : Fin 4 → Fin 1024 → ℝ
  sc : Fin 1024 → ℝ
  w : Fin 1024 → Fin 5632 → ℝ
  ff : Fin 4 → Fin 2304 → Fin 512 → ℝ
  fb : Fin 4 → Fin 2304 → Fin 512 → ℝ
  vf : Fin 4 → Fin 2304 → Fin 512 → ℝ
  vb : Fin 4 → Fin 2304 → Fin 512 → ℝ
  qf : Fin 4 → Fin 2304 → Fin 512 → ℝ
  qb : Fin 4 → Fin 2304 → Fin 512 → ℝ
  rest : Fin 4 → Fin 2304 → Fin 3584 → ℝ

namespace Arrays

variable (A : Arrays)

/-- The cotangent of the projection's row `s`; the latent rows follow the context's. -/
def dp (b : Fin 4) (s : Fin 2304) : Fin 5632 → ℝ :=
  parts (A.ff b s) (A.fb b s) (fun k => A.vf b s k + A.vb b s k) (fun k => A.qf b s k + A.qb b s k) (A.rest b s)
def dl (b : Fin 4) (s : Fin 2048) : Fin 5632 → ℝ := A.dp b ⟨256 + s.val, by omega⟩
def dc (b : Fin 4) (s : Fin 256) : Fin 5632 → ℝ := A.dp b ⟨s.val, by omega⟩
/-- What the latent rows of batch element `b` share, and what the context's rows do. -/
def lat (b : Fin 4) : Env := ⟨A.sx b, A.g, A.w⟩
def con : Env := ⟨A.sc, A.g, A.w⟩

end Arrays

end Cert.Inb

end
-- ==== Proof.InbRef.lean ====
/- The reference of the input projection's backward, node by node over the reals: the norms of the two streams, and the gradient's
   nodes as the stages' cotangents. -/
module

public import proofs.«01_k».proof.Proof.Gen.InbRefIdeal.Read
public import proofs.«01_k».proof.Proof.InbReal
public import proofs.«01_k».proof.Proof.Sums

@[expose] public section

set_option maxRecDepth 8000

noncomputable section

namespace Cert.InbRefIdeal.Read

open Idealize.ShloMosaic Idealize.SL.Sem Cert.Reals Cert.Norms Cert.Inb

abbrev Latent := (⟨S4x2048x1024, .f32⟩ : BufTy).Contents (Elt Ideal)
abbrev Half := (⟨S4x2304x512, .bf16⟩ : BufTy).Contents (Elt Ideal)
abbrev Part := (⟨S4x2304x512, .f32⟩ : BufTy).Contents (Elt Ideal)

variable {x0 x2 : Latent} {x1 : (⟨S4x256x1024, .f32⟩ : BufTy).Contents (Elt Ideal)}
  {x3 : (⟨S1x1024, .f32⟩ : BufTy).Contents (Elt Ideal)} {x4 : (⟨S4x6x1024, .f32⟩ : BufTy).Contents (Elt Ideal)}
  {x5 : (⟨S6x1024, .f32⟩ : BufTy).Contents (Elt Ideal)} {x6 : (⟨S1x1024x5632, .f32⟩ : BufTy).Contents (Elt Ideal)}
  {x7 x8 : Half} {x9 x10 x11 x12 : Part} {x13 : (⟨S4x2304x3584, .bf16⟩ : BufTy).Contents (Elt Ideal)} {A : Arrays}

variable (x0 x1 x3 x4 x5 x6 x7 x8 x9 x10 x11 x12 x13 A) in
/-- The arguments are the reals `A`, of the modulations only the scale. -/
structure Args : Prop where
  x : ∀ b s k, x0 (ix3 b s k) = ((A.x b s k : ℝ) : EReal)
  ctx : ∀ b s k, x1 (ix3 b s k) = ((A.ctx b s k : ℝ) : EReal)
  g : ∀ k, x3 (ix2 0 k) = ((A.g k : ℝ) : EReal)
  sx : ∀ b k, x4 (ix3 b 1 k) = ((A.sx b k : ℝ) : EReal)
  sc : ∀ k, x5 (ix2 1 k) = ((A.sc k : ℝ) : EReal)
  w : ∀ k n, x6 (ix3 0 k n) = ((A.w k n : ℝ) : EReal)
  ff : ∀ b s k, x7 (ix3 b s k) = ((A.ff b s k : ℝ) : EReal)
  fb : ∀ b s k, x8 (ix3 b s k) = ((A.fb b s k : ℝ) : EReal)
  vf : ∀ b s k, x9 (ix3 b s k) = ((A.vf b s k : ℝ) : EReal)
  vb : ∀ b s k, x10 (ix3 b s k) = ((A.vb b s k : ℝ) : EReal)
  qf : ∀ b s k, x11 (ix3 b s k) = ((A.qf b s k : ℝ) : EReal)
  qb : ∀ b s k, x12 (ix3 b s k) = ((A.qb b s k : ℝ) : EReal)
  rest : ∀ b s k, x13 (ix3 b s k) = ((A.rest b s k : ℝ) : EReal)

variable (H : Args x0 x1 x3 x4 x5 x6 x7 x8 x9 x10 x11 x12 x13 A)

include H

theorem ctx_ms (b : Fin 4) (s : Fin 256) : val_main_v9 x1 (ix3 b s 0) = ((ms (A.ctx b s) + eps : ℝ) : EReal) := by
  pointwise [val_main_v9, val_main_v8, val_main_cst_1, val_main_v7, val_main_v6, val_main_cst_0, val_main_v5, val_main_v4, val_main_cst, val_main_v3]
  simp only [H.ctx, word_eps, word_1024, word_half, word_neghalf, word_two, Ideal.ofBits_one_f32, ← EReal.coe_one, ← EReal.coe_mul, coe_sum, div_1024, ← EReal.coe_add, ← EReal.coe_sub, coe_rms_sum, coe_rms, zero_add, Fin.sum_univ_one]
  rfl

theorem ctx_rms (b : Fin 4) (s : Fin 256) : val_main_v10 x1 (ix3 b s 0) = ((rms (A.ctx b s) : ℝ) : EReal) := by
  pointwise [val_main_v10]
  simp only [ctx_ms H, H.ctx, word_eps, word_1024, word_half, word_neghalf, word_two, Ideal.ofBits_one_f32, ← EReal.coe_one, ← EReal.coe_mul, coe_sum, div_1024, ← EReal.coe_add, ← EReal.coe_sub, coe_rms_sum, coe_rms, zero_add, Fin.sum_univ_one]

theorem ctx_xn (b : Fin 4) (s : Fin 256) (k : Fin 1024) : val_main_v15 x1 (ix3 b s k) = ((Env.xn (A.ctx b s) k : ℝ) : EReal) := by
  pointwise [val_main_v15, val_main_v14]
  simp only [ctx_rms H, H.ctx, word_eps, word_1024, word_half, word_neghalf, word_two, Ideal.ofBits_one_f32, ← EReal.coe_one, ← EReal.coe_mul, coe_sum, div_1024, ← EReal.coe_add, ← EReal.coe_sub, coe_rms_sum, coe_rms, zero_add, Fin.sum_univ_one]
  rfl

theorem ctx_hn (b : Fin 4) (s : Fin 256) (k : Fin 1024) : val_main_v18 x1 x3 (ix3 b s k) = ((A.con.hn (A.ctx b s) k : ℝ) : EReal) := by
  pointwise [val_main_v18, val_main_v17, val_main_v16, val_main_v2]
  simp only [ctx_xn H, H.ctx, H.g, word_eps, word_1024, word_half, word_neghalf, word_two, Ideal.ofBits_one_f32, ← EReal.coe_one, ← EReal.coe_mul, coe_sum, div_1024, ← EReal.coe_add, ← EReal.coe_sub, coe_rms_sum, coe_rms, zero_add, Fin.sum_univ_one]
  rfl

theorem ctx_sc (b : Fin 4) (k : Fin 1024) : val_main_v26 x5 (ix3 b 0 k) = ((1 + A.con.sc k : ℝ) : EReal) := by
  pointwise [val_main_v26, val_main_v25, val_main_cst_3, val_main_v24, val_main_v23, val_main_v22, val_main_v1, val_main_v0]
  simp only [H.sc, word_eps, word_1024, word_half, word_neghalf, word_two, Ideal.ofBits_one_f32, ← EReal.coe_one, ← EReal.coe_mul, coe_sum, div_1024, ← EReal.coe_add, ← EReal.coe_sub, coe_rms_sum, coe_rms, zero_add, Fin.sum_univ_one]
  rfl

theorem lat_ms (b : Fin 4) (s : Fin 2048) : val_main_v38 x0 (ix3 b s 0) = ((ms (A.x b s) + eps : ℝ) : EReal) := by
  pointwise [val_main_v38, val_main_v37, val_main_cst_6, val_main_v36, val_main_v35, val_main_cst_5, val_main_v34, val_main_v33, val_main_cst_4, val_main_v32]
  simp only [H.x, word_eps, word_1024, word_half, word_neghalf, word_two, Ideal.ofBits_one_f32, ← EReal.coe_one, ← EReal.coe_mul, coe_sum, div_1024, ← EReal.coe_add, ← EReal.coe_sub, coe_rms_sum, coe_rms, zero_add, Fin.sum_univ_one]
  rfl

theorem lat_rms (b : Fin 4) (s : Fin 2048) : val_main_v39 x0 (ix3 b s 0) = ((rms (A.x b s) : ℝ) : EReal) := by
  pointwise [val_main_v39]
  simp only [lat_ms H, H.x, word_eps, word_1024, word_half, word_neghalf, word_two, Ideal.ofBits_one_f32, ← EReal.coe_one, ← EReal.coe_mul, coe_sum, div_1024, ← EReal.coe_add, ← EReal.coe_sub, coe_rms_sum, coe_rms, zero_add, Fin.sum_univ_one]

theorem lat_xn (b : Fin 4) (s : Fin 2048) (k : Fin 1024) : val_main_v44 x0 (ix3 b s k) = ((Env.xn (A.x b s) k : ℝ) : EReal) := by
  pointwise [val_main_v44, val_main_v43]
  simp only [lat_rms H, H.x, word_eps, word_1024, word_half, word_neghalf, word_two, Ideal.ofBits_one_f32, ← EReal.coe_one, ← EReal.coe_mul, coe_sum, div_1024, ← EReal.coe_add, ← EReal.coe_sub, coe_rms_sum, coe_rms, zero_add, Fin.sum_univ_one]
  rfl

theorem lat_hn (b : Fin 4) (s : Fin 2048) (k : Fin 1024) : val_main_v47 x0 x3 (ix3 b s k) = (((A.lat b).hn (A.x b s) k : ℝ) : EReal) := by
  pointwise [val_main_v47, val_main_v46, val_main_v45, val_main_v31]
  simp only [lat_xn H, H.x, H.g, word_eps, word_1024, word_half, word_neghalf, word_two, Ideal.ofBits_one_f32, ← EReal.coe_one, ← EReal.coe_mul, coe_sum, div_1024, ← EReal.coe_add, ← EReal.coe_sub, coe_rms_sum, coe_rms, zero_add, Fin.sum_univ_one]
  rfl

theorem lat_sc (b : Fin 4) (k : Fin 1024) : val_main_v55 x4 (ix3 b 0 k) = ((1 + (A.lat b).sc k : ℝ) : EReal) := by
  pointwise [val_main_v55, val_main_v54, val_main_cst_8, val_main_v53, val_main_v52, val_main_v51]
  simp only [H.sx, word_eps, word_1024, word_half, word_neghalf, word_two, Ideal.ofBits_one_f32, ← EReal.coe_one, ← EReal.coe_mul, coe_sum, div_1024, ← EReal.coe_add, ← EReal.coe_sub, coe_rms_sum, coe_rms, zero_add, Fin.sum_univ_one]
  rfl

theorem ref_dp (b : Fin 4) (s : Fin 2304) (n : Fin 5632) : val_main_v74 x7 x8 x9 x10 x11 x12 x13 (ix3 b s n) = ((A.dp b s n : ℝ) : EReal) := by
  pointwise [val_main_v74, val_main_v73, val_main_v72, val_main_v71, val_main_v70, val_main_v69]
  simp only [H.ff, H.fb, H.vf, H.vb, H.qf, H.qb, H.rest, word_eps, word_1024, word_half, word_neghalf, word_two, Ideal.ofBits_one_f32, ← EReal.coe_one, ← EReal.coe_mul, coe_sum, div_1024, ← EReal.coe_add, ← EReal.coe_sub, coe_rms_sum, coe_rms, zero_add, Fin.sum_univ_one]
  unfold Arrays.dp parts
  split_ifs <;> rfl

theorem ref_dh (b : Fin 4) (s : Fin 2304) (k : Fin 1024) : val_main_v75 x6 x7 x8 x9 x10 x11 x12 x13 (ix3 b s k) = ((A.con.dh (A.dp b s) k : ℝ) : EReal) := by
  pointwise [val_main_v75, val_main_v61]
  simp only [ref_dp H, H.w, H.ff, H.fb, H.vf, H.vb, H.qf, H.qb, H.rest, word_eps, word_1024, word_half, word_neghalf, word_two, Ideal.ofBits_one_f32, ← EReal.coe_one, ← EReal.coe_mul, coe_sum, div_1024, ← EReal.coe_add, ← EReal.coe_sub, coe_rms_sum, coe_rms, zero_add, Fin.sum_univ_one]
  rfl

theorem ctx_dh (b : Fin 4) (s : Fin 256) (k : Fin 1024) : val_main_v76 x6 x7 x8 x9 x10 x11 x12 x13 (ix3 b s k) = ((A.con.dh (A.dc b s) k : ℝ) : EReal) := by
  pointwise [val_main_v76]
  simp only [ref_dh H, H.w, H.ff, H.fb, H.vf, H.vb, H.qf, H.qb, H.rest, word_eps, word_1024, word_half, word_neghalf, word_two, Ideal.ofBits_one_f32, ← EReal.coe_one, ← EReal.coe_mul, coe_sum, div_1024, ← EReal.coe_add, ← EReal.coe_sub, coe_rms_sum, coe_rms, zero_add, Fin.sum_univ_one]
  rfl

theorem lat_dh (b : Fin 4) (s : Fin 2048) (k : Fin 1024) : val_main_v77 x6 x7 x8 x9 x10 x11 x12 x13 (ix3 b s k) = (((A.lat b).dh (A.dl b s) k : ℝ) : EReal) := by
  pointwise [val_main_v77]
  simp only [ref_dh H, H.w, H.ff, H.fb, H.vf, H.vb, H.qf, H.qb, H.rest, word_eps, word_1024, word_half, word_neghalf, word_two, Ideal.ofBits_one_f32, ← EReal.coe_one, ← EReal.coe_mul, coe_sum, div_1024, ← EReal.coe_add, ← EReal.coe_sub, coe_rms_sum, coe_rms, zero_add, Fin.sum_univ_one]
  rfl

theorem lat_dshift (b : Fin 4) (k : Fin 1024) : val_main_v88 x6 x7 x8 x9 x10 x11 x12 x13 (ix2 b k) = ((∑ s, (A.lat b).dh (A.dl b s) k : ℝ) : EReal) := by
  pointwise [val_main_v88, val_main_cst_14, val_main_v79, val_main_v78, val_main_cst_10]
  simp only [lat_dh H, H.w, H.ff, H.fb, H.vf, H.vb, H.qf, H.qb, H.rest, word_eps, word_1024, word_half, word_neghalf, word_two, Ideal.ofBits_one_f32, ← EReal.coe_one, ← EReal.coe_mul, coe_sum, div_1024, ← EReal.coe_add, ← EReal.coe_sub, coe_rms_sum, coe_rms, zero_add, Fin.sum_univ_one]

theorem lat_dscale (b : Fin 4) (k : Fin 1024) : val_main_v85 x0 x3 x6 x7 x8 x9 x10 x11 x12 x13 (ix2 b k) = ((∑ s, (A.lat b).dsc (A.x b s) (A.dl b s) k : ℝ) : EReal) := by
  pointwise [val_main_v85, val_main_cst_12, val_main_v82, val_main_v81, val_main_cst_11, val_main_v80]
  simp only [lat_dh H, lat_hn H, H.x, H.g, H.w, H.ff, H.fb, H.vf, H.vb, H.qf, H.qb, H.rest, word_eps, word_1024, word_half, word_neghalf, word_two, Ideal.ofBits_one_f32, ← EReal.coe_one, ← EReal.coe_mul, coe_sum, div_1024, ← EReal.coe_add, ← EReal.coe_sub, coe_rms_sum, coe_rms, zero_add, Fin.sum_univ_one]
  exact congrArg _ (Finset.sum_congr rfl fun _ _ => mul_comm _ _)

theorem lat_dhn (b : Fin 4) (s : Fin 2048) (k : Fin 1024) : val_main_v84 x4 x6 x7 x8 x9 x10 x11 x12 x13 (ix3 b s k) = (((A.lat b).dhn (A.dl b s) k : ℝ) : EReal) := by
  pointwise [val_main_v84, val_main_v83]
  simp only [lat_sc H, lat_dh H, H.sx, H.w, H.ff, H.fb, H.vf, H.vb, H.qf, H.qb, H.rest, word_eps, word_1024, word_half, word_neghalf, word_two, Ideal.ofBits_one_f32, ← EReal.coe_one, ← EReal.coe_mul, coe_sum, div_1024, ← EReal.coe_add, ← EReal.coe_sub, coe_rms_sum, coe_rms, zero_add, Fin.sum_univ_one]
  rfl

theorem lat_gg (b : Fin 4) (s : Fin 2048) (k : Fin 1024) : val_main_v96 x3 x4 x6 x7 x8 x9 x10 x11 x12 x13 (ix3 b s k) = (((A.lat b).gg (A.dl b s) k : ℝ) : EReal) := by
  pointwise [val_main_v96, val_main_v95, val_main_v45, val_main_v31]
  simp only [lat_dhn H, H.g, H.sx, H.w, H.ff, H.fb, H.vf, H.vb, H.qf, H.qb, H.rest, word_eps, word_1024, word_half, word_neghalf, word_two, Ideal.ofBits_one_f32, ← EReal.coe_one, ← EReal.coe_mul, coe_sum, div_1024, ← EReal.coe_add, ← EReal.coe_sub, coe_rms_sum, coe_rms, zero_add, Fin.sum_univ_one]
  rfl

theorem lat_dg (k : Fin 1024) : val_main_v97 x0 x4 x6 x7 x8 x9 x10 x11 x12 x13 (ix1 k) = ((∑ b, ∑ s, (A.lat b).dg (A.x b s) (A.dl b s) k : ℝ) : EReal) := by
  pointwise [val_main_v97, val_main_cst_17, val_main_v94, val_main_v93, val_main_cst_16, val_main_v92]
  simp only [lat_dhn H, lat_xn H, H.x, H.sx, H.w, H.ff, H.fb, H.vf, H.vb, H.qf, H.qb, H.rest, word_eps, word_1024, word_half, word_neghalf, word_two, Ideal.ofBits_one_f32, ← EReal.coe_one, ← EReal.coe_mul, coe_sum, div_1024, ← EReal.coe_add, ← EReal.coe_sub, coe_rms_sum, coe_rms, zero_add, Fin.sum_univ_one]
  exact congrArg _ (Finset.sum_congr rfl fun _ _ => Finset.sum_congr rfl fun _ _ => mul_comm _ _)

theorem ctx_dshift (b : Fin 4) (k : Fin 1024) : val_main_v124 x6 x7 x8 x9 x10 x11 x12 x13 (ix2 b k) = ((∑ s, A.con.dh (A.dc b s) k : ℝ) : EReal) := by
  pointwise [val_main_v124, val_main_cst_25, val_main_v115, val_main_v114, val_main_cst_21]
  simp only [ctx_dh H, H.w, H.ff, H.fb, H.vf, H.vb, H.qf, H.qb, H.rest, word_eps, word_1024, word_half, word_neghalf, word_two, Ideal.ofBits_one_f32, ← EReal.coe_one, ← EReal.coe_mul, coe_sum, div_1024, ← EReal.coe_add, ← EReal.coe_sub, coe_rms_sum, coe_rms, zero_add, Fin.sum_univ_one]

theorem ctx_dscale (b : Fin 4) (k : Fin 1024) : val_main_v121 x1 x3 x6 x7 x8 x9 x10 x11 x12 x13 (ix2 b k) = ((∑ s, A.con.dsc (A.ctx b s) (A.dc b s) k : ℝ) : EReal) := by
  pointwise [val_main_v121, val_main_cst_23, val_main_v118, val_main_v117, val_main_cst_22, val_main_v116]
  simp only [ctx_dh H, ctx_hn H, H.ctx, H.g, H.w, H.ff, H.fb, H.vf, H.vb, H.qf, H.qb, H.rest, word_eps, word_1024, word_half, word_neghalf, word_two, Ideal.ofBits_one_f32, ← EReal.coe_one, ← EReal.coe_mul, coe_sum, div_1024, ← EReal.coe_add, ← EReal.coe_sub, coe_rms_sum, coe_rms, zero_add, Fin.sum_univ_one]
  exact congrArg _ (Finset.sum_congr rfl fun _ _ => mul_comm _ _)

theorem ctx_dhn (b : Fin 4) (s : Fin 256) (k : Fin 1024) : val_main_v120 x5 x6 x7 x8 x9 x10 x11 x12 x13 (ix3 b s k) = ((A.con.dhn (A.dc b s) k : ℝ) : EReal) := by
  pointwise [val_main_v120, val_main_v119]
  simp only [ctx_dh H, ctx_sc H, H.sc, H.w, H.ff, H.fb, H.vf, H.vb, H.qf, H.qb, H.rest, word_eps, word_1024, word_half, word_neghalf, word_two, Ideal.ofBits_one_f32, ← EReal.coe_one, ← EReal.coe_mul, coe_sum, div_1024, ← EReal.coe_add, ← EReal.coe_sub, coe_rms_sum, coe_rms, zero_add, Fin.sum_univ_one]
  rfl

theorem ctx_dg (k : Fin 1024) : val_main_v133 x1 x5 x6 x7 x8 x9 x10 x11 x12 x13 (ix1 k) = ((∑ b, ∑ s, A.con.dg (A.ctx b s) (A.dc b s) k : ℝ) : EReal) := by
  pointwise [val_main_v133, val_main_cst_28, val_main_v130, val_main_v129, val_main_cst_27, val_main_v128]
  simp only [ctx_xn H, ctx_dhn H, H.ctx, H.sc, H.w, H.ff, H.fb, H.vf, H.vb, H.qf, H.qb, H.rest, word_eps, word_1024, word_half, word_neghalf, word_two, Ideal.ofBits_one_f32, ← EReal.coe_one, ← EReal.coe_mul, coe_sum, div_1024, ← EReal.coe_add, ← EReal.coe_sub, coe_rms_sum, coe_rms, zero_add, Fin.sum_univ_one]
  exact congrArg _ (Finset.sum_congr rfl fun _ _ => Finset.sum_congr rfl fun _ _ => mul_comm _ _)

theorem res_dg (k : Fin 1024) : val_main_v149 x0 x1 x4 x5 x6 x7 x8 x9 x10 x11 x12 x13 (ix2 0 k) = (((∑ b, ∑ s, (A.lat b).dg (A.x b s) (A.dl b s) k) + ∑ b, ∑ s, A.con.dg (A.ctx b s) (A.dc b s) k : ℝ) : EReal) := by
  pointwise [val_main_v149, val_main_v148, val_main_v113]
  simp only [ctx_dg H, lat_dg H, H.x, H.ctx, H.sx, H.sc, H.w, H.ff, H.fb, H.vf, H.vb, H.qf, H.qb, H.rest, word_eps, word_1024, word_half, word_neghalf, word_two, Ideal.ofBits_one_f32, ← EReal.coe_one, ← EReal.coe_mul, coe_sum, div_1024, ← EReal.coe_add, ← EReal.coe_sub, coe_rms_sum, coe_rms, zero_add, Fin.sum_univ_one]

theorem res_rows (b : Fin 4) (j : Fin 8) (k : Fin 1024) : val_main_v153 x0 x1 x3 x6 x7 x8 x9 x10 x11 x12 x13 (ix3 b j k) = ((∑ s, A.con.rowc (A.ctx b s) (A.dc b s) j.val k + ∑ s, (A.lat b).rowl (A.x b s) (A.dl b s) j.val k : ℝ) : EReal) := by
  pointwise [val_main_v153, val_main_v152, val_main_cst_32, val_main_v151, val_main_v150, val_main_v127, val_main_v126, val_main_cst_26, val_main_v125, val_main_v123, val_main_cst_24, val_main_v122, val_main_v91, val_main_v90, val_main_cst_15, val_main_v89, val_main_v87, val_main_cst_13, val_main_v86]
  simp only [ctx_dshift H, ctx_dscale H, lat_dshift H, lat_dscale H, H.x, H.ctx, H.g, H.w, H.ff, H.fb, H.vf, H.vb, H.qf, H.qb, H.rest, word_eps, word_1024, word_half, word_neghalf, word_two, Ideal.ofBits_one_f32, ← EReal.coe_one, ← EReal.coe_mul, coe_sum, div_1024, ← EReal.coe_add, ← EReal.coe_sub, coe_rms_sum, coe_rms, zero_add, Fin.sum_univ_one]
  fin_cases j <;> simp [Env.rowc, Env.rowl]

theorem res_dx (b : Fin 4) (s : Fin 2048) (k : Fin 1024) : val_main_v112 x0 x2 x3 x4 x6 x7 x8 x9 x10 x11 x12 x13 (ix3 b s k) = x2 (ix3 b s k) + (((A.lat b).dx (A.x b s) (A.dl b s) k : ℝ) : EReal) := by
  pointwise [val_main_v112, val_main_v111, val_main_v110, val_main_v109, val_main_v108, val_main_v107, val_main_cst_20, val_main_v106, val_main_v105, val_main_cst_19, val_main_v104, val_main_v103, val_main_v102, val_main_v101, val_main_v100, val_main_v99, val_main_cst_18, val_main_v98, val_main_v42, val_main_v41, val_main_cst_7, val_main_v40]
  simp only [lat_rms H, lat_ms H, lat_gg H, H.x, add_assoc, H.g, H.sx, H.w, H.ff, H.fb, H.vf, H.vb, H.qf, H.qb, H.rest, coe_div _ (ms_eps_pos _).ne', word_eps, word_1024, word_half, word_neghalf, word_two, Ideal.ofBits_one_f32, ← EReal.coe_one, ← EReal.coe_mul, coe_sum, div_1024, ← EReal.coe_add, ← EReal.coe_sub, coe_rms_sum, coe_rms, zero_add, Fin.sum_univ_one]
  refine congrArg (_ + ·) (congrArg Real.toEReal ?_)
  have e := back_eq (A.x b s) ((A.lat b).gg (A.dl b s)) k
  simp only at e
  show _ = back _ (fun j => A.x b s j * rms (A.x b s)) _ k
  linear_combination e

theorem res_dp (b : Fin 4) (s : Fin 2304) (n : Fin 5632) :
    val_main_v154 x7 x8 x9 x10 x11 x12 x13 (ix3 b s n) = ((A.dp b s n : ℝ) : EReal) := ref_dp H b s n

end Cert.InbRefIdeal.Read

end
-- ==== Proof.InbFinal.lean ====
/- What one grid point of the input projection's backward kernel leaves in its result blocks: each block as the payload of the store
   that fills it, over the point's input blocks, and for the two sums over what the point before left. -/
module

public import proofs.«01_k».proof.Proof.Gen.InbIdeal.Value
public import proofs.«01_k».proof.Proof.Stores

@[expose] public section

noncomputable section

namespace Cert.InbIdeal.Final

open Idealize.ShloMosaic Idealize.SL.Sem Cert.InbIdeal Cert.InbIdeal.Gen Idealize.ShloMosaic.TcCoe Cert.Stores

variable {F : FTy → Type} [FloatOps F]

/-- The input blocks of a point: whether its rows are the context's, the latent rows, the context's, the cotangent past the norm, the
    gain, the modulation's rows, the weight, and the cotangents of the projection's parts. -/
structure Blocks (F : FTy → Type) where
  con : BitVec 1
  x : Vec F S1x256x1024 .f32
  ctx : Vec F S1x256x1024 .f32
  dx1 : Vec F S1x256x1024 .f32
  g : Vec F S1x1024 .f32
  md : Vec F S1x8x1024 .f32
  w : Vec F S1024x5632 .bf16
  ff : Vec F S1x256x512 .bf16
  fb : Vec F S1x256x512 .bf16
  vf : Vec F S1x256x512 .f32
  vb : Vec F S1x256x512 .f32
  qf : Vec F S1x256x512 .f32
  qb : Vec F S1x256x512 .f32
  rest : Vec F S1x256x3584 .bf16

namespace Blocks

variable (p : Blocks F)

abbrev one : F .f32 := FloatOps.ofBits (F := F) FTy.f32 0x3F800000#32
/-- The cotangent of the projection, and of its input. -/
abbrev dp := k0_pay10 p.vf p.vb p.qf p.qb p.ff p.fb p.rest
abbrev dh := k0_pay12 p.dp p.w
/-- The scale, the reciprocal root and the normed rows, of the stream the point reads. -/
abbrev sc := k0_pay14 p.con (row 3 p.md) (row 1 p.md)
abbrev rr := k0_pay15 p.con p.ctx p.x
abbrev xn := k0_pay16 p.con p.ctx p.x

/-- The results' blocks, those summed over the grid over what they held: the last one's rows are those of the latent modulation at a
    point of latent rows, and those of the context's at one of context rows. -/
def out13 : Vec F S1x256x1024 .f32 := k0_pay7 p.dh p.sc p.rr p.xn p.g one p.dx1
def out14 : Vec F S1x256x5632 .bf16 := k0_pay11 p.dp
def out15 (z : Vec F S1x1024 .f32) : Vec F S1x1024 .f32 := k0_pay2 p.dh p.sc p.xn one z
def out16l (z : Vec F S1x8x1024 .f32) : Vec F S1x8x1024 .f32 :=
  setRow 1 (k0_pay6 (k0_pay18 p.con p.dp p.w p.ctx p.x p.g) (row 1 z)) (setRow 0 (k0_pay5 (k0_pay17 p.dp p.w) (row 0 z)) z)
def out16c (z : Vec F S1x8x1024 .f32) : Vec F S1x8x1024 .f32 :=
  setRow 3 (k0_pay4 (k0_pay18 p.con p.dp p.w p.ctx p.x p.g) (row 3 z)) (setRow 2 (k0_pay3 (k0_pay17 p.dp p.w) (row 2 z)) z)

end Blocks

variable (m : (ℓ : Loc nD τ sig) → Buf (Elt F) ℓ)

/-- The input blocks of point `t`. -/
def blocks (c : Dev nD) (t : Fin cfg0.N) : Blocks F :=
  ⟨Scalar.cmpi .eq (BitVec.ofNat 32 ((grid0.coords t) 1).val) 0#32, iblk m c 0 t, iblk m c 1 t, iblk m c 2 t, iblk m c 3 t, iblk m c 4 t,
    iblk m c 5 t, iblk m c 6 t, iblk m c 7 t, iblk m c 8 t, iblk m c 9 t, iblk m c 10 t, iblk m c 11 t, iblk m c 12 t⟩

theorem off2 : (![0, 0] : Fin 2 → ℕ) = fun _ => 0 := funext fun a => by fin_cases a <;> rfl
theorem off3 : (![0, 0, 0] : Fin 3 → ℕ) = fun _ => 0 := funext fun a => by fin_cases a <;> rfl

/-- A load of one row, and a store of one row. -/
theorem ld0 (x : Vec F S1x8x1024 .f32) : View.ld x (Rect.unit ![0, 0, 0] ![1, 1, 1024] inb_S1x8x1024_S1x1x1024_0_0_0) = row 0 x := ld_row 0 rfl _ x
theorem ld1 (x : Vec F S1x8x1024 .f32) : View.ld x (Rect.unit ![0, 1, 0] ![1, 1, 1024] inb_S1x8x1024_S1x1x1024_0_1_0) = row 1 x := ld_row 1 rfl _ x
theorem ld2 (x : Vec F S1x8x1024 .f32) : View.ld x (Rect.unit ![0, 2, 0] ![1, 1, 1024] inb_S1x8x1024_S1x1x1024_0_2_0) = row 2 x := ld_row 2 rfl _ x
theorem ld3 (x : Vec F S1x8x1024 .f32) : View.ld x (Rect.unit ![0, 3, 0] ![1, 1, 1024] inb_S1x8x1024_S1x1x1024_0_3_0) = row 3 x := ld_row 3 rfl _ x
theorem set0 (x : S1x8x1024.Idx → Elt F .f32) (w : S1x1x1024.Idx → Elt F .f32) :
    (Rect.unit (s := S1x8x1024) ![0, 0, 0] ![1, 1, 1024] inb_S1x8x1024_S1x1x1024_0_0_0).overlay x w = setRow 0 w x := overlay_row 0 rfl _ x w
theorem set1 (x : S1x8x1024.Idx → Elt F .f32) (w : S1x1x1024.Idx → Elt F .f32) :
    (Rect.unit (s := S1x8x1024) ![0, 1, 0] ![1, 1, 1024] inb_S1x8x1024_S1x1x1024_0_1_0).overlay x w = setRow 1 w x := overlay_row 1 rfl _ x w
theorem set2 (x : S1x8x1024.Idx → Elt F .f32) (w : S1x1x1024.Idx → Elt F .f32) :
    (Rect.unit (s := S1x8x1024) ![0, 2, 0] ![1, 1, 1024] inb_S1x8x1024_S1x1x1024_0_2_0).overlay x w = setRow 2 w x := overlay_row 2 rfl _ x w
theorem set3 (x : S1x8x1024.Idx → Elt F .f32) (w : S1x1x1024.Idx → Elt F .f32) :
    (Rect.unit (s := S1x8x1024) ![0, 3, 0] ![1, 1, 1024] inb_S1x8x1024_S1x1x1024_0_3_0).overlay x w = setRow 3 w x := overlay_row 3 rfl _ x w

/-- Two rows stored one after the other, the second read back before it is stored. -/
theorem two_rows (z : S1x8x1024.Idx → Elt F .f32) (w : S1x1x1024.Idx → Elt F .f32) (f : (S1x1x1024.Idx → Elt F .f32) → S1x1x1024.Idx → Elt F .f32) :
    (Rect.unit (s := S1x8x1024) ![0, 3, 0] ![1, 1, 1024] inb_S1x8x1024_S1x1x1024_0_3_0).overlay
      ((Rect.unit (s := S1x8x1024) ![0, 2, 0] ![1, 1, 1024] inb_S1x8x1024_S1x1x1024_0_2_0).overlay z w)
      (f (row 3 ((Rect.unit (s := S1x8x1024) ![0, 2, 0] ![1, 1, 1024] inb_S1x8x1024_S1x1x1024_0_2_0).overlay z w)))
      = setRow 3 (f (row 3 z)) (setRow 2 w z) := by
  rw [set2, row_setRow (by decide), set3]

/-- What the results' blocks held before point `t`, apart from the first points of the grid and of a batch element. -/
def held (c : Dev nD) (t : Fin cfg0.N) := outsAt0 m c (t.val - 1) (Nat.lt_of_le_of_lt (Nat.sub_le _ _) t.isLt)

set_option maxHeartbeats 4000000 in
/-- One point of the grid: the gain's sum starts from zero at the first point, the modulation's at the first of a batch element, whose
    rows are the context's. -/
theorem outs_step (c : Dev nD) (t : Fin cfg0.N) :
    (outsAt0 m c t.val t.isLt).2 = ((blocks m c t).out14, (blocks m c t).out15 (if t.val % 36 = 0 then k0_pay8 else (held m c t).2.2.1),
      if t.val % 9 = 0 then (blocks m c t).out16c k0_pay9 else (blocks m c t).out16l (held m c t).2.2.2)
    ∧ (¬t.val % 9 = 0 → (outsAt0 m c t.val t.isLt).1 = (blocks m c t).out13) := by
  have cases : (t.val % 36 = 0 ∧ t.val % 9 = 0 ∧ ¬1 ≤ t.val % 9) ∨ (¬t.val % 36 = 0 ∧ t.val % 9 = 0 ∧ ¬1 ≤ t.val % 9)
      ∨ (¬t.val % 36 = 0 ∧ ¬t.val % 9 = 0 ∧ 1 ≤ t.val % 9) := by omega
  rcases cases with ⟨h0, h1, h2⟩ | ⟨h0, h1, h2⟩ | ⟨h0, h1, h2⟩
  all_goals
    first
    | rw [outsAt0_A m c t h0 h1 h1 h2, if_pos h0, if_pos h1]
    | rw [outsAt0_C m c t h0 h1 h1 h2, if_neg h0, if_pos h1]
    | rw [outsAt0_B m c t h0 h1 h1 h2, if_neg h0, if_neg h1]
    try unfold held
    unfold blocks
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    generalize iblk m c 8 t = x8
    generalize iblk m c 9 t = x9
    generalize iblk m c 10 t = x10
    generalize iblk m c 11 t = x11
    generalize iblk m c 12 t = x12
    refine ⟨congr (congrArg Prod.mk ?_) (congr (congrArg Prod.mk ?_) ?_), fun h => ?_⟩
  all_goals
    first
    | exact absurd h1 h
    | (first | unfold out0_A_14 | unfold out0_A_15 | unfold out0_A_16
       unfold kernelRun0_A)
    | (first | unfold out0_C_14 | unfold out0_C_15 | unfold out0_C_16
       unfold kernelRun0_C)
    | (first | unfold out0_B_13 | unfold out0_B_14 | unfold out0_B_15 | unfold out0_B_16
       unfold kernelRun0_B)
  all_goals
    dsimp only
    sl_unfold_words
    simp only [read_cons, readCov_ld, View.canon_cons, View.writes_nil, overlay_whole (s := S1x1024) off2,
      overlay_whole (s := S1x256x1024) off3, overlay_whole (s := S1x256x5632) off3, overlay_whole (s := S1x8x1024) off3,
      View.readAt_eq_ld, Memref.IsWhole.read_unread,
      View.ld_unit_zero (S := S1x1024) off2, View.ld_unit_zero (S := S1024x5632) off2, View.ld_unit_zero (S := S1x256x512) off3,
      View.ld_unit_zero (S := S1x256x3584) off3, View.ld_unit_zero (S := S1x256x1024) off3, shapeCast_self, ld0, ld1, ld2, ld3]
    first
    | (first | unfold Blocks.out13 | unfold Blocks.out14 | unfold Blocks.out15
       with_reducible rfl)
    | (unfold Blocks.out15; exact overlay_whole (s := S1x1024) off2 _ _ _)
    | (unfold Blocks.out13; exact overlay_whole (s := S1x256x1024) off3 _ _ _)
    | (unfold Blocks.out14; exact overlay_whole (s := S1x256x5632) off3 _ _ _)
    | exact two_rows _ _ (fun r => k0_pay4 _ r)
    | exact (set1 _ _).trans (congrArg (setRow 1 _) (set0 _ _))

end Cert.InbIdeal.Final

end
-- ==== Proof.Places.lean ====
/- Positions in arrays of two and three axes from their coordinates, the coordinates of a block's positions along an axis, and arrays
   equal at every position. -/
module

public import proofs.«01_k».proof.Proof.Reals

@[expose] public section

namespace Cert.Places

open Idealize.ShloMosaic

theorem at3 {a b c : ℕ} {e : (⟨3, ![a, b, c]⟩ : Shape).Idx} {i : Fin a} {j : Fin b} {k : Fin c} (h0 : (e 0).val = i.val) (h1 : (e 1).val = j.val)
    (h2 : (e 2).val = k.val) : e = ix3 i j k :=
  funext fun x => Fin.ext (match x with | ⟨0, _⟩ => h0 | ⟨1, _⟩ => h1 | ⟨2, _⟩ => h2)

theorem at2 {a b : ℕ} {e : (⟨2, ![a, b]⟩ : Shape).Idx} {i : Fin a} {j : Fin b} (h0 : (e 0).val = i.val) (h1 : (e 1).val = j.val) : e = ix2 i j :=
  funext fun x => Fin.ext (match x with | ⟨0, _⟩ => h0 | ⟨1, _⟩ => h1)

/-- A coordinate of a block's position: along the batch, along the rows, and along an axis the block has whole. -/
theorem lead {i q : ℕ} (h : i = q) : i * 1 + 1 * 0 = q := by omega
theorem inner {i q r : ℕ} (h : i = q) : i * 256 + 1 * r = q * 256 + r := by omega
theorem whole {i n r : ℕ} (h : i = 0) : i * n + 1 * r = r := by rw [h]; omega

/-- Equal at every element of a rank-3 array. -/
theorem ext3 {n0 n1 n2 : Nat} {u v : (⟨3, ![n0, n1, n2]⟩ : Shape).Idx → EReal}
    (h : ∀ a b k, u (ix3 a b k) = v (ix3 a b k)) : u = v := funext fun y => by
  rw [eq_ix3 y]
  exact h _ _ _

/-- Equal at every element of a one-row array. -/
theorem ext_row {n : Nat} {u v : (⟨2, ![1, n]⟩ : Shape).Idx → EReal} (h : ∀ k, u (ix2 0 k) = v (ix2 0 k)) : u = v := funext fun y => by
  rw [eq_ix2 y, show y 0 = (0 : Fin 1) from Subsingleton.elim (α := Fin 1) _ _]
  exact h _

end Cert.Places
-- ==== Proof.InbArr.lean ====
/- The blocks of the input projection's backward kernel as parts of its arrays: an input block's element is an element of the array the
   kernel is entered with, and a result's element is one of the block left by the point that writes it back. -/
module

public import proofs.«01_k».proof.Proof.InbFinal
public import proofs.«01_k».proof.Proof.Places
public import Idealize.ShloMosaic.Lib.StableHlo.ReadAt
public import Idealize.ShloMosaic.Lib.Pipeline.ValueKit.Geometry

@[expose] public section

set_option maxRecDepth 8000

noncomputable section

namespace Cert.InbIdeal.Final

open Idealize.ShloMosaic Idealize.SL.Sem Cert.InbIdeal Cert.InbIdeal.Gen Idealize.ShloMosaic.TcCoe Cert.Stores Cert.Places

variable (m : (ℓ : Loc nD τ sig) → Buf (Elt Ideal) ℓ) (c : Dev nD)

/-- The batch element of a point, the row of its block's row `r` in the projection, and that row's place in the latent stream. -/
def bat (t : Fin cfg0.N) : Fin 4 := ⟨t.val / 9, Nat.div_lt_of_lt_mul (t.isLt.trans_eq N_0)⟩
def pos (t : Fin cfg0.N) (r : Fin 256) : Fin 2304 := ⟨t.val % 9 * 256 + r.val, by have := r.isLt; omega⟩
def lpos (t : Fin cfg0.N) (r : Fin 256) : Fin 2048 := ⟨(t.val % 9 - 1) * 256 + r.val, by have := r.isLt; omega⟩

/-- The blocks along the latent stream, along the projection, one to a batch element, and whole. -/
theorem index_lat : ∀ t : Fin grid0.N, (win0_0.index t 0 = t.val / 9 ∧ win0_0.index t 1 = t.val % 9 - 1 ∧ win0_0.index t 2 = 0)
    ∧ (win0_2.index t 0 = t.val / 9 ∧ win0_2.index t 1 = t.val % 9 - 1 ∧ win0_2.index t 2 = 0)
    ∧ (win0_13.index t 0 = t.val / 9 ∧ win0_13.index t 1 = t.val % 9 - 1 ∧ win0_13.index t 2 = 0) := by decide +kernel

/-- The blocks' indices of the arrays that lie along the projection's rows. -/
def along (t : Fin grid0.N) (w : Fin 8) : Fin 3 → ℕ :=
  ![win0_6.index t, win0_7.index t, win0_8.index t, win0_9.index t, win0_10.index t, win0_11.index t, win0_12.index t, win0_14.index t] w

theorem index_all : ∀ t : Fin grid0.N, ∀ w : Fin 8, along t w 0 = t.val / 9 ∧ along t w 1 = t.val % 9 ∧ along t w 2 = 0 := by decide +kernel

theorem index_batch : ∀ t : Fin grid0.N, (win0_1.index t 0 = t.val / 9 ∧ win0_1.index t 1 = 0 ∧ win0_1.index t 2 = 0)
    ∧ (win0_4.index t 0 = t.val / 9 ∧ win0_4.index t 1 = 0 ∧ win0_4.index t 2 = 0)
    ∧ (win0_16.index t 0 = t.val / 9 ∧ win0_16.index t 1 = 0 ∧ win0_16.index t 2 = 0) := by decide +kernel

theorem index_whole : ∀ t : Fin grid0.N, (win0_3.index t 0 = 0 ∧ win0_3.index t 1 = 0) ∧ (win0_5.index t 0 = 0 ∧ win0_5.index t 1 = 0)
    ∧ (win0_15.index t 0 = 0 ∧ win0_15.index t 1 = 0) := by decide +kernel

/-- The stream's cotangent is written back at the points of latent rows, which are also the points that read the latent stream. -/
theorem flush13 : ∀ t : Fin grid0.N, win0_13.flush t = true ↔ ¬t.val % 9 = 0 := by decide +kernel

theorem con_bit : ∀ t : Fin grid0.N, Scalar.cmpi .eq (BitVec.ofNat 32 ((grid0.coords t) 1).val) 0#32 = if t.val % 9 = 0 then 1#1 else 0#1 := by
  decide +kernel

section Inputs

variable (t : Fin cfg0.N) (r : Fin 256)

theorem blk_con : (blocks m c t).con = if t.val % 9 = 0 then 1#1 else 0#1 := con_bit t

theorem blk_x (k : Fin 1024) : (blocks m c t).x (ix3 0 r k) = V m c main_arg0 (ix3 (bat t) (lpos t r) k) :=
  have h := (index_lat t).1
  congrArg (V m c main_arg0) (at3 (lead h.1) (inner h.2.1) (whole h.2.2))

theorem blk_ctx (k : Fin 1024) : (blocks m c t).ctx (ix3 0 r k) = V m c main_arg1 (ix3 (bat t) r k) :=
  have h := (index_batch t).1
  congrArg (V m c main_arg1) (at3 (lead h.1) (whole h.2.1) (whole h.2.2))

theorem blk_dx1 (k : Fin 1024) : (blocks m c t).dx1 (ix3 0 r k) = V m c main_arg2 (ix3 (bat t) (lpos t r) k) :=
  have h := (index_lat t).2.1
  congrArg (V m c main_arg2) (at3 (lead h.1) (inner h.2.1) (whole h.2.2))

theorem blk_g (k : Fin 1024) : (blocks m c t).g (ix2 0 k) = V m c main_arg3 (ix2 0 k) :=
  have h := (index_whole t).1
  congrArg (V m c main_arg3) (at2 (whole h.1) (whole h.2))

theorem blk_md (i : Fin 8) (k : Fin 1024) : (blocks m c t).md (ix3 0 i k) = V m c main_v5 (ix3 (bat t) i k) :=
  have h := (index_batch t).2.1
  congrArg (V m c main_v5) (at3 (lead h.1) (whole h.2.1) (whole h.2.2))

theorem blk_w (k : Fin 1024) (n : Fin 5632) : (blocks m c t).w (ix2 k n) = V m c main_v7 (ix2 k n) :=
  have h := (index_whole t).2.1
  congrArg (V m c main_v7) (at2 (whole h.1) (whole h.2))

theorem blk_parts (k : Fin 512) : (blocks m c t).ff (ix3 0 r k) = V m c main_arg7 (ix3 (bat t) (pos t r) k)
    ∧ (blocks m c t).fb (ix3 0 r k) = V m c main_arg8 (ix3 (bat t) (pos t r) k)
    ∧ (blocks m c t).vf (ix3 0 r k) = V m c main_arg9 (ix3 (bat t) (pos t r) k)
    ∧ (blocks m c t).vb (ix3 0 r k) = V m c main_arg10 (ix3 (bat t) (pos t r) k)
    ∧ (blocks m c t).qf (ix3 0 r k) = V m c main_arg11 (ix3 (bat t) (pos t r) k)
    ∧ (blocks m c t).qb (ix3 0 r k) = V m c main_arg12 (ix3 (bat t) (pos t r) k) :=
  have h := index_all t
  ⟨congrArg (V m c main_arg7) (at3 (lead (h 0).1) (inner (h 0).2.1) (whole (h 0).2.2)),
    congrArg (V m c main_arg8) (at3 (lead (h 1).1) (inner (h 1).2.1) (whole (h 1).2.2)),
    congrArg (V m c main_arg9) (at3 (lead (h 2).1) (inner (h 2).2.1) (whole (h 2).2.2)),
    congrArg (V m c main_arg10) (at3 (lead (h 3).1) (inner (h 3).2.1) (whole (h 3).2.2)),
    congrArg (V m c main_arg11) (at3 (lead (h 4).1) (inner (h 4).2.1) (whole (h 4).2.2)),
    congrArg (V m c main_arg12) (at3 (lead (h 5).1) (inner (h 5).2.1) (whole (h 5).2.2))⟩

theorem blk_rest (k : Fin 3584) : (blocks m c t).rest (ix3 0 r k) = V m c main_arg13 (ix3 (bat t) (pos t r) k) :=
  have h := index_all t 6
  congrArg (V m c main_arg13) (at3 (lead h.1) (inner h.2.1) (whole h.2.2))

end Inputs

section Results

variable (t : Fin cfg0.N) (r : Fin 256)

theorem arr13 (h : ¬t.val % 9 = 0) (k : Fin 1024) :
    (dats m 0 c).arrAt 13 cfg0.N (ix3 (bat t) (lpos t r) k) = (blocks m c t).out13 (ix3 0 r k) := by
  have i := (index_lat t).2.2
  have hd := Pipeline.Window.hdisj_of_index_inj win0_13 (fun a b ha hb e => Fin.ext (by
    have := (index_lat a).2.2; have := (index_lat b).2.2; have := congrFun e 0; have := congrFun e 1
    have := (flush13 a).mp ha; have := (flush13 b).mp hb; omega))
  have e := congrFun ((dats m 0 c).read_blk_arrAt_eq_flushed 13 hd cfg0.N t t.isLt ((flush13 t).mpr h)) (ix3 0 r k)
  rw [Value.flushed13, (outs_step m c t).2 h] at e
  exact (congrArg ((dats m 0 c).arrAt 13 cfg0.N) (at3 (lead i.1) (inner i.2.1) (whole i.2.2))).symm.trans e

theorem arr14 (k : Fin 5632) : (dats m 0 c).arrAt 14 cfg0.N (ix3 (bat t) (pos t r) k) = (blocks m c t).out14 (ix3 0 r k) := by
  have h := index_all t 7
  have e := congrFun (Value.blocks14 m c t (flush0_14 t)) (ix3 0 r k)
  rw [Value.flushed14, (outs_step m c t).1] at e
  exact (congrArg ((dats m 0 c).arrAt 14 cfg0.N) (at3 (lead h.1) (inner h.2.1) (whole h.2.2))).symm.trans e

theorem arr15 (h : t.val % 36 = 35) (k : Fin 1024) : (dats m 0 c).arrAt 15 cfg0.N (ix2 0 k) = (outsAt0 m c t.val t.isLt).2.2.1 (ix2 0 k) := by
  have i := (index_whole t).2.2
  have hd : ∀ a b : Fin cfg0.N, (cfg0.win 15).flush a = true → (cfg0.win 15).flush b = true → a ≠ b →
      Disjoint ((cfg0.win 15).blk a).view.set ((cfg0.win 15).blk b).view.set := fun a b ha hb n => absurd (Fin.ext (by
    have := a.isLt.trans_eq N_0; have := b.isLt.trans_eq N_0; have := (flush0_15 a).mp ha; have := (flush0_15 b).mp hb; omega)) n
  have e := congrFun ((dats m 0 c).read_blk_arrAt_eq_flushed 15 hd cfg0.N t t.isLt ((flush0_15 t).mpr h)) (ix2 0 k)
  rw [Value.flushed15] at e
  exact (congrArg ((dats m 0 c).arrAt 15 cfg0.N) (at2 (whole i.1) (whole i.2))).symm.trans e

theorem arr16 (h : t.val % 9 = 8) (j : Fin 8) (k : Fin 1024) :
    (dats m 0 c).arrAt 16 cfg0.N (ix3 (bat t) j k) = (outsAt0 m c t.val t.isLt).2.2.2 (ix3 0 j k) := by
  have i := (index_batch t).2.2
  have hd := Pipeline.Window.hdisj_of_index_inj win0_16 (fun a b ha hb e => Fin.ext (by
    have := (index_batch a).2.2.1; have := (index_batch b).2.2.1; have := congrFun e 0
    have := (flush0_16 a).mp ha; have := (flush0_16 b).mp hb; omega))
  have e := congrFun ((dats m 0 c).read_blk_arrAt_eq_flushed 16 hd cfg0.N t t.isLt ((flush0_16 t).mpr h)) (ix3 0 j k)
  rw [Value.flushed16] at e
  exact (congrArg ((dats m 0 c).arrAt 16 cfg0.N) (at3 (lead i.1) (whole i.2.1) (whole i.2.2))).symm.trans e

end Results

/-! The arrays the kernel is entered with, of the arguments. -/

theorem ent_x : V m c main_arg0 = m ((c : Thread nD τ).loc main_arg0) := by unfold V; after_reads_at
theorem ent_ctx : V m c main_arg1 = m ((c : Thread nD τ).loc main_arg1) := by unfold V; after_reads_at
theorem ent_dx1 : V m c main_arg2 = m ((c : Thread nD τ).loc main_arg2) := by unfold V; after_reads_at
theorem ent_g : V m c main_arg3 = m ((c : Thread nD τ).loc main_arg3) := by unfold V; after_reads_at

theorem ent_parts : V m c main_arg7 = m ((c : Thread nD τ).loc main_arg7) ∧ V m c main_arg8 = m ((c : Thread nD τ).loc main_arg8)
    ∧ V m c main_arg9 = m ((c : Thread nD τ).loc main_arg9) ∧ V m c main_arg10 = m ((c : Thread nD τ).loc main_arg10)
    ∧ V m c main_arg11 = m ((c : Thread nD τ).loc main_arg11) ∧ V m c main_arg12 = m ((c : Thread nD τ).loc main_arg12)
    ∧ V m c main_arg13 = m ((c : Thread nD τ).loc main_arg13) := by
  refine ⟨?_, ?_, ?_, ?_, ?_, ?_, ?_⟩ <;> (unfold V; after_reads_at)

theorem ent_md (b : Fin 4) (i : Fin 8) (k : Fin 1024) : V m c main_v5 (ix3 b i k)
    = (if h : i.val < 2 then (m ((c : Thread nD τ).loc main_arg4) (ix3 b ⟨i.val, by omega⟩ k) : EReal)
      else if h : i.val - 2 < 2 then (m ((c : Thread nD τ).loc main_arg5) (ix2 ⟨i.val - 2, by omega⟩ k) : EReal) else 0 : EReal) := by
  unfold V; after_reads_at
  split_ifs <;> after_reads_at

theorem ent_sx (b : Fin 4) (k : Fin 1024) : V m c main_v5 (ix3 b 1 k) = m ((c : Thread nD τ).loc main_arg4) (ix3 b 1 k) := ent_md m c b 1 k
theorem ent_sc (b : Fin 4) (k : Fin 1024) : V m c main_v5 (ix3 b 3 k) = m ((c : Thread nD τ).loc main_arg5) (ix2 1 k) := ent_md m c b 3 k

theorem ent_w (k : Fin 1024) (n : Fin 5632) : V m c main_v7 (ix2 k n) = m ((c : Thread nD τ).loc main_arg6) (ix3 0 k n) := by
  unfold V; after_reads_at

end Cert.InbIdeal.Final

end
-- ==== Proof.InbKernel.lean ====
/- One block of rows through the backward kernel of the input projection: each word the kernel forms is the stage over the reals. -/
module

public import proofs.«01_k».proof.Proof.Gen.InbIdeal.Skeleton
public import proofs.«01_k».proof.Proof.InbReal

@[expose] public section

set_option maxRecDepth 8000

noncomputable section

namespace Cert.InbIdeal.Final

open Idealize.ShloMosaic Idealize.SL.Sem Cert.InbIdeal Cert.InbIdeal.Gen Idealize.ShloMosaic.TcCoe Cert.Reals Cert.Norms Cert.Inb

abbrev Grid {n : ℕ} (v : (⟨2, ![256, n]⟩ : Shape).Idx → EReal) (f : Fin 256 → Fin n → ℝ) : Prop := ∀ r k, v (ix2 r k) = ((f r k : ℝ) : EReal)
abbrev Block {n : ℕ} (v : (⟨3, ![1, 256, n]⟩ : Shape).Idx → EReal) (f : Fin 256 → Fin n → ℝ) : Prop := ∀ r k, v (ix3 0 r k) = ((f r k : ℝ) : EReal)
abbrev Line (v : (⟨2, ![1, 1024]⟩ : Shape).Idx → EReal) (f : Fin 1024 → ℝ) : Prop := ∀ k, v (ix2 0 k) = ((f k : ℝ) : EReal)

variable {E : Env} {x : Fin 256 → Fin 1024 → ℝ} {d : Fin 256 → Fin 5632 → ℝ} {a b vf vb qf qb : Fin 256 → Fin 512 → ℝ} {rest : Fin 256 → Fin 3584 → ℝ}

theorem word_dp {X0 X1 X2 X3 : Vec Ideal S1x256x512 .f32} {X4 X5 : Vec Ideal S1x256x512 .bf16} {X6 : Vec Ideal S1x256x3584 .bf16}
    (h0 : Block X0 vf) (h1 : Block X1 vb) (h2 : Block X2 qf) (h3 : Block X3 qb) (h4 : Block X4 a) (h5 : Block X5 b) (h6 : Block X6 rest) :
    Grid (k0_pay10 X0 X1 X2 X3 X4 X5 X6) (fun r => parts (a r) (b r) (fun k => vf r k + vb r k) (fun k => qf r k + qb r k) (rest r)) := by
  intro r n
  unfold_payloads
  pointwise
  simp only [h0 r, h1 r, h2 r, h3 r, h4 r, h5 r, h6 r, ← EReal.coe_add]
  unfold parts
  split_ifs <;> rfl

theorem word_dp3 {D : FVec Ideal S256x5632 .bf16} (hD : Grid D d) :
    Block (k0_pay11 D) d := by
  intro r k
  unfold_payloads
  pointwise
  simp only [hD, word_eps, word_1024, FloatOps.ofBits, Ideal.ofBits_one_f32, ← EReal.coe_one, ← EReal.coe_mul, coe_sum, div_1024, ← EReal.coe_add, ← EReal.coe_sub, coe_rms_sum, coe_rms]

theorem word_dh {D : FVec Ideal S256x5632 .bf16} {w : Vec Ideal S1024x5632 .bf16} (hD : Grid D d) (hw : ∀ k n, w (ix2 k n) = ((E.w k n : ℝ) : EReal)) :
    Grid (k0_pay12 D w) (fun r => E.dh (d r)) := by
  intro r k
  unfold_payloads
  pointwise
  simp only [hD, hw, word_eps, word_1024, FloatOps.ofBits, Ideal.ofBits_one_f32, ← EReal.coe_one, ← EReal.coe_mul, coe_sum, div_1024, ← EReal.coe_add, ← EReal.coe_sub, coe_rms_sum, coe_rms]
  rfl

theorem word_sc {z : BitVec 1} {C X : Vec Ideal S1x1x1024 .f32} (hX : ∀ k, Scalar.select z (C (ix3 0 0 k)) (X (ix3 0 0 k)) = ((E.sc k : ℝ) : EReal)) :
    Line (k0_pay14 z C X) E.sc := by
  intro k
  unfold_payloads
  pointwise
  simp only [hX, word_eps, word_1024, FloatOps.ofBits, Ideal.ofBits_one_f32, ← EReal.coe_one, ← EReal.coe_mul, coe_sum, div_1024, ← EReal.coe_add, ← EReal.coe_sub, coe_rms_sum, coe_rms]

theorem word_rr {z : BitVec 1} {C X : Vec Ideal S1x256x1024 .f32} (hX : ∀ r k, Scalar.select z (C (ix3 0 r k)) (X (ix3 0 r k)) = ((x r k : ℝ) : EReal)) :
    ∀ r, k0_pay15 z C X (ix2 r 0) = ((rms (x r) : ℝ) : EReal) := by
  intro r
  unfold_payloads
  pointwise
  simp only [hX, word_eps, word_1024, FloatOps.ofBits, Ideal.ofBits_one_f32, ← EReal.coe_one, ← EReal.coe_mul, coe_sum, div_1024, ← EReal.coe_add, ← EReal.coe_sub, coe_rms_sum, coe_rms]

theorem word_xn {z : BitVec 1} {C X : Vec Ideal S1x256x1024 .f32} (hX : ∀ r k, Scalar.select z (C (ix3 0 r k)) (X (ix3 0 r k)) = ((x r k : ℝ) : EReal)) :
    Grid (k0_pay16 z C X) (fun r => Env.xn (x r)) := by
  intro r k
  unfold_payloads
  pointwise
  simp only [hX, word_eps, word_1024, FloatOps.ofBits, Ideal.ofBits_one_f32, ← EReal.coe_one, ← EReal.coe_mul, coe_sum, div_1024, ← EReal.coe_add, ← EReal.coe_sub, coe_rms_sum, coe_rms]
  rfl

theorem word_dshift {D : FVec Ideal S256x5632 .bf16} {w : Vec Ideal S1024x5632 .bf16} (hD : Grid D d) (hw : ∀ k n, w (ix2 k n) = ((E.w k n : ℝ) : EReal)) :
    Line (k0_pay17 D w) (fun k => ∑ r, E.dh (d r) k) := by
  intro k
  unfold_payloads
  pointwise
  simp only [hD, hw, word_eps, word_1024, FloatOps.ofBits, Ideal.ofBits_one_f32, ← EReal.coe_one, ← EReal.coe_mul, coe_sum, div_1024, ← EReal.coe_add, ← EReal.coe_sub, coe_rms_sum, coe_rms]
  rfl

theorem word_dscale {D : FVec Ideal S256x5632 .bf16} {w : Vec Ideal S1024x5632 .bf16} {g : Vec Ideal S1x1024 .f32} {z : BitVec 1} {C X : Vec Ideal S1x256x1024 .f32} (hX : ∀ r k, Scalar.select z (C (ix3 0 r k)) (X (ix3 0 r k)) = ((x r k : ℝ) : EReal)) (hD : Grid D d) (hw : ∀ k n, w (ix2 k n) = ((E.w k n : ℝ) : EReal)) (hg : Line g E.g) :
    Line (k0_pay18 z D w C X g) (fun k => ∑ r, E.dsc (x r) (d r) k) := by
  intro k
  unfold_payloads
  pointwise
  simp only [hX, hD, hw, hg, word_eps, word_1024, FloatOps.ofBits, Ideal.ofBits_one_f32, ← EReal.coe_one, ← EReal.coe_mul, coe_sum, div_1024, ← EReal.coe_add, ← EReal.coe_sub, coe_rms_sum, coe_rms]
  rfl

theorem word_dg {v33 v53 : FVec Ideal S256x1024 .f32} {v43 : FVec Ideal S1x1024 .f32} (t : Vec Ideal S1x1024 .f32) (h33 : Grid v33 (fun r => E.dh (d r))) (h43 : Line v43 E.sc) (h53 : Grid v53 (fun r => Env.xn (x r))) (k : Fin 1024) :
    k0_pay2 v33 v43 v53 (FloatOps.ofBits (F := Ideal) FTy.f32 0x3F800000#32) t (ix2 0 k) = t (ix2 0 k) + ((∑ r, E.dg (x r) (d r) k : ℝ) : EReal) := by
  unfold_payloads
  pointwise
  simp only [h33, h43, h53, word_eps, word_1024, FloatOps.ofBits, Ideal.ofBits_one_f32, ← EReal.coe_one, ← EReal.coe_mul, coe_sum, div_1024, ← EReal.coe_add, ← EReal.coe_sub, coe_rms_sum, coe_rms]
  rfl

theorem word_dx {v33 v53 : FVec Ideal S256x1024 .f32} {v43 g : FVec Ideal S1x1024 .f32} {v51 : FVec Ideal S256x1 .f32} (t : Vec Ideal S1x256x1024 .f32) (h33 : Grid v33 (fun r => E.dh (d r))) (h43 : Line v43 E.sc) (h51 : ∀ r, v51 (ix2 r 0) = ((rms (x r) : ℝ) : EReal)) (h53 : Grid v53 (fun r => Env.xn (x r))) (hg : Line g E.g) (r : Fin 256) (k : Fin 1024) :
    k0_pay7 v33 v43 v51 v53 g (FloatOps.ofBits (F := Ideal) FTy.f32 0x3F800000#32) t (ix3 0 r k) = ((E.dx (x r) (d r) k : ℝ) : EReal) + t (ix3 0 r k) := by
  unfold_payloads
  pointwise
  simp only [h33, h43, h51, h53, hg, word_eps, word_1024, FloatOps.ofBits, Ideal.ofBits_one_f32, ← EReal.coe_one, ← EReal.coe_mul, coe_sum, div_1024, ← EReal.coe_add, ← EReal.coe_sub, coe_rms_sum, coe_rms]
  rfl

/-- The four words that add to a row of the modulation's cotangent. -/
theorem word_row {v : FVec Ideal S1x1024 .f32} {f : Fin 1024 → ℝ} (h : Line v f) (t : Vec Ideal S1x1x1024 .f32) (k : Fin 1024) :
    k0_pay3 v t (ix3 0 0 k) = t (ix3 0 0 k) + ((f k : ℝ) : EReal) ∧ k0_pay4 v t (ix3 0 0 k) = t (ix3 0 0 k) + ((f k : ℝ) : EReal)
    ∧ k0_pay5 v t (ix3 0 0 k) = t (ix3 0 0 k) + ((f k : ℝ) : EReal) ∧ k0_pay6 v t (ix3 0 0 k) = t (ix3 0 0 k) + ((f k : ℝ) : EReal) := by
  refine ⟨?_, ?_, ?_, ?_⟩ <;> (unfold_payloads; pointwise; simp only [h])

end Cert.InbIdeal.Final

end
-- ==== Proof.InbSum.lean ====
/- The results of the input projection's backward kernel, whole arrays, over the reals: its rows' cotangents, and the sums over the rows
   of both streams. -/
module

public import proofs.«01_k».proof.Proof.InbArr
public import proofs.«01_k».proof.Proof.InbKernel
public import proofs.«01_k».proof.Proof.Sums

@[expose] public section

set_option maxRecDepth 8000

noncomputable section

namespace Cert.InbIdeal.Final

open Idealize.ShloMosaic Idealize.SL.Sem Cert.InbIdeal Cert.InbIdeal.Gen Idealize.ShloMosaic.TcCoe Cert.Stores Cert.Reals Cert.Norms Cert.Inb

/-- The input blocks hold the rows `x` and their projection's cotangents `d`, in the environment `E`. -/
structure Holds (p : Blocks Ideal) (E : Env) (x : Fin 256 → Fin 1024 → ℝ) (d : Fin 256 → Fin 5632 → ℝ) : Prop where
  x : ∀ r k, Scalar.select p.con (p.ctx (ix3 0 r k)) (p.x (ix3 0 r k)) = ((x r k : ℝ) : EReal)
  sc : ∀ k, Scalar.select p.con (p.md (ix3 0 3 k)) (p.md (ix3 0 1 k)) = ((E.sc k : ℝ) : EReal)
  g : Line p.g E.g
  w : ∀ k n, p.w (ix2 k n) = ((E.w k n : ℝ) : EReal)
  dp : Grid p.dp d

namespace Holds

variable {p : Blocks Ideal} {E : Env} {x : Fin 256 → Fin 1024 → ℝ} {d : Fin 256 → Fin 5632 → ℝ} (h : Holds p E x d)

include h

theorem dh : Grid p.dh (fun r => E.dh (d r)) := word_dh h.dp h.w
theorem hsc : Line p.sc E.sc := word_sc fun k => h.sc k
theorem rr : ∀ r, p.rr (ix2 r 0) = ((rms (x r) : ℝ) : EReal) := word_rr h.x
theorem xn : Grid p.xn (fun r => Env.xn (x r)) := word_xn h.x

theorem out13 (r : Fin 256) (k : Fin 1024) : p.out13 (ix3 0 r k) = ((E.dx (x r) (d r) k : ℝ) : EReal) + p.dx1 (ix3 0 r k) :=
  word_dx p.dx1 h.dh h.hsc h.rr h.xn h.g r k

theorem out14 : Block p.out14 d := word_dp3 h.dp

theorem out15 (z : Vec Ideal S1x1024 .f32) (k : Fin 1024) : p.out15 z (ix2 0 k) = z (ix2 0 k) + ((∑ r, E.dg (x r) (d r) k : ℝ) : EReal) :=
  word_dg z h.dh h.hsc h.xn k

/-- The rows of the modulation's cotangent, after a point of latent rows and after one of context rows. -/
theorem out16l (z : Vec Ideal S1x8x1024 .f32) (j : Fin 8) (k : Fin 1024) :
    p.out16l z (ix3 0 j k) = z (ix3 0 j k) + ((∑ r, E.rowl (x r) (d r) j.val k : ℝ) : EReal) := by
  have e0 := (word_row (word_dshift h.dp h.w) (row 0 z) k).2.2.1
  have e1 := (word_row (word_dscale h.x h.dp h.w h.g) (row 1 z) k).2.2.2
  rw [row_apply] at e0 e1
  unfold Blocks.out16l Env.rowl
  rw [setRow_apply, setRow_apply]
  fin_cases j <;> first | (simp [e0, e1]; done) | simpa using e1

theorem out16c (z : Vec Ideal S1x8x1024 .f32) (j : Fin 8) (k : Fin 1024) :
    p.out16c z (ix3 0 j k) = z (ix3 0 j k) + ((∑ r, E.rowc (x r) (d r) j.val k : ℝ) : EReal) := by
  have e0 := (word_row (word_dshift h.dp h.w) (row 2 z) k).1
  have e1 := (word_row (word_dscale h.x h.dp h.w h.g) (row 3 z) k).2.1
  rw [row_apply] at e0 e1
  unfold Blocks.out16c Env.rowc
  rw [setRow_apply, setRow_apply]
  fin_cases j <;> first | (simp [e0, e1]; done) | simpa using e1

end Holds

variable (m : (ℓ : Loc nD τ sig) → Buf (Elt Ideal) ℓ) (c : Dev nD) (A : Arrays)

/-- The kernel's arguments are the reals `A`, of the modulations only the scale. -/
structure Args : Prop where
  x : ∀ b s k, m ((c : Thread nD τ).loc main_arg0) (ix3 b s k) = ((A.x b s k : ℝ) : EReal)
  ctx : ∀ b s k, m ((c : Thread nD τ).loc main_arg1) (ix3 b s k) = ((A.ctx b s k : ℝ) : EReal)
  g : ∀ k, m ((c : Thread nD τ).loc main_arg3) (ix2 0 k) = ((A.g k : ℝ) : EReal)
  sx : ∀ b k, m ((c : Thread nD τ).loc main_arg4) (ix3 b 1 k) = ((A.sx b k : ℝ) : EReal)
  sc : ∀ k, m ((c : Thread nD τ).loc main_arg5) (ix2 1 k) = ((A.sc k : ℝ) : EReal)
  w : ∀ k n, m ((c : Thread nD τ).loc main_arg6) (ix3 0 k n) = ((A.w k n : ℝ) : EReal)
  ff : ∀ b s k, m ((c : Thread nD τ).loc main_arg7) (ix3 b s k) = ((A.ff b s k : ℝ) : EReal)
  fb : ∀ b s k, m ((c : Thread nD τ).loc main_arg8) (ix3 b s k) = ((A.fb b s k : ℝ) : EReal)
  vf : ∀ b s k, m ((c : Thread nD τ).loc main_arg9) (ix3 b s k) = ((A.vf b s k : ℝ) : EReal)
  vb : ∀ b s k, m ((c : Thread nD τ).loc main_arg10) (ix3 b s k) = ((A.vb b s k : ℝ) : EReal)
  qf : ∀ b s k, m ((c : Thread nD τ).loc main_arg11) (ix3 b s k) = ((A.qf b s k : ℝ) : EReal)
  qb : ∀ b s k, m ((c : Thread nD τ).loc main_arg12) (ix3 b s k) = ((A.qb b s k : ℝ) : EReal)
  rest : ∀ b s k, m ((c : Thread nD τ).loc main_arg13) (ix3 b s k) = ((A.rest b s k : ℝ) : EReal)

/-- What a point's rows share, and its rows: the context's at the first point of a batch element, the latent ones after. -/
def envAt (t : Fin cfg0.N) : Env := if t.val % 9 = 0 then A.con else A.lat (bat t)
def rowsAt (t : Fin cfg0.N) (r : Fin 256) : Fin 1024 → ℝ := if t.val % 9 = 0 then A.ctx (bat t) r else A.x (bat t) (lpos t r)

variable {m c A} (H : Args m c A)

include H

theorem holds (t : Fin cfg0.N) : Holds (blocks m c t) (envAt A t) (rowsAt A t) (fun r => A.dp (bat t) (pos t r)) where
  x r k := by
    rw [blk_con, blk_x, blk_ctx, ent_x, ent_ctx, H.x, H.ctx]; unfold rowsAt
    split_ifs <;> rfl
  sc k := by
    rw [blk_con, blk_md, blk_md, ent_sx, ent_sc, H.sx, H.sc]; unfold envAt
    split_ifs <;> rfl
  g k := by rw [blk_g, ent_g, H.g]; unfold envAt; split_ifs <;> rfl
  w k n := by rw [blk_w, ent_w, H.w]; unfold envAt; split_ifs <;> rfl
  dp := by
    obtain ⟨e7, e8, e9, e10, e11, e12, e13⟩ := ent_parts m c
    refine word_dp (fun r k => ?_) (fun r k => ?_) (fun r k => ?_) (fun r k => ?_) (fun r k => ?_) (fun r k => ?_) (fun r k => ?_)
    · exact (blk_parts m c t r k).2.2.1.trans ((congrFun e9 _).trans (H.vf _ _ _))
    · exact (blk_parts m c t r k).2.2.2.1.trans ((congrFun e10 _).trans (H.vb _ _ _))
    · exact (blk_parts m c t r k).2.2.2.2.1.trans ((congrFun e11 _).trans (H.qf _ _ _))
    · exact (blk_parts m c t r k).2.2.2.2.2.trans ((congrFun e12 _).trans (H.qb _ _ _))
    · exact (blk_parts m c t r k).1.trans ((congrFun e7 _).trans (H.ff _ _ _))
    · exact (blk_parts m c t r k).2.1.trans ((congrFun e8 _).trans (H.fb _ _ _))
    · exact (blk_rest m c t r k).trans ((congrFun e13 _).trans (H.rest _ _ _))

omit H in
/-- Every row of the projection lies in a block, and so does every latent row. -/
theorem exists_point (b : Fin 4) (s : Fin 2304) : ∃ (t : Fin cfg0.N) (r : Fin 256), bat t = b ∧ pos t r = s :=
  ⟨⟨b.val * 9 + s.val / 256, by rw [show cfg0.N = 36 from N_0]; omega⟩, ⟨s.val % 256, by omega⟩, Fin.ext (by show (b.val * 9 + s.val / 256) / 9 = b.val; omega),
    Fin.ext (by show (b.val * 9 + s.val / 256) % 9 * 256 + s.val % 256 = s.val; omega)⟩

omit H in
theorem exists_latent (b : Fin 4) (s : Fin 2048) : ∃ (t : Fin cfg0.N) (r : Fin 256), ¬t.val % 9 = 0 ∧ bat t = b ∧ lpos t r = s
    ∧ pos t r = ⟨256 + s.val, by omega⟩ :=
  ⟨⟨b.val * 9 + (s.val / 256 + 1), by rw [show cfg0.N = 36 from N_0]; omega⟩, ⟨s.val % 256, by omega⟩,
    by show ¬(b.val * 9 + (s.val / 256 + 1)) % 9 = 0; omega, Fin.ext (by show (b.val * 9 + (s.val / 256 + 1)) / 9 = b.val; omega),
    Fin.ext (by show ((b.val * 9 + (s.val / 256 + 1)) % 9 - 1) * 256 + s.val % 256 = s.val; omega),
    Fin.ext (by show (b.val * 9 + (s.val / 256 + 1)) % 9 * 256 + s.val % 256 = 256 + s.val; omega)⟩

theorem final13 (b : Fin 4) (s : Fin 2048) (k : Fin 1024) :
    (dats m 0 c).arrAt 13 cfg0.N (ix3 b s k) = (((A.lat b).dx (A.x b s) (A.dl b s) k : ℝ) : EReal) + m ((c : Thread nD τ).loc main_arg2) (ix3 b s k) := by
  obtain ⟨t, r, h, rfl, rfl, e⟩ := exists_latent b s
  refine (arr13 m c t r h k).trans (((holds H t).out13 r k).trans ?_)
  rw [blk_dx1, ent_dx1]
  simp only [envAt, rowsAt, if_neg h, e]
  rfl

theorem final14 (b : Fin 4) (s : Fin 2304) (k : Fin 5632) : (dats m 0 c).arrAt 14 cfg0.N (ix3 b s k) = ((A.dp b s k : ℝ) : EReal) := by
  obtain ⟨t, r, rfl, rfl⟩ := exists_point b s
  exact (arr14 m c t r k).trans ((holds H t).out14 r k)

omit H in
theorem lt_N {n : ℕ} (h : n < 36) : n < cfg0.N := h.trans_eq N_0.symm

omit H in
/-- A sum over the points of a batch element and their rows: the context's rows and the latent ones. -/
theorem sum_batch (f : Env → (Fin 1024 → ℝ) → (Fin 5632 → ℝ) → ℝ) (fc : Env → (Fin 1024 → ℝ) → (Fin 5632 → ℝ) → ℝ) (b : Fin 4) :
    ∑ j : Fin 9, ∑ r, (if (b.val * 9 + j.val) % 9 = 0 then fc else f) (envAt A ⟨b.val * 9 + j.val, lt_N (by omega)⟩)
        (rowsAt A ⟨b.val * 9 + j.val, lt_N (by omega)⟩ r)
        (A.dp (bat ⟨b.val * 9 + j.val, lt_N (by omega)⟩) (pos ⟨b.val * 9 + j.val, lt_N (by omega)⟩ r))
      = ∑ s, fc A.con (A.ctx b s) (A.dc b s) + ∑ s, f (A.lat b) (A.x b s) (A.dl b s) := by
  have hb (j : Fin 9) : bat ⟨b.val * 9 + j.val, lt_N (by omega)⟩ = b := Fin.ext (by show (b.val * 9 + j.val) / 9 = b.val; omega)
  have hp (j : Fin 9) (r : Fin 256) : pos ⟨b.val * 9 + j.val, lt_N (by omega)⟩ r = ⟨j.val * 256 + r.val, by omega⟩ :=
    Fin.ext (by show (b.val * 9 + j.val) % 9 * 256 + r.val = j.val * 256 + r.val; omega)
  rw [Fin.sum_univ_succ]
  refine congrArg₂ (· + ·) (Finset.sum_congr rfl fun r _ => ?_) ?_
  · have h : (b.val * 9 + (0 : Fin 9).val) % 9 = 0 := by simp
    unfold envAt rowsAt
    simp only [if_pos h, hb, hp]
    refine congrArg (fc _ _) (congrArg (A.dp b) (Fin.ext ?_))
    simp
  · rw [sum_blocks 8 256 (fun s => f (A.lat b) (A.x b s) (A.dl b s))]
    refine Finset.sum_congr rfl fun j _ => Finset.sum_congr rfl fun r _ => ?_
    have h : ¬(b.val * 9 + j.succ.val) % 9 = 0 := by rw [Fin.val_succ]; omega
    have hl : lpos ⟨b.val * 9 + j.succ.val, lt_N (by omega)⟩ r = ⟨j.val * 256 + r.val, by omega⟩ :=
      Fin.ext (by show ((b.val * 9 + j.succ.val) % 9 - 1) * 256 + r.val = j.val * 256 + r.val; rw [Fin.val_succ]; omega)
    unfold envAt rowsAt
    simp only [if_neg h, hb, hp, hl]
    exact congrArg (f _ _) (congrArg (A.dp b) (Fin.ext (by show j.succ.val * 256 + r.val = 256 + (j.val * 256 + r.val); rw [Fin.val_succ]; omega)))

theorem final15 (k : Fin 1024) : (dats m 0 c).arrAt 15 cfg0.N (ix2 0 k)
    = (((∑ b, ∑ s, (A.lat b).dg (A.x b s) (A.dl b s) k) + ∑ b, ∑ s, A.con.dg (A.ctx b s) (A.dc b s) k : ℝ) : EReal) := by
  have e := Sums.sum_of_step (N := cfg0.N) (p := 36) (fun n hn => (outsAt0 m c n hn).2.2.1 (ix2 0 k))
    (fun n hn => ∑ r, (envAt A ⟨n, hn⟩).dg (rowsAt A ⟨n, hn⟩ r) (A.dp (bat ⟨n, hn⟩) (pos ⟨n, hn⟩ r)) k) (fun n hn => by
      rw [(outs_step m c ⟨n, hn⟩).1]
      refine ((holds H ⟨n, hn⟩).out15 _ k).trans (congrArg (· + _) ?_)
      split_ifs
      · unfold_payloads; pointwise
      · rfl) 0 35 (by omega) (lt_N (by omega))
  refine (arr15 m c ⟨0 * 36 + 35, lt_N (by omega)⟩ rfl k).trans (e.trans (congrArg Real.toEReal ?_))
  refine (sum_blocks 4 9 _).trans (Eq.trans ?_ ((Finset.sum_add_distrib).trans (add_comm _ _)))
  refine Finset.sum_congr rfl fun b _ => ?_
  rw [← sum_batch (fun E x d => E.dg x d k) (fun E x d => E.dg x d k) b]
  refine Finset.sum_congr rfl fun j _ => Finset.sum_congr rfl fun r _ => ?_
  simp only [Nat.zero_mul, Nat.zero_add, ite_self]

theorem final16 (b : Fin 4) (j : Fin 8) (k : Fin 1024) : (dats m 0 c).arrAt 16 cfg0.N (ix3 b j k)
    = ((∑ s, A.con.rowc (A.ctx b s) (A.dc b s) j.val k + ∑ s, (A.lat b).rowl (A.x b s) (A.dl b s) j.val k : ℝ) : EReal) := by
  have e := Sums.sum_of_step (N := cfg0.N) (p := 9) (fun n hn => (outsAt0 m c n hn).2.2.2 (ix3 0 j k))
    (fun n hn => ∑ r, (if n % 9 = 0 then fun E x d => Env.rowc E x d j.val k else fun E x d => Env.rowl E x d j.val k)
      (envAt A ⟨n, hn⟩) (rowsAt A ⟨n, hn⟩ r) (A.dp (bat ⟨n, hn⟩) (pos ⟨n, hn⟩ r))) (fun n hn => by
      rw [(outs_step m c ⟨n, hn⟩).1]
      dsimp only
      split_ifs
      · refine ((holds H ⟨n, hn⟩).out16c _ j k).trans (congrArg (· + _) ?_)
        unfold_payloads; pointwise
      · exact (holds H ⟨n, hn⟩).out16l _ j k) b.val 8 (by omega) (lt_N (by omega))
  have hb : bat ⟨b.val * 9 + 8, lt_N (by omega)⟩ = b := Fin.ext (by show (b.val * 9 + 8) / 9 = b.val; omega)
  have o := arr16 m c ⟨b.val * 9 + 8, lt_N (by omega)⟩ (by show (b.val * 9 + 8) % 9 = 8; omega) j k
  rw [hb] at o
  exact o.trans (e.trans (congrArg Real.toEReal (sum_batch _ _ b)))

end Cert.InbIdeal.Final

end
-- ==== Proof.InbClaims.lean ====
/- The claims about the input projection's backward: it runs to its end and keeps its arguments, so does the reference, and the two
   leave equal arrays wherever the arguments the gradients are products of are finite. -/
module

public import proofs.«01_k».proof.Defs
public import proofs.«01_k».proof.Proof.InbRef
public import proofs.«01_k».proof.Proof.InbSum
public import proofs.«01_k».proof.Proof.Gen.Inb.Frame
public import proofs.«01_k».proof.Proof.Gen.InbRefIdeal.Run
public import proofs.«01_k».proof.Proof.Gen.Pre_in_finite
public import Idealize.ShloMosaic.Lib.Quiescent

@[expose] public section

noncomputable section

namespace Cert.InbIdeal.Final

open Idealize.ShloMosaic Idealize.SL.Sem Cert.InbIdeal Cert.InbIdeal.Gen Idealize.ShloMosaic.TcCoe Cert.Reals Cert.Places Cert.Inb

/-- The reference runs to its end, keeps its arguments and leaves every semaphore at zero. -/
theorem frame_ref : Cert.quiescent_InbRefIdeal := fun m ρ _ =>
  (θ_run Cert.InbRefIdeal.defs _ _).mono (fun r h => ⟨fun c => (h c).2.2.2.2, sem_eq_zero_of_no_sems (by decide) r.2⟩)
    (Cert.InbRefIdeal.Value.run (F := Ideal) m ρ)

/-- The call and the reference leave equal arrays. -/
theorem value : Cert.algebraic_InbIdeal_InbRefIdeal_pre_in_finite := by
  intro m ρ m' ρ' hpre hagree
  refine ⟨_, _, _, _, Value.run_blocks m ρ, ?_⟩
  refine (θ_run Cert.InbRefIdeal.defs _ _).mono (fun r h c => ?_) (Cert.InbRefIdeal.Value.run (F := Ideal) m' ρ')
  obtain ⟨p0, p1, p3, p4, p5, p6, p7, p8, p9, p10, p11, p12, p13⟩ := hpre c
  obtain ⟨r0, h0⟩ := reals_of_finite _ _ (fun _ => rfl) p0
  obtain ⟨r1, h1⟩ := reals_of_finite _ _ (fun _ => rfl) p1
  obtain ⟨r3, h3⟩ := reals_of_finite _ _ (fun _ => rfl) p3
  obtain ⟨r4, h4⟩ := reals_of_finite _ _ (fun _ => rfl) p4
  obtain ⟨r5, h5⟩ := reals_of_finite _ _ (fun _ => rfl) p5
  obtain ⟨r6, h6⟩ := reals_of_finite _ _ (fun _ => rfl) p6
  obtain ⟨r7, h7⟩ := reals_of_finite _ _ (fun _ => rfl) p7
  obtain ⟨r8, h8⟩ := reals_of_finite _ _ (fun _ => rfl) p8
  obtain ⟨r9, h9⟩ := reals_of_finite _ _ (fun _ => rfl) p9
  obtain ⟨r10, h10⟩ := reals_of_finite _ _ (fun _ => rfl) p10
  obtain ⟨r11, h11⟩ := reals_of_finite _ _ (fun _ => rfl) p11
  obtain ⟨r12, h12⟩ := reals_of_finite _ _ (fun _ => rfl) p12
  obtain ⟨r13, h13⟩ := reals_of_finite _ _ (fun _ => rfl) p13
  let A : Arrays := ⟨fun b s k => r0 (ix3 b s k), fun b s k => r1 (ix3 b s k), fun k => r3 (ix2 0 k), fun b k => r4 (ix2 b k), fun k => r5 (ix1 k),
    fun k n => r6 (ix3 0 k n), fun b s k => r7 (ix3 b s k), fun b s k => r8 (ix3 b s k), fun b s k => r9 (ix3 b s k), fun b s k => r10 (ix3 b s k),
    fun b s k => r11 (ix3 b s k), fun b s k => r12 (ix3 b s k), fun b s k => r13 (ix3 b s k)⟩
  have K : Args m c A := ⟨fun _ _ _ => h0 _, fun _ _ _ => h1 _, fun _ => h3 _, fun b k => by have e := h4 (ix2 b k); pointwise at e; exact e,
    fun k => by have e := h5 (ix1 k); pointwise at e; exact e, fun _ _ => h6 _, fun _ _ _ => h7 _, fun _ _ _ => h8 _, fun _ _ _ => h9 _, fun _ _ _ => h10 _,
    fun _ _ _ => h11 _, fun _ _ _ => h12 _, fun _ _ _ => h13 _⟩
  obtain ⟨a0, a1, a2, a3, a4, a5, a6, a7, a8, a9, a10, a11, a12, a13⟩ := hagree c
  have R := Cert.InbRefIdeal.Read.Args.mk (A := A) (fun b s k => (congrFun a0 _).trans (K.x b s k)) (fun b s k => (congrFun a1 _).trans (K.ctx b s k))
    (fun k => (congrFun a3 _).trans (K.g k)) (fun b k => (congrFun a4 _).trans (K.sx b k)) (fun k => (congrFun a5 _).trans (K.sc k))
    (fun k n => (congrFun a6 _).trans (K.w k n)) (fun b s k => (congrFun a7 _).trans (K.ff b s k)) (fun b s k => (congrFun a8 _).trans (K.fb b s k))
    (fun b s k => (congrFun a9 _).trans (K.vf b s k)) (fun b s k => (congrFun a10 _).trans (K.vb b s k))
    (fun b s k => (congrFun a11 _).trans (K.qf b s k)) (fun b s k => (congrFun a12 _).trans (K.qb b s k))
    (fun b s k => (congrFun a13 _).trans (K.rest b s k))
  obtain ⟨e0, e1, e2, e3, kept⟩ := h c
  refine ⟨e0.trans ((Cert.InbRefIdeal.Read.val_main_v112_eq _).trans ?_), e1.trans ((Cert.InbRefIdeal.Read.val_main_v154_eq _).trans ?_),
    e2.trans ((Cert.InbRefIdeal.Read.val_main_v149_eq _).trans ?_), e3.trans ((Cert.InbRefIdeal.Read.val_main_v153_eq _).trans ?_), kept⟩
  · exact ext3 fun b s k => (Cert.InbRefIdeal.Read.res_dx R b s k).trans ((congrArg (fun z : EReal => z + _) (congrFun a2 _)).trans ((add_comm _ _).trans (final13 K b s k).symm))
  · exact ext3 fun b s k => (Cert.InbRefIdeal.Read.res_dp R b s k).trans (final14 K b s k).symm
  · exact ext_row fun k => (Cert.InbRefIdeal.Read.res_dg R k).trans (final15 K k).symm
  · exact ext3 fun b j k => (Cert.InbRefIdeal.Read.res_rows R b j k).trans (final16 K b j k).symm

end Cert.InbIdeal.Final

end
-- ==== Proof.MixbReal.lean ====
/- The token mixers past the recurrence over the reals: the stages of the forward pass and their cotangents. A row is what the call
   reads at one position; the spatial gating mixes the positions of a chunk of 128. -/
module

public import proofs.«01_k».proof.Proof.Norms

@[expose] public section

noncomputable section

namespace Cert.Mixb

open Idealize.ShloMosaic Cert.Reals Cert.Norms

/-- The head of a column, its place in the head, and the column of a place. -/
def hd (j : Fin 512) : Fin 4 := ⟨j.val / 128, by omega⟩
def ln (j : Fin 512) : Fin 128 := ⟨j.val % 128, by omega⟩
def at' (h : Fin 4) (c : Fin 128) : Fin 512 := ⟨h.val * 128 + c.val, by omega⟩

theorem hd_at (h : Fin 4) (c : Fin 128) : hd (at' h c) = h := Fin.ext (show (h.val * 128 + c.val) / 128 = h.val by omega)
theorem ln_at (h : Fin 4) (c : Fin 128) : ln (at' h c) = c := Fin.ext (show (h.val * 128 + c.val) % 128 = c.val by omega)
theorem at_hd_ln (j : Fin 512) : at' (hd j) (ln j) = j := Fin.ext (show j.val / 128 * 128 + j.val % 128 = j.val by omega)

/-- The factor of the hyperbolic tangent's argument, and the weight of the cube in it. -/
def root : ℝ := 13386282 / 2 ^ 24
def cube : ℝ := 8943 / 200000

def th (a : ℝ) : ℝ := Real.tanh (root * (a + cube * a * a * a))
def gelu (a : ℝ) : ℝ := 1 / 2 * a * (1 + th a)
def dgelu (a : ℝ) : ℝ := 1 / 2 * (1 + th a) + 1 / 2 * a * (1 - th a * th a) * root * (1 + 3 * cube * a * a)

/-- What the call reads at one position: the gate, the two halves of the spatial gating unit, the two branch gates, the recurrence's
    output, and the cotangent of the stream. -/
structure Row where
  og : Fin 512 → ℝ
  u : Fin 512 → ℝ
  v : Fin 512 → ℝ
  ga : Fin 1024 → ℝ
  gb : Fin 1024 → ℝ
  o : Fin 512 → ℝ
  dx : Fin 1024 → ℝ

/-- The weights, and the modulation's row of the batch element. -/
structure Env where
  gt : Fin 1024 → ℝ
  gna : Fin 128 → ℝ
  lng : Fin 512 → ℝ
  lnb : Fin 512 → ℝ
  ws : Fin 4 → Fin 128 → Fin 128 → ℝ
  bs : Fin 4 → Fin 128 → ℝ
  wpa : Fin 512 → Fin 1024 → ℝ
  wpb : Fin 512 → Fin 1024 → ℝ
  wo : Fin 1024 → Fin 1024 → ℝ

namespace Row

variable (x : Row)

def sog (j : Fin 512) : ℝ := sg (x.og j)
def silu (j : Fin 512) : ℝ := x.og j * x.sog j
/-- The mean square of a head, its reciprocal root, and the normed row. -/
def mh (h : Fin 4) : ℝ := (∑ c, x.o (at' h c) * x.o (at' h c)) / 128
def rh (h : Fin 4) : ℝ := (Real.sqrt (x.mh h + eps))⁻¹
def xh (j : Fin 512) : ℝ := x.o j * x.rh (hd j)
/-- The second half under its activation, centred and scaled. -/
def gv (j : Fin 512) : ℝ := gelu (x.v j)
def cen (j : Fin 512) : ℝ := x.gv j - (∑ k, x.gv k) / 512
def var : ℝ := (∑ k, x.cen k * x.cen k) / 512
def rl : ℝ := (Real.sqrt (x.var + eps))⁻¹
def xl (j : Fin 512) : ℝ := x.cen j * x.rl
def sa (n : Fin 1024) : ℝ := sg (x.ga n)
def sb (n : Fin 1024) : ℝ := sg (x.gb n)

end Row

namespace Env

variable (E : Env) (x : Row) (m : Fin 512 → ℝ) (d : Fin 512 → ℝ) (C : Fin 128 → Row) (t : Fin 128)

def on (j : Fin 512) : ℝ := x.xh j * E.gna (ln j)
def oa (j : Fin 512) : ℝ := E.on x j * x.silu j
def ya (n : Fin 1024) : ℝ := ∑ k, E.oa x k * E.wpa k n
def vn (j : Fin 512) : ℝ := x.xl j * E.lng j + E.lnb j
/-- The spatial mixing of a chunk. -/
def mixed (j : Fin 512) : ℝ := (∑ s, E.ws (hd j) t s * E.vn (C s) j) + E.bs (hd j) t
/-- The stages past the mixing, of the mixed row `m`. -/
def obm (j : Fin 512) : ℝ := gelu (x.u j) * m j
def yb (n : Fin 1024) : ℝ := ∑ k, obm x m k * E.wpb k n
def mg (n : Fin 1024) : ℝ := x.sa n * E.ya x n + x.sb n * E.yb x m n
def mix (k : Fin 1024) : ℝ := ∑ n, E.mg x m n * E.wo n k
/-- The cotangents. -/
def dmix (k : Fin 1024) : ℝ := E.gt k * x.dx k
def dmg (n : Fin 1024) : ℝ := ∑ k, E.dmix x k * E.wo n k
def dya (n : Fin 1024) : ℝ := x.sa n * E.dmg x n
def dyb (n : Fin 1024) : ℝ := x.sb n * E.dmg x n
def dga (n : Fin 1024) : ℝ := E.dmg x n * E.ya x n * x.sa n * (1 - x.sa n)
def dgb (n : Fin 1024) : ℝ := E.dmg x n * E.yb x m n * x.sb n * (1 - x.sb n)
def doa (k : Fin 512) : ℝ := ∑ n, E.dya x n * E.wpa k n
def dobm (k : Fin 512) : ℝ := ∑ n, E.dyb x n * E.wpb k n
def dog (j : Fin 512) : ℝ := E.doa x j * E.on x j * (x.sog j * (1 + x.og j * (1 - x.sog j)))
def don (j : Fin 512) : ℝ := E.doa x j * x.silu j
def dxh (j : Fin 512) : ℝ := E.don x j * E.gna (ln j)
def pr (j : Fin 512) : ℝ := E.don x j * x.xh j
def ch (h : Fin 4) : ℝ := (∑ c, E.dxh x (at' h c) * x.xh (at' h c)) / 128
def dor (j : Fin 512) : ℝ := x.rh (hd j) * (E.dxh x j - x.xh j * E.ch x (hd j))
def du (j : Fin 512) : ℝ := E.dobm x j * m j * dgelu (x.u j)
def dmx (j : Fin 512) : ℝ := E.dobm x j * gelu (x.u j)
/-- The mixing transposed. -/
def dvn (j : Fin 512) : ℝ := ∑ s, E.ws (hd j) s t * E.dmx (C s) j
/-- The stages before the mixing, of the cotangent `d` of the normed row. -/
def dxl (j : Fin 512) : ℝ := d j * E.lng j
def dgv (j : Fin 512) : ℝ := x.rl * (E.dxl d j - (∑ k, E.dxl d k) / 512 - x.xl j * ((∑ k, E.dxl d k * x.xl k) / 512))
def dv (j : Fin 512) : ℝ := E.dgv x d j * dgelu (x.v j)

/-- What a chunk adds to the gradients of the spatial weights and their bias. -/
def dws (g : Fin 4) (t s : Fin 128) : ℝ := ∑ c, E.dmx (C t) (at' g c) * E.vn (C s) (at' g c)
def dbs (g : Fin 4) (t : Fin 128) : ℝ := ∑ c, E.dmx (C t) (at' g c)

/-- The cotangents of the wide array's columns, side by side. -/
def rest (k : Fin 3584) : ℝ :=
  if h : k.val < 512 then E.dog x ⟨k.val, h⟩
  else if h : k.val - 512 < 512 then E.du x m ⟨k.val - 512, h⟩
  else if h : k.val - 512 - 512 < 512 then E.dv x d ⟨k.val - 512 - 512, h⟩
  else if h : k.val - 512 - 512 - 512 < 1024 then E.dga x ⟨k.val - 512 - 512 - 512, h⟩
  else E.dgb x m ⟨k.val - 512 - 512 - 512 - 1024, by omega⟩

end Env

/-- The words of the constants. -/
theorem word_root : Ideal.ofBits .f32 0x3F4C422A#32 = ((root : ℝ) : EReal) := by
  simp [Ideal.ofBits, Ideal.ieee, root, -EReal.coe_mul]
  norm_num

theorem word_128 : Ideal.ofBits .f32 0x43000000#32 = ((128 : ℝ) : EReal) := by
  simp [Ideal.ofBits, Ideal.ieee, -EReal.coe_mul]
  norm_num

theorem word_512 : Ideal.ofBits .f32 0x44000000#32 = ((512 : ℝ) : EReal) := by
  simp [Ideal.ofBits, Ideal.ieee, -EReal.coe_mul]
  norm_num

theorem div_128 (a : ℝ) : Ideal.div (a : EReal) ((128 : ℝ) : EReal) = ((a / 128 : ℝ) : EReal) := coe_div a (by norm_num)
theorem div_512 (a : ℝ) : Ideal.div (a : EReal) ((512 : ℝ) : EReal) = ((a / 512 : ℝ) : EReal) := coe_div a (by norm_num)

/-- A mean of squares with the norms' constant is positive. -/
theorem mean_pos {n : ℕ} {d : ℝ} (hd : 0 < d) (f : Fin n → ℝ) : 0 < (∑ c, f c * f c) / d + eps :=
  add_pos_of_nonneg_of_pos (div_nonneg (Finset.sum_nonneg fun _ _ => mul_self_nonneg _) hd.le) eps_pos

theorem coe_root_mean {n : ℕ} {d : ℝ} (hd : 0 < d) (f : Fin n → ℝ) :
    Ideal.rsqrt (((∑ c, f c * f c) / d + eps : ℝ) : EReal) = (((Real.sqrt ((∑ c, f c * f c) / d + eps))⁻¹ : ℝ) : EReal) := coe_rsqrt (mean_pos hd f)

theorem coe_rh {n : ℕ} (f : Fin n → ℝ) :
    Ideal.rsqrt (((∑ c, f c * f c) / 128 + eps : ℝ) : EReal) = (((Real.sqrt ((∑ c, f c * f c) / 128 + eps))⁻¹ : ℝ) : EReal) := coe_root_mean (by norm_num) f
theorem coe_rl {n : ℕ} (f : Fin n → ℝ) :
    Ideal.rsqrt (((∑ c, f c * f c) / 512 + eps : ℝ) : EReal) = (((Real.sqrt ((∑ c, f c * f c) / 512 + eps))⁻¹ : ℝ) : EReal) := coe_root_mean (by norm_num) f

end Cert.Mixb

end
-- ==== Proof.MixbWhole.lean ====
/- The arrays of the mixers' backward over the reals: the rows at every position, and the spatial mixing of their chunks. -/
module

public import proofs.«01_k».proof.Proof.MixbReal

@[expose] public section

noncomputable section

namespace Cert.Mixb

/-- The latent rows of the call's arguments, and its weights. -/
structure Arrays where
  p : Fin 4 → Fin 2048 → Fin 3584 → ℝ
  f : Fin 4 → Fin 2048 → Fin 512 → ℝ
  g : Fin 4 → Fin 2048 → Fin 512 → ℝ
  dx : Fin 4 → Fin 2048 → Fin 1024 → ℝ
  gt : Fin 4 → Fin 1024 → ℝ
  gna : Fin 128 → ℝ
  lng : Fin 512 → ℝ
  lnb : Fin 512 → ℝ
  ws : Fin 4 → Fin 128 → Fin 128 → ℝ
  bs : Fin 4 → Fin 128 → ℝ
  wpa : Fin 512 → Fin 1024 → ℝ
  wpb : Fin 512 → Fin 1024 → ℝ
  wo : Fin 1024 → Fin 1024 → ℝ

/-- The chunk of a position, its place in the chunk, and the position of a place. -/
def ck (s : Fin 2048) : Fin 16 := ⟨s.val / 128, by omega⟩
def pl (s : Fin 2048) : Fin 128 := ⟨s.val % 128, by omega⟩
def in' (n : Fin 16) (t : Fin 128) : Fin 2048 := ⟨n.val * 128 + t.val, by omega⟩

theorem ck_in (n : Fin 16) (t : Fin 128) : ck (in' n t) = n := Fin.ext (show (n.val * 128 + t.val) / 128 = n.val by omega)
theorem pl_in (n : Fin 16) (t : Fin 128) : pl (in' n t) = t := Fin.ext (show (n.val * 128 + t.val) % 128 = t.val by omega)
theorem in_ck_pl (s : Fin 2048) : in' (ck s) (pl s) = s := Fin.ext (show s.val / 128 * 128 + s.val % 128 = s.val by omega)

namespace Arrays

variable (A : Arrays) (b : Fin 4) (s : Fin 2048) (n : Fin 16)

def env : Env := ⟨A.gt b, A.gna, A.lng, A.lnb, A.ws, A.bs, A.wpa, A.wpb, A.wo⟩
def row : Row := ⟨fun j => A.p b s ⟨j.val, by omega⟩, fun j => A.p b s ⟨512 + j.val, by omega⟩, fun j => A.p b s ⟨1024 + j.val, by omega⟩,
  fun j => A.p b s ⟨1536 + j.val, by omega⟩, fun j => A.p b s ⟨2560 + j.val, by omega⟩, fun j => A.f b s j + A.g b s j, A.dx b s⟩
def chunk (t : Fin 128) : Row := A.row b (in' n t)
/-- The mixed row at a position, and the cotangent of its normed row. -/
def mixed : Fin 512 → ℝ := (A.env b).mixed (A.chunk b (ck s)) (pl s)
def dvn : Fin 512 → ℝ := (A.env b).dvn (A.chunk b (ck s)) (pl s)

end Arrays

end Cert.Mixb

end
-- ==== Proof.MixbRef.lean ====
/- The reference of the mixers' backward, node by node over the reals: the stages of the forward pass, and the gradient's nodes as the
   stages' cotangents. -/
module

public import proofs.«01_k».proof.Proof.Gen.MixbRefIdeal.Read
public import proofs.«01_k».proof.Proof.MixbWhole
public import proofs.«01_k».proof.Proof.Sums

@[expose] public section

set_option maxRecDepth 8000

noncomputable section

namespace Cert.MixbRefIdeal.Read

open Idealize.ShloMosaic Idealize.SL.Sem Cert.Reals Cert.Norms Cert.Mixb

variable {x0 : (⟨S4x2304x5632, .f32⟩ : BufTy).Contents (Elt Ideal)} {x1 x2 : (⟨S4x2304x512, .f32⟩ : BufTy).Contents (Elt Ideal)}
  {x3 : (⟨S4x2048x1024, .f32⟩ : BufTy).Contents (Elt Ideal)} {x4 : (⟨S4x6x1024, .f32⟩ : BufTy).Contents (Elt Ideal)}
  {x5 : (⟨S1x128, .f32⟩ : BufTy).Contents (Elt Ideal)} {x6 x7 : (⟨S1x512, .f32⟩ : BufTy).Contents (Elt Ideal)}
  {x8 : (⟨S1x4x128x128, .f32⟩ : BufTy).Contents (Elt Ideal)} {x9 : (⟨S1x4x128, .f32⟩ : BufTy).Contents (Elt Ideal)}
  {x10 x11 : (⟨S1x512x1024, .f32⟩ : BufTy).Contents (Elt Ideal)} {x12 : (⟨S1x1024x1024, .f32⟩ : BufTy).Contents (Elt Ideal)} {A : Arrays}

variable (x0 x1 x2 x3 x4 x5 x6 x7 x8 x9 x10 x11 x12 A) in
/-- The arguments are the reals `A`, of the projection and the recurrence's outputs only the latent rows, of the modulation its gate. -/
structure Args : Prop where
  p : ∀ b s k, val_main_v2 x0 (ix3 b s k) = ((A.p b s k : ℝ) : EReal)
  f : ∀ b s k, val_main_v0 x1 (ix3 b s k) = ((A.f b s k : ℝ) : EReal)
  g : ∀ b s k, val_main_v1 x2 (ix3 b s k) = ((A.g b s k : ℝ) : EReal)
  dx : ∀ b s k, x3 (ix3 b s k) = ((A.dx b s k : ℝ) : EReal)
  gt : ∀ b k, val_main_v4 x4 (ix2 b k) = ((A.gt b k : ℝ) : EReal)
  gna : ∀ k, x5 (ix2 0 k) = ((A.gna k : ℝ) : EReal)
  lng : ∀ k, x6 (ix2 0 k) = ((A.lng k : ℝ) : EReal)
  lnb : ∀ k, x7 (ix2 0 k) = ((A.lnb k : ℝ) : EReal)
  ws : ∀ i t s, x8 (ix4 0 i t s) = ((A.ws i t s : ℝ) : EReal)
  bs : ∀ i t, x9 (ix3 0 i t) = ((A.bs i t : ℝ) : EReal)
  wpa : ∀ k n, x10 (ix3 0 k n) = ((A.wpa k n : ℝ) : EReal)
  wpb : ∀ k n, x11 (ix3 0 k n) = ((A.wpb k n : ℝ) : EReal)
  wo : ∀ k n, x12 (ix3 0 k n) = ((A.wo k n : ℝ) : EReal)

/-- The words of the reference's own constants. -/
theorem word_three : Ideal.ofBits .f32 0x40400000#32 = ((3 : ℝ) : EReal) := by
  simp [Ideal.ofBits, Ideal.ieee, -EReal.coe_mul]
  norm_num

theorem word_num : Ideal.ofBits .f32 0x472EAB00#32 = ((44715 : ℝ) : EReal) := by
  simp [Ideal.ofBits, Ideal.ieee, -EReal.coe_mul]
  norm_num

theorem word_den : Ideal.ofBits .f32 0x49742400#32 = ((1000000 : ℝ) : EReal) := by
  simp [Ideal.ofBits, Ideal.ieee, -EReal.coe_mul]
  norm_num

theorem div_den (a : ℝ) : Ideal.div (a : EReal) ((1000000 : ℝ) : EReal) = ((a / 1000000 : ℝ) : EReal) := coe_div a (by norm_num)
theorem div_mh (a : ℝ) (x : Row) (h : Fin 4) : Ideal.div (a : EReal) ((x.mh h + eps : ℝ) : EReal) = ((a / (x.mh h + eps) : ℝ) : EReal) :=
  coe_div a (mean_pos (by norm_num) _).ne'
theorem div_var (a : ℝ) (x : Row) : Ideal.div (a : EReal) ((x.var + eps : ℝ) : EReal) = ((a / (x.var + eps) : ℝ) : EReal) :=
  coe_div a (mean_pos (by norm_num) _).ne'
theorem rsqrt_mh (x : Row) (h : Fin 4) : Ideal.rsqrt ((x.mh h + eps : ℝ) : EReal) = ((x.rh h : ℝ) : EReal) := coe_rh _
theorem rsqrt_var (x : Row) : Ideal.rsqrt ((x.var + eps : ℝ) : EReal) = ((x.rl : ℝ) : EReal) := coe_rl _
theorem sg_div (a : ℝ) : Ideal.div ((1 : ℝ) : EReal) (((1 : ℝ) : EReal) + Ideal.exp ((-a : ℝ) : EReal)) = ((sg a : ℝ) : EReal) := exp_coe_sg a
theorem tanh_real (a : ℝ) : Ideal.tanh (a : EReal) = ((Real.tanh a : ℝ) : EReal) := rfl
theorem th_eq (a : ℝ) : Real.tanh (root * (a + 44715 * (a * a * a) / 1000000)) = th a := by
  unfold th cube
  ring_nf

/-- The square of a reciprocal root. -/
theorem root_div {a : ℝ} (h : 0 < a) : (Real.sqrt a)⁻¹ / a = (Real.sqrt a)⁻¹ * (Real.sqrt a)⁻¹ * (Real.sqrt a)⁻¹ := by
  rw [mul_assoc, ← mul_inv, Real.mul_self_sqrt h.le, div_eq_mul_inv]
theorem rh_div (x : Row) (h : Fin 4) : x.rh h / (x.mh h + eps) = x.rh h * x.rh h * x.rh h := root_div (mean_pos (by norm_num) _)
theorem rl_div (x : Row) : x.rl / (x.var + eps) = x.rl * x.rl * x.rl := root_div (mean_pos (by norm_num) _)
/-- A centred row sums to zero. -/
theorem sum_cen (x : Row) : ∑ k, x.cen k = 0 := by
  unfold Row.cen
  rw [Finset.sum_sub_distrib, Finset.sum_const, Finset.card_univ, Fintype.card_fin, nsmul_eq_mul]
  push_cast
  ring

/-- The norm of a head backwards, and the norm of the second half, as the reference forms them. -/
theorem dor_eq (E : Env) (x : Row) (h : Fin 4) (c : Fin 128) {w : ℝ}
    (hw : w = (∑ k, x.o (at' h k) * E.dxh x (at' h k)) * (-(1 / 2) * (x.rh h / (x.mh h + eps))) / 128) :
    E.dxh x (at' h c) * x.rh h + x.o (at' h c) * w + w * x.o (at' h c) = E.dor x (at' h c) := by
  have e : ∑ k, E.dxh x (at' h k) * (x.o (at' h k) * x.rh h) = (∑ k, x.o (at' h k) * E.dxh x (at' h k)) * x.rh h := by
    rw [Finset.sum_mul]
    exact Finset.sum_congr rfl fun _ _ => by ring
  unfold Env.dor Env.ch Row.xh
  simp only [hd_at, e]
  rw [hw, rh_div]
  ring

theorem dgv_eq (E : Env) (x : Row) (d : Fin 512 → ℝ) (j : Fin 512) {w : ℝ}
    (hw : w = (∑ k, x.cen k * E.dxl d k) * (-(1 / 2) * (x.rl / (x.var + eps))) / 512) :
    E.dxl d j * x.rl + w * (2 * x.cen j) + (∑ k, -(E.dxl d k * x.rl) + ∑ k, -(w * (2 * x.cen k))) / 512 = E.dgv x d j := by
  have e : ∑ k, E.dxl d k * (x.cen k * x.rl) = (∑ k, x.cen k * E.dxl d k) * x.rl := by
    rw [Finset.sum_mul]
    exact Finset.sum_congr rfl fun _ _ => by ring
  have e1 : ∑ k, -(E.dxl d k * x.rl) = -((∑ k, E.dxl d k) * x.rl) := by rw [Finset.sum_neg_distrib, Finset.sum_mul]
  have e2 : ∑ k, -(w * (2 * x.cen k)) = 0 := by
    rw [Finset.sum_neg_distrib, ← Finset.mul_sum, ← Finset.mul_sum, sum_cen]
    ring
  unfold Env.dgv Row.xl
  rw [e, e1, e2, hw, rl_div]
  ring

/-- The activation backwards. -/
theorem act_eq (d a : ℝ) : d * (1 / 2 * (1 + th a)) + root * (1 / 2 * (a * d) * ((1 + th a) * (1 - th a)))
    + 44715 * (root * (1 / 2 * (a * d) * ((1 + th a) * (1 - th a))) / 1000000) * (3 * (a * a)) = d * dgelu a := by
  unfold dgelu cube
  ring

/-- The value of the padding, and the product that contracts the batch, the chunks and the columns of a head. -/
theorem zero_pad : (FloatOps.sitofp (F := Ideal) .f32 0#32 : EReal) = ((0 : ℝ) : EReal) := by
  show (((0#32 : BitVec 32).toInt : ℝ) : EReal) = _
  simp

/-- The three contracted coordinates. -/
def contracted : (dot_S4x4x16x128x128_S4x16x128x4x128_S4x128x128_123_014_4_2_0_3).contr.Idx ≃ Fin 4 × Fin 16 × Fin 128 where
  toFun k := (k ⟨0, by decide⟩, k ⟨1, by decide⟩, k ⟨2, by decide⟩)
  invFun p a := match a with
    | ⟨0, _⟩ => p.1
    | ⟨1, _⟩ => p.2.1
    | ⟨2, _⟩ => p.2.2
  left_inv k := funext fun a => match a with
    | ⟨0, _⟩ => rfl
    | ⟨1, _⟩ => rfl
    | ⟨2, _⟩ => rfl
  right_inv _ := rfl

theorem dot_chunks (l : FVec Ideal S4x4x16x128x128 .f32) (r : FVec Ideal S4x16x128x4x128 .f32) (g : Fin 4) (t u : Fin 128) :
    Host.dotGeneral dot_S4x4x16x128x128_S4x16x128x4x128_S4x128x128_123_014_4_2_0_3 none l r (ix3 g t u)
      = ∑ b : Fin 4, ∑ n : Fin 16, ∑ c : Fin 128, l (ix5 g b n c t) * r (ix5 b n u g c) := by
  refine (Ideal.dotGeneral_apply _ _ _ _ _ _).trans ((Fintype.sum_equiv contracted _
    (fun p => l (ix5 g p.1 p.2.1 p.2.2 t) * r (ix5 p.1 p.2.1 u g p.2.2)) fun k => congrArg₂ (· * ·) (congrArg l ?_) (congrArg r ?_)).trans
      ((Fintype.sum_prod_type _).trans (Finset.sum_congr rfl fun _ _ => Fintype.sum_prod_type _)))
  · funext a
    match a with
    | ⟨0, _⟩ => rfl
    | ⟨1, _⟩ => rfl
    | ⟨2, _⟩ => rfl
    | ⟨3, _⟩ => rfl
    | ⟨4, _⟩ => rfl
  · funext a
    match a with
    | ⟨0, _⟩ => rfl
    | ⟨1, _⟩ => rfl
    | ⟨2, _⟩ => rfl
    | ⟨3, _⟩ => rfl
    | ⟨4, _⟩ => rfl

/-- A sum over three of the axes of an array, at one element: over their three coordinates. -/
@[pointwise] theorem sum_three {n0 n1 n2 n3 : Nat} (h : (⟨4, ![n0, n1, n2, n3]⟩ : Shape).ReducesTo [0, 1, 2] ⟨1, ![n3]⟩)
    (v : (⟨4, ![n0, n1, n2, n3]⟩ : Shape).Idx → EReal) (init : EReal) (k : Fin n3) :
    Ideal.hostReduceAdd h v init (ix1 k) = init + ∑ a, ∑ b, ∑ c, v (ix4 a b c k) := by
  refine congrArg (init + ·) ((Finset.sum_filter_eq_sum_of_fiber _ (fun p : Fin n0 × Fin n1 × Fin n2 => ix4 p.1 p.2.1 p.2.2 k)
    (fun _ _ e => Prod.ext (congrFun e 0) (Prod.ext (congrFun e 1) (congrFun e 2))) (fun i => ⟨fun e => ⟨(i 0, i 1, i 2), ?_⟩, ?_⟩) v).trans
      ((Fintype.sum_prod_type _).trans (Finset.sum_congr rfl fun _ _ => Fintype.sum_prod_type _)))
  · refine (congrArg (ix4 (i 0) (i 1) (i 2)) ?_).trans (eq_ix4 i).symm
    exact (congrFun e 0).symm
  · rintro ⟨p, rfl⟩
    exact (eq_ix1 _).trans (congrArg ix1 rfl)

@[pointwise] theorem sum_outer {n0 n1 n2 n3 n4 : Nat} (h : (⟨5, ![n0, n1, n2, n3, n4]⟩ : Shape).ReducesTo [0, 1, 4] ⟨2, ![n2, n3]⟩)
    (v : (⟨5, ![n0, n1, n2, n3, n4]⟩ : Shape).Idx → EReal) (init : EReal) (k : Fin n2) (l : Fin n3) :
    Ideal.hostReduceAdd h v init (ix2 k l) = init + ∑ a, ∑ b, ∑ c, v (ix5 a b k l c) := by
  refine congrArg (init + ·) ((Finset.sum_filter_eq_sum_of_fiber _ (fun p : Fin n0 × Fin n1 × Fin n4 => ix5 p.1 p.2.1 k l p.2.2)
    (fun _ _ e => Prod.ext (congrFun e 0) (Prod.ext (congrFun e 1) (congrFun e 4))) (fun i => ⟨fun e => ⟨(i 0, i 1, i 4), ?_⟩, ?_⟩) v).trans
      ((Fintype.sum_prod_type _).trans (Finset.sum_congr rfl fun _ _ => Fintype.sum_prod_type _)))
  · refine (congrArg₂ (fun p q => ix5 (i 0) (i 1) p q (i 4)) ?_ ?_).trans (eq_ix5 i).symm
    · exact (congrFun e 0).symm
    · exact (congrFun e 1).symm
  · rintro ⟨p, rfl⟩
    exact (eq_ix2 _).trans (congrArg₂ ix2 rfl rfl)

variable (H : Args x0 x1 x2 x3 x4 x5 x6 x7 x8 x9 x10 x11 x12 A)

include H

theorem row_og (b : Fin 4) (s : Fin 2048) (j : Fin 512) : val_main_v5 x0 (ix3 b s j) = (((A.row b s).og j : ℝ) : EReal) := by
  pointwise [val_main_v5]
  simp only [H.p, add_zero, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem row_u (b : Fin 4) (s : Fin 2048) (j : Fin 512) : val_main_v6 x0 (ix3 b s j) = (((A.row b s).u j : ℝ) : EReal) := by
  pointwise [val_main_v6]
  simp only [H.p, add_zero, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem row_v (b : Fin 4) (s : Fin 2048) (j : Fin 512) : val_main_v7 x0 (ix3 b s j) = (((A.row b s).v j : ℝ) : EReal) := by
  pointwise [val_main_v7]
  simp only [H.p, add_zero, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem row_ga (b : Fin 4) (s : Fin 2048) (n : Fin 1024) : val_main_v8 x0 (ix3 b s n) = (((A.row b s).ga n : ℝ) : EReal) := by
  pointwise [val_main_v8]
  simp only [H.p, add_zero, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem row_gb (b : Fin 4) (s : Fin 2048) (n : Fin 1024) : val_main_v9 x0 (ix3 b s n) = (((A.row b s).gb n : ℝ) : EReal) := by
  pointwise [val_main_v9]
  simp only [H.p, add_zero, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem row_o (b : Fin 4) (s : Fin 2048) (h : Fin 4) (c : Fin 128) : val_main_v11 x1 x2 (ix4 b s h c) = (((A.row b s).o (at' h c) : ℝ) : EReal) := by
  pointwise [val_main_v11, val_main_v10]
  simp only [H.g, H.f, add_zero, add_zero, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem row_mh (b : Fin 4) (s : Fin 2048) (h : Fin 4) : val_main_v19 x1 x2 (ix4 b s h 0) = (((A.row b s).mh h + eps : ℝ) : EReal) := by
  pointwise [val_main_v19, val_main_v18, val_main_cst_1, val_main_v17, val_main_v16, val_main_cst_0, val_main_v15, val_main_v14, val_main_cst, val_main_v13]
  simp only [row_o H, add_zero, add_zero, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem row_rh (b : Fin 4) (s : Fin 2048) (h : Fin 4) : val_main_v20 x1 x2 (ix4 b s h 0) = (((A.row b s).rh h : ℝ) : EReal) := by
  pointwise [val_main_v20]
  simp only [row_mh H, add_zero, add_zero, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]

theorem row_xh (b : Fin 4) (s : Fin 2048) (h : Fin 4) (c : Fin 128) : val_main_v25 x1 x2 (ix4 b s h c) = (((A.row b s).xh (at' h c) : ℝ) : EReal) := by
  pointwise [val_main_v25, val_main_v24]
  simp only [row_rh H, row_o H, add_zero, add_zero, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  exact congrArg (fun i => ((A.row b s).o (at' h c) * (A.row b s).rh i : ℝ).toEReal) (hd_at h c).symm

theorem row_on (b : Fin 4) (s : Fin 2048) (j : Fin 512) : val_main_v29 x1 x2 x5 (ix3 b s j) = (((A.env b).on (A.row b s) j : ℝ) : EReal) := by
  pointwise [val_main_v29, val_main_v28, val_main_v27, val_main_v26, val_main_v12]
  simp only [row_xh H, add_zero, add_zero, H.gna, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  exact congrArg (fun i => (((A.row b s).xh i * A.gna (ln j) : ℝ) : EReal)) (at_hd_ln j)

theorem row_sog (b : Fin 4) (s : Fin 2048) (j : Fin 512) : val_main_v30_2 x0 (ix3 b s j) = (((A.row b s).sog j : ℝ) : EReal) := by
  pointwise [val_main_v30_2, val_main_call0_v4, val_main_call0_cst_0, val_main_call0_v3, val_main_call0_v2, val_main_call0_cst, val_main_call0_v1, val_main_call0_v0]
  simp only [row_og H, add_zero, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem row_silu (b : Fin 4) (s : Fin 2048) (j : Fin 512) : val_main_v30_0 x0 (ix3 b s j) = (((A.row b s).silu j : ℝ) : EReal) := by
  pointwise [val_main_v30_0]
  simp only [row_og H, row_sog H, add_zero, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem row_oa (b : Fin 4) (s : Fin 2048) (j : Fin 512) : val_main_v31 x0 x1 x2 x5 (ix3 b s j) = (((A.env b).oa (A.row b s) j : ℝ) : EReal) := by
  pointwise [val_main_v31]
  simp only [row_silu H, row_on H, add_zero, add_zero, add_zero, H.gna, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem row_thu (b : Fin 4) (s : Fin 2048) (j : Fin 512) : val_main_v44 x0 (ix3 b s j) = ((th ((A.row b s).u j) : ℝ) : EReal) := by
  pointwise [val_main_v44, val_main_v43, val_main_v42, val_main_cst_6, val_main_v41, val_main_v40, val_main_v39, val_main_cst_5, val_main_v38, val_main_v37, val_main_cst_4, val_main_v33, val_main_v32]
  simp only [row_u H, add_zero, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]

theorem row_hu (b : Fin 4) (s : Fin 2048) (j : Fin 512) : val_main_v53 x0 (ix3 b s j) = ((1 / 2 * (1 + th ((A.row b s).u j)) : ℝ) : EReal) := by
  pointwise [val_main_v53, val_main_v52, val_main_cst_10, val_main_v51, val_main_v50, val_main_cst_9]
  simp only [row_thu H, add_zero, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]

theorem row_gu (b : Fin 4) (s : Fin 2048) (j : Fin 512) : val_main_v54 x0 (ix3 b s j) = ((gelu ((A.row b s).u j) : ℝ) : EReal) := by
  pointwise [val_main_v54]
  simp only [row_u H, row_hu H, add_zero, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  exact congrArg _ (by unfold gelu; ring)

theorem row_thv (b : Fin 4) (s : Fin 2048) (j : Fin 512) : val_main_v67 x0 (ix3 b s j) = ((th ((A.row b s).v j) : ℝ) : EReal) := by
  pointwise [val_main_v67, val_main_v66, val_main_v65, val_main_cst_14, val_main_v64, val_main_v63, val_main_v62, val_main_cst_13, val_main_v61, val_main_v60, val_main_cst_12, val_main_v56, val_main_v55]
  simp only [row_v H, add_zero, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]

theorem row_hv (b : Fin 4) (s : Fin 2048) (j : Fin 512) : val_main_v76 x0 (ix3 b s j) = ((1 / 2 * (1 + th ((A.row b s).v j)) : ℝ) : EReal) := by
  pointwise [val_main_v76, val_main_v75, val_main_cst_18, val_main_v74, val_main_v73, val_main_cst_17]
  simp only [row_thv H, add_zero, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]

theorem row_gv (b : Fin 4) (s : Fin 2048) (j : Fin 512) : val_main_v77 x0 (ix3 b s j) = (((A.row b s).gv j : ℝ) : EReal) := by
  pointwise [val_main_v77]
  simp only [row_hv H, row_v H, add_zero, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  exact congrArg _ (by unfold Row.gv gelu; ring)

theorem row_mu (b : Fin 4) (s : Fin 2048) : val_main_v85 x0 (ix3 b s 0) = (((∑ k, (A.row b s).gv k) / 512 : ℝ) : EReal) := by
  pointwise [val_main_v85, val_main_v84, val_main_cst_20, val_main_v83, val_main_v82, val_main_cst_19]
  simp only [row_gv H, add_zero, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]

theorem row_cen (b : Fin 4) (s : Fin 2048) (j : Fin 512) : val_main_v87 x0 (ix3 b s j) = (((A.row b s).cen j : ℝ) : EReal) := by
  pointwise [val_main_v87, val_main_v86]
  simp only [row_mu H, row_gv H, add_zero, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem row_cen2 (b : Fin 4) (s : Fin 2048) (j : Fin 512) : val_main_v96 x0 (ix3 b s j) = (((A.row b s).cen j : ℝ) : EReal) := by
  pointwise [val_main_v96, val_main_v95]
  simp only [row_mu H, row_gv H, add_zero, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem row_var (b : Fin 4) (s : Fin 2048) : val_main_v98 x0 (ix3 b s 0) = (((A.row b s).var + eps : ℝ) : EReal) := by
  pointwise [val_main_v98, val_main_v97, val_main_cst_24, val_main_v94, val_main_v93, val_main_cst_23, val_main_v92, val_main_v91, val_main_cst_22, val_main_v88]
  simp only [row_cen H, add_zero, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem row_rl (b : Fin 4) (s : Fin 2048) : val_main_v99 x0 (ix3 b s 0) = (((A.row b s).rl : ℝ) : EReal) := by
  pointwise [val_main_v99]
  simp only [row_var H, add_zero, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]

theorem row_xl (b : Fin 4) (s : Fin 2048) (j : Fin 512) : val_main_v104 x0 (ix3 b s j) = (((A.row b s).xl j : ℝ) : EReal) := by
  pointwise [val_main_v104, val_main_v103]
  simp only [row_cen2 H, row_rl H, add_zero, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem row_vn (b : Fin 4) (s : Fin 2048) (j : Fin 512) : val_main_v110 x0 x6 x7 (ix3 b s j) = (((A.env b).vn (A.row b s) j : ℝ) : EReal) := by
  pointwise [val_main_v110, val_main_v109, val_main_v108, val_main_v107, val_main_v106, val_main_v105, val_main_v79, val_main_v78]
  simp only [row_xl H, add_zero, H.lng, H.lnb, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem chunk_vn (b : Fin 4) (n : Fin 16) (t : Fin 128) (g : Fin 4) (c : Fin 128) : val_main_v111 x0 x6 x7 (ix5 b n t g c) = (((A.env b).vn ((A.chunk b n) t) (at' g c) : ℝ) : EReal) := by
  pointwise [val_main_v111]
  simp only [row_vn H, add_zero, H.lng, H.lnb, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem chunk_mixed (b : Fin 4) (n : Fin 16) (t : Fin 128) (g : Fin 4) (c : Fin 128) : val_main_v118 x0 x6 x7 x8 x9 (ix5 b n t g c) = (((A.env b).mixed (A.chunk b n) t (at' g c) : ℝ) : EReal) := by
  pointwise [val_main_v118, val_main_v117, val_main_v116, val_main_v115, val_main_v114, val_main_v113, val_main_v112, val_main_v81, val_main_v80]
  simp only [chunk_vn H, add_zero, H.lng, H.lnb, H.ws, H.bs, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  unfold Env.mixed
  rw [hd_at]
  exact congrArg (fun z : ℝ => ((z + A.bs g t : ℝ) : EReal)) (Finset.sum_congr rfl fun _ _ => mul_comm _ _)

theorem row_mixed (b : Fin 4) (s : Fin 2048) (j : Fin 512) : val_main_v119 x0 x6 x7 x8 x9 (ix3 b s j) = (((A.mixed b s) j : ℝ) : EReal) := by
  pointwise [val_main_v119]
  simp only [chunk_mixed H, add_zero, H.lng, H.lnb, H.ws, H.bs, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  exact congrArg (fun i => (((A.env b).mixed (A.chunk b (ck s)) (pl s) i : ℝ) : EReal)) (at_hd_ln j)

theorem row_obm (b : Fin 4) (s : Fin 2048) (j : Fin 512) : val_main_v120 x0 x6 x7 x8 x9 (ix3 b s j) = ((Env.obm (A.row b s) (A.mixed b s) j : ℝ) : EReal) := by
  pointwise [val_main_v120]
  simp only [row_gu H, row_mixed H, add_zero, H.lng, H.lnb, H.ws, H.bs, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem row_sa (b : Fin 4) (s : Fin 2048) (n : Fin 1024) : val_main_v126 x0 (ix3 b s n) = (((A.row b s).sa n : ℝ) : EReal) := by
  pointwise [val_main_v126, val_main_v125, val_main_cst_27, val_main_v124, val_main_v123, val_main_cst_26, val_main_v122, val_main_v121]
  simp only [row_ga H, add_zero, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem row_ya (b : Fin 4) (s : Fin 2048) (n : Fin 1024) : val_main_v131 x0 x1 x2 x5 x10 (ix3 b s n) = (((A.env b).ya (A.row b s) n : ℝ) : EReal) := by
  pointwise [val_main_v131, val_main_v130]
  simp only [row_oa H, add_zero, add_zero, add_zero, H.gna, H.wpa, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem row_sb (b : Fin 4) (s : Fin 2048) (n : Fin 1024) : val_main_v138 x0 (ix3 b s n) = (((A.row b s).sb n : ℝ) : EReal) := by
  pointwise [val_main_v138, val_main_v137, val_main_cst_30, val_main_v136, val_main_v135, val_main_cst_29, val_main_v134, val_main_v133]
  simp only [row_gb H, add_zero, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem row_yb (b : Fin 4) (s : Fin 2048) (n : Fin 1024) : val_main_v143 x0 x6 x7 x8 x9 x11 (ix3 b s n) = (((A.env b).yb (A.row b s) (A.mixed b s) n : ℝ) : EReal) := by
  pointwise [val_main_v143, val_main_v142]
  simp only [row_obm H, add_zero, H.lng, H.lnb, H.ws, H.bs, H.wpb, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem row_mg (b : Fin 4) (s : Fin 2048) (n : Fin 1024) : val_main_v145 x0 x1 x2 x5 x6 x7 x8 x9 x10 x11 (ix3 b s n) = (((A.env b).mg (A.row b s) (A.mixed b s) n : ℝ) : EReal) := by
  pointwise [val_main_v145, val_main_v144, val_main_v132]
  simp only [row_yb H, row_sb H, row_ya H, row_sa H, add_zero, add_zero, add_zero, H.gna, H.lng, H.lnb, H.ws, H.bs, H.wpa, H.wpb, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem row_mix (b : Fin 4) (s : Fin 2048) (n : Fin 1024) : val_main_v148 x0 x1 x2 x5 x6 x7 x8 x9 x10 x11 x12 (ix3 b s n) = (((A.env b).mix (A.row b s) (A.mixed b s) n : ℝ) : EReal) := by
  pointwise [val_main_v148, val_main_v147]
  simp only [row_mg H, add_zero, add_zero, add_zero, H.gna, H.lng, H.lnb, H.ws, H.bs, H.wpa, H.wpb, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem row_dmix (b : Fin 4) (s : Fin 2048) (n : Fin 1024) : val_main_v152 x3 x4 (ix3 b s n) = (((A.env b).dmix (A.row b s) n : ℝ) : EReal) := by
  pointwise [val_main_v152, val_main_v151, val_main_v146]
  simp only [H.gt, H.dx, add_zero, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem row_dmg (b : Fin 4) (s : Fin 2048) (n : Fin 1024) : val_main_v158 x3 x4 x12 (ix3 b s n) = (((A.env b).dmg (A.row b s) n : ℝ) : EReal) := by
  pointwise [val_main_v158, val_main_v147]
  simp only [row_dmix H, H.dx, add_zero, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem row_dyb (b : Fin 4) (s : Fin 2048) (n : Fin 1024) : val_main_v161 x0 x3 x4 x12 (ix3 b s n) = (((A.env b).dyb (A.row b s) n : ℝ) : EReal) := by
  pointwise [val_main_v161]
  simp only [row_dmg H, row_sb H, add_zero, H.dx, add_zero, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem row_dobm (b : Fin 4) (s : Fin 2048) (j : Fin 512) : val_main_v165 x0 x3 x4 x11 x12 (ix3 b s j) = (((A.env b).dobm (A.row b s) j : ℝ) : EReal) := by
  pointwise [val_main_v165, val_main_v142]
  simp only [row_dyb H, add_zero, H.dx, add_zero, H.wpb, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem row_dgb (b : Fin 4) (s : Fin 2048) (n : Fin 1024) : val_main_v167 x0 x3 x4 x6 x7 x8 x9 x11 x12 (ix3 b s n) = (((A.env b).dgb (A.row b s) (A.mixed b s) n : ℝ) : EReal) := by
  pointwise [val_main_v167, val_main_v162, val_main_v141, val_main_v140, val_main_v139, val_main_cst_31]
  simp only [row_dmg H, row_yb H, row_sb H, add_zero, H.dx, add_zero, H.lng, H.lnb, H.ws, H.bs, H.wpb, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  exact congrArg _ (by unfold Env.dgb; ring)

theorem row_dya (b : Fin 4) (s : Fin 2048) (n : Fin 1024) : val_main_v168 x0 x3 x4 x12 (ix3 b s n) = (((A.env b).dya (A.row b s) n : ℝ) : EReal) := by
  pointwise [val_main_v168]
  simp only [row_dmg H, row_sa H, add_zero, H.dx, add_zero, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem row_doa (b : Fin 4) (s : Fin 2048) (j : Fin 512) : val_main_v172 x0 x3 x4 x10 x12 (ix3 b s j) = (((A.env b).doa (A.row b s) j : ℝ) : EReal) := by
  pointwise [val_main_v172, val_main_v130]
  simp only [row_dya H, add_zero, H.dx, add_zero, H.wpa, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem row_dga (b : Fin 4) (s : Fin 2048) (n : Fin 1024) : val_main_v174 x0 x1 x2 x3 x4 x5 x10 x12 (ix3 b s n) = (((A.env b).dga (A.row b s) n : ℝ) : EReal) := by
  pointwise [val_main_v174, val_main_v169, val_main_v129, val_main_v128, val_main_v127, val_main_cst_28]
  simp only [row_dmg H, row_ya H, row_sa H, add_zero, add_zero, add_zero, H.dx, add_zero, H.gna, H.wpa, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  exact congrArg _ (by unfold Env.dga; ring)

theorem row_dmx (b : Fin 4) (s : Fin 2048) (j : Fin 512) : val_main_v175 x0 x3 x4 x11 x12 (ix3 b s j) = (((A.env b).dmx (A.row b s) j : ℝ) : EReal) := by
  pointwise [val_main_v175]
  simp only [row_gu H, row_dobm H, add_zero, H.dx, add_zero, H.wpb, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  exact congrArg _ (mul_comm _ _)

theorem chunk_dmx (b : Fin 4) (n : Fin 16) (t : Fin 128) (g : Fin 4) (c : Fin 128) : val_main_v177 x0 x3 x4 x11 x12 (ix5 b n t g c) = (((A.env b).dmx ((A.chunk b n) t) (at' g c) : ℝ) : EReal) := by
  pointwise [val_main_v177]
  simp only [row_dmx H, add_zero, H.dx, add_zero, H.wpb, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem chunk_dvn (b : Fin 4) (n : Fin 16) (t : Fin 128) (g : Fin 4) (c : Fin 128) : val_main_v187 x0 x3 x4 x8 x11 x12 (ix5 b n t g c) = (((A.env b).dvn (A.chunk b n) t (at' g c) : ℝ) : EReal) := by
  pointwise [val_main_v187, val_main_v186, val_main_v184, val_main_v80]
  simp only [chunk_dmx H, add_zero, H.dx, add_zero, H.ws, H.wpb, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  unfold Env.dvn
  rw [hd_at]
  exact congrArg _ (Finset.sum_congr rfl fun _ _ => mul_comm _ _)

theorem row_dvn (b : Fin 4) (s : Fin 2048) (j : Fin 512) : val_main_v188 x0 x3 x4 x8 x11 x12 (ix3 b s j) = (((A.dvn b s) j : ℝ) : EReal) := by
  pointwise [val_main_v188]
  simp only [chunk_dvn H, add_zero, H.dx, add_zero, H.ws, H.wpb, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  exact congrArg (fun i => (((A.env b).dvn (A.chunk b (ck s)) (pl s) i : ℝ) : EReal)) (at_hd_ln j)

theorem row_dxl (b : Fin 4) (s : Fin 2048) (j : Fin 512) : val_main_v196 x0 x3 x4 x6 x8 x11 x12 (ix3 b s j) = (((A.env b).dxl (A.dvn b s) j : ℝ) : EReal) := by
  pointwise [val_main_v196, val_main_v195, val_main_v105, val_main_v78]
  simp only [row_dvn H, add_zero, H.dx, add_zero, H.lng, H.ws, H.wpb, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem row_back (b : Fin 4) (s : Fin 2048) : val_main_v209 x0 x3 x4 x6 x8 x11 x12 (ix2 b s) = (((∑ k, (A.row b s).cen k * (A.env b).dxl (A.dvn b s) k) * (-(1 / 2) * ((A.row b s).rl / ((A.row b s).var + eps))) / 512 : ℝ) : EReal) := by
  pointwise [val_main_v209, val_main_cst_44, val_main_v208, val_main_v207, val_main_cst_43, val_main_v203, val_main_v200, val_main_v199, val_main_cst_41, val_main_v198, val_main_v102, val_main_v101, val_main_cst_25, val_main_v100]
  simp only [row_cen2 H, row_dxl H, row_rl H, row_var H, add_zero, H.dx, add_zero, H.lng, H.ws, H.wpb, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]

theorem row_dgv (b : Fin 4) (s : Fin 2048) (j : Fin 512) : val_main_v221 x0 x3 x4 x6 x8 x11 x12 (ix3 b s j) = (((A.env b).dgv (A.row b s) (A.dvn b s) j : ℝ) : EReal) := by
  pointwise [val_main_v221, val_main_v220, val_main_v219, val_main_cst_47, val_main_v218, val_main_v217, val_main_cst_46, val_main_v216, val_main_v215, val_main_v214, val_main_v213, val_main_cst_45, val_main_v212, val_main_v211, val_main_v210, val_main_v206, val_main_v205, val_main_cst_42, val_main_v204, val_main_v202, val_main_v201, val_main_v90, val_main_v89, val_main_cst_21]
  simp only [row_cen H, row_back H, row_rl H, row_dxl H, add_zero, H.dx, add_zero, H.lng, H.ws, H.wpb, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  exact congrArg _ (dgv_eq _ _ _ _ rfl)

theorem row_dv (b : Fin 4) (s : Fin 2048) (j : Fin 512) : val_main_v239 x0 x3 x4 x6 x8 x11 x12 (ix3 b s j) = (((A.env b).dv (A.row b s) (A.dvn b s) j : ℝ) : EReal) := by
  pointwise [val_main_v239, val_main_v238, val_main_v237, val_main_v236, val_main_cst_51, val_main_v235, val_main_v234, val_main_cst_50, val_main_v233, val_main_v232, val_main_v231, val_main_cst_49, val_main_v230, val_main_v229, val_main_v228, val_main_cst_48, val_main_v227, val_main_v226, val_main_v72, val_main_v71, val_main_v70, val_main_cst_16, val_main_v69, val_main_v68, val_main_cst_15, val_main_v59, val_main_v58, val_main_cst_11, val_main_v57]
  simp only [row_v H, row_thv H, row_dgv H, row_hv H, add_zero, H.dx, add_zero, H.lng, H.ws, H.wpb, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  exact congrArg _ (act_eq _ _)

theorem row_du (b : Fin 4) (s : Fin 2048) (j : Fin 512) : val_main_v253 x0 x3 x4 x6 x7 x8 x9 x11 x12 (ix3 b s j) = (((A.env b).du (A.row b s) (A.mixed b s) j : ℝ) : EReal) := by
  pointwise [val_main_v253, val_main_v252, val_main_v251, val_main_v250, val_main_cst_55, val_main_v249, val_main_v248, val_main_cst_54, val_main_v247, val_main_v246, val_main_v245, val_main_cst_53, val_main_v244, val_main_v243, val_main_v242, val_main_cst_52, val_main_v241, val_main_v240, val_main_v176, val_main_v49, val_main_v48, val_main_v47, val_main_cst_8, val_main_v46, val_main_v45, val_main_cst_7, val_main_v36, val_main_v35, val_main_cst_3, val_main_v34]
  simp only [row_u H, row_thu H, row_dobm H, row_mixed H, row_hu H, add_zero, H.dx, add_zero, H.lng, H.lnb, H.ws, H.bs, H.wpb, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  exact congrArg _ (act_eq _ _)

theorem row_dog (b : Fin 4) (s : Fin 2048) (j : Fin 512) : val_main_v256 x0 x1 x2 x3 x4 x5 x10 x12 (ix3 b s j) = (((A.env b).dog (A.row b s) j : ℝ) : EReal) := by
  pointwise [val_main_v256, val_main_call1_v2, val_main_call1_v1, val_main_call1_v0, val_main_v254, val_main_v30_1, val_main_call0_v7, val_main_call0_v6, val_main_call0_cst_1]
  simp only [row_sog H, row_og H, row_on H, row_doa H, add_zero, add_zero, add_zero, H.dx, add_zero, H.gna, H.wpa, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  exact congrArg _ (by unfold Env.dog; ring)

theorem row_don (b : Fin 4) (s : Fin 2048) (h : Fin 4) (c : Fin 128) : val_main_v257 x0 x3 x4 x10 x12 (ix4 b s h c) = (((A.env b).don (A.row b s) (at' h c) : ℝ) : EReal) := by
  pointwise [val_main_v257, val_main_v255]
  simp only [row_silu H, row_doa H, add_zero, H.dx, add_zero, H.wpa, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem row_dxh (b : Fin 4) (s : Fin 2048) (h : Fin 4) (c : Fin 128) : val_main_v262 x0 x3 x4 x5 x10 x12 (ix4 b s h c) = (((A.env b).dxh (A.row b s) (at' h c) : ℝ) : EReal) := by
  pointwise [val_main_v262, val_main_v261, val_main_v26, val_main_v12]
  simp only [row_don H, add_zero, H.dx, add_zero, H.gna, H.wpa, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  unfold Env.dxh
  rw [ln_at]
  rfl

theorem row_hback (b : Fin 4) (s : Fin 2048) (h : Fin 4) : val_main_v272 x0 x1 x2 x3 x4 x5 x10 x12 (ix3 b s h) = (((∑ k, (A.row b s).o (at' h k) * (A.env b).dxh (A.row b s) (at' h k)) * (-(1 / 2) * ((A.row b s).rh h / ((A.row b s).mh h + eps))) / 128 : ℝ) : EReal) := by
  pointwise [val_main_v272, val_main_cst_60, val_main_v271, val_main_v270, val_main_cst_59, val_main_v269, val_main_v266, val_main_v265, val_main_cst_58, val_main_v264, val_main_v23, val_main_v22, val_main_cst_2, val_main_v21]
  simp only [row_dxh H, row_o H, row_rh H, row_mh H, add_zero, add_zero, add_zero, H.dx, add_zero, H.gna, H.wpa, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]

theorem row_dor4 (b : Fin 4) (s : Fin 2048) (h : Fin 4) (c : Fin 128) : val_main_v277 x0 x1 x2 x3 x4 x5 x10 x12 (ix4 b s h c) = (((A.env b).dor (A.row b s) (at' h c) : ℝ) : EReal) := by
  pointwise [val_main_v277, val_main_v276, val_main_v275, val_main_v274, val_main_v273, val_main_v268, val_main_v267]
  simp only [row_hback H, row_o H, row_rh H, row_dxh H, add_zero, add_zero, add_zero, H.dx, add_zero, H.gna, H.wpa, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  exact congrArg _ (dor_eq _ _ _ _ rfl)

theorem row_dor (b : Fin 4) (s : Fin 2048) (j : Fin 512) : val_main_v279 x0 x1 x2 x3 x4 x5 x10 x12 (ix3 b s j) = (((A.env b).dor (A.row b s) j : ℝ) : EReal) := by
  pointwise [val_main_v279]
  simp only [row_dor4 H, add_zero, add_zero, add_zero, H.dx, add_zero, H.gna, H.wpa, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  exact congrArg (fun i => (((A.env b).dor (A.row b s) i : ℝ) : EReal)) (at_hd_ln j)

theorem row_rest (b : Fin 4) (s : Fin 2048) (k : Fin 3584) : val_main_v280 x0 x1 x2 x3 x4 x5 x6 x7 x8 x9 x10 x11 x12 (ix3 b s k) = (((A.env b).rest (A.row b s) (A.mixed b s) (A.dvn b s) k : ℝ) : EReal) := by
  pointwise [val_main_v280]
  simp only [row_dog H, row_du H, row_dv H, row_dga H, row_dgb H, add_zero, add_zero, add_zero, H.dx, add_zero, H.gna, H.lng, H.lnb, H.ws, H.bs, H.wpa, H.wpb, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  unfold Env.rest
  split_ifs <;> rfl

theorem sum_wo (n k : Fin 1024) : val_main_v292 x0 x1 x2 x3 x4 x5 x6 x7 x8 x9 x10 x11 (ix2 n k) = ((∑ b, ∑ s, (A.env b).mg (A.row b s) (A.mixed b s) n * (A.env b).dmix (A.row b s) k : ℝ) : EReal) := by
  pointwise [val_main_v292, val_main_v159, val_main_v157, val_main_v156]
  simp only [row_dmix H, row_mg H, add_zero, add_zero, add_zero, H.dx, add_zero, H.gna, H.lng, H.lnb, H.ws, H.bs, H.wpa, H.wpb, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  exact congrArg _ (Finset.sum_congr rfl fun _ _ => Finset.sum_congr rfl fun _ _ => mul_comm _ _)

theorem sum_wpa (i : Fin 4) (k : Fin 512) (n : Fin 256) : val_main_v288 x0 x1 x2 x3 x4 x5 x12 (ix3 i k n) = ((∑ b, ∑ s, (A.env b).oa (A.row b s) k * (A.env b).dya (A.row b s) ⟨i.val * 256 + n.val, by omega⟩ : ℝ) : EReal) := by
  pointwise [val_main_v288, val_main_v287, val_main_v286, val_main_v173, val_main_v171, val_main_v170]
  simp only [row_oa H, row_dya H, add_zero, add_zero, add_zero, H.dx, add_zero, H.gna, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  exact congrArg _ (Finset.sum_congr rfl fun _ _ => Finset.sum_congr rfl fun _ _ => mul_comm _ _)

theorem sum_wpb (i : Fin 4) (k : Fin 512) (n : Fin 256) : val_main_v291 x0 x3 x4 x6 x7 x8 x9 x12 (ix3 i k n) = ((∑ b, ∑ s, Env.obm (A.row b s) (A.mixed b s) k * (A.env b).dyb (A.row b s) ⟨i.val * 256 + n.val, by omega⟩ : ℝ) : EReal) := by
  pointwise [val_main_v291, val_main_v290, val_main_v289, val_main_v166, val_main_v164, val_main_v163]
  simp only [row_dyb H, row_obm H, add_zero, H.dx, add_zero, H.lng, H.lnb, H.ws, H.bs, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  exact congrArg _ (Finset.sum_congr rfl fun _ _ => Finset.sum_congr rfl fun _ _ => mul_comm _ _)

theorem sum_gna (c : Fin 128) : val_main_v278 x0 x1 x2 x3 x4 x10 x12 (ix2 0 c) = ((∑ b, ∑ s, ∑ h, (A.env b).pr (A.row b s) (at' h c) : ℝ) : EReal) := by
  pointwise [val_main_v278, val_main_v263, val_main_cst_57, val_main_v260, val_main_v259, val_main_cst_56, val_main_v258]
  simp only [row_don H, row_xh H, add_zero, add_zero, add_zero, H.dx, add_zero, H.wpa, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  exact congrArg _ (Finset.sum_congr rfl fun _ _ => Finset.sum_congr rfl fun _ _ => Finset.sum_congr rfl fun _ _ => mul_comm _ _)

theorem sum_lng (j : Fin 512) : val_main_v225 x0 x3 x4 x8 x11 x12 (ix2 0 j) = ((∑ b, ∑ s, (A.dvn b s) j * (A.row b s).xl j : ℝ) : EReal) := by
  pointwise [val_main_v225, val_main_v197, val_main_cst_40, val_main_v194, val_main_v193, val_main_cst_39, val_main_v192]
  simp only [row_dvn H, row_xl H, add_zero, H.dx, add_zero, H.ws, H.wpb, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  exact congrArg _ (Finset.sum_congr rfl fun _ _ => Finset.sum_congr rfl fun _ _ => mul_comm _ _)

theorem sum_lnb (j : Fin 512) : val_main_v224 x0 x3 x4 x8 x11 x12 (ix2 0 j) = ((∑ b, ∑ s, (A.dvn b s) j : ℝ) : EReal) := by
  pointwise [val_main_v224, val_main_v191, val_main_cst_38, val_main_v190, val_main_v189, val_main_cst_37]
  simp only [row_dvn H, add_zero, H.dx, add_zero, H.ws, H.wpb, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]

theorem sum_ws4 (g : Fin 4) (t u : Fin 128) : val_main_v185 x0 x3 x4 x6 x7 x11 x12 (ix3 g t u) = ((∑ b, ∑ n, (A.env b).dws (A.chunk b n) g t u : ℝ) : EReal) := by
  unfold val_main_v185
  rw [dot_chunks]
  pointwise [val_main_v184]
  simp only [chunk_dmx H, chunk_vn H, ← EReal.coe_mul, coe_sum]
  rfl

theorem sum_ws (g : Fin 4) (t u : Fin 128) : val_main_v293 x0 x3 x4 x6 x7 x11 x12 (ix3 g t u) = ((∑ b, ∑ n, (A.env b).dws (A.chunk b n) g t u : ℝ) : EReal) := by
  pointwise [val_main_v293, val_main_v223]
  simp only [sum_ws4 H, add_zero, H.dx, add_zero, H.lng, H.lnb, H.wpb, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]

theorem sum_bs (t : Fin 128) (g : Fin 4) : val_main_v295 x0 x3 x4 x11 x12 (ix2 t g) = ((∑ b, ∑ n, (A.env b).dbs (A.chunk b n) g t : ℝ) : EReal) := by
  pointwise [val_main_v295, val_main_v294, val_main_v222, val_main_v183, val_main_v182, val_main_cst_36, val_main_v181, val_main_v180, val_main_cst_35, val_main_v179, val_main_v178, val_main_cst_34]
  simp only [chunk_dmx H, add_zero, H.dx, add_zero, H.wpb, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem sum_md (b : Fin 4) (k : Fin 1024) : val_main_v154 x0 x1 x2 x3 x5 x6 x7 x8 x9 x10 x11 x12 (ix2 b k) = ((∑ s, (A.row b s).dx k * (A.env b).mix (A.row b s) (A.mixed b s) k : ℝ) : EReal) := by
  pointwise [val_main_v154, val_main_cst_32, val_main_v153]
  simp only [row_mix H, add_zero, add_zero, add_zero, H.dx, H.gna, H.lng, H.lnb, H.ws, H.bs, H.wpa, H.wpb, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  rfl

theorem out_o (b : Fin 4) (s : Fin 2304) (j : Fin 512) : val_main_v283 x0 x1 x2 x3 x4 x5 x10 x12 (ix3 b s j) = ((if h : 256 ≤ s.val then (A.env b).dor (A.row b ⟨s.val - 256, by omega⟩) j else 0 : ℝ) : EReal) := by
  pointwise [val_main_v283, val_main_call3_v0, val_main_c_61]
  simp only [row_dor H, add_zero, add_zero, add_zero, H.dx, add_zero, H.gna, H.wpa, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  by_cases h : 256 ≤ s.val
  · rw [dif_pos ⟨h, by omega⟩, dif_pos h]
  · rw [dif_neg fun h' => h h'.1, dif_neg h]
    exact zero_pad

theorem out_rest (b : Fin 4) (s : Fin 2304) (k : Fin 3584) : val_main_v285 x0 x1 x2 x3 x4 x5 x6 x7 x8 x9 x10 x11 x12 (ix3 b s k) = ((if h : 256 ≤ s.val then (A.env b).rest (A.row b ⟨s.val - 256, by omega⟩) (A.mixed b ⟨s.val - 256, by omega⟩) (A.dvn b ⟨s.val - 256, by omega⟩) k else 0 : ℝ) : EReal) := by
  pointwise [val_main_v285, val_main_v284, val_main_call4_v0, val_main_c_62]
  simp only [row_rest H, add_zero, add_zero, add_zero, H.dx, add_zero, H.gna, H.lng, H.lnb, H.ws, H.bs, H.wpa, H.wpb, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  by_cases h : 256 ≤ s.val
  · rw [dif_pos ⟨h, by omega⟩, dif_pos h]
  · rw [dif_neg fun h' => h h'.1, dif_neg h]
    exact zero_pad

theorem out_md (b : Fin 4) (i : Fin 8) (k : Fin 1024) : val_main_v282 x0 x1 x2 x3 x5 x6 x7 x8 x9 x10 x11 x12 (ix3 b i k) = ((if i.val = 0 then ∑ s, (A.row b s).dx k * (A.env b).mix (A.row b s) (A.mixed b s) k else 0 : ℝ) : EReal) := by
  pointwise [val_main_v282, val_main_call2_v0, val_main_c, val_main_v281, val_main_v160, val_main_cst_33, val_main_v155]
  simp only [sum_md H, add_zero, add_zero, add_zero, H.dx, H.gna, H.lng, H.lnb, H.ws, H.bs, H.wpa, H.wpb, H.wo, word_eps, word_half, word_neghalf, word_two, word_three, word_num, word_den, word_root, word_128, word_512, Ideal.ofBits_one_f32, ← EReal.coe_one, ← EReal.coe_mul, coe_sum, div_128, div_512, div_den, div_mh, div_var, rsqrt_mh, rsqrt_var, ← EReal.coe_add, ← EReal.coe_sub, Ideal.ofBits_zero_f32, zero_add, ← EReal.coe_neg, sg_div, tanh_real, th_eq, Fin.sum_univ_one]
  by_cases h : i.val = 0
  · rw [dif_pos (by omega), if_pos h]
  · rw [dif_neg (by omega), if_neg h]
    exact zero_pad

end Cert.MixbRefIdeal.Read

end
-- ==== Proof.MixbRun.lean ====
/- The three runs of the mixers' backward body: the first point of all clears every accumulator, the context's rows of a batch
   entry give zero rows, and a block of latent rows adds its part to every accumulator. -/
module

public import proofs.«01_k».proof.Proof.Gen.MixbIdeal.Frame.Runs
public import proofs.«01_k».proof.Proof.Stores

@[expose] public section

set_option maxRecDepth 16384

noncomputable section

namespace Cert.MixbIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixbIdeal.Gen Cert.Stores

variable {F : FTy → Type} [FloatOps F] [Named F]

local notation "𝕄" => MT nD τ sig Unit (Elt F) ℕ (UR sig nD τ) ℕ

/-- What the eleven result buffers hold. -/
structure Held (F : FTy → Type) where
  o : Vec F S1x256x512 .f32
  rest : Vec F S1x256x3584 .bf16
  pa : Vec F S4x512x256 .f32
  pb : Vec F S4x512x256 .f32
  wo : Vec F S1024x1024 .f32
  g : Vec F S1x128 .f32
  lg : Vec F S1x512 .f32
  lb : Vec F S1x512 .f32
  ws : Vec F S4x128x128 .f32
  bs : Vec F S128x4 .f32
  md : Vec F S1x8x1024 .f32

/-- A buffer written whole holds what was written. -/
theorem read_whole {s : Shape} {e : EltTy} (v : View sig .tc .vmem s e) (f : v.ty.Contents (Elt F)) {off : Fin s.rank → ℕ}
    (h : off = fun _ => 0) (inb : ∀ a, off a + s.size a ≤ s.size a) (w : (Rect.unit off s.size inb).shape.Idx → Elt F e) (L : List (View.Piece (Elt F) s e)) :
    v.read (Elt F) (v.writes (Elt F) f (⟨Rect.unit off s.size inb, w⟩ :: L)) = w :=
  (read_cons v f _ w L).trans (overlay_whole h inb _ w)

variable (c : Dev nD) (i : grid0.Coords)
  {arg2 : Memref sig .tc .vmem S1x256x512 .f32} {harg2 : arg2.IsWhole}
  {arg3 : Memref sig .tc .vmem S1x256x512 .f32} {harg3 : arg3.IsWhole}
  {arg4 : Memref sig .tc .vmem S1x256x512 .f32} {harg4 : arg4.IsWhole}
  {arg5 : Memref sig .tc .vmem S1x256x512 .f32} {harg5 : arg5.IsWhole}
  {arg6 : Memref sig .tc .vmem S1x256x512 .f32} {harg6 : arg6.IsWhole}
  {arg7 : Memref sig .tc .vmem S1x256x512 .f32} {harg7 : arg7.IsWhole}
  {arg8 : Memref sig .tc .vmem S1x256x512 .f32} {harg8 : arg8.IsWhole}
  {arg9 : Memref sig .tc .vmem S1x256x512 .f32} {harg9 : arg9.IsWhole}
  {arg10 : Memref sig .tc .vmem S1x256x512 .f32} {harg10 : arg10.IsWhole}
  {arg11 : Memref sig .tc .vmem S1x256x1024 .f32} {harg11 : arg11.IsWhole}
  {arg12 : Memref sig .tc .vmem S1x8x1024 .f32} {harg12 : arg12.IsWhole}
  {arg13 : Memref sig .tc .vmem S1x128 .f32} {harg13 : arg13.IsWhole}
  {arg14 : Memref sig .tc .vmem S1x512 .f32} {harg14 : arg14.IsWhole}
  {arg15 : Memref sig .tc .vmem S1x512 .f32} {harg15 : arg15.IsWhole}
  {arg16 : Memref sig .tc .vmem S4x128x128 .f32} {harg16 : arg16.IsWhole}
  {arg17 : Memref sig .tc .vmem S128x4 .f32} {harg17 : arg17.IsWhole}
  {arg18 : Memref sig .tc .vmem S4x512x256 .bf16} {harg18 : arg18.IsWhole}
  {arg19 : Memref sig .tc .vmem S4x512x256 .bf16} {harg19 : arg19.IsWhole}
  {arg20 : Memref sig .tc .vmem S1024x1024 .bf16} {harg20 : arg20.IsWhole}
  {arg21 : Memref sig .tc .vmem S4x128x128 .f32} {harg21 : arg21.IsWhole}
  {arg22 : Memref sig .tc .vmem S1x256x512 .f32} {harg22 : arg22.IsWhole}
  {arg23 : Memref sig .tc .vmem S1x256x3584 .bf16} {harg23 : arg23.IsWhole}
  {arg24 : Memref sig .tc .vmem S4x512x256 .f32} {harg24 : arg24.IsWhole}
  {arg25 : Memref sig .tc .vmem S4x512x256 .f32} {harg25 : arg25.IsWhole}
  {arg26 : Memref sig .tc .vmem S1024x1024 .f32} {harg26 : arg26.IsWhole}
  {arg27 : Memref sig .tc .vmem S1x128 .f32} {harg27 : arg27.IsWhole}
  {arg28 : Memref sig .tc .vmem S1x512 .f32} {harg28 : arg28.IsWhole}
  {arg29 : Memref sig .tc .vmem S1x512 .f32} {harg29 : arg29.IsWhole}
  {arg30 : Memref sig .tc .vmem S4x128x128 .f32} {harg30 : arg30.IsWhole}
  {arg31 : Memref sig .tc .vmem S128x4 .f32} {harg31 : arg31.IsWhole}
  {arg32 : Memref sig .tc .vmem S1x8x1024 .f32} {harg32 : arg32.IsWhole}

/-- Everything at zero. -/
def cleared : Held F where
  o := k0_pay10
  rest := k0_pay11
  pa := k0_pay1
  pb := k0_pay2
  wo := k0_pay3
  g := k0_pay4
  lg := k0_pay5
  lb := k0_pay6
  ws := k0_pay7
  bs := k0_pay8
  md := k0_pay9

/-- The first point of all: every buffer is cleared. -/
theorem run_first (hc0 : cond0_0 i) (hc1 : cond0_1 i) (hc2 : ¬cond0_2 i) {d20 : Vec F S1x256x512 .f32} {d21 : Vec F S1x256x3584 .bf16} {d22 : Vec F S4x512x256 .f32} {d23 : Vec F S4x512x256 .f32} {d24 : Vec F S1024x1024 .f32} {d25 : Vec F S1x128 .f32} {d26 : Vec F S1x512 .f32} {d27 : Vec F S1x512 .f32} {d28 : Vec F S4x128x128 .f32} {d29 : Vec F S128x4 .f32} {d30 : Vec F S1x8x1024 .f32} (E : Set ℕ) (K : PUnit → sProp 𝕄) :
    iprop((owns (c : Thread nD τ) arg22 fullShare d20 ∗ owns (c : Thread nD τ) arg23 fullShare d21 ∗ owns (c : Thread nD τ) arg24 fullShare d22 ∗ owns (c : Thread nD τ) arg25 fullShare d23 ∗ owns (c : Thread nD τ) arg26 fullShare d24 ∗ owns (c : Thread nD τ) arg27 fullShare d25 ∗ owns (c : Thread nD τ) arg28 fullShare d26 ∗ owns (c : Thread nD τ) arg29 fullShare d27 ∗ owns (c : Thread nD τ) arg30 fullShare d28 ∗ owns (c : Thread nD τ) arg31 fullShare d29 ∗ owns (c : Thread nD τ) arg32 fullShare d30) ∗ ((owns (c : Thread nD τ) arg22 fullShare (cleared (F := F)).o ∗ owns (c : Thread nD τ) arg23 fullShare (cleared (F := F)).rest ∗ owns (c : Thread nD τ) arg24 fullShare (cleared (F := F)).pa ∗ owns (c : Thread nD τ) arg25 fullShare (cleared (F := F)).pb ∗ owns (c : Thread nD τ) arg26 fullShare (cleared (F := F)).wo ∗ owns (c : Thread nD τ) arg27 fullShare (cleared (F := F)).g ∗ owns (c : Thread nD τ) arg28 fullShare (cleared (F := F)).lg ∗ owns (c : Thread nD τ) arg29 fullShare (cleared (F := F)).lb ∗ owns (c : Thread nD τ) arg30 fullShare (cleared (F := F)).ws ∗ owns (c : Thread nD τ) arg31 fullShare (cleared (F := F)).bs ∗ owns (c : Thread nD τ) arg32 fullShare (cleared (F := F)).md) -∗ K ⟨⟩))
      ⊢ wp frame (wpE (defs₀ (F := F)) Variants.none c none) E (cc0_mix_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
  simp only [cc0_mix_bwd_eq_skeleton]; unfold cc0_mix_bwd_skel
  unfold owns
  iintro ⟨⟨⟨%f20, -, H20⟩, ⟨%f21, -, H21⟩, ⟨%f22, -, H22⟩, ⟨%f23, -, H23⟩, ⟨%f24, -, H24⟩, ⟨%f25, -, H25⟩, ⟨%f26, -, H26⟩, ⟨%f27, -, H27⟩, ⟨%f28, -, H28⟩, ⟨%f29, -, H29⟩, ⟨%f30, -, H30⟩⟩, Hk⟩
  sl_exec (disch := first | sl_exact hc0 | sl_exact hc1 | sl_exact hc2)
  sl_step
  iapply Hk
  isplitl [H20]
  · iexists _; isplitr; swap; · iexact H20
    ipureintro; exact read_whole _ _ (funext fun a => by fin_cases a <;> rfl) _ _ _
  isplitl [H21]
  · iexists _; isplitr; swap; · iexact H21
    ipureintro; exact read_whole _ _ (funext fun a => by fin_cases a <;> rfl) _ _ _
  isplitl [H22]
  · iexists _; isplitr; swap; · iexact H22
    ipureintro; exact read_whole _ _ (funext fun a => by fin_cases a <;> rfl) _ _ _
  isplitl [H23]
  · iexists _; isplitr; swap; · iexact H23
    ipureintro; exact read_whole _ _ (funext fun a => by fin_cases a <;> rfl) _ _ _
  isplitl [H24]
  · iexists _; isplitr; swap; · iexact H24
    ipureintro; exact read_whole _ _ (funext fun a => by fin_cases a <;> rfl) _ _ _
  isplitl [H25]
  · iexists _; isplitr; swap; · iexact H25
    ipureintro; exact read_whole _ _ (funext fun a => by fin_cases a <;> rfl) _ _ _
  isplitl [H26]
  · iexists _; isplitr; swap; · iexact H26
    ipureintro; exact read_whole _ _ (funext fun a => by fin_cases a <;> rfl) _ _ _
  isplitl [H27]
  · iexists _; isplitr; swap; · iexact H27
    ipureintro; exact read_whole _ _ (funext fun a => by fin_cases a <;> rfl) _ _ _
  isplitl [H28]
  · iexists _; isplitr; swap; · iexact H28
    ipureintro; exact read_whole _ _ (funext fun a => by fin_cases a <;> rfl) _ _ _
  isplitl [H29]
  · iexists _; isplitr; swap; · iexact H29
    ipureintro; exact read_whole _ _ (funext fun a => by fin_cases a <;> rfl) _ _ _
  iexists _; isplitr; swap; · iexact H30
  ipureintro; exact read_whole _ _ (funext fun a => by fin_cases a <;> rfl) _ _ _

/-- The context's rows of a later batch entry: zero rows, and a cleared gradient of the entry's modulation; the weights' stay. -/
theorem run_context (hc0 : ¬cond0_0 i) (hc1 : cond0_1 i) (hc2 : ¬cond0_2 i) {d20 : Vec F S1x256x512 .f32} {d21 : Vec F S1x256x3584 .bf16} {d30 : Vec F S1x8x1024 .f32} (E : Set ℕ) (K : PUnit → sProp 𝕄) :
    iprop((owns (c : Thread nD τ) arg22 fullShare d20 ∗ owns (c : Thread nD τ) arg23 fullShare d21 ∗ owns (c : Thread nD τ) arg32 fullShare d30) ∗ ((owns (c : Thread nD τ) arg22 fullShare (cleared (F := F)).o ∗ owns (c : Thread nD τ) arg23 fullShare (cleared (F := F)).rest ∗ owns (c : Thread nD τ) arg32 fullShare (cleared (F := F)).md) -∗ K ⟨⟩))
      ⊢ wp frame (wpE (defs₀ (F := F)) Variants.none c none) E (cc0_mix_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
  simp only [cc0_mix_bwd_eq_skeleton]; unfold cc0_mix_bwd_skel
  unfold owns
  iintro ⟨⟨⟨%f20, -, H20⟩, ⟨%f21, -, H21⟩, ⟨%f30, -, H30⟩⟩, Hk⟩
  sl_exec (disch := first | sl_exact hc0 | sl_exact hc1 | sl_exact hc2)
  sl_step
  iapply Hk
  isplitl [H20]
  · iexists _; isplitr; swap; · iexact H20
    ipureintro; exact read_whole _ _ (funext fun a => by fin_cases a <;> rfl) _ _ _
  isplitl [H21]
  · iexists _; isplitr; swap; · iexact H21
    ipureintro; exact read_whole _ _ (funext fun a => by fin_cases a <;> rfl) _ _ _
  iexists _; isplitr; swap; · iexact H30
  ipureintro; exact read_whole _ _ (funext fun a => by fin_cases a <;> rfl) _ _ _

-- the run's term is large
set_option maxHeartbeats 0 in
/-- A block of latent rows: what the body leaves in every result buffer, found by the run. -/
def run_block (hc0 : ¬cond0_0 i) (hc1 : ¬cond0_1 i) (hc2 : cond0_2 i)
    (x0 : Vec F S1x256x512 .f32) (x1 : Vec F S1x256x512 .f32) (x2 : Vec F S1x256x512 .f32) (x3 : Vec F S1x256x512 .f32) (x4 : Vec F S1x256x512 .f32) (x5 : Vec F S1x256x512 .f32) (x6 : Vec F S1x256x512 .f32) (x7 : Vec F S1x256x512 .f32) (x8 : Vec F S1x256x512 .f32) (x9 : Vec F S1x256x1024 .f32) (x10 : Vec F S1x8x1024 .f32) (x11 : Vec F S1x128 .f32) (x12 : Vec F S1x512 .f32) (x13 : Vec F S1x512 .f32) (x14 : Vec F S4x128x128 .f32) (x15 : Vec F S128x4 .f32) (x16 : Vec F S4x512x256 .bf16) (x17 : Vec F S4x512x256 .bf16) (x18 : Vec F S1024x1024 .bf16) (x19 : Vec F S4x128x128 .f32) (h : Held F) :
    { r : Held F // ∀ (E : Set ℕ) (K : PUnit → sProp 𝕄),
      iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19) ∗ ((∃ d, owns (c : Thread nD τ) arg22 fullShare d) ∗ (∃ d, owns (c : Thread nD τ) arg23 fullShare d) ∗ owns (c : Thread nD τ) arg24 fullShare h.pa ∗ owns (c : Thread nD τ) arg25 fullShare h.pb ∗ owns (c : Thread nD τ) arg26 fullShare h.wo ∗ owns (c : Thread nD τ) arg27 fullShare h.g ∗ owns (c : Thread nD τ) arg28 fullShare h.lg ∗ owns (c : Thread nD τ) arg29 fullShare h.lb ∗ owns (c : Thread nD τ) arg30 fullShare h.ws ∗ owns (c : Thread nD τ) arg31 fullShare h.bs ∗ owns (c : Thread nD τ) arg32 fullShare h.md)
          ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19) -∗ (owns (c : Thread nD τ) arg22 fullShare r.o ∗ owns (c : Thread nD τ) arg23 fullShare r.rest ∗ owns (c : Thread nD τ) arg24 fullShare r.pa ∗ owns (c : Thread nD τ) arg25 fullShare r.pb ∗ owns (c : Thread nD τ) arg26 fullShare r.wo ∗ owns (c : Thread nD τ) arg27 fullShare r.g ∗ owns (c : Thread nD τ) arg28 fullShare r.lg ∗ owns (c : Thread nD τ) arg29 fullShare r.lb ∗ owns (c : Thread nD τ) arg30 fullShare r.ws ∗ owns (c : Thread nD τ) arg31 fullShare r.bs ∗ owns (c : Thread nD τ) arg32 fullShare r.md) -∗ K ⟨⟩))
        ⊢ wp frame (wpE (defs₀ (F := F)) Variants.none c none) E (cc0_mix_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K } := by
  refine ⟨⟨?_, ?_, ?_, ?_, ?_, ?_, ?_, ?_, ?_, ?_, ?_⟩, fun E K => ?run⟩
  case run =>
    simp only [cc0_mix_bwd_eq_skeleton]; unfold cc0_mix_bwd_skel
    rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩⟩, ⟨⟨%d20, %f20, -, H20⟩, ⟨%d21, %f21, -, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg24.eq_unread hf22; obtain rfl := harg25.eq_unread hf23; obtain rfl := harg26.eq_unread hf24; obtain rfl := harg27.eq_unread hf25; obtain rfl := harg28.eq_unread hf26; obtain rfl := harg29.eq_unread hf27; obtain rfl := harg30.eq_unread hf28; obtain rfl := harg31.eq_unread hf29; obtain rfl := harg32.eq_unread hf30
    sl_exec (disch := first | sl_exact hc0 | sl_exact hc1 | sl_exact hc2)
    sl_step
    ispecialize Hk $$ [H0 H1 H2 H3 H4 H5 H6 H7 H8 H9 H10 H11 H12 H13 H14 H15 H16 H17 H18 H19]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _; isplitr; · ipureintro; exact harg12.read_unread _
        iexact H10
      isplitl [H11]
      · iexists _; isplitr; · ipureintro; exact harg13.read_unread _
        iexact H11
      isplitl [H12]
      · iexists _; isplitr; · ipureintro; exact harg14.read_unread _
        iexact H12
      isplitl [H13]
      · iexists _; isplitr; · ipureintro; exact harg15.read_unread _
        iexact H13
      isplitl [H14]
      · iexists _; isplitr; · ipureintro; exact harg16.read_unread _
        iexact H14
      isplitl [H15]
      · iexists _; isplitr; · ipureintro; exact harg17.read_unread _
        iexact H15
      isplitl [H16]
      · iexists _; isplitr; · ipureintro; exact harg18.read_unread _
        iexact H16
      isplitl [H17]
      · iexists _; isplitr; · ipureintro; exact harg19.read_unread _
        iexact H17
      isplitl [H18]
      · iexists _; isplitr; · ipureintro; exact harg20.read_unread _
        iexact H18
      iexists _; isplitr; · ipureintro; exact harg21.read_unread _
      iexact H19
    iapply Hk
    isplitl [H20]
    · iexists _; isplitr; swap; · iexact H20
      ipureintro; rw [read_cons]; refine overlay_whole ?_ _ _ _; funext a; fin_cases a <;> rfl
    isplitl [H21]
    · iexists _; isplitr; swap; · iexact H21
      ipureintro; rw [read_cons]; refine overlay_whole ?_ _ _ _; funext a; fin_cases a <;> rfl
    isplitl [H22]
    · iexists _; isplitr; swap; · iexact H22
      ipureintro; rfl
    isplitl [H23]
    · iexists _; isplitr; swap; · iexact H23
      ipureintro; rfl
    isplitl [H24]
    · iexists _; isplitr; swap; · iexact H24
      ipureintro; rfl
    isplitl [H25]
    · iexists _; isplitr; swap; · iexact H25
      ipureintro; rfl
    isplitl [H26]
    · iexists _; isplitr; swap; · iexact H26
      ipureintro; rfl
    isplitl [H27]
    · iexists _; isplitr; swap; · iexact H27
      ipureintro; rfl
    isplitl [H28]
    · iexists _; isplitr; swap; · iexact H28
      ipureintro; rfl
    isplitl [H29]
    · iexists _; isplitr; swap; · iexact H29
      ipureintro; rfl
    iexists _; isplitr; swap; · iexact H30
    ipureintro; rfl

end Cert.MixbIdeal.Run

end
-- ==== Proof.MixbFrame.lean ====
/- The frame of the mixers' backward call: what the result buffers hold point by point, the pipeline's proof data, the obligation
   of the body at each of its three kinds of point, and the run of the whole program. -/
module

public import proofs.«01_k».proof.Proof.MixbRun
public import Idealize.ShloMosaic.Lib.Claim

@[expose] public section

set_option maxRecDepth 16384

noncomputable section

namespace Cert.MixbIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixbIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem points (t : Fin cfg0.N) : t.val < 36 := lt_of_lt_of_eq t.isLt N_0

/-- What a block of latent rows leaves, from what the buffers held. -/
def block (c : Dev nD) (t : Fin cfg0.N) (h1 : ¬t.val % 9 = 0) (h : Held F) : Held F :=
  (run_block c (grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := ms0_12 t) (harg14 := hs0_12 t) (arg15 := ms0_13 t) (harg15 := hs0_13 t) (arg16 := ms0_14 t) (harg16 := hs0_14 t) (arg17 := ms0_15 t) (harg17 := hs0_15 t) (arg18 := ms0_16 t) (harg18 := hs0_16 t) (arg19 := ms0_17 t) (harg19 := hs0_17 t) (arg20 := ms0_18 t) (harg20 := hs0_18 t) (arg21 := ms0_19 t) (harg21 := hs0_19 t) (arg22 := ms0_20 t) (harg22 := hs0_20 t) (arg23 := ms0_21 t) (harg23 := hs0_21 t) (arg24 := ms0_22 t) (harg24 := hs0_22 t) (arg25 := ms0_23 t) (harg25 := hs0_23 t) (arg26 := ms0_24 t) (harg26 := hs0_24 t) (arg27 := ms0_25 t) (harg27 := hs0_25 t) (arg28 := ms0_26 t) (harg28 := hs0_26 t) (arg29 := ms0_27 t) (harg29 := hs0_27 t) (arg30 := ms0_28 t) (harg30 := hs0_28 t) (arg31 := ms0_29 t) (harg31 := hs0_29 t) (arg32 := ms0_30 t) (harg32 := hs0_30 t)
    (fun h' => h1 (by have := (hcond0_0 t).mp h'; omega)) (fun h' => h1 ((hcond0_1 t).mp h')) ((hcond0_2 t).mpr (by omega))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) h).1

/-- What the result buffers hold after the body at each point. -/
def held (c : Dev nD) : (n : ℕ) → n < cfg0.N → Held F
  | 0, _ => cleared
  | n + 1, hn =>
    if h1 : (n + 1) % 9 = 0 then
      { held c n (Nat.lt_of_succ_lt hn) with o := (cleared (F := F)).o, rest := (cleared (F := F)).rest, md := (cleared (F := F)).md }
    else block m c ⟨n + 1, hn⟩ h1 (held c n (Nat.lt_of_succ_lt hn))

/-- The point before. -/
abbrev prev (t : Fin cfg0.N) : Fin cfg0.N := ⟨t.val - 1, Nat.lt_of_le_of_lt (Nat.sub_le _ _) t.isLt⟩

theorem held_first (c : Dev nD) (t : Fin cfg0.N) (h0 : t.val % 36 = 0) : held m c t.val t.isLt = cleared := by
  obtain ⟨n, hn⟩ := t
  have := points ⟨n, hn⟩
  obtain rfl : n = 0 := by simp only at h0 this; omega
  rfl

theorem held_context (c : Dev nD) (t : Fin cfg0.N) (h0 : ¬t.val % 36 = 0) (h1 : t.val % 9 = 0) :
    held m c t.val t.isLt = { held m c (prev t).val (prev t).isLt with o := (cleared (F := F)).o, rest := (cleared (F := F)).rest, md := (cleared (F := F)).md } := by
  obtain ⟨n, hn⟩ := t
  cases n with
  | zero => exact absurd (Nat.zero_mod _) h0
  | succ n => exact dif_pos h1

theorem held_block (c : Dev nD) (t : Fin cfg0.N) (h1 : ¬t.val % 9 = 0) :
    held m c t.val t.isLt = block m c t h1 (held m c (prev t).val (prev t).isLt) := by
  obtain ⟨n, hn⟩ := t
  cases n with
  | zero => exact absurd (Nat.zero_mod _) h1
  | succ n => exact dif_neg h1

/-- The proof data: the arrays as the region finds them, every input's block in place, the results as `held`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => (held m c t.val t.isLt).o
    | ⟨21, _⟩ => (held m c t.val t.isLt).rest
    | ⟨22, _⟩ => (held m c t.val t.isLt).pa
    | ⟨23, _⟩ => (held m c t.val t.isLt).pb
    | ⟨24, _⟩ => (held m c t.val t.isLt).wo
    | ⟨25, _⟩ => (held m c t.val t.isLt).g
    | ⟨26, _⟩ => (held m c t.val t.isLt).lg
    | ⟨27, _⟩ => (held m c t.val t.isLt).lb
    | ⟨28, _⟩ => (held m c t.val t.isLt).ws
    | ⟨29, _⟩ => (held m c t.val t.isLt).bs
    | ⟨30, _⟩ => (held m c t.val t.isLt).md
    | ⟨_ + 31, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-- A window the body does not leave alone. -/
theorem live (w : Fin 31) (t : Fin cfg0.N) : w.val < 22 ∨ w.val = 30 ∨ ¬t.val % 9 = 0 ∨ t.val % 36 = 0 → cfg0.idle w (grid0.coords t) = false :=
  (by decide +kernel : ∀ (w : Fin 31) (t : Fin cfg0.N), w.val < 22 ∨ w.val = 30 ∨ ¬t.val % 9 = 0 ∨ t.val % 36 = 0 → cfg0.idle w (grid0.coords t) = false) w t

theorem leaves (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact
  rw [h]

/-- A weights' accumulator or the modulation's row, left alone, is as at the point before. -/
theorem carry (c : Dev nD) (w : Fin cfg0.W) (hw : 22 ≤ w.val) (t : Fin cfg0.N) (ht : t.val ≠ 0) (hi : cfg0.idle w (grid0.coords t) = true) :
    (dats m 0 c).after w t = (dats m 0 c).after w (prev t) := by
  have hN := points t
  by_cases h1 : t.val % 9 = 0
  · have h := held_context m c t (by omega) h1
    obtain ⟨n, hn⟩ := w
    have hn' : n < 31 := hn
    replace hw : 22 ≤ n := hw
    interval_cases n
    case «30» => rw [live ⟨30, hn⟩ t (.inr (.inl rfl))] at hi; cases hi
    all_goals (dsimp only [dats]; rw [h])
  · rw [live w t (.inr (.inr (.inl h1)))] at hi
    cases hi

/-- At a block of latent rows the accumulators hold what the point before left. -/
theorem before_kept (c : Dev nD) (w : Fin cfg0.W) (hw : 22 ≤ w.val) (t : Fin cfg0.N) (h1 : ¬t.val % 9 = 0) (d) :
    (dats m 0 c).before w t d = (dats m 0 c).after w (prev t) := by
  have hN := points t
  have e0 : ¬cond0_0 (grid0.coords t) := fun h' => h1 (by have := (hcond0_0 t).mp h'; omega)
  have e1 : ¬cond0_1 (grid0.coords t) := fun h' => h1 ((hcond0_1 t).mp h')
  have e2 : cond0_2 (grid0.coords t) := (hcond0_2 t).mpr (by omega)
  have hf : cfg0.fresh w t.val = false := by
    obtain ⟨n, hn⟩ := w
    have hn' : n < 31 := hn
    replace hw : 22 ≤ n := hw
    interval_cases n
    exacts [notFresh0_22_B t e0 e1 e2, notFresh0_23_B t e0 e1 e2, notFresh0_24_B t e0 e1 e2, notFresh0_25_B t e0 e1 e2, notFresh0_26_B t e0 e1 e2, notFresh0_27_B t e0 e1 e2, notFresh0_28_B t e0 e1 e2, notFresh0_29_B t e0 e1 e2, notFresh0_30_B t e0 e1 e2]
  have ho : (cfg0.win w).isOut = true := by
    obtain ⟨n, hn⟩ := w
    have hn' : n < 31 := hn
    replace hw : 22 ≤ n := hw
    interval_cases n <;> rfl
  have hc : ∀ (i : cfg0.grid.Coords) a, (cfg0.win w).clip i a = none := by
    obtain ⟨n, hn⟩ := w
    have hn' : n < 31 := hn
    replace hw : 22 ≤ n := hw
    interval_cases n <;> exact fun _ _ => rfl
  rw [Dat.before_out_traj _ w ho hc (fun t ht hi _ => carry m c w hw t ht hi) t.val t rfl d, hf]
  rfl

/-- What the body is called with at a point, and what it returns. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)) ∗ (∃ d, owns (c : Thread nD τ) (ms0_15 t) fullShare ((dats m 0 c).before 15 t d)) ∗ (∃ d, owns (c : Thread nD τ) (ms0_16 t) fullShare ((dats m 0 c).before 16 t d)) ∗ (∃ d, owns (c : Thread nD τ) (ms0_17 t) fullShare ((dats m 0 c).before 17 t d)) ∗ (∃ d, owns (c : Thread nD τ) (ms0_18 t) fullShare ((dats m 0 c).before 18 t d)) ∗ (∃ d, owns (c : Thread nD τ) (ms0_19 t) fullShare ((dats m 0 c).before 19 t d)) ∗ (∃ d, owns (c : Thread nD τ) (ms0_20 t) fullShare ((dats m 0 c).before 20 t d)) ∗ (∃ d, owns (c : Thread nD τ) (ms0_21 t) fullShare ((dats m 0 c).before 21 t d)) ∗ (∃ d, owns (c : Thread nD τ) (ms0_22 t) fullShare ((dats m 0 c).before 22 t d)) ∗ (∃ d, owns (c : Thread nD τ) (ms0_23 t) fullShare ((dats m 0 c).before 23 t d)) ∗ (∃ d, owns (c : Thread nD τ) (ms0_24 t) fullShare ((dats m 0 c).before 24 t d)) ∗ (∃ d, owns (c : Thread nD τ) (ms0_25 t) fullShare ((dats m 0 c).before 25 t d)) ∗ (∃ d, owns (c : Thread nD τ) (ms0_26 t) fullShare ((dats m 0 c).before 26 t d)) ∗ (∃ d, owns (c : Thread nD τ) (ms0_27 t) fullShare ((dats m 0 c).before 27 t d)) ∗ (∃ d, owns (c : Thread nD τ) (ms0_28 t) fullShare ((dats m 0 c).before 28 t d)) ∗ (∃ d, owns (c : Thread nD τ) (ms0_29 t) fullShare ((dats m 0 c).before 29 t d)) ∗ (∃ d, owns (c : Thread nD τ) (ms0_30 t) fullShare ((dats m 0 c).before 30 t d)))

def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t ∗ (dats m 0 c).leavesExact 17 t ∗ (dats m 0 c).leavesExact 18 t ∗ (dats m 0 c).leavesExact 19 t ∗ (dats m 0 c).leavesExact 20 t ∗ (dats m 0 c).leavesExact 21 t ∗ (dats m 0 c).leavesExact 22 t ∗ (dats m 0 c).leavesExact 23 t ∗ (dats m 0 c).leavesExact 24 t ∗ (dats m 0 c).leavesExact 25 t ∗ (dats m 0 c).leavesExact 26 t ∗ (dats m 0 c).leavesExact 27 t ∗ (dats m 0 c).leavesExact 28 t ∗ (dats m 0 c).leavesExact 29 t ∗ (dats m 0 c).leavesExact 30 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (fun _ => rfl), before0_1_of m (dats m 0 c) (A_eq m c 1) (fun _ => rfl), before0_2_of m (dats m 0 c) (A_eq m c 2) (fun _ => rfl), before0_3_of m (dats m 0 c) (A_eq m c 3) (fun _ => rfl), before0_4_of m (dats m 0 c) (A_eq m c 4) (fun _ => rfl), before0_5_of m (dats m 0 c) (A_eq m c 5) (fun _ => rfl), before0_6_of m (dats m 0 c) (A_eq m c 6) (fun _ => rfl), before0_7_of m (dats m 0 c) (A_eq m c 7) (fun _ => rfl), before0_8_of m (dats m 0 c) (A_eq m c 8) (fun _ => rfl), before0_9_of m (dats m 0 c) (A_eq m c 9) (fun _ => rfl), before0_10_of m (dats m 0 c) (A_eq m c 10) (fun _ => rfl), before0_11_of m (dats m 0 c) (A_eq m c 11) (fun _ => rfl), before0_12_of m (dats m 0 c) (A_eq m c 12) (fun _ => rfl), before0_13_of m (dats m 0 c) (A_eq m c 13) (fun _ => rfl), before0_14_of m (dats m 0 c) (A_eq m c 14) (fun _ => rfl), before0_15_of m (dats m 0 c) (A_eq m c 15) (fun _ => rfl), before0_16_of m (dats m 0 c) (A_eq m c 16) (fun _ => rfl), before0_17_of m (dats m 0 c) (A_eq m c 17) (fun _ => rfl), before0_18_of m (dats m 0 c) (A_eq m c 18) (fun _ => rfl), before0_19_of m (dats m 0 c) (A_eq m c 19) (fun _ => rfl)]
  rw [show (dats m 0 c).Φ t.succ = (dats m 0 c).Φ t.castSucc from rfl,
    show (dats m 0 c).owesAt () t.succ = (dats m 0 c).owesAt () t.castSucc from rfl]
  rw [leaves m c 0 t (live 0 t (.inl (by decide))), leaves m c 1 t (live 1 t (.inl (by decide))), leaves m c 2 t (live 2 t (.inl (by decide))), leaves m c 3 t (live 3 t (.inl (by decide))), leaves m c 4 t (live 4 t (.inl (by decide))), leaves m c 5 t (live 5 t (.inl (by decide))), leaves m c 6 t (live 6 t (.inl (by decide))), leaves m c 7 t (live 7 t (.inl (by decide))), leaves m c 8 t (live 8 t (.inl (by decide))), leaves m c 9 t (live 9 t (.inl (by decide))), leaves m c 10 t (live 10 t (.inl (by decide))), leaves m c 11 t (live 11 t (.inl (by decide))), leaves m c 12 t (live 12 t (.inl (by decide))), leaves m c 13 t (live 13 t (.inl (by decide))), leaves m c 14 t (live 14 t (.inl (by decide))), leaves m c 15 t (live 15 t (.inl (by decide))), leaves m c 16 t (live 16 t (.inl (by decide))), leaves m c 17 t (live 17 t (.inl (by decide))), leaves m c 18 t (live 18 t (.inl (by decide))), leaves m c 19 t (live 19 t (.inl (by decide))), leaves m c 20 t (live 20 t (.inl (by decide))), leaves m c 21 t (live 21 t (.inl (by decide))), leaves m c 30 t (live 30 t (.inr (.inl rfl)))]
  have hN := points t
  by_cases h1 : t.val % 9 = 0
  · have e1 := (hcond0_1 t).mpr h1
    have e2 : ¬cond0_2 (grid0.coords t) := fun h' => by have := (hcond0_2 t).mp h'; omega
    by_cases h0 : t.val % 36 = 0
    · rw [leaves m c 22 t (live 22 t (.inr (.inr (.inr h0)))), leaves m c 23 t (live 23 t (.inr (.inr (.inr h0)))), leaves m c 24 t (live 24 t (.inr (.inr (.inr h0)))), leaves m c 25 t (live 25 t (.inr (.inr (.inr h0)))), leaves m c 26 t (live 26 t (.inr (.inr (.inr h0)))), leaves m c 27 t (live 27 t (.inr (.inr (.inr h0)))), leaves m c 28 t (live 28 t (.inr (.inr (.inr h0)))), leaves m c 29 t (live 29 t (.inr (.inr (.inr h0))))]
      dsimp only [dats]
      rw [held_first m c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
      iapply run_first c (grid0.coords t) ((hcond0_0 t).mpr h0) e1 e2
      isplitl [H20 H21 H22 H23 H24 H25 H26 H27 H28 H29 H30]
      · iframe H20 H21 H22 H23 H24 H25 H26 H27 H28 H29 H30
      iintro ⟨H20, H21, H22, H23, H24, H25, H26, H27, H28, H29, H30⟩
      isplitl [HΦ]; · iexact HΦ
      isplitl [Ho]; · iexact Ho

      iframe H0 H1 H2 H3 H4 H5 H6 H7 H8 H9 H10 H11 H12 H13 H14 H15 H16 H17 H18 H19 H20 H21 H22 H23 H24 H25 H26 H27 H28 H29 H30
    · have e0 : ¬cond0_0 (grid0.coords t) := fun h' => h0 ((hcond0_0 t).mp h')
      rw [Dat.leavesExact_idle (dats m 0 c) 22 t (idleAt0_22_C t e0 e1 e2) (noFlush0_22_C t e0 e1 e2), Dat.leavesExact_idle (dats m 0 c) 23 t (idleAt0_23_C t e0 e1 e2) (noFlush0_23_C t e0 e1 e2), Dat.leavesExact_idle (dats m 0 c) 24 t (idleAt0_24_C t e0 e1 e2) (noFlush0_24_C t e0 e1 e2), Dat.leavesExact_idle (dats m 0 c) 25 t (idleAt0_25_C t e0 e1 e2) (noFlush0_25_C t e0 e1 e2), Dat.leavesExact_idle (dats m 0 c) 26 t (idleAt0_26_C t e0 e1 e2) (noFlush0_26_C t e0 e1 e2), Dat.leavesExact_idle (dats m 0 c) 27 t (idleAt0_27_C t e0 e1 e2) (noFlush0_27_C t e0 e1 e2), Dat.leavesExact_idle (dats m 0 c) 28 t (idleAt0_28_C t e0 e1 e2) (noFlush0_28_C t e0 e1 e2), Dat.leavesExact_idle (dats m 0 c) 29 t (idleAt0_29_C t e0 e1 e2) (noFlush0_29_C t e0 e1 e2)]
      have hh := held_context m c t h0 h1
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, H22, H23, H24, H25, H26, H27, H28, H29, ⟨%d30, H30⟩⟩
      iapply run_context c (grid0.coords t) e0 e1 e2
      isplitl [H20 H21 H30]
      · iframe H20 H21 H30
      iintro ⟨H20, H21, H30⟩
      rw [show (dats m 0 c).after 20 t = (cleared (F := F)).o from by dsimp only [dats]; rw [hh],
        show (dats m 0 c).after 21 t = (cleared (F := F)).rest from by dsimp only [dats]; rw [hh],
        show (dats m 0 c).after 30 t = (cleared (F := F)).md from by dsimp only [dats]; rw [hh]]
      isplitl [HΦ]; · iexact HΦ
      isplitl [Ho]; · iexact Ho
      iframe H0 H1 H2 H3 H4 H5 H6 H7 H8 H9 H10 H11 H12 H13 H14 H15 H16 H17 H18 H19 H20 H21 H22 H23 H24 H25 H26 H27 H28 H29 H30
  · rw [leaves m c 22 t (live 22 t (.inr (.inr (.inl h1)))), leaves m c 23 t (live 23 t (.inr (.inr (.inl h1)))), leaves m c 24 t (live 24 t (.inr (.inr (.inl h1)))), leaves m c 25 t (live 25 t (.inr (.inr (.inl h1)))), leaves m c 26 t (live 26 t (.inr (.inr (.inl h1)))), leaves m c 27 t (live 27 t (.inr (.inr (.inl h1)))), leaves m c 28 t (live 28 t (.inr (.inr (.inl h1)))), leaves m c 29 t (live 29 t (.inr (.inr (.inl h1))))]
    simp only [before_kept m c 22 (by decide) t h1, before_kept m c 23 (by decide) t h1, before_kept m c 24 (by decide) t h1, before_kept m c 25 (by decide) t h1, before_kept m c 26 (by decide) t h1, before_kept m c 27 (by decide) t h1, before_kept m c 28 (by decide) t h1, before_kept m c 29 (by decide) t h1, before_kept m c 30 (by decide) t h1]
    dsimp only [dats]
    rw [held_block m c t h1]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
    iapply (run_block c (grid0.coords t) (fun h' => h1 (by have := (hcond0_0 t).mp h'; omega)) (fun h' => h1 ((hcond0_1 t).mp h')) ((hcond0_2 t).mpr (by omega))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (held m c (prev t).val (prev t).isLt)).2
    isplitl [H0 H1 H2 H3 H4 H5 H6 H7 H8 H9 H10 H11 H12 H13 H14 H15 H16 H17 H18 H19]
    · iframe H0 H1 H2 H3 H4 H5 H6 H7 H8 H9 H10 H11 H12 H13 H14 H15 H16 H17 H18 H19
    isplitl [H20 H21 H22 H23 H24 H25 H26 H27 H28 H29 H30]
    · isplitl [H20]; · iexists _; iexact H20
      isplitl [H21]; · iexists _; iexact H21
      iframe H22 H23 H24 H25 H26 H27 H28 H29 H30
    iintro ⟨H0, H1, H2, H3, H4, H5, H6, H7, H8, H9, H10, H11, H12, H13, H14, H15, H16, H17, H18, H19⟩ ⟨H20, H21, H22, H23, H24, H25, H26, H27, H28, H29, H30⟩
    isplitl [HΦ]; · iexact HΦ
    isplitl [Ho]; · iexact Ho
    unfold block
    iframe H0 H1 H2 H3 H4 H5 H6 H7 H8 H9 H10 H11 H12 H13 H14 H15 H16 H17 H18 H19 H20 H21 H22 H23 H24 H25 H26 H27 H28 H29 H30

/-- The body table's row at a point's slots is the body. -/
theorem row_body (t : Fin cfg0.N) : defs₀ (F := F) .tc cfg0.body (cfg0.bodyArgs t (cfg0.slots t)) = bodyAt0 t := by
  unfold defs₀
  rw [Defs.onTc_tc]

set_option maxHeartbeats 4000000 in
theorem body_obligation (c : Dev nD) : BodyObligation (dats (F := F) m 0 c) (defs₀ (F := F)) Variants.none () Set.univ := fun t => by
  rw [bigSep_W0, bigSep_W0, row_body]
  exact triple_restated (sound_body m c t) rfl .rfl fun _ => .rfl

set_option backward.isDefEq.respectTransparency.types false in
set_option maxHeartbeats 4000000 in
/-- From any memory with zero counters every execution ends, with the arrays as the proof data says and the counters at zero. -/
theorem run_main_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiet m ρ)

/-- The frame: every execution ends, no argument changes, every counter ends at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) (run_main m ρ)) ((θ_run defs _ _).mono (fun _ h => h.2) (run_main_quiet m ρ))

end Cert.MixbIdeal.Run

end
-- ==== Proof.Slabs.lean ====
/- Parts of an array that a kernel's body loads and stores on their own: one of several slabs along the first of three axes, and one
   of several columns of a rank-2 array. -/
module

public import proofs.«01_k».proof.Proof.Stores

@[expose] public section

noncomputable section

namespace Cert.Stores

open Idealize.ShloMosaic

variable {e : EltTy} {Val : EltTy → Type} {n n1 n2 : ℕ}

/-- Slab `k` of an array, and the array with that slab replaced. -/
def slab (k : ℕ) (hk : k < n) (x : (⟨3, ![n, n1, n2]⟩ : Shape).Idx → Val e) : (⟨3, ![1, n1, n2]⟩ : Shape).Idx → Val e := fun y => x (ix3 ⟨k, hk⟩ (y 1) (y 2))
def setSlab (k : ℕ) (w : (⟨3, ![1, n1, n2]⟩ : Shape).Idx → Val e) (x : (⟨3, ![n, n1, n2]⟩ : Shape).Idx → Val e) : (⟨3, ![n, n1, n2]⟩ : Shape).Idx → Val e :=
  fun y => if (y 0).val = k then w (ix3 0 (y 1) (y 2)) else x y

/-- Column `k` of an array, and the array with that column replaced. -/
def col (k : ℕ) (hk : k < n2) (x : (⟨2, ![n1, n2]⟩ : Shape).Idx → Val e) : (⟨2, ![n1, 1]⟩ : Shape).Idx → Val e := fun y => x (ix2 (y 0) ⟨k, hk⟩)
def setCol (k : ℕ) (w : (⟨2, ![n1, 1]⟩ : Shape).Idx → Val e) (x : (⟨2, ![n1, n2]⟩ : Shape).Idx → Val e) : (⟨2, ![n1, n2]⟩ : Shape).Idx → Val e :=
  fun y => if (y 1).val = k then w (ix2 (y 0) 0) else x y

theorem slab_apply {k : ℕ} (hk : k < n) (x : (⟨3, ![n, n1, n2]⟩ : Shape).Idx → Val e) (i : Fin n1) (j : Fin n2) : slab k hk x (ix3 0 i j) = x (ix3 ⟨k, hk⟩ i j) := rfl

theorem setSlab_apply (k : ℕ) (w : (⟨3, ![1, n1, n2]⟩ : Shape).Idx → Val e) (x : (⟨3, ![n, n1, n2]⟩ : Shape).Idx → Val e) (s : Fin n) (i : Fin n1) (j : Fin n2) :
    setSlab k w x (ix3 s i j) = if s.val = k then w (ix3 0 i j) else x (ix3 s i j) := rfl

theorem col_apply {k : ℕ} (hk : k < n2) (x : (⟨2, ![n1, n2]⟩ : Shape).Idx → Val e) (i : Fin n1) : col k hk x (ix2 i 0) = x (ix2 i ⟨k, hk⟩) := rfl

theorem setCol_apply (k : ℕ) (w : (⟨2, ![n1, 1]⟩ : Shape).Idx → Val e) (x : (⟨2, ![n1, n2]⟩ : Shape).Idx → Val e) (i : Fin n1) (s : Fin n2) :
    setCol k w x (ix2 i s) = if s.val = k then w (ix2 i 0) else x (ix2 i s) := rfl

theorem slab_setSlab {k i : ℕ} (hi : i < n) (h : i ≠ k) (w : (⟨3, ![1, n1, n2]⟩ : Shape).Idx → Val e) (x : (⟨3, ![n, n1, n2]⟩ : Shape).Idx → Val e) :
    slab i hi (setSlab k w x) = slab i hi x := funext fun _ => if_neg h

theorem slab_setSlab_self {k : ℕ} (hk : k < n) (w : (⟨3, ![1, n1, n2]⟩ : Shape).Idx → Val e) (x : (⟨3, ![n, n1, n2]⟩ : Shape).Idx → Val e) :
    slab k hk (setSlab k w x) = w := funext fun y => by
  rw [eq_ix3 y, show y 0 = (0 : Fin 1) from Subsingleton.elim (α := Fin 1) _ _]
  exact if_pos rfl

theorem col_setCol {k i : ℕ} (hi : i < n2) (h : i ≠ k) (w : (⟨2, ![n1, 1]⟩ : Shape).Idx → Val e) (x : (⟨2, ![n1, n2]⟩ : Shape).Idx → Val e) :
    col i hi (setCol k w x) = col i hi x := funext fun _ => if_neg h

theorem col_setCol_self {k : ℕ} (hk : k < n2) (w : (⟨2, ![n1, 1]⟩ : Shape).Idx → Val e) (x : (⟨2, ![n1, n2]⟩ : Shape).Idx → Val e) :
    col k hk (setCol k w x) = w := funext fun y => by
  rw [eq_ix2 y, show y 1 = (0 : Fin 1) from Subsingleton.elim (α := Fin 1) _ _]
  exact if_pos rfl

theorem emb_slab (k : ℕ) (inb : ∀ a, (![k, 0, 0] : Fin 3 → ℕ) a + (![1, n1, n2] : Fin 3 → ℕ) a ≤ (⟨3, ![n, n1, n2]⟩ : Shape).size a) (hk : k < n)
    (y : (⟨3, ![1, n1, n2]⟩ : Shape).Idx) : (Rect.unit (s := ⟨3, ![n, n1, n2]⟩) ![k, 0, 0] ![1, n1, n2] inb).emb y = ix3 ⟨k, hk⟩ (y 1) (y 2) := by
  have h0 : (y 0).val = 0 := by have := (y 0).isLt; simp at this; omega
  funext a
  apply Fin.ext
  show (![k, 0, 0] : Fin 3 → ℕ) a + 1 * (y a).val = _
  match a with
  | ⟨0, _⟩ => show k + 1 * (y 0).val = k; omega
  | ⟨1, _⟩ => show 0 + 1 * (y 1).val = (y 1).val; omega
  | ⟨2, _⟩ => show 0 + 1 * (y 2).val = (y 2).val; omega

theorem emb_col (k : ℕ) (inb : ∀ a, (![0, k] : Fin 2 → ℕ) a + (![n1, 1] : Fin 2 → ℕ) a ≤ (⟨2, ![n1, n2]⟩ : Shape).size a) (hk : k < n2)
    (y : (⟨2, ![n1, 1]⟩ : Shape).Idx) : (Rect.unit (s := ⟨2, ![n1, n2]⟩) ![0, k] ![n1, 1] inb).emb y = ix2 (y 0) ⟨k, hk⟩ := by
  have h1 : (y 1).val = 0 := by have := (y 1).isLt; simp at this; omega
  funext a
  apply Fin.ext
  show (![0, k] : Fin 2 → ℕ) a + 1 * (y a).val = _
  match a with
  | ⟨0, _⟩ => show 0 + 1 * (y 0).val = (y 0).val; omega
  | ⟨1, _⟩ => show k + 1 * (y 1).val = k; omega

/-- A load of one slab, and a store of one. -/
theorem ld_slab (k : ℕ) (inb : ∀ a, (![k, 0, 0] : Fin 3 → ℕ) a + (![1, n1, n2] : Fin 3 → ℕ) a ≤ (⟨3, ![n, n1, n2]⟩ : Shape).size a)
    (x : (⟨3, ![n, n1, n2]⟩ : Shape).Idx → Val e) :
    View.ld x (Rect.unit (s := ⟨3, ![n, n1, n2]⟩) ![k, 0, 0] ![1, n1, n2] inb) = slab k (Nat.lt_of_succ_le (inb 0)) x :=
  funext fun y => congrArg x (emb_slab k inb _ y)

theorem overlay_slab (k : ℕ) (inb : ∀ a, (![k, 0, 0] : Fin 3 → ℕ) a + (![1, n1, n2] : Fin 3 → ℕ) a ≤ (⟨3, ![n, n1, n2]⟩ : Shape).size a)
    (x : (⟨3, ![n, n1, n2]⟩ : Shape).Idx → Val e) (w : (⟨3, ![1, n1, n2]⟩ : Shape).Idx → Val e) :
    (Rect.unit (s := ⟨3, ![n, n1, n2]⟩) ![k, 0, 0] ![1, n1, n2] inb).overlay x w = setSlab k w x := by
  have hk : k < n := Nat.lt_of_succ_le (inb 0)
  funext y
  unfold setSlab
  split_ifs with h
  · have hy : (Rect.unit (s := ⟨3, ![n, n1, n2]⟩) ![k, 0, 0] ![1, n1, n2] inb).emb (ix3 0 (y 1) (y 2)) = y := by
      rw [emb_slab k inb hk]
      exact (congrArg (fun a => ix3 a (y 1) (y 2)) (Fin.ext h.symm : (⟨k, hk⟩ : Fin n) = y 0)).trans (eq_ix3 y).symm
    conv_lhs => rw [← hy]
    exact Rect.overlay_emb _ _ _ _
  · refine Rect.overlay_of_not_mem _ _ _ fun hm => h ?_
    obtain ⟨x', hx⟩ := (Rect.unit (s := ⟨3, ![n, n1, n2]⟩) ![k, 0, 0] ![1, n1, n2] inb).exists_idx_of_mem hm
    rw [← hx]
    exact congrArg Fin.val (congrFun (emb_slab k inb hk x') 0)

/-- A load of one column, and a store of one. -/
theorem ld_col (k : ℕ) (inb : ∀ a, (![0, k] : Fin 2 → ℕ) a + (![n1, 1] : Fin 2 → ℕ) a ≤ (⟨2, ![n1, n2]⟩ : Shape).size a)
    (x : (⟨2, ![n1, n2]⟩ : Shape).Idx → Val e) :
    View.ld x (Rect.unit (s := ⟨2, ![n1, n2]⟩) ![0, k] ![n1, 1] inb) = col k (Nat.lt_of_succ_le (inb 1)) x :=
  funext fun y => congrArg x (emb_col k inb _ y)

theorem overlay_col (k : ℕ) (inb : ∀ a, (![0, k] : Fin 2 → ℕ) a + (![n1, 1] : Fin 2 → ℕ) a ≤ (⟨2, ![n1, n2]⟩ : Shape).size a)
    (x : (⟨2, ![n1, n2]⟩ : Shape).Idx → Val e) (w : (⟨2, ![n1, 1]⟩ : Shape).Idx → Val e) :
    (Rect.unit (s := ⟨2, ![n1, n2]⟩) ![0, k] ![n1, 1] inb).overlay x w = setCol k w x := by
  have hk : k < n2 := Nat.lt_of_succ_le (inb 1)
  funext y
  unfold setCol
  split_ifs with h
  · have hy : (Rect.unit (s := ⟨2, ![n1, n2]⟩) ![0, k] ![n1, 1] inb).emb (ix2 (y 0) 0) = y := by
      rw [emb_col k inb hk]
      exact (congrArg (ix2 (y 0)) (Fin.ext h.symm : (⟨k, hk⟩ : Fin n2) = y 1)).trans (eq_ix2 y).symm
    conv_lhs => rw [← hy]
    exact Rect.overlay_emb _ _ _ _
  · refine Rect.overlay_of_not_mem _ _ _ fun hm => h ?_
    obtain ⟨x', hx⟩ := (Rect.unit (s := ⟨2, ![n1, n2]⟩) ![0, k] ![n1, 1] inb).exists_idx_of_mem hm
    rw [← hx]
    exact congrArg Fin.val (congrFun (emb_col k inb hk x') 1)

end Cert.Stores

end
-- ==== Proof.MixbOuts.lean ====
/- What a block of latent rows leaves in the result buffers of the mixers' backward call: each as the payloads of the stores that fill
   it, over the point's input blocks and what the accumulators held. -/
module

public import proofs.«01_k».proof.Proof.MixbFrame
public import proofs.«01_k».proof.Proof.Slabs

@[expose] public section

set_option maxRecDepth 16384
set_option backward.isDefEq.respectTransparency false

noncomputable section

namespace Cert.MixbIdeal.Run

open Idealize.ShloMosaic Idealize.SL.Sem Cert.MixbIdeal Cert.MixbIdeal.Gen Idealize.ShloMosaic.TcCoe Cert.Stores

variable {F : FTy → Type} [FloatOps F] [Named F]

/-- The input blocks of a point, in the order of the call's arguments: the projection's columns, the recurrence's outputs, the cotangent,
    the modulation's rows, and the weights. -/
structure Blocks (F : FTy → Type) where
  bog : Vec F S1x256x512 .f32
  bu : Vec F S1x256x512 .f32
  bv : Vec F S1x256x512 .f32
  ba0 : Vec F S1x256x512 .f32
  ba1 : Vec F S1x256x512 .f32
  bb0 : Vec F S1x256x512 .f32
  bb1 : Vec F S1x256x512 .f32
  bof : Vec F S1x256x512 .f32
  bob : Vec F S1x256x512 .f32
  bdx : Vec F S1x256x1024 .f32
  bmd : Vec F S1x8x1024 .f32
  gna : Vec F S1x128 .f32
  lng : Vec F S1x512 .f32
  lnb : Vec F S1x512 .f32
  ws : Vec F S4x128x128 .f32
  bs : Vec F S128x4 .f32
  wpa : Vec F S4x512x256 .bf16
  wpb : Vec F S4x512x256 .bf16
  wo : Vec F S1024x1024 .bf16
  wt : Vec F S4x128x128 .f32

namespace Blocks

variable (p : Blocks F)

/-- The kernel's values in the order in which it forms them. -/
abbrev root : F .f32 := Scalar.ofBits (F := F) .f32 0x3F4C422A#32
abbrev og := k0_pay13 p.bog
abbrev u := k0_pay14 p.bu
abbrev v := k0_pay15 p.bv
abbrev ga := k0_pay16 p.ba0 p.ba1
abbrev gb := k0_pay17 p.bb0 p.bb1
abbrev wo2 := k0_pay18 p.wo
abbrev dx := k0_pay19 p.bdx
abbrev dmix := k0_pay20 p.bdx (row 0 p.bmd)
abbrev dmixh := k0_pay21 p.bdx (row 0 p.bmd)
abbrev dmg := k0_pay22 p.wo2 p.dmixh
abbrev oo := k0_pay23 p.bof p.bob
abbrev bst := k0_pay24 p.bs
abbrev sog := k0_pay25 p.og
abbrev silu := k0_pay26 p.og
abbrev r0 := k0_pay28 p.bof p.bob
abbrev xh0 := k0_pay29 p.bof p.bob
abbrev r1 := k0_pay31 p.bof p.bob
abbrev xh1 := k0_pay32 p.bof p.bob
abbrev o2 := k0_pay33 p.bof p.bob
abbrev r2 := k0_pay34 p.o2
abbrev r3 := k0_pay36 p.oo
abbrev xh := k0_pay37 p.oo p.xh0 p.xh1 p.o2
abbrev gna4 := k0_pay38 p.gna
abbrev on := k0_pay39 p.gna p.oo p.xh0 p.xh1 p.o2
abbrev oa := k0_pay40 p.gna p.oo p.silu p.xh0 p.xh1 p.o2
abbrev ya0 := k0_pay41 p.gna p.oo p.silu p.xh0 p.xh1 p.o2 (slab 0 (by decide) p.wpa)
abbrev ya1 := k0_pay42 p.gna p.oo p.silu p.xh0 p.xh1 p.o2 (slab 1 (by decide) p.wpa)
abbrev ya2 := k0_pay43 p.gna p.oo p.silu p.xh0 p.xh1 p.o2 (slab 2 (by decide) p.wpa)
abbrev ya := k0_pay44 p.oa p.ya0 p.ya1 p.ya2 (slab 3 (by decide) p.wpa)
abbrev tu := k0_pay45 p.u
abbrev gu := k0_pay46 p.u
abbrev tv := k0_pay47 p.v
abbrev rl := k0_pay49 p.v
abbrev xl := k0_pay50 p.v
abbrev vn := k0_pay51 p.lng p.lnb p.xl
abbrev mixA := k0_pay52 p.lng p.lnb p.bst p.xl (slab 0 (by decide) p.ws) (slab 1 (by decide) p.ws) (slab 2 (by decide) p.ws) (slab 3 (by decide) p.ws)
abbrev mix := k0_pay53 p.bst p.vn p.mixA (slab 0 (by decide) p.ws) (slab 1 (by decide) p.ws) (slab 2 (by decide) p.ws) (slab 3 (by decide) p.ws)
abbrev obm := k0_pay54 p.bst p.gu p.vn p.mixA (slab 0 (by decide) p.ws) (slab 1 (by decide) p.ws) (slab 2 (by decide) p.ws) (slab 3 (by decide) p.ws)
abbrev yb0 := k0_pay55 p.bst p.gu p.vn p.mixA (slab 0 (by decide) p.ws) (slab 1 (by decide) p.ws) (slab 2 (by decide) p.ws) (slab 3 (by decide) p.ws)
    (slab 0 (by decide) p.wpb)
abbrev yb := k0_pay56 p.obm p.yb0 (slab 1 (by decide) p.wpb) (slab 2 (by decide) p.wpb) (slab 3 (by decide) p.wpb)
abbrev sa := k0_pay57 p.ga
abbrev sb := k0_pay58 p.gb
abbrev mg := k0_pay59 p.ga p.gb p.ya p.obm p.yb0 (slab 1 (by decide) p.wpb) (slab 2 (by decide) p.wpb) (slab 3 (by decide) p.wpb)
abbrev colmix := k0_pay61 p.ga p.gb p.wo2 p.dx p.ya p.obm p.yb0 (slab 1 (by decide) p.wpb) (slab 2 (by decide) p.wpb) (slab 3 (by decide) p.wpb)
abbrev dya := k0_pay64 p.dmg p.sa
abbrev dyb := k0_pay65 p.dmg p.sb
abbrev dga := k0_pay66 p.dmg p.ya p.sa
abbrev dgb := k0_pay67 p.dmg p.yb p.sb
abbrev doa0 := k0_pay68 p.dmg p.sa (slab 0 (by decide) p.wpa)
abbrev doa1 := k0_pay69 p.dmg p.sa (slab 1 (by decide) p.wpa)
abbrev wpa2 := k0_pay70 (slab 2 (by decide) p.wpa)
abbrev dya2 := k0_pay71 p.dmg p.sa
abbrev doa := k0_pay72 p.dya p.doa0 p.doa1 p.wpa2 p.dya2 (slab 3 (by decide) p.wpa)
abbrev dobm := k0_pay73 p.dyb (slab 0 (by decide) p.wpb) (slab 1 (by decide) p.wpb) (slab 2 (by decide) p.wpb) (slab 3 (by decide) p.wpb)
abbrev dya0 := k0_pay75 p.dya
abbrev oah := k0_pay76 p.oa
abbrev dog := k0_pay86 p.og p.sog p.on p.doa
abbrev dxh := k0_pay88 p.silu p.gna4 p.doa
abbrev pr := k0_pay89 p.silu p.xh p.doa
abbrev dor0 := k0_pay90 p.silu p.r0 p.xh p.gna4 p.doa
abbrev dg01 := k0_pay91 p.silu p.xh p.doa
abbrev dxh1 := k0_pay92 p.silu p.gna4 p.doa
abbrev xhh1 := k0_pay93 p.xh
abbrev pr1 := k0_pay94 p.silu p.xh p.gna4 p.doa
abbrev dor := k0_pay96 p.r1 p.r2 p.r3 p.xh p.dxh p.dor0 p.dxh1 p.xhh1 p.pr1
abbrev du := k0_pay98 p.u p.tu p.mix p.dobm
abbrev dmx := k0_pay99 p.gu p.dobm
abbrev dmx0 := k0_pay100 p.gu p.dobm
abbrev smx0 := k0_pay103 p.gu p.dobm
abbrev dv0 := k0_pay105 p.dmx0 (slab 0 (by decide) p.wt)
abbrev dv1 := k0_pay109 p.dmx (slab 1 (by decide) p.wt)
abbrev dmx2 := k0_pay110 p.dmx
abbrev dv2 := k0_pay113 p.dmx2 (slab 2 (by decide) p.wt)
abbrev dmx3 := k0_pay114 p.dmx
abbrev smx3 := k0_pay117 p.dmx
abbrev dvA := k0_pay119 p.dv0 p.dv1 p.dv2 p.dmx3 (slab 3 (by decide) p.wt)
abbrev dw0 := k0_pay123 p.dmx (slab 0 (by decide) p.wt)
abbrev dmy1 := k0_pay124 p.dmx
abbrev dw1 := k0_pay127 p.dmy1 (slab 1 (by decide) p.wt)
abbrev dmy2 := k0_pay128 p.dmx
abbrev dvn := k0_pay135 p.dmx p.dvA p.dw0 p.dw1 p.dmy2 (slab 2 (by decide) p.wt) (slab 3 (by decide) p.wt)
abbrev dgv := k0_pay138 p.lng p.rl p.xl p.dvn
abbrev hv := k0_pay139 p.tv
abbrev qv := k0_pay140 p.v p.tv

/-- What is stored. -/
def out_o : Vec F S1x256x512 .f32 := k0_pay97 p.dor
def out_rest : Vec F S1x256x3584 .bf16 := k0_pay12 p.v p.dga p.dgb p.dog p.du p.dgv p.hv p.qv root
def out_pa (z : Vec F S4x512x256 .f32) : Vec F S4x512x256 .f32 := setSlab 3 (k0_pay84 p.oa p.dya (slab 3 (by decide) z)) (setSlab 2 (k0_pay82 p.oa
    p.dya (slab 2 (by decide) z)) (setSlab 1 (k0_pay79 p.oa p.dya (slab 1 (by decide) z)) (setSlab 0 (k0_pay77 (k0_pay74 (slab 0 (by decide) z))
    p.dya0 p.oah) z)))
def out_pb (z : Vec F S4x512x256 .f32) : Vec F S4x512x256 .f32 := setSlab 3 (k0_pay85 p.obm p.dyb (slab 3 (by decide) z)) (setSlab 2 (k0_pay83 p.obm
    p.dyb (slab 2 (by decide) z)) (setSlab 1 (k0_pay81 (k0_pay80 p.obm p.dyb (slab 1 (by decide) z))) (setSlab 0 (k0_pay78 p.obm p.dyb (slab 0 (by
    decide) z)) z)))
def out_wo (z : Vec F S1024x1024 .f32) : Vec F S1024x1024 .f32 := k0_pay63 p.dmix p.mg z
def out_g (z : Vec F S1x128 .f32) : Vec F S1x128 .f32 := k0_pay95 p.pr p.dg01 z
def out_lg (z : Vec F S1x512 .f32) : Vec F S1x512 .f32 := k0_pay136 p.xl p.dvn z
def out_lb (z : Vec F S1x512 .f32) : Vec F S1x512 .f32 := k0_pay137 p.dvn z
def out_ws (z : Vec F S4x128x128 .f32) : Vec F S4x128x128 .f32 := setSlab 3 (k0_pay133 p.vn p.dmx (k0_pay115 p.vn p.dmx (slab 3 (by decide) z)))
    (setSlab 2 (k0_pay129 p.vn p.dmx (k0_pay111 p.vn p.dmx2 (slab 2 (by decide) z))) (setSlab 1 (k0_pay125 p.vn p.dmy1 (k0_pay107 p.vn p.dmx (slab 1
    (by decide) z))) (setSlab 0 (k0_pay121 p.vn p.dmx (k0_pay101 p.gu p.vn p.dobm (slab 0 (by decide) z))) (setSlab 3 (k0_pay115 p.vn p.dmx (slab 3
    (by decide) z)) (setSlab 2 (k0_pay111 p.vn p.dmx2 (slab 2 (by decide) z)) (setSlab 1 (k0_pay107 p.vn p.dmx (slab 1 (by decide) z)) (setSlab 0
    (k0_pay101 p.gu p.vn p.dobm (slab 0 (by decide) z)) z)))))))
def out_bs (z : Vec F S128x4 .f32) : Vec F S128x4 .f32 := setCol 3 (k0_pay134 p.dmx (k0_pay118 (k0_pay116 (col 3 (by decide) z)) p.smx3)) (setCol 2
    (k0_pay131 p.dmy2 (k0_pay130 (k0_pay112 p.dmx2 (col 2 (by decide) z)))) (setCol 1 (k0_pay126 p.dmy1 (k0_pay108 p.dmx (col 1 (by decide) z)))
    (setCol 0 (k0_pay122 p.dmx (k0_pay104 (k0_pay102 (col 0 (by decide) z)) p.smx0)) (setCol 3 (k0_pay118 (k0_pay116 (col 3 (by decide) z)) p.smx3)
    (setCol 2 (k0_pay112 p.dmx2 (col 2 (by decide) z)) (setCol 1 (k0_pay108 p.dmx (col 1 (by decide) z)) (setCol 0 (k0_pay104 (k0_pay102 (col 0 (by
    decide) z)) p.smx0) z)))))))
def out_md (z : Vec F S1x8x1024 .f32) : Vec F S1x8x1024 .f32 := setRow 0 (k0_pay62 (k0_pay60 (row 0 z)) p.colmix) z

/-- All results of a point over what they held. -/
def outs (h : Held F) : Held F :=
  ⟨p.out_o, p.out_rest, p.out_pa h.pa, p.out_pb h.pb, p.out_wo h.wo, p.out_g h.g, p.out_lg h.lg, p.out_lb h.lb, p.out_ws h.ws, p.out_bs h.bs, p.out_md h.md⟩

end Blocks

variable (m : (ℓ : Loc nD τ sig) → Buf (Elt F) ℓ)

/-- The input blocks of point `t`. -/
def blocks (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t⟩

theorem off2 : (![0, 0] : Fin 2 → ℕ) = fun _ => 0 := funext fun a => by fin_cases a <;> rfl
theorem off3 : (![0, 0, 0] : Fin 3 → ℕ) = fun _ => 0 := funext fun a => by fin_cases a <;> rfl

theorem ld_first (x : Vec F S1x8x1024 .f32) : View.ld x (Rect.unit ![0, 0, 0] ![1, 1, 1024] inb_S1x8x1024_S1x1x1024_0_0_0) = row 0 x := ld_row 0 rfl _ x
theorem set_first (x : S1x8x1024.Idx → Elt F .f32) (w : S1x1x1024.Idx → Elt F .f32) :
    (Rect.unit (s := S1x8x1024) ![0, 0, 0] ![1, 1, 1024] inb_S1x8x1024_S1x1x1024_0_0_0).overlay x w = setRow 0 w x := overlay_row 0 rfl _ x w

set_option maxHeartbeats 4000000 in
/-- A block of latent rows, in the payloads. -/
theorem block_eq (c : Dev nD) (t : Fin cfg0.N) (h1 : ¬t.val % 9 = 0) (h : Held F) : block m c t h1 h = (blocks m c t).outs h := by
  obtain ⟨z20, z21, z22, z23, z24, z25, z26, z27, z28, z29, z30⟩ := h
  unfold block blocks
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  generalize iblk m c 15 t = x15
  generalize iblk m c 16 t = x16
  generalize iblk m c 17 t = x17
  generalize iblk m c 18 t = x18
  generalize iblk m c 19 t = x19
  unfold Blocks.outs run_block
  dsimp only
  sl_unfold_words
  refine congr (congr (congr (congr (congr (congr (congr (congr (congr (congr (congrArg Held.mk ?_) ?_) ?_) ?_) ?_) ?_) ?_) ?_) ?_) ?_) ?_
  all_goals
    simp only [read_cons, readCov_ld, View.canon_cons, View.writes_nil, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread, (hs0_21 t).read_unread, (hs0_22 t).read_unread, (hs0_23 t).read_unread, (hs0_24 t).read_unread, (hs0_25 t).read_unread, (hs0_26 t).read_unread, (hs0_27 t).read_unread, (hs0_28 t).read_unread, (hs0_29 t).read_unread, (hs0_30 t).read_unread,
      overlay_whole (s := S1x256x512) off3, overlay_whole (s := S1x256x3584) off3, overlay_whole (s := S1024x1024) off2,
      overlay_whole (s := S1x128) off2, overlay_whole (s := S1x512) off2,
      View.ld_unit_zero (S := S1x256x512) off3, View.ld_unit_zero (S := S1x256x1024) off3, View.ld_unit_zero (S := S128x4) off2,
      View.ld_unit_zero (S := S1x128) off2, View.ld_unit_zero (S := S1x512) off2, View.ld_unit_zero (S := S1024x1024) off2, ld_first,
      ld_slab (n := 4) (n1 := 512) (n2 := 256), ld_slab (n := 4) (n1 := 128) (n2 := 128), ld_col (n1 := 128) (n2 := 4),
      overlay_slab (n := 4) (n1 := 512) (n2 := 256), overlay_slab (n := 4) (n1 := 128) (n2 := 128), overlay_col (n1 := 128) (n2 := 4), set_first,
      slab_setSlab, slab_setSlab_self, col_setCol, col_setCol_self, ne_eq, OfNat.ofNat_ne_zero, OfNat.zero_ne_ofNat, Nat.reduceEqDiff, not_false_eq_true, one_ne_zero, zero_ne_one]
    first | unfold Blocks.out_o | unfold Blocks.out_rest | unfold Blocks.out_pa | unfold Blocks.out_pb | unfold Blocks.out_wo | unfold Blocks.out_g
          | unfold Blocks.out_lg | unfold Blocks.out_lb | unfold Blocks.out_ws | unfold Blocks.out_bs | unfold Blocks.out_md
    first
    | with_reducible rfl
    | exact (set_first z30 _).trans (by with_reducible rfl)

end Cert.MixbIdeal.Run

end
-- ==== Proof.MixbArr.lean ====
/- The blocks of the mixers' backward call as parts of its arrays: an input block's element is an element of the array the kernel is
   entered with, and a result's element is one of the block left by the point that writes it back. -/
module

public import proofs.«01_k».proof.Proof.MixbOuts
public import proofs.«01_k».proof.Proof.Places
public import Idealize.ShloMosaic.Lib.StableHlo.ReadAt
public import Idealize.ShloMosaic.Lib.Pipeline.ValueKit.Geometry

@[expose] public section

set_option maxRecDepth 8000

noncomputable section

namespace Cert.MixbIdeal.Run

open Idealize.ShloMosaic Idealize.SL.Sem Cert.MixbIdeal Cert.MixbIdeal.Gen Idealize.ShloMosaic.TcCoe Cert.Stores Cert.Places

variable (m : (ℓ : Loc nD τ sig) → Buf (Elt Ideal) ℓ) (c : Dev nD)

/-- The batch element of a point, the row of its block's row `r` in the padded stream, and that row's place in the latent stream. -/
def bat (t : Fin cfg0.N) : Fin 4 := ⟨t.val / 9, Nat.div_lt_of_lt_mul (t.isLt.trans_eq N_0)⟩
def pos (t : Fin cfg0.N) (r : Fin 256) : Fin 2304 := ⟨t.val % 9 * 256 + r.val, by have := r.isLt; omega⟩
def lpos (t : Fin cfg0.N) (r : Fin 256) : Fin 2048 := ⟨(t.val % 9 - 1) * 256 + r.val, by have := r.isLt; omega⟩

/-- The blocks' indices of the arrays that lie along the padded stream: the projection's columns, the recurrence's outputs, the results. -/
def along (t : Fin grid0.N) (w : Fin 11) : Fin 3 → ℕ :=
  ![win0_0.index t, win0_1.index t, win0_2.index t, win0_3.index t, win0_4.index t, win0_5.index t, win0_6.index t, win0_7.index t, win0_8.index t,
    win0_20.index t, win0_21.index t] w

theorem index_along : ∀ t : Fin grid0.N, ∀ w : Fin 11, along t w 0 = t.val / 9 ∧ along t w 1 = t.val % 9
    ∧ along t w 2 = if w.val < 7 then 4 + w.val else 0 := by decide +kernel

theorem index_lat : ∀ t : Fin grid0.N, win0_9.index t 0 = t.val / 9 ∧ win0_9.index t 1 = t.val % 9 - 1 ∧ win0_9.index t 2 = 0 := by decide +kernel

theorem index_batch : ∀ t : Fin grid0.N, (win0_10.index t 0 = t.val / 9 ∧ win0_10.index t 1 = 0 ∧ win0_10.index t 2 = 0)
    ∧ (win0_30.index t 0 = t.val / 9 ∧ win0_30.index t 1 = 0 ∧ win0_30.index t 2 = 0) := by decide +kernel

/-- The blocks' indices of the whole arrays, of two axes and of three. -/
def flat (t : Fin grid0.N) (w : Fin 9) : Fin 2 → ℕ :=
  ![win0_11.index t, win0_12.index t, win0_13.index t, win0_15.index t, win0_18.index t, win0_24.index t, win0_25.index t, win0_26.index t,
    win0_27.index t] w
def deep (t : Fin grid0.N) (w : Fin 7) : Fin 3 → ℕ :=
  ![win0_14.index t, win0_16.index t, win0_17.index t, win0_19.index t, win0_22.index t, win0_23.index t, win0_28.index t] w

theorem index_flat : ∀ t : Fin grid0.N, (∀ w : Fin 9, ∀ a, flat t w a = 0) ∧ ∀ a, win0_29.index t a = 0 := by decide +kernel
theorem index_deep : ∀ t : Fin grid0.N, ∀ w : Fin 7, ∀ a, deep t w a = 0 := by decide +kernel

section Inputs

variable (t : Fin cfg0.N) (r : Fin 256)

/-- A column of the projection's array from its block of 512. -/
def colAt (q : Fin 7) (k : Fin 512) : Fin 5632 := ⟨(4 + q.val) * 512 + k.val, by omega⟩

theorem colAt_eq {i : ℕ} (q : Fin 7) (k : Fin 512) (h : i = 4 + q.val) : i * 512 + 1 * k.val = (colAt q k).val := by
  show _ = (4 + q.val) * 512 + k.val; omega

theorem blk_p (k : Fin 512) : (blocks m c t).bog (ix3 0 r k) = V m c main_arg0 (ix3 (bat t) (pos t r) (colAt 0 k))
    ∧ (blocks m c t).bu (ix3 0 r k) = V m c main_arg0 (ix3 (bat t) (pos t r) (colAt 1 k))
    ∧ (blocks m c t).bv (ix3 0 r k) = V m c main_arg0 (ix3 (bat t) (pos t r) (colAt 2 k))
    ∧ (blocks m c t).ba0 (ix3 0 r k) = V m c main_arg0 (ix3 (bat t) (pos t r) (colAt 3 k))
    ∧ (blocks m c t).ba1 (ix3 0 r k) = V m c main_arg0 (ix3 (bat t) (pos t r) (colAt 4 k))
    ∧ (blocks m c t).bb0 (ix3 0 r k) = V m c main_arg0 (ix3 (bat t) (pos t r) (colAt 5 k))
    ∧ (blocks m c t).bb1 (ix3 0 r k) = V m c main_arg0 (ix3 (bat t) (pos t r) (colAt 6 k)) :=
  have h := index_along t
  ⟨congrArg (V m c main_arg0) (at3 (lead (h 0).1) (inner (h 0).2.1) (colAt_eq 0 k (h 0).2.2)),
    congrArg (V m c main_arg0) (at3 (lead (h 1).1) (inner (h 1).2.1) (colAt_eq 1 k (h 1).2.2)),
    congrArg (V m c main_arg0) (at3 (lead (h 2).1) (inner (h 2).2.1) (colAt_eq 2 k (h 2).2.2)),
    congrArg (V m c main_arg0) (at3 (lead (h 3).1) (inner (h 3).2.1) (colAt_eq 3 k (h 3).2.2)),
    congrArg (V m c main_arg0) (at3 (lead (h 4).1) (inner (h 4).2.1) (colAt_eq 4 k (h 4).2.2)),
    congrArg (V m c main_arg0) (at3 (lead (h 5).1) (inner (h 5).2.1) (colAt_eq 5 k (h 5).2.2)),
    congrArg (V m c main_arg0) (at3 (lead (h 6).1) (inner (h 6).2.1) (colAt_eq 6 k (h 6).2.2))⟩

theorem blk_o (k : Fin 512) : (blocks m c t).bof (ix3 0 r k) = V m c main_arg1 (ix3 (bat t) (pos t r) k)
    ∧ (blocks m c t).bob (ix3 0 r k) = V m c main_arg2 (ix3 (bat t) (pos t r) k) :=
  have h := index_along t
  ⟨congrArg (V m c main_arg1) (at3 (lead (h 7).1) (inner (h 7).2.1) (whole (h 7).2.2)),
    congrArg (V m c main_arg2) (at3 (lead (h 8).1) (inner (h 8).2.1) (whole (h 8).2.2))⟩

theorem blk_dx (k : Fin 1024) : (blocks m c t).bdx (ix3 0 r k) = V m c main_arg3 (ix3 (bat t) (lpos t r) k) :=
  have h := index_lat t
  congrArg (V m c main_arg3) (at3 (lead h.1) (inner h.2.1) (whole h.2.2))

theorem blk_md (i : Fin 8) (k : Fin 1024) : (blocks m c t).bmd (ix3 0 i k) = V m c main_v2 (ix3 (bat t) i k) :=
  have h := (index_batch t).1
  congrArg (V m c main_v2) (at3 (lead h.1) (whole h.2.1) (whole h.2.2))

theorem blk_gna (k : Fin 128) : (blocks m c t).gna (ix2 0 k) = V m c main_arg5 (ix2 0 k) :=
  congrArg (V m c main_arg5) (at2 (whole ((index_flat t).1 0 0)) (whole ((index_flat t).1 0 1)))
theorem blk_lng (k : Fin 512) : (blocks m c t).lng (ix2 0 k) = V m c main_arg6 (ix2 0 k) :=
  congrArg (V m c main_arg6) (at2 (whole ((index_flat t).1 1 0)) (whole ((index_flat t).1 1 1)))
theorem blk_lnb (k : Fin 512) : (blocks m c t).lnb (ix2 0 k) = V m c main_arg7 (ix2 0 k) :=
  congrArg (V m c main_arg7) (at2 (whole ((index_flat t).1 2 0)) (whole ((index_flat t).1 2 1)))
theorem blk_bs (s : Fin 128) (i : Fin 4) : (blocks m c t).bs (ix2 s i) = V m c main_v7 (ix2 s i) :=
  congrArg (V m c main_v7) (at2 (whole ((index_flat t).1 3 0)) (whole ((index_flat t).1 3 1)))
theorem blk_wo (n k : Fin 1024) : (blocks m c t).wo (ix2 n k) = V m c main_v17 (ix2 n k) :=
  congrArg (V m c main_v17) (at2 (whole ((index_flat t).1 4 0)) (whole ((index_flat t).1 4 1)))
theorem blk_ws (i : Fin 4) (s u : Fin 128) : (blocks m c t).ws (ix3 i s u) = V m c main_v3 (ix3 i s u) :=
  congrArg (V m c main_v3) (at3 (whole (index_deep t 0 0)) (whole (index_deep t 0 1)) (whole (index_deep t 0 2)))
theorem blk_wpa (i : Fin 4) (k : Fin 512) (n : Fin 256) : (blocks m c t).wpa (ix3 i k n) = V m c main_v11 (ix3 i k n) :=
  congrArg (V m c main_v11) (at3 (whole (index_deep t 1 0)) (whole (index_deep t 1 1)) (whole (index_deep t 1 2)))
theorem blk_wpb (i : Fin 4) (k : Fin 512) (n : Fin 256) : (blocks m c t).wpb (ix3 i k n) = V m c main_v15 (ix3 i k n) :=
  congrArg (V m c main_v15) (at3 (whole (index_deep t 2 0)) (whole (index_deep t 2 1)) (whole (index_deep t 2 2)))
theorem blk_wt (i : Fin 4) (s u : Fin 128) : (blocks m c t).wt (ix3 i s u) = V m c main_v5 (ix3 i s u) :=
  congrArg (V m c main_v5) (at3 (whole (index_deep t 3 0)) (whole (index_deep t 3 1)) (whole (index_deep t 3 2)))

end Inputs

section Results

variable (t : Fin cfg0.N) (r : Fin 256)

theorem arr20 (k : Fin 512) : (dats m 0 c).arrAt 20 cfg0.N (ix3 (bat t) (pos t r) k) = (held m c t.val t.isLt).o (ix3 0 r k) := by
  have i := index_along t 9
  have hd := Pipeline.Window.hdisj_of_index_inj win0_20 (fun a b _ _ e => Fin.ext (by
    have ha := index_along a 9; have hb := index_along b 9
    have e0 : along a 9 0 = along b 9 0 := congrFun e 0
    have e1 : along a 9 1 = along b 9 1 := congrFun e 1
    omega))
  have e := congrFun ((dats m 0 c).read_blk_arrAt_eq_flushed 20 hd cfg0.N t t.isLt (flush0_20 t)) (ix3 0 r k)
  exact (congrArg ((dats m 0 c).arrAt 20 cfg0.N) (at3 (lead i.1) (inner i.2.1) (whole i.2.2))).symm.trans e

theorem arr21 (k : Fin 3584) : (dats m 0 c).arrAt 21 cfg0.N (ix3 (bat t) (pos t r) k) = (held m c t.val t.isLt).rest (ix3 0 r k) := by
  have i := index_along t 10
  have hd := Pipeline.Window.hdisj_of_index_inj win0_21 (fun a b _ _ e => Fin.ext (by
    have ha := index_along a 10; have hb := index_along b 10
    have e0 : along a 10 0 = along b 10 0 := congrFun e 0
    have e1 : along a 10 1 = along b 10 1 := congrFun e 1
    omega))
  have e := congrFun ((dats m 0 c).read_blk_arrAt_eq_flushed 21 hd cfg0.N t t.isLt (flush0_21 t)) (ix3 0 r k)
  exact (congrArg ((dats m 0 c).arrAt 21 cfg0.N) (at3 (lead i.1) (inner i.2.1) (whole i.2.2))).symm.trans e

/-- One point alone writes back an array kept through the whole run. -/
theorem alone (w : Fin cfg0.W) (hw : ∀ t : Fin cfg0.N, (cfg0.win w).flush t = true ↔ t.val % 36 = 35) (a b : Fin cfg0.N)
    (ha : (cfg0.win w).flush a = true) (hb : (cfg0.win w).flush b = true) (n : a ≠ b) :
    Disjoint ((cfg0.win w).blk a).view.set ((cfg0.win w).blk b).view.set := absurd (Fin.ext (by
  have := points a; have := points b; have := (hw a).mp ha; have := (hw b).mp hb; omega)) n

variable (h : t.val % 36 = 35)

include h

theorem arr22 (i : Fin 4) (k : Fin 512) (n : Fin 256) : (dats m 0 c).arrAt 22 cfg0.N (ix3 i k n) = (held m c t.val t.isLt).pa (ix3 i k n) := by
  have e := congrFun ((dats m 0 c).read_blk_arrAt_eq_flushed 22 (alone 22 flush0_22) cfg0.N t t.isLt ((flush0_22 t).mpr h)) (ix3 i k n)
  exact (congrArg ((dats m 0 c).arrAt 22 cfg0.N) (at3 (whole (index_deep t 4 0)) (whole (index_deep t 4 1)) (whole (index_deep t 4 2)))).symm.trans e

theorem arr23 (i : Fin 4) (k : Fin 512) (n : Fin 256) : (dats m 0 c).arrAt 23 cfg0.N (ix3 i k n) = (held m c t.val t.isLt).pb (ix3 i k n) := by
  have e := congrFun ((dats m 0 c).read_blk_arrAt_eq_flushed 23 (alone 23 flush0_23) cfg0.N t t.isLt ((flush0_23 t).mpr h)) (ix3 i k n)
  exact (congrArg ((dats m 0 c).arrAt 23 cfg0.N) (at3 (whole (index_deep t 5 0)) (whole (index_deep t 5 1)) (whole (index_deep t 5 2)))).symm.trans e

theorem arr24 (n k : Fin 1024) : (dats m 0 c).arrAt 24 cfg0.N (ix2 n k) = (held m c t.val t.isLt).wo (ix2 n k) := by
  have e := congrFun ((dats m 0 c).read_blk_arrAt_eq_flushed 24 (alone 24 flush0_24) cfg0.N t t.isLt ((flush0_24 t).mpr h)) (ix2 n k)
  exact (congrArg ((dats m 0 c).arrAt 24 cfg0.N) (at2 (whole ((index_flat t).1 5 0)) (whole ((index_flat t).1 5 1)))).symm.trans e

theorem arr25 (k : Fin 128) : (dats m 0 c).arrAt 25 cfg0.N (ix2 0 k) = (held m c t.val t.isLt).g (ix2 0 k) := by
  have e := congrFun ((dats m 0 c).read_blk_arrAt_eq_flushed 25 (alone 25 flush0_25) cfg0.N t t.isLt ((flush0_25 t).mpr h)) (ix2 0 k)
  exact (congrArg ((dats m 0 c).arrAt 25 cfg0.N) (at2 (whole ((index_flat t).1 6 0)) (whole ((index_flat t).1 6 1)))).symm.trans e

theorem arr26 (k : Fin 512) : (dats m 0 c).arrAt 26 cfg0.N (ix2 0 k) = (held m c t.val t.isLt).lg (ix2 0 k) := by
  have e := congrFun ((dats m 0 c).read_blk_arrAt_eq_flushed 26 (alone 26 flush0_26) cfg0.N t t.isLt ((flush0_26 t).mpr h)) (ix2 0 k)
  exact (congrArg ((dats m 0 c).arrAt 26 cfg0.N) (at2 (whole ((index_flat t).1 7 0)) (whole ((index_flat t).1 7 1)))).symm.trans e

theorem arr27 (k : Fin 512) : (dats m 0 c).arrAt 27 cfg0.N (ix2 0 k) = (held m c t.val t.isLt).lb (ix2 0 k) := by
  have e := congrFun ((dats m 0 c).read_blk_arrAt_eq_flushed 27 (alone 27 flush0_27) cfg0.N t t.isLt ((flush0_27 t).mpr h)) (ix2 0 k)
  exact (congrArg ((dats m 0 c).arrAt 27 cfg0.N) (at2 (whole ((index_flat t).1 8 0)) (whole ((index_flat t).1 8 1)))).symm.trans e

theorem arr28 (i : Fin 4) (s u : Fin 128) : (dats m 0 c).arrAt 28 cfg0.N (ix3 i s u) = (held m c t.val t.isLt).ws (ix3 i s u) := by
  have e := congrFun ((dats m 0 c).read_blk_arrAt_eq_flushed 28 (alone 28 flush0_28) cfg0.N t t.isLt ((flush0_28 t).mpr h)) (ix3 i s u)
  exact (congrArg ((dats m 0 c).arrAt 28 cfg0.N) (at3 (whole (index_deep t 6 0)) (whole (index_deep t 6 1)) (whole (index_deep t 6 2)))).symm.trans e

theorem arr29 (s : Fin 128) (i : Fin 4) : (dats m 0 c).arrAt 29 cfg0.N (ix2 s i) = (held m c t.val t.isLt).bs (ix2 s i) := by
  have e := congrFun ((dats m 0 c).read_blk_arrAt_eq_flushed 29 (alone 29 flush0_29) cfg0.N t t.isLt ((flush0_29 t).mpr h)) (ix2 s i)
  exact (congrArg ((dats m 0 c).arrAt 29 cfg0.N) (at2 (whole ((index_flat t).2 0)) (whole ((index_flat t).2 1)))).symm.trans e

omit h in
theorem arr30 (h8 : t.val % 9 = 8) (i : Fin 8) (k : Fin 1024) :
    (dats m 0 c).arrAt 30 cfg0.N (ix3 (bat t) i k) = (held m c t.val t.isLt).md (ix3 0 i k) := by
  have x := (index_batch t).2
  have hd := Pipeline.Window.hdisj_of_index_inj win0_30 (fun a b ha hb e => Fin.ext (by
    have := (index_batch a).2.1; have := (index_batch b).2.1; have := congrFun e 0
    have := (flush0_30 a).mp ha; have := (flush0_30 b).mp hb; omega))
  have e := congrFun ((dats m 0 c).read_blk_arrAt_eq_flushed 30 hd cfg0.N t t.isLt ((flush0_30 t).mpr h8)) (ix3 0 i k)
  exact (congrArg ((dats m 0 c).arrAt 30 cfg0.N) (at3 (lead x.1) (whole x.2.1) (whole x.2.2))).symm.trans e

end Results

/-! The arrays the kernel is entered with, of the arguments. -/

theorem ent_args : V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3)
    ∧ V m c main_arg5 = m ((c : Thread nD τ).loc main_arg5) ∧ V m c main_arg6 = m ((c : Thread nD τ).loc main_arg6)
    ∧ V m c main_arg7 = m ((c : Thread nD τ).loc main_arg7) := by
  refine ⟨?_, ?_, ?_, ?_, ?_, ?_, ?_⟩ <;> (unfold V; after_reads_at)

theorem ent_gt (b : Fin 4) (k : Fin 1024) : V m c main_v2 (ix3 b 0 k) = m ((c : Thread nD τ).loc main_arg4) (ix3 b 2 k) := by
  unfold V; after_reads_at

theorem ent_ws (i : Fin 4) (s u : Fin 128) : V m c main_v3 (ix3 i s u) = m ((c : Thread nD τ).loc main_arg8) (ix4 0 i s u)
    ∧ V m c main_v5 (ix3 i s u) = m ((c : Thread nD τ).loc main_arg8) (ix4 0 i u s) := by
  constructor <;> (unfold V; after_reads_at)

theorem ent_bs (s : Fin 128) (i : Fin 4) : V m c main_v7 (ix2 s i) = m ((c : Thread nD τ).loc main_arg9) (ix3 0 i s) := by
  unfold V; after_reads_at

theorem ent_wp (i : Fin 4) (k : Fin 512) (n : Fin 256) : V m c main_v11 (ix3 i k n) = m ((c : Thread nD τ).loc main_arg10) (ix3 0 k ⟨i.val * 256 + n.val, by omega⟩)
    ∧ V m c main_v15 (ix3 i k n) = m ((c : Thread nD τ).loc main_arg11) (ix3 0 k ⟨i.val * 256 + n.val, by omega⟩) := by
  constructor <;> (unfold V; after_reads_at)

theorem ent_wo (n k : Fin 1024) : V m c main_v17 (ix2 n k) = m ((c : Thread nD τ).loc main_arg12) (ix3 0 n k) := by
  unfold V; after_reads_at

end Cert.MixbIdeal.Run

end
-- ==== Proof.MixbKernel.lean ====
/- One block of rows through the mixers' backward kernel: each word the kernel forms is the stage over the reals. -/
module

public import proofs.«01_k».proof.Proof.Gen.MixbIdeal.Skeleton
public import proofs.«01_k».proof.Proof.MixbReal
public import proofs.«01_k».proof.Proof.Sums

@[expose] public section

set_option maxRecDepth 8000

noncomputable section

namespace Cert.MixbIdeal.Run

open Idealize.ShloMosaic Idealize.SL.Sem Cert.MixbIdeal Cert.MixbIdeal.Gen Idealize.ShloMosaic.TcCoe Cert.Reals Cert.Norms Cert.Mixb

/-- The elements of an array of two axes, of a single slab, of a column and of a line, as reals. -/
abbrev Grid {m n : ℕ} (v : (⟨2, ![m, n]⟩ : Shape).Idx → EReal) (f : Fin m → Fin n → ℝ) : Prop := ∀ r k, v (ix2 r k) = ((f r k : ℝ) : EReal)
abbrev Block {m n : ℕ} (v : (⟨3, ![1, m, n]⟩ : Shape).Idx → EReal) (f : Fin m → Fin n → ℝ) : Prop := ∀ r k, v (ix3 0 r k) = ((f r k : ℝ) : EReal)
abbrev Column {m : ℕ} (v : (⟨2, ![m, 1]⟩ : Shape).Idx → EReal) (f : Fin m → ℝ) : Prop := ∀ r, v (ix2 r 0) = ((f r : ℝ) : EReal)
abbrev Line {n : ℕ} (v : (⟨2, ![1, n]⟩ : Shape).Idx → EReal) (f : Fin n → ℝ) : Prop := ∀ k, v (ix2 0 k) = ((f k : ℝ) : EReal)

/-- The named constants. -/
theorem named_cube : Named.named (F := Ideal) κ "gelu" (φ := .f32) 0x3D372713#32 = ((cube : ℝ) : EReal) :=
  IdealRules.named_const.ideal_named_scalar κ "gelu" (φ := .f32) 0x3D372713#32 _ rfl
theorem named_cube3 : Named.named (F := Ideal) κ "three_gelu" (φ := .f32) 0x3E095D4F#32 = ((3 * cube : ℝ) : EReal) :=
  (IdealRules.named_const.ideal_named_scalar κ "three_gelu" (φ := .f32) 0x3E095D4F#32 ((26829 / 200000 : ℝ) : EReal) rfl).trans
    (congrArg Real.toEReal (by unfold cube; norm_num))

/-- The first and the second chunk of a block of rows, and the mixing and its transpose over a block. -/
def up (Q : Fin 256 → Row) (s : Fin 128) : Row := Q ⟨s.val, by omega⟩
def dn (Q : Fin 256 → Row) (s : Fin 128) : Row := Q ⟨128 + s.val, by omega⟩
def mx (E : Env) (Q : Fin 256 → Row) (r : Fin 256) : Fin 512 → ℝ := if h : r.val < 128 then E.mixed (up Q) ⟨r.val, h⟩ else E.mixed (dn Q) ⟨r.val - 128, by omega⟩
def dvx (E : Env) (Q : Fin 256 → Row) (r : Fin 256) : Fin 512 → ℝ := if h : r.val < 128 then E.dvn (up Q) ⟨r.val, h⟩ else E.dvn (dn Q) ⟨r.val - 128, by omega⟩

/-- A column of the wide arrays from its shard. -/
def sh (s : Fin 4) (c : Fin 256) : Fin 1024 := ⟨s.val * 256 + c.val, by omega⟩

/-- The first head and the first shard, as the slices write their columns. -/
theorem at_0 (c : Fin 128) (h : c.val < 512) : (⟨c.val, h⟩ : Fin 512) = at' 0 c := Fin.ext (show c.val = 0 * 128 + c.val by omega)
theorem sh_0 (c : Fin 256) (h : c.val < 1024) : (⟨c.val, h⟩ : Fin 1024) = sh 0 c := Fin.ext (show c.val = 0 * 256 + c.val by omega)

theorem sum_shards (f : Fin 1024 → ℝ) : ∑ n, f n = (∑ c, f (sh 0 c) + ∑ c, f (sh 1 c)) + (∑ c, f (sh 2 c) + ∑ c, f (sh 3 c)) := by
  refine (sum_blocks 4 256 f).trans ?_
  rw [Fin.sum_univ_four, add_assoc]
  rfl

variable {E : Env} {Q : Fin 256 → Row} {M D : Fin 256 → Fin 512 → ℝ}

theorem word_og {b : Vec Ideal S1x256x512 .f32} {f : Fin 256 → Fin 512 → ℝ} (h : Block b f) :
    Grid (k0_pay13 b) f := by
  intro r k
  unfold_payloads
  pointwise
  exact h r k

theorem word_u {b : Vec Ideal S1x256x512 .f32} {f : Fin 256 → Fin 512 → ℝ} (h : Block b f) :
    Grid (k0_pay14 b) f := by
  intro r k
  unfold_payloads
  pointwise
  exact h r k

theorem word_v {b : Vec Ideal S1x256x512 .f32} {f : Fin 256 → Fin 512 → ℝ} (h : Block b f) :
    Grid (k0_pay15 b) f := by
  intro r k
  unfold_payloads
  pointwise
  exact h r k

theorem word_wo {w : Vec Ideal S1024x1024 .bf16} {f : Fin 1024 → Fin 1024 → ℝ} (h : Grid w f) :
    Grid (k0_pay18 w) f := by
  intro r k
  unfold_payloads
  pointwise
  exact h r k

theorem word_dx {b : Vec Ideal S1x256x1024 .f32} {f : Fin 256 → Fin 1024 → ℝ} (h : Block b f) :
    Grid (k0_pay19 b) f := by
  intro r k
  unfold_payloads
  pointwise
  exact h r k

theorem word_dmix {b : Vec Ideal S1x256x1024 .f32} {g : Vec Ideal S1x1x1024 .f32} (h : Block b (fun r => (Q r).dx)) (hg : ∀ k, g (ix3 0 0 k) = ((E.gt k : ℝ) : EReal)) :
    Grid (k0_pay20 b g) (fun r => E.dmix (Q r)) := by
  intro r k
  unfold_payloads
  pointwise
  simp only [h r, hg, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_dmixh {b : Vec Ideal S1x256x1024 .f32} {g : Vec Ideal S1x1x1024 .f32} (h : Block b (fun r => (Q r).dx)) (hg : ∀ k, g (ix3 0 0 k) = ((E.gt k : ℝ) : EReal)) :
    Grid (k0_pay21 b g) (fun r => E.dmix (Q r)) := by
  intro r k
  unfold_payloads
  pointwise
  simp only [h r, hg, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_dmg {w : FVec Ideal S1024x1024 .bf16} {d : FVec Ideal S256x1024 .bf16} (hw : Grid w E.wo) (h : Grid d (fun r => E.dmix (Q r))) :
    Grid (k0_pay22 w d) (fun r => E.dmg (Q r)) := by
  intro r k
  unfold_payloads
  pointwise
  simp only [h r, hw, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_oo {a b : Vec Ideal S1x256x512 .f32} {f g : Fin 256 → Fin 512 → ℝ} (ha : Block a f) (hb : Block b g) (ho : ∀ r k, f r k + g r k = (Q r).o k) :
    Grid (k0_pay23 a b) (fun r => (Q r).o) := by
  intro r k
  unfold_payloads
  pointwise
  simp only [ha r, hb r, ho, ← EReal.coe_add, ho]

theorem word_bst {w : Vec Ideal S128x4 .f32} {f : Fin 128 → Fin 4 → ℝ} (h : Grid w f) :
    Grid (k0_pay24 w) f := by
  intro r k
  unfold_payloads
  pointwise
  exact h r k

theorem word_r0 {a b : Vec Ideal S1x256x512 .f32} {f g : Fin 256 → Fin 512 → ℝ} (ha : Block a f) (hb : Block b g) (ho : ∀ r k, f r k + g r k = (Q r).o k) :
    Column (k0_pay28 a b) (fun r => (Q r).rh 0) := by
  intro r
  unfold_payloads
  pointwise
  simp only [ha r, hb r, ho, ← EReal.coe_add, ho, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_r1 {a b : Vec Ideal S1x256x512 .f32} {f g : Fin 256 → Fin 512 → ℝ} (ha : Block a f) (hb : Block b g) (ho : ∀ r k, f r k + g r k = (Q r).o k) :
    Column (k0_pay31 a b) (fun r => (Q r).rh 1) := by
  intro r
  unfold_payloads
  pointwise
  simp only [ha r, hb r, ho, ← EReal.coe_add, ho, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_o2 {a b : Vec Ideal S1x256x512 .f32} {f g : Fin 256 → Fin 512 → ℝ} (ha : Block a f) (hb : Block b g) (ho : ∀ r k, f r k + g r k = (Q r).o k) :
    Grid (k0_pay33 a b) (fun r c => (Q r).o (at' 2 c)) := by
  intro r c
  unfold_payloads
  pointwise
  simp only [ha r, hb r, ho, ← EReal.coe_add, ho]
  rfl

theorem word_r2 {v : FVec Ideal S256x128 .f32} (h : Grid v (fun r c => (Q r).o (at' 2 c))) :
    Column (k0_pay34 v) (fun r => (Q r).rh 2) := by
  intro r
  unfold_payloads
  pointwise
  simp only [h r, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_r3 {v : FVec Ideal S256x512 .f32} (h : Grid v (fun r => (Q r).o)) :
    Column (k0_pay36 v) (fun r => (Q r).rh 3) := by
  intro r
  unfold_payloads
  pointwise
  simp only [h r, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem heads4 {x0 x1 x2 x3 : FVec Ideal S256x128 .f32} {f : Fin 256 → Fin 512 → ℝ} (h0 : Grid x0 (fun r c => f r (at' 0 c))) (h1 : Grid x1 (fun r c => f r (at' 1 c))) (h2 : Grid x2 (fun r c => f r (at' 2 c))) (h3 : Grid x3 (fun r c => f r (at' 3 c))) :
    Grid (concatenate S256x512 1 [⟨S256x128, x0⟩, ⟨S256x128, x1⟩, ⟨S256x128, x2⟩, ⟨S256x128, x3⟩] concatenates_S256x128_S256x128_S256x128_S256x128_S256x512_d1) f := by
  intro r k
  pointwise
  by_cases a : k.val < 128
  · simp only [dif_pos a]
    exact (h0 r ⟨k.val, by omega⟩).trans (congrArg (fun j => Real.toEReal (f r j)) (Fin.ext (show 0 * 128 + (k.val) = k.val by omega)))
  by_cases b : k.val - 128 < 128
  · simp only [dif_neg a, dif_pos b]
    exact (h1 r ⟨k.val - 128, by omega⟩).trans (congrArg (fun j => Real.toEReal (f r j)) (Fin.ext (show 1 * 128 + (k.val - 128) = k.val by omega)))
  by_cases c : k.val - 128 - 128 < 128
  · simp only [dif_neg a, dif_neg b, dif_pos c]
    exact (h2 r ⟨k.val - 128 - 128, by omega⟩).trans (congrArg (fun j => Real.toEReal (f r j)) (Fin.ext (show 2 * 128 + (k.val - 128 - 128) = k.val by omega)))
  · simp only [dif_neg a, dif_neg b, dif_neg c]
    exact (h3 r ⟨k.val - 128 - 128 - 128, by omega⟩).trans (congrArg (fun j => Real.toEReal (f r j)) (Fin.ext (show 3 * 128 + (k.val - 128 - 128 - 128) = k.val by omega)))

theorem heads4c {x0 x1 x2 x3 : FVec Ideal S128x128 .f32} {f : Fin 128 → Fin 512 → ℝ} (h0 : Grid x0 (fun r c => f r (at' 0 c))) (h1 : Grid x1 (fun r c => f r (at' 1 c))) (h2 : Grid x2 (fun r c => f r (at' 2 c))) (h3 : Grid x3 (fun r c => f r (at' 3 c))) :
    Grid (concatenate S128x512 1 [⟨S128x128, x0⟩, ⟨S128x128, x1⟩, ⟨S128x128, x2⟩, ⟨S128x128, x3⟩] concatenates_S128x128_S128x128_S128x128_S128x128_S128x512_d1) f := by
  intro r k
  pointwise
  by_cases a : k.val < 128
  · simp only [dif_pos a]
    exact (h0 r ⟨k.val, by omega⟩).trans (congrArg (fun j => Real.toEReal (f r j)) (Fin.ext (show 0 * 128 + (k.val) = k.val by omega)))
  by_cases b : k.val - 128 < 128
  · simp only [dif_neg a, dif_pos b]
    exact (h1 r ⟨k.val - 128, by omega⟩).trans (congrArg (fun j => Real.toEReal (f r j)) (Fin.ext (show 1 * 128 + (k.val - 128) = k.val by omega)))
  by_cases c : k.val - 128 - 128 < 128
  · simp only [dif_neg a, dif_neg b, dif_pos c]
    exact (h2 r ⟨k.val - 128 - 128, by omega⟩).trans (congrArg (fun j => Real.toEReal (f r j)) (Fin.ext (show 2 * 128 + (k.val - 128 - 128) = k.val by omega)))
  · simp only [dif_neg a, dif_neg b, dif_neg c]
    exact (h3 r ⟨k.val - 128 - 128 - 128, by omega⟩).trans (congrArg (fun j => Real.toEReal (f r j)) (Fin.ext (show 3 * 128 + (k.val - 128 - 128 - 128) = k.val by omega)))

theorem shards4 {x0 x1 x2 x3 : FVec Ideal S256x256 .f32} {f : Fin 256 → Fin 1024 → ℝ} (h0 : Grid x0 (fun r c => f r (sh 0 c))) (h1 : Grid x1 (fun r c => f r (sh 1 c))) (h2 : Grid x2 (fun r c => f r (sh 2 c))) (h3 : Grid x3 (fun r c => f r (sh 3 c))) :
    Grid (concatenate S256x1024 1 [⟨S256x256, x0⟩, ⟨S256x256, x1⟩, ⟨S256x256, x2⟩, ⟨S256x256, x3⟩] concatenates_S256x256_S256x256_S256x256_S256x256_S256x1024_d1) f := by
  intro r k
  pointwise
  by_cases a : k.val < 256
  · simp only [dif_pos a]
    exact (h0 r ⟨k.val, by omega⟩).trans (congrArg (fun j => Real.toEReal (f r j)) (Fin.ext (show 0 * 256 + (k.val) = k.val by omega)))
  by_cases b : k.val - 256 < 256
  · simp only [dif_neg a, dif_pos b]
    exact (h1 r ⟨k.val - 256, by omega⟩).trans (congrArg (fun j => Real.toEReal (f r j)) (Fin.ext (show 1 * 256 + (k.val - 256) = k.val by omega)))
  by_cases c : k.val - 256 - 256 < 256
  · simp only [dif_neg a, dif_neg b, dif_pos c]
    exact (h2 r ⟨k.val - 256 - 256, by omega⟩).trans (congrArg (fun j => Real.toEReal (f r j)) (Fin.ext (show 2 * 256 + (k.val - 256 - 256) = k.val by omega)))
  · simp only [dif_neg a, dif_neg b, dif_neg c]
    exact (h3 r ⟨k.val - 256 - 256 - 256, by omega⟩).trans (congrArg (fun j => Real.toEReal (f r j)) (Fin.ext (show 3 * 256 + (k.val - 256 - 256 - 256) = k.val by omega)))

theorem halves2 {x0 x1 : FVec Ideal S256x512 .f32} {f : Fin 256 → Fin 1024 → ℝ} (h0 : Grid x0 (fun r k => f r ⟨k.val, by omega⟩))
    (h1 : Grid x1 (fun r k => f r ⟨512 + k.val, by omega⟩)) : Grid (concatenate S256x1024 1 [⟨S256x512, x0⟩, ⟨S256x512, x1⟩] concatenates_S256x512_S256x512_S256x1024_d1) f := by
  intro r k
  pointwise
  split_ifs with a b
  · exact h0 r ⟨k.val, a⟩
  · exact (h1 r _).trans (congrArg (fun j => Real.toEReal (f r j)) (Fin.ext (by show 512 + (k.val - 512) = k.val; omega)))
  · exact absurd rfl b

theorem rows2 {x0 x1 : FVec Ideal S128x512 .f32} {f0 f1 : Fin 128 → Fin 512 → ℝ} (h0 : Grid x0 f0) (h1 : Grid x1 f1) :
    Grid (concatenate S256x512 0 [⟨S128x512, x0⟩, ⟨S128x512, x1⟩] concatenates_S128x512_S128x512_S256x512_d0)
      (fun r => if h : r.val < 128 then f0 ⟨r.val, h⟩ else f1 ⟨r.val - 128, by omega⟩) := by
  intro r k
  pointwise
  by_cases h : r.val < 128
  · simp only [dif_pos h]
    exact h0 _ k
  · simp only [dif_neg h]
    exact h1 _ k

theorem word_ga {a b : Vec Ideal S1x256x512 .f32} {f : Fin 256 → Fin 1024 → ℝ} (ha : Block a (fun r k => f r ⟨k.val, by omega⟩)) (hb : Block b (fun r k => f r ⟨512 + k.val, by omega⟩)) :
    Grid (k0_pay16 a b) f := halves2 (word_og ha) (word_og hb)

theorem word_gb {a b : Vec Ideal S1x256x512 .f32} {f : Fin 256 → Fin 1024 → ℝ} (ha : Block a (fun r k => f r ⟨k.val, by omega⟩)) (hb : Block b (fun r k => f r ⟨512 + k.val, by omega⟩)) :
    Grid (k0_pay17 a b) f := halves2 (word_og ha) (word_og hb)

theorem word_sog {v : FVec Ideal S256x512 .f32} (h : Grid v (fun r => (Q r).og)) :
    Grid (k0_pay25 v) (fun r => (Q r).sog) := by
  intro r k
  unfold_payloads
  pointwise
  simp only [h r, FloatOps.ofBits, word_half, logi_coe]
  rfl

theorem word_silu {v : FVec Ideal S256x512 .f32} (h : Grid v (fun r => (Q r).og)) :
    Grid (k0_pay26 v) (fun r => (Q r).silu) := by
  intro r k
  unfold_payloads
  pointwise
  simp only [h r, FloatOps.ofBits, word_half, logi_coe_mul, ← EReal.coe_mul]
  rfl

theorem word_sa {v : FVec Ideal S256x1024 .f32} (h : Grid v (fun r => (Q r).ga)) :
    Grid (k0_pay57 v) (fun r => (Q r).sa) := by
  intro r k
  unfold_payloads
  pointwise
  simp only [h r, FloatOps.ofBits, word_half, logi_coe]
  rfl

theorem word_sb {v : FVec Ideal S256x1024 .f32} (h : Grid v (fun r => (Q r).gb)) :
    Grid (k0_pay58 v) (fun r => (Q r).sb) := by
  intro r k
  unfold_payloads
  pointwise
  simp only [h r, FloatOps.ofBits, word_half, logi_coe]
  rfl

theorem word_xh0 {a b : Vec Ideal S1x256x512 .f32} {f g : Fin 256 → Fin 512 → ℝ} (ha : Block a f) (hb : Block b g) (ho : ∀ r k, f r k + g r k = (Q r).o k) :
    Grid (k0_pay29 a b) (fun r c => (Q r).xh (at' 0 c)) := by
  intro r c
  unfold_payloads
  pointwise
  simp only [ha r, hb r, ho, ← EReal.coe_add, ho, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0, Row.xh, hd_at]
  rfl

theorem word_xh1 {a b : Vec Ideal S1x256x512 .f32} {f g : Fin 256 → Fin 512 → ℝ} (ha : Block a f) (hb : Block b g) (ho : ∀ r k, f r k + g r k = (Q r).o k) :
    Grid (k0_pay32 a b) (fun r c => (Q r).xh (at' 1 c)) := by
  intro r c
  unfold_payloads
  pointwise
  simp only [ha r, hb r, ho, ← EReal.coe_add, ho, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0, Row.xh, hd_at]
  rfl

theorem word_xh {o : FVec Ideal S256x512 .f32} {x0 x1 o2 : FVec Ideal S256x128 .f32} (ho : Grid o (fun r => (Q r).o)) (h0 : Grid x0 (fun r c => (Q r).xh (at' 0 c)))
    (h1 : Grid x1 (fun r c => (Q r).xh (at' 1 c))) (h2 : Grid o2 (fun r c => (Q r).o (at' 2 c))) : Grid (k0_pay37 o x0 x1 o2) (fun r => (Q r).xh) := by
  refine heads4 h0 h1 ?_ ?_ <;> intro r c <;> unfold_payloads <;> pointwise <;> simp only [ho r, h2 r, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0, Row.xh, hd_at] <;> rfl

theorem word_gna {g : Vec Ideal S1x128 .f32} (hg : Line g E.gna) : Line (k0_pay38 g) (fun j => E.gna (ln j)) := by
  intro k
  unfold_payloads
  pointwise
  by_cases a : k.val < 128
  · simp only [dif_pos a]
    exact (hg ⟨k.val, a⟩).trans (congrArg (fun j => Real.toEReal (E.gna j)) (Fin.ext (show k.val = k.val % 128 by omega)))
  by_cases b : k.val - 128 < 128
  · simp only [dif_neg a, dif_pos b]
    exact (hg ⟨k.val - 128, b⟩).trans (congrArg (fun j => Real.toEReal (E.gna j)) (Fin.ext (show k.val - 128 = k.val % 128 by omega)))
  by_cases c : k.val - 128 - 128 < 128
  · simp only [dif_neg a, dif_neg b, dif_pos c]
    exact (hg ⟨k.val - 128 - 128, c⟩).trans (congrArg (fun j => Real.toEReal (E.gna j)) (Fin.ext (show k.val - 128 - 128 = k.val % 128 by omega)))
  · simp only [dif_neg a, dif_neg b, dif_neg c]
    exact (hg ⟨k.val - 128 - 128 - 128, by omega⟩).trans (congrArg (fun j => Real.toEReal (E.gna j)) (Fin.ext (show k.val - 128 - 128 - 128 = k.val % 128 by omega)))

theorem word_on {o : FVec Ideal S256x512 .f32} {x0 x1 o2 : FVec Ideal S256x128 .f32} (hx : Grid (k0_pay37 o x0 x1 o2) (fun r => (Q r).xh)) {g : Vec Ideal S1x128 .f32} (hg : Line g E.gna) :
    Grid (k0_pay39 g o x0 x1 o2) (fun r => E.on (Q r)) := by
  intro r k
  unfold k0_pay39
  pointwise
  simp only [hx r, word_gna hg, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_oa {o s : FVec Ideal S256x512 .f32} {x0 x1 o2 : FVec Ideal S256x128 .f32} {g : Vec Ideal S1x128 .f32} (hn : Grid (k0_pay39 g o x0 x1 o2) (fun r => E.on (Q r))) (hs : Grid s (fun r => (Q r).silu)) :
    Grid (k0_pay40 g o s x0 x1 o2) (fun r => E.oa (Q r)) := by
  intro r k
  unfold k0_pay40
  pointwise
  simp only [hn r, hs r, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_ya0 {o s : FVec Ideal S256x512 .f32} {x0 x1 o2 : FVec Ideal S256x128 .f32} {g : Vec Ideal S1x128 .f32} (hn : Grid (k0_pay40 g o s x0 x1 o2) (fun r => E.oa (Q r))) {w : Vec Ideal S1x512x256 .bf16} (hw : Block w (fun k c => E.wpa k (sh 0 c))) :
    Grid (k0_pay41 g o s x0 x1 o2 w) (fun r c => E.ya (Q r) (sh 0 c)) := by
  intro r c
  unfold k0_pay41
  pointwise
  simp only [hn r, hw, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_ya1 {o s : FVec Ideal S256x512 .f32} {x0 x1 o2 : FVec Ideal S256x128 .f32} {g : Vec Ideal S1x128 .f32} (hn : Grid (k0_pay40 g o s x0 x1 o2) (fun r => E.oa (Q r))) {w : Vec Ideal S1x512x256 .bf16} (hw : Block w (fun k c => E.wpa k (sh 1 c))) :
    Grid (k0_pay42 g o s x0 x1 o2 w) (fun r c => E.ya (Q r) (sh 1 c)) := by
  intro r c
  unfold k0_pay42
  pointwise
  simp only [hn r, hw, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_ya2 {o s : FVec Ideal S256x512 .f32} {x0 x1 o2 : FVec Ideal S256x128 .f32} {g : Vec Ideal S1x128 .f32} (hn : Grid (k0_pay40 g o s x0 x1 o2) (fun r => E.oa (Q r))) {w : Vec Ideal S1x512x256 .bf16} (hw : Block w (fun k c => E.wpa k (sh 2 c))) :
    Grid (k0_pay43 g o s x0 x1 o2 w) (fun r c => E.ya (Q r) (sh 2 c)) := by
  intro r c
  unfold k0_pay43
  pointwise
  simp only [hn r, hw, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_ya {a : FVec Ideal S256x512 .f32} {y0 y1 y2 : FVec Ideal S256x256 .f32} (ha : Grid a (fun r => E.oa (Q r))) (h0 : Grid y0 (fun r c => E.ya (Q r) (sh 0 c)))
    (h1 : Grid y1 (fun r c => E.ya (Q r) (sh 1 c))) (h2 : Grid y2 (fun r c => E.ya (Q r) (sh 2 c))) {w : Vec Ideal S1x512x256 .bf16} (hw : Block w (fun k c => E.wpa k (sh 3 c))) :
    Grid (k0_pay44 a y0 y1 y2 w) (fun r => E.ya (Q r)) := by
  refine shards4 h0 h1 h2 ?_
  intro r c
  pointwise
  simp only [ha r, hw, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_tu {v : FVec Ideal S256x512 .f32} (h : Grid v (fun r => (Q r).u)) :
    Grid (k0_pay45 v) (fun r k => th ((Q r).u k)) := by
  intro r k
  unfold_payloads
  pointwise
  simp only [h r, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0, Ideal.tanh_coe]
  rfl

theorem word_tv {v : FVec Ideal S256x512 .f32} (h : Grid v (fun r => (Q r).v)) :
    Grid (k0_pay47 v) (fun r k => th ((Q r).v k)) := by
  intro r k
  unfold_payloads
  pointwise
  simp only [h r, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0, Ideal.tanh_coe]
  rfl

theorem word_gu {v : FVec Ideal S256x512 .f32} (h : Grid v (fun r => (Q r).u)) :
    Grid (k0_pay46 v) (fun r k => gelu ((Q r).u k)) := by
  intro r k
  unfold k0_pay46
  pointwise
  simp only [h r, word_tu h r, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_cen {v : FVec Ideal S256x512 .f32} (h : Grid v (fun r => (Q r).v)) :
    Grid (k0_pay48 v) (fun r => (Q r).cen) := by
  intro r k
  unfold k0_pay48
  pointwise
  simp only [h r, word_tv h r, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_rl {v : FVec Ideal S256x512 .f32} (h : Grid v (fun r => (Q r).v)) :
    Column (k0_pay49 v) (fun r => (Q r).rl) := by
  intro r
  unfold k0_pay49
  pointwise
  simp only [word_cen h r, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_xl {v : FVec Ideal S256x512 .f32} (h : Grid v (fun r => (Q r).v)) :
    Grid (k0_pay50 v) (fun r => (Q r).xl) := by
  intro r k
  unfold k0_pay50
  pointwise
  simp only [word_cen h r, word_rl h, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_vn {g b : Vec Ideal S1x512 .f32} (hg : Line g E.lng) (hb : Line b E.lnb) {x : FVec Ideal S256x512 .f32} (h : Grid x (fun r => (Q r).xl)) :
    Grid (k0_pay51 g b x) (fun r => E.vn (Q r)) := by
  intro r k
  unfold_payloads
  pointwise
  simp only [h r, hg, hb, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_mixA {g b : Vec Ideal S1x512 .f32} {x : FVec Ideal S256x512 .f32} (hv : Grid (k0_pay51 g b x) (fun r => E.vn (Q r))) {w0 w1 w2 w3 : Vec Ideal S1x128x128 .f32} (hw0 : Block w0 (E.ws 0)) (hw1 : Block w1 (E.ws 1)) (hw2 : Block w2 (E.ws 2)) (hw3 : Block w3 (E.ws 3)) {c : FVec Ideal S128x4 .f32} (hc : Grid c (fun t g => E.bs g t)) :
    Grid (k0_pay52 g b c x w0 w1 w2 w3) (fun t => E.mixed (up Q) t) := by
  refine heads4c ?_ ?_ ?_ ?_ <;> intro r j <;> pointwise <;> simp only [hv _, hw0 _, hw1 _, hw2 _, hw3 _, hc _, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0, Env.mixed, hd_at] <;> rfl

theorem word_mix {v : FVec Ideal S256x512 .f32} (hv : Grid v (fun r => E.vn (Q r))) {m : FVec Ideal S128x512 .f32} (hm : Grid m (fun t => E.mixed (up Q) t)) {w0 w1 w2 w3 : Vec Ideal S1x128x128 .f32} (hw0 : Block w0 (E.ws 0)) (hw1 : Block w1 (E.ws 1)) (hw2 : Block w2 (E.ws 2)) (hw3 : Block w3 (E.ws 3)) {c : FVec Ideal S128x4 .f32} (hc : Grid c (fun t g => E.bs g t)) :
    Grid (k0_pay53 c v m w0 w1 w2 w3) (fun r => mx E Q r) := by
  refine rows2 hm (heads4c ?_ ?_ ?_ ?_) <;> intro r j <;> pointwise <;> simp only [hv _, hw0 _, hw1 _, hw2 _, hw3 _, hc _, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0, Env.mixed, hd_at] <;> rfl

theorem word_obm {v u : FVec Ideal S256x512 .f32} {m : FVec Ideal S128x512 .f32} {w0 w1 w2 w3 : Vec Ideal S1x128x128 .f32} {c : FVec Ideal S128x4 .f32} (hm : Grid (k0_pay53 c v m w0 w1 w2 w3) (fun r => mx E Q r)) (hu : Grid u (fun r k => gelu ((Q r).u k))) :
    Grid (k0_pay54 c u v m w0 w1 w2 w3) (fun r => Env.obm (Q r) (mx E Q r)) := by
  intro r k
  unfold k0_pay54
  pointwise
  simp only [hm r, hu r, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_yb0 {v u : FVec Ideal S256x512 .f32} {m : FVec Ideal S128x512 .f32} {w0 w1 w2 w3 : Vec Ideal S1x128x128 .f32} {c : FVec Ideal S128x4 .f32} (hm : Grid (k0_pay54 c u v m w0 w1 w2 w3) (fun r => Env.obm (Q r) (mx E Q r))) {w : Vec Ideal S1x512x256 .bf16} (hw : Block w (fun k c => E.wpb k (sh 0 c))) :
    Grid (k0_pay55 c u v m w0 w1 w2 w3 w) (fun r c => E.yb (Q r) (mx E Q r) (sh 0 c)) := by
  intro r k
  unfold k0_pay55
  pointwise
  simp only [hm r, hw, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_yb {a : FVec Ideal S256x512 .f32} {y : FVec Ideal S256x256 .f32} (ha : Grid a (fun r => Env.obm (Q r) (mx E Q r))) (h0 : Grid y (fun r c => E.yb (Q r) (mx E Q r) (sh 0 c)))
    {p1 p2 p3 : Vec Ideal S1x512x256 .bf16} (hp1 : Block p1 (fun k c => E.wpb k (sh 1 c))) (hp2 : Block p2 (fun k c => E.wpb k (sh 2 c))) (hp3 : Block p3 (fun k c => E.wpb k (sh 3 c))) : Grid (k0_pay56 a y p1 p2 p3) (fun r => E.yb (Q r) (mx E Q r)) := by
  refine shards4 h0 ?_ ?_ ?_ <;> intro r c <;> pointwise <;> simp only [ha r, hp1 _, hp2 _, hp3 _, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0] <;> rfl

theorem word_mg {a b ya : FVec Ideal S256x1024 .f32} (ha : Grid (k0_pay57 a) (fun r => (Q r).sa)) (hb : Grid (k0_pay58 b) (fun r => (Q r).sb)) (hy : Grid ya (fun r => E.ya (Q r))) {m : FVec Ideal S256x512 .f32} {y : FVec Ideal S256x256 .f32} {p1 p2 p3 : Vec Ideal S1x512x256 .bf16} (hz : Grid (k0_pay56 m y p1 p2 p3) (fun r => E.yb (Q r) (mx E Q r))) :
    Grid (k0_pay59 a b ya m y p1 p2 p3) (fun r => E.mg (Q r) (mx E Q r)) := by
  intro r k
  unfold k0_pay59
  pointwise
  simp only [ha r, hb r, hy r, hz r, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_colmix {a b ya d : FVec Ideal S256x1024 .f32} {w : FVec Ideal S1024x1024 .bf16} (hw : Grid w E.wo) (hd : Grid d (fun r => (Q r).dx)) {m : FVec Ideal S256x512 .f32} {y : FVec Ideal S256x256 .f32} {p1 p2 p3 : Vec Ideal S1x512x256 .bf16} (hz : Grid (k0_pay59 a b ya m y p1 p2 p3) (fun r => E.mg (Q r) (mx E Q r))) :
    Line (k0_pay61 a b w d ya m y p1 p2 p3) (fun k => ∑ r, (Q r).dx k * E.mix (Q r) (mx E Q r) k) := by
  intro k
  unfold k0_pay61
  pointwise
  simp only [hz _, hw, hd _, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_dya {d : FVec Ideal S256x1024 .f32} (hd : Grid d (fun r => E.dmg (Q r))) {s : FVec Ideal S256x1024 .f32} (hs : Grid s (fun r => (Q r).sa)) :
    Grid (k0_pay64 d s) (fun r => E.dya (Q r)) := by
  intro r k
  unfold_payloads
  pointwise
  simp only [hd r, hs r, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_dyb {d : FVec Ideal S256x1024 .f32} (hd : Grid d (fun r => E.dmg (Q r))) {s : FVec Ideal S256x1024 .f32} (hs : Grid s (fun r => (Q r).sb)) :
    Grid (k0_pay65 d s) (fun r => E.dyb (Q r)) := by
  intro r k
  unfold_payloads
  pointwise
  simp only [hd r, hs r, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_dga {d : FVec Ideal S256x1024 .f32} (hd : Grid d (fun r => E.dmg (Q r))) {y s : FVec Ideal S256x1024 .f32} (hy : Grid y (fun r => E.ya (Q r))) (hs : Grid s (fun r => (Q r).sa)) :
    Grid (k0_pay66 d y s) (fun r => E.dga (Q r)) := by
  intro r k
  unfold_payloads
  pointwise
  simp only [hd r, hy r, hs r, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_dgb {d : FVec Ideal S256x1024 .f32} (hd : Grid d (fun r => E.dmg (Q r))) {y s : FVec Ideal S256x1024 .f32} (hy : Grid y (fun r => E.yb (Q r) (mx E Q r))) (hs : Grid s (fun r => (Q r).sb)) :
    Grid (k0_pay67 d y s) (fun r => E.dgb (Q r) (mx E Q r)) := by
  intro r k
  unfold_payloads
  pointwise
  simp only [hd r, hy r, hs r, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_doa0 {d s : FVec Ideal S256x1024 .f32} (hd : Grid (k0_pay64 d s) (fun r => E.dya (Q r))) {w : Vec Ideal S1x512x256 .bf16} (hw : Block w (fun k c => E.wpa k (sh 0 c))) :
    Grid (k0_pay68 d s w) (fun r k => ∑ c, E.dya (Q r) (sh 0 c) * E.wpa k (sh 0 c)) := by
  intro r k
  unfold k0_pay68
  pointwise
  simp only [hd r, hw, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]

theorem word_doa1 {d s : FVec Ideal S256x1024 .f32} (hd : Grid (k0_pay64 d s) (fun r => E.dya (Q r))) {w : Vec Ideal S1x512x256 .bf16} (hw : Block w (fun k c => E.wpa k (sh 1 c))) :
    Grid (k0_pay69 d s w) (fun r k => ∑ c, E.dya (Q r) (sh 1 c) * E.wpa k (sh 1 c)) := by
  intro r k
  unfold k0_pay69
  pointwise
  simp only [hd r, hw, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_wpa2 {w : Vec Ideal S1x512x256 .bf16} {f : Fin 512 → Fin 256 → ℝ} (hw : Block w f) :
    Grid (k0_pay70 w) f := by
  intro r k
  unfold_payloads
  pointwise
  exact hw r k

theorem word_dya2 {d s : FVec Ideal S256x1024 .f32} (hd : Grid (k0_pay64 d s) (fun r => E.dya (Q r))) :
    Grid (k0_pay71 d s) (fun r c => E.dya (Q r) (sh 2 c)) := by
  intro r k
  unfold k0_pay71
  pointwise
  simp only [hd r, sh_0]
  rfl

theorem word_doa {y : FVec Ideal S256x1024 .f32} (hy : Grid y (fun r => E.dya (Q r))) {a b : FVec Ideal S256x512 .f32} (ha : Grid a (fun r k => ∑ c, E.dya (Q r) (sh 0 c) * E.wpa k (sh 0 c))) (hb : Grid b (fun r k => ∑ c, E.dya (Q r) (sh 1 c) * E.wpa k (sh 1 c))) {x : FVec Ideal S512x256 .bf16} (hx : Grid x (fun k c => E.wpa k (sh 2 c))) {d : FVec Ideal S256x256 .bf16} (hd : Grid d (fun r c => E.dya (Q r) (sh 2 c))) {w : Vec Ideal S1x512x256 .bf16} (hw : Block w (fun k c => E.wpa k (sh 3 c))) :
    Grid (k0_pay72 y a b x d w) (fun r => E.doa (Q r)) := by
  intro r k
  unfold_payloads
  pointwise
  simp only [hy r, ha r, hb r, hx, hd r, hw, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  exact congrArg Real.toEReal (sum_shards (fun n => E.dya (Q r) n * E.wpa k n)).symm

theorem word_dobm {y : FVec Ideal S256x1024 .f32} (hy : Grid y (fun r => E.dyb (Q r))) {p0 p1 p2 p3 : Vec Ideal S1x512x256 .bf16} (hp0 : Block p0 (fun k c => E.wpb k (sh 0 c))) (hp1 : Block p1 (fun k c => E.wpb k (sh 1 c))) (hp2 : Block p2 (fun k c => E.wpb k (sh 2 c))) (hp3 : Block p3 (fun k c => E.wpb k (sh 3 c))) :
    Grid (k0_pay73 y p0 p1 p2 p3) (fun r => E.dobm (Q r)) := by
  intro r k
  unfold_payloads
  pointwise
  simp only [hy r, hp0, hp1, hp2, hp3, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  exact congrArg Real.toEReal (sum_shards (fun n => E.dyb (Q r) n * E.wpb k n)).symm

theorem word_dya0 {d : FVec Ideal S256x1024 .f32} (hd : Grid d (fun r => E.dya (Q r))) :
    Grid (k0_pay75 d) (fun r c => E.dya (Q r) (sh 0 c)) := by
  intro r k
  unfold_payloads
  pointwise
  simp only [hd r, sh_0]

theorem word_oah {d : FVec Ideal S256x512 .f32} {f : Fin 256 → Fin 512 → ℝ} (hd : Grid d f) :
    Grid (k0_pay76 d) f := by
  intro r k
  unfold_payloads
  pointwise
  exact hd r k

theorem word_md {z : Vec Ideal S1x1x1024 .f32} {c : FVec Ideal S1x1024 .f32} {f : Fin 1024 → ℝ} (h : Line c f) (k : Fin 1024) :
    k0_pay62 (k0_pay60 z) c (ix3 0 0 k) = z (ix3 0 0 k) + ((f k : ℝ) : EReal) := by
  unfold_payloads
  pointwise
  simp only [h, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]

theorem word_dwo {d m : FVec Ideal S256x1024 .f32} (hd : Grid d (fun r => E.dmix (Q r))) (hm : Grid m (fun r => E.mg (Q r) (mx E Q r))) {z : Vec Ideal S1024x1024 .f32} (n k : Fin 1024) :
    k0_pay63 d m z (ix2 n k) = z (ix2 n k) + ((∑ r, E.mg (Q r) (mx E Q r) n * E.dmix (Q r) k : ℝ) : EReal) := by
  unfold_payloads
  pointwise
  simp only [hd _, hm _, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]

theorem word_dwpa {a : FVec Ideal S256x512 .f32} (ha : Grid a (fun r => E.oa (Q r))) {d : FVec Ideal S256x1024 .f32} (hd : Grid d (fun r => E.dya (Q r))) {z : Vec Ideal S1x512x256 .f32} (k : Fin 512) (c : Fin 256) :
    k0_pay77 (k0_pay74 z) (k0_pay75 d) (k0_pay76 a) (ix3 0 k c) = z (ix3 0 k c) + ((∑ r, E.oa (Q r) k * E.dya (Q r) (sh 0 c) : ℝ) : EReal) ∧ k0_pay79 a d z (ix3 0 k c) = z (ix3 0 k c) + ((∑ r, E.oa (Q r) k * E.dya (Q r) (sh 1 c) : ℝ) : EReal) ∧
    k0_pay82 a d z (ix3 0 k c) = z (ix3 0 k c) + ((∑ r, E.oa (Q r) k * E.dya (Q r) (sh 2 c) : ℝ) : EReal) ∧ k0_pay84 a d z (ix3 0 k c) = z (ix3 0 k c) + ((∑ r, E.oa (Q r) k * E.dya (Q r) (sh 3 c) : ℝ) : EReal) := by
  refine ⟨?_, ?_, ?_, ?_⟩ <;> unfold_payloads <;> pointwise <;> simp only [ha _, hd _, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0] <;> rfl

theorem word_dwpb {a : FVec Ideal S256x512 .f32} (ha : Grid a (fun r => Env.obm (Q r) (mx E Q r))) {d : FVec Ideal S256x1024 .f32} (hd : Grid d (fun r => E.dyb (Q r))) {z : Vec Ideal S1x512x256 .f32} (k : Fin 512) (c : Fin 256) :
    k0_pay78 a d z (ix3 0 k c) = z (ix3 0 k c) + ((∑ r, Env.obm (Q r) (mx E Q r) k * E.dyb (Q r) (sh 0 c) : ℝ) : EReal) ∧ k0_pay81 (k0_pay80 a d z) (ix3 0 k c) = z (ix3 0 k c) + ((∑ r, Env.obm (Q r) (mx E Q r) k * E.dyb (Q r) (sh 1 c) : ℝ) : EReal) ∧
    k0_pay83 a d z (ix3 0 k c) = z (ix3 0 k c) + ((∑ r, Env.obm (Q r) (mx E Q r) k * E.dyb (Q r) (sh 2 c) : ℝ) : EReal) ∧ k0_pay85 a d z (ix3 0 k c) = z (ix3 0 k c) + ((∑ r, Env.obm (Q r) (mx E Q r) k * E.dyb (Q r) (sh 3 c) : ℝ) : EReal) := by
  refine ⟨?_, ?_, ?_, ?_⟩ <;> unfold_payloads <;> pointwise <;> simp only [ha _, hd _, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0] <;> rfl

theorem word_dog {og sog on d : FVec Ideal S256x512 .f32} (h : Grid og (fun r => (Q r).og)) (hs : Grid sog (fun r => (Q r).sog)) (hn : Grid on (fun r => E.on (Q r))) (hd : Grid d (fun r => E.doa (Q r))) :
    Grid (k0_pay86 og sog on d) (fun r => E.dog (Q r)) := by
  intro r k
  unfold_payloads
  pointwise
  simp only [h r, hs r, hn r, hd r, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_don {s d : FVec Ideal S256x512 .f32} (hs : Grid s (fun r => (Q r).silu)) (hd : Grid d (fun r => E.doa (Q r))) :
    Grid (k0_pay87 s d) (fun r => E.don (Q r)) := by
  intro r k
  unfold_payloads
  pointwise
  simp only [hs r, hd r, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_dxh {s d : FVec Ideal S256x512 .f32} (hs : Grid s (fun r => (Q r).silu)) (hd : Grid d (fun r => E.doa (Q r))){g : FVec Ideal S1x512 .f32} (hg : Line g (fun j => E.gna (ln j))) :
    Grid (k0_pay88 s g d) (fun r => E.dxh (Q r)) := by
  intro r k
  unfold k0_pay88
  pointwise
  simp only [word_don hs hd r, hg, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_pr {s d : FVec Ideal S256x512 .f32} (hs : Grid s (fun r => (Q r).silu)) (hd : Grid d (fun r => E.doa (Q r))){x : FVec Ideal S256x512 .f32} (hx : Grid x (fun r => (Q r).xh)) :
    Grid (k0_pay89 s x d) (fun r => E.pr (Q r)) := by
  intro r k
  unfold k0_pay89
  pointwise
  simp only [word_don hs hd r, hx r, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_dor0 {s d x : FVec Ideal S256x512 .f32} {g : FVec Ideal S1x512 .f32} (hx : Grid x (fun r => (Q r).xh)) (hk : Grid (k0_pay88 s g d) (fun r => E.dxh (Q r))){q : FVec Ideal S256x1 .f32} (hq : Column q (fun r => (Q r).rh 0)) :
    Grid (k0_pay90 s q x g d) (fun r c => E.dor (Q r) (at' 0 c)) := by
  intro r k
  unfold k0_pay90
  pointwise
  simp only [hk r, hx r, hq, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0, Env.dor, hd_at]
  rfl

theorem word_dg01 {s d x : FVec Ideal S256x512 .f32} (hp : Grid (k0_pay89 s x d) (fun r => E.pr (Q r))) :
    Line (k0_pay91 s x d) (fun c => ∑ r, E.pr (Q r) (at' 0 c) + ∑ r, E.pr (Q r) (at' 1 c)) := by
  intro k
  unfold k0_pay91
  pointwise
  simp only [hp _, FloatOps.ofBits, Ideal.ofBits_zero_f32, zero_add, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_dxh1 {s d : FVec Ideal S256x512 .f32} {g : FVec Ideal S1x512 .f32} (hk : Grid (k0_pay88 s g d) (fun r => E.dxh (Q r))) :
    Grid (k0_pay92 s g d) (fun r c => E.dxh (Q r) (at' 1 c)) := by
  intro r k
  unfold k0_pay92
  pointwise
  simp only [hk r, ]
  rfl

theorem word_xhh1 {x : FVec Ideal S256x512 .f32} (hx : Grid x (fun r => (Q r).xh)) :
    Grid (k0_pay93 x) (fun r c => (Q r).xh (at' 1 c)) := by
  intro r k
  unfold_payloads
  pointwise
  simp only [hx r, ]
  rfl

theorem word_pr1 {s d x : FVec Ideal S256x512 .f32} {g : FVec Ideal S1x512 .f32} (hx : Grid (k0_pay93 x) (fun r c => (Q r).xh (at' 1 c))) (hk : Grid (k0_pay92 s g d) (fun r c => E.dxh (Q r) (at' 1 c))) :
    Grid (k0_pay94 s x g d) (fun r c => E.dxh (Q r) (at' 1 c) * (Q r).xh (at' 1 c)) := by
  intro r k
  unfold k0_pay94
  pointwise
  simp only [hk r, hx r, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]

theorem word_dgn {p : FVec Ideal S256x512 .f32} (hp : Grid p (fun r => E.pr (Q r))) {l : FVec Ideal S1x128 .f32} (hl : Line l (fun c => ∑ r, E.pr (Q r) (at' 0 c) + ∑ r, E.pr (Q r) (at' 1 c))) {z : Vec Ideal S1x128 .f32} (c : Fin 128) :
    k0_pay95 p l z (ix2 0 c) = z (ix2 0 c) + ((∑ r, E.pr (Q r) (at' 0 c) + ∑ r, E.pr (Q r) (at' 1 c) + ∑ r, E.pr (Q r) (at' 2 c) + ∑ r, E.pr (Q r) (at' 3 c) : ℝ) : EReal) := by
  unfold_payloads
  pointwise
  simp only [hp _, hl, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_dor {q1 q2 q3 : FVec Ideal S256x1 .f32} (h1 : Column q1 (fun r => (Q r).rh 1)) (h2 : Column q2 (fun r => (Q r).rh 2)) (h3 : Column q3 (fun r => (Q r).rh 3)) {x d : FVec Ideal S256x512 .f32} (hx : Grid x (fun r => (Q r).xh)) (hd : Grid d (fun r => E.dxh (Q r))) {a b c e : FVec Ideal S256x128 .f32}
    (ha : Grid a (fun r c => E.dor (Q r) (at' 0 c))) (hb : Grid b (fun r c => E.dxh (Q r) (at' 1 c))) (hc : Grid c (fun r c => (Q r).xh (at' 1 c)))
    (he : Grid e (fun r c => E.dxh (Q r) (at' 1 c) * (Q r).xh (at' 1 c))) : Grid (k0_pay96 q1 q2 q3 x d a b c e) (fun r => E.dor (Q r)) := by
  refine heads4 ha ?_ ?_ ?_ <;> intro r j <;> pointwise <;> simp only [hx r, hd r, hb r, hc r, he r, h1, h2, h3, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0, Env.dor, hd_at] <;> rfl

theorem word_outo {v : FVec Ideal S256x512 .f32} {f : Fin 256 → Fin 512 → ℝ} (h : Grid v f) :
    Block (k0_pay97 v) f := by
  intro r k
  unfold_payloads
  pointwise
  exact h r k

theorem word_du {u t m d : FVec Ideal S256x512 .f32} (hu : Grid u (fun r => (Q r).u)) (ht : Grid t (fun r k => th ((Q r).u k))) (hm : Grid m (fun r => mx E Q r)) (hd : Grid d (fun r => E.dobm (Q r))) :
    Grid (k0_pay98 u t m d) (fun r => E.du (Q r) (mx E Q r)) := by
  intro r k
  unfold_payloads
  pointwise
  simp only [hu r, ht r, hm r, hd r, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_dmx {g d : FVec Ideal S256x512 .f32} (hg : Grid g (fun r k => gelu ((Q r).u k))) (hd : Grid d (fun r => E.dobm (Q r))) :
    Grid (k0_pay99 g d) (fun r => E.dmx (Q r)) := by
  intro r k
  unfold_payloads
  pointwise
  simp only [hg r, hd r, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_dmx0 {g d : FVec Ideal S256x512 .f32} (h : Grid (k0_pay99 g d) (fun r => E.dmx (Q r))) :
    Grid (k0_pay100 g d) (fun r c => E.dmx (up Q r) (at' 0 c)) := by
  intro r k
  unfold k0_pay100
  pointwise
  simp only [h _, at_0]
  rfl

theorem word_pieces {x : FVec Ideal S256x512 .f32} (h : Grid x (fun r => E.dmx (Q r))) :
    Grid (k0_pay110 x) (fun r c => E.dmx (up Q r) (at' 2 c)) ∧ Grid (k0_pay114 x) (fun r c => E.dmx (up Q r) (at' 3 c)) ∧
    Grid (k0_pay124 x) (fun r c => E.dmx (dn Q r) (at' 1 c)) ∧ Grid (k0_pay128 x) (fun r c => E.dmx (dn Q r) (at' 2 c)) := by
  refine ⟨?_, ?_, ?_, ?_⟩ <;> intro r c <;> unfold_payloads <;> pointwise <;> exact h _ _

theorem word_dws {v g d x : FVec Ideal S256x512 .f32} (hv : Grid v (fun r => E.vn (Q r))) (h0 : Grid (k0_pay100 g d) (fun r c => E.dmx (up Q r) (at' 0 c))) (h : Grid x (fun r => E.dmx (Q r)))
    {a b : FVec Ideal S128x128 .f32} (h2 : Grid a (fun r c => E.dmx (up Q r) (at' 2 c))) (h1 : Grid b (fun r c => E.dmx (dn Q r) (at' 1 c)))
    {z : Vec Ideal S1x128x128 .f32} (t s : Fin 128) :
    (k0_pay101 g v d z (ix3 0 t s) = z (ix3 0 t s) + ((E.dws (up Q) 0 t s : ℝ) : EReal) ∧ k0_pay107 v x z (ix3 0 t s) = z (ix3 0 t s) + ((E.dws (up Q) 1 t s : ℝ) : EReal) ∧
      k0_pay111 v a z (ix3 0 t s) = z (ix3 0 t s) + ((E.dws (up Q) 2 t s : ℝ) : EReal) ∧ k0_pay115 v x z (ix3 0 t s) = z (ix3 0 t s) + ((E.dws (up Q) 3 t s : ℝ) : EReal)) ∧
    k0_pay121 v x z (ix3 0 t s) = z (ix3 0 t s) + ((E.dws (dn Q) 0 t s : ℝ) : EReal) ∧ k0_pay125 v b z (ix3 0 t s) = z (ix3 0 t s) + ((E.dws (dn Q) 1 t s : ℝ) : EReal) ∧
      k0_pay129 v x z (ix3 0 t s) = z (ix3 0 t s) + ((E.dws (dn Q) 2 t s : ℝ) : EReal) ∧ k0_pay133 v x z (ix3 0 t s) = z (ix3 0 t s) + ((E.dws (dn Q) 3 t s : ℝ) : EReal) := by
  refine ⟨⟨?_, ?_, ?_, ?_⟩, ?_, ?_, ?_, ?_⟩
  · unfold k0_pay101
    pointwise
    simp only [h0 _, hv _, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
    rfl
  all_goals
    unfold_payloads
    pointwise
    simp only [h _, h1 _, h2 _, hv _, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
    rfl

theorem word_dbs {g d x : FVec Ideal S256x512 .f32} (h0 : Grid (k0_pay100 g d) (fun r c => E.dmx (up Q r) (at' 0 c))) (h : Grid x (fun r => E.dmx (Q r)))
    {a b e : FVec Ideal S128x128 .f32} (h2 : Grid a (fun r c => E.dmx (up Q r) (at' 2 c))) (h1 : Grid b (fun r c => E.dmx (dn Q r) (at' 1 c))) (h3 : Grid e (fun r c => E.dmx (dn Q r) (at' 2 c)))
    {z : Vec Ideal S128x1 .f32} (t : Fin 128) :
    (k0_pay104 (k0_pay102 z) (k0_pay103 g d) (ix2 t 0) = z (ix2 t 0) + ((E.dbs (up Q) 0 t : ℝ) : EReal) ∧ k0_pay108 x z (ix2 t 0) = z (ix2 t 0) + ((E.dbs (up Q) 1 t : ℝ) : EReal) ∧
      k0_pay112 a z (ix2 t 0) = z (ix2 t 0) + ((E.dbs (up Q) 2 t : ℝ) : EReal) ∧ k0_pay118 (k0_pay116 z) (k0_pay117 x) (ix2 t 0) = z (ix2 t 0) + ((E.dbs (up Q) 3 t : ℝ) : EReal)) ∧
    k0_pay122 x z (ix2 t 0) = z (ix2 t 0) + ((E.dbs (dn Q) 0 t : ℝ) : EReal) ∧ k0_pay126 b z (ix2 t 0) = z (ix2 t 0) + ((E.dbs (dn Q) 1 t : ℝ) : EReal) ∧
      k0_pay131 e (k0_pay130 z) (ix2 t 0) = z (ix2 t 0) + ((E.dbs (dn Q) 2 t : ℝ) : EReal) ∧ k0_pay134 x z (ix2 t 0) = z (ix2 t 0) + ((E.dbs (dn Q) 3 t : ℝ) : EReal) := by
  refine ⟨⟨?_, ?_, ?_, ?_⟩, ?_, ?_, ?_, ?_⟩
  · unfold k0_pay104 k0_pay102 k0_pay103
    pointwise
    simp only [h0 _, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
    rfl
  all_goals
    unfold_payloads
    pointwise
    simp only [h _, h1 _, h2 _, h3 _, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
    rfl

theorem word_dv0 {a : FVec Ideal S128x128 .f32} (h : Grid a (fun r c => E.dmx (up Q r) (at' 0 c))) {w : Vec Ideal S1x128x128 .f32} (hw : Block w (fun t s => E.ws 0 s t)) :
    Grid (k0_pay105 a w) (fun t c => E.dvn (up Q) t (at' 0 c)) := by
  intro r c
  unfold_payloads
  pointwise
  simp only [h _, hw, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0, Env.dvn, hd_at]

theorem word_dv2 {a : FVec Ideal S128x128 .f32} (h : Grid a (fun r c => E.dmx (up Q r) (at' 2 c))) {w : Vec Ideal S1x128x128 .f32} (hw : Block w (fun t s => E.ws 2 s t)) :
    Grid (k0_pay113 a w) (fun t c => E.dvn (up Q) t (at' 2 c)) := by
  intro r c
  unfold_payloads
  pointwise
  simp only [h _, hw, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0, Env.dvn, hd_at]

theorem word_dw1 {a : FVec Ideal S128x128 .f32} (h : Grid a (fun r c => E.dmx (dn Q r) (at' 1 c))) {w : Vec Ideal S1x128x128 .f32} (hw : Block w (fun t s => E.ws 1 s t)) :
    Grid (k0_pay127 a w) (fun t c => E.dvn (dn Q) t (at' 1 c)) := by
  intro r c
  unfold_payloads
  pointwise
  simp only [h _, hw, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0, Env.dvn, hd_at]

theorem word_dv1 {x : FVec Ideal S256x512 .f32} (h : Grid x (fun r => E.dmx (Q r))) {w : Vec Ideal S1x128x128 .f32} (hw : Block w (fun t s => E.ws 1 s t)) :
    Grid (k0_pay109 x w) (fun t c => E.dvn (up Q) t (at' 1 c)) := by
  intro r c
  unfold_payloads
  pointwise
  simp only [h _, hw, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0, Env.dvn, hd_at]
  rfl

theorem word_dw0 {x : FVec Ideal S256x512 .f32} (h : Grid x (fun r => E.dmx (Q r))) {w : Vec Ideal S1x128x128 .f32} (hw : Block w (fun t s => E.ws 0 s t)) :
    Grid (k0_pay123 x w) (fun t c => E.dvn (dn Q) t (at' 0 c)) := by
  intro r c
  unfold_payloads
  pointwise
  simp only [h _, hw, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0, Env.dvn, hd_at]
  rfl

theorem word_dvA {a b c e : FVec Ideal S128x128 .f32} (h0 : Grid a (fun t c => E.dvn (up Q) t (at' 0 c))) (h1 : Grid b (fun t c => E.dvn (up Q) t (at' 1 c)))
    (h2 : Grid c (fun t c => E.dvn (up Q) t (at' 2 c))) (h3 : Grid e (fun r c => E.dmx (up Q r) (at' 3 c))) {w : Vec Ideal S1x128x128 .f32} (hw : Block w (fun t s => E.ws 3 s t)) : Grid (k0_pay119 a b c e w) (fun t => E.dvn (up Q) t) := by
  refine heads4c h0 h1 h2 ?_
  intro r j
  pointwise
  simp only [h3 _, hw, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0, Env.dvn, hd_at]

theorem word_dvn {x : FVec Ideal S256x512 .f32} (h : Grid x (fun r => E.dmx (Q r))) {m : FVec Ideal S128x512 .f32} (hm : Grid m (fun t => E.dvn (up Q) t)) {a b c : FVec Ideal S128x128 .f32}
    (h0 : Grid a (fun t c => E.dvn (dn Q) t (at' 0 c))) (h1 : Grid b (fun t c => E.dvn (dn Q) t (at' 1 c))) (h2 : Grid c (fun r c => E.dmx (dn Q r) (at' 2 c)))
    {w2 w3 : Vec Ideal S1x128x128 .f32} (hw2 : Block w2 (fun t s => E.ws 2 s t)) (hw3 : Block w3 (fun t s => E.ws 3 s t)) :
    Grid (k0_pay135 x m a b c w2 w3) (fun r => dvx E Q r) := by
  refine rows2 hm (heads4c h0 h1 ?_ ?_) <;> intro r j <;> unfold_payloads <;> pointwise <;> simp only [h _, h2 _, hw2, hw3, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0, Env.dvn, hd_at] <;> rfl

theorem word_dlg {x d : FVec Ideal S256x512 .f32} (hx : Grid x (fun r => (Q r).xl)) (hd : Grid d (fun r => dvx E Q r)) {z : Vec Ideal S1x512 .f32} (k : Fin 512) :
    k0_pay136 x d z (ix2 0 k) = z (ix2 0 k) + ((∑ r, dvx E Q r k * (Q r).xl k : ℝ) : EReal) := by
  unfold_payloads
  pointwise
  simp only [hx _, hd _, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]

theorem word_dlb {d : FVec Ideal S256x512 .f32} (hd : Grid d (fun r => dvx E Q r)) {z : Vec Ideal S1x512 .f32} (k : Fin 512) :
    k0_pay137 d z (ix2 0 k) = z (ix2 0 k) + ((∑ r, dvx E Q r k : ℝ) : EReal) := by
  unfold_payloads
  pointwise
  simp only [hd _, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]

theorem word_dgv {x d : FVec Ideal S256x512 .f32} (hx : Grid x (fun r => (Q r).xl)) (hd : Grid d (fun r => dvx E Q r)) {g : Vec Ideal S1x512 .f32} (hg : Line g E.lng) {q : FVec Ideal S256x1 .f32} (hq : Column q (fun r => (Q r).rl)) :
    Grid (k0_pay138 g q x d) (fun r => E.dgv (Q r) (dvx E Q r)) := by
  intro r k
  unfold_payloads
  pointwise
  simp only [hx r, hd r, hg, hq, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  rfl

theorem word_hv {t : FVec Ideal S256x512 .f32} (ht : Grid t (fun r k => th ((Q r).v k))) :
    Grid (k0_pay139 t) (fun r k => 1 / 2 * (1 + th ((Q r).v k))) := by
  intro r k
  unfold_payloads
  pointwise
  simp only [ht r, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]

theorem word_qv {v t : FVec Ideal S256x512 .f32} (hv : Grid v (fun r => (Q r).v)) (ht : Grid t (fun r k => th ((Q r).v k))) :
    Grid (k0_pay140 v t) (fun r k => 1 / 2 * (Q r).v k * (1 - th ((Q r).v k) * th ((Q r).v k))) := by
  intro r k
  unfold_payloads
  pointwise
  simp only [hv r, ht r, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]

theorem word_rest {v og du gv hv qv : FVec Ideal S256x512 .f32} {a b : FVec Ideal S256x1024 .f32} {c : Ideal .f32} (hc : c = ((root : ℝ) : EReal)) (h : Grid v (fun r => (Q r).v)) (ha : Grid a (fun r => E.dga (Q r)))
    (hb : Grid b (fun r => E.dgb (Q r) (mx E Q r))) (ho : Grid og (fun r => E.dog (Q r))) (hu : Grid du (fun r => E.du (Q r) (mx E Q r))) (hg : Grid gv (fun r => E.dgv (Q r) (dvx E Q r)))
    (hh : Grid hv (fun r k => 1 / 2 * (1 + th ((Q r).v k)))) (hq : Grid qv (fun r k => 1 / 2 * (Q r).v k * (1 - th ((Q r).v k) * th ((Q r).v k)))) :
    Block (k0_pay12 v a b og du gv hv qv c) (fun r => E.rest (Q r) (mx E Q r) (dvx E Q r)) := by
  intro r k
  unfold_payloads
  pointwise
  simp only [h r, ha r, hb r, ho r, hu r, hg r, hh r, hq r, hc, FloatOps.ofBits, named_cube, named_cube3, word_eps, word_128, word_512, word_half, word_root, Ideal.ofBits_one_f32, ← EReal.coe_one, ← EReal.coe_mul, coe_sum, div_128, div_512, ← EReal.coe_add, ← EReal.coe_sub, coe_rh, coe_rl, at_0, sh_0]
  unfold Env.rest
  split_ifs <;> rfl

end Cert.MixbIdeal.Run

end
-- ==== Proof.MixbBlock.lean ====
/- What one point of latent rows leaves in its results' blocks, over the reals. -/
module

public import proofs.«01_k».proof.Proof.MixbKernel
public import proofs.«01_k».proof.Proof.MixbOuts

@[expose] public section

set_option maxRecDepth 8000

noncomputable section

namespace Cert.MixbIdeal.Run

open Idealize.ShloMosaic Idealize.SL.Sem Cert.MixbIdeal Cert.MixbIdeal.Gen Idealize.ShloMosaic.TcCoe Cert.Stores Cert.Reals Cert.Norms Cert.Mixb

/-- The input blocks hold the rows `Q`, whose recurrence's outputs are the sums of `f` and `g`, in the environment `E`. -/
structure Holds (p : Blocks Ideal) (E : Env) (Q : Fin 256 → Row) (f g : Fin 256 → Fin 512 → ℝ) : Prop where
  hog : Block p.bog (fun r => (Q r).og)
  hu : Block p.bu (fun r => (Q r).u)
  hv : Block p.bv (fun r => (Q r).v)
  ha0 : Block p.ba0 (fun r k => (Q r).ga ⟨k.val, by omega⟩)
  ha1 : Block p.ba1 (fun r k => (Q r).ga ⟨512 + k.val, by omega⟩)
  hb0 : Block p.bb0 (fun r k => (Q r).gb ⟨k.val, by omega⟩)
  hb1 : Block p.bb1 (fun r k => (Q r).gb ⟨512 + k.val, by omega⟩)
  hof : Block p.bof f
  hob : Block p.bob g
  ho : ∀ r k, f r k + g r k = (Q r).o k
  hdx : Block p.bdx (fun r => (Q r).dx)
  hgt : ∀ k, p.bmd (ix3 0 0 k) = ((E.gt k : ℝ) : EReal)
  hgna : Line p.gna E.gna
  hlng : Line p.lng E.lng
  hlnb : Line p.lnb E.lnb
  hws : ∀ i t s, p.ws (ix3 i t s) = ((E.ws i t s : ℝ) : EReal)
  hwt : ∀ i t s, p.wt (ix3 i t s) = ((E.ws i s t : ℝ) : EReal)
  hbs : Grid p.bs (fun t i => E.bs i t)
  hwpa : ∀ i k c, p.wpa (ix3 i k c) = ((E.wpa k (sh i c) : ℝ) : EReal)
  hwpb : ∀ i k c, p.wpb (ix3 i k c) = ((E.wpb k (sh i c) : ℝ) : EReal)
  hwo : Grid p.wo E.wo

namespace Holds

variable {p : Blocks Ideal} {E : Env} {Q : Fin 256 → Row} {f g : Fin 256 → Fin 512 → ℝ} (h : Holds p E Q f g)

include h

theorem og : Grid p.og (fun r => (Q r).og) := word_og h.hog
theorem u : Grid p.u (fun r => (Q r).u) := word_u h.hu
theorem v : Grid p.v (fun r => (Q r).v) := word_v h.hv
theorem ga : Grid p.ga (fun r => (Q r).ga) := word_ga h.ha0 h.ha1
theorem gb : Grid p.gb (fun r => (Q r).gb) := word_gb h.hb0 h.hb1
theorem wo : Grid p.wo2 E.wo := word_wo h.hwo
theorem dx : Grid p.dx (fun r => (Q r).dx) := word_dx h.hdx
theorem gt (k : Fin 1024) : row 0 p.bmd (ix3 0 0 k) = ((E.gt k : ℝ) : EReal) := (row_apply 0 p.bmd k).trans (h.hgt k)
theorem dmix : Grid p.dmix (fun r => E.dmix (Q r)) := word_dmix h.hdx h.gt
theorem dmg : Grid p.dmg (fun r => E.dmg (Q r)) := word_dmg h.wo (word_dmixh h.hdx h.gt)
theorem bst : Grid p.bst (fun t i => E.bs i t) := word_bst h.hbs
theorem sog : Grid p.sog (fun r => (Q r).sog) := word_sog h.og
theorem silu : Grid p.silu (fun r => (Q r).silu) := word_silu h.og
theorem oo : Grid p.oo (fun r => (Q r).o) := word_oo h.hof h.hob h.ho
theorem o2 : Grid p.o2 (fun r c => (Q r).o (at' 2 c)) := word_o2 h.hof h.hob h.ho
theorem xh : Grid p.xh (fun r => (Q r).xh) := word_xh h.oo (word_xh0 h.hof h.hob h.ho) (word_xh1 h.hof h.hob h.ho) h.o2
theorem on : Grid p.on (fun r => E.on (Q r)) := word_on h.xh h.hgna
theorem oa : Grid p.oa (fun r => E.oa (Q r)) := word_oa h.on h.silu
theorem wpa (i : Fin 4) : Block (slab i.val i.isLt p.wpa) (fun k c => E.wpa k (sh i c)) := fun k c => h.hwpa i k c
theorem wpb (i : Fin 4) : Block (slab i.val i.isLt p.wpb) (fun k c => E.wpb k (sh i c)) := fun k c => h.hwpb i k c
theorem ws (i : Fin 4) : Block (slab i.val i.isLt p.ws) (E.ws i) := fun t s => h.hws i t s
theorem wt (i : Fin 4) : Block (slab i.val i.isLt p.wt) (fun t s => E.ws i s t) := fun t s => h.hwt i t s
theorem ya : Grid p.ya (fun r => E.ya (Q r)) := word_ya h.oa (word_ya0 h.oa (h.wpa 0)) (word_ya1 h.oa (h.wpa 1)) (word_ya2 h.oa (h.wpa 2)) (h.wpa 3)
theorem tu : Grid p.tu (fun r k => th ((Q r).u k)) := word_tu h.u
theorem gu : Grid p.gu (fun r k => gelu ((Q r).u k)) := word_gu h.u
theorem tv : Grid p.tv (fun r k => th ((Q r).v k)) := word_tv h.v
theorem rl : Column p.rl (fun r => (Q r).rl) := word_rl h.v
theorem xl : Grid p.xl (fun r => (Q r).xl) := word_xl h.v
theorem vn : Grid p.vn (fun r => E.vn (Q r)) := word_vn h.hlng h.hlnb h.xl
theorem mix : Grid p.mix (fun r => mx E Q r) := word_mix h.vn (word_mixA h.vn (h.ws 0) (h.ws 1) (h.ws 2) (h.ws 3) h.bst) (h.ws 0) (h.ws 1) (h.ws 2) (h.ws 3) h.bst
theorem obm : Grid p.obm (fun r => Env.obm (Q r) (mx E Q r)) := word_obm h.mix h.gu
theorem yb : Grid p.yb (fun r => E.yb (Q r) (mx E Q r)) := word_yb h.obm (word_yb0 h.obm (h.wpb 0)) (h.wpb 1) (h.wpb 2) (h.wpb 3)
theorem sa : Grid p.sa (fun r => (Q r).sa) := word_sa h.ga
theorem sb : Grid p.sb (fun r => (Q r).sb) := word_sb h.gb
theorem mg : Grid p.mg (fun r => E.mg (Q r) (mx E Q r)) := word_mg h.sa h.sb h.ya h.yb
theorem colmix : Line p.colmix (fun k => ∑ r, (Q r).dx k * E.mix (Q r) (mx E Q r) k) := word_colmix h.wo h.dx h.mg
theorem dya : Grid p.dya (fun r => E.dya (Q r)) := word_dya h.dmg h.sa
theorem dyb : Grid p.dyb (fun r => E.dyb (Q r)) := word_dyb h.dmg h.sb
theorem doa : Grid p.doa (fun r => E.doa (Q r)) :=
  word_doa h.dya (word_doa0 h.dya (h.wpa 0)) (word_doa1 h.dya (h.wpa 1)) (word_wpa2 (h.wpa 2)) (word_dya2 h.dya) (h.wpa 3)
theorem dobm : Grid p.dobm (fun r => E.dobm (Q r)) := word_dobm h.dyb (h.wpb 0) (h.wpb 1) (h.wpb 2) (h.wpb 3)
theorem gna4 : Line p.gna4 (fun j => E.gna (ln j)) := word_gna h.hgna
theorem dxh : Grid p.dxh (fun r => E.dxh (Q r)) := word_dxh h.silu h.doa h.gna4
theorem pr : Grid p.pr (fun r => E.pr (Q r)) := word_pr h.silu h.doa h.xh
theorem dor : Grid p.dor (fun r => E.dor (Q r)) :=
  word_dor (word_r1 h.hof h.hob h.ho) (word_r2 h.o2) (word_r3 h.oo) h.xh h.dxh (word_dor0 h.xh h.dxh (word_r0 h.hof h.hob h.ho))
    (word_dxh1 h.dxh) (word_xhh1 h.xh) (word_pr1 (word_xhh1 h.xh) (word_dxh1 h.dxh))
theorem dmx : Grid p.dmx (fun r => E.dmx (Q r)) := word_dmx h.gu h.dobm
theorem dmx0 : Grid p.dmx0 (fun r c => E.dmx (up Q r) (at' 0 c)) := word_dmx0 h.dmx
theorem pieces : Grid p.dmx2 (fun r c => E.dmx (up Q r) (at' 2 c)) ∧ Grid p.dmx3 (fun r c => E.dmx (up Q r) (at' 3 c)) ∧
    Grid p.dmy1 (fun r c => E.dmx (dn Q r) (at' 1 c)) ∧ Grid p.dmy2 (fun r c => E.dmx (dn Q r) (at' 2 c)) := word_pieces h.dmx
theorem dvn : Grid p.dvn (fun r => dvx E Q r) :=
  word_dvn h.dmx (word_dvA (word_dv0 h.dmx0 (h.wt 0)) (word_dv1 h.dmx (h.wt 1)) (word_dv2 h.pieces.1 (h.wt 2)) h.pieces.2.1 (h.wt 3))
    (word_dw0 h.dmx (h.wt 0)) (word_dw1 h.pieces.2.2.1 (h.wt 1)) h.pieces.2.2.2 (h.wt 2) (h.wt 3)
theorem dgv : Grid p.dgv (fun r => E.dgv (Q r) (dvx E Q r)) := word_dgv h.xl h.dvn h.hlng h.rl

theorem out_o : Block p.out_o (fun r => E.dor (Q r)) := word_outo h.dor

theorem out_rest : Block p.out_rest (fun r => E.rest (Q r) (mx E Q r) (dvx E Q r)) :=
  word_rest word_root h.v (word_dga h.dmg h.ya h.sa) (word_dgb h.dmg h.yb h.sb) (word_dog h.og h.sog h.on h.doa) (word_du h.u h.tu h.mix h.dobm) h.dgv
    (word_hv h.tv) (word_qv h.v h.tv)

theorem out_pa (z : Vec Ideal S4x512x256 .f32) (s : Fin 4) (k : Fin 512) (c : Fin 256) :
    p.out_pa z (ix3 s k c) = z (ix3 s k c) + ((∑ r, E.oa (Q r) k * E.dya (Q r) (sh s c) : ℝ) : EReal) := by
  have e (z) := word_dwpa h.oa h.dya (z := z) k c
  unfold Blocks.out_pa
  fin_cases s
  · exact (e _).1
  · exact (e _).2.1
  · exact (e _).2.2.1
  · exact (e _).2.2.2

theorem out_pb (z : Vec Ideal S4x512x256 .f32) (s : Fin 4) (k : Fin 512) (c : Fin 256) :
    p.out_pb z (ix3 s k c) = z (ix3 s k c) + ((∑ r, Env.obm (Q r) (mx E Q r) k * E.dyb (Q r) (sh s c) : ℝ) : EReal) := by
  have e (z) := word_dwpb h.obm h.dyb (z := z) k c
  unfold Blocks.out_pb
  fin_cases s
  · exact (e _).1
  · exact (e _).2.1
  · exact (e _).2.2.1
  · exact (e _).2.2.2

theorem out_wo (z : Vec Ideal S1024x1024 .f32) (n k : Fin 1024) :
    p.out_wo z (ix2 n k) = z (ix2 n k) + ((∑ r, E.mg (Q r) (mx E Q r) n * E.dmix (Q r) k : ℝ) : EReal) := word_dwo h.dmix h.mg n k

theorem out_g (z : Vec Ideal S1x128 .f32) (c : Fin 128) :
    p.out_g z (ix2 0 c) = z (ix2 0 c) + ((∑ r, ∑ i : Fin 4, E.pr (Q r) (at' i c) : ℝ) : EReal) := by
  refine (word_dgn h.pr (word_dg01 h.pr) c).trans (congrArg (fun a : ℝ => z (ix2 0 c) + (a : EReal)) ?_)
  simp only [Fin.sum_univ_four, Finset.sum_add_distrib]

theorem out_lg (z : Vec Ideal S1x512 .f32) (k : Fin 512) : p.out_lg z (ix2 0 k) = z (ix2 0 k) + ((∑ r, dvx E Q r k * (Q r).xl k : ℝ) : EReal) :=
  word_dlg h.xl h.dvn k

theorem out_lb (z : Vec Ideal S1x512 .f32) (k : Fin 512) : p.out_lb z (ix2 0 k) = z (ix2 0 k) + ((∑ r, dvx E Q r k : ℝ) : EReal) := word_dlb h.dvn k

theorem out_ws (z : Vec Ideal S4x128x128 .f32) (i : Fin 4) (t s : Fin 128) :
    p.out_ws z (ix3 i t s) = z (ix3 i t s) + ((E.dws (up Q) i t s + E.dws (dn Q) i t s : ℝ) : EReal) := by
  have e (z) := word_dws h.vn h.dmx0 h.dmx h.pieces.1 h.pieces.2.2.1 (z := z) t s
  rw [EReal.coe_add, ← add_assoc]
  unfold Blocks.out_ws
  fin_cases i
  · exact (e _).2.1.trans (congrArg (· + _) (e _).1.1)
  · exact (e _).2.2.1.trans (congrArg (· + _) (e _).1.2.1)
  · exact (e _).2.2.2.1.trans (congrArg (· + _) (e _).1.2.2.1)
  · exact (e _).2.2.2.2.trans (congrArg (· + _) (e _).1.2.2.2)

theorem out_bs (z : Vec Ideal S128x4 .f32) (t : Fin 128) (i : Fin 4) :
    p.out_bs z (ix2 t i) = z (ix2 t i) + ((E.dbs (up Q) i t + E.dbs (dn Q) i t : ℝ) : EReal) := by
  have e (z) := word_dbs h.dmx0 h.dmx h.pieces.1 h.pieces.2.2.1 h.pieces.2.2.2 (z := z) t
  rw [EReal.coe_add, ← add_assoc]
  unfold Blocks.out_bs
  fin_cases i
  · exact (e _).2.1.trans (congrArg (· + _) (e _).1.1)
  · exact (e _).2.2.1.trans (congrArg (· + _) (e _).1.2.1)
  · exact (e _).2.2.2.1.trans (congrArg (· + _) (e _).1.2.2.1)
  · exact (e _).2.2.2.2.trans (congrArg (· + _) (e _).1.2.2.2)

theorem out_md (z : Vec Ideal S1x8x1024 .f32) (k : Fin 1024) :
    p.out_md z (ix3 0 0 k) = z (ix3 0 0 k) + ((∑ r, (Q r).dx k * E.mix (Q r) (mx E Q r) k : ℝ) : EReal) := by
  unfold Blocks.out_md
  rw [setRow_apply, if_pos rfl]
  refine (word_md h.colmix k).trans ?_
  rw [row_apply]

omit h in
theorem out_md_rest (z : Vec Ideal S1x8x1024 .f32) (j : Fin 8) (hj : j.val ≠ 0) (k : Fin 1024) : p.out_md z (ix3 0 j k) = z (ix3 0 j k) := by
  unfold Blocks.out_md
  rw [setRow_apply]
  exact if_neg hj

end Holds

end Cert.MixbIdeal.Run

end
-- ==== Proof.MixbSum.lean ====
/- The results of the mixers' backward call, whole arrays, over the reals: its rows' cotangents, and the sums over the latent rows and
   over the chunks. -/
module

public import proofs.«01_k».proof.Proof.MixbArr
public import proofs.«01_k».proof.Proof.MixbBlock
public import proofs.«01_k».proof.Proof.MixbWhole
public import proofs.«01_k».proof.Proof.Sums

@[expose] public section

set_option maxRecDepth 8000

noncomputable section

namespace Cert.MixbIdeal.Run

open Idealize.ShloMosaic Idealize.SL.Sem Cert.MixbIdeal Cert.MixbIdeal.Gen Idealize.ShloMosaic.TcCoe Cert.Stores Cert.Reals Cert.Norms Cert.Mixb

variable (m : (ℓ : Loc nD τ sig) → Buf (Elt Ideal) ℓ) (c : Dev nD) (A : Arrays)

/-- The kernel's arguments are the reals `A`: of the projection and of the recurrence's outputs the latent rows, of the modulation its gate. -/
structure Args : Prop where
  p : ∀ (b : Fin 4) (s : Fin 2048) (k : Fin 3584), m ((c : Thread nD τ).loc main_arg0) (ix3 b ⟨256 + s.val, by omega⟩ ⟨2048 + k.val, by omega⟩) = ((A.p b s k : ℝ) : EReal)
  f : ∀ (b : Fin 4) (s : Fin 2048) (k : Fin 512), m ((c : Thread nD τ).loc main_arg1) (ix3 b ⟨256 + s.val, by omega⟩ k) = ((A.f b s k : ℝ) : EReal)
  g : ∀ (b : Fin 4) (s : Fin 2048) (k : Fin 512), m ((c : Thread nD τ).loc main_arg2) (ix3 b ⟨256 + s.val, by omega⟩ k) = ((A.g b s k : ℝ) : EReal)
  dx : ∀ b s k, m ((c : Thread nD τ).loc main_arg3) (ix3 b s k) = ((A.dx b s k : ℝ) : EReal)
  gt : ∀ b k, m ((c : Thread nD τ).loc main_arg4) (ix3 b 2 k) = ((A.gt b k : ℝ) : EReal)
  gna : ∀ k, m ((c : Thread nD τ).loc main_arg5) (ix2 0 k) = ((A.gna k : ℝ) : EReal)
  lng : ∀ k, m ((c : Thread nD τ).loc main_arg6) (ix2 0 k) = ((A.lng k : ℝ) : EReal)
  lnb : ∀ k, m ((c : Thread nD τ).loc main_arg7) (ix2 0 k) = ((A.lnb k : ℝ) : EReal)
  ws : ∀ i t s, m ((c : Thread nD τ).loc main_arg8) (ix4 0 i t s) = ((A.ws i t s : ℝ) : EReal)
  bs : ∀ i t, m ((c : Thread nD τ).loc main_arg9) (ix3 0 i t) = ((A.bs i t : ℝ) : EReal)
  wpa : ∀ k n, m ((c : Thread nD τ).loc main_arg10) (ix3 0 k n) = ((A.wpa k n : ℝ) : EReal)
  wpb : ∀ k n, m ((c : Thread nD τ).loc main_arg11) (ix3 0 k n) = ((A.wpb k n : ℝ) : EReal)
  wo : ∀ k n, m ((c : Thread nD τ).loc main_arg12) (ix3 0 k n) = ((A.wo k n : ℝ) : EReal)

/-- The latent rows of a point. -/
def rowsAt (t : Fin cfg0.N) (r : Fin 256) : Row := A.row (bat t) (lpos t r)

theorem pos_eq (t : Fin cfg0.N) (h1 : ¬t.val % 9 = 0) (r : Fin 256) : pos t r = ⟨256 + (lpos t r).val, by have := (lpos t r).isLt; omega⟩ :=
  Fin.ext (by show t.val % 9 * 256 + r.val = 256 + ((t.val % 9 - 1) * 256 + r.val); omega)

theorem colAt_low (q : Fin 7) (k : Fin 512) : colAt q k = ⟨2048 + (q.val * 512 + k.val), by omega⟩ :=
  Fin.ext (by show (4 + q.val) * 512 + k.val = 2048 + (q.val * 512 + k.val); omega)

/-- The two chunks of a point. -/
def half (t : Fin cfg0.N) (q : Fin 2) : Fin 16 := ⟨(t.val % 9 - 1) * 2 + q.val, by omega⟩

theorem up_rows (t : Fin cfg0.N) : up (rowsAt A t) = A.chunk (bat t) (half t 0) := funext fun s =>
  congrArg (A.row (bat t)) (Fin.ext (by show (t.val % 9 - 1) * 256 + s.val = ((t.val % 9 - 1) * 2 + 0) * 128 + s.val; omega))
theorem dn_rows (t : Fin cfg0.N) : dn (rowsAt A t) = A.chunk (bat t) (half t 1) := funext fun s =>
  congrArg (A.row (bat t)) (Fin.ext (by show (t.val % 9 - 1) * 256 + (128 + s.val) = ((t.val % 9 - 1) * 2 + 1) * 128 + s.val; omega))

/-- The chunk of a point's row and its place there. -/
theorem ck_up (t : Fin cfg0.N) (r : Fin 256) (h : r.val < 128) : half t 0 = ck (lpos t r) ∧ (⟨r.val, h⟩ : Fin 128) = pl (lpos t r) :=
  ⟨Fin.ext (by show (t.val % 9 - 1) * 2 + 0 = ((t.val % 9 - 1) * 256 + r.val) / 128; omega),
    Fin.ext (by show r.val = ((t.val % 9 - 1) * 256 + r.val) % 128; omega)⟩
theorem ck_dn (t : Fin cfg0.N) (r : Fin 256) (h : ¬r.val < 128) : half t 1 = ck (lpos t r) ∧ (⟨r.val - 128, by omega⟩ : Fin 128) = pl (lpos t r) :=
  ⟨Fin.ext (by show (t.val % 9 - 1) * 2 + 1 = ((t.val % 9 - 1) * 256 + r.val) / 128; omega),
    Fin.ext (by show r.val - 128 = ((t.val % 9 - 1) * 256 + r.val) % 128; omega)⟩

theorem mx_rows (t : Fin cfg0.N) (r : Fin 256) : mx (A.env (bat t)) (rowsAt A t) r = A.mixed (bat t) (lpos t r) := by
  unfold mx Arrays.mixed
  by_cases h : r.val < 128
  · rw [dif_pos h, up_rows, (ck_up t r h).1, (ck_up t r h).2]
  · rw [dif_neg h, dn_rows, (ck_dn t r h).1, (ck_dn t r h).2]

theorem dvx_rows (t : Fin cfg0.N) (r : Fin 256) : dvx (A.env (bat t)) (rowsAt A t) r = A.dvn (bat t) (lpos t r) := by
  unfold dvx Arrays.dvn
  by_cases h : r.val < 128
  · rw [dif_pos h, up_rows, (ck_up t r h).1, (ck_up t r h).2]
  · rw [dif_neg h, dn_rows, (ck_dn t r h).1, (ck_dn t r h).2]

variable {m c A} (H : Args m c A)

include H

theorem holds (t : Fin cfg0.N) (h1 : ¬t.val % 9 = 0) :
    Holds (blocks m c t) (A.env (bat t)) (rowsAt A t) (fun r => A.f (bat t) (lpos t r)) (fun r => A.g (bat t) (lpos t r)) := by
  obtain ⟨e0, e1, e2, e3, e5, e6, e7⟩ := ent_args m c
  have hp (r : Fin 256) (q : Fin 7) (k : Fin 512) : V m c main_arg0 (ix3 (bat t) (pos t r) (colAt q k)) = ((A.p (bat t) (lpos t r) ⟨q.val * 512 + k.val, by omega⟩ : ℝ) : EReal) := by
    rw [e0, pos_eq t h1, colAt_low]
    exact H.p _ _ ⟨q.val * 512 + k.val, by omega⟩
  have hcol (r : Fin 256) {i j : Fin 3584} (e : i.val = j.val) : ((A.p (bat t) (lpos t r) i : ℝ) : EReal) = ((A.p (bat t) (lpos t r) j : ℝ) : EReal) := by
    rw [Fin.ext e]
  refine ⟨?_, ?_, ?_, ?_, ?_, ?_, ?_, ?_, ?_, fun _ _ => rfl, ?_, ?_, ?_, ?_, ?_, ?_, ?_, ?_, ?_, ?_, ?_⟩
  · exact fun r k => (blk_p m c t r k).1.trans ((hp r 0 k).trans (hcol r (by show 0 * 512 + k.val = k.val; omega)))
  · exact fun r k => (blk_p m c t r k).2.1.trans ((hp r 1 k).trans (hcol r (by show 1 * 512 + k.val = 512 + k.val; omega)))
  · exact fun r k => (blk_p m c t r k).2.2.1.trans ((hp r 2 k).trans (hcol r (by show 2 * 512 + k.val = 1024 + k.val; omega)))
  · exact fun r k => (blk_p m c t r k).2.2.2.1.trans ((hp r 3 k).trans (hcol r (by show 3 * 512 + k.val = 1536 + k.val; omega)))
  · exact fun r k => (blk_p m c t r k).2.2.2.2.1.trans ((hp r 4 k).trans (hcol r (by show 4 * 512 + k.val = 1536 + (512 + k.val); omega)))
  · exact fun r k => (blk_p m c t r k).2.2.2.2.2.1.trans ((hp r 5 k).trans (hcol r (by show 5 * 512 + k.val = 2560 + k.val; omega)))
  · exact fun r k => (blk_p m c t r k).2.2.2.2.2.2.trans ((hp r 6 k).trans (hcol r (by show 6 * 512 + k.val = 2560 + (512 + k.val); omega)))
  · exact fun r k => (blk_o m c t r k).1.trans (by rw [e1, pos_eq t h1]; exact H.f _ _ _)
  · exact fun r k => (blk_o m c t r k).2.trans (by rw [e2, pos_eq t h1]; exact H.g _ _ _)
  · exact fun r k => (blk_dx m c t r k).trans (by rw [e3]; exact H.dx _ _ _)
  · exact fun k => (blk_md m c t 0 k).trans ((ent_gt m c _ k).trans (H.gt _ _))
  · exact fun k => (blk_gna m c t k).trans (by rw [e5]; exact H.gna _)
  · exact fun k => (blk_lng m c t k).trans (by rw [e6]; exact H.lng _)
  · exact fun k => (blk_lnb m c t k).trans (by rw [e7]; exact H.lnb _)
  · exact fun i s u => (blk_ws m c t i s u).trans ((ent_ws m c i s u).1.trans (H.ws _ _ _))
  · exact fun i s u => (blk_wt m c t i s u).trans ((ent_ws m c i s u).2.trans (H.ws _ _ _))
  · exact fun s i => (blk_bs m c t s i).trans ((ent_bs m c s i).trans (H.bs _ _))
  · exact fun i k n => (blk_wpa m c t i k n).trans ((ent_wp m c i k n).1.trans (H.wpa _ _))
  · exact fun i k n => (blk_wpb m c t i k n).trans ((ent_wp m c i k n).2.trans (H.wpb _ _))
  · exact fun n k => (blk_wo m c t n k).trans ((ent_wo m c n k).trans (H.wo _ _))

omit H

/-- What a point leaves, by its kind. -/
theorem held_latent (t : Fin cfg0.N) (h1 : ¬t.val % 9 = 0) :
    held m c t.val t.isLt = (blocks m c t).outs (held m c (prev t).val (prev t).isLt) := (held_block m c t h1).trans (block_eq m c t h1 _)

theorem held_zero (t : Fin cfg0.N) (h1 : t.val % 9 = 0) : (held m c t.val t.isLt).o = (cleared (F := Ideal)).o
    ∧ (held m c t.val t.isLt).rest = (cleared (F := Ideal)).rest ∧ (held m c t.val t.isLt).md = (cleared (F := Ideal)).md := by
  by_cases h0 : t.val % 36 = 0
  · rw [held_first m c t h0]; exact ⟨rfl, rfl, rfl⟩
  · rw [held_context m c t h0 h1]; exact ⟨rfl, rfl, rfl⟩

theorem cleared_o (r : Fin 256) (k : Fin 512) : (cleared (F := Ideal)).o (ix3 0 r k) = 0 := by unfold cleared; unfold_payloads; pointwise
theorem cleared_rest (r : Fin 256) (k : Fin 3584) : (cleared (F := Ideal)).rest (ix3 0 r k) = 0 := by unfold cleared; unfold_payloads; pointwise
theorem cleared_md (i : Fin 8) (k : Fin 1024) : (cleared (F := Ideal)).md (ix3 0 i k) = 0 := by unfold cleared; unfold_payloads; pointwise

theorem lt_N {n : ℕ} (h : n < 36) : n < cfg0.N := h.trans_eq N_0.symm

/-- The point of a batch element's latent block. -/
def ptAt (b : Fin 4) (j : Fin 8) : Fin cfg0.N := ⟨b.val * 9 + (j.val + 1), lt_N (by omega)⟩

theorem ptAt_lat (b : Fin 4) (j : Fin 8) : ¬(ptAt b j).val % 9 = 0 := by show ¬(b.val * 9 + (j.val + 1)) % 9 = 0; omega
theorem bat_ptAt (b : Fin 4) (j : Fin 8) : bat (ptAt b j) = b := Fin.ext (by show (b.val * 9 + (j.val + 1)) / 9 = b.val; omega)
theorem lpos_ptAt (b : Fin 4) (j : Fin 8) (r : Fin 256) : lpos (ptAt b j) r = ⟨j.val * 256 + r.val, by omega⟩ :=
  Fin.ext (by show ((b.val * 9 + (j.val + 1)) % 9 - 1) * 256 + r.val = j.val * 256 + r.val; omega)
theorem half_ptAt (b : Fin 4) (j : Fin 8) (q : Fin 2) : half (ptAt b j) q = ⟨j.val * 2 + q.val, by omega⟩ :=
  Fin.ext (by show ((b.val * 9 + (j.val + 1)) % 9 - 1) * 2 + q.val = j.val * 2 + q.val; omega)

/-- An element kept from point to point, to which a block of latent rows adds `add t`: after a batch element's points, if its first point
    clears it, and after all. -/
theorem kept_batch (pick : Held Ideal → EReal) (add : Fin cfg0.N → ℝ) (h0 : ∀ t : Fin cfg0.N, t.val % 9 = 0 → pick (held m c t.val t.isLt) = 0)
    (hb : ∀ t : Fin cfg0.N, ¬t.val % 9 = 0 → ∀ h, pick ((blocks m c t).outs h) = pick h + ((add t : ℝ) : EReal)) (b : Fin 4) :
    pick (held m c (b.val * 9 + 8) (lt_N (by omega))) = ((∑ j, add (ptAt b j) : ℝ) : EReal) := by
  have e := Sums.sum_of_step (N := cfg0.N) (p := 9) (fun n hn => pick (held m c n hn)) (fun n hn => if n % 9 = 0 then 0 else add ⟨n, hn⟩) (fun n hn => by
    by_cases h : n % 9 = 0
    · rw [if_pos h, if_pos h, h0 ⟨n, hn⟩ h]; simp
    · rw [if_neg h, if_neg h]
      exact (congrArg pick (held_latent ⟨n, hn⟩ h)).trans (hb _ h _)) b.val 8 (by omega) (lt_N (by omega))
  refine e.trans (congrArg Real.toEReal ?_)
  rw [Fin.sum_univ_succ, if_pos (by simp), zero_add]
  exact Finset.sum_congr rfl fun j _ => (if_neg (by show ¬(b.val * 9 + (j.val + 1)) % 9 = 0; omega)).trans rfl

theorem kept_all (pick : Held Ideal → EReal) (add : Fin cfg0.N → ℝ) (h0 : pick cleared = 0)
    (hc : ∀ h : Held Ideal, pick { h with o := (cleared (F := Ideal)).o, rest := (cleared (F := Ideal)).rest, md := (cleared (F := Ideal)).md } = pick h)
    (hb : ∀ t : Fin cfg0.N, ¬t.val % 9 = 0 → ∀ h, pick ((blocks m c t).outs h) = pick h + ((add t : ℝ) : EReal)) :
    pick (held m c 35 (lt_N (by omega))) = ((∑ b, ∑ j, add (ptAt b j) : ℝ) : EReal) := by
  have e := Sums.sum_of_step (N := cfg0.N) (p := 36) (fun n hn => pick (held m c n hn)) (fun n hn => if n % 9 = 0 then 0 else add ⟨n, hn⟩) (fun n hn => by
    by_cases h : n % 36 = 0
    · rw [if_pos h, if_pos (by omega), held_first m c ⟨n, hn⟩ h, h0]; simp
    · rw [if_neg h]
      by_cases h1 : n % 9 = 0
      · rw [if_pos h1]
        refine (congrArg pick (held_context m c ⟨n, hn⟩ h h1)).trans ((hc _).trans ?_)
        simp
      · rw [if_neg h1]
        exact (congrArg pick (held_latent ⟨n, hn⟩ h1)).trans (hb _ h1 _)) 0 35 (by omega) (lt_N (by omega))
  refine e.trans (congrArg Real.toEReal ((sum_blocks 4 9 _).trans (Finset.sum_congr rfl fun b _ => ?_)))
  rw [Fin.sum_univ_succ, if_pos (by simp), zero_add]
  exact Finset.sum_congr rfl fun j _ => (if_neg (by show ¬(0 * 36 + (b.val * 9 + (j.val + 1))) % 9 = 0; omega)).trans (congrArg add (Fin.ext (by
    show 0 * 36 + (b.val * 9 + (j.val + 1)) = b.val * 9 + (j.val + 1); omega)))

/-- Sums over the blocks of a batch element and their rows, and over the blocks and their chunks. -/
theorem sum_rows (f : Fin 4 → Fin 2048 → ℝ) : ∑ b, ∑ j, ∑ r, f (bat (ptAt b j)) (lpos (ptAt b j) r) = ∑ b, ∑ s, f b s :=
  Finset.sum_congr rfl fun b _ => (Finset.sum_congr rfl fun j _ => Finset.sum_congr rfl fun r _ => by rw [bat_ptAt, lpos_ptAt]).trans
    (sum_blocks 8 256 (f b)).symm

theorem sum_chunks (f : Fin 4 → Fin 16 → ℝ) : ∑ b, ∑ j, (f (bat (ptAt b j)) (half (ptAt b j) 0) + f (bat (ptAt b j)) (half (ptAt b j) 1))
    = ∑ b, ∑ n, f b n :=
  Finset.sum_congr rfl fun b _ => (Finset.sum_congr rfl fun j _ => by rw [bat_ptAt, half_ptAt, half_ptAt, Fin.sum_univ_two]).trans
    (sum_blocks 8 2 (f b)).symm

/-- Every row of the padded stream lies in a block. -/
theorem exists_point (b : Fin 4) (s : Fin 2304) : ∃ (t : Fin cfg0.N) (r : Fin 256), bat t = b ∧ pos t r = s :=
  ⟨⟨b.val * 9 + s.val / 256, lt_N (by omega)⟩, ⟨s.val % 256, by omega⟩, Fin.ext (by show (b.val * 9 + s.val / 256) / 9 = b.val; omega),
    Fin.ext (by show (b.val * 9 + s.val / 256) % 9 * 256 + s.val % 256 = s.val; omega)⟩

theorem lpos_eq (t : Fin cfg0.N) (r : Fin 256) (h1 : ¬t.val % 9 = 0) (h : (pos t r).val - 256 < 2048) : (⟨(pos t r).val - 256, h⟩ : Fin 2048) = lpos t r :=
  Fin.ext (by show t.val % 9 * 256 + r.val - 256 = (t.val % 9 - 1) * 256 + r.val; omega)

theorem pos_lat (t : Fin cfg0.N) (r : Fin 256) : 256 ≤ (pos t r).val ↔ ¬t.val % 9 = 0 := by
  show 256 ≤ t.val % 9 * 256 + r.val ↔ _
  omega

include H

theorem final20 (b : Fin 4) (s : Fin 2304) (k : Fin 512) : (dats m 0 c).arrAt 20 cfg0.N (ix3 b s k)
    = ((if h : 256 ≤ s.val then (A.env b).dor (A.row b ⟨s.val - 256, by omega⟩) k else 0 : ℝ) : EReal) := by
  obtain ⟨t, r, rfl, rfl⟩ := exists_point b s
  refine (arr20 m c t r k).trans ?_
  by_cases h1 : t.val % 9 = 0
  · rw [dif_neg fun h => (pos_lat t r).mp h h1, (held_zero t h1).1]
    exact cleared_o r k
  · rw [dif_pos ((pos_lat t r).mpr h1), held_latent t h1, lpos_eq t r h1]
    exact (holds H t h1).out_o r k

theorem final21 (b : Fin 4) (s : Fin 2304) (k : Fin 3584) : (dats m 0 c).arrAt 21 cfg0.N (ix3 b s k)
    = ((if h : 256 ≤ s.val then (A.env b).rest (A.row b ⟨s.val - 256, by omega⟩) (A.mixed b ⟨s.val - 256, by omega⟩)
        (A.dvn b ⟨s.val - 256, by omega⟩) k else 0 : ℝ) : EReal) := by
  obtain ⟨t, r, rfl, rfl⟩ := exists_point b s
  refine (arr21 m c t r k).trans ?_
  by_cases h1 : t.val % 9 = 0
  · rw [dif_neg fun h => (pos_lat t r).mp h h1, (held_zero t h1).2.1]
    exact cleared_rest r k
  · rw [dif_pos ((pos_lat t r).mpr h1), held_latent t h1, lpos_eq t r h1, ← mx_rows, ← dvx_rows]
    exact (holds H t h1).out_rest r k

theorem final22 (i : Fin 4) (k : Fin 512) (n : Fin 256) : (dats m 0 c).arrAt 22 cfg0.N (ix3 i k n)
    = ((∑ b, ∑ s, (A.env b).oa (A.row b s) k * (A.env b).dya (A.row b s) (sh i n) : ℝ) : EReal) := by
  refine (arr22 m c ⟨35, lt_N (by omega)⟩ rfl i k n).trans ((kept_all (fun h => h.pa (ix3 i k n)) _ ?_ (fun _ => rfl)
    fun t h1 h => (holds H t h1).out_pa h.pa i k n).trans (congrArg Real.toEReal ?_))
  · unfold cleared; unfold_payloads; pointwise
  · exact sum_rows fun b s => (A.env b).oa (A.row b s) k * (A.env b).dya (A.row b s) (sh i n)

theorem final23 (i : Fin 4) (k : Fin 512) (n : Fin 256) : (dats m 0 c).arrAt 23 cfg0.N (ix3 i k n)
    = ((∑ b, ∑ s, Env.obm (A.row b s) (A.mixed b s) k * (A.env b).dyb (A.row b s) (sh i n) : ℝ) : EReal) := by
  refine (arr23 m c ⟨35, lt_N (by omega)⟩ rfl i k n).trans ((kept_all (fun h => h.pb (ix3 i k n)) _ ?_ (fun _ => rfl)
    fun t h1 h => (holds H t h1).out_pb h.pb i k n).trans (congrArg Real.toEReal ?_))
  · unfold cleared; unfold_payloads; pointwise
  · simp only [mx_rows]
    exact sum_rows fun b s => Env.obm (A.row b s) (A.mixed b s) k * (A.env b).dyb (A.row b s) (sh i n)

theorem final24 (n k : Fin 1024) : (dats m 0 c).arrAt 24 cfg0.N (ix2 n k)
    = ((∑ b, ∑ s, (A.env b).mg (A.row b s) (A.mixed b s) n * (A.env b).dmix (A.row b s) k : ℝ) : EReal) := by
  refine (arr24 m c ⟨35, lt_N (by omega)⟩ rfl n k).trans ((kept_all (fun h => h.wo (ix2 n k)) _ ?_ (fun _ => rfl)
    fun t h1 h => (holds H t h1).out_wo h.wo n k).trans (congrArg Real.toEReal ?_))
  · unfold cleared; unfold_payloads; pointwise
  · simp only [mx_rows]
    exact sum_rows fun b s => (A.env b).mg (A.row b s) (A.mixed b s) n * (A.env b).dmix (A.row b s) k

theorem final25 (k : Fin 128) : (dats m 0 c).arrAt 25 cfg0.N (ix2 0 k)
    = ((∑ b, ∑ s, ∑ i, (A.env b).pr (A.row b s) (at' i k) : ℝ) : EReal) := by
  refine (arr25 m c ⟨35, lt_N (by omega)⟩ rfl k).trans ((kept_all (fun h => h.g (ix2 0 k)) _ ?_ (fun _ => rfl)
    fun t h1 h => (holds H t h1).out_g h.g k).trans (congrArg Real.toEReal ?_))
  · unfold cleared; unfold_payloads; pointwise
  · exact sum_rows fun b s => ∑ i, (A.env b).pr (A.row b s) (at' i k)

theorem final26 (k : Fin 512) : (dats m 0 c).arrAt 26 cfg0.N (ix2 0 k) = ((∑ b, ∑ s, A.dvn b s k * (A.row b s).xl k : ℝ) : EReal) := by
  refine (arr26 m c ⟨35, lt_N (by omega)⟩ rfl k).trans ((kept_all (fun h => h.lg (ix2 0 k)) _ ?_ (fun _ => rfl)
    fun t h1 h => (holds H t h1).out_lg h.lg k).trans (congrArg Real.toEReal ?_))
  · unfold cleared; unfold_payloads; pointwise
  · simp only [dvx_rows]
    exact sum_rows fun b s => A.dvn b s k * (A.row b s).xl k

theorem final27 (k : Fin 512) : (dats m 0 c).arrAt 27 cfg0.N (ix2 0 k) = ((∑ b, ∑ s, A.dvn b s k : ℝ) : EReal) := by
  refine (arr27 m c ⟨35, lt_N (by omega)⟩ rfl k).trans ((kept_all (fun h => h.lb (ix2 0 k)) _ ?_ (fun _ => rfl)
    fun t h1 h => (holds H t h1).out_lb h.lb k).trans (congrArg Real.toEReal ?_))
  · unfold cleared; unfold_payloads; pointwise
  · simp only [dvx_rows]
    exact sum_rows fun b s => A.dvn b s k

theorem final28 (i : Fin 4) (s u : Fin 128) : (dats m 0 c).arrAt 28 cfg0.N (ix3 i s u)
    = ((∑ b, ∑ n, (A.env b).dws (A.chunk b n) i s u : ℝ) : EReal) := by
  refine (arr28 m c ⟨35, lt_N (by omega)⟩ rfl i s u).trans ((kept_all (fun h => h.ws (ix3 i s u)) _ ?_ (fun _ => rfl)
    fun t h1 h => (holds H t h1).out_ws h.ws i s u).trans (congrArg Real.toEReal ?_))
  · unfold cleared; unfold_payloads; pointwise
  · simp only [up_rows, dn_rows]
    exact sum_chunks fun b n => (A.env b).dws (A.chunk b n) i s u

theorem final29 (s : Fin 128) (i : Fin 4) : (dats m 0 c).arrAt 29 cfg0.N (ix2 s i)
    = ((∑ b, ∑ n, (A.env b).dbs (A.chunk b n) i s : ℝ) : EReal) := by
  refine (arr29 m c ⟨35, lt_N (by omega)⟩ rfl s i).trans ((kept_all (fun h => h.bs (ix2 s i)) _ ?_ (fun _ => rfl)
    fun t h1 h => (holds H t h1).out_bs h.bs s i).trans (congrArg Real.toEReal ?_))
  · unfold cleared; unfold_payloads; pointwise
  · simp only [up_rows, dn_rows]
    exact sum_chunks fun b n => (A.env b).dbs (A.chunk b n) i s

theorem final30 (b : Fin 4) (i : Fin 8) (k : Fin 1024) : (dats m 0 c).arrAt 30 cfg0.N (ix3 b i k)
    = ((if i.val = 0 then ∑ s, (A.row b s).dx k * (A.env b).mix (A.row b s) (A.mixed b s) k else 0 : ℝ) : EReal) := by
  have hb : bat ⟨b.val * 9 + 8, lt_N (by omega)⟩ = b := Fin.ext (by show (b.val * 9 + 8) / 9 = b.val; omega)
  have o := arr30 m c ⟨b.val * 9 + 8, lt_N (by omega)⟩ (by show (b.val * 9 + 8) % 9 = 8; omega) i k
  rw [hb] at o
  have hz (t : Fin cfg0.N) (h1 : t.val % 9 = 0) : (held m c t.val t.isLt).md (ix3 0 i k) = 0 := by rw [(held_zero t h1).2.2]; exact cleared_md i k
  by_cases hi : i.val = 0
  · obtain rfl : i = 0 := Fin.ext hi
    rw [if_pos (show (0 : Fin 8).val = 0 from rfl)]
    refine o.trans ((kept_batch (fun h => h.md (ix3 0 0 k)) _ hz (fun t h1 h => (holds H t h1).out_md h.md k) b).trans (congrArg Real.toEReal ?_))
    simp only [mx_rows]
    refine (Finset.sum_congr rfl fun j _ => Finset.sum_congr rfl fun r _ => ?_).trans
      (sum_blocks 8 256 fun s => (A.row b s).dx k * (A.env b).mix (A.row b s) (A.mixed b s) k).symm
    unfold rowsAt
    rw [bat_ptAt, lpos_ptAt]
  · rw [if_neg hi]
    refine o.trans ((kept_batch (fun h => h.md (ix3 0 i k)) (fun _ => 0) hz (fun t h1 h => ?_) b).trans (by simp))
    exact (Holds.out_md_rest h.md i hi k).trans (by simp)

end Cert.MixbIdeal.Run

end
-- ==== Proof.MixbBits.lean ====
/- The frame of the call as the kernel's words give it, taken from the one run over any float values. -/
module

public import proofs.«01_k».proof.Defs
public import proofs.«01_k».proof.Proof.MixbFrame
public import proofs.«01_k».proof.Proof.Gen.Mixb

@[expose] public section

noncomputable section

namespace Cert.MixbIdeal.Run

open Idealize.ShloMosaic Idealize.SL.Sem

/-- Over words a named constant is the word it stands for. -/
local instance words : Named Bits := ⟨fun _ _ {φ} b => Scalar.ofBits φ b⟩

/-- The run over words, read as the run of the kernel's own words: the two programs have the same text there. -/
theorem frame_kernel : Cert.quiescent_Mixb (hMixb := Cert.Mixb.Gen.facts) := by
  have h := fun m ρ (_ : True) => frame_any (F := Bits) m ρ
  refine cast ?_ h
  sl_kernel_rfl

theorem frame_ideal : Cert.quiescent_MixbIdeal (hMixbIdeal := Gen.facts) := fun m ρ _ => frame_any (F := Ideal) m ρ

end Cert.MixbIdeal.Run

end
-- ==== Proof.MixbClaims.lean ====
/- The claims about the mixers' backward call: it runs to its end and keeps its arguments, so does the reference, the named constants are
   the ones the kernel's words round, and the two leave equal arrays wherever the arguments the gradients are products of are finite. -/
module

public import proofs.«01_k».proof.Defs
public import proofs.«01_k».proof.Proof.MixbRef
public import proofs.«01_k».proof.Proof.MixbSum
public import proofs.«01_k».proof.Proof.MixbBits
public import proofs.«01_k».proof.Proof.Gen.MixbRefIdeal.Run
public import proofs.«01_k».proof.Proof.Gen.Pre_mix_finite
public import Idealize.ShloMosaic.Lib.Quiescent

@[expose] public section

noncomputable section

namespace Cert.MixbIdeal.Final

open Idealize.ShloMosaic Idealize.SL.Sem Cert.MixbIdeal Cert.MixbIdeal.Gen Idealize.ShloMosaic.TcCoe Cert.Reals Cert.Places Cert.Mixb Cert.MixbIdeal.Run

/-- The reference runs to its end, keeps its arguments and leaves every semaphore at zero. -/
theorem frame_ref : Cert.quiescent_MixbRefIdeal := fun m ρ _ =>
  (θ_run Cert.MixbRefIdeal.defs _ _).mono (fun r h => ⟨fun c => (h c).2.2.2.2.2.2.2.2.2.2.2, sem_eq_zero_of_no_sems (by decide) r.2⟩)
    (Cert.MixbRefIdeal.Value.run (F := Ideal) m ρ)

theorem constants : Cert.preserves_Mixb_MixbIdeal :=
  ⟨IdealRules.named_const.statement _ _ _ _ _ rfl, IdealRules.named_const.statement _ _ _ _ _ rfl⟩

theorem ext2 {n0 n1 : Nat} {u v : (⟨2, ![n0, n1]⟩ : Shape).Idx → EReal} (h : ∀ a b, u (ix2 a b) = v (ix2 a b)) : u = v := funext fun y => by
  rw [eq_ix2 y]
  exact h _ _

set_option maxHeartbeats 1000000 in
/-- The call and the reference leave equal arrays. -/
theorem value : Cert.algebraic_MixbIdeal_MixbRefIdeal_pre_mix_finite := by
  intro m ρ m' ρ' hpre hagree
  refine ⟨_, _, _, _, _, _, _, _, _, _, _, (θ_run defs _ _).mono (fun r h c => ⟨(h.1 c).1 20, (h.1 c).1 21, (h.1 c).1 22, (h.1 c).1 23,
      (h.1 c).1 24, (h.1 c).1 25, (h.1 c).1 26, (h.1 c).1 27, (h.1 c).1 28, (h.1 c).1 29, (h.1 c).1 30, h.2.1 c⟩)
      (θ_run_and (run_main m ρ) (frame_any m ρ)), ?_⟩
  refine (θ_run Cert.MixbRefIdeal.defs _ _).mono (fun r h c => ?_) (Cert.MixbRefIdeal.Value.run (F := Ideal) m' ρ')
  obtain ⟨p0, p1, p2, p3, p4, p5, p6, p7, p8, p9, p10, p11, p12⟩ := hpre c
  obtain ⟨r0, h0⟩ := reals_of_finite _ _ (fun _ => rfl) p0
  obtain ⟨r1, h1⟩ := reals_of_finite _ _ (fun _ => rfl) p1
  obtain ⟨r2, h2⟩ := reals_of_finite _ _ (fun _ => rfl) p2
  obtain ⟨r3, h3⟩ := reals_of_finite _ _ (fun _ => rfl) p3
  obtain ⟨r4, h4⟩ := reals_of_finite _ _ (fun _ => rfl) p4
  obtain ⟨r5, h5⟩ := reals_of_finite _ _ (fun _ => rfl) p5
  obtain ⟨r6, h6⟩ := reals_of_finite _ _ (fun _ => rfl) p6
  obtain ⟨r7, h7⟩ := reals_of_finite _ _ (fun _ => rfl) p7
  obtain ⟨r8, h8⟩ := reals_of_finite _ _ (fun _ => rfl) p8
  obtain ⟨r9, h9⟩ := reals_of_finite _ _ (fun _ => rfl) p9
  obtain ⟨r10, h10⟩ := reals_of_finite _ _ (fun _ => rfl) p10
  obtain ⟨r11, h11⟩ := reals_of_finite _ _ (fun _ => rfl) p11
  obtain ⟨r12, h12⟩ := reals_of_finite _ _ (fun _ => rfl) p12
  let A : Arrays := ⟨fun b s k => r0 (ix3 b s k), fun b s k => r1 (ix3 b s k), fun b s k => r2 (ix3 b s k), fun b s k => r3 (ix3 b s k),
    fun b k => r4 (ix2 b k), fun k => r5 (ix2 0 k), fun k => r6 (ix2 0 k), fun k => r7 (ix2 0 k), fun i s u => r8 (ix4 0 i s u),
    fun i s => r9 (ix3 0 i s), fun k n => r10 (ix3 0 k n), fun k n => r11 (ix3 0 k n), fun n k => r12 (ix3 0 n k)⟩
  have K : Args m c A := ⟨fun b s k => by have e := h0 (ix3 b s k); pointwise at e; exact e, fun b s k => by have e := h1 (ix3 b s k); pointwise at e; exact e,
    fun b s k => by have e := h2 (ix3 b s k); pointwise at e; exact e, fun _ _ _ => h3 _, fun b k => by have e := h4 (ix2 b k); pointwise at e; exact e,
    fun _ => h5 _, fun _ => h6 _, fun _ => h7 _, fun _ _ _ => h8 _, fun _ _ => h9 _, fun _ _ => h10 _, fun _ _ => h11 _, fun _ _ => h12 _⟩
  obtain ⟨a0, a1, a2, a3, a4, a5, a6, a7, a8, a9, a10, a11, a12⟩ := hagree c
  have R := Cert.MixbRefIdeal.Read.Args.mk (A := A)
    (fun b s k => by pointwise [Cert.MixbRefIdeal.Read.val_main_v2]; exact (congrFun a0 _).trans (K.p b s k))
    (fun b s k => by pointwise [Cert.MixbRefIdeal.Read.val_main_v0]; exact (congrFun a1 _).trans (K.f b s k))
    (fun b s k => by pointwise [Cert.MixbRefIdeal.Read.val_main_v1]; exact (congrFun a2 _).trans (K.g b s k))
    (fun b s k => (congrFun a3 _).trans (K.dx b s k))
    (fun b k => by pointwise [Cert.MixbRefIdeal.Read.val_main_v4, Cert.MixbRefIdeal.Read.val_main_v3]; exact (congrFun a4 _).trans (K.gt b k))
    (fun k => (congrFun a5 _).trans (K.gna k)) (fun k => (congrFun a6 _).trans (K.lng k)) (fun k => (congrFun a7 _).trans (K.lnb k))
    (fun i s u => (congrFun a8 _).trans (K.ws i s u)) (fun i s => (congrFun a9 _).trans (K.bs i s)) (fun k n => (congrFun a10 _).trans (K.wpa k n))
    (fun k n => (congrFun a11 _).trans (K.wpb k n)) (fun n k => (congrFun a12 _).trans (K.wo n k))
  obtain ⟨e0, e1, e2, e3, e4, e5, e6, e7, e8, e9, e10, kept⟩ := h c
  refine ⟨e0.trans ((Cert.MixbRefIdeal.Read.val_main_v283_eq _).trans ?_), e1.trans ((Cert.MixbRefIdeal.Read.val_main_v285_eq _).trans ?_),
    e2.trans ((Cert.MixbRefIdeal.Read.val_main_v288_eq _).trans ?_), e3.trans ((Cert.MixbRefIdeal.Read.val_main_v291_eq _).trans ?_),
    e4.trans ((Cert.MixbRefIdeal.Read.val_main_v292_eq _).trans ?_), e5.trans ((Cert.MixbRefIdeal.Read.val_main_v278_eq _).trans ?_),
    e6.trans ((Cert.MixbRefIdeal.Read.val_main_v225_eq _).trans ?_), e7.trans ((Cert.MixbRefIdeal.Read.val_main_v224_eq _).trans ?_),
    e8.trans ((Cert.MixbRefIdeal.Read.val_main_v293_eq _).trans ?_), e9.trans ((Cert.MixbRefIdeal.Read.val_main_v295_eq _).trans ?_),
    e10.trans ((Cert.MixbRefIdeal.Read.val_main_v282_eq _).trans ?_), kept⟩
  · exact ext3 fun b s k => (Cert.MixbRefIdeal.Read.out_o R b s k).trans (final20 K b s k).symm
  · exact ext3 fun b s k => (Cert.MixbRefIdeal.Read.out_rest R b s k).trans (final21 K b s k).symm
  · exact ext3 fun i k n => (Cert.MixbRefIdeal.Read.sum_wpa R i k n).trans (final22 K i k n).symm
  · exact ext3 fun i k n => (Cert.MixbRefIdeal.Read.sum_wpb R i k n).trans (final23 K i k n).symm
  · exact ext2 fun n k => (Cert.MixbRefIdeal.Read.sum_wo R n k).trans (final24 K n k).symm
  · exact ext_row fun k => (Cert.MixbRefIdeal.Read.sum_gna R k).trans (final25 K k).symm
  · exact ext_row fun k => (Cert.MixbRefIdeal.Read.sum_lng R k).trans (final26 K k).symm
  · exact ext_row fun k => (Cert.MixbRefIdeal.Read.sum_lnb R k).trans (final27 K k).symm
  · exact ext3 fun i s u => (Cert.MixbRefIdeal.Read.sum_ws R i s u).trans (final28 K i s u).symm
  · exact ext2 fun s i => (Cert.MixbRefIdeal.Read.sum_bs R s i).trans (final29 K s i).symm
  · exact ext3 fun b i k => (Cert.MixbRefIdeal.Read.out_md R b i k).trans (final30 K b i k).symm

end Cert.MixbIdeal.Final

end
-- ==== Proof.RedFinal.lean ====
/- The two arrays the sum of the small gradients leaves, as functions of the two it is given: the call has one grid point and every window
   is a whole array. The rows' sum has its row 3 stored again, and the bounds' gradient is stored row by row. -/
module

public import proofs.«01_k».proof.Proof.Gen.RedIdeal.Value
public import proofs.«01_k».proof.Proof.Stores

@[expose] public section

noncomputable section

namespace Cert.RedIdeal.Final

open Idealize.ShloMosaic Idealize.SL.Sem Cert.RedIdeal Cert.RedIdeal.Gen Idealize.ShloMosaic.TcCoe Cert.Stores

variable {e : EltTy} {Val : EltTy → Type} {a b : ℕ}

/-! ## Rows of an array of two axes, and of one of three -/

/-- Rows `k` and on. -/
def rows (k n : ℕ) (h : k + n ≤ a) (x : (⟨2, ![a, b]⟩ : Shape).Idx → Val e) : (⟨2, ![n, b]⟩ : Shape).Idx → Val e :=
  fun y => x (ix2 ⟨k + (y 0).val, by have : (y 0).val < n := (y 0).isLt; omega⟩ (y 1))

theorem rows_apply {k n : ℕ} (h : k + n ≤ a) (x : (⟨2, ![a, b]⟩ : Shape).Idx → Val e) (i : Fin n) (j : Fin b) :
    rows k n h x (ix2 i j) = x (ix2 ⟨k + i.val, by omega⟩ j) := rfl

/-- The array with row `k` replaced. -/
def put (k : ℕ) (w : (⟨2, ![1, b]⟩ : Shape).Idx → Val e) (x : (⟨2, ![a, b]⟩ : Shape).Idx → Val e) : (⟨2, ![a, b]⟩ : Shape).Idx → Val e :=
  fun y => if (y 0).val = k then w (ix2 0 (y 1)) else x y

theorem put_apply (k : ℕ) (w : (⟨2, ![1, b]⟩ : Shape).Idx → Val e) (x : (⟨2, ![a, b]⟩ : Shape).Idx → Val e) (i : Fin a) (j : Fin b) :
    put k w x (ix2 i j) = if i.val = k then w (ix2 0 j) else x (ix2 i j) := rfl

theorem emb_rows {k n : ℕ} (inb : ∀ i, (![k, 0] : Fin 2 → ℕ) i + (![n, b] : Fin 2 → ℕ) i ≤ (⟨2, ![a, b]⟩ : Shape).size i) (h : k + n ≤ a)
    (y : (⟨2, ![n, b]⟩ : Shape).Idx) :
    (Rect.unit (s := ⟨2, ![a, b]⟩) ![k, 0] ![n, b] inb).emb y = ix2 ⟨k + (y 0).val, by have : (y 0).val < n := (y 0).isLt; omega⟩ (y 1) := by
  funext i
  apply Fin.ext
  match i with
  | ⟨0, _⟩ => show k + 1 * (y 0).val = k + (y 0).val; omega
  | ⟨1, _⟩ => show 0 + 1 * (y 1).val = (y 1).val; omega

theorem ld_rows {k n : ℕ} (inb : ∀ i, (![k, 0] : Fin 2 → ℕ) i + (![n, b] : Fin 2 → ℕ) i ≤ (⟨2, ![a, b]⟩ : Shape).size i) (h : k + n ≤ a)
    (x : (⟨2, ![a, b]⟩ : Shape).Idx → Val e) : View.ld x (Rect.unit (s := ⟨2, ![a, b]⟩) ![k, 0] ![n, b] inb) = rows k n h x :=
  funext fun y => congrArg x (emb_rows inb h y)

theorem overlay_put {k : ℕ} (inb : ∀ i, (![k, 0] : Fin 2 → ℕ) i + (![1, b] : Fin 2 → ℕ) i ≤ (⟨2, ![a, b]⟩ : Shape).size i) (h : k + 1 ≤ a)
    (x : (⟨2, ![a, b]⟩ : Shape).Idx → Val e) (w : (⟨2, ![1, b]⟩ : Shape).Idx → Val e) :
    (Rect.unit (s := ⟨2, ![a, b]⟩) ![k, 0] ![1, b] inb).overlay x w = put k w x := by
  funext y
  unfold put
  split_ifs with hk
  · have hy : (Rect.unit (s := ⟨2, ![a, b]⟩) ![k, 0] ![1, b] inb).emb (ix2 0 (y 1)) = y := by
      rw [emb_rows inb h]
      funext i
      match i with
      | ⟨0, _⟩ => exact Fin.ext hk.symm
      | ⟨1, _⟩ => rfl
    conv_lhs => rw [← hy]
    exact Rect.overlay_emb _ _ _ _
  · refine Rect.overlay_of_not_mem _ _ _ fun hm => hk ?_
    obtain ⟨x', hx⟩ := (Rect.unit (s := ⟨2, ![a, b]⟩) ![k, 0] ![1, b] inb).exists_idx_of_mem hm
    rw [← hx]
    refine (congrArg Fin.val (congrFun (emb_rows inb h x') 0)).trans ?_
    have : (x' 0).val < 1 := (x' 0).isLt
    show k + (x' 0).val = k
    omega

/-- The block the body reads of the bounds' logits: layer `i`, direction `j`. -/
def logit (i j : Fin 2) (x : S2x2x512.Idx → Val e) : S1x1x512.Idx → Val e := fun y => x (ix3 i j (y 2))

theorem ld_logit {p q : ℕ} (inb : ∀ i, (![p, q, 0] : Fin 3 → ℕ) i + (![1, 1, 512] : Fin 3 → ℕ) i ≤ S2x2x512.size i) (hp : p < 2) (hq : q < 2)
    (x : S2x2x512.Idx → Val e) : View.ld x (Rect.unit (s := S2x2x512) ![p, q, 0] ![1, 1, 512] inb) = logit ⟨p, hp⟩ ⟨q, hq⟩ x := by
  refine funext fun y => congrArg x (funext fun i => Fin.ext ?_)
  have h0 : (y 0).val < 1 := (y 0).isLt
  have h1 : (y 1).val < 1 := (y 1).isLt
  match i with
  | ⟨0, _⟩ => show p + 1 * (y 0).val = p; omega
  | ⟨1, _⟩ => show q + 1 * (y 1).val = q; omega
  | ⟨2, _⟩ => show 0 + 1 * (y 2).val = (y 2).val; omega

/-! ## What the call leaves -/

variable {F : FTy → Type} [FloatOps F]

/-- The sum of the devices' blocks of rows, and its row of the bounds. -/
def total (x : Vec F S640x1024 .f32) : FVec F S80x1024 .f32 :=
  k0_pay3 (rows 0 80 (by omega) x) (rows 80 80 (by omega) x) (rows 160 80 (by omega) x) (rows 240 80 (by omega) x) (rows 320 80 (by omega) x)
    (rows 400 80 (by omega) x) (rows 480 80 (by omega) x) (rows 560 80 (by omega) x)
def bounds (x : Vec F S640x1024 .f32) : FVec F S1x1024 .f32 :=
  k0_pay5 (rows 0 80 (by omega) x) (rows 80 80 (by omega) x) (rows 160 80 (by omega) x) (rows 240 80 (by omega) x) (rows 320 80 (by omega) x)
    (rows 400 80 (by omega) x) (rows 480 80 (by omega) x) (rows 560 80 (by omega) x)
def out2 (x : Vec F S640x1024 .f32) : Vec F S80x1024 .f32 :=
  put 3 (k0_pay4 (rows 3 1 (by omega) x) (rows 163 1 (by omega) x) (rows 323 1 (by omega) x) (rows 483 1 (by omega) x)) (total x)
def out3 (x : Vec F S640x1024 .f32) (l : Vec F S2x2x512 .f32) (z : Vec F S2x512 .f32) : Vec F S2x512 .f32 :=
  put 1 (k0_pay2 (bounds x) (logit 0 1 l) (logit 1 1 l)) (put 0 (k0_pay1 (bounds x) (k0_pay6 (logit 0 0 l)) (logit 1 0 l)) z)

variable (m : (ℓ : Loc nD τ sig) → Buf (Elt F) ℓ)

theorem off2 : (![0, 0] : Fin 2 → ℕ) = fun _ => 0 := funext fun i => by fin_cases i <;> rfl

set_option maxHeartbeats 4000000 in
/-- The one point. -/
theorem outs (c : Dev nD) : (outsAt0 m c t0_0).1 = out2 (iblk m c 0 t0_0) ∧ ∃ z, (outsAt0 m c t0_0).2 = out3 (iblk m c 0 t0_0) (iblk m c 1 t0_0) z := by
  unfold outsAt0
  generalize iblk m c 0 t0_0 = x0
  generalize iblk m c 1 t0_0 = x1
  have hx0 : View.read (Elt F) (View.whole cc0_stg0_0) ((hs0_0 t0_0).unread x0) = x0 := (hs0_0 t0_0).read_unread x0
  have hx1 : View.read (Elt F) (View.whole cc0_stg1_0) ((hs0_1 t0_0).unread x1) = x1 := (hs0_1 t0_0).read_unread x1
  refine ⟨?_, ⟨VO0_3.read (Elt F) VO0_3.junk, ?_⟩⟩
  all_goals
    dsimp only
    (first | unfold out0_A_2 | unfold out0_A_3)
    unfold kernelRun0_A
    dsimp only
    sl_unfold_words
    simp only [read_cons, View.writes_nil, overlay_whole (s := S80x1024) off2, View.readAt_eq_ld]
    (first | rw [hx0] | skip)
    (first | rw [hx1] | skip)
    simp (disch := omega) only [ld_rows, ld_logit]
  · unfold out2 total
    exact overlay_put _ (by omega) _ _
  · unfold out3 bounds
    exact (overlay_put _ (by omega) _ _).trans (congrArg (put 1 _) (overlay_put _ (by omega) _ _))

/-- The blocks of the one point are the arrays the call is given. -/
theorem blocks (c : Dev nD) : iblk m c 0 t0_0 = m ((c : Thread nD τ).loc main_arg0) ∧ iblk m c 1 t0_0 = m ((c : Thread nD τ).loc main_arg1) := by
  refine ⟨?_, ?_⟩
  · exact Memref.read_access_unit_zero (Elt F) main_arg0 (funext fun a => by fin_cases a <;> decide) (fun a => by fin_cases a <;> decide) _
  · exact Memref.read_access_unit_zero (Elt F) main_arg1 (funext fun a => by fin_cases a <;> decide) (fun a => by fin_cases a <;> decide) _

theorem finals (c : Dev nD) : (dats m 0 c).arrAt 2 cfg0.N = out2 (m ((c : Thread nD τ).loc main_arg0))
    ∧ ∃ z, (dats m 0 c).arrAt 3 cfg0.N = out3 (m ((c : Thread nD τ).loc main_arg0)) (m ((c : Thread nD τ).loc main_arg1)) z := by
  obtain ⟨e0, e1⟩ := blocks m c
  obtain ⟨h2, z, h3⟩ := outs m c
  rw [e0] at h2 h3
  rw [e1] at h3
  refine ⟨.trans (.symm ?_) ((Value.blocks2 m c t0_0 (flush0_2 t0_0)).trans ((Value.flushed2 m c t0_0).trans h2)), z,
    .trans (.symm ?_) ((Value.blocks3 m c t0_0 (flush0_3 t0_0)).trans ((Value.flushed3 m c t0_0).trans h3))⟩
  · exact Memref.read_access_unit_zero (Elt F) main_v0_0 (funext fun a => by fin_cases a <;> decide) (fun a => by fin_cases a <;> decide) _
  · exact Memref.read_access_unit_zero (Elt F) main_v0_1 (funext fun a => by fin_cases a <;> decide) (fun a => by fin_cases a <;> decide) _

end Cert.RedIdeal.Final

end
-- ==== Proof.RedValue.lean ====
/- The sum of the small gradients and the gradient of the decay bounds: what the call leaves equals the sums over the devices and what
   differentiating the bounds, a cumulative sum of a softmax over the layers, gives. -/
module

public import proofs.«01_k».proof.Proof.RedFinal
public import proofs.«01_k».proof.Proof.Gen.RedRefIdeal.Read
public import proofs.«01_k».proof.Proof.Gen.RedRefIdeal.Run
public import proofs.«01_k».proof.Proof.Reals
public import proofs.«01_k».proof.Proof.Places
public import Idealize.ShloMosaic.Lib.StableHlo.ReadAt

@[expose] public section

noncomputable section

namespace Cert.RedIdeal.Final

open Idealize.ShloMosaic Idealize.SL.Sem Cert.RedIdeal Cert.RedIdeal.Gen Idealize.ShloMosaic.TcCoe Cert.Reals Cert.RedRefIdeal.Read

/-! ## The programs' operations, read at an index -/

theorem out2_at (x : Vec Ideal S640x1024 .f32) (r : Fin 80) (k : Fin 1024) : out2 x (ix2 r k)
    = if r.val = 3 then ∑ d : Fin 4, (x (ix2 ⟨d.val * 160 + 3, by omega⟩ k) : EReal) else ∑ d : Fin 8, (x (ix2 ⟨d.val * 80 + r.val, by omega⟩ k) : EReal) := by
  unfold out2
  rw [put_apply, Fin.sum_univ_four, Fin.sum_univ_eight]
  unfold total
  unfold_payloads
  pointwise
  simp only [rows_apply, Nat.zero_add, Fin.val_zero, Nat.add_zero]
  rfl

theorem bounds_at (x : Vec Ideal S640x1024 .f32) (k : Fin 1024) : bounds x (ix2 0 k) = ∑ d : Fin 8, (x (ix2 ⟨d.val * 80 + 7, by omega⟩ k) : EReal) := by
  rw [Fin.sum_univ_eight]
  unfold bounds
  unfold_payloads
  pointwise
  rfl

/-- The kernel's logistic function: half of one plus the hyperbolic tangent of the half. -/
abbrev logi (x : EReal) : EReal :=
  Ideal.ofBits .f32 1056964608#32 * Ideal.tanh (Ideal.ofBits .f32 1056964608#32 * x) + Ideal.ofBits .f32 1056964608#32

theorem pay1_at (b : FVec Ideal S1x1024 .f32) (l0 l1 : Vec Ideal S1x1x512 .f32) (j : Fin 512) : k0_pay1 b (k0_pay6 l0) l1 (ix2 0 j)
    = b (ix2 0 ⟨j.val, by omega⟩) * logi (l0 (ix3 0 0 j) - l1 (ix3 0 0 j)) * (1 - logi (l0 (ix3 0 0 j) - l1 (ix3 0 0 j))) := by
  unfold_payloads
  pointwise

theorem pay2_at (b : FVec Ideal S1x1024 .f32) (l0 l1 : Vec Ideal S1x1x512 .f32) (j : Fin 512) : k0_pay2 b l0 l1 (ix2 0 j)
    = b (ix2 0 ⟨512 + j.val, by omega⟩) * logi (l0 (ix3 0 0 j) - l1 (ix3 0 0 j)) * (1 - logi (l0 (ix3 0 0 j) - l1 (ix3 0 0 j))) := by
  unfold_payloads
  pointwise

theorem ref_total (x : Vec Ideal Cert.RedRefIdeal.S640x1024 .f32) (r : Fin 80) (k : Fin 1024) : val_main_v6 x (ix2 r k)
    = if r.val = 3 then ∑ d : Fin 4, (x (ix2 ⟨d.val * 160 + 3, by omega⟩ k) : EReal) else ∑ d : Fin 8, (x (ix2 ⟨d.val * 80 + r.val, by omega⟩ k) : EReal) := by
  pointwise [val_main_v6, val_main_v5, val_main_v4, val_main_v3, val_main_v2, val_main_v1, val_main_v0, val_main_cst, val_main_cst_0]
  by_cases h3 : r.val = 3
  · rw [dif_neg (by omega), dif_pos (by omega), if_pos h3]
    exact Finset.sum_congr rfl fun d _ => congrArg x (congrArg (ix2 · k) (Fin.ext (by show 2 * d.val * 80 + (3 + (r.val - 3)) = d.val * 160 + 3; omega)))
  · rw [if_neg h3]
    by_cases h : r.val < 3
    · rw [dif_pos h]
    · rw [dif_neg h, dif_neg (by omega)]
      exact Finset.sum_congr rfl fun d _ => congrArg x (congrArg (ix2 · k) (Fin.ext (by show d.val * 80 + (4 + (r.val - 3 - 1)) = d.val * 80 + r.val; omega)))

/-- The word of minus infinity. -/
theorem ofBits_bot : Ideal.ofBits .f32 0xFF800000#32 = ⊥ := by
  simp [Ideal.ofBits, Ideal.ieee]

theorem fold_two (v : EReal) (f : Fin 2 → EReal) : Finset.univ.fold max v f = max (f 0) (max (f 1) v) := by
  rw [show (Finset.univ : Finset (Fin 2)) = {0, 1} from by decide, Finset.fold_insert (by decide), Finset.fold_singleton]

/-- The largest logit, and the largest of it and minus infinity. -/
theorem ref_max (x : Vec Ideal Cert.RedRefIdeal.S2x2x512 .f32) (d : Fin 2) (j : Fin 512) : val_main_v14 x (ix2 d j) = max (x (ix3 0 d j) : EReal) (x (ix3 1 d j)) := by
  pointwise [val_main_v14, val_main_v13, val_main_cst_3, val_main_v7, val_main_cst_1]
  rw [fold_two, ofBits_bot, max_bot_left, max_bot_right]

theorem ref_pad (x : Vec Ideal Cert.RedRefIdeal.S640x1024 .f32) (i d : Fin 2) (j : Fin 512) : val_main_v42 x (ix3 i d j)
    = if i.val = 0 then val_main_v6 x (ix2 7 ⟨d.val * 512 + j.val, by omega⟩) else (0 : EReal) := by
  pointwise [val_main_v42, val_main_v41, val_main_v40, val_main_v39, val_main_v38, val_main_cst_11]
  by_cases h : i.val = 0
  · rw [dif_pos (by omega), if_pos h]
  · rw [dif_neg (by omega), if_neg h]

/-- A position of a window inside the array, and one past its end. -/
theorem cell_in (x : Cert.RedRefIdeal.S2x2x512.Idx → EReal) (v : EReal) (p : Fin 3 → ℕ) {inst : Decidable (∀ a : Fin 3, (![0, 0, 0] : Fin 3 → ℕ) a ≤ p a ∧ p a - (![0, 0, 0] : Fin 3 → ℕ) a < Cert.RedRefIdeal.S2x2x512.size a)}
    (i d : Fin 2) (j : Fin 512) (hp : ∀ a, p a = (ix3 i d j a).val) :
    (if hin : ∀ a, (![0, 0, 0] : Fin 3 → ℕ) a ≤ p a ∧ p a - (![0, 0, 0] : Fin 3 → ℕ) a < Cert.RedRefIdeal.S2x2x512.size a then
      x (fun a => ⟨p a - (![0, 0, 0] : Fin 3 → ℕ) a, (hin a).2⟩) else v) = x (ix3 i d j) := by
  have hz : ∀ a : Fin 3, (![0, 0, 0] : Fin 3 → ℕ) a = 0 := by decide
  rw [dif_pos fun a => ⟨by rw [hz]; exact Nat.zero_le _, by rw [hz, hp]; exact (ix3 i d j a).isLt⟩]
  exact congrArg x (funext fun a => Fin.ext (by show p a - (![0, 0, 0] : Fin 3 → ℕ) a = _; rw [hz, hp]; rfl))

theorem cell_out (x : Cert.RedRefIdeal.S2x2x512.Idx → EReal) (v : EReal) (p : Fin 3 → ℕ) {inst : Decidable (∀ a : Fin 3, (![0, 0, 0] : Fin 3 → ℕ) a ≤ p a ∧ p a - (![0, 0, 0] : Fin 3 → ℕ) a < Cert.RedRefIdeal.S2x2x512.size a)} (hp : p 0 = 2) :
    (if hin : ∀ a, (![0, 0, 0] : Fin 3 → ℕ) a ≤ p a ∧ p a - (![0, 0, 0] : Fin 3 → ℕ) a < Cert.RedRefIdeal.S2x2x512.size a then
      x (fun a => ⟨p a - (![0, 0, 0] : Fin 3 → ℕ) a, (hin a).2⟩) else v) = v :=
  dif_neg fun h => absurd (h 0).2 (by rw [hp]; decide)

/-- A window of two along the first axis, padded above by one. -/
theorem window_at (x : Cert.RedRefIdeal.S2x2x512.Idx → EReal) (init : Cert.RedRefIdeal.S_.Idx → EReal)
    (h : Cert.RedRefIdeal.S2x2x512.ReduceWindows ![2, 1, 1] ![1, 1, 1] ![0, 0, 0] ![1, 0, 0] Cert.RedRefIdeal.S2x2x512) (hu : 0 < Cert.RedRefIdeal.S_.numel)
    (d : Fin 2) (j : Fin 512) :
    Host.reduceWindow (· + ·) ![2, 1, 1] ![1, 1, 1] ![0, 0, 0] ![1, 0, 0] x init h hu (ix3 0 d j) = init (Shape.Idx.first hu) + x (ix3 0 d j) + x (ix3 1 d j)
    ∧ Host.reduceWindow (· + ·) ![2, 1, 1] ![1, 1, 1] ![0, 0, 0] ![1, 0, 0] x init h hu (ix3 1 d j) = init (Shape.Idx.first hu) + x (ix3 1 d j) + init (Shape.Idx.first hu) := by
  unfold Host.reduceWindow
  have hl : List.finRange (⟨3, ![2, 1, 1]⟩ : Shape).numel = [⟨0, by decide⟩, ⟨1, by decide⟩] := by decide
  have w0 : ∀ a : Fin 3, ((⟨3, ![2, 1, 1]⟩ : Shape).rowMajor.symm ⟨0, by decide⟩ a).val = 0 := by decide
  have w1 : ∀ a : Fin 3, ((⟨3, ![2, 1, 1]⟩ : Shape).rowMajor.symm ⟨1, by decide⟩ a).val = (![1, 0, 0] : Fin 3 → ℕ) a := by decide
  have hp : ∀ (n : Fin (⟨3, ![2, 1, 1]⟩ : Shape).numel) (i i' : Fin 2), (∀ a : Fin 3, ((⟨3, ![2, 1, 1]⟩ : Shape).rowMajor.symm n a).val = (![i'.val - i.val, 0, 0] : Fin 3 → ℕ) a) →
      i.val ≤ i'.val → ∀ a : Fin 3, (ix3 i d j a).val * (![1, 1, 1] : Fin 3 → ℕ) a + ((⟨3, ![2, 1, 1]⟩ : Shape).rowMajor.symm n a).val = (ix3 i' d j a).val := by
    intro n i i' hw hi a
    rw [hw]
    match a with
    | ⟨0, _⟩ => show i.val * 1 + (i'.val - i.val) = i'.val; omega
    | ⟨1, _⟩ => show d.val * 1 + 0 = d.val; omega
    | ⟨2, _⟩ => show j.val * 1 + 0 = j.val; omega
  refine ⟨?_, ?_⟩
  all_goals
    dsimp only
    rw [hl]
    simp only [List.foldl_cons, List.foldl_nil]
  · exact congrArg₂ (· + ·) (congrArg (_ + ·) (cell_in x _ _ 0 d j (hp ⟨0, by decide⟩ 0 0 (by decide) (by decide)))) (cell_in x _ _ 1 d j (hp ⟨1, by decide⟩ 0 1 (by decide) (by decide)))
  · exact congrArg₂ (· + ·) (congrArg (_ + ·) (cell_in x _ _ 1 d j (hp ⟨0, by decide⟩ 1 1 (by decide) (by decide)))) (cell_out x _ _ (by show 1 * 1 + _ = 2; rw [w1]; rfl))

theorem ref_window (x : Vec Ideal Cert.RedRefIdeal.S640x1024 .f32) (d : Fin 2) (j : Fin 512) :
    val_main_v43 x (ix3 0 d j) = val_main_v6 x (ix2 7 ⟨d.val * 512 + j.val, by omega⟩) ∧ val_main_v43 x (ix3 1 d j) = (0 : EReal) := by
  have hc : val_main_call1_call0_v0 (F := Ideal) (Shape.Idx.first Cert.RedRefIdeal.Gen.h_S_) = (0 : EReal) := by
    pointwise [val_main_call1_call0_v0, val_main_call1_call0_cst]
  have h := window_at (val_main_v42 x) (val_main_call1_call0_v0 (F := Ideal)) Cert.RedRefIdeal.Gen.reduceWindows_S2x2x512_S2x2x512_w2s1p0_1_w1s1p0_0_w1s1p0_0
    Cert.RedRefIdeal.Gen.h_S_ d j
  rw [hc, ref_pad, ref_pad, if_pos (by rfl), if_neg (by decide)] at h
  exact ⟨h.1.trans (by rw [zero_add, add_zero]), h.2.trans (by rw [zero_add, add_zero])⟩

theorem ref_bounds (x0 : Vec Ideal Cert.RedRefIdeal.S640x1024 .f32) (x1 : Vec Ideal Cert.RedRefIdeal.S2x2x512 .f32) (d : Fin 2) (j : Fin 512) :
    val_main_v57 x0 x1 (ix2 d j)
      = (Ideal.div (val_main_v43 x0 (ix3 0 d j)) (∑ x, Ideal.exp (x1 (ix3 x d j) - val_main_v14 x1 (ix2 d j)))
        + -∑ x, val_main_v43 x0 (ix3 x d j) * Ideal.div 1 ((∑ x, Ideal.exp (x1 (ix3 x d j) - val_main_v14 x1 (ix2 d j)))
            * ∑ x, Ideal.exp (x1 (ix3 x d j) - val_main_v14 x1 (ix2 d j))) * Ideal.exp (x1 (ix3 x d j) - val_main_v14 x1 (ix2 d j)))
        * Ideal.exp (x1 (ix3 0 d j) - val_main_v14 x1 (ix2 d j)) := by
  pointwise [val_main_v57, val_main_v56, val_main_v55, val_main_v54, val_main_v53, val_main_v52, val_main_cst_13, val_main_v51, val_main_v50, val_main_v49,
    val_main_v48, val_main_v47, val_main_cst_12, val_main_v46, val_main_v45, val_main_v44, val_main_v34, val_main_v33, val_main_cst_10, val_main_v32, val_main_v29,
    val_main_v28, val_main_cst_9, val_main_v27, val_main_v26, val_main_v25, val_main_v24]
  rw [Fin.sum_univ_one]

/-! ## Over the reals -/

/-- The kernel's logistic function of a real. -/
theorem logi_coe (x : ℝ) : logi (x : EReal) = ((1 / (1 + Real.exp (-x)) : ℝ) : EReal) := by
  rw [logi, ofBits_half, ← EReal.coe_mul, Ideal.tanh_coe, ← EReal.coe_mul, ← EReal.coe_add, half_tanh]

/-- The derivative of a softmax of two through its quotient, and through the logistic function of the difference. -/
theorem softmax_two (c g h M : ℝ) :
    (c / (Real.exp (g - M) + Real.exp (h - M)) + -(c * (1 / ((Real.exp (g - M) + Real.exp (h - M)) * (Real.exp (g - M) + Real.exp (h - M)))) * Real.exp (g - M)))
        * Real.exp (g - M)
      = c * (1 / (1 + Real.exp (-(g - h)))) * (1 - 1 / (1 + Real.exp (-(g - h)))) := by
  have e : Real.exp (-(g - h)) = Real.exp (h - M) / Real.exp (g - M) := by rw [← Real.exp_sub]; ring_nf
  have h0 := Real.exp_pos (g - M)
  have h1 := Real.exp_pos (h - M)
  rw [e]
  generalize Real.exp (g - M) = u at *
  generalize Real.exp (h - M) = v at *
  have h2 : u + v ≠ 0 := (add_pos h0 h1).ne'
  have h3 : 1 + v / u = (u + v) / u := by field_simp
  rw [h3]
  field_simp
  ring

/-- The gradient of the bounds' logits. -/
theorem grad_bounds (x0 : Vec Ideal Cert.RedRefIdeal.S640x1024 .f32) (x1 : Vec Ideal Cert.RedRefIdeal.S2x2x512 .f32) (d : Fin 2) (j : Fin 512) (c g h : ℝ)
    (hc : val_main_v6 x0 (ix2 7 ⟨d.val * 512 + j.val, by omega⟩) = (c : EReal)) (hg : x1 (ix3 0 d j) = (g : EReal)) (hh : x1 (ix3 1 d j) = (h : EReal)) :
    val_main_v57 x0 x1 (ix2 d j) = (c : EReal) * logi ((g : EReal) - (h : EReal)) * (1 - logi ((g : EReal) - (h : EReal))) := by
  rw [ref_bounds, ref_max, hg, hh, (show max (g : EReal) (h : EReal) = ((max g h : ℝ) : EReal) from (EReal.coe_strictMono.monotone.map_max).symm)]
  simp only [Fin.sum_univ_two, (ref_window x0 d j).1, (ref_window x0 d j).2, hc, hg, hh, ← EReal.coe_sub, Ideal.exp_coe, ← EReal.coe_add, zero_mul, add_zero, logi_coe]
  have hS : Real.exp (g - max g h) + Real.exp (h - max g h) ≠ 0 := (add_pos (Real.exp_pos _) (Real.exp_pos _)).ne'
  rw [← EReal.coe_mul (_ + _) (_ + _), ← EReal.coe_one, coe_div _ hS, coe_div _ (mul_ne_zero hS hS)]
  simp only [← EReal.coe_mul, ← EReal.coe_neg, ← EReal.coe_add, ← EReal.coe_sub]
  exact congrArg Real.toEReal (softmax_two c g h (max g h))

end Cert.RedIdeal.Final

end
-- ==== Proof.RedClaims.lean ====
/- The claims about the sum of the small gradients: it runs to its end and keeps its arguments, so does the reference, and the two leave
   equal arrays wherever the logits and the cotangent of the bounds are finite. -/
module

public import proofs.«01_k».proof.Defs
public import proofs.«01_k».proof.Proof.RedValue
public import proofs.«01_k».proof.Proof.Gen.Red.Frame
public import proofs.«01_k».proof.Proof.Gen.Pre_red_finite
public import Idealize.ShloMosaic.Lib.Quiescent

@[expose] public section

noncomputable section

namespace Cert.RedIdeal.Final

open Idealize.ShloMosaic Idealize.SL.Sem Cert.RedIdeal Cert.RedIdeal.Gen Idealize.ShloMosaic.TcCoe Cert.Reals

/-- The reference runs to its end, keeps its arguments and leaves every semaphore at zero. -/
theorem frame_ref : Cert.quiescent_RedRefIdeal := fun m ρ _ =>
  (θ_run Cert.RedRefIdeal.defs _ _).mono (fun r h => ⟨fun c => (h c).2.2, sem_eq_zero_of_no_sems (by decide) r.2⟩)
    (Cert.RedRefIdeal.Value.run (F := Ideal) m ρ)

variable (x : Vec Ideal S640x1024 .f32) (l : Vec Ideal S2x2x512 .f32)

/-- The bounds' row of the sum, where it is finite on every device. -/
theorem row_real (rg : Fin 8 → Fin 1024 → ℝ) (hx : ∀ (d : Fin 8) (k : Fin 1024), x (ix2 ⟨d.val * 80 + 7, by omega⟩ k) = ((rg d k : ℝ) : EReal)) (k : Fin 1024) :
    bounds x (ix2 0 k) = ((∑ d, rg d k : ℝ) : EReal) ∧ Cert.RedRefIdeal.Read.val_main_v6 x (ix2 7 k) = ((∑ d, rg d k : ℝ) : EReal) := by
  have h : ∑ d : Fin 8, (x (ix2 ⟨d.val * 80 + 7, by omega⟩ k) : EReal) = ((∑ d, rg d k : ℝ) : EReal) := by
    simp only [hx, coe_sum]
  exact ⟨(bounds_at x k).trans h, ((ref_total x 7 k).trans (if_neg (by decide))).trans h⟩

/-- The gradient of the bounds' logits, in either direction. -/
theorem grads (z : Vec Ideal S2x512 .f32) (rg : Fin 8 → Fin 1024 → ℝ) (rl : S2x2x512.Idx → ℝ)
    (hx : ∀ (d : Fin 8) (k : Fin 1024), x (ix2 ⟨d.val * 80 + 7, by omega⟩ k) = ((rg d k : ℝ) : EReal))
    (hl : ∀ i, l i = ((rl i : ℝ) : EReal)) (d : Fin 2) (j : Fin 512) : Cert.RedRefIdeal.Read.val_main_v57 x l (ix2 d j) = out3 x l z (ix2 d j) := by
  refine (grad_bounds x l d j _ _ _ (row_real x rg hx _).2 (hl _) (hl _)).trans (Eq.symm ?_)
  unfold out3
  rw [put_apply]
  match d with
  | ⟨0, _⟩ =>
    rw [if_neg (show ¬(0 : ℕ) = 1 by decide), put_apply, if_pos (show (0 : ℕ) = 0 from rfl), pay1_at, (row_real x rg hx _).1]
    show _ * logi (l (ix3 0 0 j) - l (ix3 1 0 j)) * (1 - logi (l (ix3 0 0 j) - l (ix3 1 0 j))) = _
    rw [hl, hl]
    simp only [Nat.zero_mul, Nat.zero_add]
    rfl
  | ⟨1, _⟩ =>
    rw [if_pos (show (1 : ℕ) = 1 from rfl), pay2_at, (row_real x rg hx _).1]
    show _ * logi (l (ix3 0 1 j) - l (ix3 1 1 j)) * (1 - logi (l (ix3 0 1 j) - l (ix3 1 1 j))) = _
    rw [hl, hl]
    simp only [Nat.one_mul]
    rfl

/-- The call and the reference leave equal arrays. -/
theorem value : Cert.algebraic_RedIdeal_RedRefIdeal_pre_red_finite := by
  intro m ρ m' ρ' hpre hagree
  choose z hz using fun c => (finals m c).2
  refine ⟨_, _, (θ_run defs _ _).mono (fun r h c => ⟨(h c).1.trans (finals m c).1, (h c).2.1.trans (hz c), (h c).2.2⟩) (Value.run_blocks m ρ), ?_⟩
  refine (θ_run Cert.RedRefIdeal.defs _ _).mono (fun r h c => ?_) (Cert.RedRefIdeal.Value.run (F := Ideal) m' ρ')
  obtain ⟨rx, h0⟩ := reals_of_finite _ _ (fun _ => rfl) (hpre c).1
  obtain ⟨rl, h1⟩ := reals_of_finite _ _ (fun _ => rfl) (hpre c).2
  obtain ⟨a0, a1⟩ := hagree c
  refine ⟨(h c).1.trans ((Cert.RedRefIdeal.Read.val_main_v6_eq _).trans ?_), (h c).2.1.trans ((Cert.RedRefIdeal.Read.val_main_v57_eq _ _).trans ?_), (h c).2.2⟩
  · rw [a0]
    funext y
    rw [eq_ix2 y]
    exact (ref_total _ _ _).trans (out2_at _ _ _).symm
  · rw [a0, a1]
    funext y
    rw [eq_ix2 y]
    exact grads _ _ _ (fun d k => rx (ix2 d k)) rl (fun d k => by have e := h0 (ix2 d k); pointwise at e; exact e) h1 _ _

end Cert.RedIdeal.Final

end
-- ==== Proof.MixfRef.lean ====
/- The reference of the mixers' forward, node by node over the reals: the stages of the pass. -/
module

public import proofs.«01_k».proof.Proof.Gen.MixfRefIdeal.Read
public import proofs.«01_k».proof.Proof.MixbWhole
public import proofs.«01_k».proof.Proof.MixbRef

@[expose] public section

set_option maxRecDepth 8000

noncomputable section

namespace Cert.MixfRefIdeal.Read

open Idealize.ShloMosaic Idealize.SL.Sem Cert.Reals Cert.Norms Cert.Mixb
open Cert.MixbRefIdeal.Read (word_num word_den div_den rsqrt_mh rsqrt_var sg_div tanh_real th_eq)

variable {x0 : (⟨S4x2304x5632, .f32⟩ : BufTy).Contents (Elt Ideal)} {x1 x2 : (⟨S4x2304x512, .f32⟩ : BufTy).Contents (Elt Ideal)}
  {x3 : (⟨S4x2048x1024, .f32⟩ : BufTy).Contents (Elt Ideal)} {x4 : (⟨S4x6x1024, .f32⟩ : BufTy).Contents (Elt Ideal)}
  {x5 : (⟨S1x128, .f32⟩ : BufTy).Contents (Elt Ideal)} {x6 x7 : (⟨S1x512, .f32⟩ : BufTy).Contents (Elt Ideal)}
  {x8 : (⟨S1x4x128x128, .f32⟩ : BufTy).Contents (Elt Ideal)} {x9 : (⟨S1x4x128, .f32⟩ : BufTy).Contents (Elt Ideal)}
  {x10 x11 : (⟨S1x512x1024, .f32⟩ : BufTy).Contents (Elt Ideal)} {x12 : (⟨S1x1024x1024, .f32⟩ : BufTy).Contents (Elt Ideal)} {A : Arrays}

variable (x0 x1 x2 x3 x4 x5 x6 x7 x8 x9 x10 x11 x12 A) in
/-- The arguments are the reals `A`, of the projection and the recurrence's outputs only the latent rows, of the modulation its gate. -/
structure Args : Prop where
  p : ∀ b s k, val_main_v2 x0 (ix3 b s k) = ((A.p b s k : ℝ) : EReal)
  f : ∀ b s k, val_main_v0 x1 (ix3 b s k) = ((A.f b s k : ℝ) : EReal)
  g : ∀ b s k, val_main_v1 x2 (ix3 b s k) = ((A.g b s k : ℝ) : EReal)
  dx : ∀ b s k, x3 (ix3 b s k) = ((A.dx b s k : ℝ) : EReal)
  gt : ∀ b k, val_main_v4 x4 (ix2 b k) = ((A.gt b k : ℝ) : EReal)
  gna : ∀ k, x5 (ix2 0 k) = ((A.gna k : ℝ) : EReal)
  lng : ∀ k, x6 (ix2 0 k) = ((A.lng k : ℝ) : EReal)
  lnb : ∀ k, x7 (ix2 0 k) = ((A.lnb k : ℝ) : EReal)
  ws : ∀ i t s, x8 (ix4 0 i t s) = ((A.ws i t s : ℝ) : EReal)
  bs : ∀ i t, x9 (ix3 0 i t) = ((A.bs i t : ℝ) : EReal)
  wpa : ∀ k n, x10 (ix3 0 k n) = ((A.wpa k n : ℝ) : EReal)
  wpb : ∀ k n, x11 (ix3 0 k n) = ((A.wpb k n : ℝ) : EReal)
  wo : ∀ k n, x12 (ix3 0 k n) = ((A.wo k n : ℝ) : EReal)

variable (H : Args x0 x1 x2 x3 x4 x5 x6 x7 x8 x9 x10 x11 x12 A)

include H

theorem row_og (b : Fin 4) (s : Fin 2048) (j : Fin 512) : val_main_v5 x0 (ix3 b s j) = (((A.row b s).og j : ℝ) : EReal) := by
  pointwise [val_main_v5]
  simp only [H.p, add_zero, word_eps, word_half, word_num, word_den, word_root, word_128, word_512, Ideal.ofBits_one_f32, ← EReal.coe_one, ← EReal.coe_mul, coe_sum, div_128, div_512, div_den, rsqrt_mh, rsqrt_var, ← EReal.coe_add, ← EReal.coe_sub, Ideal.ofBits_zero_f32, zero_add, ← EReal.coe_neg, sg_div, tanh_real, th_eq]
  rfl

theorem row_u (b : Fin 4) (s : Fin 2048) (j : Fin 512) : val_main_v6 x0 (ix3 b s j) = (((A.row b s).u j : ℝ) : EReal) := by
  pointwise [val_main_v6]
  simp only [H.p, add_zero, word_eps, word_half, word_num, word_den, word_root, word_128, word_512, Ideal.ofBits_one_f32, ← EReal.coe_one, ← EReal.coe_mul, coe_sum, div_128, div_512, div_den, rsqrt_mh, rsqrt_var, ← EReal.coe_add, ← EReal.coe_sub, Ideal.ofBits_zero_f32, zero_add, ← EReal.coe_neg, sg_div, tanh_real, th_eq]
  rfl

theorem row_v (b : Fin 4) (s : Fin 2048) (j : Fin 512) : val_main_v7 x0 (ix3 b s j) = (((A.row b s).v j : ℝ) : EReal) := by
  pointwise [val_main_v7]
  simp only [H.p, add_zero, word_eps, word_half, word_num, word_den, word_root, word_128, word_512, Ideal.ofBits_one_f32, ← EReal.coe_one, ← EReal.coe_mul, coe_sum, div_128, div_512, div_den, rsqrt_mh, rsqrt_var, ← EReal.coe_add, ← EReal.coe_sub, Ideal.ofBits_zero_f32, zero_add, ← EReal.coe_neg, sg_div, tanh_real, th_eq]
  rfl

theorem row_ga (b : Fin 4) (s : Fin 2048) (n : Fin 1024) : val_main_v8 x0 (ix3 b s n) = (((A.row b s).ga n : ℝ) : EReal) := by
  pointwise [val_main_v8]
  simp only [H.p, add_zero, word_eps, word_half, word_num, word_den, word_root, word_128, word_512, Ideal.ofBits_one_f32, ← EReal.coe_one, ← EReal.coe_mul, coe_sum, div_128, div_512, div_den, rsqrt_mh, rsqrt_var, ← EReal.coe_add, ← EReal.coe_sub, Ideal.ofBits_zero_f32, zero_add, ← EReal.coe_neg, sg_div, tanh_real, th_eq]
  rfl

theorem row_gb (b : Fin 4) (s : Fin 2048) (n : Fin 1024) : val_main_v9 x0 (ix3 b s n) = (((A.row b s).gb n : ℝ) : EReal) := by
  pointwise [val_main_v9]
  simp only [H.p, add_zero, word_eps, word_half, word_num, word_den, word_root, word_128, word_512, Ideal.ofBits_one_f32, ← EReal.coe_one, ← EReal.coe_mul, coe_sum, div_128, div_512, div_den, rsqrt_mh, rsqrt_var, ← EReal.coe_add, ← EReal.coe_sub, Ideal.ofBits_zero_f32, zero_add, ← EReal.coe_neg, sg_div, tanh_real, th_eq]
  rfl

theorem row_o (b : Fin 4) (s : Fin 2048) (h : Fin 4) (c : Fin 128) : val_main_v11 x1 x2 (ix4 b s h c) = (((A.row b s).o (at' h c) : ℝ) : EReal) := by
  pointwise [val_main_v11, val_main_v10]
  simp only [H.g, H.f, add_zero, word_eps, word_half, word_num, word_den, word_root, word_128, word_512, Ideal.ofBits_one_f32, ← EReal.coe_one, ← EReal.coe_mul, coe_sum, div_128, div_512, div_den, rsqrt_mh, rsqrt_var, ← EReal.coe_add, ← EReal.coe_sub, Ideal.ofBits_zero_f32, zero_add, ← EReal.coe_neg, sg_div, tanh_real, th_eq]
  rfl

theorem row_mh (b : Fin 4) (s : Fin 2048) (h : Fin 4) : val_main_v19 x1 x2 (ix4 b s h 0) = (((A.row b s).mh h + eps : ℝ) : EReal) := by
  pointwise [val_main_v19, val_main_v18, val_main_cst_1, val_main_v17, val_main_v16, val_main_cst_0, val_main_v15, val_main_v14, val_main_cst, val_main_v13]
  simp only [row_o H, add_zero, word_eps, word_half, word_num, word_den, word_root, word_128, word_512, Ideal.ofBits_one_f32, ← EReal.coe_one, ← EReal.coe_mul, coe_sum, div_128, div_512, div_den, rsqrt_mh, rsqrt_var, ← EReal.coe_add, ← EReal.coe_sub, Ideal.ofBits_zero_f32, zero_add, ← EReal.coe_neg, sg_div, tanh_real, th_eq]
  rfl

theorem row_xh (b : Fin 4) (s : Fin 2048) (h : Fin 4) (c : Fin 128) : val_main_v22 x1 x2 (ix4 b s h c) = (((A.row b s).xh (at' h c) : ℝ) : EReal) := by
  pointwise [val_main_v22, val_main_v21, val_main_v20]
  simp only [row_mh H, row_o H, add_zero, word_eps, word_half, word_num, word_den, word_root, word_128, word_512, Ideal.ofBits_one_f32, ← EReal.coe_one, ← EReal.coe_mul, coe_sum, div_128, div_512, div_den, rsqrt_mh, rsqrt_var, ← EReal.coe_add, ← EReal.coe_sub, Ideal.ofBits_zero_f32, zero_add, ← EReal.coe_neg, sg_div, tanh_real, th_eq]
  exact congrArg (fun i => ((A.row b s).o (at' h c) * (A.row b s).rh i : ℝ).toEReal) (hd_at h c).symm

theorem row_on (b : Fin 4) (s : Fin 2048) (j : Fin 512) : val_main_v26 x1 x2 x5 (ix3 b s j) = (((A.env b).on (A.row b s) j : ℝ) : EReal) := by
  pointwise [val_main_v26, val_main_v25, val_main_v24, val_main_v23, val_main_v12]
  simp only [row_xh H, H.gna, add_zero, word_eps, word_half, word_num, word_den, word_root, word_128, word_512, Ideal.ofBits_one_f32, ← EReal.coe_one, ← EReal.coe_mul, coe_sum, div_128, div_512, div_den, rsqrt_mh, rsqrt_var, ← EReal.coe_add, ← EReal.coe_sub, Ideal.ofBits_zero_f32, zero_add, ← EReal.coe_neg, sg_div, tanh_real, th_eq]
  exact congrArg (fun i => (((A.row b s).xh i * A.gna (ln j) : ℝ) : EReal)) (at_hd_ln j)

theorem row_silu (b : Fin 4) (s : Fin 2048) (j : Fin 512) : val_main_v27 x0 (ix3 b s j) = (((A.row b s).silu j : ℝ) : EReal) := by
  pointwise [val_main_v27, val_main_call0_v5, val_main_call0_v4, val_main_call0_cst_0, val_main_call0_v3, val_main_call0_v2, val_main_call0_cst, val_main_call0_v1, val_main_call0_v0]
  simp only [row_og H, add_zero, word_eps, word_half, word_num, word_den, word_root, word_128, word_512, Ideal.ofBits_one_f32, ← EReal.coe_one, ← EReal.coe_mul, coe_sum, div_128, div_512, div_den, rsqrt_mh, rsqrt_var, ← EReal.coe_add, ← EReal.coe_sub, Ideal.ofBits_zero_f32, zero_add, ← EReal.coe_neg, sg_div, tanh_real, th_eq]
  rfl

theorem row_oa (b : Fin 4) (s : Fin 2048) (j : Fin 512) : val_main_v28 x0 x1 x2 x5 (ix3 b s j) = (((A.env b).oa (A.row b s) j : ℝ) : EReal) := by
  pointwise [val_main_v28]
  simp only [row_silu H, row_on H, add_zero, word_eps, word_half, word_num, word_den, word_root, word_128, word_512, Ideal.ofBits_one_f32, ← EReal.coe_one, ← EReal.coe_mul, coe_sum, div_128, div_512, div_den, rsqrt_mh, rsqrt_var, ← EReal.coe_add, ← EReal.coe_sub, Ideal.ofBits_zero_f32, zero_add, ← EReal.coe_neg, sg_div, tanh_real, th_eq]
  rfl

theorem row_gu (b : Fin 4) (s : Fin 2048) (j : Fin 512) : val_main_v43 x0 (ix3 b s j) = ((gelu ((A.row b s).u j) : ℝ) : EReal) := by
  pointwise [val_main_v43, val_main_v42, val_main_v41, val_main_cst_6, val_main_v40, val_main_v39, val_main_cst_5, val_main_v38, val_main_v37, val_main_v36, val_main_cst_4, val_main_v35, val_main_v34, val_main_v33, val_main_cst_3, val_main_v32, val_main_v31, val_main_cst_2, val_main_v30, val_main_v29]
  simp only [row_u H, add_zero, word_eps, word_half, word_num, word_den, word_root, word_128, word_512, Ideal.ofBits_one_f32, ← EReal.coe_one, ← EReal.coe_mul, coe_sum, div_128, div_512, div_den, rsqrt_mh, rsqrt_var, ← EReal.coe_add, ← EReal.coe_sub, Ideal.ofBits_zero_f32, zero_add, ← EReal.coe_neg, sg_div, tanh_real, th_eq]
  exact congrArg _ (by unfold gelu; ring)

theorem row_gv (b : Fin 4) (s : Fin 2048) (j : Fin 512) : val_main_v58 x0 (ix3 b s j) = (((A.row b s).gv j : ℝ) : EReal) := by
  pointwise [val_main_v58, val_main_v57, val_main_v56, val_main_cst_11, val_main_v55, val_main_v54, val_main_cst_10, val_main_v53, val_main_v52, val_main_v51, val_main_cst_9, val_main_v50, val_main_v49, val_main_v48, val_main_cst_8, val_main_v47, val_main_v46, val_main_cst_7, val_main_v45, val_main_v44]
  simp only [row_v H, add_zero, word_eps, word_half, word_num, word_den, word_root, word_128, word_512, Ideal.ofBits_one_f32, ← EReal.coe_one, ← EReal.coe_mul, coe_sum, div_128, div_512, div_den, rsqrt_mh, rsqrt_var, ← EReal.coe_add, ← EReal.coe_sub, Ideal.ofBits_zero_f32, zero_add, ← EReal.coe_neg, sg_div, tanh_real, th_eq]
  exact congrArg _ (by unfold Row.gv gelu; ring)

theorem row_cen (b : Fin 4) (s : Fin 2048) (j : Fin 512) : val_main_v68 x0 (ix3 b s j) = (((A.row b s).cen j : ℝ) : EReal) := by
  pointwise [val_main_v68, val_main_v67, val_main_v66, val_main_v65, val_main_cst_13, val_main_v64, val_main_v63, val_main_cst_12]
  simp only [row_gv H, add_zero, word_eps, word_half, word_num, word_den, word_root, word_128, word_512, Ideal.ofBits_one_f32, ← EReal.coe_one, ← EReal.coe_mul, coe_sum, div_128, div_512, div_den, rsqrt_mh, rsqrt_var, ← EReal.coe_add, ← EReal.coe_sub, Ideal.ofBits_zero_f32, zero_add, ← EReal.coe_neg, sg_div, tanh_real, th_eq]
  rfl

theorem row_cen2 (b : Fin 4) (s : Fin 2048) (j : Fin 512) : val_main_v75 x0 (ix3 b s j) = (((A.row b s).cen j : ℝ) : EReal) := by
  pointwise [val_main_v75, val_main_v74, val_main_v66, val_main_v65, val_main_cst_13, val_main_v64, val_main_v63, val_main_cst_12]
  simp only [row_gv H, add_zero, word_eps, word_half, word_num, word_den, word_root, word_128, word_512, Ideal.ofBits_one_f32, ← EReal.coe_one, ← EReal.coe_mul, coe_sum, div_128, div_512, div_den, rsqrt_mh, rsqrt_var, ← EReal.coe_add, ← EReal.coe_sub, Ideal.ofBits_zero_f32, zero_add, ← EReal.coe_neg, sg_div, tanh_real, th_eq]
  rfl

theorem row_var (b : Fin 4) (s : Fin 2048) : val_main_v77 x0 (ix3 b s 0) = (((A.row b s).var + eps : ℝ) : EReal) := by
  pointwise [val_main_v77, val_main_v76, val_main_cst_16, val_main_v73, val_main_v72, val_main_cst_15, val_main_v71, val_main_v70, val_main_cst_14, val_main_v69]
  simp only [row_cen H, add_zero, word_eps, word_half, word_num, word_den, word_root, word_128, word_512, Ideal.ofBits_one_f32, ← EReal.coe_one, ← EReal.coe_mul, coe_sum, div_128, div_512, div_den, rsqrt_mh, rsqrt_var, ← EReal.coe_add, ← EReal.coe_sub, Ideal.ofBits_zero_f32, zero_add, ← EReal.coe_neg, sg_div, tanh_real, th_eq]
  rfl

theorem row_vn (b : Fin 4) (s : Fin 2048) (j : Fin 512) : val_main_v86 x0 x6 x7 (ix3 b s j) = (((A.env b).vn (A.row b s) j : ℝ) : EReal) := by
  pointwise [val_main_v86, val_main_v85, val_main_v84, val_main_v83, val_main_v82, val_main_v81, val_main_v80, val_main_v79, val_main_v78, val_main_v60, val_main_v59]
  simp only [row_cen2 H, row_var H, H.lng, H.lnb, add_zero, word_eps, word_half, word_num, word_den, word_root, word_128, word_512, Ideal.ofBits_one_f32, ← EReal.coe_one, ← EReal.coe_mul, coe_sum, div_128, div_512, div_den, rsqrt_mh, rsqrt_var, ← EReal.coe_add, ← EReal.coe_sub, Ideal.ofBits_zero_f32, zero_add, ← EReal.coe_neg, sg_div, tanh_real, th_eq]
  rfl

theorem chunk_vn (b : Fin 4) (n : Fin 16) (t : Fin 128) (g : Fin 4) (c : Fin 128) : val_main_v87 x0 x6 x7 (ix5 b n t g c) = (((A.env b).vn (A.chunk b n t) (at' g c) : ℝ) : EReal) := by
  pointwise [val_main_v87]
  simp only [row_vn H, add_zero, word_eps, word_half, word_num, word_den, word_root, word_128, word_512, Ideal.ofBits_one_f32, ← EReal.coe_one, ← EReal.coe_mul, coe_sum, div_128, div_512, div_den, rsqrt_mh, rsqrt_var, ← EReal.coe_add, ← EReal.coe_sub, Ideal.ofBits_zero_f32, zero_add, ← EReal.coe_neg, sg_div, tanh_real, th_eq]
  rfl

theorem chunk_mixed (b : Fin 4) (n : Fin 16) (t : Fin 128) (g : Fin 4) (c : Fin 128) : val_main_v94 x0 x6 x7 x8 x9 (ix5 b n t g c) = (((A.env b).mixed (A.chunk b n) t (at' g c) : ℝ) : EReal) := by
  pointwise [val_main_v94, val_main_v93, val_main_v92, val_main_v91, val_main_v90, val_main_v89, val_main_v88, val_main_v62, val_main_v61]
  simp only [chunk_vn H, H.ws, H.bs, add_zero, ← EReal.coe_mul, coe_sum, ← EReal.coe_add]
  unfold Env.mixed
  rw [hd_at]
  exact congrArg (fun z : ℝ => ((z + A.bs g t : ℝ) : EReal)) (Finset.sum_congr rfl fun _ _ => mul_comm _ _)

theorem row_mixed (b : Fin 4) (s : Fin 2048) (j : Fin 512) : val_main_v95 x0 x6 x7 x8 x9 (ix3 b s j) = ((A.mixed b s j : ℝ) : EReal) := by
  pointwise [val_main_v95]
  simp only [chunk_mixed H, add_zero, word_eps, word_half, word_num, word_den, word_root, word_128, word_512, Ideal.ofBits_one_f32, ← EReal.coe_one, ← EReal.coe_mul, coe_sum, div_128, div_512, div_den, rsqrt_mh, rsqrt_var, ← EReal.coe_add, ← EReal.coe_sub, Ideal.ofBits_zero_f32, zero_add, ← EReal.coe_neg, sg_div, tanh_real, th_eq]
  exact congrArg (fun i => (((A.env b).mixed (A.chunk b (ck s)) (pl s) i : ℝ) : EReal)) (at_hd_ln j)

theorem row_obm (b : Fin 4) (s : Fin 2048) (j : Fin 512) : val_main_v96 x0 x6 x7 x8 x9 (ix3 b s j) = ((Env.obm (A.row b s) (A.mixed b s) j : ℝ) : EReal) := by
  pointwise [val_main_v96]
  simp only [row_gu H, row_mixed H, add_zero, word_eps, word_half, word_num, word_den, word_root, word_128, word_512, Ideal.ofBits_one_f32, ← EReal.coe_one, ← EReal.coe_mul, coe_sum, div_128, div_512, div_den, rsqrt_mh, rsqrt_var, ← EReal.coe_add, ← EReal.coe_sub, Ideal.ofBits_zero_f32, zero_add, ← EReal.coe_neg, sg_div, tanh_real, th_eq]
  rfl

theorem row_sa (b : Fin 4) (s : Fin 2048) (n : Fin 1024) : val_main_v102 x0 (ix3 b s n) = (((A.row b s).sa n : ℝ) : EReal) := by
  pointwise [val_main_v102, val_main_v101, val_main_cst_18, val_main_v100, val_main_v99, val_main_cst_17, val_main_v98, val_main_v97]
  simp only [row_ga H, add_zero, word_eps, word_half, word_num, word_den, word_root, word_128, word_512, Ideal.ofBits_one_f32, ← EReal.coe_one, ← EReal.coe_mul, coe_sum, div_128, div_512, div_den, rsqrt_mh, rsqrt_var, ← EReal.coe_add, ← EReal.coe_sub, Ideal.ofBits_zero_f32, zero_add, ← EReal.coe_neg, sg_div, tanh_real, th_eq]
  rfl

theorem row_ya (b : Fin 4) (s : Fin 2048) (n : Fin 1024) : val_main_v104 x0 x1 x2 x5 x10 (ix3 b s n) = (((A.env b).ya (A.row b s) n : ℝ) : EReal) := by
  pointwise [val_main_v104, val_main_v103]
  simp only [row_oa H, H.wpa, add_zero, word_eps, word_half, word_num, word_den, word_root, word_128, word_512, Ideal.ofBits_one_f32, ← EReal.coe_one, ← EReal.coe_mul, coe_sum, div_128, div_512, div_den, rsqrt_mh, rsqrt_var, ← EReal.coe_add, ← EReal.coe_sub, Ideal.ofBits_zero_f32, zero_add, ← EReal.coe_neg, sg_div, tanh_real, th_eq]
  rfl

theorem row_sb (b : Fin 4) (s : Fin 2048) (n : Fin 1024) : val_main_v111 x0 (ix3 b s n) = (((A.row b s).sb n : ℝ) : EReal) := by
  pointwise [val_main_v111, val_main_v110, val_main_cst_20, val_main_v109, val_main_v108, val_main_cst_19, val_main_v107, val_main_v106]
  simp only [row_gb H, add_zero, word_eps, word_half, word_num, word_den, word_root, word_128, word_512, Ideal.ofBits_one_f32, ← EReal.coe_one, ← EReal.coe_mul, coe_sum, div_128, div_512, div_den, rsqrt_mh, rsqrt_var, ← EReal.coe_add, ← EReal.coe_sub, Ideal.ofBits_zero_f32, zero_add, ← EReal.coe_neg, sg_div, tanh_real, th_eq]
  rfl

theorem row_yb (b : Fin 4) (s : Fin 2048) (n : Fin 1024) : val_main_v113 x0 x6 x7 x8 x9 x11 (ix3 b s n) = (((A.env b).yb (A.row b s) (A.mixed b s) n : ℝ) : EReal) := by
  pointwise [val_main_v113, val_main_v112]
  simp only [row_obm H, H.wpb, add_zero, word_eps, word_half, word_num, word_den, word_root, word_128, word_512, Ideal.ofBits_one_f32, ← EReal.coe_one, ← EReal.coe_mul, coe_sum, div_128, div_512, div_den, rsqrt_mh, rsqrt_var, ← EReal.coe_add, ← EReal.coe_sub, Ideal.ofBits_zero_f32, zero_add, ← EReal.coe_neg, sg_div, tanh_real, th_eq]
  rfl

theorem row_mg (b : Fin 4) (s : Fin 2048) (n : Fin 1024) : val_main_v115 x0 x1 x2 x5 x6 x7 x8 x9 x10 x11 (ix3 b s n) = (((A.env b).mg (A.row b s) (A.mixed b s) n : ℝ) : EReal) := by
  pointwise [val_main_v115, val_main_v114, val_main_v105]
  simp only [row_yb H, row_sb H, row_ya H, row_sa H, add_zero, word_eps, word_half, word_num, word_den, word_root, word_128, word_512, Ideal.ofBits_one_f32, ← EReal.coe_one, ← EReal.coe_mul, coe_sum, div_128, div_512, div_den, rsqrt_mh, rsqrt_var, ← EReal.coe_add, ← EReal.coe_sub, Ideal.ofBits_zero_f32, zero_add, ← EReal.coe_neg, sg_div, tanh_real, th_eq]
  rfl

theorem row_out (b : Fin 4) (s : Fin 2048) (n : Fin 1024) : val_main_v121 x0 x1 x2 x3 x4 x5 x6 x7 x8 x9 x10 x11 x12 (ix3 b s n) = ((A.dx b s n + A.gt b n * (A.env b).mix (A.row b s) (A.mixed b s) n : ℝ) : EReal) := by
  pointwise [val_main_v121, val_main_v120, val_main_v119, val_main_v118, val_main_v117, val_main_v116]
  simp only [row_mg H, H.wo, H.dx, H.gt, add_zero, word_eps, word_half, word_num, word_den, word_root, word_128, word_512, Ideal.ofBits_one_f32, ← EReal.coe_one, ← EReal.coe_mul, coe_sum, div_128, div_512, div_den, rsqrt_mh, rsqrt_var, ← EReal.coe_add, ← EReal.coe_sub, Ideal.ofBits_zero_f32, zero_add, ← EReal.coe_neg, sg_div, tanh_real, th_eq]
  rfl

end Cert.MixfRefIdeal.Read

end
-- ==== Proof.MixfKernel.lean ====
/- One block of rows through the mixers' forward kernel: each word the kernel forms is the stage over the reals. -/
module

public import proofs.«01_k».proof.Proof.Gen.MixfIdeal.Skeleton
public import proofs.«01_k».proof.Proof.MixbKernel

@[expose] public section

set_option maxRecDepth 8000

noncomputable section

namespace Cert.MixfIdeal.Run

open Idealize.ShloMosaic Idealize.SL.Sem Cert.MixfIdeal Cert.MixfIdeal.Gen Idealize.ShloMosaic.TcCoe Cert.Reals Cert.Norms Cert.Mixb
open Cert.MixbIdeal.Run (Grid Block Column Line up dn mx sh at_0 sh_0 heads4 heads4c shards4 halves2 rows2)

/-- The named constant. -/
theorem named_cube : Named.named (F := Ideal) κ "gelu" (φ := .f32) 0x3D372713#32 = ((cube : ℝ) : EReal) :=
  IdealRules.named_const.ideal_named_scalar κ "gelu" (φ := .f32) 0x3D372713#32 _ rfl

variable {E : Env} {Q : Fin 256 → Row}

theorem word_line {b : Vec Ideal S1x256x512 .f32} {f : Fin 256 → Fin 512 → ℝ} (h : Block b f) : Grid (k0_pay4 b) f := by
  intro r k
  unfold k0_pay4
  pointwise
  exact h r k

theorem word_bs {w : Vec Ideal S128x4 .f32} {f : Fin 128 → Fin 4 → ℝ} (h : Grid w f) : Grid (k0_pay8 w) f := by
  intro r k
  unfold k0_pay8
  pointwise
  exact h r k

theorem word_wo {w : Vec Ideal S1024x1024 .bf16} {f : Fin 1024 → Fin 1024 → ℝ} (h : Grid w f) : Grid (k0_pay9 w) f := by
  intro r k
  unfold k0_pay9
  pointwise
  exact h r k

theorem word_oo {a b : Vec Ideal S1x256x512 .f32} {f g : Fin 256 → Fin 512 → ℝ} (ha : Block a f) (hb : Block b g) (ho : ∀ r k, f r k + g r k = (Q r).o k) :
    Grid (k0_pay7 a b) (fun r => (Q r).o) := by
  intro r k
  unfold k0_pay7
  pointwise
  simp only [ha r, hb r, ← EReal.coe_add, ho]

theorem word_silu {v : FVec Ideal S256x512 .f32} (h : Grid v (fun r => (Q r).og)) : Grid (k0_pay10 v) (fun r => (Q r).silu) := by
  intro r k
  unfold k0_pay10
  pointwise
  simp only [h r, FloatOps.ofBits, word_half, logi_coe_mul, ← EReal.coe_mul]
  rfl

/-- The first three heads of the recurrence's output, normed. -/
theorem word_heads {v : FVec Ideal S256x512 .f32} (h : Grid v (fun r => (Q r).o)) : Grid (k0_pay11 v) (fun r c => (Q r).xh (at' 0 c))
    ∧ Grid (k0_pay12 v) (fun r c => (Q r).xh (at' 1 c)) ∧ Grid (k0_pay13 v) (fun r c => (Q r).xh (at' 2 c)) := by
  refine ⟨?_, ?_, ?_⟩ <;> intro r c
  · unfold k0_pay11
    pointwise
    simp only [h r, FloatOps.ofBits, word_eps, word_128, ← EReal.coe_mul, coe_sum, div_128, ← EReal.coe_add, coe_rh, at_0, Row.xh, hd_at]
    rfl
  · unfold k0_pay12
    pointwise
    simp only [h r, FloatOps.ofBits, word_eps, word_128, ← EReal.coe_mul, coe_sum, div_128, ← EReal.coe_add, coe_rh, Row.xh, hd_at]
    rfl
  · unfold k0_pay13
    pointwise
    simp only [h r, FloatOps.ofBits, word_eps, word_128, ← EReal.coe_mul, coe_sum, div_128, ← EReal.coe_add, coe_rh, Row.xh, hd_at]
    rfl

/-- The scale of the heads, four times side by side. -/
theorem word_gna {g : Vec Ideal S1x128 .f32} (hg : Line g E.gna) :
    Line (concatenate S1x512 1 [⟨S1x128, g⟩, ⟨S1x128, g⟩, ⟨S1x128, g⟩, ⟨S1x128, g⟩] concatenates_S1x128_S1x128_S1x128_S1x128_S1x512_d1) (fun j => E.gna (ln j)) := by
  intro k
  pointwise
  by_cases a : k.val < 128
  · simp only [dif_pos a]
    exact (hg ⟨k.val, a⟩).trans (congrArg (fun j => Real.toEReal (E.gna j)) (Fin.ext (show k.val = k.val % 128 by omega)))
  by_cases b : k.val - 128 < 128
  · simp only [dif_neg a, dif_pos b]
    exact (hg ⟨k.val - 128, b⟩).trans (congrArg (fun j => Real.toEReal (E.gna j)) (Fin.ext (show k.val - 128 = k.val % 128 by omega)))
  by_cases c : k.val - 128 - 128 < 128
  · simp only [dif_neg a, dif_neg b, dif_pos c]
    exact (hg ⟨k.val - 128 - 128, c⟩).trans (congrArg (fun j => Real.toEReal (E.gna j)) (Fin.ext (show k.val - 128 - 128 = k.val % 128 by omega)))
  · simp only [dif_neg a, dif_neg b, dif_neg c]
    exact (hg ⟨k.val - 128 - 128 - 128, by omega⟩).trans (congrArg (fun j => Real.toEReal (E.gna j)) (Fin.ext (show k.val - 128 - 128 - 128 = k.val % 128 by omega)))

theorem word_ya {v s : FVec Ideal S256x512 .f32} (h : Grid v (fun r => (Q r).o)) (hs : Grid s (fun r => (Q r).silu)) {g : Vec Ideal S1x128 .f32} (hg : Line g E.gna)
    {w0 w1 w2 w3 : Vec Ideal S1x512x256 .bf16} (hw0 : Block w0 (fun k c => E.wpa k (sh 0 c))) (hw1 : Block w1 (fun k c => E.wpa k (sh 1 c)))
    (hw2 : Block w2 (fun k c => E.wpa k (sh 2 c))) (hw3 : Block w3 (fun k c => E.wpa k (sh 3 c))) :
    Grid (k0_pay14 v g s (k0_pay11 v) (k0_pay12 v) (k0_pay13 v) w0 w1 w2 w3) (fun r => E.ya (Q r)) := by
  have hx := word_heads h
  unfold k0_pay14
  dsimp only
  generalize ez : concatenate S256x512 1 _ _ = z
  generalize eg : concatenate S1x512 1 _ _ = gg
  have hz : Grid z (fun r => (Q r).xh) := by
    rw [← ez]
    refine heads4 hx.1 hx.2.1 hx.2.2 ?_
    intro r c
    pointwise
    simp only [h r, FloatOps.ofBits, word_eps, word_128, ← EReal.coe_mul, coe_sum, div_128, ← EReal.coe_add, coe_rh, Row.xh, hd_at]
    rfl
  have hgg : Line gg (fun j => E.gna (ln j)) := by
    rw [← eg]
    exact word_gna hg
  refine shards4 ?_ ?_ ?_ ?_ <;> intro r c <;> pointwise <;> simp only [hz r, hgg, hs r, hw0 _, hw1 _, hw2 _, hw3 _, ← EReal.coe_mul, coe_sum] <;> rfl

theorem word_gu {v : FVec Ideal S256x512 .f32} (h : Grid v (fun r => (Q r).u)) : Grid (k0_pay17 v (k0_pay15 v) k0_pay16) (fun r k => gelu ((Q r).u k)) := by
  intro r k
  unfold k0_pay17 k0_pay16 k0_pay15
  pointwise
  simp only [h r, FloatOps.ofBits, named_cube, word_half, word_root, Ideal.ofBits_one_f32, ← EReal.coe_one, ← EReal.coe_mul, ← EReal.coe_add, Ideal.tanh_coe]
  rfl

theorem word_vn {v : FVec Ideal S256x512 .f32} (h : Grid v (fun r => (Q r).v)) {g b : Vec Ideal S1x512 .f32} (hg : Line g E.lng) (hb : Line b E.lnb) :
    Grid (k0_pay18 v g b) (fun r => E.vn (Q r)) := by
  intro r k
  unfold k0_pay18
  pointwise
  simp only [h r, hg, hb, FloatOps.ofBits, named_cube, word_eps, word_512, word_half, word_root, Ideal.ofBits_one_f32, ← EReal.coe_one, ← EReal.coe_mul, coe_sum, div_512,
    ← EReal.coe_add, ← EReal.coe_sub, coe_rl, Ideal.tanh_coe]
  rfl

theorem word_w {w : Vec Ideal S1x128x128 .f32} {f : Fin 128 → Fin 128 → ℝ} (h : Block w f) : Grid (k0_pay19 w) f := by
  intro r k
  unfold k0_pay19
  pointwise
  exact h r k

theorem word_first {v : FVec Ideal S256x512 .f32} {g b : Vec Ideal S1x512 .f32} (h : Grid (k0_pay18 v g b) (fun r => E.vn (Q r))) :
    Grid (k0_pay20 v g b) (fun s c => E.vn (up Q s) (at' 0 c)) := by
  intro s c
  unfold k0_pay20
  pointwise
  simp only [h _, at_0]
  rfl

/-- The mixed rows of the first chunk, and those of the second chunk's first head. -/
theorem word_mixA {v : FVec Ideal S256x512 .f32} (hv : Grid v (fun r => E.vn (Q r))) {c : FVec Ideal S128x4 .f32} (hc : Grid c (fun t g => E.bs g t))
    {a b : FVec Ideal S128x128 .bf16} (ha : Grid a (E.ws 0)) (hb : Grid b (fun s c => E.vn (up Q s) (at' 0 c))) {w1 w2 w3 : Vec Ideal S1x128x128 .f32}
    (hw1 : Block w1 (E.ws 1)) (hw2 : Block w2 (E.ws 2)) (hw3 : Block w3 (E.ws 3)) :
    Grid (k0_pay21 c v a b (constant S128x128 .f32 0x00000000#32) w1 w2 w3) (fun t => E.mixed (up Q) t) := by
  refine heads4c ?_ ?_ ?_ ?_ <;> intro r j <;> pointwise <;> simp only [hv _, ha _, hb _, hw1 _, hw2 _, hw3 _, hc _, ← EReal.coe_mul, coe_sum, ← EReal.coe_add, at_0, Env.mixed, hd_at] <;> rfl

theorem word_mixB {v : FVec Ideal S256x512 .f32} (hv : Grid v (fun r => E.vn (Q r))) {c : FVec Ideal S128x4 .f32} (hc : Grid c (fun t g => E.bs g t))
    {w0 : Vec Ideal S1x128x128 .f32} (hw0 : Block w0 (E.ws 0)) : Grid (k0_pay22 c v w0) (fun t k => E.mixed (dn Q) t (at' 0 k)) := by
  intro r j
  unfold k0_pay22
  pointwise
  simp only [hv _, hw0 _, hc _, ← EReal.coe_mul, coe_sum, ← EReal.coe_add, at_0, Env.mixed, hd_at]
  rfl

theorem word_obm {v u : FVec Ideal S256x512 .f32} (hv : Grid v (fun r => E.vn (Q r))) (hu : Grid u (fun r k => gelu ((Q r).u k))) {c : FVec Ideal S128x4 .f32}
    (hc : Grid c (fun t g => E.bs g t)) {p : FVec Ideal S128x512 .f32} (hp : Grid p (fun t => E.mixed (up Q) t)) {q : FVec Ideal S128x128 .f32}
    (hq : Grid q (fun t k => E.mixed (dn Q) t (at' 0 k))) {w1 w2 w3 : Vec Ideal S1x128x128 .f32}
    (hw1 : Block w1 (E.ws 1)) (hw2 : Block w2 (E.ws 2)) (hw3 : Block w3 (E.ws 3)) :
    Grid (k0_pay23 c u v p q w1 w2 w3) (fun r => Env.obm (Q r) (mx E Q r)) := by
  intro r k
  unfold k0_pay23
  dsimp only
  generalize ez : concatenate S256x512 0 _ _ = z
  have hz : Grid z (fun r => mx E Q r) := by
    rw [← ez]
    refine rows2 hp (heads4c hq ?_ ?_ ?_) <;> intro r j <;> pointwise <;> simp only [hv _, hw1 _, hw2 _, hw3 _, hc _, ← EReal.coe_mul, coe_sum, ← EReal.coe_add, Env.mixed, hd_at] <;> rfl
  pointwise
  simp only [hu r, hz r, ← EReal.coe_mul]
  rfl

section Shards

variable {v u : FVec Ideal S256x512 .f32} {c : FVec Ideal S128x4 .f32} {p : FVec Ideal S128x512 .f32} {q : FVec Ideal S128x128 .f32} {w1 w2 w3 : Vec Ideal S1x128x128 .f32}
  (h : Grid (k0_pay23 c u v p q w1 w2 w3) (fun r => Env.obm (Q r) (mx E Q r))) {w : Vec Ideal S1x512x256 .bf16}

include h

theorem word_yb0 (hw : Block w (fun k c => E.wpb k (sh 0 c))) : Grid (k0_pay24 c u v p q w1 w2 w3 w) (fun r c => E.yb (Q r) (mx E Q r) (sh 0 c)) := by
  intro r k
  unfold k0_pay24
  pointwise
  simp only [h r, hw _, ← EReal.coe_mul, coe_sum]
  rfl

theorem word_yb1 (hw : Block w (fun k c => E.wpb k (sh 1 c))) : Grid (k0_pay25 c u v p q w1 w2 w3 w) (fun r c => E.yb (Q r) (mx E Q r) (sh 1 c)) := by
  intro r k
  unfold k0_pay25
  pointwise
  simp only [h r, hw _, ← EReal.coe_mul, coe_sum]
  rfl

end Shards

theorem word_wpb2 {w : Vec Ideal S1x512x256 .bf16} {f : Fin 512 → Fin 256 → ℝ} (hw : Block w f) : Grid (k0_pay26 w) f := by
  intro r k
  unfold k0_pay26
  pointwise
  exact hw r k

/-- The result: the stream and the gated merge of the two branches. -/
theorem word_out {a b ya : FVec Ideal S256x1024 .f32} (ha : Grid a (fun r => (Q r).ga)) (hb : Grid b (fun r => (Q r).gb)) (hy : Grid ya (fun r => E.ya (Q r)))
    {wo : FVec Ideal S1024x1024 .bf16} (hwo : Grid wo E.wo) {m : FVec Ideal S256x512 .f32} (hm : Grid m (fun r => Env.obm (Q r) (mx E Q r)))
    {y0 y1 : FVec Ideal S256x256 .f32} (h0 : Grid y0 (fun r c => E.yb (Q r) (mx E Q r) (sh 0 c))) (h1 : Grid y1 (fun r c => E.yb (Q r) (mx E Q r) (sh 1 c)))
    {w2 : FVec Ideal S512x256 .bf16} (hw2 : Grid w2 (fun k c => E.wpb k (sh 2 c))) {w3 : Vec Ideal S1x512x256 .bf16} (hw3 : Block w3 (fun k c => E.wpb k (sh 3 c)))
    {x : Vec Ideal S1x256x1024 .f32} (hx : Block x (fun r => (Q r).dx)) {g : Vec Ideal S1x1x1024 .f32} (hg : ∀ k, g (ix3 0 0 k) = ((E.gt k : ℝ) : EReal)) :
    Grid (k0_pay27 a b wo ya m y0 y1 w2 w3 x g) (fun r k => (Q r).dx k + E.gt k * E.mix (Q r) (mx E Q r) k) := by
  intro r k
  unfold k0_pay27
  dsimp only
  generalize ez : concatenate S256x1024 1 _ _ = z
  have hz : Grid z (fun r => E.yb (Q r) (mx E Q r)) := by
    rw [← ez]
    refine shards4 h0 h1 ?_ ?_ <;> intro r c <;> pointwise <;> simp only [hm r, hw2 _, hw3 _, ← EReal.coe_mul, coe_sum] <;> rfl
  pointwise
  simp only [hx r, hg, hwo _, ha r, hb r, hy r, hz r, FloatOps.ofBits, word_half, logi_coe_mul, ← EReal.coe_mul, ← EReal.coe_add, coe_sum]
  rfl

theorem word_store {v : FVec Ideal S256x1024 .f32} {f : Fin 256 → Fin 1024 → ℝ} (h : Grid v f) : Block (k0_pay1 v) f := by
  intro r k
  unfold k0_pay1
  pointwise
  exact h r k

end Cert.MixfIdeal.Run

end
-- ==== Proof.MixfBlock.lean ====
/- The result of the mixers' forward call over the reals: what one point of latent rows leaves in its block, and the whole array. -/
module

public import proofs.«01_k».proof.Proof.Gen.MixfIdeal.Value
public import proofs.«01_k».proof.Proof.MixfKernel
public import proofs.«01_k».proof.Proof.MixbWhole
public import proofs.«01_k».proof.Proof.Slabs
public import proofs.«01_k».proof.Proof.Places
public import Idealize.ShloMosaic.Lib.StableHlo.ReadAt
public import Idealize.ShloMosaic.Lib.Pipeline.ValueKit.Geometry

@[expose] public section

set_option maxRecDepth 8000

noncomputable section

namespace Cert.MixfIdeal.Run

open Idealize.ShloMosaic Idealize.SL.Sem Cert.MixfIdeal Cert.MixfIdeal.Gen Idealize.ShloMosaic.TcCoe Cert.Stores Cert.Places Cert.Reals Cert.Norms Cert.Mixb
open Cert.MixbIdeal.Run (Grid Block Column Line up dn mx sh)

section Point

variable {og u v a0 a1 b0 b1 of ob : Vec Ideal S1x256x512 .f32} {x : Vec Ideal S1x256x1024 .f32} {md : Vec Ideal S1x8x1024 .f32} {gna : Vec Ideal S1x128 .f32}
  {lng lnb : Vec Ideal S1x512 .f32} {ws : Vec Ideal S4x128x128 .f32} {bs : Vec Ideal S128x4 .f32} {wpa wpb : Vec Ideal S4x512x256 .bf16} {wo : Vec Ideal S1024x1024 .bf16}
  {E : Env} {Q : Fin 256 → Row} {f g : Fin 256 → Fin 512 → ℝ}

variable (og u v a0 a1 b0 b1 of ob x md gna lng lnb ws bs wpa wpb wo E Q f g) in
/-- The input blocks hold the rows `Q`, whose recurrence's outputs are the sums of `f` and `g`, in the environment `E`. -/
structure Holds : Prop where
  og : Block og (fun r => (Q r).og)
  u : Block u (fun r => (Q r).u)
  v : Block v (fun r => (Q r).v)
  a0 : Block a0 (fun r k => (Q r).ga ⟨k.val, by omega⟩)
  a1 : Block a1 (fun r k => (Q r).ga ⟨512 + k.val, by omega⟩)
  b0 : Block b0 (fun r k => (Q r).gb ⟨k.val, by omega⟩)
  b1 : Block b1 (fun r k => (Q r).gb ⟨512 + k.val, by omega⟩)
  of : Block of f
  ob : Block ob g
  o : ∀ r k, f r k + g r k = (Q r).o k
  x : Block x (fun r => (Q r).dx)
  gt : ∀ k, md (ix3 0 0 k) = ((E.gt k : ℝ) : EReal)
  gna : Line gna E.gna
  lng : Line lng E.lng
  lnb : Line lnb E.lnb
  ws : ∀ i t s, ws (ix3 i t s) = ((E.ws i t s : ℝ) : EReal)
  bs : Grid bs (fun t i => E.bs i t)
  wpa : ∀ i k c, wpa (ix3 i k c) = ((E.wpa k (sh i c) : ℝ) : EReal)
  wpb : ∀ i k c, wpb (ix3 i k c) = ((E.wpb k (sh i c) : ℝ) : EReal)
  wo : Grid wo E.wo

theorem zero2 : (![0, 0] : Fin 2 → ℕ) = fun _ => 0 := by decide
theorem zero3 : (![0, 0, 0] : Fin 3 → ℕ) = fun _ => 0 := by decide

/-- The loads of a shard, of a head's weights and of the gate's row. -/
theorem ld_p0 (p : Vec Ideal S4x512x256 .bf16) : View.ld p r0_5 = slab 0 (by decide) p := ld_slab 0 _ p
theorem ld_p1 (p : Vec Ideal S4x512x256 .bf16) : View.ld p r0_6 = slab 1 (by decide) p := ld_slab 1 _ p
theorem ld_p2 (p : Vec Ideal S4x512x256 .bf16) : View.ld p r0_7 = slab 2 (by decide) p := ld_slab 2 _ p
theorem ld_p3 (p : Vec Ideal S4x512x256 .bf16) : View.ld p r0_8 = slab 3 (by decide) p := ld_slab 3 _ p
theorem ld_s0 (p : Vec Ideal S4x128x128 .f32) : View.ld p r0_9 = slab 0 (by decide) p := ld_slab 0 _ p
theorem ld_s1 (p : Vec Ideal S4x128x128 .f32) : View.ld p r0_10 = slab 1 (by decide) p := ld_slab 1 _ p
theorem ld_s2 (p : Vec Ideal S4x128x128 .f32) : View.ld p r0_11 = slab 2 (by decide) p := ld_slab 2 _ p
theorem ld_s3 (p : Vec Ideal S4x128x128 .f32) : View.ld p r0_12 = slab 3 (by decide) p := ld_slab 3 _ p
theorem ld_g (p : Vec Ideal S1x8x1024 .f32) : View.ld p r0_14 = row 0 p := ld_row 0 rfl _ p

theorem out (h : Holds og u v a0 a1 b0 b1 of ob x md gna lng lnb ws bs wpa wpb wo E Q f g) :
    Block (out0_19 og u v a0 a1 b0 b1 of ob x md gna lng lnb ws bs wpa wpb wo) (fun r k => (Q r).dx k + E.gt k * E.mix (Q r) (mx E Q r) k) := by
  have pa (i : Fin 4) : Block (slab i.val i.isLt wpa) (fun k c => E.wpa k (sh i c)) := fun k c => h.wpa i k c
  have pb (i : Fin 4) : Block (slab i.val i.isLt wpb) (fun k c => E.wpb k (sh i c)) := fun k c => h.wpb i k c
  have pw (i : Fin 4) : Block (slab i.val i.isLt ws) (E.ws i) := fun t s => h.ws i t s
  have gt (k : Fin 1024) : row 0 md (ix3 0 0 k) = ((E.gt k : ℝ) : EReal) := (row_apply 0 md k).trans (h.gt k)
  have vn := word_vn (word_line h.v) h.lng h.lnb
  have bst := word_bs h.bs
  have obm := word_obm vn (word_gu (word_line h.u)) bst (word_mixA vn bst (word_w (pw 0)) (word_first vn) (pw 1) (pw 2) (pw 3)) (word_mixB vn bst (pw 0)) (pw 1) (pw 2) (pw 3)
  have ya := word_ya (word_oo h.of h.ob h.o) (word_silu (word_line h.og)) h.gna (pa 0) (pa 1) (pa 2) (pa 3)
  have r := word_store (word_out (Cert.MixbIdeal.Run.halves2 (word_line h.a0) (word_line h.a1)) (Cert.MixbIdeal.Run.halves2 (word_line h.b0) (word_line h.b1)) ya
    (word_wo h.wo) obm (word_yb0 obm (pb 0)) (word_yb1 obm (pb 1)) (word_wpb2 (pb 2)) (pb 3) h.x gt)
  unfold_out out0_19
  rw [View.canon_unit_zero (S := S1x256x1024) zero3]
  simp only [ld_p0, ld_p1, ld_p2, ld_p3, ld_s0, ld_s1, ld_s2, ld_s3, ld_g, View.ld_unit_zero (S := S1x256x512) zero3, View.ld_unit_zero (S := S1x256x1024) zero3,
    View.ld_unit_zero (S := S1x128) zero2, View.ld_unit_zero (S := S1x512) zero2, View.ld_unit_zero (S := S128x4) zero2, View.ld_unit_zero (S := S1024x1024) zero2]
  exact r

end Point

variable (m : (ℓ : Loc nD τ sig) → Buf (Elt Ideal) ℓ) (c : Dev nD) (A : Arrays)

/-- The batch element of a point, the row of its block's row `r` in the padded stream, and that row's place in the latent stream. -/
def bat (t : Fin cfg0.N) : Fin 4 := ⟨t.val / 8, Nat.div_lt_of_lt_mul (t.isLt.trans_eq N_0)⟩
def pos (t : Fin cfg0.N) (r : Fin 256) : Fin 2304 := ⟨(t.val % 8 + 1) * 256 + r.val, by have := r.isLt; omega⟩
def lpos (t : Fin cfg0.N) (r : Fin 256) : Fin 2048 := ⟨t.val % 8 * 256 + r.val, by have := r.isLt; omega⟩

/-- The blocks' indices of the arrays that lie along the padded stream, of those along the latent stream, and of the whole arrays. -/
def along (t : Fin grid0.N) (w : Fin 9) : Fin 3 → ℕ :=
  ![win0_0.index t, win0_1.index t, win0_2.index t, win0_3.index t, win0_4.index t, win0_5.index t, win0_6.index t, win0_7.index t, win0_8.index t] w
def lat (t : Fin grid0.N) (w : Fin 2) : Fin 3 → ℕ := ![win0_9.index t, win0_19.index t] w
def flat (t : Fin grid0.N) (w : Fin 5) : Fin 2 → ℕ := ![win0_11.index t, win0_12.index t, win0_13.index t, win0_15.index t, win0_18.index t] w
def deep (t : Fin grid0.N) (w : Fin 3) : Fin 3 → ℕ := ![win0_14.index t, win0_16.index t, win0_17.index t] w

theorem index_along : ∀ t : Fin grid0.N, ∀ w : Fin 9, along t w 0 = t.val / 8 ∧ along t w 1 = t.val % 8 + 1
    ∧ along t w 2 = if w.val < 7 then 4 + w.val else 0 := by decide +kernel
theorem index_lat : ∀ t : Fin grid0.N, ∀ w : Fin 2, lat t w 0 = t.val / 8 ∧ lat t w 1 = t.val % 8 ∧ lat t w 2 = 0 := by decide +kernel
theorem index_batch : ∀ t : Fin grid0.N, win0_10.index t 0 = t.val / 8 ∧ win0_10.index t 1 = 0 ∧ win0_10.index t 2 = 0 := by decide +kernel
theorem index_flat : ∀ t : Fin grid0.N, ∀ w : Fin 5, ∀ a, flat t w a = 0 := by decide +kernel
theorem index_deep : ∀ t : Fin grid0.N, ∀ w : Fin 3, ∀ a, deep t w a = 0 := by decide +kernel

section Inputs

variable (t : Fin cfg0.N) (r : Fin 256)

/-- A column of the projection's array from its block of 512. -/
def colAt (q : Fin 7) (k : Fin 512) : Fin 5632 := ⟨(4 + q.val) * 512 + k.val, by omega⟩

theorem colAt_eq {i : ℕ} (q : Fin 7) (k : Fin 512) (h : i = 4 + q.val) : i * 512 + 1 * k.val = (colAt q k).val := by
  show _ = (4 + q.val) * 512 + k.val; omega

theorem colAt_low (q : Fin 7) (k : Fin 512) : colAt q k = ⟨2048 + (q.val * 512 + k.val), by omega⟩ :=
  Fin.ext (by show (4 + q.val) * 512 + k.val = 2048 + (q.val * 512 + k.val); omega)

theorem pos_eq : pos t r = ⟨256 + (lpos t r).val, by have := (lpos t r).isLt; omega⟩ :=
  Fin.ext (by show (t.val % 8 + 1) * 256 + r.val = 256 + (t.val % 8 * 256 + r.val); omega)

theorem blk_p (k : Fin 512) : iblk m c 0 t (ix3 0 r k) = V m c main_arg0 (ix3 (bat t) (pos t r) (colAt 0 k))
    ∧ iblk m c 1 t (ix3 0 r k) = V m c main_arg0 (ix3 (bat t) (pos t r) (colAt 1 k))
    ∧ iblk m c 2 t (ix3 0 r k) = V m c main_arg0 (ix3 (bat t) (pos t r) (colAt 2 k))
    ∧ iblk m c 3 t (ix3 0 r k) = V m c main_arg0 (ix3 (bat t) (pos t r) (colAt 3 k))
    ∧ iblk m c 4 t (ix3 0 r k) = V m c main_arg0 (ix3 (bat t) (pos t r) (colAt 4 k))
    ∧ iblk m c 5 t (ix3 0 r k) = V m c main_arg0 (ix3 (bat t) (pos t r) (colAt 5 k))
    ∧ iblk m c 6 t (ix3 0 r k) = V m c main_arg0 (ix3 (bat t) (pos t r) (colAt 6 k)) :=
  have h := index_along t
  ⟨congrArg (V m c main_arg0) (at3 (lead (h 0).1) (inner (h 0).2.1) (colAt_eq 0 k (h 0).2.2)),
    congrArg (V m c main_arg0) (at3 (lead (h 1).1) (inner (h 1).2.1) (colAt_eq 1 k (h 1).2.2)),
    congrArg (V m c main_arg0) (at3 (lead (h 2).1) (inner (h 2).2.1) (colAt_eq 2 k (h 2).2.2)),
    congrArg (V m c main_arg0) (at3 (lead (h 3).1) (inner (h 3).2.1) (colAt_eq 3 k (h 3).2.2)),
    congrArg (V m c main_arg0) (at3 (lead (h 4).1) (inner (h 4).2.1) (colAt_eq 4 k (h 4).2.2)),
    congrArg (V m c main_arg0) (at3 (lead (h 5).1) (inner (h 5).2.1) (colAt_eq 5 k (h 5).2.2)),
    congrArg (V m c main_arg0) (at3 (lead (h 6).1) (inner (h 6).2.1) (colAt_eq 6 k (h 6).2.2))⟩

theorem blk_o (k : Fin 512) : iblk m c 7 t (ix3 0 r k) = V m c main_arg1 (ix3 (bat t) (pos t r) k)
    ∧ iblk m c 8 t (ix3 0 r k) = V m c main_arg2 (ix3 (bat t) (pos t r) k) :=
  have h := index_along t
  ⟨congrArg (V m c main_arg1) (at3 (lead (h 7).1) (inner (h 7).2.1) (whole (h 7).2.2)),
    congrArg (V m c main_arg2) (at3 (lead (h 8).1) (inner (h 8).2.1) (whole (h 8).2.2))⟩

theorem blk_x (k : Fin 1024) : iblk m c 9 t (ix3 0 r k) = V m c main_arg3 (ix3 (bat t) (lpos t r) k) :=
  have h := index_lat t 0
  congrArg (V m c main_arg3) (at3 (lead h.1) (inner h.2.1) (whole h.2.2))

theorem blk_md (i : Fin 8) (k : Fin 1024) : iblk m c 10 t (ix3 0 i k) = V m c main_v2 (ix3 (bat t) i k) :=
  have h := index_batch t
  congrArg (V m c main_v2) (at3 (lead h.1) (whole h.2.1) (whole h.2.2))

theorem blk_gna (k : Fin 128) : iblk m c 11 t (ix2 0 k) = V m c main_arg5 (ix2 0 k) :=
  congrArg (V m c main_arg5) (at2 (whole (index_flat t 0 0)) (whole (index_flat t 0 1)))
theorem blk_lng (k : Fin 512) : iblk m c 12 t (ix2 0 k) = V m c main_arg6 (ix2 0 k) :=
  congrArg (V m c main_arg6) (at2 (whole (index_flat t 1 0)) (whole (index_flat t 1 1)))
theorem blk_lnb (k : Fin 512) : iblk m c 13 t (ix2 0 k) = V m c main_arg7 (ix2 0 k) :=
  congrArg (V m c main_arg7) (at2 (whole (index_flat t 2 0)) (whole (index_flat t 2 1)))
theorem blk_bs (s : Fin 128) (i : Fin 4) : iblk m c 15 t (ix2 s i) = V m c main_v5 (ix2 s i) :=
  congrArg (V m c main_v5) (at2 (whole (index_flat t 3 0)) (whole (index_flat t 3 1)))
theorem blk_wo (n k : Fin 1024) : iblk m c 18 t (ix2 n k) = V m c main_v15 (ix2 n k) :=
  congrArg (V m c main_v15) (at2 (whole (index_flat t 4 0)) (whole (index_flat t 4 1)))
theorem blk_ws (i : Fin 4) (s u : Fin 128) : iblk m c 14 t (ix3 i s u) = V m c main_v3 (ix3 i s u) :=
  congrArg (V m c main_v3) (at3 (whole (index_deep t 0 0)) (whole (index_deep t 0 1)) (whole (index_deep t 0 2)))
theorem blk_wpa (i : Fin 4) (k : Fin 512) (n : Fin 256) : iblk m c 16 t (ix3 i k n) = V m c main_v9 (ix3 i k n) :=
  congrArg (V m c main_v9) (at3 (whole (index_deep t 1 0)) (whole (index_deep t 1 1)) (whole (index_deep t 1 2)))
theorem blk_wpb (i : Fin 4) (k : Fin 512) (n : Fin 256) : iblk m c 17 t (ix3 i k n) = V m c main_v13 (ix3 i k n) :=
  congrArg (V m c main_v13) (at3 (whole (index_deep t 2 0)) (whole (index_deep t 2 1)) (whole (index_deep t 2 2)))

end Inputs

/-! The arrays the kernel is entered with, of the arguments. -/

theorem ent_args : V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3)
    ∧ V m c main_arg5 = m ((c : Thread nD τ).loc main_arg5) ∧ V m c main_arg6 = m ((c : Thread nD τ).loc main_arg6)
    ∧ V m c main_arg7 = m ((c : Thread nD τ).loc main_arg7) :=
  ⟨V_main_arg0 m c, V_main_arg1 m c, V_main_arg2 m c, V_main_arg3 m c, V_main_arg5 m c, V_main_arg6 m c, V_main_arg7 m c⟩

theorem ent_gt (b : Fin 4) (k : Fin 1024) : V m c main_v2 (ix3 b 0 k) = m ((c : Thread nD τ).loc main_arg4) (ix3 b 2 k) := by
  unfold V; after_reads_at

theorem ent_ws (i : Fin 4) (s u : Fin 128) : V m c main_v3 (ix3 i s u) = m ((c : Thread nD τ).loc main_arg8) (ix4 0 i s u) := by
  unfold V; after_reads_at

theorem ent_bs (s : Fin 128) (i : Fin 4) : V m c main_v5 (ix2 s i) = m ((c : Thread nD τ).loc main_arg9) (ix3 0 i s) := by
  unfold V; after_reads_at

theorem ent_wp (i : Fin 4) (k : Fin 512) (n : Fin 256) : V m c main_v9 (ix3 i k n) = m ((c : Thread nD τ).loc main_arg10) (ix3 0 k ⟨i.val * 256 + n.val, by omega⟩)
    ∧ V m c main_v13 (ix3 i k n) = m ((c : Thread nD τ).loc main_arg11) (ix3 0 k ⟨i.val * 256 + n.val, by omega⟩) := by
  constructor <;> (unfold V; after_reads_at)

theorem ent_wo (n k : Fin 1024) : V m c main_v15 (ix2 n k) = m ((c : Thread nD τ).loc main_arg12) (ix3 0 n k) := by
  unfold V; after_reads_at

/-- The kernel's arguments are the reals `A`: of the projection and of the recurrence's outputs the latent rows, of the modulation its gate. -/
structure Args : Prop where
  p : ∀ (b : Fin 4) (s : Fin 2048) (k : Fin 3584), m ((c : Thread nD τ).loc main_arg0) (ix3 b ⟨256 + s.val, by omega⟩ ⟨2048 + k.val, by omega⟩) = ((A.p b s k : ℝ) : EReal)
  f : ∀ (b : Fin 4) (s : Fin 2048) (k : Fin 512), m ((c : Thread nD τ).loc main_arg1) (ix3 b ⟨256 + s.val, by omega⟩ k) = ((A.f b s k : ℝ) : EReal)
  g : ∀ (b : Fin 4) (s : Fin 2048) (k : Fin 512), m ((c : Thread nD τ).loc main_arg2) (ix3 b ⟨256 + s.val, by omega⟩ k) = ((A.g b s k : ℝ) : EReal)
  dx : ∀ b s k, m ((c : Thread nD τ).loc main_arg3) (ix3 b s k) = ((A.dx b s k : ℝ) : EReal)
  gt : ∀ b k, m ((c : Thread nD τ).loc main_arg4) (ix3 b 2 k) = ((A.gt b k : ℝ) : EReal)
  gna : ∀ k, m ((c : Thread nD τ).loc main_arg5) (ix2 0 k) = ((A.gna k : ℝ) : EReal)
  lng : ∀ k, m ((c : Thread nD τ).loc main_arg6) (ix2 0 k) = ((A.lng k : ℝ) : EReal)
  lnb : ∀ k, m ((c : Thread nD τ).loc main_arg7) (ix2 0 k) = ((A.lnb k : ℝ) : EReal)
  ws : ∀ i t s, m ((c : Thread nD τ).loc main_arg8) (ix4 0 i t s) = ((A.ws i t s : ℝ) : EReal)
  bs : ∀ i t, m ((c : Thread nD τ).loc main_arg9) (ix3 0 i t) = ((A.bs i t : ℝ) : EReal)
  wpa : ∀ k n, m ((c : Thread nD τ).loc main_arg10) (ix3 0 k n) = ((A.wpa k n : ℝ) : EReal)
  wpb : ∀ k n, m ((c : Thread nD τ).loc main_arg11) (ix3 0 k n) = ((A.wpb k n : ℝ) : EReal)
  wo : ∀ k n, m ((c : Thread nD τ).loc main_arg12) (ix3 0 k n) = ((A.wo k n : ℝ) : EReal)

/-- The latent rows of a point, and its two chunks. -/
def rowsAt (t : Fin cfg0.N) (r : Fin 256) : Row := A.row (bat t) (lpos t r)
def half (t : Fin cfg0.N) (q : Fin 2) : Fin 16 := ⟨t.val % 8 * 2 + q.val, by omega⟩

theorem up_rows (t : Fin cfg0.N) : up (rowsAt A t) = A.chunk (bat t) (half t 0) := funext fun s =>
  congrArg (A.row (bat t)) (Fin.ext (by show t.val % 8 * 256 + s.val = (t.val % 8 * 2 + 0) * 128 + s.val; omega))
theorem dn_rows (t : Fin cfg0.N) : dn (rowsAt A t) = A.chunk (bat t) (half t 1) := funext fun s =>
  congrArg (A.row (bat t)) (Fin.ext (by show t.val % 8 * 256 + (128 + s.val) = (t.val % 8 * 2 + 1) * 128 + s.val; omega))

/-- The chunk of a point's row and its place there. -/
theorem ck_up (t : Fin cfg0.N) (r : Fin 256) (h : r.val < 128) : half t 0 = ck (lpos t r) ∧ (⟨r.val, h⟩ : Fin 128) = pl (lpos t r) :=
  ⟨Fin.ext (by show t.val % 8 * 2 + 0 = (t.val % 8 * 256 + r.val) / 128; omega), Fin.ext (by show r.val = (t.val % 8 * 256 + r.val) % 128; omega)⟩
theorem ck_dn (t : Fin cfg0.N) (r : Fin 256) (h : ¬r.val < 128) : half t 1 = ck (lpos t r) ∧ (⟨r.val - 128, by omega⟩ : Fin 128) = pl (lpos t r) :=
  ⟨Fin.ext (by show t.val % 8 * 2 + 1 = (t.val % 8 * 256 + r.val) / 128; omega), Fin.ext (by show r.val - 128 = (t.val % 8 * 256 + r.val) % 128; omega)⟩

theorem mx_rows (t : Fin cfg0.N) (r : Fin 256) : mx (A.env (bat t)) (rowsAt A t) r = A.mixed (bat t) (lpos t r) := by
  unfold mx Arrays.mixed
  by_cases h : r.val < 128
  · rw [dif_pos h, up_rows, (ck_up t r h).1, (ck_up t r h).2]
  · rw [dif_neg h, dn_rows, (ck_dn t r h).1, (ck_dn t r h).2]

theorem exists_point (b : Fin 4) (s : Fin 2048) : ∃ (t : Fin cfg0.N) (r : Fin 256), bat t = b ∧ lpos t r = s :=
  ⟨⟨b.val * 8 + s.val / 256, (show b.val * 8 + s.val / 256 < 32 by omega).trans_eq N_0.symm⟩, ⟨s.val % 256, by omega⟩,
    Fin.ext (by show (b.val * 8 + s.val / 256) / 8 = b.val; omega), Fin.ext (by show (b.val * 8 + s.val / 256) % 8 * 256 + s.val % 256 = s.val; omega)⟩

variable {m c A} (H : Args m c A)

include H

theorem holds (t : Fin cfg0.N) : Holds (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t) (iblk m c 15 t) (iblk m c 16 t) (iblk m c 17 t) (iblk m c 18 t)
    (A.env (bat t)) (rowsAt A t) (fun r => A.f (bat t) (lpos t r)) (fun r => A.g (bat t) (lpos t r)) := by
  obtain ⟨e0, e1, e2, e3, e5, e6, e7⟩ := ent_args m c
  have hp (r : Fin 256) (q : Fin 7) (k : Fin 512) : V m c main_arg0 (ix3 (bat t) (pos t r) (colAt q k)) = ((A.p (bat t) (lpos t r) ⟨q.val * 512 + k.val, by omega⟩ : ℝ) : EReal) := by
    rw [e0, pos_eq t r, colAt_low]
    exact H.p _ _ ⟨q.val * 512 + k.val, by omega⟩
  have hcol (r : Fin 256) {i j : Fin 3584} (e : i.val = j.val) : ((A.p (bat t) (lpos t r) i : ℝ) : EReal) = ((A.p (bat t) (lpos t r) j : ℝ) : EReal) := by
    rw [Fin.ext e]
  refine ⟨?_, ?_, ?_, ?_, ?_, ?_, ?_, ?_, ?_, fun _ _ => rfl, ?_, ?_, ?_, ?_, ?_, ?_, ?_, ?_, ?_, ?_⟩
  · exact fun r k => (blk_p m c t r k).1.trans ((hp r 0 k).trans (hcol r (by show 0 * 512 + k.val = k.val; omega)))
  · exact fun r k => (blk_p m c t r k).2.1.trans ((hp r 1 k).trans (hcol r (by show 1 * 512 + k.val = 512 + k.val; omega)))
  · exact fun r k => (blk_p m c t r k).2.2.1.trans ((hp r 2 k).trans (hcol r (by show 2 * 512 + k.val = 1024 + k.val; omega)))
  · exact fun r k => (blk_p m c t r k).2.2.2.1.trans ((hp r 3 k).trans (hcol r (by show 3 * 512 + k.val = 1536 + k.val; omega)))
  · exact fun r k => (blk_p m c t r k).2.2.2.2.1.trans ((hp r 4 k).trans (hcol r (by show 4 * 512 + k.val = 1536 + (512 + k.val); omega)))
  · exact fun r k => (blk_p m c t r k).2.2.2.2.2.1.trans ((hp r 5 k).trans (hcol r (by show 5 * 512 + k.val = 2560 + k.val; omega)))
  · exact fun r k => (blk_p m c t r k).2.2.2.2.2.2.trans ((hp r 6 k).trans (hcol r (by show 6 * 512 + k.val = 2560 + (512 + k.val); omega)))
  · exact fun r k => (blk_o m c t r k).1.trans (by rw [e1, pos_eq t r]; exact H.f _ _ _)
  · exact fun r k => (blk_o m c t r k).2.trans (by rw [e2, pos_eq t r]; exact H.g _ _ _)
  · exact fun r k => (blk_x m c t r k).trans (by rw [e3]; exact H.dx _ _ _)
  · exact fun k => (blk_md m c t 0 k).trans ((ent_gt m c _ k).trans (H.gt _ _))
  · exact fun k => (blk_gna m c t k).trans (by rw [e5]; exact H.gna _)
  · exact fun k => (blk_lng m c t k).trans (by rw [e6]; exact H.lng _)
  · exact fun k => (blk_lnb m c t k).trans (by rw [e7]; exact H.lnb _)
  · exact fun i s u => (blk_ws m c t i s u).trans ((ent_ws m c i s u).trans (H.ws _ _ _))
  · exact fun s i => (blk_bs m c t s i).trans ((ent_bs m c s i).trans (H.bs _ _))
  · exact fun i k n => (blk_wpa m c t i k n).trans ((ent_wp m c i k n).1.trans (H.wpa _ _))
  · exact fun i k n => (blk_wpb m c t i k n).trans ((ent_wp m c i k n).2.trans (H.wpb _ _))
  · exact fun n k => (blk_wo m c t n k).trans ((ent_wo m c n k).trans (H.wo _ _))

/-- The call's result. -/
theorem final (b : Fin 4) (s : Fin 2048) (k : Fin 1024) : (dats m 0 c).arrAt 19 cfg0.N (ix3 b s k)
    = ((A.dx b s k + A.gt b k * (A.env b).mix (A.row b s) (A.mixed b s) k : ℝ) : EReal) := by
  obtain ⟨t, r, rfl, rfl⟩ := exists_point b s
  have i := index_lat t 1
  have e := congrFun (Value.blocks19 m c t (flush0_19 t)) (ix3 0 r k)
  rw [Value.flushed19] at e
  refine (congrArg ((dats m 0 c).arrAt 19 cfg0.N) (at3 (lead i.1) (inner i.2.1) (whole i.2.2))).symm.trans (e.trans ?_)
  rw [← mx_rows]
  exact out (holds H t) r k

end Cert.MixfIdeal.Run

end
-- ==== Proof.MixfClaims.lean ====
/- The claims about the mixers' forward call: the reference runs to its end and keeps its arguments, the named constant is the one the kernel's
   word rounds, and the two leave equal arrays wherever the arguments they read are finite. -/
module

public import proofs.«01_k».proof.Defs
public import proofs.«01_k».proof.Proof.MixfRef
public import proofs.«01_k».proof.Proof.MixfBlock
public import proofs.«01_k».proof.Proof.Gen.MixfRefIdeal.Run
public import proofs.«01_k».proof.Proof.Gen.Pre_mixf_finite
public import Idealize.ShloMosaic.Lib.Quiescent

@[expose] public section

noncomputable section

namespace Cert.MixfIdeal.Final

open Idealize.ShloMosaic Idealize.SL.Sem Cert.MixfIdeal Cert.MixfIdeal.Gen Idealize.ShloMosaic.TcCoe Cert.Reals Cert.Places Cert.Mixb Cert.MixfIdeal.Run

/-- The reference runs to its end, keeps its arguments and leaves every semaphore at zero. -/
theorem frame_ref : Cert.quiescent_MixfRefIdeal := fun m ρ _ =>
  (θ_run Cert.MixfRefIdeal.defs _ _).mono (fun r h => ⟨fun c => (h c).2, sem_eq_zero_of_no_sems (by decide) r.2⟩)
    (Cert.MixfRefIdeal.Value.run (F := Ideal) m ρ)

theorem constants : Cert.preserves_Mixf_MixfIdeal := IdealRules.named_const.statement _ _ _ _ _ rfl

/-- The call and the reference leave equal arrays. -/
theorem value : Cert.algebraic_MixfIdeal_MixfRefIdeal_pre_mixf_finite := by
  intro m ρ m' ρ' hpre hagree
  refine ⟨_, (θ_run defs _ _).mono (fun r h c => h c) (Value.run_blocks m ρ), ?_⟩
  refine (θ_run Cert.MixfRefIdeal.defs _ _).mono (fun r h c => ?_) (Cert.MixfRefIdeal.Value.run (F := Ideal) m' ρ')
  obtain ⟨p0, p1, p2, p3, p4, p5, p6, p7, p8, p9, p10, p11, p12⟩ := hpre c
  obtain ⟨r0, h0⟩ := reals_of_finite _ _ (fun _ => rfl) p0
  obtain ⟨r1, h1⟩ := reals_of_finite _ _ (fun _ => rfl) p1
  obtain ⟨r2, h2⟩ := reals_of_finite _ _ (fun _ => rfl) p2
  obtain ⟨r3, h3⟩ := reals_of_finite _ _ (fun _ => rfl) p3
  obtain ⟨r4, h4⟩ := reals_of_finite _ _ (fun _ => rfl) p4
  obtain ⟨r5, h5⟩ := reals_of_finite _ _ (fun _ => rfl) p5
  obtain ⟨r6, h6⟩ := reals_of_finite _ _ (fun _ => rfl) p6
  obtain ⟨r7, h7⟩ := reals_of_finite _ _ (fun _ => rfl) p7
  obtain ⟨r8, h8⟩ := reals_of_finite _ _ (fun _ => rfl) p8
  obtain ⟨r9, h9⟩ := reals_of_finite _ _ (fun _ => rfl) p9
  obtain ⟨r10, h10⟩ := reals_of_finite _ _ (fun _ => rfl) p10
  obtain ⟨r11, h11⟩ := reals_of_finite _ _ (fun _ => rfl) p11
  obtain ⟨r12, h12⟩ := reals_of_finite _ _ (fun _ => rfl) p12
  let A : Arrays := ⟨fun b s k => r0 (ix3 b s k), fun b s k => r1 (ix3 b s k), fun b s k => r2 (ix3 b s k), fun b s k => r3 (ix3 b s k),
    fun b k => r4 (ix2 b k), fun k => r5 (ix2 0 k), fun k => r6 (ix2 0 k), fun k => r7 (ix2 0 k), fun i s u => r8 (ix4 0 i s u),
    fun i s => r9 (ix3 0 i s), fun k n => r10 (ix3 0 k n), fun k n => r11 (ix3 0 k n), fun n k => r12 (ix3 0 n k)⟩
  have K : Args m c A := ⟨fun b s k => by have e := h0 (ix3 b s k); pointwise at e; exact e, fun b s k => by have e := h1 (ix3 b s k); pointwise at e; exact e,
    fun b s k => by have e := h2 (ix3 b s k); pointwise at e; exact e, fun _ _ _ => h3 _, fun b k => by have e := h4 (ix2 b k); pointwise at e; exact e,
    fun _ => h5 _, fun _ => h6 _, fun _ => h7 _, fun _ _ _ => h8 _, fun _ _ => h9 _, fun _ _ => h10 _, fun _ _ => h11 _, fun _ _ => h12 _⟩
  obtain ⟨a0, a1, a2, a3, a4, a5, a6, a7, a8, a9, a10, a11, a12⟩ := hagree c
  have R := Cert.MixfRefIdeal.Read.Args.mk (A := A)
    (fun b s k => by pointwise [Cert.MixfRefIdeal.Read.val_main_v2]; exact (congrFun a0 _).trans (K.p b s k))
    (fun b s k => by pointwise [Cert.MixfRefIdeal.Read.val_main_v0]; exact (congrFun a1 _).trans (K.f b s k))
    (fun b s k => by pointwise [Cert.MixfRefIdeal.Read.val_main_v1]; exact (congrFun a2 _).trans (K.g b s k))
    (fun b s k => (congrFun a3 _).trans (K.dx b s k))
    (fun b k => by pointwise [Cert.MixfRefIdeal.Read.val_main_v4, Cert.MixfRefIdeal.Read.val_main_v3]; exact (congrFun a4 _).trans (K.gt b k))
    (fun k => (congrFun a5 _).trans (K.gna k)) (fun k => (congrFun a6 _).trans (K.lng k)) (fun k => (congrFun a7 _).trans (K.lnb k))
    (fun i s u => (congrFun a8 _).trans (K.ws i s u)) (fun i s => (congrFun a9 _).trans (K.bs i s)) (fun k n => (congrFun a10 _).trans (K.wpa k n))
    (fun k n => (congrFun a11 _).trans (K.wpb k n)) (fun n k => (congrFun a12 _).trans (K.wo n k))
  obtain ⟨e0, kept⟩ := h c
  exact ⟨e0.trans ((Cert.MixfRefIdeal.Read.val_main_v121_eq _ _).trans (ext3 fun b s k => (Cert.MixfRefIdeal.Read.row_out R b s k).trans (final K b s k).symm)), kept⟩

end Cert.MixfIdeal.Final

end
-- ==== Proof.InfKernel.lean ====
/- One block of rows through the forward kernel of the input projection: each word the kernel forms is the stage over the reals. -/
module

public import proofs.«01_k».proof.Proof.Gen.InfIdeal.Skeleton
public import proofs.«01_k».proof.Proof.Norms

@[expose] public section

set_option maxRecDepth 8000

noncomputable section

namespace Cert.Inf

open Cert.Norms

/-- A row normed, scaled by the gain and modulated. -/
def mod (g sc sh x : Fin 1024 → ℝ) (k : Fin 1024) : ℝ := x k * rms x * g k * (1 + sc k) + sh k

/-- The call's arguments: the streams, the gain, the two modulations' shifts and scales, the weight. -/
structure Arrays where
  x : Fin 4 → Fin 2048 → Fin 1024 → ℝ
  ctx : Fin 4 → Fin 256 → Fin 1024 → ℝ
  g : Fin 1024 → ℝ
  sh : Fin 4 → Fin 1024 → ℝ
  sc : Fin 4 → Fin 1024 → ℝ
  csh : Fin 1024 → ℝ
  csc : Fin 1024 → ℝ
  w : Fin 1024 → Fin 1408 → ℝ

namespace Arrays

variable (A : Arrays)

/-- The modulated rows, the context's first, and their projection. -/
def h (b : Fin 4) (s : Fin 2304) (k : Fin 1024) : ℝ :=
  if e : s.val < 256 then mod A.g A.csc A.csh (A.ctx b ⟨s.val, e⟩) k else mod A.g (A.sc b) (A.sh b) (A.x b ⟨s.val - 256, by omega⟩) k
def p (b : Fin 4) (s : Fin 2304) (n : Fin 1408) : ℝ := ∑ k, A.h b s k * A.w k n

end Arrays

end Cert.Inf

namespace Cert.InfIdeal.Final

open Idealize.ShloMosaic Idealize.SL.Sem Cert.InfIdeal Cert.InfIdeal.Gen Idealize.ShloMosaic.TcCoe Cert.Reals Cert.Norms Cert.Inf

abbrev Grid {n : ℕ} (v : (⟨2, ![256, n]⟩ : Shape).Idx → EReal) (f : Fin 256 → Fin n → ℝ) : Prop := ∀ r k, v (ix2 r k) = ((f r k : ℝ) : EReal)
abbrev Block {n : ℕ} (v : (⟨3, ![1, 256, n]⟩ : Shape).Idx → EReal) (f : Fin 256 → Fin n → ℝ) : Prop := ∀ r k, v (ix3 0 r k) = ((f r k : ℝ) : EReal)
abbrev Line (v : (⟨2, ![1, 1024]⟩ : Shape).Idx → EReal) (f : Fin 1024 → ℝ) : Prop := ∀ k, v (ix2 0 k) = ((f k : ℝ) : EReal)

/-- Whether a point's rows are the context's. -/
abbrev con (i : grid0.Coords) : BitVec 1 := Scalar.cmpi .eq (BitVec.ofNat 32 (i 1).val) 0#32

variable {i : grid0.Coords} {x : Fin 256 → Fin 1024 → ℝ} {g sc sh : Fin 1024 → ℝ} {w : Fin 1024 → Fin 1408 → ℝ}

theorem word_shift {C X : Vec Ideal S1x1x1024 .f32} (hX : ∀ k, Scalar.select (con i) (C (ix3 0 0 k)) (X (ix3 0 0 k)) = ((sh k : ℝ) : EReal)) :
    Line (k0_pay5 i C X) sh := by
  intro k
  unfold_payloads
  pointwise
  exact hX k

theorem word_scale {C X : Vec Ideal S1x1x1024 .f32} (hX : ∀ k, Scalar.select (con i) (C (ix3 0 0 k)) (X (ix3 0 0 k)) = ((sc k : ℝ) : EReal)) :
    Line (k0_pay6 i C X) sc := by
  intro k
  unfold_payloads
  pointwise
  exact hX k

theorem word_normed {C X : Vec Ideal S1x256x1024 .f32} (hX : ∀ r k, Scalar.select (con i) (C (ix3 0 r k)) (X (ix3 0 r k)) = ((x r k : ℝ) : EReal)) :
    Grid (k0_pay7 i C X) (fun r k => x r k * rms (x r)) := by
  intro r k
  unfold_payloads
  pointwise
  simp only [hX, word_eps, word_1024, FloatOps.ofBits, Ideal.ofBits_one_f32, ← EReal.coe_one, ← EReal.coe_mul, coe_sum, div_1024, ← EReal.coe_add, ← EReal.coe_sub, coe_rms_sum, coe_rms]

section

variable {v15 v20 v31 : FVec Ideal S1x1024 .f32} {v30 : FVec Ideal S256x1024 .f32} (h15 : Line v15 sh) (h20 : Line v20 sc)
  (h30 : Grid v30 (fun r k => x r k * rms (x r))) (h31 : Line v31 g)

include h15 h20 h30 h31

theorem word_mod : Grid (k0_pay1 v15 v20 v30 v31) (fun r => mod g sc sh (x r)) := by
  intro r k
  unfold_payloads
  pointwise
  simp only [h15, h20, h30, h31, FloatOps.ofBits, Ideal.ofBits_one_f32, ← EReal.coe_one, ← EReal.coe_mul, ← EReal.coe_add]
  rfl

theorem word_rows : Block (k0_pay2 v15 v20 v30 v31) (fun r => mod g sc sh (x r)) := by
  intro r k
  have e := word_mod h15 h20 h30 h31 r k
  unfold k0_pay2
  pointwise
  exact e

theorem word_cols {v44 : Vec Ideal S1024x1408 .bf16} (h44 : ∀ k n, v44 (ix2 k n) = ((w k n : ℝ) : EReal)) :
    Block (k0_pay3 v15 v20 v30 v31 v44) (fun r n => ∑ k, mod g sc sh (x r) k * w k n) := by
  intro r n
  have e := word_mod h15 h20 h30 h31 r
  unfold k0_pay3
  pointwise
  simp only [e, h44, ← EReal.coe_mul, coe_sum]

end

theorem word_w {X : Vec Ideal S1024x1408 .f32} (hX : ∀ k n, X (ix2 k n) = ((w k n : ℝ) : EReal)) (k : Fin 1024) (n : Fin 1408) :
    k0_pay4 X (ix2 k n) = ((w k n : ℝ) : EReal) := by
  unfold_payloads
  pointwise
  exact hX k n

end Cert.InfIdeal.Final

end
-- ==== Proof.InfRef.lean ====
/- The reference of the input projection, node by node over the reals: the two streams' norms, their modulation and the product. -/
module

public import proofs.«01_k».proof.Proof.Gen.InfRefIdeal.Read
public import proofs.«01_k».proof.Proof.InfKernel
public import proofs.«01_k».proof.Proof.Sums

@[expose] public section

set_option maxRecDepth 8000

noncomputable section

namespace Cert.InfRefIdeal.Read

open Idealize.ShloMosaic Idealize.SL.Sem Cert.Reals Cert.Norms Cert.Inf

variable {x0 : (⟨S4x2048x1024, .f32⟩ : BufTy).Contents (Elt Ideal)} {x1 : (⟨S4x256x1024, .f32⟩ : BufTy).Contents (Elt Ideal)}
  {x2 : (⟨S1x1024, .f32⟩ : BufTy).Contents (Elt Ideal)} {x3 : (⟨S4x6x1024, .f32⟩ : BufTy).Contents (Elt Ideal)}
  {x4 : (⟨S6x1024, .f32⟩ : BufTy).Contents (Elt Ideal)} {x5 : (⟨S1x1024x1408, .f32⟩ : BufTy).Contents (Elt Ideal)} {A : Arrays}

variable (x0 x1 x2 x3 x4 x5 A) in
/-- The arguments are the reals `A`. -/
structure Args : Prop where
  x : ∀ b s k, x0 (ix3 b s k) = ((A.x b s k : ℝ) : EReal)
  ctx : ∀ b s k, x1 (ix3 b s k) = ((A.ctx b s k : ℝ) : EReal)
  g : ∀ k, x2 (ix2 0 k) = ((A.g k : ℝ) : EReal)
  sh : ∀ b k, x3 (ix3 b 0 k) = ((A.sh b k : ℝ) : EReal)
  sc : ∀ b k, x3 (ix3 b 1 k) = ((A.sc b k : ℝ) : EReal)
  csh : ∀ k, x4 (ix2 0 k) = ((A.csh k : ℝ) : EReal)
  csc : ∀ k, x4 (ix2 1 k) = ((A.csc k : ℝ) : EReal)
  w : ∀ k n, x5 (ix3 0 k n) = ((A.w k n : ℝ) : EReal)

variable (H : Args x0 x1 x2 x3 x4 x5 A)

include H

theorem ctx_ms (b : Fin 4) (s : Fin 256) : val_main_v7 x1 (ix3 b s 0) = ((ms (A.ctx b s) + eps : ℝ) : EReal) := by
  pointwise [val_main_v7, val_main_v6, val_main_cst_1, val_main_v5, val_main_v4, val_main_cst_0, val_main_v3, val_main_v2, val_main_cst, val_main_v1]
  simp only [H.ctx, word_eps, word_1024, Ideal.ofBits_one_f32, ← EReal.coe_one, ← EReal.coe_mul, coe_sum, div_1024, ← EReal.coe_add, coe_rms_sum, coe_rms, zero_add, Fin.sum_univ_one]
  rfl

theorem ctx_rms (b : Fin 4) (s : Fin 256) : val_main_v8 x1 (ix3 b s 0) = ((rms (A.ctx b s) : ℝ) : EReal) := by
  pointwise [val_main_v8]
  simp only [ctx_ms H, word_eps, word_1024, Ideal.ofBits_one_f32, ← EReal.coe_one, ← EReal.coe_mul, coe_sum, div_1024, ← EReal.coe_add, coe_rms_sum, coe_rms, zero_add, Fin.sum_univ_one]

theorem ctx_mod (b : Fin 4) (s : Fin 256) (k : Fin 1024) : val_main_v25 x1 x2 x4 (ix3 b s k) = ((mod A.g A.csc A.csh (A.ctx b s) k : ℝ) : EReal) := by
  pointwise [val_main_v25, val_main_v24, val_main_v23, val_main_v22, val_main_v21, val_main_v20, val_main_cst_2, val_main_v19, val_main_v18, val_main_v17, val_main_v16, val_main_v15, val_main_v14, val_main_v13, val_main_v12, val_main_v11, val_main_v10, val_main_v9, val_main_v0]
  simp only [ctx_rms H, H.ctx, H.g, H.csh, H.csc, word_eps, word_1024, Ideal.ofBits_one_f32, ← EReal.coe_one, ← EReal.coe_mul, coe_sum, div_1024, ← EReal.coe_add, coe_rms_sum, coe_rms, zero_add, Fin.sum_univ_one]
  rfl

theorem lat_ms (b : Fin 4) (s : Fin 2048) : val_main_v33 x0 (ix3 b s 0) = ((ms (A.x b s) + eps : ℝ) : EReal) := by
  pointwise [val_main_v33, val_main_v32, val_main_cst_5, val_main_v31, val_main_v30, val_main_cst_4, val_main_v29, val_main_v28, val_main_cst_3, val_main_v27]
  simp only [H.x, word_eps, word_1024, Ideal.ofBits_one_f32, ← EReal.coe_one, ← EReal.coe_mul, coe_sum, div_1024, ← EReal.coe_add, coe_rms_sum, coe_rms, zero_add, Fin.sum_univ_one]
  rfl

theorem lat_rms (b : Fin 4) (s : Fin 2048) : val_main_v34 x0 (ix3 b s 0) = ((rms (A.x b s) : ℝ) : EReal) := by
  pointwise [val_main_v34]
  simp only [lat_ms H, word_eps, word_1024, Ideal.ofBits_one_f32, ← EReal.coe_one, ← EReal.coe_mul, coe_sum, div_1024, ← EReal.coe_add, coe_rms_sum, coe_rms, zero_add, Fin.sum_univ_one]

theorem lat_mod (b : Fin 4) (s : Fin 2048) (k : Fin 1024) : val_main_v51 x0 x2 x3 (ix3 b s k) = ((mod A.g (A.sc b) (A.sh b) (A.x b s) k : ℝ) : EReal) := by
  pointwise [val_main_v51, val_main_v50, val_main_v49, val_main_v48, val_main_v47, val_main_v46, val_main_cst_6, val_main_v45, val_main_v44, val_main_v43, val_main_v42, val_main_v41, val_main_v40, val_main_v39, val_main_v38, val_main_v37, val_main_v36, val_main_v35, val_main_v26]
  simp only [lat_rms H, H.x, H.g, H.sh, H.sc, word_eps, word_1024, Ideal.ofBits_one_f32, ← EReal.coe_one, ← EReal.coe_mul, coe_sum, div_1024, ← EReal.coe_add, coe_rms_sum, coe_rms, zero_add, Fin.sum_univ_one]
  rfl

theorem ref_h (b : Fin 4) (s : Fin 2304) (k : Fin 1024) : val_main_v52 x0 x1 x2 x3 x4 (ix3 b s k) = ((A.h b s k : ℝ) : EReal) := by
  pointwise [val_main_v52]
  simp only [ctx_mod H, lat_mod H]
  unfold Arrays.h
  split_ifs <;> rfl

theorem res_h (b : Fin 4) (s : Fin 2304) (k : Fin 1024) : val_main_v55 x0 x1 x2 x3 x4 (ix3 b s k) = ((A.h b s k : ℝ) : EReal) := by
  pointwise [val_main_v55]
  exact ref_h H b s k

theorem res_p (b : Fin 4) (s : Fin 2304) (n : Fin 1408) : val_main_v54 x0 x1 x2 x3 x4 x5 (ix3 b s n) = ((A.p b s n : ℝ) : EReal) := by
  pointwise [val_main_v54, val_main_v53]
  simp only [ref_h H, H.w, ← EReal.coe_mul, coe_sum]
  rfl

end Cert.InfRefIdeal.Read

end
-- ==== Proof.InfFinal.lean ====
/- What one grid point of the input projection's forward kernel leaves in its result blocks and in the weight it keeps between points, over
   the point's input blocks; and the place of the columns it writes, which the kernel reads from a table. -/
module

public import proofs.«01_k».proof.Proof.Gen.InfIdeal.Frame
public import proofs.«01_k».proof.Proof.Stores
public import proofs.«01_k».proof.Proof.Places
public import Idealize.ShloMosaic.Lib.StableHlo.ReadAt
public import Idealize.ShloMosaic.Lib.Pipeline.ValueKit.Geometry

@[expose] public section

set_option maxRecDepth 8000

noncomputable section

namespace Cert.InfIdeal.Final

open Idealize.ShloMosaic Idealize.SL.Sem Cert.InfIdeal Cert.InfIdeal.Gen Idealize.ShloMosaic.TcCoe Cert.Stores Cert.Places

variable {F : FTy → Type} [FloatOps F]

variable (m : (ℓ : Loc nD τ sig) → Buf (Elt F) ℓ)

/-- The table says that the columns written are the first ones. -/
theorem table (c : Dev nD) (y : S1.Idx) : (V m c main_v6 : (⟨S1, .i32⟩ : BufTy).Contents (Elt F)) y = (0#32 : BitVec 32) := by
  unfold V; after_reads_at

theorem place (i : grid0.Coords) : cc0_transform_5 (F := F) Facts₀.inb_S1_S1_0 Facts₀.numel1_S1 (tbl m) i = cc0_transform_6 i := by
  unfold cc0_transform_5 cc0_transform_6
  rw [show (tbl m).at 0 (Rect.unit (s := S1) ![0] S1.size Facts₀.inb_S1_S1_0) Facts₀.numel1_S1 = (0#32 : BitVec 32) from table m 0 _]

theorem inside : ∀ (i : grid0.Coords) (a : Fin 3), (cc0_transform_6 i a + 1) * S1x256x1408.size a ≤ S4x2304x5632.size a := by decide +kernel

theorem ok : Ok m := fun i => ⟨fun a => by rw [place m i]; exact inside i a, .inl rfl⟩

section Words

variable (i : grid0.Coords) (x ctx : Vec F S1x256x1024 .f32) (g : Vec F S1x1024 .f32) (md : Vec F S1x8x1024 .f32) (w : Vec F S1024x1408 .bf16)

/-- The rows a point forms, and their projection, over its input blocks: the latent rows, the context's, the gain, the modulations. -/
abbrev shift := k0_pay5 i (row 2 md) (row 0 md)
abbrev scale := k0_pay6 i (row 3 md) (row 1 md)
abbrev normed := k0_pay7 i ctx x
def rows : FVec F S1x256x1024 .bf16 := k0_pay2 (shift i md) (scale i md) (normed i x ctx) g
def cols : FVec F S1x256x1408 .f32 := k0_pay3 (shift i md) (scale i md) (normed i x ctx) g w

end Words

theorem off2 : (![0, 0] : Fin 2 → ℕ) = fun _ => 0 := funext fun a => by fin_cases a <;> rfl
theorem off3 : (![0, 0, 0] : Fin 3 → ℕ) = fun _ => 0 := funext fun a => by fin_cases a <;> rfl

/-- A load of one row. -/
theorem ld0 (x : Vec F S1x8x1024 .f32) : View.ld x (Rect.unit ![0, 0, 0] ![1, 1, 1024] inb_S1x8x1024_S1x1x1024_0_0_0) = row 0 x := ld_row 0 rfl _ x
theorem ld1 (x : Vec F S1x8x1024 .f32) : View.ld x (Rect.unit ![0, 1, 0] ![1, 1, 1024] inb_S1x8x1024_S1x1x1024_0_1_0) = row 1 x := ld_row 1 rfl _ x
theorem ld2 (x : Vec F S1x8x1024 .f32) : View.ld x (Rect.unit ![0, 2, 0] ![1, 1, 1024] inb_S1x8x1024_S1x1x1024_0_2_0) = row 2 x := ld_row 2 rfl _ x
theorem ld3 (x : Vec F S1x8x1024 .f32) : View.ld x (Rect.unit ![0, 3, 0] ![1, 1, 1024] inb_S1x8x1024_S1x1x1024_0_3_0) = row 3 x := ld_row 3 rfl _ x

section Cases

variable (c : Dev nD) (i : grid0.Coords) (arg3 : Memref sig .tc .vmem S1x256x1024 .f32) (harg3 : arg3.IsWhole)
  (arg4 : Memref sig .tc .vmem S1x256x1024 .f32) (harg4 : arg4.IsWhole) (arg5 : Memref sig .tc .vmem S1x1024 .f32) (harg5 : arg5.IsWhole)
  (arg6 : Memref sig .tc .vmem S1x8x1024 .f32) (harg6 : arg6.IsWhole) (arg7 : Memref sig .tc .vmem S1024x1408 .f32) (harg7 : arg7.IsWhole)
  (arg8 : Memref sig .tc .vmem S1x256x1408 .f32) (harg8 : arg8.IsWhole) (arg9 : Memref sig .tc .vmem S1x256x1024 .bf16) (harg9 : arg9.IsWhole)
  (arg10 : Memref sig .tc .vmem S1024x1408 .bf16) (harg10 : arg10.IsWhole)
  (x0 x1 : Vec F S1x256x1024 .f32) (x2 : Vec F S1x1024 .f32) (x3 : Vec F S1x8x1024 .f32) (x4 : Vec F S1024x1408 .f32)
  (xt0 : TbBuf0 (F := F) c tbM0_0) (z : Vec F S1024x1408 .bf16)

set_option maxHeartbeats 4000000 in
/-- At the first point, which keeps the weight, -/
theorem case_first (hc0 : cond0_0 i) :
    out0_A_5 c i arg3 harg3 arg4 harg4 arg5 harg5 arg6 harg6 arg7 harg7 arg8 harg8 arg9 harg9 arg10 harg10 hc0 x0 x1 x2 x3 x4 xt0
      = cols i x0 x1 x2 x3 (k0_pay4 x4)
    ∧ out0_A_6 c i arg3 harg3 arg4 harg4 arg5 harg5 arg6 harg6 arg7 harg7 arg8 harg8 arg9 harg9 arg10 harg10 hc0 x0 x1 x2 x3 x4 xt0
      = rows i x0 x1 x2 x3
    ∧ sout0_A_0 c i arg3 harg3 arg4 harg4 arg5 harg5 arg6 harg6 arg7 harg7 arg8 harg8 arg9 harg9 arg10 harg10 hc0 x0 x1 x2 x3 x4 xt0
      = k0_pay4 x4 := by
  refine ⟨?_, ?_, ?_⟩
  all_goals
    (first | unfold out0_A_5 | unfold out0_A_6 | unfold sout0_A_0)
    unfold kernelRun0_A
    dsimp only
    sl_unfold_words
    simp only [read_cons, readCov_ld, View.canon_cons, View.writes_nil, overlay_whole (s := S1x256x1024) off3, overlay_whole (s := S1x256x1408) off3,
      overlay_whole (s := S1024x1408) off2, View.readAt_eq_ld, Memref.IsWhole.read_unread,
      View.ld_unit_zero (S := S1x1024) off2, View.ld_unit_zero (S := S1024x1408) off2, View.ld_unit_zero (S := S1x256x1024) off3, ld0, ld1, ld2, ld3]
    try first | unfold cols | unfold rows
    try with_reducible rfl

set_option maxHeartbeats 4000000 in
/-- and at the others, which find it. -/
theorem case_later (hc0 : ¬cond0_0 i) :
    out0_B_5 c i arg3 harg3 arg4 harg4 arg5 harg5 arg6 harg6 arg7 harg7 arg8 harg8 arg9 harg9 arg10 harg10 hc0 x0 x1 x2 x3 x4 xt0 z
      = cols i x0 x1 x2 x3 z
    ∧ out0_B_6 c i arg3 harg3 arg4 harg4 arg5 harg5 arg6 harg6 arg7 harg7 arg8 harg8 arg9 harg9 arg10 harg10 hc0 x0 x1 x2 x3 x4 xt0 z
      = rows i x0 x1 x2 x3 := by
  refine ⟨?_, ?_⟩
  all_goals
    (first | unfold out0_B_5 | unfold out0_B_6)
    unfold kernelRun0_B
    dsimp only
    sl_unfold_words
    simp only [read_cons, readCov_ld, View.canon_cons, View.writes_nil, overlay_whole (s := S1x256x1024) off3, overlay_whole (s := S1x256x1408) off3,
      overlay_whole (s := S1024x1408) off2, View.readAt_eq_ld, Memref.IsWhole.read_unread,
      View.ld_unit_zero (S := S1x1024) off2, View.ld_unit_zero (S := S1024x1408) off2, View.ld_unit_zero (S := S1x256x1024) off3, ld0, ld1, ld2, ld3]
    try first | unfold cols | unfold rows
    try with_reducible rfl

end Cases

variable (hO : Ok m) (c : Dev nD)

/-- What one point leaves, `z` the weight it works with. -/
theorem outs_step (t : Fin (cfgM m hO).N) (z : Vec F S1024x1408 .bf16)
    (hz : z = if t.val % 36 = 0 then k0_pay4 (iblk m hO c 4 t) else (outsAt0 m hO c (t.val - 1) (Nat.lt_of_le_of_lt (Nat.sub_le _ _) t.isLt)).2.2) :
    outsAt0 m hO c t.val t.isLt = (cols (grid0.coords t) (iblk m hO c 0 t) (iblk m hO c 1 t) (iblk m hO c 2 t) (iblk m hO c 3 t) z,
      rows (grid0.coords t) (iblk m hO c 0 t) (iblk m hO c 1 t) (iblk m hO c 2 t) (iblk m hO c 3 t), z) := by
  by_cases h0 : t.val % 36 = 0
  · rw [outsAt0_A m hO c t h0, hz, if_pos h0]
    obtain ⟨e5, e6, es⟩ := case_first c (grid0.coords t) (ms0_0 m hO t) (hs0_0 m hO t) (ms0_1 m hO t) (hs0_1 m hO t) (ms0_2 m hO t) (hs0_2 m hO t)
      (ms0_3 m hO t) (hs0_3 m hO t) (ms0_4 m hO t) (hs0_4 m hO t) (ms0_5 m hO t) (hs0_5 m hO t) (ms0_6 m hO t) (hs0_6 m hO t) scM0_0
      (Memref.isWhole_whole _) (iblk m hO c 0 t) (iblk m hO c 1 t) (iblk m hO c 2 t) (iblk m hO c 3 t) (iblk m hO c 4 t) (tbl m 0) ((hcond0_0 t).mpr h0)
    exact congr (congrArg Prod.mk e5) (congr (congrArg Prod.mk e6) es)
  · rw [outsAt0_B m hO c t h0, hz, if_neg h0]
    obtain ⟨e5, e6⟩ := case_later c (grid0.coords t) (ms0_0 m hO t) (hs0_0 m hO t) (ms0_1 m hO t) (hs0_1 m hO t) (ms0_2 m hO t) (hs0_2 m hO t)
      (ms0_3 m hO t) (hs0_3 m hO t) (ms0_4 m hO t) (hs0_4 m hO t) (ms0_5 m hO t) (hs0_5 m hO t) (ms0_6 m hO t) (hs0_6 m hO t) scM0_0
      (Memref.isWhole_whole _) (iblk m hO c 0 t) (iblk m hO c 1 t) (iblk m hO c 2 t) (iblk m hO c 3 t) (iblk m hO c 4 t) (tbl m 0)
      (outsAt0 m hO c (t.val - 1) (Nat.lt_of_le_of_lt (Nat.sub_le _ _) t.isLt)).2.2 (fun h => h0 ((hcond0_0 t).mp h))
    exact congr (congrArg Prod.mk e5) (congr (congrArg Prod.mk e6) rfl)

end Cert.InfIdeal.Final

end
-- ==== Proof.InfArr.lean ====
/- The blocks of the input projection's forward kernel as parts of its arrays: an input block's element is an element of the array the
   kernel is entered with, the weight kept between points is the whole weight, and a result's element is one of the block left by the
   point that writes it back. -/
module

public import proofs.«01_k».proof.Proof.InfFinal

@[expose] public section

set_option maxRecDepth 8000

noncomputable section

namespace Cert.InfIdeal.Final

open Idealize.ShloMosaic Idealize.SL.Sem Cert.InfIdeal Cert.InfIdeal.Gen Idealize.ShloMosaic.TcCoe Cert.Stores Cert.Places

variable (m : (ℓ : Loc nD τ sig) → Buf (Elt Ideal) ℓ) (c : Dev nD)

/-- The batch element of a point, the row of its block's row `r` in the projection, and that row's place in the latent stream. -/
def bat (t : Fin grid0.N) : Fin 4 := ⟨t.val / 9, Nat.div_lt_of_lt_mul (t.isLt.trans_eq N_0)⟩
def pos (t : Fin grid0.N) (r : Fin 256) : Fin 2304 := ⟨t.val % 9 * 256 + r.val, by have := r.isLt; omega⟩
def lpos (t : Fin grid0.N) (r : Fin 256) : Fin 2048 := ⟨(t.val % 9 - 1) * 256 + r.val, by have := r.isLt; omega⟩

/-- The blocks' indices: along the latent stream, one to a batch element, whole, and along the projection. -/
theorem index_lat : ∀ t : Fin grid0.N, cc0_transform_0 (grid0.coords t) 0 = t.val / 9 ∧ cc0_transform_0 (grid0.coords t) 1 = t.val % 9 - 1
    ∧ cc0_transform_0 (grid0.coords t) 2 = 0 := by decide +kernel

theorem index_batch : ∀ t : Fin grid0.N, (cc0_transform_1 (grid0.coords t) 0 = t.val / 9 ∧ cc0_transform_1 (grid0.coords t) 1 = 0
    ∧ cc0_transform_1 (grid0.coords t) 2 = 0) ∧ (cc0_transform_3 (grid0.coords t) 0 = t.val / 9 ∧ cc0_transform_3 (grid0.coords t) 1 = 0
    ∧ cc0_transform_3 (grid0.coords t) 2 = 0) := by decide +kernel

theorem index_whole : ∀ t : Fin grid0.N, (cc0_transform_2 (grid0.coords t) 0 = 0 ∧ cc0_transform_2 (grid0.coords t) 1 = 0)
    ∧ (cc0_transform_4 (grid0.coords t) 0 = 0 ∧ cc0_transform_4 (grid0.coords t) 1 = 0) := by decide +kernel

theorem index_out : ∀ t : Fin grid0.N, cc0_transform_6 (grid0.coords t) 0 = t.val / 9 ∧ cc0_transform_6 (grid0.coords t) 1 = t.val % 9
    ∧ cc0_transform_6 (grid0.coords t) 2 = 0 := by decide +kernel

theorem index_inj {t u : Fin grid0.N} (e : cc0_transform_6 (grid0.coords t) = cc0_transform_6 (grid0.coords u)) : t = u := Fin.ext (by
  have := index_out t; have := index_out u; have := congrFun e 0; have := congrFun e 1; omega)

theorem con_bit : ∀ t : Fin grid0.N, Scalar.cmpi .eq (BitVec.ofNat 32 ((grid0.coords t) 1).val) 0#32 = if t.val % 9 = 0 then 1#1 else 0#1 := by
  decide +kernel

variable (hO : Ok m)

section Inputs

variable (t : Fin grid0.N) (r : Fin 256)

theorem blk_x (k : Fin 1024) : iblk m hO c 0 t (ix3 0 r k) = V m c main_arg0 (ix3 (bat t) (lpos t r) k) :=
  have h := index_lat t
  congrArg (V m c main_arg0) (at3 (lead h.1) (inner h.2.1) (whole h.2.2))

theorem blk_ctx (k : Fin 1024) : iblk m hO c 1 t (ix3 0 r k) = V m c main_arg1 (ix3 (bat t) r k) :=
  have h := (index_batch t).1
  congrArg (V m c main_arg1) (at3 (lead h.1) (whole h.2.1) (whole h.2.2))

theorem blk_g (k : Fin 1024) : iblk m hO c 2 t (ix2 0 k) = V m c main_arg2 (ix2 0 k) :=
  have h := (index_whole t).1
  congrArg (V m c main_arg2) (at2 (whole h.1) (whole h.2))

theorem blk_md (i : Fin 8) (k : Fin 1024) : iblk m hO c 3 t (ix3 0 i k) = V m c main_v5 (ix3 (bat t) i k) :=
  have h := (index_batch t).2
  congrArg (V m c main_v5) (at3 (lead h.1) (whole h.2.1) (whole h.2.2))

theorem blk_w (k : Fin 1024) (n : Fin 1408) : iblk m hO c 4 t (ix2 k n) = V m c main_v7 (ix2 k n) :=
  have h := (index_whole t).2
  congrArg (V m c main_v7) (at2 (whole h.1) (whole h.2))

end Inputs

/-- The weight's block is the same at every point, and so is the weight kept. -/
theorem weight (t u : Fin grid0.N) : (iblk m hO c 4 t : Vec Ideal S1024x1408 .f32) = iblk m hO c 4 u := funext fun y => by
  rw [eq_ix2 y]
  exact (blk_w m c hO t _ _).trans (blk_w m c hO u _ _).symm

/-- The weight a point works with: the first point's own, and at the others what the point before left. -/
abbrev kept (t : Fin grid0.N) : Vec Ideal S1024x1408 .bf16 :=
  if t.val % 36 = 0 then k0_pay4 (iblk m hO c 4 t) else (outsAt0 m hO c (t.val - 1) (Nat.lt_of_le_of_lt (Nat.sub_le _ _) t.isLt)).2.2

theorem kept_eq (n : ℕ) (hn : n < grid0.N) : kept m c hO ⟨n, hn⟩ = k0_pay4 (iblk m hO c 4 ⟨n, hn⟩) := by
  induction n with
  | zero => exact if_pos rfl
  | succ n ih =>
    by_cases h : (n + 1) % 36 = 0
    · exact if_pos h
    · have e := congrArg (fun z => z.2.2) (outs_step m hO c ⟨n, Nat.lt_of_succ_lt hn⟩ (kept m c hO ⟨n, Nat.lt_of_succ_lt hn⟩) rfl)
      have w := congrArg k0_pay4 (weight m c hO ⟨n, Nat.lt_of_succ_lt hn⟩ ⟨n + 1, hn⟩)
      exact (if_neg h).trans (e.trans ((ih (Nat.lt_of_succ_lt hn)).trans w))

/-- What a point leaves, with the weight at its own block. -/
theorem outs (t : Fin grid0.N) : outsAt0 m hO c t.val t.isLt
    = (cols (grid0.coords t) (iblk m hO c 0 t) (iblk m hO c 1 t) (iblk m hO c 2 t) (iblk m hO c 3 t) (k0_pay4 (iblk m hO c 4 t)),
      rows (grid0.coords t) (iblk m hO c 0 t) (iblk m hO c 1 t) (iblk m hO c 2 t) (iblk m hO c 3 t), k0_pay4 (iblk m hO c 4 t)) := by
  have e := outs_step m hO c t (kept m c hO t) rfl
  rw [kept_eq m c hO t.val t.isLt] at e
  exact e

section Results

variable (t : Fin grid0.N) (r : Fin 256)

/-- The columns' block lies where the rows' does, the first of its kind. -/
theorem place5 : ((cfgM m hO).win 5).index t = cc0_transform_6 (grid0.coords t) := place m (grid0.coords t)

theorem flush5 : ((cfgM m hO).win 5).flush t = true := by
  have e : cc0_transform_5 (F := Ideal) Facts₀.inb_S1_S1_0 Facts₀.numel1_S1 (tbl m) = cc0_transform_6 := funext (place m)
  show Pipeline.Window.flushOf grid0 true (cc0_transform_5 (F := Ideal) Facts₀.inb_S1_S1_0 Facts₀.numel1_S1 (tbl m)) t = true
  rw [e]
  exact flush0_6 (adm m hO) t

theorem flushed5 : (dats m hO 0 c).flushed 5 t = ((cfgM m hO).win 5).cut (grid0.coords t) ((outsAt0 m hO c t.val t.isLt).1) := by
  show ((cfgM m hO).win 5).cut (grid0.coords t) ((dats m hO 0 c).after 5 t) = _
  rw [after0_5]

theorem apart5 (a b : Fin grid0.N) (h : a ≠ b) : Disjoint (((cfgM m hO).win 5).blk a).view.set (((cfgM m hO).win 5).blk b).view.set :=
  ((cfgM m hO).win 5).disjoint_blk fun e => h (index_inj ((place5 m hO a).symm.trans (e.trans (place5 m hO b))))

theorem blocks5 : (((cfgM m hO).win 5).blk t).view.read (Elt Ideal) ((dats m hO 0 c).arrAt 5 (cfgM m hO).N) = (dats m hO 0 c).flushed 5 t :=
  (dats m hO 0 c).read_blk_arrAt_eq_flushed 5 (fun a b _ _ => apart5 m hO a b) (cfgM m hO).N t t.isLt (flush5 m hO t)

/-- A column among the projection's. -/
def wide (n : Fin 1408) : Fin 5632 := ⟨n.val, by have := n.isLt; omega⟩

theorem index5 (a : Fin 3) : cc0_transform_5 (F := Ideal) Facts₀.inb_S1_S1_0 Facts₀.numel1_S1 (tbl m) (grid0.coords t) a
    = cc0_transform_6 (grid0.coords t) a := congrFun (place m (grid0.coords t)) a

theorem at5 (n : Fin 1408) (f : (⟨S4x2304x5632, .f32⟩ : BufTy).Contents (Elt Ideal)) :
    (((cfgM m hO).win 5).blk t).view.read (Elt Ideal) f (ix3 0 r n) = f (ix3 (bat t) (pos t r) (wide n)) :=
  have i := index_out t
  congrArg f (at3 (lead ((index5 m t 0).trans i.1)) (inner ((index5 m t 1).trans i.2.1)) (whole ((index5 m t 2).trans i.2.2)))

theorem cut5 (n : Fin 1408) : (dats m hO 0 c).flushed 5 t (ix3 0 r n) = (outsAt0 m hO c t.val t.isLt).1 (ix3 0 r n) :=
  congrFun (flushed5 m c hO t) (ix3 0 r n)

theorem arr5 (n : Fin 1408) : (dats m hO 0 c).arrAt 5 (cfgM m hO).N (ix3 (bat t) (pos t r) (wide n))
    = cols (grid0.coords t) (iblk m hO c 0 t) (iblk m hO c 1 t) (iblk m hO c 2 t) (iblk m hO c 3 t) (k0_pay4 (iblk m hO c 4 t)) (ix3 0 r n) := by
  have e := cut5 m c hO t r n
  rw [outs m c hO t] at e
  exact (at5 m hO t r n _).symm.trans ((congrFun (blocks5 m c hO t) (ix3 0 r n)).trans e)

theorem flushed6 : (dats m hO 0 c).flushed 6 t = ((cfgM m hO).win 6).cut (grid0.coords t) ((outsAt0 m hO c t.val t.isLt).2.1) := by
  show ((cfgM m hO).win 6).cut (grid0.coords t) ((dats m hO 0 c).after 6 t) = _
  rw [after0_6]

theorem blocks6 : (((cfgM m hO).win 6).blk t).view.read (Elt Ideal) ((dats m hO 0 c).arrAt 6 (cfgM m hO).N) = (dats m hO 0 c).flushed 6 t :=
  (dats m hO 0 c).read_blk_arrAt_eq_flushed 6 (fun a b _ _ h => ((cfgM m hO).win 6).disjoint_blk fun e => h (index_inj e)) (cfgM m hO).N t t.isLt
    (flush0_6 (adm m hO) t)

theorem at6 (k : Fin 1024) (f : (⟨S4x2304x1024, .bf16⟩ : BufTy).Contents (Elt Ideal)) :
    (((cfgM m hO).win 6).blk t).view.read (Elt Ideal) f (ix3 0 r k) = f (ix3 (bat t) (pos t r) k) :=
  have i := index_out t
  congrArg f (at3 (lead i.1) (inner i.2.1) (whole i.2.2))

theorem cut6 (k : Fin 1024) : (dats m hO 0 c).flushed 6 t (ix3 0 r k) = (outsAt0 m hO c t.val t.isLt).2.1 (ix3 0 r k) :=
  congrFun (flushed6 m c hO t) (ix3 0 r k)

theorem arr6 (k : Fin 1024) : (dats m hO 0 c).arrAt 6 (cfgM m hO).N (ix3 (bat t) (pos t r) k)
    = rows (grid0.coords t) (iblk m hO c 0 t) (iblk m hO c 1 t) (iblk m hO c 2 t) (iblk m hO c 3 t) (ix3 0 r k) := by
  have e := cut6 m c hO t r k
  rw [outs m c hO t] at e
  exact (at6 m hO t r k _).symm.trans ((congrFun (blocks6 m c hO t) (ix3 0 r k)).trans e)

end Results

/-! The arrays the kernel is entered with, of the arguments. -/

theorem ent_md (b : Fin 4) (i : Fin 8) (k : Fin 1024) : V m c main_v5 (ix3 b i k)
    = (if h : i.val < 2 then (m ((c : Thread nD τ).loc main_arg3) (ix3 b ⟨i.val, by omega⟩ k) : EReal)
      else if h : i.val - 2 < 2 then (m ((c : Thread nD τ).loc main_arg4) (ix2 ⟨i.val - 2, by omega⟩ k) : EReal) else 0 : EReal) := by
  unfold V; after_reads_at
  split_ifs <;> after_reads_at

theorem ent_w (k : Fin 1024) (n : Fin 1408) : V m c main_v7 (ix2 k n) = m ((c : Thread nD τ).loc main_arg5) (ix3 0 k n) := by
  unfold V; after_reads_at

/-- The result the host takes from the projection's array: its first columns. -/
theorem taken (b : Fin 4) (s : Fin 2304) (n : Fin 1408) :
    (Pipeline.afterTail pcfgs (fun _ => adm m hO) (dats m hO) 0 (V0 m) [hostOps1] c main_v9 : (⟨S4x2304x1408, .f32⟩ : BufTy).Contents (Elt Ideal)) (ix3 b s n)
      = (dats m hO 0 c).arrAt 5 (cfgM m hO).N (ix3 b s (wide n)) := by
  have e := Pipeline.withArrays_arr spec0 winFacts0.arr_inj c (V0 m c) (fun w => (dats m hO 0 c).arrAt w (cfgM m hO).N) 5
  rw [← congrFun e]
  unfold Pipeline.afterTail
  after_reads_at
  rfl

end Cert.InfIdeal.Final

end
-- ==== Proof.InfSum.lean ====
/- The results of the input projection's forward kernel, whole arrays, over the reals: the modulated rows of both streams and their
   projection. -/
module

public import proofs.«01_k».proof.Proof.InfArr
public import proofs.«01_k».proof.Proof.InfKernel

@[expose] public section

set_option maxRecDepth 8000

noncomputable section

namespace Cert.InfIdeal.Final

open Idealize.ShloMosaic Idealize.SL.Sem Cert.InfIdeal Cert.InfIdeal.Gen Idealize.ShloMosaic.TcCoe Cert.Stores Cert.Reals Cert.Norms Cert.Inf

variable (m : (ℓ : Loc nD τ sig) → Buf (Elt Ideal) ℓ) (c : Dev nD) (A : Arrays)

/-- The call's arguments are the reals `A`. -/
structure Args : Prop where
  x : ∀ b s k, m ((c : Thread nD τ).loc main_arg0) (ix3 b s k) = ((A.x b s k : ℝ) : EReal)
  ctx : ∀ b s k, m ((c : Thread nD τ).loc main_arg1) (ix3 b s k) = ((A.ctx b s k : ℝ) : EReal)
  g : ∀ k, m ((c : Thread nD τ).loc main_arg2) (ix2 0 k) = ((A.g k : ℝ) : EReal)
  sh : ∀ b k, m ((c : Thread nD τ).loc main_arg3) (ix3 b 0 k) = ((A.sh b k : ℝ) : EReal)
  sc : ∀ b k, m ((c : Thread nD τ).loc main_arg3) (ix3 b 1 k) = ((A.sc b k : ℝ) : EReal)
  csh : ∀ k, m ((c : Thread nD τ).loc main_arg4) (ix2 0 k) = ((A.csh k : ℝ) : EReal)
  csc : ∀ k, m ((c : Thread nD τ).loc main_arg4) (ix2 1 k) = ((A.csc k : ℝ) : EReal)
  w : ∀ k n, m ((c : Thread nD τ).loc main_arg5) (ix3 0 k n) = ((A.w k n : ℝ) : EReal)

/-- A point's modulation and its rows: the context's at the first point of a batch element, the latent stream's after. -/
def shAt (t : Fin grid0.N) : Fin 1024 → ℝ := if t.val % 9 = 0 then A.csh else A.sh (bat t)
def scAt (t : Fin grid0.N) : Fin 1024 → ℝ := if t.val % 9 = 0 then A.csc else A.sc (bat t)
def rowsAt (t : Fin grid0.N) (r : Fin 256) : Fin 1024 → ℝ := if t.val % 9 = 0 then A.ctx (bat t) r else A.x (bat t) (lpos t r)

theorem h_at (t : Fin grid0.N) (r : Fin 256) : A.h (bat t) (pos t r) = mod A.g (scAt A t) (shAt A t) (rowsAt A t r) := by
  have hr := r.isLt
  funext k
  unfold Arrays.h shAt scAt rowsAt
  by_cases h : t.val % 9 = 0
  · rw [dif_pos (show (pos t r).val < 256 by show t.val % 9 * 256 + r.val < 256; omega), if_pos h, if_pos h, if_pos h]
    exact congrArg (fun s => mod A.g A.csc A.csh (A.ctx (bat t) s) k) (Fin.ext (by show t.val % 9 * 256 + r.val = r.val; omega))
  · rw [dif_neg (show ¬(pos t r).val < 256 by show ¬t.val % 9 * 256 + r.val < 256; omega), if_neg h, if_neg h, if_neg h]
    exact congrArg (fun s => mod A.g (A.sc (bat t)) (A.sh (bat t)) (A.x (bat t) s) k)
      (Fin.ext (by show t.val % 9 * 256 + r.val - 256 = (t.val % 9 - 1) * 256 + r.val; omega))

/-- A choice between two values, by the bit that says which. -/
theorem pick {b : BitVec 1} {P : Prop} [Decidable P] {n : ℕ} {f g : Fin n → ℝ} {u v : EReal} (hb : b = if P then 1#1 else 0#1) {k : Fin n}
    (hu : u = ((f k : ℝ) : EReal)) (hv : v = ((g k : ℝ) : EReal)) :
    Scalar.select b u v = (((if P then f else g) k : ℝ) : EReal) := by
  subst hb hu hv
  split_ifs <;> rfl

variable {m c A} (hO : Ok m) (H : Args m c A) (t : Fin grid0.N)

include H

theorem at_shift : Line (shift (grid0.coords t) (iblk m hO c 3 t)) (shAt A t) := word_shift fun k =>
  pick (con_bit t)
    ((blk_md m c hO t 2 k).trans ((ent_md m c (bat t) 2 k).trans ((dif_neg (by decide)).trans ((dif_pos (by decide)).trans (H.csh k)))))
    ((blk_md m c hO t 0 k).trans ((ent_md m c (bat t) 0 k).trans ((dif_pos (by decide)).trans (H.sh (bat t) k))))

theorem at_scale : Line (scale (grid0.coords t) (iblk m hO c 3 t)) (scAt A t) := word_scale fun k =>
  pick (con_bit t)
    ((blk_md m c hO t 3 k).trans ((ent_md m c (bat t) 3 k).trans ((dif_neg (by decide)).trans ((dif_pos (by decide)).trans (H.csc k)))))
    ((blk_md m c hO t 1 k).trans ((ent_md m c (bat t) 1 k).trans ((dif_pos (by decide)).trans (H.sc (bat t) k))))

theorem at_normed : Grid (normed (grid0.coords t) (iblk m hO c 0 t) (iblk m hO c 1 t)) (fun r k => rowsAt A t r k * rms (rowsAt A t r)) :=
  word_normed fun r k => pick (con_bit t)
    ((blk_ctx m c hO t r k).trans ((congrFun (V_main_arg1 m c) _).trans (H.ctx (bat t) r k)))
    ((blk_x m c hO t r k).trans ((congrFun (V_main_arg0 m c) _).trans (H.x (bat t) (lpos t r) k)))

theorem at_gain : Line (iblk m hO c 2 t) A.g := fun k => by rw [blk_g, V_main_arg2]; exact H.g k

theorem at_weight (k : Fin 1024) (n : Fin 1408) : k0_pay4 (iblk m hO c 4 t) (ix2 k n) = ((A.w k n : ℝ) : EReal) :=
  word_w (fun k n => by rw [blk_w, ent_w]; exact H.w k n) k n

omit H t in
/-- Every row of the projection lies in a block. -/
theorem exists_point (b : Fin 4) (s : Fin 2304) : ∃ (t : Fin grid0.N) (r : Fin 256), bat t = b ∧ pos t r = s :=
  ⟨⟨b.val * 9 + s.val / 256, by rw [N_0]; omega⟩, ⟨s.val % 256, by omega⟩, Fin.ext (by show (b.val * 9 + s.val / 256) / 9 = b.val; omega),
    Fin.ext (by show (b.val * 9 + s.val / 256) % 9 * 256 + s.val % 256 = s.val; omega)⟩

omit t

theorem final5 (b : Fin 4) (s : Fin 2304) (n : Fin 1408) : (dats m hO 0 c).arrAt 5 (cfgM m hO).N (ix3 b s (wide n)) = ((A.p b s n : ℝ) : EReal) := by
  obtain ⟨t, r, rfl, rfl⟩ := exists_point b s
  have e := word_cols (at_shift hO H t) (at_scale hO H t) (at_normed hO H t) (at_gain hO H t) (at_weight hO H t) r n
  simp only [← h_at A t r] at e
  exact (arr5 m c hO t r n).trans e

theorem final6 (b : Fin 4) (s : Fin 2304) (k : Fin 1024) : (dats m hO 0 c).arrAt 6 (cfgM m hO).N (ix3 b s k) = ((A.h b s k : ℝ) : EReal) := by
  obtain ⟨t, r, rfl, rfl⟩ := exists_point b s
  have e := word_rows (at_shift hO H t) (at_scale hO H t) (at_normed hO H t) (at_gain hO H t) r k
  simp only [← h_at A t r] at e
  exact (arr6 m c hO t r k).trans e

end Cert.InfIdeal.Final

end
-- ==== Proof.InfClaims.lean ====
/- The claims about the input projection's own columns: the call runs to its end and keeps its arguments, so does the reference, and the
   two leave equal arrays wherever the arguments that the columns are products of are finite. -/
module

public import proofs.«01_k».proof.Defs
public import proofs.«01_k».proof.Proof.InfRef
public import proofs.«01_k».proof.Proof.InfSum
public import proofs.«01_k».proof.Proof.Gen.Inf
public import proofs.«01_k».proof.Proof.Gen.InfRefIdeal.Run
public import proofs.«01_k».proof.Proof.Gen.Pre_inf_finite
public import Idealize.ShloMosaic.Lib.Quiescent

@[expose] public section

noncomputable section

namespace Cert.InfIdeal.Final

open Idealize.ShloMosaic Idealize.SL.Sem Cert.InfIdeal Cert.InfIdeal.Gen Idealize.ShloMosaic.TcCoe Cert.Reals Cert.Places Cert.Inf

/-- The run over words, read as the run of the kernel's own words: the two programs have the same text there. -/
theorem frame_kernel : Cert.quiescent_Inf (hInf := Cert.Inf.Gen.facts) := by
  have h := fun m ρ (_ : True) => Cert.InfIdeal.Gen.frame (F := Bits) m ρ (ok m)
  refine cast ?_ h
  sl_kernel_rfl

theorem frame_ideal : Cert.quiescent_InfIdeal := fun m ρ _ => Cert.InfIdeal.Gen.frame m ρ (ok m)

/-- The reference runs to its end, keeps its arguments and leaves every semaphore at zero. -/
theorem frame_ref : Cert.quiescent_InfRefIdeal := fun m ρ _ =>
  (θ_run Cert.InfRefIdeal.defs _ _).mono (fun r h => ⟨fun c => (h c).2.2, sem_eq_zero_of_no_sems (by decide) r.2⟩)
    (Cert.InfRefIdeal.Value.run (F := Ideal) m ρ)

/-- The call and the reference leave equal arrays. -/
theorem value : Cert.algebraic_InfIdeal_InfRefIdeal_pre_inf_finite := by
  intro m ρ m' ρ' hpre hagree
  refine ⟨_, _, (θ_run defs _ _).mono (fun r h c => ⟨(h.1 c).2 main_v9 (show main_v9 ∈ Pipeline.restRefs sig spec0 by decide), (h.1 c).1 6, h.2 c⟩)
    (θ_run_and (run_main m ρ (ok m)) (unchanged m ρ (ok m))), ?_⟩
  refine (θ_run Cert.InfRefIdeal.defs _ _).mono (fun r h c => ?_) (Cert.InfRefIdeal.Value.run (F := Ideal) m' ρ')
  obtain ⟨p0, p1, p2, p3, p4, p5⟩ := hpre c
  obtain ⟨r0, h0⟩ := reals_of_finite _ _ (fun _ => rfl) p0
  obtain ⟨r1, h1⟩ := reals_of_finite _ _ (fun _ => rfl) p1
  obtain ⟨r2, h2⟩ := reals_of_finite _ _ (fun _ => rfl) p2
  obtain ⟨r3, h3⟩ := reals_of_finite _ _ (fun _ => rfl) p3
  obtain ⟨r4, h4⟩ := reals_of_finite _ _ (fun _ => rfl) p4
  obtain ⟨r5, h5⟩ := reals_of_finite _ _ (fun _ => rfl) p5
  let A : Arrays := ⟨fun b s k => r0 (ix3 b s k), fun b s k => r1 (ix3 b s k), fun k => r2 (ix2 0 k), fun b k => r3 (ix3 b 0 k), fun b k => r3 (ix3 b 1 k),
    fun k => r4 (ix2 0 k), fun k => r4 (ix2 1 k), fun k n => r5 (ix3 0 k n)⟩
  have K : Args m c A := ⟨fun _ _ _ => h0 _, fun _ _ _ => h1 _, fun _ => h2 _, fun b k => by have e := h3 (ix3 b 0 k); pointwise at e; exact e,
    fun b k => by have e := h3 (ix3 b 1 k); pointwise at e; exact e, fun k => by have e := h4 (ix2 0 k); pointwise at e; exact e,
    fun k => by have e := h4 (ix2 1 k); pointwise at e; exact e, fun _ _ => h5 _⟩
  obtain ⟨a0, a1, a2, a3, a4, a5⟩ := hagree c
  have R := Cert.InfRefIdeal.Read.Args.mk (A := A) (fun b s k => (congrFun a0 _).trans (K.x b s k)) (fun b s k => (congrFun a1 _).trans (K.ctx b s k))
    (fun k => (congrFun a2 _).trans (K.g k)) (fun b k => (congrFun a3 _).trans (K.sh b k)) (fun b k => (congrFun a3 _).trans (K.sc b k))
    (fun k => (congrFun a4 _).trans (K.csh k)) (fun k => (congrFun a4 _).trans (K.csc k)) (fun k n => (congrFun a5 _).trans (K.w k n))
  obtain ⟨e0, e1, kept⟩ := h c
  refine ⟨e0.trans ((Cert.InfRefIdeal.Read.val_main_v54_eq ..).trans ?_), e1.trans ((Cert.InfRefIdeal.Read.val_main_v55_eq ..).trans ?_), kept⟩
  · exact ext3 fun b s n => (Cert.InfRefIdeal.Read.res_p R b s n).trans ((taken m c (ok m) b s n).trans (final5 (ok m) K b s n)).symm
  · exact ext3 fun b s k => (Cert.InfRefIdeal.Read.res_h R b s k).trans (final6 (ok m) K b s k).symm

end Cert.InfIdeal.Final

end
-- ==== Proof.lean ====
/- The claims about the calls, put together. -/
module

public import proofs.«01_k».proof.Defs
public import proofs.«01_k».proof.Proof.Gen.Mod.Frame
public import proofs.«01_k».proof.Proof.Gen.Pre_mod_finite
public import proofs.«01_k».proof.Proof.ModClaims
public import proofs.«01_k».proof.Proof.Gen.Ffn.Frame
public import proofs.«01_k».proof.Proof.Gen.Pre_ffn_finite
public import proofs.«01_k».proof.Proof.FfnClaims
public import proofs.«01_k».proof.Proof.Gen.Inb.Frame
public import proofs.«01_k».proof.Proof.Gen.Pre_in_finite
public import proofs.«01_k».proof.Proof.InbClaims
public import proofs.«01_k».proof.Proof.Gen.Mixb
public import proofs.«01_k».proof.Proof.Gen.Pre_mix_finite
public import proofs.«01_k».proof.Proof.MixbClaims
public import proofs.«01_k».proof.Proof.Gen.Red.Frame
public import proofs.«01_k».proof.Proof.Gen.Pre_red_finite
public import proofs.«01_k».proof.Proof.RedClaims
public import proofs.«01_k».proof.Proof.Gen.Mixf.Frame
public import proofs.«01_k».proof.Proof.Gen.Pre_mixf_finite
public import proofs.«01_k».proof.Proof.MixfClaims
public import proofs.«01_k».proof.Proof.Gen.Inf
public import proofs.«01_k».proof.Proof.Gen.Pre_inf_finite
public import proofs.«01_k».proof.Proof.InfClaims

@[expose] public section

noncomputable section

namespace Cert.Proof

open Idealize.ShloMosaic Idealize.SL.Sem

theorem claim : Cert.Claim := ⟨Cert.Mod.Gen.facts, Cert.ModIdeal.Gen.facts, Cert.ModRefIdeal.Gen.facts,
  Cert.Ffn.Gen.facts, Cert.FfnIdeal.Gen.facts, Cert.FfnRefIdeal.Gen.facts,
  Cert.Inb.Gen.facts, Cert.InbIdeal.Gen.facts, Cert.InbRefIdeal.Gen.facts,
  Cert.Mixb.Gen.facts, Cert.MixbIdeal.Gen.facts, Cert.MixbRefIdeal.Gen.facts,
  Cert.Red.Gen.facts, Cert.RedIdeal.Gen.facts, Cert.RedRefIdeal.Gen.facts,
  Cert.Mixf.Gen.facts, Cert.MixfIdeal.Gen.facts, Cert.MixfRefIdeal.Gen.facts,
  Cert.Inf.Gen.facts, Cert.InfIdeal.Gen.facts, Cert.InfRefIdeal.Gen.facts,
  Cert.Pre_mod_finite.Gen.facts, Cert.Pre_ffn_finite.Gen.facts, Cert.Pre_in_finite.Gen.facts,
  Cert.Pre_mix_finite.Gen.facts, Cert.Pre_red_finite.Gen.facts, Cert.Pre_mixf_finite.Gen.facts,
  Cert.Pre_inf_finite.Gen.facts, by
  exact ⟨fun m ρ _ => Cert.Mod.Gen.frame m ρ, fun m ρ _ => Cert.ModIdeal.Gen.frame m ρ, fun m ρ _ => Cert.ModIdeal.Gen.frame m ρ,
    Cert.ModIdeal.Final.frame_ref, fun m ρ _ => Cert.ModIdeal.Final.frame_ref m ρ trivial,
    fun m ρ _ => Cert.Ffn.Gen.frame m ρ, fun m ρ _ => Cert.FfnIdeal.Gen.frame m ρ, fun m ρ _ => Cert.FfnIdeal.Gen.frame m ρ,
    Cert.FfnIdeal.Final.frame_ref, fun m ρ _ => Cert.FfnIdeal.Final.frame_ref m ρ trivial,
    fun m ρ _ => Cert.Inb.Gen.frame m ρ, fun m ρ _ => Cert.InbIdeal.Gen.frame m ρ, fun m ρ _ => Cert.InbIdeal.Gen.frame m ρ,
    Cert.InbIdeal.Final.frame_ref, fun m ρ _ => Cert.InbIdeal.Final.frame_ref m ρ trivial,
    Cert.MixbIdeal.Run.frame_kernel, Cert.MixbIdeal.Run.frame_ideal, fun m ρ _ => Cert.MixbIdeal.Run.frame_ideal m ρ trivial,
    Cert.MixbIdeal.Final.frame_ref, fun m ρ _ => Cert.MixbIdeal.Final.frame_ref m ρ trivial,
    fun m ρ _ => Cert.Red.Gen.frame m ρ, fun m ρ _ => Cert.RedIdeal.Gen.frame m ρ, fun m ρ _ => Cert.RedIdeal.Gen.frame m ρ,
    Cert.RedIdeal.Final.frame_ref, fun m ρ _ => Cert.RedIdeal.Final.frame_ref m ρ trivial,
    fun m ρ _ => Cert.Mixf.Gen.frame m ρ, fun m ρ _ => Cert.MixfIdeal.Gen.frame m ρ, fun m ρ _ => Cert.MixfIdeal.Gen.frame m ρ,
    Cert.MixfIdeal.Final.frame_ref, fun m ρ _ => Cert.MixfIdeal.Final.frame_ref m ρ trivial,
    Cert.InfIdeal.Final.frame_kernel, Cert.InfIdeal.Final.frame_ideal, fun m ρ _ => Cert.InfIdeal.Final.frame_ideal m ρ trivial,
    Cert.InfIdeal.Final.frame_ref, fun m ρ _ => Cert.InfIdeal.Final.frame_ref m ρ trivial,
    trivial, Cert.ModIdeal.Final.value,
    trivial, Cert.FfnIdeal.Final.value,
    trivial, Cert.InbIdeal.Final.value,
    Cert.MixbIdeal.Final.constants, Cert.MixbIdeal.Final.value,
    trivial, Cert.RedIdeal.Final.value,
    Cert.MixfIdeal.Final.constants, Cert.MixfIdeal.Final.value,
    trivial, Cert.InfIdeal.Final.value⟩⟩

end Cert.Proof

end
